-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_in1 [hPre_finite_in1 : Cert.Pre_finite_in1.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_in1.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_in1 [hPre_finite_in1 : Cert.Pre_finite_in1.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_in1.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mix [hPre_finite_mix : Cert.Pre_finite_mix.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mix [hPre_finite_mix : Cert.Pre_finite_mix.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_head [hPre_finite_head : Cert.Pre_finite_head.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_head.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_head [hPre_finite_head : Cert.Pre_finite_head.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_head.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_ffn [hPre_finite_ffn : Cert.Pre_finite_ffn.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_ffn.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_ffn [hPre_finite_ffn : Cert.Pre_finite_ffn.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_ffn.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_mix [hPre_finite_mix : Cert.Pre_finite_mix.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_mix.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_mix [hPre_finite_mix : Cert.Pre_finite_mix.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_mix.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_up [hPre_finite_up : Cert.Pre_finite_up.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_up.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_up [hPre_finite_up : Cert.Pre_finite_up.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_up.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_up [hPre_finite_up : Cert.Pre_finite_up.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_up.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_up [hPre_finite_up : Cert.Pre_finite_up.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_up.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_in1 [hKernel3Ideal : Cert.Kernel3Ideal.Facts] [hPre_finite_in1 : Cert.Pre_finite_in1.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_in1 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_in1 [hReference3Ideal : Cert.Reference3Ideal.Facts] [hPre_finite_in1 : Cert.Pre_finite_in1.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_in1 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_finite_mix [hKernel4Ideal : Cert.Kernel4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mix m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_finite_mix [hReference4Ideal : Cert.Reference4Ideal.Facts] [hPre_finite_mix : Cert.Pre_finite_mix.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mix m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_head [hKernel5Ideal : Cert.Kernel5Ideal.Facts] [hPre_finite_head : Cert.Pre_finite_head.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_head m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_head [hReference5Ideal : Cert.Reference5Ideal.Facts] [hPre_finite_head : Cert.Pre_finite_head.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_head m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite_ffn [hKernel9Ideal : Cert.Kernel9Ideal.Facts] [hPre_finite_ffn : Cert.Pre_finite_ffn.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_ffn m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite_ffn [hReference9Ideal : Cert.Reference9Ideal.Facts] [hPre_finite_ffn : Cert.Pre_finite_ffn.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_ffn m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Kernel10Ideal_pre_finite_mix [hKernel10Ideal : Cert.Kernel10Ideal.Facts] [hPre_finite_mix : Cert.Pre_finite_mix.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_mix m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Reference10Ideal_pre_finite_mix [hReference10Ideal : Cert.Reference10Ideal.Facts] [hPre_finite_mix : Cert.Pre_finite_mix.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_mix m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Kernel11Ideal_pre_finite_up [hKernel11Ideal : Cert.Kernel11Ideal.Facts] [hPre_finite_up : Cert.Pre_finite_up.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_up m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_finite_up [hReference11Ideal : Cert.Reference11Ideal.Facts] [hPre_finite_up : Cert.Pre_finite_up.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_up m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite_up [hKernel13Ideal : Cert.Kernel13Ideal.Facts] [hPre_finite_up : Cert.Pre_finite_up.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_up m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite_up [hReference13Ideal : Cert.Reference13Ideal.Facts] [hPre_finite_up : Cert.Pre_finite_up.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_up m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_in1 [hKernel3Ideal : Cert.Kernel3Ideal.Facts] [hReference3Ideal : Cert.Reference3Ideal.Facts] [hPre_finite_in1 : Cert.Pre_finite_in1.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_in1 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "gelu_c1" .bf16 0x3D37#16 ((8943 / 200000 : ℝ) : EReal)
  ∧ IdealRules.named_const.Statement Cert.Kernel4Ideal.κ "gelu_c0" .bf16 0x3F4C#16 ((6693141 / 8388608 : ℝ) : EReal)
  ∧ IdealRules.named_const.Statement Cert.Kernel4Ideal.κ "gelu_c1" .f32 0x3D372713#32 ((8943 / 200000 : ℝ) : EReal)
  ∧ IdealRules.named_const.Statement Cert.Kernel4Ideal.κ "gelu_c0" .f32 0x3F4C422A#32 ((6693141 / 8388608 : ℝ) : EReal)
  ∧ IdealRules.named_const.Statement Cert.Kernel4Ideal.κ "gelu_c3" .bf16 0x3E09#16 ((26829 / 200000 : ℝ) : EReal)
  ∧ IdealRules.named_const.Statement Cert.Kernel4Ideal.κ "gelu_c3" .f32 0x3E095D4F#32 ((26829 / 200000 : ℝ) : EReal)

def algebraic_Kernel4Ideal_Reference4Ideal_pre_finite_mix [hKernel4Ideal : Cert.Kernel4Ideal.Facts] [hReference4Ideal : Cert.Reference4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mix m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v112_0)) (v1 : (c : Dev Cert.Kernel4Ideal.nD) → Buf (Elt Ideal) ((c.tc : Thread Cert.Kernel4Ideal.nD Cert.Kernel4Ideal.τ).loc Cert.Kernel4Ideal.main_v112_1)) (v2 : (c : Dev Cert.Kernel4Ideal.nD) → Buf (Elt Ideal) ((c.tc : Thread Cert.Kernel4Ideal.nD Cert.Kernel4Ideal.τ).loc Cert.Kernel4Ideal.main_v112_2)) (v3 : (c : Dev Cert.Kernel4Ideal.nD) → Buf (Elt Ideal) ((c.tc : Thread Cert.Kernel4Ideal.nD Cert.Kernel4Ideal.τ).loc Cert.Kernel4Ideal.main_v112_3)) (v4 : (c : Dev Cert.Kernel4Ideal.nD) → Buf (Elt Ideal) ((c.tc : Thread Cert.Kernel4Ideal.nD Cert.Kernel4Ideal.τ).loc Cert.Kernel4Ideal.main_v112_4)) (v5 : (c : Dev Cert.Kernel4Ideal.nD) → Buf (Elt Ideal) ((c.tc : Thread Cert.Kernel4Ideal.nD Cert.Kernel4Ideal.τ).loc Cert.Kernel4Ideal.main_v112_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v112_0) = v0 c
          ∧ r.2.mem ((c.tc : Thread Cert.Kernel4Ideal.nD Cert.Kernel4Ideal.τ).loc Cert.Kernel4Ideal.main_v112_1) = v1 c
          ∧ r.2.mem ((c.tc : Thread Cert.Kernel4Ideal.nD Cert.Kernel4Ideal.τ).loc Cert.Kernel4Ideal.main_v112_2) = v2 c
          ∧ r.2.mem ((c.tc : Thread Cert.Kernel4Ideal.nD Cert.Kernel4Ideal.τ).loc Cert.Kernel4Ideal.main_v112_3) = v3 c
          ∧ r.2.mem ((c.tc : Thread Cert.Kernel4Ideal.nD Cert.Kernel4Ideal.τ).loc Cert.Kernel4Ideal.main_v112_4) = v4 c
          ∧ r.2.mem ((c.tc : Thread Cert.Kernel4Ideal.nD Cert.Kernel4Ideal.τ).loc Cert.Kernel4Ideal.main_v112_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v288) = v0 c
          ∧ r.2.mem ((c.tc : Thread Cert.Reference4Ideal.nD Cert.Reference4Ideal.τ).loc Cert.Reference4Ideal.main_v289) = v1 c
          ∧ r.2.mem ((c.tc : Thread Cert.Reference4Ideal.nD Cert.Reference4Ideal.τ).loc Cert.Reference4Ideal.main_v290) = v2 c
          ∧ r.2.mem ((c.tc : Thread Cert.Reference4Ideal.nD Cert.Reference4Ideal.τ).loc Cert.Reference4Ideal.main_v209) = v3 c
          ∧ r.2.mem ((c.tc : Thread Cert.Reference4Ideal.nD Cert.Reference4Ideal.τ).loc Cert.Reference4Ideal.main_v291) = v4 c
          ∧ r.2.mem ((c.tc : Thread Cert.Reference4Ideal.nD Cert.Reference4Ideal.τ).loc Cert.Reference4Ideal.main_v287) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_finite_head [hKernel5Ideal : Cert.Kernel5Ideal.Facts] [hReference5Ideal : Cert.Reference5Ideal.Facts] [hPre_finite_head : Cert.Pre_finite_head.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_head m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v87) = v0 c
          ∧ r.2.mem ((c.tc : Thread Cert.Reference5Ideal.nD Cert.Reference5Ideal.τ).loc Cert.Reference5Ideal.main_v88) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_v86) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "gelu_c1" .bf16 0x3D37#16 ((8943 / 200000 : ℝ) : EReal)
  ∧ IdealRules.named_const.Statement Cert.Kernel6Ideal.κ "gelu_c0" .bf16 0x3F4C#16 ((6693141 / 8388608 : ℝ) : EReal)
  ∧ IdealRules.named_const.Statement Cert.Kernel6Ideal.κ "gelu_c1" .f32 0x3D372713#32 ((8943 / 200000 : ℝ) : EReal)
  ∧ IdealRules.named_const.Statement Cert.Kernel6Ideal.κ "gelu_c0" .f32 0x3F4C422A#32 ((6693141 / 8388608 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)) (v4 : (c : Dev Cert.Kernel6Ideal.nD) → Buf (Elt Ideal) ((c.tc : Thread Cert.Kernel6Ideal.nD Cert.Kernel6Ideal.τ).loc Cert.Kernel6Ideal.main_v6_4)) (v5 : (c : Dev Cert.Kernel6Ideal.nD) → Buf (Elt Ideal) ((c.tc : Thread Cert.Kernel6Ideal.nD Cert.Kernel6Ideal.τ).loc Cert.Kernel6Ideal.main_v6_5)) (v6 : (c : Dev Cert.Kernel6Ideal.nD) → Buf (Elt Ideal) ((c.tc : Thread Cert.Kernel6Ideal.nD Cert.Kernel6Ideal.τ).loc Cert.Kernel6Ideal.main_v6_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_v6_4) = v4 c
          ∧ r.2.mem ((c.tc : Thread Cert.Kernel6Ideal.nD Cert.Kernel6Ideal.τ).loc Cert.Kernel6Ideal.main_v6_5) = v5 c
          ∧ r.2.mem ((c.tc : Thread Cert.Kernel6Ideal.nD Cert.Kernel6Ideal.τ).loc Cert.Kernel6Ideal.main_v6_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v125) = v0 c
          ∧ r.2.mem ((c.tc : Thread Cert.Reference6Ideal.nD Cert.Reference6Ideal.τ).loc Cert.Reference6Ideal.main_v126) = v1 c
          ∧ r.2.mem ((c.tc : Thread Cert.Reference6Ideal.nD Cert.Reference6Ideal.τ).loc Cert.Reference6Ideal.main_v127) = v2 c
          ∧ r.2.mem ((c.tc : Thread Cert.Reference6Ideal.nD Cert.Reference6Ideal.τ).loc Cert.Reference6Ideal.main_v128) = v3 c
          ∧ r.2.mem ((c.tc : Thread Cert.Reference6Ideal.nD Cert.Reference6Ideal.τ).loc Cert.Reference6Ideal.main_v129) = v4 c
          ∧ r.2.mem ((c.tc : Thread Cert.Reference6Ideal.nD Cert.Reference6Ideal.τ).loc Cert.Reference6Ideal.main_v130) = v5 c
          ∧ r.2.mem ((c.tc : Thread Cert.Reference6Ideal.nD Cert.Reference6Ideal.τ).loc Cert.Reference6Ideal.main_v132) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_ffn [hKernel9Ideal : Cert.Kernel9Ideal.Facts] [hReference9Ideal : Cert.Reference9Ideal.Facts] [hPre_finite_ffn : Cert.Pre_finite_ffn.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_ffn m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v23_0)) (v1 : (c : Dev Cert.Kernel9Ideal.nD) → Buf (Elt Ideal) ((c.tc : Thread Cert.Kernel9Ideal.nD Cert.Kernel9Ideal.τ).loc Cert.Kernel9Ideal.main_v23_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v23_0) = v0 c
          ∧ r.2.mem ((c.tc : Thread Cert.Kernel9Ideal.nD Cert.Kernel9Ideal.τ).loc Cert.Kernel9Ideal.main_v23_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v63) = v0 c
          ∧ r.2.mem ((c.tc : Thread Cert.Reference9Ideal.nD Cert.Reference9Ideal.τ).loc Cert.Reference9Ideal.main_v67) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  IdealRules.named_const.Statement Cert.Kernel10Ideal.κ "gelu_c1" .bf16 0x3D37#16 ((8943 / 200000 : ℝ) : EReal)
  ∧ IdealRules.named_const.Statement Cert.Kernel10Ideal.κ "gelu_c0" .bf16 0x3F4C#16 ((6693141 / 8388608 : ℝ) : EReal)
  ∧ IdealRules.named_const.Statement Cert.Kernel10Ideal.κ "gelu_c1" .f32 0x3D372713#32 ((8943 / 200000 : ℝ) : EReal)
  ∧ IdealRules.named_const.Statement Cert.Kernel10Ideal.κ "gelu_c0" .f32 0x3F4C422A#32 ((6693141 / 8388608 : ℝ) : EReal)
  ∧ IdealRules.named_const.Statement Cert.Kernel10Ideal.κ "gelu_c3" .bf16 0x3E09#16 ((26829 / 200000 : ℝ) : EReal)
  ∧ IdealRules.named_const.Statement Cert.Kernel10Ideal.κ "gelu_c3" .f32 0x3E095D4F#32 ((26829 / 200000 : ℝ) : EReal)

def algebraic_Kernel10Ideal_Reference10Ideal_pre_finite_mix [hKernel10Ideal : Cert.Kernel10Ideal.Facts] [hReference10Ideal : Cert.Reference10Ideal.Facts] [hPre_finite_mix : Cert.Pre_finite_mix.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_mix m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v112_0)) (v1 : (c : Dev Cert.Kernel10Ideal.nD) → Buf (Elt Ideal) ((c.tc : Thread Cert.Kernel10Ideal.nD Cert.Kernel10Ideal.τ).loc Cert.Kernel10Ideal.main_v112_1)) (v2 : (c : Dev Cert.Kernel10Ideal.nD) → Buf (Elt Ideal) ((c.tc : Thread Cert.Kernel10Ideal.nD Cert.Kernel10Ideal.τ).loc Cert.Kernel10Ideal.main_v112_2)) (v3 : (c : Dev Cert.Kernel10Ideal.nD) → Buf (Elt Ideal) ((c.tc : Thread Cert.Kernel10Ideal.nD Cert.Kernel10Ideal.τ).loc Cert.Kernel10Ideal.main_v112_3)) (v4 : (c : Dev Cert.Kernel10Ideal.nD) → Buf (Elt Ideal) ((c.tc : Thread Cert.Kernel10Ideal.nD Cert.Kernel10Ideal.τ).loc Cert.Kernel10Ideal.main_v112_4)) (v5 : (c : Dev Cert.Kernel10Ideal.nD) → Buf (Elt Ideal) ((c.tc : Thread Cert.Kernel10Ideal.nD Cert.Kernel10Ideal.τ).loc Cert.Kernel10Ideal.main_v112_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v112_0) = v0 c
          ∧ r.2.mem ((c.tc : Thread Cert.Kernel10Ideal.nD Cert.Kernel10Ideal.τ).loc Cert.Kernel10Ideal.main_v112_1) = v1 c
          ∧ r.2.mem ((c.tc : Thread Cert.Kernel10Ideal.nD Cert.Kernel10Ideal.τ).loc Cert.Kernel10Ideal.main_v112_2) = v2 c
          ∧ r.2.mem ((c.tc : Thread Cert.Kernel10Ideal.nD Cert.Kernel10Ideal.τ).loc Cert.Kernel10Ideal.main_v112_3) = v3 c
          ∧ r.2.mem ((c.tc : Thread Cert.Kernel10Ideal.nD Cert.Kernel10Ideal.τ).loc Cert.Kernel10Ideal.main_v112_4) = v4 c
          ∧ r.2.mem ((c.tc : Thread Cert.Kernel10Ideal.nD Cert.Kernel10Ideal.τ).loc Cert.Kernel10Ideal.main_v112_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v288) = v0 c
          ∧ r.2.mem ((c.tc : Thread Cert.Reference10Ideal.nD Cert.Reference10Ideal.τ).loc Cert.Reference10Ideal.main_v289) = v1 c
          ∧ r.2.mem ((c.tc : Thread Cert.Reference10Ideal.nD Cert.Reference10Ideal.τ).loc Cert.Reference10Ideal.main_v290) = v2 c
          ∧ r.2.mem ((c.tc : Thread Cert.Reference10Ideal.nD Cert.Reference10Ideal.τ).loc Cert.Reference10Ideal.main_v209) = v3 c
          ∧ r.2.mem ((c.tc : Thread Cert.Reference10Ideal.nD Cert.Reference10Ideal.τ).loc Cert.Reference10Ideal.main_v291) = v4 c
          ∧ r.2.mem ((c.tc : Thread Cert.Reference10Ideal.nD Cert.Reference10Ideal.τ).loc Cert.Reference10Ideal.main_v287) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel11_Kernel11Ideal : Prop :=
  True

def algebraic_Kernel11Ideal_Reference11Ideal_pre_finite_up [hKernel11Ideal : Cert.Kernel11Ideal.Facts] [hReference11Ideal : Cert.Reference11Ideal.Facts] [hPre_finite_up : Cert.Pre_finite_up.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_up m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v39) = v0 c
          ∧ r.2.mem ((c.tc : Thread Cert.Reference11Ideal.nD Cert.Reference11Ideal.τ).loc Cert.Reference11Ideal.main_v45) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  IdealRules.named_const.Statement Cert.Kernel12Ideal.κ "gelu_c1" .bf16 0x3D37#16 ((8943 / 200000 : ℝ) : EReal)
  ∧ IdealRules.named_const.Statement Cert.Kernel12Ideal.κ "gelu_c0" .bf16 0x3F4C#16 ((6693141 / 8388608 : ℝ) : EReal)
  ∧ IdealRules.named_const.Statement Cert.Kernel12Ideal.κ "gelu_c1" .f32 0x3D372713#32 ((8943 / 200000 : ℝ) : EReal)
  ∧ IdealRules.named_const.Statement Cert.Kernel12Ideal.κ "gelu_c0" .f32 0x3F4C422A#32 ((6693141 / 8388608 : ℝ) : EReal)

def algebraic_Kernel12Ideal_Reference6Ideal [hKernel12Ideal : Cert.Kernel12Ideal.Facts] [hReference6Ideal : Cert.Reference6Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel12Ideal m →
    (∀ c : Dev Cert.Kernel12Ideal.nD,
      m' ((c.tc : Thread Cert.Reference6Ideal.nD Cert.Reference6Ideal.τ).loc Cert.Reference6Ideal.main_arg0) = m ((c.tc : Thread Cert.Kernel12Ideal.nD Cert.Kernel12Ideal.τ).loc Cert.Kernel12Ideal.main_arg0)
      ∧ m' ((c.tc : Thread Cert.Reference6Ideal.nD Cert.Reference6Ideal.τ).loc Cert.Reference6Ideal.main_arg1) = m ((c.tc : Thread Cert.Kernel12Ideal.nD Cert.Kernel12Ideal.τ).loc Cert.Kernel12Ideal.main_arg1)
      ∧ m' ((c.tc : Thread Cert.Reference6Ideal.nD Cert.Reference6Ideal.τ).loc Cert.Reference6Ideal.main_arg2) = m ((c.tc : Thread Cert.Kernel12Ideal.nD Cert.Kernel12Ideal.τ).loc Cert.Kernel12Ideal.main_arg2)
      ∧ m' ((c.tc : Thread Cert.Reference6Ideal.nD Cert.Reference6Ideal.τ).loc Cert.Reference6Ideal.main_arg3) = m ((c.tc : Thread Cert.Kernel12Ideal.nD Cert.Kernel12Ideal.τ).loc Cert.Kernel12Ideal.main_arg3)
      ∧ m' ((c.tc : Thread Cert.Reference6Ideal.nD Cert.Reference6Ideal.τ).loc Cert.Reference6Ideal.main_arg4) = m ((c.tc : Thread Cert.Kernel12Ideal.nD Cert.Kernel12Ideal.τ).loc Cert.Kernel12Ideal.main_arg4)
      ∧ m' ((c.tc : Thread Cert.Reference6Ideal.nD Cert.Reference6Ideal.τ).loc Cert.Reference6Ideal.main_arg5) = m ((c.tc : Thread Cert.Kernel12Ideal.nD Cert.Kernel12Ideal.τ).loc Cert.Kernel12Ideal.main_arg5)
      ∧ m' ((c.tc : Thread Cert.Reference6Ideal.nD Cert.Reference6Ideal.τ).loc Cert.Reference6Ideal.main_arg6) = m ((c.tc : Thread Cert.Kernel12Ideal.nD Cert.Kernel12Ideal.τ).loc Cert.Kernel12Ideal.main_arg6)
      ∧ m' ((c.tc : Thread Cert.Reference6Ideal.nD Cert.Reference6Ideal.τ).loc Cert.Reference6Ideal.main_arg7) = m ((c.tc : Thread Cert.Kernel12Ideal.nD Cert.Kernel12Ideal.τ).loc Cert.Kernel12Ideal.main_arg7)
      ∧ m' ((c.tc : Thread Cert.Reference6Ideal.nD Cert.Reference6Ideal.τ).loc Cert.Reference6Ideal.main_arg8) = m ((c.tc : Thread Cert.Kernel12Ideal.nD Cert.Kernel12Ideal.τ).loc Cert.Kernel12Ideal.main_arg8)
      ∧ m' ((c.tc : Thread Cert.Reference6Ideal.nD Cert.Reference6Ideal.τ).loc Cert.Reference6Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)) (v2 : (c : Dev Cert.Kernel12Ideal.nD) → Buf (Elt Ideal) ((c.tc : Thread Cert.Kernel12Ideal.nD Cert.Kernel12Ideal.τ).loc Cert.Kernel12Ideal.main_v6_2)) (v3 : (c : Dev Cert.Kernel12Ideal.nD) → Buf (Elt Ideal) ((c.tc : Thread Cert.Kernel12Ideal.nD Cert.Kernel12Ideal.τ).loc Cert.Kernel12Ideal.main_v6_3)) (v4 : (c : Dev Cert.Kernel12Ideal.nD) → Buf (Elt Ideal) ((c.tc : Thread Cert.Kernel12Ideal.nD Cert.Kernel12Ideal.τ).loc Cert.Kernel12Ideal.main_v6_4)) (v5 : (c : Dev Cert.Kernel12Ideal.nD) → Buf (Elt Ideal) ((c.tc : Thread Cert.Kernel12Ideal.nD Cert.Kernel12Ideal.τ).loc Cert.Kernel12Ideal.main_v6_5)) (v6 : (c : Dev Cert.Kernel12Ideal.nD) → Buf (Elt Ideal) ((c.tc : Thread Cert.Kernel12Ideal.nD Cert.Kernel12Ideal.τ).loc Cert.Kernel12Ideal.main_v6_6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_v6_2) = v2 c
          ∧ r.2.mem ((c.tc : Thread Cert.Kernel12Ideal.nD Cert.Kernel12Ideal.τ).loc Cert.Kernel12Ideal.main_v6_3) = v3 c
          ∧ r.2.mem ((c.tc : Thread Cert.Kernel12Ideal.nD Cert.Kernel12Ideal.τ).loc Cert.Kernel12Ideal.main_v6_4) = v4 c
          ∧ r.2.mem ((c.tc : Thread Cert.Kernel12Ideal.nD Cert.Kernel12Ideal.τ).loc Cert.Kernel12Ideal.main_v6_5) = v5 c
          ∧ r.2.mem ((c.tc : Thread Cert.Kernel12Ideal.nD Cert.Kernel12Ideal.τ).loc Cert.Kernel12Ideal.main_v6_6) = v6 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v125) = v0 c
          ∧ r.2.mem ((c.tc : Thread Cert.Reference6Ideal.nD Cert.Reference6Ideal.τ).loc Cert.Reference6Ideal.main_v126) = v1 c
          ∧ r.2.mem ((c.tc : Thread Cert.Reference6Ideal.nD Cert.Reference6Ideal.τ).loc Cert.Reference6Ideal.main_v127) = v2 c
          ∧ r.2.mem ((c.tc : Thread Cert.Reference6Ideal.nD Cert.Reference6Ideal.τ).loc Cert.Reference6Ideal.main_v128) = v3 c
          ∧ r.2.mem ((c.tc : Thread Cert.Reference6Ideal.nD Cert.Reference6Ideal.τ).loc Cert.Reference6Ideal.main_v129) = v4 c
          ∧ r.2.mem ((c.tc : Thread Cert.Reference6Ideal.nD Cert.Reference6Ideal.τ).loc Cert.Reference6Ideal.main_v130) = v5 c
          ∧ r.2.mem ((c.tc : Thread Cert.Reference6Ideal.nD Cert.Reference6Ideal.τ).loc Cert.Reference6Ideal.main_v132) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel13_Kernel13Ideal : Prop :=
  True

def algebraic_Kernel13Ideal_Reference13Ideal_pre_finite_up [hKernel13Ideal : Cert.Kernel13Ideal.Facts] [hReference13Ideal : Cert.Reference13Ideal.Facts] [hPre_finite_up : Cert.Pre_finite_up.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_up m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_v45) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference7Ideal [hKernel14Ideal : Cert.Kernel14Ideal.Facts] [hReference7Ideal : Cert.Reference7Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel14Ideal m →
    (∀ c : Dev Cert.Kernel14Ideal.nD,
      m' ((c.tc : Thread Cert.Reference7Ideal.nD Cert.Reference7Ideal.τ).loc Cert.Reference7Ideal.main_arg0) = m ((c.tc : Thread Cert.Kernel14Ideal.nD Cert.Kernel14Ideal.τ).loc Cert.Kernel14Ideal.main_arg0)
      ∧ m' ((c.tc : Thread Cert.Reference7Ideal.nD Cert.Reference7Ideal.τ).loc Cert.Reference7Ideal.main_arg1) = m ((c.tc : Thread Cert.Kernel14Ideal.nD Cert.Kernel14Ideal.τ).loc Cert.Kernel14Ideal.main_arg1)
      ∧ m' ((c.tc : Thread Cert.Reference7Ideal.nD Cert.Reference7Ideal.τ).loc Cert.Reference7Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference15Ideal [hKernel16Ideal : Cert.Kernel16Ideal.Facts] [hReference15Ideal : Cert.Reference15Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel16Ideal m →
    (∀ c : Dev Cert.Kernel16Ideal.nD,
      m' ((c.tc : Thread Cert.Reference15Ideal.nD Cert.Reference15Ideal.τ).loc Cert.Reference15Ideal.main_arg0) = m ((c.tc : Thread Cert.Kernel16Ideal.nD Cert.Kernel16Ideal.τ).loc Cert.Kernel16Ideal.main_arg0)
      ∧ m' ((c.tc : Thread Cert.Reference15Ideal.nD Cert.Reference15Ideal.τ).loc Cert.Reference15Ideal.main_arg1) = m ((c.tc : Thread Cert.Kernel16Ideal.nD Cert.Kernel16Ideal.τ).loc Cert.Kernel16Ideal.main_arg1)
      ∧ m' ((c.tc : Thread Cert.Reference15Ideal.nD Cert.Reference15Ideal.τ).loc Cert.Reference15Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3_0)) (v1 : (c : Dev Cert.Kernel16Ideal.nD) → Buf (Elt Ideal) ((c.tc : Thread Cert.Kernel16Ideal.nD Cert.Kernel16Ideal.τ).loc Cert.Kernel16Ideal.main_v3_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3_0) = v0 c
          ∧ r.2.mem ((c.tc : Thread Cert.Kernel16Ideal.nD Cert.Kernel16Ideal.τ).loc Cert.Kernel16Ideal.main_v3_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hPre_finite : Cert.Pre_finite.Facts) (hPre_finite_ffn : Cert.Pre_finite_ffn.Facts) (hPre_finite_in1 : Cert.Pre_finite_in1.Facts) (hPre_finite_mix : Cert.Pre_finite_mix.Facts) (hPre_finite_head : Cert.Pre_finite_head.Facts) (hPre_finite_up : Cert.Pre_finite_up.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Kernel3Ideal_pre_finite_in1 (hKernel3Ideal := hKernel3Ideal) (hPre_finite_in1 := hPre_finite_in1)
    ∧ quiescent_Reference3Ideal (hReference3Ideal := hReference3Ideal)
    ∧ quiescent_Reference3Ideal_pre_finite_in1 (hReference3Ideal := hReference3Ideal) (hPre_finite_in1 := hPre_finite_in1)
    ∧ quiescent_Kernel4 (hKernel4 := hKernel4)
    ∧ quiescent_Kernel4Ideal (hKernel4Ideal := hKernel4Ideal)
    ∧ quiescent_Kernel4Ideal_pre_finite_mix (hKernel4Ideal := hKernel4Ideal) (hPre_finite_mix := hPre_finite_mix)
    ∧ quiescent_Reference4Ideal (hReference4Ideal := hReference4Ideal)
    ∧ quiescent_Reference4Ideal_pre_finite_mix (hReference4Ideal := hReference4Ideal) (hPre_finite_mix := hPre_finite_mix)
    ∧ quiescent_Kernel5 (hKernel5 := hKernel5)
    ∧ quiescent_Kernel5Ideal (hKernel5Ideal := hKernel5Ideal)
    ∧ quiescent_Kernel5Ideal_pre_finite_head (hKernel5Ideal := hKernel5Ideal) (hPre_finite_head := hPre_finite_head)
    ∧ quiescent_Reference5Ideal (hReference5Ideal := hReference5Ideal)
    ∧ quiescent_Reference5Ideal_pre_finite_head (hReference5Ideal := hReference5Ideal) (hPre_finite_head := hPre_finite_head)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_ffn (hKernel9Ideal := hKernel9Ideal) (hPre_finite_ffn := hPre_finite_ffn)
    ∧ quiescent_Reference9Ideal (hReference9Ideal := hReference9Ideal)
    ∧ quiescent_Reference9Ideal_pre_finite_ffn (hReference9Ideal := hReference9Ideal) (hPre_finite_ffn := hPre_finite_ffn)
    ∧ quiescent_Kernel10 (hKernel10 := hKernel10)
    ∧ quiescent_Kernel10Ideal (hKernel10Ideal := hKernel10Ideal)
    ∧ quiescent_Kernel10Ideal_pre_finite_mix (hKernel10Ideal := hKernel10Ideal) (hPre_finite_mix := hPre_finite_mix)
    ∧ quiescent_Reference10Ideal (hReference10Ideal := hReference10Ideal)
    ∧ quiescent_Reference10Ideal_pre_finite_mix (hReference10Ideal := hReference10Ideal) (hPre_finite_mix := hPre_finite_mix)
    ∧ quiescent_Kernel11 (hKernel11 := hKernel11)
    ∧ quiescent_Kernel11Ideal (hKernel11Ideal := hKernel11Ideal)
    ∧ quiescent_Kernel11Ideal_pre_finite_up (hKernel11Ideal := hKernel11Ideal) (hPre_finite_up := hPre_finite_up)
    ∧ quiescent_Reference11Ideal (hReference11Ideal := hReference11Ideal)
    ∧ quiescent_Reference11Ideal_pre_finite_up (hReference11Ideal := hReference11Ideal) (hPre_finite_up := hPre_finite_up)
    ∧ quiescent_Kernel12 (hKernel12 := hKernel12)
    ∧ quiescent_Kernel12Ideal (hKernel12Ideal := hKernel12Ideal)
    ∧ quiescent_Kernel13 (hKernel13 := hKernel13)
    ∧ quiescent_Kernel13Ideal (hKernel13Ideal := hKernel13Ideal)
    ∧ quiescent_Kernel13Ideal_pre_finite_up (hKernel13Ideal := hKernel13Ideal) (hPre_finite_up := hPre_finite_up)
    ∧ quiescent_Reference13Ideal (hReference13Ideal := hReference13Ideal)
    ∧ quiescent_Reference13Ideal_pre_finite_up (hReference13Ideal := hReference13Ideal) (hPre_finite_up := hPre_finite_up)
    ∧ quiescent_Kernel14 (hKernel14 := hKernel14)
    ∧ quiescent_Kernel14Ideal (hKernel14Ideal := hKernel14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal_pre_finite_in1 (hKernel3Ideal := hKernel3Ideal) (hReference3Ideal := hReference3Ideal) (hPre_finite_in1 := hPre_finite_in1)
    ∧ preserves_Kernel4_Kernel4Ideal
    ∧ algebraic_Kernel4Ideal_Reference4Ideal_pre_finite_mix (hKernel4Ideal := hKernel4Ideal) (hReference4Ideal := hReference4Ideal) (hPre_finite_mix := hPre_finite_mix)
    ∧ preserves_Kernel5_Kernel5Ideal
    ∧ algebraic_Kernel5Ideal_Reference5Ideal_pre_finite_head (hKernel5Ideal := hKernel5Ideal) (hReference5Ideal := hReference5Ideal) (hPre_finite_head := hPre_finite_head)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_ffn (hKernel9Ideal := hKernel9Ideal) (hReference9Ideal := hReference9Ideal) (hPre_finite_ffn := hPre_finite_ffn)
    ∧ preserves_Kernel10_Kernel10Ideal
    ∧ algebraic_Kernel10Ideal_Reference10Ideal_pre_finite_mix (hKernel10Ideal := hKernel10Ideal) (hReference10Ideal := hReference10Ideal) (hPre_finite_mix := hPre_finite_mix)
    ∧ preserves_Kernel11_Kernel11Ideal
    ∧ algebraic_Kernel11Ideal_Reference11Ideal_pre_finite_up (hKernel11Ideal := hKernel11Ideal) (hReference11Ideal := hReference11Ideal) (hPre_finite_up := hPre_finite_up)
    ∧ preserves_Kernel12_Kernel12Ideal
    ∧ algebraic_Kernel12Ideal_Reference6Ideal (hKernel12Ideal := hKernel12Ideal) (hReference6Ideal := hReference6Ideal)
    ∧ preserves_Kernel13_Kernel13Ideal
    ∧ algebraic_Kernel13Ideal_Reference13Ideal_pre_finite_up (hKernel13Ideal := hKernel13Ideal) (hReference13Ideal := hReference13Ideal) (hPre_finite_up := hPre_finite_up)
    ∧ preserves_Kernel14_Kernel14Ideal
    ∧ algebraic_Kernel14Ideal_Reference7Ideal (hKernel14Ideal := hKernel14Ideal) (hReference7Ideal := hReference7Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference15Ideal (hKernel16Ideal := hKernel16Ideal) (hReference15Ideal := hReference15Ideal)
-- ==== Pre_finite.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  reducesTo_S8192x4608_S_d0_1 : S8192x4608.ReducesTo [0, 1] S_
  h_S_ : 0 < S_.numel
  bcast_S_S1024x4608 : S_.BroadcastsInDim S1024x4608 (![] : Fin 0 → Fin S1024x4608.rank)
  reducesTo_S1024x4608_S_d0_1 : S1024x4608.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  main_v19

def fn {F : FTy → Type} [FloatOps F] (main_arg0 : FVec F S8192x4608 .bf16) (main_arg1 : FVec F S1024x4608 .f32) (main_arg2 : FVec F S8192x1024 .f32) (main_arg3 : FVec F S1024 .f32) (main_arg4 : FVec F S8192x1024 .f32) : IVec S_ 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_c : IVec S_ 1 := constantI S_ 1 1#1
  let main_v4 : IVec S_ 1 := (fun x v => Host.reduce IntOp.andi x v reducesTo_S8192x4608_S_d0_1 h_S_) main_v3 main_c
  let main_v5 : FVec F S1024x4608 .f32 := Host.absf main_arg1
  let main_cst_0 : FVec F S_ .f32 := constant S_ .f32 0x7F800000#32
  let main_v6 : FVec F S1024x4608 .f32 := broadcastInDim S1024x4608 ![] bcast_S_S1024x4608 main_cst_0
  let main_v7 : IVec S1024x4608 1 := cmpf .olt main_v5 main_v6
  let main_c_1 : IVec S_ 1 := constantI S_ 1 1#1
  let main_v8 : IVec S_ 1 := (fun x v => Host.reduce IntOp.andi x v reducesTo_S1024x4608_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_v14 main_v15 main_v16
-- ==== Pre_finite_ffn.lean ====
abbrev S8192x1024 : Shape := ⟨2, ![8192, 1024]⟩
abbrev S8192x5632 : Shape := ⟨2, ![8192, 5632]⟩
abbrev S3x2816 : Shape := ⟨2, ![3, 2816]⟩
abbrev S2816 : Shape := ⟨1, ![2816]⟩
abbrev S2816x1024 : Shape := ⟨2, ![2816, 1024]⟩
abbrev S40x2816 : Shape := ⟨2, ![40, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v14 : IVec S_ 1) (main_v15 : FVec F S2816 .f32) (main_v16 : FVec F S2816 .f32) : IVec S_ 1 :=
  let main_v17 : IVec S2816 1 := cmpf .olt main_v15 main_v16
  let main_c_5 : IVec S_ 1 := constantI S_ 1 1#1
  let main_v18 : IVec S_ 1 := (fun x v => Host.reduce IntOp.andi x v reducesTo_S2816_S_d0 h_S_) main_v17 main_c_5
  let main_v19 : IVec S_ 1 := andi main_v14 main_v18
  let main_v20 : FVec F S2816x1024 .f32 := Host.absf main_arg4
  let main_cst_6 : FVec F S_ .f32 := constant S_ .f32 0x7F800000#32
  let main_v21 : FVec F S2816x1024 .f32 := broadcastInDim S2816x1024 ![] bcast_S_S2816x1024 main_cst_6
  let main_v22 : IVec S2816x1024 1 := cmpf .olt main_v20 main_v21
  let main_c_7 : IVec S_ 1 := constantI S_ 1 1#1
  let main_v23 : IVec S_ 1 := (fun x v => Host.reduce IntOp.andi x v reducesTo_S2816x1024_S_d0_1 h_S_) main_v22 main_c_7
  let main_v24 : IVec S_ 1 := andi main_v19 main_v23
  main_v24

def fn {F : FTy → Type} [FloatOps F] (main_arg0 : FVec F S8192x1024 .f32) (main_arg1 : FVec F S8192x5632 .bf16) (main_arg2 : FVec F S3x2816 .f32) (main_arg3 : FVec F S2816 .f32) (main_arg4 : FVec F S2816x1024 .f32) (main_arg5 : FVec F S40x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x5632 .f32 := (extf .f32 · bitsLt_bf16_f32) main_arg1
  let main_v5 : FVec F S8192x5632 .f32 := Host.absf main_v4
  let main_cst_0 : FVec F S_ .f32 := constant S_ .f32 0x7F800000#32
  let main_v6 : FVec F S8192x5632 .f32 := broadcastInDim S8192x5632 ![] bcast_S_S8192x5632 main_cst_0
  let main_v7 : IVec S8192x5632 1 := cmpf .olt main_v5 main_v6
  let main_c_1 : IVec S_ 1 := constantI S_ 1 1#1
  let main_v8 : IVec S_ 1 := (fun x v => Host.reduce IntOp.andi x v reducesTo_S8192x5632_S_d0_1 h_S_) main_v7 main_c_1
  let main_v9 : IVec S_ 1 := andi main_v3 main_v8
  let main_v10 : FVec F S3x2816 .f32 := Host.absf main_arg2
  let main_cst_2 : FVec F S_ .f32 := constant S_ .f32 0x7F800000#32
  let main_v11 : FVec F S3x2816 .f32 := broadcastInDim S3x2816 ![] bcast_S_S3x2816 main_cst_2
  let main_v12 : IVec S3x2816 1 := cmpf .olt main_v10 main_v11
  let main_c_3 : IVec S_ 1 := constantI S_ 1 1#1
  let main_v13 : IVec S_ 1 := (fun x v => Host.reduce IntOp.andi x v reducesTo_S3x2816_S_d0_1 h_S_) main_v12 main_c_3
  let main_v14 : IVec S_ 1 := andi main_v9 main_v13
  let main_v15 : FVec F S2816 .f32 := Host.absf main_arg3
  let main_cst_4 : FVec F S_ .f32 := constant S_ .f32 0x7F800000#32
  let main_v16 : FVec F S2816 .f32 := broadcastInDim S2816 ![] bcast_S_S2816 main_cst_4
  fn_part1 (F := F) main_arg4 main_v14 main_v15 main_v16
-- ==== Pre_finite_head.lean ====
abbrev S8192x5632 : Shape := ⟨2, ![8192, 5632]⟩
abbrev S8192x1024 : Shape := ⟨2, ![8192, 1024]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S3x2816 : S_.BroadcastsInDim S3x2816 (![] : Fin 0 → Fin S3x2816.rank)
  reducesTo_S3x2816_S_d0_1 : S3x2816.ReducesTo [0, 1] S_
  bcast_S_S2816 : S_.BroadcastsInDim S2816 (![] : Fin 0 → Fin S2816.rank)
  reducesTo_S2816_S_d0 : S2816.ReducesTo [0] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v29 : IVec S_ 1) (main_v33 : IVec S_ 1) : IVec S_ 1 :=
  let main_v34 : IVec S_ 1 := andi main_v29 main_v33
  main_v34

def fn_part1 {F : FTy → Type} [FloatOps F] (main_arg4 : FVec F S2816x1024 .f32) (main_arg5 : FVec F S1024 .f32) (main_arg6 : FVec F S8192x1024 .f32) (main_v14 : IVec S_ 1) (main_v15 : FVec F S2816 .f32) (main_v16 : FVec F S2816 .f32) : IVec S_ 1 :=
  let main_v17 : IVec S2816 1 := cmpf .olt main_v15 main_v16
  let main_c_5 : IVec S_ 1 := constantI S_ 1 1#1
  let main_v18 : IVec S_ 1 := (fun x v => Host.reduce IntOp.andi x v reducesTo_S2816_S_d0 h_S_) main_v17 main_c_5
  let main_v19 : IVec S_ 1 := andi main_v14 main_v18
  let main_v20 : FVec F S2816x1024 .f32 := Host.absf main_arg4
  let main_cst_6 : FVec F S_ .f32 := constant S_ .f32 0x7F800000#32
  let main_v21 : FVec F S2816x1024 .f32 := broadcastInDim S2816x1024 ![] bcast_S_S2816x1024 main_cst_6
  let main_v22 : IVec S2816x1024 1 := cmpf .olt main_v20 main_v21
  let main_c_7 : IVec S_ 1 := constantI S_ 1 1#1
  let main_v23 : IVec S_ 1 := (fun x v => Host.reduce IntOp.andi x v reducesTo_S2816x1024_S_d0_1 h_S_) main_v22 main_c_7
  let main_v24 : IVec S_ 1 := andi main_v19 main_v23
  let main_v25 : FVec F S1024 .f32 := Host.absf main_arg5
  let main_cst_8 : FVec F S_ .f32 := constant S_ .f32 0x7F800000#32
  let main_v26 : FVec F S1024 .f32 := broadcastInDim S1024 ![] bcast_S_S1024 main_cst_8
  let main_v27 : IVec S1024 1 := cmpf .olt main_v25 main_v26
  let main_c_9 : IVec S_ 1 := constantI S_ 1 1#1
  let main_v28 : IVec S_ 1 := (fun x v => Host.reduce IntOp.andi x v reducesTo_S1024_S_d0 h_S_) main_v27 main_c_9
  let main_v29 : IVec S_ 1 := andi main_v24 main_v28
  let main_v30 : FVec F S8192x1024 .f32 := Host.absf main_arg6
  let main_cst_10 : FVec F S_ .f32 := constant S_ .f32 0x7F800000#32
  let main_v31 : FVec F S8192x1024 .f32 := broadcastInDim S8192x1024 ![] bcast_S_S8192x1024 main_cst_10
  let main_v32 : IVec S8192x1024 1 := cmpf .olt main_v30 main_v31
  let main_c_11 : IVec S_ 1 := constantI S_ 1 1#1
  let main_v33 : IVec S_ 1 := (fun x v => Host.reduce IntOp.andi x v reducesTo_S8192x1024_S_d0_1 h_S_) main_v32 main_c_11
  fn_part2 (F := F) main_v29 main_v33

def fn {F : FTy → Type} [FloatOps F] (main_arg0 : FVec F S8192x5632 .bf16) (main_arg1 : FVec F S8192x1024 .f32) (main_arg2 : FVec F S3x2816 .f32) (main_arg3 : FVec F S2816 .f32) (main_arg4 : FVec F S2816x1024 .f32) (main_arg5 : FVec F S1024 .f32) (main_arg6 : FVec F S8192x1024 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S8192x1024 .f32 := Host.absf main_arg1
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v4 main_v8
  let main_v10 : FVec F S3x2816 .f32 := Host.absf main_arg2
  let main_cst_2 : FVec F S_ .f32 := constant S_ .f32 0x7F800000#32
  let main_v11 : FVec F S3x2816 .f32 := broadcastInDim S3x2816 ![] bcast_S_S3x2816 main_cst_2
  let main_v12 : IVec S3x2816 1 := cmpf .olt main_v10 main_v11
  let main_c_3 : IVec S_ 1 := constantI S_ 1 1#1
  let main_v13 : IVec S_ 1 := (fun x v => Host.reduce IntOp.andi x v reducesTo_S3x2816_S_d0_1 h_S_) main_v12 main_c_3
  let main_v14 : IVec S_ 1 := andi main_v9 main_v13
  let main_v15 : FVec F S2816 .f32 := Host.absf main_arg3
  let main_cst_4 : FVec F S_ .f32 := constant S_ .f32 0x7F800000#32
  let main_v16 : FVec F S2816 .f32 := broadcastInDim S2816 ![] bcast_S_S2816 main_cst_4
  fn_part1 (F := F) main_arg4 main_arg5 main_arg6 main_v14 main_v15 main_v16
-- ==== Pre_finite_in1.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S40x2816 : Shape := ⟨2, ![40, 2816]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  reducesTo_S8192x4608_S_d0_1 : S8192x4608.ReducesTo [0, 1] S_
  h_S_ : 0 < S_.numel
  bcast_S_S1024x4608 : S_.BroadcastsInDim S1024x4608 (![] : Fin 0 → Fin S1024x4608.rank)
  reducesTo_S1024x4608_S_d0_1 : S1024x4608.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  main_v19

def fn {F : FTy → Type} [FloatOps F] (main_arg0 : FVec F S8192x4608 .bf16) (main_arg1 : FVec F S1024x4608 .f32) (main_arg2 : FVec F S8192x1024 .f32) (main_arg3 : FVec F S1024 .f32) (main_arg4 : FVec F S8192x1024 .f32) (main_arg5 : FVec F S40x2816 .f32) : IVec S_ 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_c : IVec S_ 1 := constantI S_ 1 1#1
  let main_v4 : IVec S_ 1 := (fun x v => Host.reduce IntOp.andi x v reducesTo_S8192x4608_S_d0_1 h_S_) main_v3 main_c
  let main_v5 : FVec F S1024x4608 .f32 := Host.absf main_arg1
  let main_cst_0 : FVec F S_ .f32 := constant S_ .f32 0x7F800000#32
  let main_v6 : FVec F S1024x4608 .f32 := broadcastInDim S1024x4608 ![] bcast_S_S1024x4608 main_cst_0
  let main_v7 : IVec S1024x4608 1 := cmpf .olt main_v5 main_v6
  let main_c_1 : IVec S_ 1 := constantI S_ 1 1#1
  let main_v8 : IVec S_ 1 := (fun x v => Host.reduce IntOp.andi x v reducesTo_S1024x4608_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_v14 main_v15 main_v16
-- ==== Pre_finite_mix.lean ====
abbrev S8192x1024 : Shape := ⟨2, ![8192, 1024]⟩
abbrev S8192x4608 : Shape := ⟨2, ![8192, 4608]⟩
abbrev S2048 : Shape := ⟨1, ![2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x512x1024 : Shape := ⟨3, ![2, 512, 1024]⟩
abbrev S1024x1024 : Shape := ⟨2, ![1024, 1024]⟩
abbrev S40x2816 : Shape := ⟨2, ![40, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x4608 : S_.BroadcastsInDim S8192x4608 (![] : Fin 0 → Fin S8192x4608.rank)
  reducesTo_S8192x4608_S_d0_1 : S8192x4608.ReducesTo [0, 1] S_
  bcast_S_S2048 : S_.BroadcastsInDim S2048 (![] : Fin 0 → Fin S2048.rank)
  reducesTo_S2048_S_d0 : S2048.ReducesTo [0] S_
  bcast_S_S512 : S_.BroadcastsInDim S512 (![] : Fin 0 → Fin S512.rank)
  reducesTo_S512_S_d0 : S512.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S2x512x1024 : S_.BroadcastsInDim S2x512x1024 (![] : Fin 0 → Fin S2x512x1024.rank)
  reducesTo_S2x512x1024_S_d0_1_2 : S2x512x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S2x512x1024 .f32) (main_arg9 : FVec F S1024x1024 .f32) (main_v29 : IVec S_ 1) (main_v33 : IVec S_ 1) : IVec S_ 1 :=
  let main_v34 : IVec S_ 1 := andi main_v29 main_v33
  let main_v35 : FVec F S2x512x1024 .f32 := Host.absf main_arg8
  let main_cst_12 : FVec F S_ .f32 := constant S_ .f32 0x7F800000#32
  let main_v36 : FVec F S2x512x1024 .f32 := broadcastInDim S2x512x1024 ![] bcast_S_S2x512x1024 main_cst_12
  let main_v37 : IVec S2x512x1024 1 := cmpf .olt main_v35 main_v36
  let main_c_13 : IVec S_ 1 := constantI S_ 1 1#1
  let main_v38 : IVec S_ 1 := (fun x v => Host.reduce IntOp.andi x v reducesTo_S2x512x1024_S_d0_1_2 h_S_) main_v37 main_c_13
  let main_v39 : IVec S_ 1 := andi main_v34 main_v38
  let main_v40 : FVec F S1024x1024 .f32 := Host.absf main_arg9
  let main_cst_14 : FVec F S_ .f32 := constant S_ .f32 0x7F800000#32
  let main_v41 : FVec F S1024x1024 .f32 := broadcastInDim S1024x1024 ![] bcast_S_S1024x1024 main_cst_14
  let main_v42 : IVec S1024x1024 1 := cmpf .olt main_v40 main_v41
  let main_c_15 : IVec S_ 1 := constantI S_ 1 1#1
  let main_v43 : IVec S_ 1 := (fun x v => Host.reduce IntOp.andi x v reducesTo_S1024x1024_S_d0_1 h_S_) main_v42 main_c_15
  let main_v44 : IVec S_ 1 := andi main_v39 main_v43
  main_v44

def fn_part1 {F : FTy → Type} [FloatOps F] (main_arg4 : FVec F S512 .f32) (main_arg5 : FVec F S4x128x128 .f32) (main_arg6 : FVec F S4x128 .f32) (main_arg8 : FVec F S2x512x1024 .f32) (main_arg9 : FVec F S1024x1024 .f32) (main_v14 : IVec S_ 1) (main_v15 : FVec F S512 .f32) (main_v16 : FVec F S512 .f32) : IVec S_ 1 :=
  let main_v17 : IVec S512 1 := cmpf .olt main_v15 main_v16
  let main_c_5 : IVec S_ 1 := constantI S_ 1 1#1
  let main_v18 : IVec S_ 1 := (fun x v => Host.reduce IntOp.andi x v reducesTo_S512_S_d0 h_S_) main_v17 main_c_5
  let main_v19 : IVec S_ 1 := andi main_v14 main_v18
  let main_v20 : FVec F S512 .f32 := Host.absf main_arg4
  let main_cst_6 : FVec F S_ .f32 := constant S_ .f32 0x7F800000#32
  let main_v21 : FVec F S512 .f32 := broadcastInDim S512 ![] bcast_S_S512 main_cst_6
  let main_v22 : IVec S512 1 := cmpf .olt main_v20 main_v21
  let main_c_7 : IVec S_ 1 := constantI S_ 1 1#1
  let main_v23 : IVec S_ 1 := (fun x v => Host.reduce IntOp.andi x v reducesTo_S512_S_d0 h_S_) main_v22 main_c_7
  let main_v24 : IVec S_ 1 := andi main_v19 main_v23
  let main_v25 : FVec F S4x128x128 .f32 := Host.absf main_arg5
  let main_cst_8 : FVec F S_ .f32 := constant S_ .f32 0x7F800000#32
  let main_v26 : FVec F S4x128x128 .f32 := broadcastInDim S4x128x128 ![] bcast_S_S4x128x128 main_cst_8
  let main_v27 : IVec S4x128x128 1 := cmpf .olt main_v25 main_v26
  let main_c_9 : IVec S_ 1 := constantI S_ 1 1#1
  let main_v28 : IVec S_ 1 := (fun x v => Host.reduce IntOp.andi x v reducesTo_S4x128x128_S_d0_1_2 h_S_) main_v27 main_c_9
  let main_v29 : IVec S_ 1 := andi main_v24 main_v28
  let main_v30 : FVec F S4x128 .f32 := Host.absf main_arg6
  let main_cst_10 : FVec F S_ .f32 := constant S_ .f32 0x7F800000#32
  let main_v31 : FVec F S4x128 .f32 := broadcastInDim S4x128 ![] bcast_S_S4x128 main_cst_10
  let main_v32 : IVec S4x128 1 := cmpf .olt main_v30 main_v31
  let main_c_11 : IVec S_ 1 := constantI S_ 1 1#1
  let main_v33 : IVec S_ 1 := (fun x v => Host.reduce IntOp.andi x v reducesTo_S4x128_S_d0_1 h_S_) main_v32 main_c_11
  fn_part2 (F := F) main_arg8 main_arg9 main_v29 main_v33

def fn {F : FTy → Type} [FloatOps F] (main_arg0 : FVec F S8192x1024 .f32) (main_arg1 : FVec F S8192x4608 .bf16) (main_arg2 : FVec F S2048 .f32) (main_arg3 : FVec F S512 .f32) (main_arg4 : FVec F S512 .f32) (main_arg5 : FVec F S4x128x128 .f32) (main_arg6 : FVec F S4x128 .f32) (main_arg7 : FVec F S3x512 .f32) (main_arg8 : FVec F S2x512x1024 .f32) (main_arg9 : FVec F S1024x1024 .f32) (main_arg10 : FVec F S40x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x4608 .f32 := (extf .f32 · bitsLt_bf16_f32) main_arg1
  let main_v5 : FVec F S8192x4608 .f32 := Host.absf main_v4
  let main_cst_0 : FVec F S_ .f32 := constant S_ .f32 0x7F800000#32
  let main_v6 : FVec F S8192x4608 .f32 := broadcastInDim S8192x4608 ![] bcast_S_S8192x4608 main_cst_0
  let main_v7 : IVec S8192x4608 1 := cmpf .olt main_v5 main_v6
  let main_c_1 : IVec S_ 1 := constantI S_ 1 1#1
  let main_v8 : IVec S_ 1 := (fun x v => Host.reduce IntOp.andi x v reducesTo_S8192x4608_S_d0_1 h_S_) main_v7 main_c_1
  let main_v9 : IVec S_ 1 := andi main_v3 main_v8
  let main_v10 : FVec F S2048 .f32 := Host.absf main_arg2
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_c_3 : IVec S_ 1 := constantI S_ 1 1#1
  let main_v13 : IVec S_ 1 := (fun x v => Host.reduce IntOp.andi x v reducesTo_S2048_S_d0 h_S_) main_v12 main_c_3
  let main_v14 : IVec S_ 1 := andi main_v9 main_v13
  let main_v15 : FVec F S512 .f32 := Host.absf main_arg3
  let main_cst_4 : FVec F S_ .f32 := constant S_ .f32 0x7F800000#32
  let main_v16 : FVec F S512 .f32 := broadcastInDim S512 ![] bcast_S_S512 main_cst_4
  fn_part1 (F := F) main_arg4 main_arg5 main_arg6 main_arg8 main_arg9 main_v14 main_v15 main_v16
-- ==== Pre_finite_up.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S40x2816 : Shape := ⟨2, ![40, 2816]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  main_v19

def fn {F : FTy → Type} [FloatOps F] (main_arg0 : FVec F S8192x5632 .bf16) (main_arg1 : FVec F S1024x5632 .f32) (main_arg2 : FVec F S8192x1024 .f32) (main_arg3 : FVec F S1024 .f32) (main_arg4 : FVec F S8192x1024 .f32) (main_arg5 : FVec F S40x2816 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_v14 main_v15 main_v16
-- ==== Kernel.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S4608x1024 : Shape := ⟨2, ![4608, 1024]⟩
abbrev S1x1024 : Shape := ⟨2, ![1, 1024]⟩
abbrev S8x1024 : Shape := ⟨2, ![8, 1024]⟩
abbrev S512x4608 : Shape := ⟨2, ![512, 4608]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4608x1024, .f32⟩
  | .hbm, ⟨6, _⟩ => ⟨S4608x1024, .bf16⟩
  | .hbm, ⟨7, _⟩ => ⟨S1x1024, .f32⟩
  | .hbm, ⟨8, _⟩ => ⟨S8192x1024, .f32⟩
  | .hbm, ⟨9, _⟩ => ⟨S8x1024, .f32⟩
  | .local _ .vmem, ⟨0, _⟩ => ⟨S512x4608, .bf16⟩
  | .local _ .vmem, ⟨1, _⟩ => ⟨S512x4608, .bf16⟩
  | .local _ .vmem, ⟨2, _⟩ => ⟨S4608x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4608, .f32⟩
  | .hbm, ⟨26, _⟩ => ⟨S8192x4608, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S3x2816 : Shape := ⟨2, ![3, 2816]⟩
abbrev S2816 : Shape := ⟨1, ![2816]⟩
abbrev S2816x1024 : Shape := ⟨2, ![2816, 1024]⟩
abbrev S40x2816 : Shape := ⟨2, ![40, 2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S512x1024 : Shape := ⟨2, ![512, 1024]⟩
abbrev S16x1024 : Shape := ⟨2, ![16, 1024]⟩
abbrev S512x5632 : Shape := ⟨2, ![512, 5632]⟩
abbrev S16x5632 : Shape := ⟨2, ![16, 5632]⟩
abbrev S512x2816 : Shape := ⟨2, ![512, 2816]⟩
abbrev S16x2816 : Shape := ⟨2, ![16, 2816]⟩
abbrev S4x2816 : Shape := ⟨2, ![4, 2816]⟩
abbrev S528x1024 : Shape := ⟨2, ![528, 1024]⟩
abbrev S256x1024 : Shape := ⟨2, ![256, 1024]⟩
abbrev S528x256 : Shape := ⟨2, ![528, 256]⟩
abbrev S512x256 : Shape := ⟨2, ![512, 256]⟩
abbrev S16x256 : Shape := ⟨2, ![16, 256]⟩
abbrev S1x256 : Shape := ⟨2, ![1, 256]⟩
abbrev S496x256 : Shape := ⟨2, ![496, 256]⟩
abbrev S3x256 : Shape := ⟨2, ![3, 256]⟩
abbrev S256x256 : Shape := ⟨2, ![256, 256]⟩
abbrev S128x256 : Shape := ⟨2, ![128, 256]⟩
abbrev S256 : Shape := ⟨1, ![256]⟩

abbrev nBuf : Space → Nat
  | .hbm => 32
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S40x2816, .f32⟩
  | .hbm, ⟨6, _⟩ => ⟨S8192x2816, .bf16⟩
  | .hbm, ⟨7, _⟩ => ⟨S8192x2816, .f32⟩
  | .hbm, ⟨8, _⟩ => ⟨S_, .f32⟩
  | .hbm, ⟨9, _⟩ => ⟨S2x2816, .f32⟩
  | .hbm, ⟨10, _⟩ => ⟨S8194x2816, .f32⟩
  | .hbm, ⟨11, _⟩ => ⟨S1x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S1x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S1x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S1x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S2816x1024, .bf16⟩
  | .hbm, ⟨30, _⟩ => ⟨S8192x5632, .bf16⟩
  | .hbm, ⟨31, _⟩ => ⟨S40x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x5632, .bf16⟩
  | .local _ .vmem, ⟨5, _⟩ => ⟨S512x5632, .bf16⟩
  | .local _ .vmem, ⟨6, _⟩ => ⟨S16x5632, .bf16⟩
  | .local _ .vmem, ⟨7, _⟩ => ⟨S16x5632, .bf16⟩
  | .local _ .vmem, ⟨8, _⟩ => ⟨S512x2816, .bf16⟩
  | .local _ .vmem, ⟨9, _⟩ => ⟨S512x2816, .bf16⟩
  | .local _ .vmem, ⟨10, _⟩ => ⟨S16x2816, .bf16⟩
  | .local _ .vmem, ⟨11, _⟩ => ⟨S16x2816, .bf16⟩
  | .local _ .vmem, ⟨12, _⟩ => ⟨S3x2816, .f32⟩
  | .local _ .vmem, ⟨13, _⟩ => ⟨S2816x1024, .bf16⟩
  | .local _ .vmem, ⟨14, _⟩ => ⟨S40x2816, .f32⟩
  | .local _ .vmem, ⟨15, _⟩ => ⟨S512x5632, .bf16⟩
  | .local _ .vmem, ⟨16, _⟩ => ⟨S512x5632, .bf16⟩
  | .local _ .vmem, ⟨17, _⟩ => ⟨S40x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S40x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x1024 : Shape := ⟨2, ![8192, 1024]⟩
abbrev S8192x5632 : Shape := ⟨2, ![8192, 5632]⟩
abbrev S3x2816 : Shape := ⟨2, ![3, 2816]⟩
abbrev S2816 : Shape := ⟨1, ![2816]⟩
abbrev S2816x1024 : Shape := ⟨2, ![2816, 1024]⟩
abbrev S40x2816 : Shape := ⟨2, ![40, 2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S24x2816 : Shape := ⟨2, ![24, 2816]⟩
abbrev S12x2816 : Shape := ⟨2, ![12, 2816]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S40x2816, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S2x2816, .f32⟩
  | .hbm, ⟨11, _⟩ => ⟨S8194x2816, .f32⟩
  | .hbm, ⟨12, _⟩ => ⟨S_, .f32⟩
  | .hbm, ⟨13, _⟩ => ⟨S2x2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S1x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S2816, .f32⟩
  | .hbm, ⟨55, _⟩ => ⟨S1x2816, .f32⟩
  | .hbm, ⟨56, _⟩ => ⟨S_, .f32⟩
  | .hbm, ⟨57, _⟩ => ⟨S2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S_, .f32⟩
  | .hbm, ⟨62, _⟩ => ⟨S2816, .f32⟩
  | .hbm, ⟨63, _⟩ => ⟨S1x2816, .f32⟩
  | .hbm, ⟨64, _⟩ => ⟨S_, .f32⟩
  | .hbm, ⟨65, _⟩ => ⟨S8194x2816, .f32⟩
  | .hbm, ⟨66, _⟩ => ⟨S_, .f32⟩
  | .hbm, ⟨67, _⟩ => ⟨S3x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S_, .f32⟩
  | .hbm, ⟨72, _⟩ => ⟨S2816, .f32⟩
  | .hbm, ⟨73, _⟩ => ⟨S1x2816, .f32⟩
  | .hbm, ⟨74, _⟩ => ⟨S_, .f32⟩
  | .hbm, ⟨75, _⟩ => ⟨S8194x2816, .f32⟩
  | .hbm, ⟨76, _⟩ => ⟨S8194x2816, .f32⟩
  | .hbm, ⟨77, _⟩ => ⟨S_, .f32⟩
  | .hbm, ⟨78, _⟩ => ⟨S3x2816, .f32⟩
  | .hbm, ⟨79, _⟩ => ⟨S3x2816, .f32⟩
  | .hbm, ⟨80, _⟩ => ⟨S8192x2816, .f32⟩
  | .hbm, ⟨81, _⟩ => ⟨S8192x2816, .f32⟩
  | .hbm, ⟨82, _⟩ => ⟨S8192x2816, .f32⟩
  | .hbm, ⟨83, _⟩ => ⟨S_, .f32⟩
  | .hbm, ⟨84, _⟩ => ⟨S2816, .f32⟩
  | .hbm, ⟨85, _⟩ => ⟨S1x2816, .f32⟩
  | .hbm, ⟨86, _⟩ => ⟨S_, .f32⟩
  | .hbm, ⟨87, _⟩ => ⟨S8194x2816, .f32⟩
  | .hbm, ⟨88, _⟩ => ⟨S8194x2816, .f32⟩
  | .hbm, ⟨89, _⟩ => ⟨S_, .f32⟩
  | .hbm, ⟨90, _⟩ => ⟨S3x2816, .f32⟩
  | .hbm, ⟨91, _⟩ => ⟨S3x2816, .f32⟩
  | .hbm, ⟨92, _⟩ => ⟨S2x2816, .f32⟩
  | .hbm, ⟨93, _⟩ => ⟨S8192x2816, .f32⟩
  | .hbm, ⟨94, _⟩ => ⟨S_, .f32⟩
  | .hbm, ⟨95, _⟩ => ⟨S8192x5632, .f32⟩
  | .hbm, ⟨96, _⟩ => ⟨S_, .f32⟩
  | .hbm, ⟨97, _⟩ => ⟨S8192x5632, .f32⟩
  | .hbm, ⟨98, _⟩ => ⟨S8192x5632, .f32⟩
  | .hbm, ⟨99, _⟩ => ⟨S8192x5632, .bf16⟩
  | .hbm, ⟨100, _⟩ => ⟨S24x2816, .f32⟩
  | .hbm, ⟨101, _⟩ => ⟨S1x2816, .f32⟩
  | .hbm, ⟨102, _⟩ => ⟨S12x2816, .f32⟩
  | .hbm, ⟨103, _⟩ => ⟨S40x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v29 : Ref sig .tc := ⟨.hbm, 52, rfl⟩
abbrev main_cst_1 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩

abbrev nD : Nat := 1
abbrev τ : Topo := Topo.v7x

variable {F : FTy → Type} [FloatOps F]
-- ==== Kernel3.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S40x2816 : Shape := ⟨2, ![40, 2816]⟩
abbrev S4608x1024 : Shape := ⟨2, ![4608, 1024]⟩
abbrev S1x1024 : Shape := ⟨2, ![1, 1024]⟩
abbrev S512x4608 : Shape := ⟨2, ![512, 4608]⟩
abbrev S512x1024 : Shape := ⟨2, ![512, 1024]⟩
abbrev S1x2816 : Shape := ⟨2, ![1, 2816]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S40x2816, .f32⟩
  | .hbm, ⟨6, _⟩ => ⟨S4608x1024, .f32⟩
  | .hbm, ⟨7, _⟩ => ⟨S4608x1024, .bf16⟩
  | .hbm, ⟨8, _⟩ => ⟨S1x1024, .f32⟩
  | .hbm, ⟨9, _⟩ => ⟨S8192x1024, .f32⟩
  | .hbm, ⟨10, _⟩ => ⟨S40x2816, .f32⟩
  | .local _ .vmem, ⟨0, _⟩ => ⟨S512x4608, .bf16⟩
  | .local _ .vmem, ⟨1, _⟩ => ⟨S512x4608, .bf16⟩
  | .local _ .vmem, ⟨2, _⟩ => ⟨S4608x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S40x2816, .f32⟩
  | .local _ .vmem, ⟨9, _⟩ => ⟨S512x1024, .f32⟩
  | .local _ .vmem, ⟨10, _⟩ => ⟨S512x1024, .f32⟩
  | .local _ .vmem, ⟨11, _⟩ => ⟨S40x2816, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S40x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S40x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x4608 : Shape := ⟨2, ![8192, 4608]⟩
abbrev S1024x4608 : Shape := ⟨2, ![1024, 4608]⟩
abbrev S8192x1024 : Shape := ⟨2, ![8192, 1024]⟩
abbrev S1024 : Shape := ⟨1, ![1024]⟩
abbrev S40x2816 : Shape := ⟨2, ![40, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1792 : Shape := ⟨1, ![1792]⟩
abbrev S2816 : Shape := ⟨1, ![2816]⟩
abbrev S16x2816 : Shape := ⟨2, ![16, 2816]⟩
abbrev S1x2816 : Shape := ⟨2, ![1, 2816]⟩
abbrev S23x2816 : Shape := ⟨2, ![23, 2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S40x2816, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4608, .f32⟩
  | .hbm, ⟨27, _⟩ => ⟨S8192x4608, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1792, .f32⟩
  | .hbm, ⟨57, _⟩ => ⟨S2816, .f32⟩
  | .hbm, ⟨58, _⟩ => ⟨S16x2816, .f32⟩
  | .hbm, ⟨59, _⟩ => ⟨S1x2816, .f32⟩
  | .hbm, ⟨60, _⟩ => ⟨S23x2816, .f32⟩
  | .hbm, ⟨61, _⟩ => ⟨S40x2816, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel4.lean ====
abbrev S8192x1024 : Shape := ⟨2, ![8192, 1024]⟩
abbrev S8192x4608 : Shape := ⟨2, ![8192, 4608]⟩
abbrev S2048 : Shape := ⟨1, ![2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x512x1024 : Shape := ⟨3, ![2, 512, 1024]⟩
abbrev S1024x1024 : Shape := ⟨2, ![1024, 1024]⟩
abbrev S40x2816 : Shape := ⟨2, ![40, 2816]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S64x128x4x128 : Shape := ⟨4, ![64, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S2x512 : Shape := ⟨2, ![2, 512]⟩
abbrev S8194x512 : Shape := ⟨2, ![8194, 512]⟩
abbrev S1x512x1024 : Shape := ⟨3, ![1, 512, 1024]⟩
abbrev S512x1024 : Shape := ⟨2, ![512, 1024]⟩
abbrev S1x2048 : Shape := ⟨2, ![1, 2048]⟩
abbrev S4x128x1 : Shape := ⟨3, ![4, 128, 1]⟩
abbrev S16x1024 : Shape := ⟨2, ![16, 1024]⟩
abbrev S512x4608 : Shape := ⟨2, ![512, 4608]⟩
abbrev S16x4608 : Shape := ⟨2, ![16, 4608]⟩
abbrev S512x512 : Shape := ⟨2, ![512, 512]⟩
abbrev S6x2816 : Shape := ⟨2, ![6, 2816]⟩
abbrev S528x1024 : Shape := ⟨2, ![528, 1024]⟩
abbrev S1x1024 : Shape := ⟨2, ![1, 1024]⟩
abbrev S256x1024 : Shape := ⟨2, ![256, 1024]⟩
abbrev S128x1024 : Shape := ⟨2, ![128, 1024]⟩
abbrev S1024 : Shape := ⟨1, ![1024]⟩
abbrev S512x1 : Shape := ⟨2, ![512, 1]⟩
abbrev S1x128x1 : Shape := ⟨3, ![1, 128, 1]⟩
abbrev S528x512 : Shape := ⟨2, ![528, 512]⟩
abbrev S16x512 : Shape := ⟨2, ![16, 512]⟩
abbrev S496x512 : Shape := ⟨2, ![496, 512]⟩
abbrev S256x512 : Shape := ⟨2, ![256, 512]⟩
abbrev S128x512 : Shape := ⟨2, ![128, 512]⟩

abbrev nBuf : Space → Nat
  | .hbm => 165
  | .vmem => 35
  | .smem => 0
  | _ => 0

abbrev hbmTy0_0 (i : Nat) : BufTy := match i % 128 with
  | 0 => ⟨S8192x1024, .f32⟩
  | 1 => ⟨S8192x4608, .bf16⟩
  | 2 => ⟨S2048, .f32⟩
  | 3 => ⟨S512, .f32⟩
  | 4 => ⟨S512, .f32⟩
  | 5 => ⟨S4x128x128, .f32⟩
  | 6 => ⟨S4x128, .f32⟩
  | 7 => ⟨S3x512, .f32⟩
  | 8 => ⟨S2x512x1024, .f32⟩
  | 9 => ⟨S1024x1024, .f32⟩
  | 10 => ⟨S40x2816, .f32⟩
  | 11 => ⟨S8192x4608, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x1024, .f32⟩
  | 18 => ⟨S8192x1024, .f32⟩
  | 19 => ⟨S1x512, .f32⟩
  | 20 => ⟨S1x512, .f32⟩
  | 21 => ⟨S1x512, .f32⟩
  | 22 => ⟨S_, .f32⟩
  | 23 => ⟨S_, .f32⟩
  | 24 => ⟨S_, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S_, .f32⟩
  | 42 => ⟨S_, .f32⟩
  | 43 => ⟨S_, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x512, .f32⟩
  | 67 => ⟨S8192x512, .f32⟩
  | 68 => ⟨S8192x512, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S8192x512, .f32⟩
  | 76 => ⟨S8192x512, .f32⟩
  | 77 => ⟨S_, .f32⟩
  | 78 => ⟨S8192x1, .f32⟩
  | 79 => ⟨S8192x1, .f32⟩
  | 80 => ⟨S8192x1, .f32⟩
  | 81 => ⟨S8192x512, .f32⟩
  | 82 => ⟨S8192x512, .f32⟩
  | 83 => ⟨S1x512, .f32⟩
  | 84 => ⟨S8192x512, .f32⟩
  | 85 => ⟨S8192x512, .f32⟩
  | 86 => ⟨S1x512, .f32⟩
  | 87 => ⟨S8192x512, .f32⟩
  | 88 => ⟨S8192x512, .f32⟩
  | 89 => ⟨S64x128x4x128, .f32⟩
  | 90 => ⟨S128, .i32⟩
  | 91 => ⟨S_, .i32⟩
  | 92 => ⟨S_, .i32⟩
  | 93 => ⟨S128, .i32⟩
  | 94 => ⟨S128, .i32⟩
  | 95 => ⟨S128, .i32⟩
  | 96 => ⟨S_, .i32⟩
  | 97 => ⟨S128, .i32⟩
  | 98 => ⟨S128, .i1⟩
  | 99 => ⟨S128, .i32⟩
  | 100 => ⟨S128, .i32⟩
  | 101 => ⟨S_, .i32⟩
  | 102 => ⟨S128, .i32⟩
  | 103 => ⟨S128, .i1⟩
  | 104 => ⟨S128, .i1⟩
  | 105 => ⟨S_, .i32⟩
  | 106 => ⟨S128, .i32⟩
  | 107 => ⟨S128, .i32⟩
  | 108 => ⟨S128, .i32⟩
  | 109 => ⟨S1x128, .i32⟩
  | 110 => ⟨S128x1, .i32⟩
  | 111 => ⟨S128x128, .i32⟩
  | 112 => ⟨S128x128, .i32⟩
  | 113 => ⟨S128x128, .i1⟩
  | 114 => ⟨S1x128x128, .i1⟩
  | 115 => ⟨S_, .f32⟩
  | 116 => ⟨S4x128x128, .i1⟩
  | 117 => ⟨S4x128x128, .f32⟩
  | 118 => ⟨S4x128x128, .f32⟩
  | 119 => ⟨S4x64x128x128, .f32⟩
  | 120 => ⟨S64x128x4x128, .f32⟩
  | 121 => ⟨S128x4, .f32⟩
  | 122 => ⟨S1x128x4x1, .f32⟩
  | 123 => ⟨S64x128x4x128, .f32⟩
  | 124 => ⟨S64x128x4x128, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S_, .f32⟩
  | 1 => ⟨S2x512, .f32⟩
  | 2 => ⟨S8194x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S1x512x1024, .f32⟩
  | 15 => ⟨S512x1024, .f32⟩
  | 16 => ⟨S8192x1024, .f32⟩
  | 17 => ⟨S8192x512, .f32⟩
  | 18 => ⟨S1x512x1024, .f32⟩
  | 19 => ⟨S512x1024, .f32⟩
  | 20 => ⟨S8192x1024, .f32⟩
  | 21 => ⟨S8192x512, .bf16⟩
  | 22 => ⟨S8192x1024, .bf16⟩
  | 23 => ⟨S8192x1024, .bf16⟩
  | 24 => ⟨S4x128x128, .f32⟩
  | 25 => ⟨S1024x1024, .bf16⟩
  | 26 => ⟨S2x512x1024, .bf16⟩
  | 27 => ⟨S1x2048, .f32⟩
  | 28 => ⟨S1x512, .f32⟩
  | 29 => ⟨S1x512, .f32⟩
  | 30 => ⟨S4x128x1, .f32⟩
  | 31 => ⟨S8192x4608, .bf16⟩
  | 32 => ⟨S8192x1024, .bf16⟩
  | 33 => ⟨S8192x1024, .bf16⟩
  | 34 => ⟨S4x128x128, .f32⟩
  | 35 => ⟨S4x128x1, .f32⟩
  | 36 => ⟨S40x2816, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x4608, .bf16⟩
  | .local _ .vmem, ⟨5, _⟩ => ⟨S512x4608, .bf16⟩
  | .local _ .vmem, ⟨6, _⟩ => ⟨S16x4608, .bf16⟩
  | .local _ .vmem, ⟨7, _⟩ => ⟨S16x4608, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x2048, .f32⟩
  | .local _ .vmem, ⟨15, _⟩ => ⟨S1x512, .f32⟩
  | .local _ .vmem, ⟨16, _⟩ => ⟨S1x512, .f32⟩
  | .local _ .vmem, ⟨17, _⟩ => ⟨S4x128x128, .f32⟩
  | .local _ .vmem, ⟨18, _⟩ => ⟨S4x128x128, .f32⟩
  | .local _ .vmem, ⟨19, _⟩ => ⟨S4x128x1, .f32⟩
  | .local _ .vmem, ⟨20, _⟩ => ⟨S3x512, .f32⟩
  | .local _ .vmem, ⟨21, _⟩ => ⟨S1024x1024, .bf16⟩
  | .local _ .vmem, ⟨22, _⟩ => ⟨S2x512x1024, .bf16⟩
  | .local _ .vmem, ⟨23, _⟩ => ⟨S40x2816, .f32⟩
  | .local _ .vmem, ⟨24, _⟩ => ⟨S512x4608, .bf16⟩
  | .local _ .vmem, ⟨25, _⟩ => ⟨S512x4608, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S4x128x128, .f32⟩
  | .local _ .vmem, ⟨31, _⟩ => ⟨S4x128x1, .f32⟩
  | .local _ .vmem, ⟨32, _⟩ => ⟨S40x2816, .f32⟩
  | .local _ .vmem, ⟨33, _⟩ => ⟨S512x512, .bf16⟩
  | .local _ .vmem, ⟨34, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_c : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_c_0 : Ref sig .tc := ⟨.hbm, 105, rfl⟩
abbrev main_call0_v12 : Ref sig .tc := ⟨.hbm, 106, rfl⟩
abbrev main_call0_v13 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_14 : Ref sig .tc := ⟨.hbm, 115, rfl⟩
abbrev main_call1_v0 : Ref sig .tc := ⟨.hbm, 116, rfl⟩
abbrev main_call1_v1 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_15 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112_0 : Ref sig .tc := ⟨.hbm, 159, rfl⟩
abbrev main_v112_1 : Ref sig .tc := ⟨.hbm, 160, rfl⟩
abbrev main_v112_2 : Ref sig .tc := ⟨.hbm, 161, rfl⟩
abbrev main_v112_3 : Ref sig .tc := ⟨.hbm, 162, rfl⟩
abbrev main_v112_4 : Ref sig .tc := ⟨.hbm, 163, rfl⟩
abbrev main_v112_5 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem21_0 : DmaSem sig := 31
abbrev cc0_sem22_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S40x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x4608 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S40x2816 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Kernel4Ideal.lean ====
variable {F : FTy → Type} [FloatOps F] [Named F]
def κ : String → Option EReal := fun
  | "gelu_c0" => some ((6693141 / 8388608 : ℝ) : EReal)
  | "gelu_c1" => some ((8943 / 200000 : ℝ) : EReal)
  | "gelu_c3" => some ((26829 / 200000 : ℝ) : EReal)
  | _ => none
-- ==== Reference4Ideal.lean ====
abbrev S8192x1024 : Shape := ⟨2, ![8192, 1024]⟩
abbrev S8192x4608 : Shape := ⟨2, ![8192, 4608]⟩
abbrev S2048 : Shape := ⟨1, ![2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x512x1024 : Shape := ⟨3, ![2, 512, 1024]⟩
abbrev S1024x1024 : Shape := ⟨2, ![1024, 1024]⟩
abbrev S40x2816 : Shape := ⟨2, ![40, 2816]⟩
abbrev S_ : Shape := ⟨0, ![]⟩
abbrev S8192x512 : Shape := ⟨2, ![8192, 512]⟩
abbrev S1024 : Shape := ⟨1, ![1024]⟩
abbrev S1x512 : Shape := ⟨2, ![1, 512]⟩
abbrev S8192 : Shape := ⟨1, ![8192]⟩
abbrev S8192x1 : Shape := ⟨2, ![8192, 1]⟩
abbrev S64x128x4x128 : Shape := ⟨4, ![64, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S2x512 : Shape := ⟨2, ![2, 512]⟩
abbrev S8194x512 : Shape := ⟨2, ![8194, 512]⟩
abbrev S1x512x1024 : Shape := ⟨3, ![1, 512, 1024]⟩
abbrev S512x1024 : Shape := ⟨2, ![512, 1024]⟩
abbrev S1x1024 : Shape := ⟨2, ![1, 1024]⟩
abbrev S17x2816 : Shape := ⟨2, ![17, 2816]⟩
abbrev S1x2048 : Shape := ⟨2, ![1, 2048]⟩
abbrev S1x768 : Shape := ⟨2, ![1, 768]⟩
abbrev S1x2816 : Shape := ⟨2, ![1, 2816]⟩
abbrev S1x2304 : Shape := ⟨2, ![1, 2304]⟩
abbrev S4x128x1 : Shape := ⟨3, ![4, 128, 1]⟩

abbrev nBuf : Space → Nat
  | .hbm => 392
  | .vmem => 0
  | .smem => 0
  | _ => 0

abbrev hbmTy0_0 (i : Nat) : BufTy := match i % 128 with
  | 0 => ⟨S8192x1024, .f32⟩
  | 1 => ⟨S8192x4608, .bf16⟩
  | 2 => ⟨S2048, .f32⟩
  | 3 => ⟨S512, .f32⟩
  | 4 => ⟨S512, .f32⟩
  | 5 => ⟨S4x128x128, .f32⟩
  | 6 => ⟨S4x128, .f32⟩
  | 7 => ⟨S3x512, .f32⟩
  | 8 => ⟨S2x512x1024, .f32⟩
  | 9 => ⟨S1024x1024, .f32⟩
  | 10 => ⟨S40x2816, .f32⟩
  | 11 => ⟨S_, .f32⟩
  | 12 => ⟨S8192x1024, .f32⟩
  | 13 => ⟨S8192x4608, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x1024, .f32⟩
  | 20 => ⟨S8192x1024, .f32⟩
  | 21 => ⟨S1024, .f32⟩
  | 22 => ⟨S1024, .f32⟩
  | 23 => ⟨S1x512, .f32⟩
  | 24 => ⟨S1x512, .f32⟩
  | 25 => ⟨S1x512, .f32⟩
  | 26 => ⟨S_, .f32⟩
  | 27 => ⟨S_, .f32⟩
  | 28 => ⟨S_, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S_, .f32⟩
  | 57 => ⟨S_, .f32⟩
  | 58 => ⟨S_, .f32⟩
  | 59 => ⟨S8192x512, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x512, .f32⟩
  | 72 => ⟨S_, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S_, .f32⟩
  | 87 => ⟨S8192, .f32⟩
  | 88 => ⟨S8192x1, .f32⟩
  | 89 => ⟨S_, .f32⟩
  | 90 => ⟨S8192x1, .f32⟩
  | 91 => ⟨S8192x1, .f32⟩
  | 92 => ⟨S8192x512, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S_, .f32⟩
  | 99 => ⟨S8192, .f32⟩
  | 100 => ⟨S8192x1, .f32⟩
  | 101 => ⟨S_, .f32⟩
  | 102 => ⟨S8192x1, .f32⟩
  | 103 => ⟨S8192x1, .f32⟩
  | 104 => ⟨S8192x512, .f32⟩
  | 105 => ⟨S8192x512, .f32⟩
  | 106 => ⟨S_, .f32⟩
  | 107 => ⟨S8192x1, .f32⟩
  | 108 => ⟨S8192x1, .f32⟩
  | 109 => ⟨S8192x1, .f32⟩
  | 110 => ⟨S8192x1, .f32⟩
  | 111 => ⟨S_, .f32⟩
  | 112 => ⟨S8192x1, .f32⟩
  | 113 => ⟨S8192x1, .f32⟩
  | 114 => ⟨S8192x512, .f32⟩
  | 115 => ⟨S8192x512, .f32⟩
  | 116 => ⟨S1x512, .f32⟩
  | 117 => ⟨S8192x512, .f32⟩
  | 118 => ⟨S8192x512, .f32⟩
  | 119 => ⟨S1x512, .f32⟩
  | 120 => ⟨S8192x512, .f32⟩
  | 121 => ⟨S8192x512, .f32⟩
  | 122 => ⟨S64x128x4x128, .f32⟩
  | 123 => ⟨S128, .i32⟩
  | 124 => ⟨S_, .i32⟩
  | 125 => ⟨S_, .i32⟩
  | 126 => ⟨S128, .i32⟩
  | 127 => ⟨S128, .i32⟩
  | _ => ⟨S8192x1024, .f32⟩

abbrev hbmTy0_1 (i : Nat) : BufTy := match i % 128 with
  | 0 => ⟨S128, .i32⟩
  | 1 => ⟨S_, .i32⟩
  | 2 => ⟨S128, .i32⟩
  | 3 => ⟨S128, .i1⟩
  | 4 => ⟨S128, .i32⟩
  | 5 => ⟨S128, .i32⟩
  | 6 => ⟨S_, .i32⟩
  | 7 => ⟨S128, .i32⟩
  | 8 => ⟨S128, .i1⟩
  | 9 => ⟨S128, .i1⟩
  | 10 => ⟨S_, .i32⟩
  | 11 => ⟨S128, .i32⟩
  | 12 => ⟨S128, .i32⟩
  | 13 => ⟨S128, .i32⟩
  | 14 => ⟨S1x128, .i32⟩
  | 15 => ⟨S128x1, .i32⟩
  | 16 => ⟨S128x128, .i32⟩
  | 17 => ⟨S128x128, .i32⟩
  | 18 => ⟨S128x128, .i1⟩
  | 19 => ⟨S1x128x128, .i1⟩
  | 20 => ⟨S_, .f32⟩
  | 21 => ⟨S4x128x128, .i1⟩
  | 22 => ⟨S4x128x128, .f32⟩
  | 23 => ⟨S4x128x128, .f32⟩
  | 24 => ⟨S_, .f32⟩
  | 25 => ⟨S4x128x128, .f32⟩
  | 26 => ⟨S4x64x128x128, .f32⟩
  | 27 => ⟨S64x128x4x128, .f32⟩
  | 28 => ⟨S128x4, .f32⟩
  | 29 => ⟨S1x128x4x1, .f32⟩
  | 30 => ⟨S64x128x4x128, .f32⟩
  | 31 => ⟨S64x128x4x128, .f32⟩
  | 32 => ⟨S8192x512, .f32⟩
  | 33 => ⟨S8192x512, .f32⟩
  | 34 => ⟨S8192x512, .f32⟩
  | 35 => ⟨S_, .f32⟩
  | 36 => ⟨S2x512, .f32⟩
  | 37 => ⟨S8194x512, .f32⟩
  | 38 => ⟨S_, .f32⟩
  | 39 => ⟨S2x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S1x512x1024, .f32⟩
  | 52 => ⟨S512x1024, .f32⟩
  | 53 => ⟨S8192x1024, .f32⟩
  | 54 => ⟨S8192x512, .f32⟩
  | 55 => ⟨S1x512x1024, .f32⟩
  | 56 => ⟨S512x1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S8192x1024, .f32⟩
  | 106 => ⟨S_, .f32⟩
  | 107 => ⟨S1024, .f32⟩
  | 108 => ⟨S1x1024, .f32⟩
  | 109 => ⟨S_, .f32⟩
  | 110 => ⟨S1024, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S_, .f32⟩
  | 119 => ⟨S512, .f32⟩
  | 120 => ⟨S1x512, .f32⟩
  | 121 => ⟨S_, .f32⟩
  | 122 => ⟨S8194x512, .f32⟩
  | 123 => ⟨S8192x512, .f32⟩
  | 124 => ⟨S8192x512, .f32⟩
  | 125 => ⟨S8192x512, .f32⟩
  | 126 => ⟨S_, .f32⟩
  | 127 => ⟨S512, .f32⟩
  | _ => ⟨S8192x1024, .f32⟩

abbrev hbmTy0_2 (i : Nat) : BufTy := match i % 128 with
  | 0 => ⟨S1x512, .f32⟩
  | 1 => ⟨S_, .f32⟩
  | 2 => ⟨S8194x512, .f32⟩
  | 3 => ⟨S8194x512, .f32⟩
  | 4 => ⟨S8192x512, .f32⟩
  | 5 => ⟨S8192x512, .f32⟩
  | 6 => ⟨S8192x512, .f32⟩
  | 7 => ⟨S_, .f32⟩
  | 8 => ⟨S512, .f32⟩
  | 9 => ⟨S1x512, .f32⟩
  | 10 => ⟨S_, .f32⟩
  | 11 => ⟨S8194x512, .f32⟩
  | 12 => ⟨S8194x512, .f32⟩
  | 13 => ⟨S2x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S64x128x4x128, .f32⟩
  | 20 => ⟨S_, .f32⟩
  | 21 => ⟨S128x4, .f32⟩
  | 22 => ⟨S1x128x4x1, .f32⟩
  | 23 => ⟨S_, .f32⟩
  | 24 => ⟨S128x4, .f32⟩
  | 25 => ⟨S4x128, .f32⟩
  | 26 => ⟨S4x64x128x128, .f32⟩
  | 27 => ⟨S4x128x128, .f32⟩
  | 28 => ⟨S4x64x128x128, .f32⟩
  | 29 => ⟨S64x128x4x128, .f32⟩
  | 30 => ⟨S_, .f32⟩
  | 31 => ⟨S4x128x128, .f32⟩
  | 32 => ⟨S4x128x128, .f32⟩
  | 33 => ⟨S8192x512, .f32⟩
  | 34 => ⟨S_, .f32⟩
  | 35 => ⟨S512, .f32⟩
  | 36 => ⟨S1x512, .f32⟩
  | 37 => ⟨S_, .f32⟩
  | 38 => ⟨S512, .f32⟩
  | 39 => ⟨S8192x512, .f32⟩
  | 40 => ⟨S_, .f32⟩
  | 41 => ⟨S512, .f32⟩
  | 42 => ⟨S1x512, .f32⟩
  | 43 => ⟨S8192x512, .f32⟩
  | 44 => ⟨S8192x512, .f32⟩
  | 45 => ⟨S_, .f32⟩
  | 46 => ⟨S512, .f32⟩
  | 47 => ⟨S8192x512, .f32⟩
  | 48 => ⟨S_, .f32⟩
  | 49 => ⟨S8192, .f32⟩
  | 50 => ⟨S8192x1, .f32⟩
  | 51 => ⟨S8192x512, .f32⟩
  | 52 => ⟨S8192x512, .f32⟩
  | 53 => ⟨S8192x1, .f32⟩
  | 54 => ⟨S8192x512, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x512, .f32⟩
  | 64 => ⟨S8192x512, .f32⟩
  | 65 => ⟨S8192x512, .f32⟩
  | 66 => ⟨S_, .f32⟩
  | 67 => ⟨S8192, .f32⟩
  | 68 => ⟨S8192x1, .f32⟩
  | 69 => ⟨S8192x512, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x512, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x4608, .f32⟩
  | 107 => ⟨S17x2816, .f32⟩
  | 108 => ⟨S2048, .f32⟩
  | 109 => ⟨S1x2048, .f32⟩
  | 110 => ⟨S_, .f32⟩
  | 111 => ⟨S1x768, .f32⟩
  | 112 => ⟨S1x2816, .f32⟩
  | 113 => ⟨S1x512, .f32⟩
  | 114 => ⟨S_, .f32⟩
  | 115 => ⟨S1x2304, .f32⟩
  | 116 => ⟨S1x2816, .f32⟩
  | 117 => ⟨S1x512, .f32⟩
  | 118 => ⟨S_, .f32⟩
  | 119 => ⟨S1x2304, .f32⟩
  | 120 => ⟨S1x2816, .f32⟩
  | 121 => ⟨S_, .f32⟩
  | 122 => ⟨S1x2304, .f32⟩
  | 123 => ⟨S1x2816, .f32⟩
  | 124 => ⟨S_, .f32⟩
  | 125 => ⟨S1x2304, .f32⟩
  | 126 => ⟨S1x2816, .f32⟩
  | 127 => ⟨S_, .f32⟩
  | _ => ⟨S8192x1024, .f32⟩

abbrev hbmTy0_3 (i : Nat) : BufTy := match i % 128 with
  | 0 => ⟨S1x2304, .f32⟩
  | 1 => ⟨S1x2816, .f32⟩
  | 2 => ⟨S17x2816, .f32⟩
  | 3 => ⟨S40x2816, .f32⟩
  | 4 => ⟨S8192x4608, .bf16⟩
  | 5 => ⟨S8192x1024, .bf16⟩
  | 6 => ⟨S8192x1024, .bf16⟩
  | 7 => ⟨S4x128x1, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_cst_15 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_v59 : Ref sig .tc := ⟨.hbm, 88, rfl⟩
abbrev main_cst_17 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_18 : Ref sig .tc := ⟨.hbm, 95, rfl⟩
abbrev main_v65 : Ref sig .tc := ⟨.hbm, 96, rfl⟩
abbrev main_v66 : Ref sig .tc := ⟨.hbm, 97, rfl⟩
abbrev main_cst_19 : Ref sig .tc := ⟨.hbm, 98, rfl⟩
abbrev main_v67 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_21 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_22 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c : Ref sig .tc := ⟨.hbm, 124, rfl⟩
abbrev main_call0_v0 : Ref sig .tc := ⟨.hbm, 125, rfl⟩
abbrev main_call0_v1 : Ref sig .tc := ⟨.hbm, 126, rfl⟩
abbrev main_call0_v2 : Ref sig .tc := ⟨.hbm, 127, rfl⟩
abbrev main_call0_v3 : Ref sig .tc := ⟨.hbm, 128, rfl⟩
abbrev main_call0_v4 : Ref sig .tc := ⟨.hbm, 129, rfl⟩
abbrev main_call0_v5 : Ref sig .tc := ⟨.hbm, 130, rfl⟩
abbrev main_call0_v6 : Ref sig .tc := ⟨.hbm, 131, rfl⟩
abbrev main_call0_v7 : Ref sig .tc := ⟨.hbm, 132, rfl⟩
abbrev main_call0_v8 : Ref sig .tc := ⟨.hbm, 133, rfl⟩
abbrev main_call0_c : Ref sig .tc := ⟨.hbm, 134, rfl⟩
abbrev main_call0_v9 : Ref sig .tc := ⟨.hbm, 135, rfl⟩
abbrev main_call0_v10 : Ref sig .tc := ⟨.hbm, 136, rfl⟩
abbrev main_call0_v11 : Ref sig .tc := ⟨.hbm, 137, rfl⟩
abbrev main_call0_c_0 : Ref sig .tc := ⟨.hbm, 138, rfl⟩
abbrev main_call0_v12 : Ref sig .tc := ⟨.hbm, 139, rfl⟩
abbrev main_call0_v13 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_23 : Ref sig .tc := ⟨.hbm, 148, rfl⟩
abbrev main_v96_1 : Ref sig .tc := ⟨.hbm, 149, rfl⟩
abbrev main_call1_v1 : Ref sig .tc := ⟨.hbm, 150, rfl⟩
abbrev main_v96_0 : Ref sig .tc := ⟨.hbm, 151, rfl⟩
abbrev main_call1_cst : Ref sig .tc := ⟨.hbm, 152, rfl⟩
abbrev main_v96_2 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_24 : Ref sig .tc := ⟨.hbm, 163, rfl⟩
abbrev main_v106 : Ref sig .tc := ⟨.hbm, 164, rfl⟩
abbrev main_v107 : Ref sig .tc := ⟨.hbm, 165, rfl⟩
abbrev main_cst_25 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_26 : Ref sig .tc := ⟨.hbm, 191, rfl⟩
abbrev main_v132 : Ref sig .tc := ⟨.hbm, 192, rfl⟩
abbrev main_v133 : Ref sig .tc := ⟨.hbm, 193, rfl⟩
abbrev main_cst_27 : Ref sig .tc := ⟨.hbm, 194, rfl⟩
abbrev main_v134 : Ref sig .tc := ⟨.hbm, 195, rfl⟩
abbrev main_v135 : Ref sig .tc := ⟨.hbm, 196, rfl⟩
abbrev main_cst_28 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_29 : Ref sig .tc := ⟨.hbm, 206, rfl⟩
abbrev main_v144 : Ref sig .tc := ⟨.hbm, 207, rfl⟩
abbrev main_v145 : Ref sig .tc := ⟨.hbm, 208, rfl⟩
abbrev main_cst_30 : Ref sig .tc := ⟨.hbm, 209, rfl⟩
abbrev main_v146 : Ref sig .tc := ⟨.hbm, 210, rfl⟩
abbrev main_v147 : Ref sig .tc := ⟨.hbm, 211, rfl⟩
abbrev main_cst_31 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_32 : Ref sig .tc := ⟨.hbm, 228, rfl⟩
abbrev main_v163 : Ref sig .tc := ⟨.hbm, 229, rfl⟩
abbrev main_v164 : Ref sig .tc := ⟨.hbm, 230, rfl⟩
abbrev main_cst_33 : Ref sig .tc := ⟨.hbm, 231, rfl⟩
abbrev main_v165 : Ref sig .tc := ⟨.hbm, 232, rfl⟩
abbrev main_v166 : Ref sig .tc := ⟨.hbm, 233, rfl⟩
abbrev main_cst_34 : Ref sig .tc := ⟨.hbm, 234, rfl⟩
abbrev main_v167 : Ref sig .tc := ⟨.hbm, 235, rfl⟩
abbrev main_v168 : Ref sig .tc := ⟨.hbm, 236, rfl⟩
abbrev main_cst_35 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_cst_36 : Ref sig .tc := ⟨.hbm, 246, rfl⟩
abbrev main_v177 : Ref sig .tc := ⟨.hbm, 247, rfl⟩
abbrev main_v178 : Ref sig .tc := ⟨.hbm, 248, rfl⟩
abbrev main_cst_37 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_cst_38 : Ref sig .tc := ⟨.hbm, 254, rfl⟩
abbrev main_v183 : Ref sig .tc := ⟨.hbm, 255, rfl⟩
abbrev main_v184 : Ref sig .tc := ⟨.hbm, 256, rfl⟩
abbrev main_cst_39 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_40 : Ref sig .tc := ⟨.hbm, 263, rfl⟩
abbrev main_v190 : Ref sig .tc := ⟨.hbm, 264, rfl⟩
abbrev main_v191 : Ref sig .tc := ⟨.hbm, 265, rfl⟩
abbrev main_cst_41 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_42 : Ref sig .tc := ⟨.hbm, 276, rfl⟩
abbrev main_v201 : Ref sig .tc := ⟨.hbm, 277, rfl⟩
abbrev main_v202 : Ref sig .tc := ⟨.hbm, 278, rfl⟩
abbrev main_cst_43 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_call2_cst : Ref sig .tc := ⟨.hbm, 286, rfl⟩
abbrev main_call2_v0 : Ref sig .tc := ⟨.hbm, 287, rfl⟩
abbrev main_v209 : Ref sig .tc := ⟨.hbm, 288, rfl⟩
abbrev main_v210 : Ref sig .tc := ⟨.hbm, 289, rfl⟩
abbrev main_cst_44 : Ref sig .tc := ⟨.hbm, 290, rfl⟩
abbrev main_v211 : Ref sig .tc := ⟨.hbm, 291, rfl⟩
abbrev main_v212 : Ref sig .tc := ⟨.hbm, 292, rfl⟩
abbrev main_cst_45 : Ref sig .tc := ⟨.hbm, 293, rfl⟩
abbrev main_v213 : Ref sig .tc := ⟨.hbm, 294, rfl⟩
abbrev main_v214 : Ref sig .tc := ⟨.hbm, 295, rfl⟩
abbrev main_cst_46 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_cst_47 : Ref sig .tc := ⟨.hbm, 301, rfl⟩
abbrev main_v219 : Ref sig .tc := ⟨.hbm, 302, rfl⟩
abbrev main_v220 : Ref sig .tc := ⟨.hbm, 303, rfl⟩
abbrev main_cst_48 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_cst_49 : Ref sig .tc := ⟨.hbm, 311, rfl⟩
abbrev main_v227 : Ref sig .tc := ⟨.hbm, 312, rfl⟩
abbrev main_v228 : Ref sig .tc := ⟨.hbm, 313, rfl⟩
abbrev main_cst_50 : Ref sig .tc := ⟨.hbm, 314, rfl⟩
abbrev main_v229 : Ref sig .tc := ⟨.hbm, 315, rfl⟩
abbrev main_v230 : Ref sig .tc := ⟨.hbm, 316, rfl⟩
abbrev main_cst_51 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_cst_52 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_cst_53 : Ref sig .tc := ⟨.hbm, 327, rfl⟩
abbrev main_v239 : Ref sig .tc := ⟨.hbm, 328, rfl⟩
abbrev main_v240 : Ref sig .tc := ⟨.hbm, 329, rfl⟩
abbrev main_cst_54 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_cst_55 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_cst_56 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_cst_57 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_cst_58 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_cst_59 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_cst_60 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_cst_61 : Ref sig .tc := ⟨.hbm, 374, rfl⟩
abbrev main_v278 : Ref sig .tc := ⟨.hbm, 375, rfl⟩
abbrev main_v279 : Ref sig .tc := ⟨.hbm, 376, rfl⟩
abbrev main_cst_62 : Ref sig .tc := ⟨.hbm, 377, rfl⟩
abbrev main_v280 : Ref sig .tc := ⟨.hbm, 378, rfl⟩
abbrev main_v281 : Ref sig .tc := ⟨.hbm, 379, rfl⟩
abbrev main_cst_63 : Ref sig .tc := ⟨.hbm, 380, rfl⟩
abbrev main_v282 : Ref sig .tc := ⟨.hbm, 381, rfl⟩
abbrev main_v283 : Ref sig .tc := ⟨.hbm, 382, rfl⟩
abbrev main_cst_64 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩

abbrev nD : Nat := 1
abbrev τ : Topo := Topo.v7x

variable {F : FTy → Type} [FloatOps F]
-- ==== Kernel5.lean ====
abbrev S8192x5632 : Shape := ⟨2, ![8192, 5632]⟩
abbrev S8192x1024 : Shape := ⟨2, ![8192, 1024]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x2816 : Shape := ⟨2, ![1, 2816]⟩
abbrev S1x1024 : Shape := ⟨2, ![1, 1024]⟩
abbrev S8192x2816 : Shape := ⟨2, ![8192, 2816]⟩
abbrev S40x2816 : Shape := ⟨2, ![40, 2816]⟩
abbrev S512x5632 : Shape := ⟨2, ![512, 5632]⟩
abbrev S16x2816 : Shape := ⟨2, ![16, 2816]⟩
abbrev S512x1024 : Shape := ⟨2, ![512, 1024]⟩
abbrev S512x2816 : Shape := ⟨2, ![512, 2816]⟩
abbrev S512x256 : Shape := ⟨2, ![512, 256]⟩
abbrev S16x256 : Shape := ⟨2, ![16, 256]⟩
abbrev S3x256 : Shape := ⟨2, ![3, 256]⟩
abbrev S1x256 : Shape := ⟨2, ![1, 256]⟩
abbrev S496x256 : Shape := ⟨2, ![496, 256]⟩
abbrev S256x1024 : Shape := ⟨2, ![256, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x128 : Shape := ⟨2, ![1, 128]⟩

abbrev nBuf : Space → Nat
  | .hbm => 14
  | .vmem => 20
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S2816x1024, .bf16⟩
  | .hbm, ⟨8, _⟩ => ⟨S1x2816, .f32⟩
  | .hbm, ⟨9, _⟩ => ⟨S1x1024, .f32⟩
  | .hbm, ⟨10, _⟩ => ⟨S8192x2816, .bf16⟩
  | .hbm, ⟨11, _⟩ => ⟨S8192x2816, .bf16⟩
  | .hbm, ⟨12, _⟩ => ⟨S8192x1024, .f32⟩
  | .hbm, ⟨13, _⟩ => ⟨S40x2816, .f32⟩
  | .local _ .vmem, ⟨0, _⟩ => ⟨S512x5632, .bf16⟩
  | .local _ .vmem, ⟨1, _⟩ => ⟨S512x5632, .bf16⟩
  | .local _ .vmem, ⟨2, _⟩ => ⟨S16x2816, .bf16⟩
  | .local _ .vmem, ⟨3, _⟩ => ⟨S16x2816, .bf16⟩
  | .local _ .vmem, ⟨4, _⟩ => ⟨S512x1024, .f32⟩
  | .local _ .vmem, ⟨5, _⟩ => ⟨S512x1024, .f32⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .f32⟩
  | .local _ .vmem, ⟨17, _⟩ => ⟨S512x1024, .f32⟩
  | .local _ .vmem, ⟨18, _⟩ => ⟨S40x2816, .f32⟩
  | .local _ .vmem, ⟨19, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S40x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S8192x5632 : Shape := ⟨2, ![8192, 5632]⟩
abbrev S8192x1024 : Shape := ⟨2, ![8192, 1024]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S8192 : Shape := ⟨1, ![8192]⟩
abbrev S8192x1 : Shape := ⟨2, ![8192, 1]⟩
abbrev S1x1024 : Shape := ⟨2, ![1, 1024]⟩
abbrev S32x2816 : Shape := ⟨2, ![32, 2816]⟩
abbrev S1x1792 : Shape := ⟨2, ![1, 1792]⟩
abbrev S1x128 : Shape := ⟨2, ![1, 128]⟩
abbrev S1x2688 : Shape := ⟨2, ![1, 2688]⟩
abbrev S6x2816 : Shape := ⟨2, ![6, 2816]⟩
abbrev S40x2816 : Shape := ⟨2, ![40, 2816]⟩

abbrev nBuf : Space → Nat
  | .hbm => 126
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S8192x2816, .bf16⟩
  | .hbm, ⟨8, _⟩ => ⟨S8192x2816, .f32⟩
  | .hbm, ⟨9, _⟩ => ⟨S8192x2816, .bf16⟩
  | .hbm, ⟨10, _⟩ => ⟨S8192x2816, .f32⟩
  | .hbm, ⟨11, _⟩ => ⟨S_, .f32⟩
  | .hbm, ⟨12, _⟩ => ⟨S2x2816, .f32⟩
  | .hbm, ⟨13, _⟩ => ⟨S8194x2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S1x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S_, .f32⟩
  | .hbm, ⟨82, _⟩ => ⟨S8192, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S_, .f32⟩
  | .hbm, ⟨112, _⟩ => ⟨S32x2816, .f32⟩
  | .hbm, ⟨113, _⟩ => ⟨S1x1024, .f32⟩
  | .hbm, ⟨114, _⟩ => ⟨S_, .f32⟩
  | .hbm, ⟨115, _⟩ => ⟨S1x1792, .f32⟩
  | .hbm, ⟨116, _⟩ => ⟨S1x2816, .f32⟩
  | .hbm, ⟨117, _⟩ => ⟨S1x128, .f32⟩
  | .hbm, ⟨118, _⟩ => ⟨S_, .f32⟩
  | .hbm, ⟨119, _⟩ => ⟨S1x2688, .f32⟩
  | .hbm, ⟨120, _⟩ => ⟨S1x2816, .f32⟩
  | .hbm, ⟨121, _⟩ => ⟨S_, .f32⟩
  | .hbm, ⟨122, _⟩ => ⟨S6x2816, .f32⟩
  | .hbm, ⟨123, _⟩ => ⟨S40x2816, .f32⟩
  | .hbm, ⟨124, _⟩ => ⟨S8192x2816, .bf16⟩
  | .hbm, ⟨125, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_0 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_cst_9 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_cst_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]
-- ==== Kernel6.lean ====
abbrev S8192x4608 : Shape := ⟨2, ![8192, 4608]⟩
abbrev S8192x1024 : Shape := ⟨2, ![8192, 1024]⟩
abbrev S2048 : Shape := ⟨1, ![2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x512x1024 : Shape := ⟨3, ![2, 512, 1024]⟩
abbrev S1024x1024 : Shape := ⟨2, ![1024, 1024]⟩
abbrev S1x2048 : Shape := ⟨2, ![1, 2048]⟩
abbrev S1x512 : Shape := ⟨2, ![1, 512]⟩
abbrev S4x128x1 : Shape := ⟨3, ![4, 128, 1]⟩
abbrev S8192x512 : Shape := ⟨2, ![8192, 512]⟩
abbrev S512x4608 : Shape := ⟨2, ![512, 4608]⟩
abbrev S16x4608 : Shape := ⟨2, ![16, 4608]⟩
abbrev S512x1024 : Shape := ⟨2, ![512, 1024]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S16x512 : Shape := ⟨2, ![16, 512]⟩
abbrev S496x512 : Shape := ⟨2, ![496, 512]⟩
abbrev S1x512x1024 : Shape := ⟨3, ![1, 512, 1024]⟩
abbrev S1x1024 : Shape := ⟨2, ![1, 1024]⟩

abbrev nBuf : Space → Nat
  | .hbm => 23
  | .vmem => 29
  | .smem => 0
  | _ => 0

abbrev bufTy : (tb : Table) → Fin (tcTables nBuf tb) → BufTy
  | .hbm, ⟨0, _⟩ => ⟨S8192x4608, .bf16⟩
  | .hbm, ⟨1, _⟩ => ⟨S8192x1024, .f32⟩
  | .hbm, ⟨2, _⟩ => ⟨S2048, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S3x512, .f32⟩
  | .hbm, ⟨8, _⟩ => ⟨S2x512x1024, .f32⟩
  | .hbm, ⟨9, _⟩ => ⟨S1024x1024, .f32⟩
  | .hbm, ⟨10, _⟩ => ⟨S2x512x1024, .bf16⟩
  | .hbm, ⟨11, _⟩ => ⟨S1024x1024, .bf16⟩
  | .hbm, ⟨12, _⟩ => ⟨S1x2048, .f32⟩
  | .hbm, ⟨13, _⟩ => ⟨S1x512, .f32⟩
  | .hbm, ⟨14, _⟩ => ⟨S1x512, .f32⟩
  | .hbm, ⟨15, _⟩ => ⟨S4x128x1, .f32⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .f32⟩
  | .local _ .vmem, ⟨0, _⟩ => ⟨S512x4608, .bf16⟩
  | .local _ .vmem, ⟨1, _⟩ => ⟨S512x4608, .bf16⟩
  | .local _ .vmem, ⟨2, _⟩ => ⟨S16x4608, .bf16⟩
  | .local _ .vmem, ⟨3, _⟩ => ⟨S16x4608, .bf16⟩
  | .local _ .vmem, ⟨4, _⟩ => ⟨S512x1024, .f32⟩
  | .local _ .vmem, ⟨5, _⟩ => ⟨S512x1024, .f32⟩
  | .local _ .vmem, ⟨6, _⟩ => ⟨S1x2048, .f32⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S4x128x1, .f32⟩
  | .local _ .vmem, ⟨11, _⟩ => ⟨S3x512, .f32⟩
  | .local _ .vmem, ⟨12, _⟩ => ⟨S2x512x1024, .bf16⟩
  | .local _ .vmem, ⟨13, _⟩ => ⟨S1024x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x512, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel6Ideal.lean ====
variable {F : FTy → Type} [FloatOps F] [Named F]
def κ : String → Option EReal := fun
  | "gelu_c0" => some ((6693141 / 8388608 : ℝ) : EReal)
  | "gelu_c1" => some ((8943 / 200000 : ℝ) : EReal)
  | "gelu_c3" => some ((26829 / 200000 : ℝ) : EReal)
  | _ => none
-- ==== Reference6Ideal.lean ====
abbrev S8192x4608 : Shape := ⟨2, ![8192, 4608]⟩
abbrev S8192x1024 : Shape := ⟨2, ![8192, 1024]⟩
abbrev S2048 : Shape := ⟨1, ![2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x512x1024 : Shape := ⟨3, ![2, 512, 1024]⟩
abbrev S1024x1024 : Shape := ⟨2, ![1024, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S64x128x4x128 : Shape := ⟨4, ![64, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S2x512 : Shape := ⟨2, ![2, 512]⟩
abbrev S8194x512 : Shape := ⟨2, ![8194, 512]⟩
abbrev S1x512x1024 : Shape := ⟨3, ![1, 512, 1024]⟩
abbrev S512x1024 : Shape := ⟨2, ![512, 1024]⟩
abbrev S1024 : Shape := ⟨1, ![1024]⟩
abbrev S1x1024 : Shape := ⟨2, ![1, 1024]⟩

abbrev nBuf : Space → Nat
  | .hbm => 183
  | .vmem => 0
  | .smem => 0
  | _ => 0

abbrev hbmTy0_0 (i : Nat) : BufTy := match i % 128 with
  | 0 => ⟨S8192x4608, .bf16⟩
  | 1 => ⟨S8192x1024, .f32⟩
  | 2 => ⟨S2048, .f32⟩
  | 3 => ⟨S512, .f32⟩
  | 4 => ⟨S512, .f32⟩
  | 5 => ⟨S4x128x128, .f32⟩
  | 6 => ⟨S4x128, .f32⟩
  | 7 => ⟨S3x512, .f32⟩
  | 8 => ⟨S2x512x1024, .f32⟩
  | 9 => ⟨S1024x1024, .f32⟩
  | 10 => ⟨S8192x4608, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x1024, .f32⟩
  | 17 => ⟨S8192x1024, .f32⟩
  | 18 => ⟨S_, .f32⟩
  | 19 => ⟨S_, .f32⟩
  | 20 => ⟨S_, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S8192x512, .f32⟩
  | 37 => ⟨S_, .f32⟩
  | 38 => ⟨S_, .f32⟩
  | 39 => ⟨S_, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x512, .f32⟩
  | 63 => ⟨S8192x512, .f32⟩
  | 64 => ⟨S8192x512, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S8192x512, .f32⟩
  | 72 => ⟨S8192x512, .f32⟩
  | 73 => ⟨S_, .f32⟩
  | 74 => ⟨S8192x1, .f32⟩
  | 75 => ⟨S8192x1, .f32⟩
  | 76 => ⟨S8192x1, .f32⟩
  | 77 => ⟨S8192x512, .f32⟩
  | 78 => ⟨S8192x512, .f32⟩
  | 79 => ⟨S1x512, .f32⟩
  | 80 => ⟨S8192x512, .f32⟩
  | 81 => ⟨S8192x512, .f32⟩
  | 82 => ⟨S1x512, .f32⟩
  | 83 => ⟨S8192x512, .f32⟩
  | 84 => ⟨S8192x512, .f32⟩
  | 85 => ⟨S64x128x4x128, .f32⟩
  | 86 => ⟨S128, .i32⟩
  | 87 => ⟨S_, .i32⟩
  | 88 => ⟨S_, .i32⟩
  | 89 => ⟨S128, .i32⟩
  | 90 => ⟨S128, .i32⟩
  | 91 => ⟨S128, .i32⟩
  | 92 => ⟨S_, .i32⟩
  | 93 => ⟨S128, .i32⟩
  | 94 => ⟨S128, .i1⟩
  | 95 => ⟨S128, .i32⟩
  | 96 => ⟨S128, .i32⟩
  | 97 => ⟨S_, .i32⟩
  | 98 => ⟨S128, .i32⟩
  | 99 => ⟨S128, .i1⟩
  | 100 => ⟨S128, .i1⟩
  | 101 => ⟨S_, .i32⟩
  | 102 => ⟨S128, .i32⟩
  | 103 => ⟨S128, .i32⟩
  | 104 => ⟨S128, .i32⟩
  | 105 => ⟨S1x128, .i32⟩
  | 106 => ⟨S128x1, .i32⟩
  | 107 => ⟨S128x128, .i32⟩
  | 108 => ⟨S128x128, .i32⟩
  | 109 => ⟨S128x128, .i1⟩
  | 110 => ⟨S1x128x128, .i1⟩
  | 111 => ⟨S_, .f32⟩
  | 112 => ⟨S4x128x128, .i1⟩
  | 113 => ⟨S4x128x128, .f32⟩
  | 114 => ⟨S4x128x128, .f32⟩
  | 115 => ⟨S4x64x128x128, .f32⟩
  | 116 => ⟨S64x128x4x128, .f32⟩
  | 117 => ⟨S128x4, .f32⟩
  | 118 => ⟨S1x128x4x1, .f32⟩
  | 119 => ⟨S64x128x4x128, .f32⟩
  | 120 => ⟨S64x128x4x128, .f32⟩
  | 121 => ⟨S8192x512, .f32⟩
  | 122 => ⟨S8192x512, .f32⟩
  | 123 => ⟨S8192x512, .f32⟩
  | 124 => ⟨S1x512, .f32⟩
  | 125 => ⟨S1x512, .f32⟩
  | 126 => ⟨S1x512, .f32⟩
  | 127 => ⟨S_, .f32⟩
  | _ => ⟨S8192x4608, .bf16⟩

abbrev hbmTy0_1 (i : Nat) : BufTy := match i % 128 with
  | 0 => ⟨S2x512, .f32⟩
  | 1 => ⟨S8194x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S1x512x1024, .f32⟩
  | 15 => ⟨S512x1024, .f32⟩
  | 16 => ⟨S8192x1024, .f32⟩
  | 17 => ⟨S1x512x1024, .f32⟩
  | 18 => ⟨S512x1024, .f32⟩
  | 19 => ⟨S8192x1024, .f32⟩
  | 20 => ⟨S1024, .f32⟩
  | 21 => ⟨S1x1024, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S1024, .f32⟩
  | 34 => ⟨S1x1024, .f32⟩
  | 35 => ⟨S8192x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S8192x1024, .f32⟩
  | 46 => ⟨S8192x1024, .f32⟩
  | 47 => ⟨S8192x512, .bf16⟩
  | 48 => ⟨S8192x512, .bf16⟩
  | 49 => ⟨S8192x512, .bf16⟩
  | 50 => ⟨S8192x1024, .bf16⟩
  | 51 => ⟨S8192x1024, .bf16⟩
  | 52 => ⟨S8192x1024, .bf16⟩
  | 53 => ⟨S8192x1024, .f32⟩
  | 54 => ⟨S8192x1024, .f32⟩
  | _ => ⟨S8192x4608, .bf16⟩

abbrev hbmTy (i : Nat) : BufTy := match i / 128 with
  | 0 => hbmTy0_0 i
  | 1 => hbmTy0_1 i
  | _ => ⟨S8192x4608, .bf16⟩

abbrev bufTy : (tb : Table) → Fin (tcTables nBuf tb) → BufTy
  | .hbm, ⟨i, _⟩ => hbmTy i
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_v8 : Ref sig .tc := ⟨.hbm, 96, rfl⟩
abbrev main_call0_c : Ref sig .tc := ⟨.hbm, 97, rfl⟩
abbrev main_call0_v9 : Ref sig .tc := ⟨.hbm, 98, rfl⟩
abbrev main_call0_v10 : Ref sig .tc := ⟨.hbm, 99, rfl⟩
abbrev main_call0_v11 : Ref sig .tc := ⟨.hbm, 100, rfl⟩
abbrev main_call0_c_0 : Ref sig .tc := ⟨.hbm, 101, rfl⟩
abbrev main_call0_v12 : Ref sig .tc := ⟨.hbm, 102, rfl⟩
abbrev main_call0_v13 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_14 : Ref sig .tc := ⟨.hbm, 111, rfl⟩
abbrev main_call1_v0 : Ref sig .tc := ⟨.hbm, 112, rfl⟩
abbrev main_call1_v1 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_15 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_16 : Ref sig .tc := ⟨.hbm, 154, rfl⟩
abbrev main_v108 : Ref sig .tc := ⟨.hbm, 155, rfl⟩
abbrev main_v109 : Ref sig .tc := ⟨.hbm, 156, rfl⟩
abbrev main_cst_17 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_18 : Ref sig .tc := ⟨.hbm, 167, rfl⟩
abbrev main_v119 : Ref sig .tc := ⟨.hbm, 168, rfl⟩
abbrev main_v120 : Ref sig .tc := ⟨.hbm, 169, rfl⟩
abbrev main_cst_19 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1024x4608 : Shape := ⟨2, ![1024, 4608]⟩
abbrev S4608x1024 : Shape := ⟨2, ![4608, 1024]⟩
abbrev S1x1024 : Shape := ⟨2, ![1, 1024]⟩
abbrev S8192x4608 : Shape := ⟨2, ![8192, 4608]⟩
abbrev S1024x1024 : Shape := ⟨2, ![1024, 1024]⟩
abbrev S1024x1 : Shape := ⟨2, ![1024, 1]⟩
abbrev S512x1024 : Shape := ⟨2, ![512, 1024]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S4608x1024, .f32⟩
  | .hbm, ⟨4, _⟩ => ⟨S4608x1024, .bf16⟩
  | .hbm, ⟨5, _⟩ => ⟨S1x1024, .f32⟩
  | .hbm, ⟨6, _⟩ => ⟨S8192x1024, .bf16⟩
  | .hbm, ⟨7, _⟩ => ⟨S8192x4608, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4608x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4608, .bf16⟩
  | .local _ .vmem, ⟨7, _⟩ => ⟨S1024x4608, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x1024 : Shape := ⟨2, ![8192, 1024]⟩
abbrev S1024 : Shape := ⟨1, ![1024]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4608 : Shape := ⟨2, ![8192, 4608]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x4608, .f32⟩
  | .hbm, ⟨21, _⟩ => ⟨S8192x4608, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S8192x5632 : Shape := ⟨2, ![8192, 5632]⟩
abbrev S8192x1024 : Shape := ⟨2, ![8192, 1024]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S8192x2816 : Shape := ⟨2, ![8192, 2816]⟩
abbrev S512x5632 : Shape := ⟨2, ![512, 5632]⟩
abbrev S16x2816 : Shape := ⟨2, ![16, 2816]⟩
abbrev S512x1024 : Shape := ⟨2, ![512, 1024]⟩
abbrev S512x2816 : Shape := ⟨2, ![512, 2816]⟩
abbrev S512x256 : Shape := ⟨2, ![512, 256]⟩
abbrev S16x256 : Shape := ⟨2, ![16, 256]⟩
abbrev S3x256 : Shape := ⟨2, ![3, 256]⟩
abbrev S1x256 : Shape := ⟨2, ![1, 256]⟩
abbrev S496x256 : Shape := ⟨2, ![496, 256]⟩
abbrev S256x1024 : Shape := ⟨2, ![256, 1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S2816x1024, .bf16⟩
  | .hbm, ⟨6, _⟩ => ⟨S1x2816, .f32⟩
  | .hbm, ⟨7, _⟩ => ⟨S8192x2816, .bf16⟩
  | .hbm, ⟨8, _⟩ => ⟨S8192x2816, .bf16⟩
  | .hbm, ⟨9, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S16x2816, .bf16⟩
  | .local _ .vmem, ⟨3, _⟩ => ⟨S16x2816, .bf16⟩
  | .local _ .vmem, ⟨4, _⟩ => ⟨S512x1024, .f32⟩
  | .local _ .vmem, ⟨5, _⟩ => ⟨S512x1024, .f32⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x5632 : Shape := ⟨2, ![8192, 5632]⟩
abbrev S8192x1024 : Shape := ⟨2, ![8192, 1024]⟩
abbrev S3x2816 : Shape := ⟨2, ![3, 2816]⟩
abbrev S2816 : Shape := ⟨1, ![2816]⟩
abbrev S2816x1024 : Shape := ⟨2, ![2816, 1024]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S8192x2816, .bf16⟩
  | .hbm, ⟨6, _⟩ => ⟨S8192x2816, .f32⟩
  | .hbm, ⟨7, _⟩ => ⟨S8192x2816, .bf16⟩
  | .hbm, ⟨8, _⟩ => ⟨S8192x2816, .f32⟩
  | .hbm, ⟨9, _⟩ => ⟨S_, .f32⟩
  | .hbm, ⟨10, _⟩ => ⟨S2x2816, .f32⟩
  | .hbm, ⟨11, _⟩ => ⟨S8194x2816, .f32⟩
  | .hbm, ⟨12, _⟩ => ⟨S1x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S1x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S1x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S1x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .bf16⟩
  | .hbm, ⟨40, _⟩ => ⟨S8192x2816, .bf16⟩
  | .hbm, ⟨41, _⟩ => ⟨S8192x1024, .f32⟩
  | .hbm, ⟨42, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel9.lean ====
abbrev S8192x1024 : Shape := ⟨2, ![8192, 1024]⟩
abbrev S8192x5632 : Shape := ⟨2, ![8192, 5632]⟩
abbrev S3x2816 : Shape := ⟨2, ![3, 2816]⟩
abbrev S2816 : Shape := ⟨1, ![2816]⟩
abbrev S2816x1024 : Shape := ⟨2, ![2816, 1024]⟩
abbrev S40x2816 : Shape := ⟨2, ![40, 2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S512x1024 : Shape := ⟨2, ![512, 1024]⟩
abbrev S16x1024 : Shape := ⟨2, ![16, 1024]⟩
abbrev S512x5632 : Shape := ⟨2, ![512, 5632]⟩
abbrev S16x5632 : Shape := ⟨2, ![16, 5632]⟩
abbrev S512x2816 : Shape := ⟨2, ![512, 2816]⟩
abbrev S16x2816 : Shape := ⟨2, ![16, 2816]⟩
abbrev S4x2816 : Shape := ⟨2, ![4, 2816]⟩
abbrev S528x1024 : Shape := ⟨2, ![528, 1024]⟩
abbrev S256x1024 : Shape := ⟨2, ![256, 1024]⟩
abbrev S528x256 : Shape := ⟨2, ![528, 256]⟩
abbrev S512x256 : Shape := ⟨2, ![512, 256]⟩
abbrev S16x256 : Shape := ⟨2, ![16, 256]⟩
abbrev S1x256 : Shape := ⟨2, ![1, 256]⟩
abbrev S496x256 : Shape := ⟨2, ![496, 256]⟩
abbrev S3x256 : Shape := ⟨2, ![3, 256]⟩
abbrev S256x256 : Shape := ⟨2, ![256, 256]⟩
abbrev S128x256 : Shape := ⟨2, ![128, 256]⟩
abbrev S256 : Shape := ⟨1, ![256]⟩

abbrev nBuf : Space → Nat
  | .hbm => 32
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S40x2816, .f32⟩
  | .hbm, ⟨6, _⟩ => ⟨S8192x2816, .bf16⟩
  | .hbm, ⟨7, _⟩ => ⟨S8192x2816, .f32⟩
  | .hbm, ⟨8, _⟩ => ⟨S_, .f32⟩
  | .hbm, ⟨9, _⟩ => ⟨S2x2816, .f32⟩
  | .hbm, ⟨10, _⟩ => ⟨S8194x2816, .f32⟩
  | .hbm, ⟨11, _⟩ => ⟨S1x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S1x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S1x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S1x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S2816x1024, .bf16⟩
  | .hbm, ⟨30, _⟩ => ⟨S8192x5632, .bf16⟩
  | .hbm, ⟨31, _⟩ => ⟨S40x2816, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x5632, .bf16⟩
  | .local _ .vmem, ⟨5, _⟩ => ⟨S512x5632, .bf16⟩
  | .local _ .vmem, ⟨6, _⟩ => ⟨S16x5632, .bf16⟩
  | .local _ .vmem, ⟨7, _⟩ => ⟨S16x5632, .bf16⟩
  | .local _ .vmem, ⟨8, _⟩ => ⟨S512x2816, .bf16⟩
  | .local _ .vmem, ⟨9, _⟩ => ⟨S512x2816, .bf16⟩
  | .local _ .vmem, ⟨10, _⟩ => ⟨S16x2816, .bf16⟩
  | .local _ .vmem, ⟨11, _⟩ => ⟨S16x2816, .bf16⟩
  | .local _ .vmem, ⟨12, _⟩ => ⟨S3x2816, .f32⟩
  | .local _ .vmem, ⟨13, _⟩ => ⟨S2816x1024, .bf16⟩
  | .local _ .vmem, ⟨14, _⟩ => ⟨S40x2816, .f32⟩
  | .local _ .vmem, ⟨15, _⟩ => ⟨S512x5632, .bf16⟩
  | .local _ .vmem, ⟨16, _⟩ => ⟨S512x5632, .bf16⟩
  | .local _ .vmem, ⟨17, _⟩ => ⟨S40x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S40x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S8192x1024 : Shape := ⟨2, ![8192, 1024]⟩
abbrev S8192x5632 : Shape := ⟨2, ![8192, 5632]⟩
abbrev S3x2816 : Shape := ⟨2, ![3, 2816]⟩
abbrev S2816 : Shape := ⟨1, ![2816]⟩
abbrev S2816x1024 : Shape := ⟨2, ![2816, 1024]⟩
abbrev S40x2816 : Shape := ⟨2, ![40, 2816]⟩
abbrev S8192x2816 : Shape := ⟨2, ![8192, 2816]⟩
abbrev S_ : Shape := ⟨0, ![]⟩
abbrev S2x2816 : Shape := ⟨2, ![2, 2816]⟩
abbrev S8194x2816 : Shape := ⟨2, ![8194, 2816]⟩
abbrev S1x2816 : Shape := ⟨2, ![1, 2816]⟩
abbrev S8x2816 : Shape := ⟨2, ![8, 2816]⟩
abbrev S28x2816 : Shape := ⟨2, ![28, 2816]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S3x2816, .f32⟩
  | .hbm, ⟨3, _⟩ => ⟨S2816, .f32⟩
  | .hbm, ⟨4, _⟩ => ⟨S2816x1024, .f32⟩
  | .hbm, ⟨5, _⟩ => ⟨S40x2816, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S2x2816, .f32⟩
  | .hbm, ⟨11, _⟩ => ⟨S8194x2816, .f32⟩
  | .hbm, ⟨12, _⟩ => ⟨S_, .f32⟩
  | .hbm, ⟨13, _⟩ => ⟨S2x2816, .f32⟩
  | .hbm, ⟨14, _⟩ => ⟨S1x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S1x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S1x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S1x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S2816, .f32⟩
  | .hbm, ⟨55, _⟩ => ⟨S1x2816, .f32⟩
  | .hbm, ⟨56, _⟩ => ⟨S_, .f32⟩
  | .hbm, ⟨57, _⟩ => ⟨S2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S_, .f32⟩
  | .hbm, ⟨62, _⟩ => ⟨S2816, .f32⟩
  | .hbm, ⟨63, _⟩ => ⟨S1x2816, .f32⟩
  | .hbm, ⟨64, _⟩ => ⟨S_, .f32⟩
  | .hbm, ⟨65, _⟩ => ⟨S8194x2816, .f32⟩
  | .hbm, ⟨66, _⟩ => ⟨S_, .f32⟩
  | .hbm, ⟨67, _⟩ => ⟨S3x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S_, .f32⟩
  | .hbm, ⟨72, _⟩ => ⟨S2816, .f32⟩
  | .hbm, ⟨73, _⟩ => ⟨S1x2816, .f32⟩
  | .hbm, ⟨74, _⟩ => ⟨S_, .f32⟩
  | .hbm, ⟨75, _⟩ => ⟨S8194x2816, .f32⟩
  | .hbm, ⟨76, _⟩ => ⟨S8194x2816, .f32⟩
  | .hbm, ⟨77, _⟩ => ⟨S_, .f32⟩
  | .hbm, ⟨78, _⟩ => ⟨S3x2816, .f32⟩
  | .hbm, ⟨79, _⟩ => ⟨S3x2816, .f32⟩
  | .hbm, ⟨80, _⟩ => ⟨S8192x2816, .f32⟩
  | .hbm, ⟨81, _⟩ => ⟨S8192x2816, .f32⟩
  | .hbm, ⟨82, _⟩ => ⟨S8192x2816, .f32⟩
  | .hbm, ⟨83, _⟩ => ⟨S_, .f32⟩
  | .hbm, ⟨84, _⟩ => ⟨S2816, .f32⟩
  | .hbm, ⟨85, _⟩ => ⟨S1x2816, .f32⟩
  | .hbm, ⟨86, _⟩ => ⟨S_, .f32⟩
  | .hbm, ⟨87, _⟩ => ⟨S8194x2816, .f32⟩
  | .hbm, ⟨88, _⟩ => ⟨S8194x2816, .f32⟩
  | .hbm, ⟨89, _⟩ => ⟨S_, .f32⟩
  | .hbm, ⟨90, _⟩ => ⟨S3x2816, .f32⟩
  | .hbm, ⟨91, _⟩ => ⟨S3x2816, .f32⟩
  | .hbm, ⟨92, _⟩ => ⟨S2x2816, .f32⟩
  | .hbm, ⟨93, _⟩ => ⟨S8192x2816, .f32⟩
  | .hbm, ⟨94, _⟩ => ⟨S_, .f32⟩
  | .hbm, ⟨95, _⟩ => ⟨S8192x5632, .f32⟩
  | .hbm, ⟨96, _⟩ => ⟨S_, .f32⟩
  | .hbm, ⟨97, _⟩ => ⟨S8192x5632, .f32⟩
  | .hbm, ⟨98, _⟩ => ⟨S8192x5632, .f32⟩
  | .hbm, ⟨99, _⟩ => ⟨S8192x5632, .bf16⟩
  | .hbm, ⟨100, _⟩ => ⟨S8x2816, .f32⟩
  | .hbm, ⟨101, _⟩ => ⟨S1x2816, .f32⟩
  | .hbm, ⟨102, _⟩ => ⟨S28x2816, .f32⟩
  | .hbm, ⟨103, _⟩ => ⟨S40x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v29 : Ref sig .tc := ⟨.hbm, 52, rfl⟩
abbrev main_cst_1 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_cst_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩

abbrev nD : Nat := 1
abbrev τ : Topo := Topo.v7x

variable {F : FTy → Type} [FloatOps F]
-- ==== Kernel10.lean ====
abbrev S8192x1024 : Shape := ⟨2, ![8192, 1024]⟩
abbrev S8192x4608 : Shape := ⟨2, ![8192, 4608]⟩
abbrev S2048 : Shape := ⟨1, ![2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x512x1024 : Shape := ⟨3, ![2, 512, 1024]⟩
abbrev S1024x1024 : Shape := ⟨2, ![1024, 1024]⟩
abbrev S40x2816 : Shape := ⟨2, ![40, 2816]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S64x128x4x128 : Shape := ⟨4, ![64, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S2x512 : Shape := ⟨2, ![2, 512]⟩
abbrev S8194x512 : Shape := ⟨2, ![8194, 512]⟩
abbrev S1x512x1024 : Shape := ⟨3, ![1, 512, 1024]⟩
abbrev S512x1024 : Shape := ⟨2, ![512, 1024]⟩
abbrev S1x2048 : Shape := ⟨2, ![1, 2048]⟩
abbrev S4x128x1 : Shape := ⟨3, ![4, 128, 1]⟩
abbrev S16x1024 : Shape := ⟨2, ![16, 1024]⟩
abbrev S512x4608 : Shape := ⟨2, ![512, 4608]⟩
abbrev S16x4608 : Shape := ⟨2, ![16, 4608]⟩
abbrev S512x512 : Shape := ⟨2, ![512, 512]⟩
abbrev S6x2816 : Shape := ⟨2, ![6, 2816]⟩
abbrev S528x1024 : Shape := ⟨2, ![528, 1024]⟩
abbrev S1x1024 : Shape := ⟨2, ![1, 1024]⟩
abbrev S256x1024 : Shape := ⟨2, ![256, 1024]⟩
abbrev S128x1024 : Shape := ⟨2, ![128, 1024]⟩
abbrev S1024 : Shape := ⟨1, ![1024]⟩
abbrev S512x1 : Shape := ⟨2, ![512, 1]⟩
abbrev S1x128x1 : Shape := ⟨3, ![1, 128, 1]⟩
abbrev S528x512 : Shape := ⟨2, ![528, 512]⟩
abbrev S16x512 : Shape := ⟨2, ![16, 512]⟩
abbrev S496x512 : Shape := ⟨2, ![496, 512]⟩
abbrev S256x512 : Shape := ⟨2, ![256, 512]⟩
abbrev S128x512 : Shape := ⟨2, ![128, 512]⟩

abbrev nBuf : Space → Nat
  | .hbm => 165
  | .vmem => 35
  | .smem => 0
  | _ => 0

abbrev hbmTy0_0 (i : Nat) : BufTy := match i % 128 with
  | 0 => ⟨S8192x1024, .f32⟩
  | 1 => ⟨S8192x4608, .bf16⟩
  | 2 => ⟨S2048, .f32⟩
  | 3 => ⟨S512, .f32⟩
  | 4 => ⟨S512, .f32⟩
  | 5 => ⟨S4x128x128, .f32⟩
  | 6 => ⟨S4x128, .f32⟩
  | 7 => ⟨S3x512, .f32⟩
  | 8 => ⟨S2x512x1024, .f32⟩
  | 9 => ⟨S1024x1024, .f32⟩
  | 10 => ⟨S40x2816, .f32⟩
  | 11 => ⟨S8192x4608, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x1024, .f32⟩
  | 18 => ⟨S8192x1024, .f32⟩
  | 19 => ⟨S1x512, .f32⟩
  | 20 => ⟨S1x512, .f32⟩
  | 21 => ⟨S1x512, .f32⟩
  | 22 => ⟨S_, .f32⟩
  | 23 => ⟨S_, .f32⟩
  | 24 => ⟨S_, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S8192x512, .f32⟩
  | 41 => ⟨S_, .f32⟩
  | 42 => ⟨S_, .f32⟩
  | 43 => ⟨S_, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x512, .f32⟩
  | 67 => ⟨S8192x512, .f32⟩
  | 68 => ⟨S8192x512, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S8192x512, .f32⟩
  | 76 => ⟨S8192x512, .f32⟩
  | 77 => ⟨S_, .f32⟩
  | 78 => ⟨S8192x1, .f32⟩
  | 79 => ⟨S8192x1, .f32⟩
  | 80 => ⟨S8192x1, .f32⟩
  | 81 => ⟨S8192x512, .f32⟩
  | 82 => ⟨S8192x512, .f32⟩
  | 83 => ⟨S1x512, .f32⟩
  | 84 => ⟨S8192x512, .f32⟩
  | 85 => ⟨S8192x512, .f32⟩
  | 86 => ⟨S1x512, .f32⟩
  | 87 => ⟨S8192x512, .f32⟩
  | 88 => ⟨S8192x512, .f32⟩
  | 89 => ⟨S64x128x4x128, .f32⟩
  | 90 => ⟨S128, .i32⟩
  | 91 => ⟨S_, .i32⟩
  | 92 => ⟨S_, .i32⟩
  | 93 => ⟨S128, .i32⟩
  | 94 => ⟨S128, .i32⟩
  | 95 => ⟨S128, .i32⟩
  | 96 => ⟨S_, .i32⟩
  | 97 => ⟨S128, .i32⟩
  | 98 => ⟨S128, .i1⟩
  | 99 => ⟨S128, .i32⟩
  | 100 => ⟨S128, .i32⟩
  | 101 => ⟨S_, .i32⟩
  | 102 => ⟨S128, .i32⟩
  | 103 => ⟨S128, .i1⟩
  | 104 => ⟨S128, .i1⟩
  | 105 => ⟨S_, .i32⟩
  | 106 => ⟨S128, .i32⟩
  | 107 => ⟨S128, .i32⟩
  | 108 => ⟨S128, .i32⟩
  | 109 => ⟨S1x128, .i32⟩
  | 110 => ⟨S128x1, .i32⟩
  | 111 => ⟨S128x128, .i32⟩
  | 112 => ⟨S128x128, .i32⟩
  | 113 => ⟨S128x128, .i1⟩
  | 114 => ⟨S1x128x128, .i1⟩
  | 115 => ⟨S_, .f32⟩
  | 116 => ⟨S4x128x128, .i1⟩
  | 117 => ⟨S4x128x128, .f32⟩
  | 118 => ⟨S4x128x128, .f32⟩
  | 119 => ⟨S4x64x128x128, .f32⟩
  | 120 => ⟨S64x128x4x128, .f32⟩
  | 121 => ⟨S128x4, .f32⟩
  | 122 => ⟨S1x128x4x1, .f32⟩
  | 123 => ⟨S64x128x4x128, .f32⟩
  | 124 => ⟨S64x128x4x128, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S_, .f32⟩
  | 1 => ⟨S2x512, .f32⟩
  | 2 => ⟨S8194x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S1x512x1024, .f32⟩
  | 15 => ⟨S512x1024, .f32⟩
  | 16 => ⟨S8192x1024, .f32⟩
  | 17 => ⟨S8192x512, .f32⟩
  | 18 => ⟨S1x512x1024, .f32⟩
  | 19 => ⟨S512x1024, .f32⟩
  | 20 => ⟨S8192x1024, .f32⟩
  | 21 => ⟨S8192x512, .bf16⟩
  | 22 => ⟨S8192x1024, .bf16⟩
  | 23 => ⟨S8192x1024, .bf16⟩
  | 24 => ⟨S4x128x128, .f32⟩
  | 25 => ⟨S1024x1024, .bf16⟩
  | 26 => ⟨S2x512x1024, .bf16⟩
  | 27 => ⟨S1x2048, .f32⟩
  | 28 => ⟨S1x512, .f32⟩
  | 29 => ⟨S1x512, .f32⟩
  | 30 => ⟨S4x128x1, .f32⟩
  | 31 => ⟨S8192x4608, .bf16⟩
  | 32 => ⟨S8192x1024, .bf16⟩
  | 33 => ⟨S8192x1024, .bf16⟩
  | 34 => ⟨S4x128x128, .f32⟩
  | 35 => ⟨S4x128x1, .f32⟩
  | 36 => ⟨S40x2816, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x4608, .bf16⟩
  | .local _ .vmem, ⟨5, _⟩ => ⟨S512x4608, .bf16⟩
  | .local _ .vmem, ⟨6, _⟩ => ⟨S16x4608, .bf16⟩
  | .local _ .vmem, ⟨7, _⟩ => ⟨S16x4608, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x2048, .f32⟩
  | .local _ .vmem, ⟨15, _⟩ => ⟨S1x512, .f32⟩
  | .local _ .vmem, ⟨16, _⟩ => ⟨S1x512, .f32⟩
  | .local _ .vmem, ⟨17, _⟩ => ⟨S4x128x128, .f32⟩
  | .local _ .vmem, ⟨18, _⟩ => ⟨S4x128x128, .f32⟩
  | .local _ .vmem, ⟨19, _⟩ => ⟨S4x128x1, .f32⟩
  | .local _ .vmem, ⟨20, _⟩ => ⟨S3x512, .f32⟩
  | .local _ .vmem, ⟨21, _⟩ => ⟨S1024x1024, .bf16⟩
  | .local _ .vmem, ⟨22, _⟩ => ⟨S2x512x1024, .bf16⟩
  | .local _ .vmem, ⟨23, _⟩ => ⟨S40x2816, .f32⟩
  | .local _ .vmem, ⟨24, _⟩ => ⟨S512x4608, .bf16⟩
  | .local _ .vmem, ⟨25, _⟩ => ⟨S512x4608, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S4x128x128, .f32⟩
  | .local _ .vmem, ⟨31, _⟩ => ⟨S4x128x1, .f32⟩
  | .local _ .vmem, ⟨32, _⟩ => ⟨S40x2816, .f32⟩
  | .local _ .vmem, ⟨33, _⟩ => ⟨S512x512, .bf16⟩
  | .local _ .vmem, ⟨34, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_v8 : Ref sig .tc := ⟨.hbm, 100, rfl⟩
abbrev main_call0_c : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_c_0 : Ref sig .tc := ⟨.hbm, 105, rfl⟩
abbrev main_call0_v12 : Ref sig .tc := ⟨.hbm, 106, rfl⟩
abbrev main_call0_v13 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_14 : Ref sig .tc := ⟨.hbm, 115, rfl⟩
abbrev main_call1_v0 : Ref sig .tc := ⟨.hbm, 116, rfl⟩
abbrev main_call1_v1 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_15 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112_0 : Ref sig .tc := ⟨.hbm, 159, rfl⟩
abbrev main_v112_1 : Ref sig .tc := ⟨.hbm, 160, rfl⟩
abbrev main_v112_2 : Ref sig .tc := ⟨.hbm, 161, rfl⟩
abbrev main_v112_3 : Ref sig .tc := ⟨.hbm, 162, rfl⟩
abbrev main_v112_4 : Ref sig .tc := ⟨.hbm, 163, rfl⟩
abbrev main_v112_5 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem21_0 : DmaSem sig := 31
abbrev cc0_sem22_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S40x2816 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x4608 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S4x128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S4x128x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S40x2816 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Kernel10Ideal.lean ====
variable {F : FTy → Type} [FloatOps F] [Named F]
def κ : String → Option EReal := fun
  | "gelu_c0" => some ((6693141 / 8388608 : ℝ) : EReal)
  | "gelu_c1" => some ((8943 / 200000 : ℝ) : EReal)
  | "gelu_c3" => some ((26829 / 200000 : ℝ) : EReal)
  | _ => none
-- ==== Reference10Ideal.lean ====
abbrev S8192x1024 : Shape := ⟨2, ![8192, 1024]⟩
abbrev S8192x4608 : Shape := ⟨2, ![8192, 4608]⟩
abbrev S2048 : Shape := ⟨1, ![2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x512x1024 : Shape := ⟨3, ![2, 512, 1024]⟩
abbrev S1024x1024 : Shape := ⟨2, ![1024, 1024]⟩
abbrev S40x2816 : Shape := ⟨2, ![40, 2816]⟩
abbrev S_ : Shape := ⟨0, ![]⟩
abbrev S8192x512 : Shape := ⟨2, ![8192, 512]⟩
abbrev S1024 : Shape := ⟨1, ![1024]⟩
abbrev S1x512 : Shape := ⟨2, ![1, 512]⟩
abbrev S8192 : Shape := ⟨1, ![8192]⟩
abbrev S8192x1 : Shape := ⟨2, ![8192, 1]⟩
abbrev S64x128x4x128 : Shape := ⟨4, ![64, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S2x512 : Shape := ⟨2, ![2, 512]⟩
abbrev S8194x512 : Shape := ⟨2, ![8194, 512]⟩
abbrev S1x512x1024 : Shape := ⟨3, ![1, 512, 1024]⟩
abbrev S512x1024 : Shape := ⟨2, ![512, 1024]⟩
abbrev S1x1024 : Shape := ⟨2, ![1, 1024]⟩
abbrev S1x2816 : Shape := ⟨2, ![1, 2816]⟩
abbrev S1x2048 : Shape := ⟨2, ![1, 2048]⟩
abbrev S1x768 : Shape := ⟨2, ![1, 768]⟩
abbrev S1x2304 : Shape := ⟨2, ![1, 2304]⟩
abbrev S33x2816 : Shape := ⟨2, ![33, 2816]⟩
abbrev S4x128x1 : Shape := ⟨3, ![4, 128, 1]⟩

abbrev nBuf : Space → Nat
  | .hbm => 392
  | .vmem => 0
  | .smem => 0
  | _ => 0

abbrev hbmTy0_0 (i : Nat) : BufTy := match i % 128 with
  | 0 => ⟨S8192x1024, .f32⟩
  | 1 => ⟨S8192x4608, .bf16⟩
  | 2 => ⟨S2048, .f32⟩
  | 3 => ⟨S512, .f32⟩
  | 4 => ⟨S512, .f32⟩
  | 5 => ⟨S4x128x128, .f32⟩
  | 6 => ⟨S4x128, .f32⟩
  | 7 => ⟨S3x512, .f32⟩
  | 8 => ⟨S2x512x1024, .f32⟩
  | 9 => ⟨S1024x1024, .f32⟩
  | 10 => ⟨S40x2816, .f32⟩
  | 11 => ⟨S_, .f32⟩
  | 12 => ⟨S8192x1024, .f32⟩
  | 13 => ⟨S8192x4608, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x1024, .f32⟩
  | 20 => ⟨S8192x1024, .f32⟩
  | 21 => ⟨S1024, .f32⟩
  | 22 => ⟨S1024, .f32⟩
  | 23 => ⟨S1x512, .f32⟩
  | 24 => ⟨S1x512, .f32⟩
  | 25 => ⟨S1x512, .f32⟩
  | 26 => ⟨S_, .f32⟩
  | 27 => ⟨S_, .f32⟩
  | 28 => ⟨S_, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S_, .f32⟩
  | 57 => ⟨S_, .f32⟩
  | 58 => ⟨S_, .f32⟩
  | 59 => ⟨S8192x512, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S8192x512, .f32⟩
  | 72 => ⟨S_, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S_, .f32⟩
  | 83 => ⟨S8192x512, .f32⟩
  | 84 => ⟨S8192x512, .f32⟩
  | 85 => ⟨S8192x512, .f32⟩
  | 86 => ⟨S_, .f32⟩
  | 87 => ⟨S8192, .f32⟩
  | 88 => ⟨S8192x1, .f32⟩
  | 89 => ⟨S_, .f32⟩
  | 90 => ⟨S8192x1, .f32⟩
  | 91 => ⟨S8192x1, .f32⟩
  | 92 => ⟨S8192x512, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S_, .f32⟩
  | 99 => ⟨S8192, .f32⟩
  | 100 => ⟨S8192x1, .f32⟩
  | 101 => ⟨S_, .f32⟩
  | 102 => ⟨S8192x1, .f32⟩
  | 103 => ⟨S8192x1, .f32⟩
  | 104 => ⟨S8192x512, .f32⟩
  | 105 => ⟨S8192x512, .f32⟩
  | 106 => ⟨S_, .f32⟩
  | 107 => ⟨S8192x1, .f32⟩
  | 108 => ⟨S8192x1, .f32⟩
  | 109 => ⟨S8192x1, .f32⟩
  | 110 => ⟨S8192x1, .f32⟩
  | 111 => ⟨S_, .f32⟩
  | 112 => ⟨S8192x1, .f32⟩
  | 113 => ⟨S8192x1, .f32⟩
  | 114 => ⟨S8192x512, .f32⟩
  | 115 => ⟨S8192x512, .f32⟩
  | 116 => ⟨S1x512, .f32⟩
  | 117 => ⟨S8192x512, .f32⟩
  | 118 => ⟨S8192x512, .f32⟩
  | 119 => ⟨S1x512, .f32⟩
  | 120 => ⟨S8192x512, .f32⟩
  | 121 => ⟨S8192x512, .f32⟩
  | 122 => ⟨S64x128x4x128, .f32⟩
  | 123 => ⟨S128, .i32⟩
  | 124 => ⟨S_, .i32⟩
  | 125 => ⟨S_, .i32⟩
  | 126 => ⟨S128, .i32⟩
  | 127 => ⟨S128, .i32⟩
  | _ => ⟨S8192x1024, .f32⟩

abbrev hbmTy0_1 (i : Nat) : BufTy := match i % 128 with
  | 0 => ⟨S128, .i32⟩
  | 1 => ⟨S_, .i32⟩
  | 2 => ⟨S128, .i32⟩
  | 3 => ⟨S128, .i1⟩
  | 4 => ⟨S128, .i32⟩
  | 5 => ⟨S128, .i32⟩
  | 6 => ⟨S_, .i32⟩
  | 7 => ⟨S128, .i32⟩
  | 8 => ⟨S128, .i1⟩
  | 9 => ⟨S128, .i1⟩
  | 10 => ⟨S_, .i32⟩
  | 11 => ⟨S128, .i32⟩
  | 12 => ⟨S128, .i32⟩
  | 13 => ⟨S128, .i32⟩
  | 14 => ⟨S1x128, .i32⟩
  | 15 => ⟨S128x1, .i32⟩
  | 16 => ⟨S128x128, .i32⟩
  | 17 => ⟨S128x128, .i32⟩
  | 18 => ⟨S128x128, .i1⟩
  | 19 => ⟨S1x128x128, .i1⟩
  | 20 => ⟨S_, .f32⟩
  | 21 => ⟨S4x128x128, .i1⟩
  | 22 => ⟨S4x128x128, .f32⟩
  | 23 => ⟨S4x128x128, .f32⟩
  | 24 => ⟨S_, .f32⟩
  | 25 => ⟨S4x128x128, .f32⟩
  | 26 => ⟨S4x64x128x128, .f32⟩
  | 27 => ⟨S64x128x4x128, .f32⟩
  | 28 => ⟨S128x4, .f32⟩
  | 29 => ⟨S1x128x4x1, .f32⟩
  | 30 => ⟨S64x128x4x128, .f32⟩
  | 31 => ⟨S64x128x4x128, .f32⟩
  | 32 => ⟨S8192x512, .f32⟩
  | 33 => ⟨S8192x512, .f32⟩
  | 34 => ⟨S8192x512, .f32⟩
  | 35 => ⟨S_, .f32⟩
  | 36 => ⟨S2x512, .f32⟩
  | 37 => ⟨S8194x512, .f32⟩
  | 38 => ⟨S_, .f32⟩
  | 39 => ⟨S2x512, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S1x512x1024, .f32⟩
  | 52 => ⟨S512x1024, .f32⟩
  | 53 => ⟨S8192x1024, .f32⟩
  | 54 => ⟨S8192x512, .f32⟩
  | 55 => ⟨S1x512x1024, .f32⟩
  | 56 => ⟨S512x1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S1024, .f32⟩
  | 102 => ⟨S1x1024, .f32⟩
  | 103 => ⟨S_, .f32⟩
  | 104 => ⟨S1024, .f32⟩
  | 105 => ⟨S8192x1024, .f32⟩
  | 106 => ⟨S_, .f32⟩
  | 107 => ⟨S1024, .f32⟩
  | 108 => ⟨S1x1024, .f32⟩
  | 109 => ⟨S_, .f32⟩
  | 110 => ⟨S1024, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S_, .f32⟩
  | 119 => ⟨S512, .f32⟩
  | 120 => ⟨S1x512, .f32⟩
  | 121 => ⟨S_, .f32⟩
  | 122 => ⟨S8194x512, .f32⟩
  | 123 => ⟨S8192x512, .f32⟩
  | 124 => ⟨S8192x512, .f32⟩
  | 125 => ⟨S8192x512, .f32⟩
  | 126 => ⟨S_, .f32⟩
  | 127 => ⟨S512, .f32⟩
  | _ => ⟨S8192x1024, .f32⟩

abbrev hbmTy0_2 (i : Nat) : BufTy := match i % 128 with
  | 0 => ⟨S1x512, .f32⟩
  | 1 => ⟨S_, .f32⟩
  | 2 => ⟨S8194x512, .f32⟩
  | 3 => ⟨S8194x512, .f32⟩
  | 4 => ⟨S8192x512, .f32⟩
  | 5 => ⟨S8192x512, .f32⟩
  | 6 => ⟨S8192x512, .f32⟩
  | 7 => ⟨S_, .f32⟩
  | 8 => ⟨S512, .f32⟩
  | 9 => ⟨S1x512, .f32⟩
  | 10 => ⟨S_, .f32⟩
  | 11 => ⟨S8194x512, .f32⟩
  | 12 => ⟨S8194x512, .f32⟩
  | 13 => ⟨S2x512, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S64x128x4x128, .f32⟩
  | 20 => ⟨S_, .f32⟩
  | 21 => ⟨S128x4, .f32⟩
  | 22 => ⟨S1x128x4x1, .f32⟩
  | 23 => ⟨S_, .f32⟩
  | 24 => ⟨S128x4, .f32⟩
  | 25 => ⟨S4x128, .f32⟩
  | 26 => ⟨S4x64x128x128, .f32⟩
  | 27 => ⟨S4x128x128, .f32⟩
  | 28 => ⟨S4x64x128x128, .f32⟩
  | 29 => ⟨S64x128x4x128, .f32⟩
  | 30 => ⟨S_, .f32⟩
  | 31 => ⟨S4x128x128, .f32⟩
  | 32 => ⟨S4x128x128, .f32⟩
  | 33 => ⟨S8192x512, .f32⟩
  | 34 => ⟨S_, .f32⟩
  | 35 => ⟨S512, .f32⟩
  | 36 => ⟨S1x512, .f32⟩
  | 37 => ⟨S_, .f32⟩
  | 38 => ⟨S512, .f32⟩
  | 39 => ⟨S8192x512, .f32⟩
  | 40 => ⟨S_, .f32⟩
  | 41 => ⟨S512, .f32⟩
  | 42 => ⟨S1x512, .f32⟩
  | 43 => ⟨S8192x512, .f32⟩
  | 44 => ⟨S8192x512, .f32⟩
  | 45 => ⟨S_, .f32⟩
  | 46 => ⟨S512, .f32⟩
  | 47 => ⟨S8192x512, .f32⟩
  | 48 => ⟨S_, .f32⟩
  | 49 => ⟨S8192, .f32⟩
  | 50 => ⟨S8192x1, .f32⟩
  | 51 => ⟨S8192x512, .f32⟩
  | 52 => ⟨S8192x512, .f32⟩
  | 53 => ⟨S8192x1, .f32⟩
  | 54 => ⟨S8192x512, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x512, .f32⟩
  | 64 => ⟨S8192x512, .f32⟩
  | 65 => ⟨S8192x512, .f32⟩
  | 66 => ⟨S_, .f32⟩
  | 67 => ⟨S8192, .f32⟩
  | 68 => ⟨S8192x1, .f32⟩
  | 69 => ⟨S8192x512, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x512, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x512, .f32⟩
  | 84 => ⟨S_, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x4608, .f32⟩
  | 107 => ⟨S1x2816, .f32⟩
  | 108 => ⟨S2048, .f32⟩
  | 109 => ⟨S1x2048, .f32⟩
  | 110 => ⟨S_, .f32⟩
  | 111 => ⟨S1x768, .f32⟩
  | 112 => ⟨S1x2816, .f32⟩
  | 113 => ⟨S1x512, .f32⟩
  | 114 => ⟨S_, .f32⟩
  | 115 => ⟨S1x2304, .f32⟩
  | 116 => ⟨S1x2816, .f32⟩
  | 117 => ⟨S1x512, .f32⟩
  | 118 => ⟨S_, .f32⟩
  | 119 => ⟨S1x2304, .f32⟩
  | 120 => ⟨S1x2816, .f32⟩
  | 121 => ⟨S_, .f32⟩
  | 122 => ⟨S1x2304, .f32⟩
  | 123 => ⟨S1x2816, .f32⟩
  | 124 => ⟨S_, .f32⟩
  | 125 => ⟨S1x2304, .f32⟩
  | 126 => ⟨S1x2816, .f32⟩
  | 127 => ⟨S_, .f32⟩
  | _ => ⟨S8192x1024, .f32⟩

abbrev hbmTy0_3 (i : Nat) : BufTy := match i % 128 with
  | 0 => ⟨S1x2304, .f32⟩
  | 1 => ⟨S1x2816, .f32⟩
  | 2 => ⟨S33x2816, .f32⟩
  | 3 => ⟨S40x2816, .f32⟩
  | 4 => ⟨S8192x4608, .bf16⟩
  | 5 => ⟨S8192x1024, .bf16⟩
  | 6 => ⟨S8192x1024, .bf16⟩
  | 7 => ⟨S4x128x1, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_cst_15 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_16 : Ref sig .tc := ⟨.hbm, 86, rfl⟩
abbrev main_v58 : Ref sig .tc := ⟨.hbm, 87, rfl⟩
abbrev main_v59 : Ref sig .tc := ⟨.hbm, 88, rfl⟩
abbrev main_cst_17 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_18 : Ref sig .tc := ⟨.hbm, 95, rfl⟩
abbrev main_v65 : Ref sig .tc := ⟨.hbm, 96, rfl⟩
abbrev main_v66 : Ref sig .tc := ⟨.hbm, 97, rfl⟩
abbrev main_cst_19 : Ref sig .tc := ⟨.hbm, 98, rfl⟩
abbrev main_v67 : Ref sig .tc := ⟨.hbm, 99, rfl⟩
abbrev main_v68 : Ref sig .tc := ⟨.hbm, 100, rfl⟩
abbrev main_cst_20 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_21 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_22 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c : Ref sig .tc := ⟨.hbm, 124, rfl⟩
abbrev main_call0_v0 : Ref sig .tc := ⟨.hbm, 125, rfl⟩
abbrev main_call0_v1 : Ref sig .tc := ⟨.hbm, 126, rfl⟩
abbrev main_call0_v2 : Ref sig .tc := ⟨.hbm, 127, rfl⟩
abbrev main_call0_v3 : Ref sig .tc := ⟨.hbm, 128, rfl⟩
abbrev main_call0_v4 : Ref sig .tc := ⟨.hbm, 129, rfl⟩
abbrev main_call0_v5 : Ref sig .tc := ⟨.hbm, 130, rfl⟩
abbrev main_call0_v6 : Ref sig .tc := ⟨.hbm, 131, rfl⟩
abbrev main_call0_v7 : Ref sig .tc := ⟨.hbm, 132, rfl⟩
abbrev main_call0_v8 : Ref sig .tc := ⟨.hbm, 133, rfl⟩
abbrev main_call0_c : Ref sig .tc := ⟨.hbm, 134, rfl⟩
abbrev main_call0_v9 : Ref sig .tc := ⟨.hbm, 135, rfl⟩
abbrev main_call0_v10 : Ref sig .tc := ⟨.hbm, 136, rfl⟩
abbrev main_call0_v11 : Ref sig .tc := ⟨.hbm, 137, rfl⟩
abbrev main_call0_c_0 : Ref sig .tc := ⟨.hbm, 138, rfl⟩
abbrev main_call0_v12 : Ref sig .tc := ⟨.hbm, 139, rfl⟩
abbrev main_call0_v13 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_23 : Ref sig .tc := ⟨.hbm, 148, rfl⟩
abbrev main_v96_1 : Ref sig .tc := ⟨.hbm, 149, rfl⟩
abbrev main_call1_v1 : Ref sig .tc := ⟨.hbm, 150, rfl⟩
abbrev main_v96_0 : Ref sig .tc := ⟨.hbm, 151, rfl⟩
abbrev main_call1_cst : Ref sig .tc := ⟨.hbm, 152, rfl⟩
abbrev main_v96_2 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_24 : Ref sig .tc := ⟨.hbm, 163, rfl⟩
abbrev main_v106 : Ref sig .tc := ⟨.hbm, 164, rfl⟩
abbrev main_v107 : Ref sig .tc := ⟨.hbm, 165, rfl⟩
abbrev main_cst_25 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_26 : Ref sig .tc := ⟨.hbm, 191, rfl⟩
abbrev main_v132 : Ref sig .tc := ⟨.hbm, 192, rfl⟩
abbrev main_v133 : Ref sig .tc := ⟨.hbm, 193, rfl⟩
abbrev main_cst_27 : Ref sig .tc := ⟨.hbm, 194, rfl⟩
abbrev main_v134 : Ref sig .tc := ⟨.hbm, 195, rfl⟩
abbrev main_v135 : Ref sig .tc := ⟨.hbm, 196, rfl⟩
abbrev main_cst_28 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_cst_29 : Ref sig .tc := ⟨.hbm, 206, rfl⟩
abbrev main_v144 : Ref sig .tc := ⟨.hbm, 207, rfl⟩
abbrev main_v145 : Ref sig .tc := ⟨.hbm, 208, rfl⟩
abbrev main_cst_30 : Ref sig .tc := ⟨.hbm, 209, rfl⟩
abbrev main_v146 : Ref sig .tc := ⟨.hbm, 210, rfl⟩
abbrev main_v147 : Ref sig .tc := ⟨.hbm, 211, rfl⟩
abbrev main_cst_31 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_cst_32 : Ref sig .tc := ⟨.hbm, 228, rfl⟩
abbrev main_v163 : Ref sig .tc := ⟨.hbm, 229, rfl⟩
abbrev main_v164 : Ref sig .tc := ⟨.hbm, 230, rfl⟩
abbrev main_cst_33 : Ref sig .tc := ⟨.hbm, 231, rfl⟩
abbrev main_v165 : Ref sig .tc := ⟨.hbm, 232, rfl⟩
abbrev main_v166 : Ref sig .tc := ⟨.hbm, 233, rfl⟩
abbrev main_cst_34 : Ref sig .tc := ⟨.hbm, 234, rfl⟩
abbrev main_v167 : Ref sig .tc := ⟨.hbm, 235, rfl⟩
abbrev main_v168 : Ref sig .tc := ⟨.hbm, 236, rfl⟩
abbrev main_cst_35 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_v175 : Ref sig .tc := ⟨.hbm, 244, rfl⟩
abbrev main_v176 : Ref sig .tc := ⟨.hbm, 245, rfl⟩
abbrev main_cst_36 : Ref sig .tc := ⟨.hbm, 246, rfl⟩
abbrev main_v177 : Ref sig .tc := ⟨.hbm, 247, rfl⟩
abbrev main_v178 : Ref sig .tc := ⟨.hbm, 248, rfl⟩
abbrev main_cst_37 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_cst_38 : Ref sig .tc := ⟨.hbm, 254, rfl⟩
abbrev main_v183 : Ref sig .tc := ⟨.hbm, 255, rfl⟩
abbrev main_v184 : Ref sig .tc := ⟨.hbm, 256, rfl⟩
abbrev main_cst_39 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_40 : Ref sig .tc := ⟨.hbm, 263, rfl⟩
abbrev main_v190 : Ref sig .tc := ⟨.hbm, 264, rfl⟩
abbrev main_v191 : Ref sig .tc := ⟨.hbm, 265, rfl⟩
abbrev main_cst_41 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_42 : Ref sig .tc := ⟨.hbm, 276, rfl⟩
abbrev main_v201 : Ref sig .tc := ⟨.hbm, 277, rfl⟩
abbrev main_v202 : Ref sig .tc := ⟨.hbm, 278, rfl⟩
abbrev main_cst_43 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_call2_cst : Ref sig .tc := ⟨.hbm, 286, rfl⟩
abbrev main_call2_v0 : Ref sig .tc := ⟨.hbm, 287, rfl⟩
abbrev main_v209 : Ref sig .tc := ⟨.hbm, 288, rfl⟩
abbrev main_v210 : Ref sig .tc := ⟨.hbm, 289, rfl⟩
abbrev main_cst_44 : Ref sig .tc := ⟨.hbm, 290, rfl⟩
abbrev main_v211 : Ref sig .tc := ⟨.hbm, 291, rfl⟩
abbrev main_v212 : Ref sig .tc := ⟨.hbm, 292, rfl⟩
abbrev main_cst_45 : Ref sig .tc := ⟨.hbm, 293, rfl⟩
abbrev main_v213 : Ref sig .tc := ⟨.hbm, 294, rfl⟩
abbrev main_v214 : Ref sig .tc := ⟨.hbm, 295, rfl⟩
abbrev main_cst_46 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_cst_47 : Ref sig .tc := ⟨.hbm, 301, rfl⟩
abbrev main_v219 : Ref sig .tc := ⟨.hbm, 302, rfl⟩
abbrev main_v220 : Ref sig .tc := ⟨.hbm, 303, rfl⟩
abbrev main_cst_48 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_cst_49 : Ref sig .tc := ⟨.hbm, 311, rfl⟩
abbrev main_v227 : Ref sig .tc := ⟨.hbm, 312, rfl⟩
abbrev main_v228 : Ref sig .tc := ⟨.hbm, 313, rfl⟩
abbrev main_cst_50 : Ref sig .tc := ⟨.hbm, 314, rfl⟩
abbrev main_v229 : Ref sig .tc := ⟨.hbm, 315, rfl⟩
abbrev main_v230 : Ref sig .tc := ⟨.hbm, 316, rfl⟩
abbrev main_cst_51 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_cst_52 : Ref sig .tc := ⟨.hbm, 322, rfl⟩
abbrev main_v235 : Ref sig .tc := ⟨.hbm, 323, rfl⟩
abbrev main_v236 : Ref sig .tc := ⟨.hbm, 324, rfl⟩
abbrev main_v237 : Ref sig .tc := ⟨.hbm, 325, rfl⟩
abbrev main_v238 : Ref sig .tc := ⟨.hbm, 326, rfl⟩
abbrev main_cst_53 : Ref sig .tc := ⟨.hbm, 327, rfl⟩
abbrev main_v239 : Ref sig .tc := ⟨.hbm, 328, rfl⟩
abbrev main_v240 : Ref sig .tc := ⟨.hbm, 329, rfl⟩
abbrev main_cst_54 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_v244 : Ref sig .tc := ⟨.hbm, 334, rfl⟩
abbrev main_v245 : Ref sig .tc := ⟨.hbm, 335, rfl⟩
abbrev main_cst_55 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_cst_56 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_cst_57 : Ref sig .tc := ⟨.hbm, 350, rfl⟩
abbrev main_v258 : Ref sig .tc := ⟨.hbm, 351, rfl⟩
abbrev main_v259 : Ref sig .tc := ⟨.hbm, 352, rfl⟩
abbrev main_v260 : Ref sig .tc := ⟨.hbm, 353, rfl⟩
abbrev main_cst_58 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_cst_59 : Ref sig .tc := ⟨.hbm, 366, rfl⟩
abbrev main_v272 : Ref sig .tc := ⟨.hbm, 367, rfl⟩
abbrev main_v273 : Ref sig .tc := ⟨.hbm, 368, rfl⟩
abbrev main_v274 : Ref sig .tc := ⟨.hbm, 369, rfl⟩
abbrev main_cst_60 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_cst_61 : Ref sig .tc := ⟨.hbm, 374, rfl⟩
abbrev main_v278 : Ref sig .tc := ⟨.hbm, 375, rfl⟩
abbrev main_v279 : Ref sig .tc := ⟨.hbm, 376, rfl⟩
abbrev main_cst_62 : Ref sig .tc := ⟨.hbm, 377, rfl⟩
abbrev main_v280 : Ref sig .tc := ⟨.hbm, 378, rfl⟩
abbrev main_v281 : Ref sig .tc := ⟨.hbm, 379, rfl⟩
abbrev main_cst_63 : Ref sig .tc := ⟨.hbm, 380, rfl⟩
abbrev main_v282 : Ref sig .tc := ⟨.hbm, 381, rfl⟩
abbrev main_v283 : Ref sig .tc := ⟨.hbm, 382, rfl⟩
abbrev main_cst_64 : Ref sig .tc := ⟨.hbm, 383, rfl⟩
abbrev main_v284 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_v289 : Ref sig .tc := ⟨.hbm, 389, rfl⟩
abbrev main_v290 : Ref sig .tc := ⟨.hbm, 390, rfl⟩
abbrev main_v291 : Ref sig .tc := ⟨.hbm, 391, rfl⟩

abbrev nD : Nat := 1
abbrev τ : Topo := Topo.v7x

variable {F : FTy → Type} [FloatOps F]
-- ==== Kernel11.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S40x2816 : Shape := ⟨2, ![40, 2816]⟩
abbrev S5632x1024 : Shape := ⟨2, ![5632, 1024]⟩
abbrev S1x1024 : Shape := ⟨2, ![1, 1024]⟩
abbrev S512x5632 : Shape := ⟨2, ![512, 5632]⟩
abbrev S512x1024 : Shape := ⟨2, ![512, 1024]⟩
abbrev S1x2816 : Shape := ⟨2, ![1, 2816]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S40x2816, .f32⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S8192x1024, .f32⟩
  | .hbm, ⟨10, _⟩ => ⟨S40x2816, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S40x2816, .f32⟩
  | .local _ .vmem, ⟨9, _⟩ => ⟨S512x1024, .f32⟩
  | .local _ .vmem, ⟨10, _⟩ => ⟨S512x1024, .f32⟩
  | .local _ .vmem, ⟨11, _⟩ => ⟨S40x2816, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S40x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S40x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S40x2816 : Shape := ⟨2, ![40, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1792 : Shape := ⟨1, ![1792]⟩
abbrev S2816 : Shape := ⟨1, ![2816]⟩
abbrev S23x2816 : Shape := ⟨2, ![23, 2816]⟩
abbrev S1x2816 : Shape := ⟨2, ![1, 2816]⟩
abbrev S16x2816 : Shape := ⟨2, ![16, 2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S40x2816, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1792, .f32⟩
  | .hbm, ⟨57, _⟩ => ⟨S2816, .f32⟩
  | .hbm, ⟨58, _⟩ => ⟨S23x2816, .f32⟩
  | .hbm, ⟨59, _⟩ => ⟨S1x2816, .f32⟩
  | .hbm, ⟨60, _⟩ => ⟨S16x2816, .f32⟩
  | .hbm, ⟨61, _⟩ => ⟨S40x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel12.lean ====
abbrev S8192x4608 : Shape := ⟨2, ![8192, 4608]⟩
abbrev S8192x1024 : Shape := ⟨2, ![8192, 1024]⟩
abbrev S2048 : Shape := ⟨1, ![2048]⟩
abbrev S512 : Shape := ⟨1, ![512]⟩
abbrev S4x128x128 : Shape := ⟨3, ![4, 128, 128]⟩
abbrev S4x128 : Shape := ⟨2, ![4, 128]⟩
abbrev S3x512 : Shape := ⟨2, ![3, 512]⟩
abbrev S2x512x1024 : Shape := ⟨3, ![2, 512, 1024]⟩
abbrev S1024x1024 : Shape := ⟨2, ![1024, 1024]⟩
abbrev S1x2048 : Shape := ⟨2, ![1, 2048]⟩
abbrev S1x512 : Shape := ⟨2, ![1, 512]⟩
abbrev S4x128x1 : Shape := ⟨3, ![4, 128, 1]⟩
abbrev S8192x512 : Shape := ⟨2, ![8192, 512]⟩
abbrev S512x4608 : Shape := ⟨2, ![512, 4608]⟩
abbrev S16x4608 : Shape := ⟨2, ![16, 4608]⟩
abbrev S512x1024 : Shape := ⟨2, ![512, 1024]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S16x512 : Shape := ⟨2, ![16, 512]⟩
abbrev S496x512 : Shape := ⟨2, ![496, 512]⟩
abbrev S1x512x1024 : Shape := ⟨3, ![1, 512, 1024]⟩
abbrev S1x1024 : Shape := ⟨2, ![1, 1024]⟩

abbrev nBuf : Space → Nat
  | .hbm => 23
  | .vmem => 29
  | .smem => 0
  | _ => 0

abbrev bufTy : (tb : Table) → Fin (tcTables nBuf tb) → BufTy
  | .hbm, ⟨0, _⟩ => ⟨S8192x4608, .bf16⟩
  | .hbm, ⟨1, _⟩ => ⟨S8192x1024, .f32⟩
  | .hbm, ⟨2, _⟩ => ⟨S2048, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S3x512, .f32⟩
  | .hbm, ⟨8, _⟩ => ⟨S2x512x1024, .f32⟩
  | .hbm, ⟨9, _⟩ => ⟨S1024x1024, .f32⟩
  | .hbm, ⟨10, _⟩ => ⟨S2x512x1024, .bf16⟩
  | .hbm, ⟨11, _⟩ => ⟨S1024x1024, .bf16⟩
  | .hbm, ⟨12, _⟩ => ⟨S1x2048, .f32⟩
  | .hbm, ⟨13, _⟩ => ⟨S1x512, .f32⟩
  | .hbm, ⟨14, _⟩ => ⟨S1x512, .f32⟩
  | .hbm, ⟨15, _⟩ => ⟨S4x128x1, .f32⟩
  | .hbm, ⟨16, _⟩ => ⟨S8192x512, .bf16⟩
  | .hbm, ⟨17, _⟩ => ⟨S8192x512, .bf16⟩
  | .hbm, ⟨18, _⟩ => ⟨S8192x512, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .f32⟩
  | .local _ .vmem, ⟨0, _⟩ => ⟨S512x4608, .bf16⟩
  | .local _ .vmem, ⟨1, _⟩ => ⟨S512x4608, .bf16⟩
  | .local _ .vmem, ⟨2, _⟩ => ⟨S16x4608, .bf16⟩
  | .local _ .vmem, ⟨3, _⟩ => ⟨S16x4608, .bf16⟩
  | .local _ .vmem, ⟨4, _⟩ => ⟨S512x1024, .f32⟩
  | .local _ .vmem, ⟨5, _⟩ => ⟨S512x1024, .f32⟩
  | .local _ .vmem, ⟨6, _⟩ => ⟨S1x2048, .f32⟩
  | .local _ .vmem, ⟨7, _⟩ => ⟨S1x512, .f32⟩
  | .local _ .vmem, ⟨8, _⟩ => ⟨S1x512, .f32⟩
  | .local _ .vmem, ⟨9, _⟩ => ⟨S4x128x128, .f32⟩
  | .local _ .vmem, ⟨10, _⟩ => ⟨S4x128x1, .f32⟩
  | .local _ .vmem, ⟨11, _⟩ => ⟨S3x512, .f32⟩
  | .local _ .vmem, ⟨12, _⟩ => ⟨S2x512x1024, .bf16⟩
  | .local _ .vmem, ⟨13, _⟩ => ⟨S1024x1024, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x512, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Kernel12Ideal.lean ====
variable {F : FTy → Type} [FloatOps F] [Named F]
def κ : String → Option EReal := fun
  | "gelu_c0" => some ((6693141 / 8388608 : ℝ) : EReal)
  | "gelu_c1" => some ((8943 / 200000 : ℝ) : EReal)
  | "gelu_c3" => some ((26829 / 200000 : ℝ) : EReal)
  | _ => none
-- ==== Kernel13.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S40x2816 : Shape := ⟨2, ![40, 2816]⟩
abbrev S5632x1024 : Shape := ⟨2, ![5632, 1024]⟩
abbrev S1x1024 : Shape := ⟨2, ![1, 1024]⟩
abbrev S512x5632 : Shape := ⟨2, ![512, 5632]⟩
abbrev S512x1024 : Shape := ⟨2, ![512, 1024]⟩
abbrev S1x2816 : Shape := ⟨2, ![1, 2816]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S40x2816, .f32⟩
  | .hbm, ⟨6, _⟩ => ⟨S5632x1024, .f32⟩
  | .hbm, ⟨7, _⟩ => ⟨S5632x1024, .bf16⟩
  | .hbm, ⟨8, _⟩ => ⟨S1x1024, .f32⟩
  | .hbm, ⟨9, _⟩ => ⟨S8192x1024, .f32⟩
  | .hbm, ⟨10, _⟩ => ⟨S40x2816, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S40x2816, .f32⟩
  | .local _ .vmem, ⟨9, _⟩ => ⟨S512x1024, .f32⟩
  | .local _ .vmem, ⟨10, _⟩ => ⟨S512x1024, .f32⟩
  | .local _ .vmem, ⟨11, _⟩ => ⟨S40x2816, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S40x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S40x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference13Ideal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S40x2816 : Shape := ⟨2, ![40, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1792 : Shape := ⟨1, ![1792]⟩
abbrev S2816 : Shape := ⟨1, ![2816]⟩
abbrev S7x2816 : Shape := ⟨2, ![7, 2816]⟩
abbrev S1x2816 : Shape := ⟨2, ![1, 2816]⟩
abbrev S32x2816 : Shape := ⟨2, ![32, 2816]⟩

abbrev nBuf : Space → Nat
  | .hbm => 62
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S40x2816, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1792, .f32⟩
  | .hbm, ⟨57, _⟩ => ⟨S2816, .f32⟩
  | .hbm, ⟨58, _⟩ => ⟨S7x2816, .f32⟩
  | .hbm, ⟨59, _⟩ => ⟨S1x2816, .f32⟩
  | .hbm, ⟨60, _⟩ => ⟨S32x2816, .f32⟩
  | .hbm, ⟨61, _⟩ => ⟨S40x2816, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1024x4608 : Shape := ⟨2, ![1024, 4608]⟩
abbrev S4608x1024 : Shape := ⟨2, ![4608, 1024]⟩
abbrev S1x1024 : Shape := ⟨2, ![1, 1024]⟩
abbrev S8192x4608 : Shape := ⟨2, ![8192, 4608]⟩
abbrev S1024x1024 : Shape := ⟨2, ![1024, 1024]⟩
abbrev S1024x1 : Shape := ⟨2, ![1024, 1]⟩
abbrev S512x1024 : Shape := ⟨2, ![512, 1024]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4608, .f32⟩
  | .hbm, ⟨3, _⟩ => ⟨S4608x1024, .f32⟩
  | .hbm, ⟨4, _⟩ => ⟨S4608x1024, .bf16⟩
  | .hbm, ⟨5, _⟩ => ⟨S1x1024, .f32⟩
  | .hbm, ⟨6, _⟩ => ⟨S8192x1024, .bf16⟩
  | .hbm, ⟨7, _⟩ => ⟨S8192x4608, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4608x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x4608, .bf16⟩
  | .local _ .vmem, ⟨7, _⟩ => ⟨S1024x4608, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4608x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel15.lean ====
abbrev S8192x1024 : Shape := ⟨2, ![8192, 1024]⟩
abbrev S1024 : Shape := ⟨1, ![1024]⟩
abbrev S1024x5632 : Shape := ⟨2, ![1024, 5632]⟩
abbrev S5632x1024 : Shape := ⟨2, ![5632, 1024]⟩
abbrev S1x1024 : Shape := ⟨2, ![1, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S1x1024, .f32⟩
  | .hbm, ⟨6, _⟩ => ⟨S8192x1024, .bf16⟩
  | .hbm, ⟨7, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x5632, .f32⟩
  | .hbm, ⟨21, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel16.lean ====
abbrev S8192x1024 : Shape := ⟨2, ![8192, 1024]⟩
abbrev S1024 : Shape := ⟨1, ![1024]⟩
abbrev S1024x5632 : Shape := ⟨2, ![1024, 5632]⟩
abbrev S5632x1024 : Shape := ⟨2, ![5632, 1024]⟩
abbrev S1x1024 : Shape := ⟨2, ![1, 1024]⟩
abbrev S8192x5632 : Shape := ⟨2, ![8192, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S1x1024, .f32⟩
  | .hbm, ⟨6, _⟩ => ⟨S8192x1024, .bf16⟩
  | .hbm, ⟨7, _⟩ => ⟨S8192x5632, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.Finite.lean ====
/- Finite arrays of extended reals. A precondition tests `|x| < ∞` at every element; here such an array is read as an
   array of real numbers, and sums, products, quotients and inverse roots of real numbers are read as real numbers again. -/
module

public import Idealize.ShloMosaic.Lib.Pipeline.Value
public import Idealize.ShloMosaic.Lib.ReduceAll
public import Idealize.ShloMosaic.PureOps.Ideal.Laws
public import Idealize.ShloMosaic.Lib.ValueIdx

@[expose] public section

noncomputable section

namespace Cert.Finite

open Idealize.ShloMosaic

/-- The bits of the largest f32 exponent, with a zero mantissa, are infinity. -/
theorem ofBits_inf_f32 : Ideal.ofBits .f32 0x7F800000#32 = ⊤ := by
  simp [Ideal.ofBits, Ideal.ieee]

/-- An extended real whose absolute value is below infinity is a real number. -/
theorem exists_real_of_abs_lt {x : EReal} (h : max x (-x) < ⊤) : ∃ r : ℝ, x = (r : EReal) := by
  induction x with
  | bot => simp at h
  | coe r => exact ⟨r, rfl⟩
  | top => simp at h

/-- The test `all (|x| < ∞)` of one array holds only of an array of real numbers. -/
theorem real_of_test {s t u : Shape} {dims : Fin u.rank → Fin s.rank} {axes : List (Fin s.rank)} (x : FVec Ideal s .f32)
    (hb : u.BroadcastsInDim s dims) (h : s.ReducesTo axes t) (hu : 0 < u.numel) (j : t.Idx) [Subsingleton t.Idx]
    (e : Host.reduce IntOp.andi (cmpf .olt (Host.absf x) (broadcastInDim s dims hb (constant (F := Ideal) u .f32 0x7F800000#32)))
      (constantI u 1 1#1) h hu j = 1#1) : ∃ r : s.Idx → ℝ, ∀ i, x i = (r i : EReal) := by
  have hall : ∀ i, ∃ r : ℝ, x i = (r : EReal) := fun i => by
    have hi := Host.reduce_andi_all _ _ h hu j e i
    have hi' : BitVec.ofBool (decide (max (x i) (-(x i)) < Ideal.ofBits .f32 0x7F800000#32)) = 1#1 := hi
    rw [ofBits_inf_f32] at hi'
    refine exists_real_of_abs_lt ?_
    by_contra hn
    rw [decide_eq_false hn] at hi'
    exact absurd hi' (by decide)
  exact ⟨fun i => (hall i).choose, fun i => (hall i).choose_spec⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem rsqrt_coe {a : ℝ} (ha : 0 < a) : Ideal.rsqrt (a : EReal) = (((Real.sqrt a)⁻¹ : ℝ) : EReal) := by
  rw [Ideal.rsqrt_coe, if_neg (not_lt.mpr ha.le), if_neg ha.ne']

/-! ## The constants of the programs, as real numbers -/

theorem ofBits_1024 : Ideal.ofBits .f32 0x44800000#32 = ((1024 : ℝ) : EReal) := by
  have h : (1024 : ℝ) = 8388608 * (2 ^ 13)⁻¹ := by norm_num
  rw [h, EReal.coe_mul]
  simp [Ideal.ofBits, Ideal.ieee]

theorem ofBits_neg_half : Ideal.ofBits .f32 0xBF000000#32 = ((-(1 / 2) : ℝ) : EReal) := by
  have h : (-(1 / 2) : ℝ) = -(8388608 * (2 ^ 24)⁻¹) := by norm_num
  rw [h, EReal.coe_neg, EReal.coe_mul]
  simp [Ideal.ofBits, Ideal.ieee]

/-- The small constant under the root of the root mean square norm is a positive real number. -/
theorem ofBits_eps : ∃ e : ℝ, 0 < e ∧ Ideal.ofBits .f32 0x358637BD#32 = (e : EReal) := by
  refine ⟨8796093 * (2 ^ 43)⁻¹, by positivity, ?_⟩
  rw [EReal.coe_mul]
  simp [Ideal.ofBits, Ideal.ieee]

/-- A conjunction of two tests holds where both do. -/
theorem both {s : Shape} {a b : IVec s 1} {j : s.Idx} (e : andi a b j = 1#1) : a j = 1#1 ∧ b j = 1#1 := by
  have h : ∀ p q : BitVec 1, p &&& q = 1#1 → p = 1#1 ∧ q = 1#1 := by decide
  exact h _ _ e

instance {t : Shape} [h : Fact (t.rank = 0)] : Subsingleton t.Idx := ⟨fun a b => funext fun k => absurd k.isLt (by simp [h.out])⟩

end Cert.Finite

end
-- ==== Proof.Norm.lean ====
/- One row of the root mean square norm and of its gradient, in extended reals. `backward` is the hand-written form (the
   normalised row against its own mean product), `vjp` the form the derivative of the forward lines takes; on rows of real
   numbers the two are equal. -/
module

public import proofs.«01_k».proof.Proof.Finite

@[expose] public section

noncomputable section

namespace Cert.Norm

open Idealize.ShloMosaic Cert.Finite

/-- The mean square of a row, with the small constant added. -/
def meanSq (x : Fin 1024 → EReal) : EReal :=
  Ideal.div (∑ k, x k * x k) (Ideal.ofBits .f32 0x44800000#32) + Ideal.ofBits .f32 0x358637BD#32

/-- The row's scale: the inverse root of the mean square. -/
def scale (x : Fin 1024 → EReal) : EReal := Ideal.rsqrt (meanSq x)

/-- The gradient of a row as the kernel writes it: `dh` is the gradient of the scaled row before the gains `g`, `d` what
    comes in beside the norm. -/
def backward (x dh g : Fin 1024 → EReal) (d : EReal) (j : Fin 1024) : EReal :=
  d + scale x * (dh j * g j
    - x j * scale x * Ideal.div (∑ k, dh k * g k * (x k * scale x)) (Ideal.ofBits .f32 0x44800000#32))

/-- What reaches a row through its own scale, in the derivative of the forward lines: half of it for each of the two
    factors of the square. -/
def through (x dh g : Fin 1024 → EReal) : EReal :=
  Ideal.div ((∑ k, x k * (dh k * g k)) * (Ideal.ofBits .f32 0xBF000000#32 * Ideal.div (scale x) (meanSq x)))
    (Ideal.ofBits .f32 0x44800000#32)

/-- The gradient of a row as the derivative of the forward lines. -/
def vjp (x dh g : Fin 1024 → EReal) (d : EReal) (j : Fin 1024) : EReal :=
  d + dh j * g j * scale x + x j * through x dh g + through x dh g * x j

/-- The mean square of a row of real numbers is a positive real number, and the scale its inverse root. -/
theorem scale_real (x : Fin 1024 → ℝ) : ∃ v : ℝ, 0 < v ∧ meanSq (fun k => (x k : EReal)) = (v : EReal) ∧
    scale (fun k => (x k : EReal)) = (((Real.sqrt v)⁻¹ : ℝ) : EReal) := by
  obtain ⟨e, he, hb⟩ := ofBits_eps
  have hv : 0 < (∑ k, x k * x k) / 1024 + e :=
    add_pos_of_nonneg_of_pos (div_nonneg (Finset.sum_nonneg fun k _ => mul_self_nonneg _) (by norm_num)) he
  have hm : meanSq (fun k => (x k : EReal)) = (((∑ k, x k * x k) / 1024 + e : ℝ) : EReal) := by
    simp only [meanSq, hb, ofBits_1024, ← EReal.coe_mul, ← coe_sum]
    rw [div_coe _ (by norm_num), EReal.coe_add]
  exact ⟨_, hv, hm, by rw [scale, hm, rsqrt_coe hv]⟩

/-- On rows of real numbers the hand-written gradient is the derivative of the forward lines. -/
theorem backward_eq_vjp (x dh g : Fin 1024 → ℝ) (d : EReal) (j : Fin 1024) :
    backward (fun k => (x k : EReal)) (fun k => (dh k : EReal)) (fun k => (g k : EReal)) d j
      = vjp (fun k => (x k : EReal)) (fun k => (dh k : EReal)) (fun k => (g k : EReal)) d j := by
  obtain ⟨v, hv, hm, hs⟩ := scale_real x
  have hr : (Real.sqrt v)⁻¹ * (Real.sqrt v)⁻¹ = v⁻¹ := by rw [← mul_inv, Real.mul_self_sqrt hv.le]
  have h1024 : (1024 : ℝ) ≠ 0 := by norm_num
  simp only [backward, vjp, through, hs, hm, ofBits_1024, ofBits_neg_half, ← EReal.coe_mul, ← coe_sum, div_coe _ h1024,
    div_coe _ hv.ne', ← EReal.coe_sub, add_assoc, ← EReal.coe_add]
  congr 2
  have hsum : ∑ k, dh k * g k * (x k * (Real.sqrt v)⁻¹) = (∑ k, x k * (dh k * g k)) * (Real.sqrt v)⁻¹ := by
    rw [Finset.sum_mul]; exact Finset.sum_congr rfl fun k _ => by ring
  rw [hsum]
  generalize (Real.sqrt v)⁻¹ = r at hr
  generalize ∑ k, x k * (dh k * g k) = S
  rw [div_eq_mul_inv r v, ← hr]
  ring

end Cert.Norm

end
-- ==== Proof.Sums.lean ====
/- Sums cut into chunks: the contraction of a product accumulated chunk by chunk is the whole contraction. -/
module

public import Idealize.ShloMosaic.Lib.Pipeline.ValueKit
public import Idealize.ShloMosaic.Lib.Pointwise

@[expose] public section

noncomputable section

namespace Cert.Sums

open Idealize.ShloMosaic

theorem sum_nine {M : Type*} [AddCommMonoid M] (F : Fin 9 → M) :
    ∑ s, F s = F 0 + F 1 + F 2 + F 3 + F 4 + F 5 + F 6 + F 7 + F 8 := by
  simp only [Fin.sum_univ_castSucc, Finset.univ_eq_empty, Finset.sum_empty, zero_add]; rfl

/-- An array index of rank two is known by its two coordinates. -/
theorem ext2 {a b : ℕ} {x y : (⟨2, ![a, b]⟩ : Shape).Idx} (h0 : (x 0).val = (y 0).val) (h1 : (x 1).val = (y 1).val) :
    x = y := by
  funext k
  apply Fin.ext
  match k with
  | ⟨0, _⟩ => exact h0
  | ⟨1, _⟩ => exact h1

/-- Columns `[o, o + n)` of `z` against rows `[o, o + n)` of `w`. -/
theorem chunk_dot {a l b n o : ℕ} (z : (⟨2, ![a, l]⟩ : Shape).Idx → EReal) (w : (⟨2, ![l, b]⟩ : Shape).Idx → EReal)
    (hz : ∀ i, (![0, o] : Fin 2 → ℕ) i + (![a, n] : Fin 2 → ℕ) i ≤ (⟨2, ![a, l]⟩ : Shape).size i)
    (hw : ∀ i, (![o, 0] : Fin 2 → ℕ) i + (![n, b] : Fin 2 → ℕ) i ≤ (⟨2, ![l, b]⟩ : Shape).size i)
    (p : Fin a) (j : Fin b) (k : Fin n) (hk : o + k.val < l) :
    (View.ld (e' := .f32) (Val := Elt Ideal) z (Rect.unit ![0, o] ![a, n] hz) (ix2 p k) : EReal)
        * View.ld (e' := .f32) (Val := Elt Ideal) w (Rect.unit ![o, 0] ![n, b] hw) (ix2 k j)
      = z (ix2 p ⟨o + k.val, hk⟩) * w (ix2 ⟨o + k.val, hk⟩ j) := by
  congr 1
  · exact congrArg z (ext2 (by simp [Rect.idx_unit_val]) (by simp [Rect.idx_unit_val]))
  · exact congrArg w (ext2 (by simp [Rect.idx_unit_val]) (by simp [Rect.idx_unit_val]))

end Cert.Sums

end
-- ==== Proof.Pieces.lean ====
/- A buffer held as a list of stored pieces, read at an index: under the newest piece its payload, elsewhere what the
   earlier pieces left. -/
module

public import Idealize.ShloMosaic.Lib.Pipeline.ValueKit
public import Idealize.ShloMosaic.Lib.WritesUnit
public import Idealize.ShloMosaic.Lib.Pipeline.ReadBack

@[expose] public section

noncomputable section

namespace Cert.Pieces

open Idealize.ShloMosaic

variable {Val : EltTy → Type} {s : Shape} {e : EltTy}

/-- Inside the newest piece the canonical contents are its payload. -/
theorem canon_in [∀ e, Nonempty (Val e)] {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- Outside it on some axis they are what the earlier pieces left. -/
theorem canon_out [∀ e, Nonempty (Val e)] {off size : Fin s.rank → ℕ} (inb : ∀ a, off a + size a ≤ s.size a)
    (w : (Rect.unit off size inb).shape.Idx → Val e) (L : List (View.Piece Val s e)) (y : s.Idx) (a : Fin s.rank)
    (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro hall
  have := hall a
  omega

/-- A load of what one store of the whole rank-two buffer left reads that store's payload. -/
theorem readCov_whole [∀ e, Nonempty (Val e)] {sig : RefSig} {κ : Kind} {sp : Space} {a b : ℕ} (v : View sig κ sp ⟨2, ![a, b]⟩ e)
    (inb : ∀ i, (![0, 0] : Fin 2 → ℕ) i + (![a, b] : Fin 2 → ℕ) i ≤ (⟨2, ![a, b]⟩ : Shape).size i)
    (w : (⟨2, ![a, b]⟩ : Shape).Idx → Val e) (r : Rect ⟨2, ![a, b]⟩) :
    v.readCov [(⟨Rect.unit ![0, 0] ![a, b] inb, w⟩ : View.Piece Val ⟨2, ![a, b]⟩ e)] r.toLoadRect = View.ld w r := by
  have hz : ∀ i : Fin 2, (![0, 0] : Fin 2 → ℕ) i = 0 := Fin.forall_fin_two.mpr ⟨rfl, rfl⟩
  exact View.readCov_fill (s := ⟨2, ![a, b]⟩) v inb w [] r hz

end Cert.Pieces

end
-- ==== Proof.Block.lean ====
/- What one grid point of the gradient through a norm and a product leaves: a 512-row block of the rows' gradient, and
   the block's part of the gain's gradient added to row 0 of the small output. -/
module

public import proofs.«01_k».proof.Proof.Gen.KernelIdeal.Value
public import proofs.«01_k».proof.Proof.Norm
public import proofs.«01_k».proof.Proof.Sums
public import proofs.«01_k».proof.Proof.Pieces

@[expose] public section

set_option maxRecDepth 16384

noncomputable section

namespace Cert.KernelIdeal.Body

open Cert.KernelIdeal Cert.KernelIdeal.Gen Idealize.ShloMosaic Idealize.ShloMosaic.TcCoe Idealize.SL.Sem

/-- The gradient of the scaled rows: the incoming gradient against the transposed weight. -/
def dh (z : S512x4608.Idx → EReal) (w : S4608x1024.Idx → EReal) (p : Fin 512) (j : Fin 1024) : EReal :=
  ∑ k : Fin 4608, z (ix2 p k) * w (ix2 k j)

/-- Columns `[o, o + 512)` of the gradient block. -/
abbrev zc (z : Vec Ideal S512x4608 .bf16) (o : ℕ) (h : ∀ a, (![0, o] : Fin 2 → ℕ) a + (![512, 512] : Fin 2 → ℕ) a ≤ S512x4608.size a) :
    Vec Ideal S512x512 .bf16 := View.ld z (Rect.unit ![0, o] ![512, 512] h)

/-- Rows `[o, o + 512)` of the transposed weight. -/
abbrev wc (w : Vec Ideal S4608x1024 .bf16) (o : ℕ) (h : ∀ a, (![o, 0] : Fin 2 → ℕ) a + (![512, 1024] : Fin 2 → ℕ) a ≤ S4608x1024.size a) :
    Vec Ideal S512x1024 .bf16 := View.ld w (Rect.unit ![o, 0] ![512, 1024] h)

/-- The nine chunk products added up are the whole product. -/
theorem chunks (z : Vec Ideal S512x4608 .bf16) (w : Vec Ideal S4608x1024 .bf16) (h0 h0' h1 h1' h2 h2' h3 h3' h4 h4' h5 h5' h6 h6' h7 h7' h8 h8') :
    k0_pay5 (F := Ideal) (k0_pay4 (zc z 0 h0) (wc w 0 h0') (zc z 512 h1) (wc w 512 h1') (zc z 1024 h2) (wc w 1024 h2')
        (zc z 1536 h3) (wc w 1536 h3') (zc z 2048 h4) (wc w 2048 h4')) (zc z 2560 h5) (wc w 2560 h5') (zc z 3072 h6) (wc w 3072 h6')
        (zc z 3584 h7) (wc w 3584 h7') (zc z 4096 h8) (wc w 4096 h8')
      = fun y => dh z w (y 0) (y 1) := by
  funext y
  pointwise [k0_pay5, k0_pay4]
  refine Eq.trans ?_ (Fin.sum_mul_add_fin 9 512 (fun k : Fin 4608 => (z (ix2 (y 0) k) : EReal) * w (ix2 k (y 1))))
  rw [Sums.sum_nine]
  refine congrArg₂ _ (congrArg₂ _ (congrArg₂ _ (congrArg₂ _ (congrArg₂ _ (congrArg₂ _ (congrArg₂ _ (congrArg₂ _ ?_ ?_) ?_) ?_) ?_) ?_) ?_) ?_) ?_ <;>
    exact Finset.sum_congr rfl fun k _ => Sums.chunk_dot z w _ _ (y 0) (y 1) k _

/-- Row `p` of a block. -/
def row (x : S512x1024.Idx → EReal) (p : Fin 512) (k : Fin 1024) : EReal := x (ix2 p k)

/-- The rows' gradient of a block, from the block's product. -/
theorem pay2_eq (a : FVec Ideal S512x1024 .f32) (x : Vec Ideal S512x1024 .f32) (g : Vec Ideal S1x1024 .f32) (d : Vec Ideal S512x1024 .f32) :
    k0_pay2 (F := Ideal) a (k0_pay6 x) (k0_pay7 x) g d
      = fun y => Norm.backward (row x (y 0)) (row a (y 0)) (fun k => g (ix2 0 k)) (d y) (y 1) := by
  funext y
  rw [eq_ix2 y]
  pointwise [k0_pay2, k0_pay7, k0_pay6, Norm.backward, Norm.scale, Norm.meanSq, row]

/-- The block's part of the gain's gradient: each column's sum of the product against the normalised rows. -/
def gainPart (a x : S512x1024.Idx → EReal) (j : Fin 1024) : EReal :=
  ∑ p : Fin 512, a (ix2 p j) * (x (ix2 p j) * Norm.scale (row x p))

theorem pay9_eq (v26 : FVec Ideal S512x1024 .f32) (v27 : Vec Ideal S512x512 .bf16) (v28 : Vec Ideal S512x1024 .bf16)
    (v32 : Vec Ideal S512x512 .bf16) (v33 : Vec Ideal S512x1024 .bf16) (v37 : Vec Ideal S512x512 .bf16)
    (v38 : Vec Ideal S512x1024 .bf16) (v42 : Vec Ideal S512x512 .bf16) (v43 : Vec Ideal S512x1024 .bf16)
    (x : Vec Ideal S512x1024 .f32) :
    k0_pay9 (F := Ideal) v26 v27 v28 v32 v33 v37 v38 v42 v43 x
      = fun y => gainPart (k0_pay5 v26 v27 v28 v32 v33 v37 v38 v42 v43) x (y 1) := by
  funext y
  pointwise [k0_pay9, k0_pay7, k0_pay6, gainPart, Norm.scale, Norm.meanSq, row]

variable (m : (ℓ : Loc nD τ sig) → Buf (Elt Ideal) ℓ) (c : Dev nD)

/-- The product of the block at point `t`. -/
def dhAt (t : Fin cfg0.N) : S512x1024.Idx → EReal := fun y => dh (iblk m c 0 t) (iblk m c 1 t) (y 0) (y 1)

/-- The rows' gradient that point `t` leaves. -/
theorem dx_at (t : Fin cfg0.N) : (outsAt0 m c t.val t.isLt).1
    = fun y => Norm.backward (row (iblk m c 2 t) (y 0)) (row (dhAt m c t) (y 0)) (fun k => iblk m c 3 t (ix2 0 k)) (iblk m c 4 t y) (y 1) := by
  by_cases h : t.val % 16 = 0
  · rw [outsAt0_A m c t h]
    frame_out
    rw [chunks, pay2_eq]; rfl
  · rw [outsAt0_B m c t h]
    frame_out
    rw [chunks, pay2_eq]; rfl

/-- The first point leaves its part of the gain's gradient in row 0, zeros below. -/
theorem gain_first (t : Fin cfg0.N) (h : t.val % 16 = 0) (y : S8x1024.Idx) : (outsAt0 m c t.val t.isLt).2 y
    = 0 + if (y 0).val = 0 then gainPart (dhAt m c t) (iblk m c 2 t) (y 1) else 0 := by
  rw [outsAt0_A m c t h]
  frame_out
  rw [pay9_eq, chunks, Pieces.readCov_whole]
  by_cases hy : (y 0).val = 0
  · rw [if_pos hy]
    refine (Pieces.canon_in _ _ _ y (ix2 0 (y 1)) (Fin.forall_fin_two.mpr ⟨by simpa using hy, by simp⟩)).trans ?_
    pointwise [k0_pay1, k0_pay8, k0_pay3]
    rfl
  · rw [if_neg hy]
    refine (Pieces.canon_out _ _ _ y 0 (.inr (Nat.one_le_iff_ne_zero.mpr hy))).trans ?_
    frame_out
    pointwise [k0_pay3]

/-- A later point adds its part to row 0. -/
theorem gain_step (t : Fin cfg0.N) (h : ¬t.val % 16 = 0) (y : S8x1024.Idx) : (outsAt0 m c t.val t.isLt).2 y
    = (outsAt0 m c (t.val - 1) (Nat.lt_of_le_of_lt (Nat.sub_le _ _) t.isLt)).2 y
      + if (y 0).val = 0 then gainPart (dhAt m c t) (iblk m c 2 t) (y 1) else 0 := by
  rw [outsAt0_B m c t h]
  frame_out
  rw [pay9_eq, chunks]
  by_cases hy : (y 0).val = 0
  · rw [if_pos hy]
    refine (View.read_writes_cons_unit_of_mem _ _ _ _ _ y (ix2 0 (y 1)) rfl (Fin.forall_fin_two.mpr ⟨by simpa using hy, by simp⟩)).trans ?_
    pointwise [k0_pay1, k0_pay8]
    exact congrArg (· + _) (congrArg _ (Sums.ext2 (by simpa using hy.symm) rfl))
  · rw [if_neg hy]
    refine (View.read_writes_cons_unit_of_not_mem _ _ _ _ _ y rfl 0 (.inr (Nat.one_le_iff_ne_zero.mpr hy))).trans ?_
    exact ((add_zero _).trans (congrFun ((hs0_6 t).read_unread _) y).symm).symm

end Cert.KernelIdeal.Body
-- ==== Proof.Array.lean ====
/- What the kernel's two result arrays hold after its run, as functions of its arguments. -/
module

public import proofs.«01_k».proof.Proof.Block

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The block of every window at every point. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

/-- Row `r` of the gradient of the scaled rows, from the arguments. -/
def dhRow (dz : S8192x4608.Idx → EReal) (w : S1024x4608.Idx → EReal) (r : Fin 8192) (j : Fin 1024) : EReal :=
  ∑ k : Fin 4608, dz (ix2 r k) * w (ix2 j k)

theorem dx_array : (dats m 0 c).arrAt 5 cfg0.N = fun i : S8192x1024.Idx =>
    Norm.backward (fun k => m ((c.tc : Thread nD τ).loc main_arg2) (ix2 (i 0) k))
      (dhRow (m ((c.tc : Thread nD τ).loc main_arg0)) (m ((c.tc : Thread nD τ).loc main_arg1)) (i 0))
      (fun k => m ((c.tc : Thread nD τ).loc main_arg3) (ix1 k)) (m ((c.tc : Thread nD τ).loc main_arg4) i) (i 1) := by
  refine (dats m 0 c).arrAt_eq_of_covers 5 _ (by decide +kernel) fun t hf y => ?_
  blk_simp
  rw [after0_5, dx_at]
  pointwise [Norm.backward, Norm.scale, Norm.meanSq, row, dhAt, dh, dhRow]
  blk_point [iblk, V, idx0 t, idx1 t, idx2 t, idx3 t, idx4 t, idx5 t]

/-- A row's part of the gain's gradient, from the arguments. -/
def gainRow (x : S8192x1024.Idx → EReal) (dz : S8192x4608.Idx → EReal) (w : S1024x4608.Idx → EReal) (r : Fin 8192) (j : Fin 1024) : EReal :=
  dhRow dz w r j * (x (ix2 r j) * Norm.scale fun k => x (ix2 r k))

theorem row_lt (t : Fin cfg0.N) (p : Fin 512) : t.val * 512 + p.val < 8192 := by
  have h : t.val < 16 := t.isLt
  omega

theorem gainPart_at (t : Fin cfg0.N) (j : Fin 1024) : gainPart (dhAt m c t) (iblk m c 2 t) j
    = ∑ p : Fin 512, gainRow (m ((c.tc : Thread nD τ).loc main_arg2)) (m ((c.tc : Thread nD τ).loc main_arg0))
        (m ((c.tc : Thread nD τ).loc main_arg1)) ⟨t.val * 512 + p.val, row_lt t p⟩ j := by
  pointwise [gainPart, gainRow, dhAt, dh, dhRow, Norm.scale, Norm.meanSq, row]
  blk_point [iblk, V, idx0 t, idx1 t, idx2 t]

/-- The last grid point, the only one whose small block is written back. -/
def last : Fin cfg0.N := ⟨15, by decide⟩

theorem gain_array : (dats m 0 c).arrAt 6 cfg0.N = fun i : S8x1024.Idx => if (i 0).val = 0 then
    ∑ r : Fin 8192, gainRow (m ((c.tc : Thread nD τ).loc main_arg2)) (m ((c.tc : Thread nD τ).loc main_arg0))
      (m ((c.tc : Thread nD τ).loc main_arg1)) r (i 1) else 0 := by
  refine (dats m 0 c).arrAt_eq_of_after_last 6 last (by decide +kernel) _ fun j => ?_
  blk_simp
  refine (congrFun (after0_6 m c last) j).trans ?_
  refine (Pipeline.eq_sum_fin_of_reset_step_apply_last (fun n h y => (outsAt0 m c n h).2 y) 16 (fun _ => 0) _ (gain_first m c) (gain_step m c)
    (by decide) last rfl j).trans ?_
  rw [zero_add]
  by_cases hj : (j 0).val = 0
  · simp only [if_pos hj]
    refine (Finset.sum_congr rfl fun t _ => gainPart_at m c t (j 1)).trans (Eq.trans ?_ (if_pos hj).symm)
    exact Fin.sum_mul_add_fin 16 512 (fun r : Fin 8192 => gainRow (m ((c.tc : Thread nD τ).loc main_arg2))
      (m ((c.tc : Thread nD τ).loc main_arg0)) (m ((c.tc : Thread nD τ).loc main_arg1)) r (j 1))
  · simp only [if_neg hj, Finset.sum_const_zero]
    exact (if_neg hj).symm

end Cert.KernelIdeal.Body

end
-- ==== Proof.Reference.lean ====
/- What the reference leaves: the derivative of the forward lines, row by row. -/
module

public import proofs.«01_k».proof.Proof.Gen.ReferenceIdeal.Read
public import proofs.«01_k».proof.Proof.Array

@[expose] public section

set_option maxRecDepth 16384

noncomputable section

namespace Cert.ReferenceIdeal.Body

open Cert.ReferenceIdeal Cert.ReferenceIdeal.Gen Cert.ReferenceIdeal.Read Idealize.ShloMosaic Idealize.ShloMosaic.TcCoe Idealize.SL.Sem
open Cert.KernelIdeal.Body (dhRow gainRow)

variable (dz : S8192x4608.Idx → EReal) (w : S1024x4608.Idx → EReal) (x : S8192x1024.Idx → EReal) (g : S1024.Idx → EReal)
  (d : S8192x1024.Idx → EReal)

theorem dh_eq : val_main_v18 (F := Ideal) dz w = fun i => dhRow dz w (i 0) (i 1) := by
  funext i
  pointwise [val_main_v18, val_main_v17, dhRow]

/-- The rows' gradient. -/
theorem dx_eq : val_main_v39 (F := Ideal) dz w x g d
    = fun i => Norm.vjp (fun k => x (ix2 (i 0) k)) (dhRow dz w (i 0)) (fun k => g (ix1 k)) (d i) (i 1) := by
  funext i
  rw [eq_ix2 i]
  pointwise [val_main_v39, val_main_v38, val_main_v37, val_main_v36, val_main_v35, val_main_v34, val_main_v33, val_main_v32,
    val_main_v31, val_main_v30, val_main_v29, val_main_v28, val_main_v27, val_main_v26, val_main_v25, val_main_v23, val_main_v22,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2, val_main_cst_5, val_main_cst_6, val_main_cst_7, dh_eq, Norm.vjp, Norm.through, Norm.scale, Norm.meanSq]
  simp only [Fin.sum_univ_one]

/-- The gain's gradient: each column's sum over all rows. -/
theorem gain_eq (j : S1024.Idx) : val_main_v24 (F := Ideal) dz w x j = ∑ r : Fin 8192, gainRow x dz w r (j 0) := by
  pointwise [val_main_v24, val_main_v21, val_main_v20, val_main_v19, val_main_v12, val_main_v11, val_main_v7, val_main_v6,
    val_main_v5, val_main_v4, val_main_v3, val_main_v2, val_main_v1, val_main_v0, val_main_cst, val_main_cst_0, val_main_cst_1,
    val_main_cst_3, val_main_cst_4, dh_eq, gainRow, Norm.scale, Norm.meanSq]
  rw [Fin.sum_univ_one]
  exact Finset.sum_congr rfl fun r _ => mul_comm (G := EReal) _ _

theorem small_eq : val_main_v42 (F := Ideal) dz w x
    = fun i => if (i 0).val = 0 then ∑ r : Fin 8192, gainRow x dz w r (i 1) else 0 := by
  funext i
  pointwise [val_main_v42, val_main_v41, val_main_v40, val_main_cst_8, gain_eq]
  simp only [Nat.lt_one_iff, dite_eq_ite]

end Cert.ReferenceIdeal.Body

end
-- ==== Proof.Equation.lean ====
/- The two programs' results agree on finite arguments. -/
module

public import proofs.«01_k».proof.Defs
public import proofs.«01_k».proof.Proof.Gen.Pre_finite
public import proofs.«01_k».proof.Proof.Reference

@[expose] public section

set_option maxRecDepth 16384

noncomputable section

namespace Cert.Equation

open Idealize.ShloMosaic Idealize.SL.Sem Cert.Finite Cert.Pre_finite
open Cert.KernelIdeal.Body (dhRow)

theorem rank_zero : S_.rank = 0 := rfl

instance : Fact (S_.rank = 0) := ⟨rank_zero⟩

/-- Where the precondition holds, the four arguments it names are real numbers. -/
theorem reals {dz : S8192x4608.Idx → EReal} {w : S1024x4608.Idx → EReal} {x : S8192x1024.Idx → EReal} {g : S1024.Idx → EReal}
    {d : S8192x1024.Idx → EReal} (h : Cert.Pre_finite.fn (F := Ideal) dz w x g d = fun _ => 1#1) :
    (∃ r : S8192x4608.Idx → ℝ, ∀ i, dz i = r i) ∧ (∃ r : S1024x4608.Idx → ℝ, ∀ i, w i = r i)
      ∧ (∃ r : S8192x1024.Idx → ℝ, ∀ i, x i = r i) ∧ ∃ r : S1024.Idx → ℝ, ∀ i, g i = r i := by
  have e := congrFun h fun k => absurd k.isLt (by simp)
  obtain ⟨e, e3⟩ := both e
  obtain ⟨e, e2⟩ := both e
  obtain ⟨e0, e1⟩ := both e
  exact ⟨real_of_test _ _ _ _ _ e0, real_of_test _ _ _ _ _ e1, real_of_test _ _ _ _ _ e2, real_of_test _ _ _ _ _ e3⟩

/-- On finite arguments the rows' gradient as written by hand is the derivative. -/
theorem dx_eq {dz : S8192x4608.Idx → EReal} {w : S1024x4608.Idx → EReal} {x : S8192x1024.Idx → EReal} {g : S1024.Idx → EReal}
    {d : S8192x1024.Idx → EReal} (h : Cert.Pre_finite.fn (F := Ideal) dz w x g d = fun _ => 1#1) (i : S8192x1024.Idx) :
    Norm.backward (fun k => x (ix2 (i 0) k)) (dhRow dz w (i 0)) (fun k => g (ix1 k)) (d i) (i 1)
      = Norm.vjp (fun k => x (ix2 (i 0) k)) (dhRow dz w (i 0)) (fun k => g (ix1 k)) (d i) (i 1) := by
  obtain ⟨⟨dz', hdz⟩, ⟨w', hw⟩, ⟨x', hx⟩, ⟨g', hg⟩⟩ := reals h
  have hd : dhRow dz w (i 0) = fun j => ((∑ k : Fin 4608, dz' (ix2 (i 0) k) * w' (ix2 j k) : ℝ) : EReal) := by
    funext j
    simp only [dhRow, hdz, hw, ← EReal.coe_mul, ← coe_sum]
  simp only [hx, hg, hd]
  exact Norm.backward_eq_vjp _ _ _ _ _

end Cert.Equation

end
-- ==== Proof.FfnPieces.lean ====
/- What one grid point of the convolutional feed-forward's gradient stores, chunk by chunk: eleven chunks of 256 columns, each
   with the gate half's block, the value half's block, and its part of four sums in the small output. -/
module

public import proofs.«01_k».proof.Proof.Gen.Kernel2Ideal.Value
public import proofs.«01_k».proof.Proof.Pieces

@[expose] public section

set_option maxRecDepth 65536

noncomputable section

namespace Cert.Kernel2Ideal.Body

open Cert.Kernel2Ideal Cert.Kernel2Ideal.Gen Idealize.ShloMosaic Idealize.ShloMosaic.TcCoe Idealize.SL.Sem

/-- What one grid point reads: whether it is the last one, the incoming gradient's block and the rows after it, the forward
    values' blocks and the rows after them, and the weights. -/
structure Inputs where
  last : BitVec 1
  x : Vec Ideal S512x1024 .f32
  xn : Vec Ideal S16x1024 .f32
  up : Vec Ideal S512x5632 .bf16
  upn : Vec Ideal S16x5632 .bf16
  gc : Vec Ideal S512x2816 .bf16
  gcn : Vec Ideal S16x2816 .bf16
  w : Vec Ideal S3x2816 .f32
  wd : Vec Ideal S2816x1024 .bf16

variable (I : Inputs) (i : Fin 11)

/-- Chunk `i` of the downward product's weight, of the gates, of the values and of their convolved gates, of the rows after
    them, and of the taps. -/
abbrev Inputs.wdAt : Vec Ideal S256x1024 .bf16 :=
  View.ld I.wd (Rect.unit ![256 * i.val, 0] ![256, 1024] (Fin.forall_fin_two.mpr ⟨show 256 * i.val + 256 ≤ 2816 by omega, show 0 + 1024 ≤ 1024 by omega⟩))
abbrev Inputs.gateAt : Vec Ideal S512x256 .bf16 :=
  View.ld I.up (Rect.unit ![0, 256 * i.val] ![512, 256] (Fin.forall_fin_two.mpr ⟨show 0 + 512 ≤ 512 by omega, show 256 * i.val + 256 ≤ 5632 by omega⟩))
abbrev Inputs.valAt : Vec Ideal S512x256 .bf16 :=
  View.ld I.up (Rect.unit ![0, 2816 + 256 * i.val] ![512, 256] (Fin.forall_fin_two.mpr ⟨show 0 + 512 ≤ 512 by omega, show 2816 + 256 * i.val + 256 ≤ 5632 by omega⟩))
abbrev Inputs.valnAt : Vec Ideal S16x256 .bf16 :=
  View.ld I.upn (Rect.unit ![0, 2816 + 256 * i.val] ![16, 256] (Fin.forall_fin_two.mpr ⟨show 0 + 16 ≤ 16 by omega, show 2816 + 256 * i.val + 256 ≤ 5632 by omega⟩))
abbrev Inputs.gcAt : Vec Ideal S512x256 .bf16 :=
  View.ld I.gc (Rect.unit ![0, 256 * i.val] ![512, 256] (Fin.forall_fin_two.mpr ⟨show 0 + 512 ≤ 512 by omega, show 256 * i.val + 256 ≤ 2816 by omega⟩))
abbrev Inputs.gcnAt : Vec Ideal S16x256 .bf16 :=
  View.ld I.gcn (Rect.unit ![0, 256 * i.val] ![16, 256] (Fin.forall_fin_two.mpr ⟨show 0 + 16 ≤ 16 by omega, show 256 * i.val + 256 ≤ 2816 by omega⟩))
abbrev Inputs.wAt : Vec Ideal S3x256 .f32 :=
  View.ld I.w (Rect.unit ![0, 256 * i.val] ![3, 256] (Fin.forall_fin_two.mpr ⟨show 0 + 3 ≤ 3 by omega, show 256 * i.val + 256 ≤ 2816 by omega⟩))

/-- The convolved gates' gradient in chunk `i`, the one of the rows after the block, and the first shifted by one row and by two. -/
def Inputs.dgcT : FVec Ideal S512x256 .bf16 :=
  k0_pay12 (k0_pay7 (I.gcAt i)) (k0_pay10 I.x I.xn (I.wdAt i) (I.valAt i)) (k0_pay11 (I.gcAt i))
def Inputs.haloT : FVec Ideal S16x256 .bf16 := k0_pay13 I.last (k0_pay5 I.x I.xn (I.wdAt i)) (I.gcnAt i) (I.valnAt i)
def Inputs.up1T : FVec Ideal S512x256 .bf16 :=
  k0_pay14 I.last (k0_pay5 I.x I.xn (I.wdAt i)) (k0_pay7 (I.gcAt i)) (k0_pay10 I.x I.xn (I.wdAt i) (I.valAt i)) (k0_pay11 (I.gcAt i))
    (I.gcnAt i) (I.valnAt i)
def Inputs.rotT : FVec Ideal S512x256 .bf16 :=
  k0_pay15 (k0_pay7 (I.gcAt i)) (k0_pay10 I.x I.xn (I.wdAt i) (I.valAt i)) (k0_pay11 (I.gcAt i))
def Inputs.edgeT : FVec Ideal S16x256 .bf16 :=
  k0_pay16 I.last (k0_pay5 I.x I.xn (I.wdAt i)) (k0_pay7 (I.gcAt i)) (k0_pay10 I.x I.xn (I.wdAt i) (I.valAt i)) (k0_pay11 (I.gcAt i))
    (I.gcnAt i) (I.valnAt i)

/-- The two blocks of the first output. -/
def Inputs.gateT : FVec Ideal S512x256 .bf16 :=
  k0_pay19 (I.dgcT i) (I.haloT i) (I.up1T i) (I.rotT i) (I.edgeT i) k0_pay17 (I.wAt i)
def Inputs.valT : FVec Ideal S512x256 .bf16 := k0_pay9 I.x I.xn (I.wdAt i) (I.gcAt i)

/-- The four rows of the small output, from what they held. -/
def Inputs.rowT (k : Fin 4) (prev : Vec Ideal S1x256 .f32) : FVec Ideal S1x256 .f32 :=
  match k with
  | 0 => k0_pay20 (I.gateAt i) (I.haloT i) (I.rotT i) (I.edgeT i) k0_pay17 prev
  | 1 => k0_pay23 (k0_pay21 prev) (k0_pay22 (I.gateAt i) (I.up1T i))
  | 2 => k0_pay24 (I.gateAt i) (I.dgcT i) prev
  | 3 => k0_pay25 (I.dgcT i) prev

/-- Where chunk `i`'s blocks and row parts lie. -/
abbrev gateRect : Rect S512x5632 := Rect.unit ![0, 256 * i.val] ![512, 256] (Fin.forall_fin_two.mpr ⟨show 0 + 512 ≤ 512 by omega, show 256 * i.val + 256 ≤ 5632 by omega⟩)
abbrev valRect : Rect S512x5632 := Rect.unit ![0, 2816 + 256 * i.val] ![512, 256] (Fin.forall_fin_two.mpr ⟨show 0 + 512 ≤ 512 by omega, show 2816 + 256 * i.val + 256 ≤ 5632 by omega⟩)

-- `b` is the first of the small output's four rows: 24 for the second layer, 8 for the first.
variable (b : ℕ) [hb : Fact (b + 4 ≤ 40)]

instance : Fact (24 + 4 ≤ 40) := ⟨by decide⟩
instance : Fact (8 + 4 ≤ 40) := ⟨by decide⟩

abbrev rowRect (k : Fin 4) : Rect S40x2816 := Rect.unit ![b + k.val, 256 * i.val] ![1, 256]
  (Fin.forall_fin_two.mpr ⟨show b + k.val + 1 ≤ 40 by have := hb.out; omega, show 256 * i.val + 256 ≤ 2816 by omega⟩)

/-- The chunks, the newest first. -/
abbrev chunksDown : List (Fin 11) := [10, 9, 8, 7, 6, 5, 4, 3, 2, 1, 0]

/-- The row parts, the newest first. -/
abbrev rowsDown : List (Fin 11 × Fin 4) := chunksDown.flatMap fun i => [(i, 3), (i, 2), (i, 1), (i, 0)]

/-- The first output's pieces. -/
def Inputs.dupPieces : List (View.Piece (Elt Ideal) S512x5632 .bf16) :=
  chunksDown.flatMap fun i => [⟨gateRect i, I.gateT i⟩, ⟨valRect i, I.valT i⟩]

/-- The small output's pieces over what it held, each added to the row part it replaces. -/
def Inputs.rowPieces (prev : Vec Ideal S40x2816 .f32) : List (View.Piece (Elt Ideal) S40x2816 .f32) :=
  rowsDown.map fun a => ⟨rowRect a.1 b a.2, I.rowT a.1 a.2 (View.ld prev (rowRect a.1 b a.2))⟩

/-- The same at the first grid point, where a row part is read back through the stores before it. -/
def Inputs.fill {sig' : RefSig} {κ : Kind} {sp : Space} (v : View sig' κ sp S40x2816 .f32) (L0 : List (View.Piece (Elt Ideal) S40x2816 .f32)) :
    List (Fin 11 × Fin 4) → List (View.Piece (Elt Ideal) S40x2816 .f32)
  | [] => L0
  | a :: l => ⟨rowRect a.1 b a.2, I.rowT a.1 a.2 (v.readCov (fill v L0 l) (rowRect a.1 b a.2).toLoadRect)⟩ :: fill v L0 l

/-- The small output at the first grid point, before any chunk: what came in, its four rows zeroed. -/
def base (s : Vec Ideal S40x2816 .f32) : List (View.Piece (Elt Ideal) S40x2816 .f32) :=
  [⟨Rect.unit ![b, 0] S4x2816.size (Fin.forall_fin_two.mpr ⟨hb.out, show 0 + 2816 ≤ 2816 by omega⟩), k0_pay2 (F := Ideal)⟩,
    ⟨Rect.unit ![0, 0] S40x2816.size inb_S40x2816_S40x2816_0_0, s⟩]

variable (m : (ℓ : Loc nD τ sig) → Buf (Elt Ideal) ℓ) (c : Dev nD)

/-- Grid point `t`'s inputs. -/
def inputs (t : Fin cfg0.N) : Inputs where
  last := Scalar.cmpi CmpIPredicate.eq (BitVec.ofNat 32 ↑(grid0.coords t 0)) 15#32
  x := iblk m c 0 t
  xn := iblk m c 1 t
  up := iblk m c 2 t
  upn := iblk m c 3 t
  gc := iblk m c 4 t
  gcn := iblk m c 5 t
  w := iblk m c 6 t
  wd := iblk m c 7 t

theorem dup_pieces (t : Fin cfg0.N) : (outsAt0 m c t.val t.isLt).1 = View.canon (inputs m c t).dupPieces := by
  by_cases h : t.val % 16 = 0
  · rw [outsAt0_A m c t h]
    frame_out
    sl_kernel_rfl
  · rw [outsAt0_B m c t h]
    frame_out
    sl_kernel_rfl

set_option maxHeartbeats 1000000 in
theorem row_pieces_A (t : Fin cfg0.N) (h : t.val % 16 = 0) :
    (outsAt0 m c t.val t.isLt).2 = View.canon ((inputs m c t).fill 24 (ms0_10 t).view (base 24 (iblk m c 8 t)) rowsDown) := by
  rw [outsAt0_A m c t h]
  frame_out
  sl_kernel_rfl

theorem row_pieces_B (t : Fin cfg0.N) (h : ¬t.val % 16 = 0) :
    (outsAt0 m c t.val t.isLt).2 =
      (ms0_10 t).view.read (Elt Ideal) ((ms0_10 t).view.writes (Elt Ideal) ((hs0_10 t).unread (outsAt0 m c (t.val - 1) (by omega)).2)
        ((inputs m c t).rowPieces 24 (outsAt0 m c (t.val - 1) (by omega)).2)) := by
  rw [outsAt0_B m c t h]
  frame_out
  sl_kernel_rfl

end Cert.Kernel2Ideal.Body

end
-- ==== Proof.FfnBlock.lean ====
/- One grid point's blocks of the convolutional feed-forward's gradient at an index: the two halves of the first output, and
   the four sums added to the small one. -/
module

public import proofs.«01_k».proof.Proof.FfnPieces
public import proofs.«01_k».proof.Proof.Sums
public import Idealize.ShloMosaic.Lib.Pointwise

@[expose] public section

set_option maxRecDepth 16384

noncomputable section

namespace Cert.Kernel2Ideal.Body

open Cert.Kernel2Ideal Cert.Kernel2Ideal.Gen Idealize.ShloMosaic Idealize.ShloMosaic.TcCoe Idealize.SL.Sem

/-- The logistic function as the kernel writes it. -/
def sg (v : EReal) : EReal := Ideal.div 1 (1 + Ideal.exp (0 - v))

/-- The gradient of a gate: through the product with the value, then through `v ↦ v * sg v`. -/
def through (d val v : EReal) : EReal := d * val * (sg v * (1 + v * (1 - sg v)))

variable (I : Inputs) (i : Fin 11)

/-- Column `q` of chunk `i`, in the gates' half and in the values' half. -/
abbrev lo (j : Fin 2816) : Fin 5632 := ⟨j.val, by omega⟩
abbrev hi (j : Fin 2816) : Fin 5632 := ⟨2816 + j.val, by omega⟩
abbrev col (q : Fin 256) : Fin 2816 := ⟨256 * i.val + q.val, by omega⟩

/-- The gradient of the gated values, and of the convolved gates, in the block. -/
def Inputs.dab (p : Fin 512) (j : Fin 2816) : EReal := ∑ k : Fin 1024, I.x (ix2 p k) * I.wd (ix2 j k)
def Inputs.dgc (p : Fin 512) (j : Fin 2816) : EReal := through (I.dab p j) (I.up (ix2 p (hi j))) (I.gc (ix2 p j))

/-- The convolved gates' gradient in the rows after the block: zero after the last one. -/
def Inputs.halo (p : Fin 16) (j : Fin 2816) : EReal :=
  if I.last = (1 : BitVec 1) then 0
  else through (∑ k : Fin 1024, I.xn (ix2 p k) * I.wd (ix2 j k)) (I.upn (ix2 p (hi j))) (I.gcn (ix2 p j))

/-- The two of them as one column: row `n` of the block, or of the rows after it. -/
def Inputs.ext (n : ℕ) (j : Fin 2816) : EReal :=
  if h : n < 512 then I.dgc ⟨n, h⟩ j else I.halo ⟨(n - 512) % 16, by omega⟩ j

theorem wdAt_at (q : Fin 256) (k : Fin 1024) : I.wdAt i (ix2 q k) = I.wd (ix2 (col i q) k) :=
  congrArg I.wd (Sums.ext2 (by simp [Rect.idx_unit_val]) (by simp [Rect.idx_unit_val]))
theorem gateAt_at (p : Fin 512) (q : Fin 256) : I.gateAt i (ix2 p q) = I.up (ix2 p (lo (col i q))) :=
  congrArg I.up (Sums.ext2 (by simp [Rect.idx_unit_val]) (by simp [Rect.idx_unit_val]))
theorem valAt_at (p : Fin 512) (q : Fin 256) : I.valAt i (ix2 p q) = I.up (ix2 p (hi (col i q))) :=
  congrArg I.up (Sums.ext2 (by simp [Rect.idx_unit_val]) (by simp [Rect.idx_unit_val]; omega))
theorem valnAt_at (p : Fin 16) (q : Fin 256) : I.valnAt i (ix2 p q) = I.upn (ix2 p (hi (col i q))) :=
  congrArg I.upn (Sums.ext2 (by simp [Rect.idx_unit_val]) (by simp [Rect.idx_unit_val]; omega))
theorem gcAt_at (p : Fin 512) (q : Fin 256) : I.gcAt i (ix2 p q) = I.gc (ix2 p (col i q)) :=
  congrArg I.gc (Sums.ext2 (by simp [Rect.idx_unit_val]) (by simp [Rect.idx_unit_val]))
theorem gcnAt_at (p : Fin 16) (q : Fin 256) : I.gcnAt i (ix2 p q) = I.gcn (ix2 p (col i q)) :=
  congrArg I.gcn (Sums.ext2 (by simp [Rect.idx_unit_val]) (by simp [Rect.idx_unit_val]))
theorem wAt_at (p : Fin 3) (q : Fin 256) : I.wAt i (ix2 p q) = I.w (ix2 p (col i q)) :=
  congrArg I.w (Sums.ext2 (by simp [Rect.idx_unit_val]) (by simp [Rect.idx_unit_val]))

theorem dgcT_at (p : Fin 512) (q : Fin 256) : I.dgcT i (ix2 p q) = I.dgc p (col i q) := by
  pointwise [Inputs.dgcT, k0_pay12, k0_pay7, k0_pay10, k0_pay11, k0_pay8, k0_pay6, k0_pay4, k0_pay3]
  simp only [wdAt_at, valAt_at, gcAt_at, Inputs.dgc, through, sg, Inputs.dab]

theorem valT_at (p : Fin 512) (q : Fin 256) :
    I.valT i (ix2 p q) = I.dab p (col i q) * (I.gc (ix2 p (col i q)) * sg (I.gc (ix2 p (col i q)))) := by
  pointwise [Inputs.valT, k0_pay9, k0_pay7, k0_pay10, k0_pay11, k0_pay8, k0_pay6, k0_pay4, k0_pay3]
  simp only [wdAt_at, gcAt_at, sg, Inputs.dab]

theorem haloT_at (p : Fin 16) (q : Fin 256) : I.haloT i (ix2 p q) = I.halo p (col i q) := by
  pointwise [Inputs.haloT, k0_pay13, k0_pay5, k0_pay8, k0_pay6, k0_pay4, k0_pay3]
  simp only [wdAt_at, valnAt_at, gcnAt_at, Inputs.halo, through, sg, Scalar.select]

/-- Comparing a row's number with a constant, both below 16. -/
theorem cmp_row (n k : ℕ) (hn : n < 16) (hk : k < 16) :
    (IntOp.cmpi CmpIPredicate.eq (BitVec.ofNat 32 n) (BitVec.ofNat 32 k) = (1 : BitVec 1)) ↔ n = k := by
  have all : ∀ a b : Fin 16, (IntOp.cmpi CmpIPredicate.eq (BitVec.ofNat 32 a.val) (BitVec.ofNat 32 b.val) = (1 : BitVec 1)) ↔ a.val = b.val := by
    decide +kernel
  exact all ⟨n, hn⟩ ⟨k, hk⟩

theorem up1T_at (p : Fin 512) (q : Fin 256) : I.up1T i (ix2 p q) = I.ext (p.val + 1) (col i q) := by
  pointwise [Inputs.up1T, k0_pay14]
  have hp := p.isLt
  have hd := fun p' => dgcT_at I i p' q
  have hh := fun p' => haloT_at I i p' q
  unfold Inputs.dgcT at hd
  unfold Inputs.haloT at hh
  simp only [hd, hh, Scalar.select]
  unfold Inputs.ext
  by_cases h : p.val < 496
  · rw [dif_pos h, dif_pos (by omega)]
    exact congrArg (fun n => I.dgc n _) (Fin.ext (by show (p.val + 512 - 511) % 512 = p.val + 1; omega))
  · rw [dif_neg h]
    by_cases h' : p.val - 496 = 15
    · rw [if_pos ((cmp_row _ 15 (by omega) (by omega)).mpr h'), dif_neg (by omega)]
      exact congrArg (fun n => I.halo n _) (Fin.ext (by show 0 = (p.val + 1 - 512) % 16; omega))
    · rw [if_neg (fun e => h' ((cmp_row _ 15 (by omega) (by omega)).mp e)), dif_pos (by omega)]
      exact congrArg (fun n => I.dgc n _) (Fin.ext (by show (496 + (p.val - 496) + 512 - 511) % 512 = p.val + 1; omega))

theorem up2T_at (p : Fin 512) (q : Fin 256) :
    k0_pay18 (I.haloT i) (I.rotT i) (I.edgeT i) k0_pay17 (ix2 p q) = I.ext (p.val + 2) (col i q) := by
  pointwise [k0_pay18, k0_pay17, Inputs.rotT, Inputs.edgeT, k0_pay15, k0_pay16]
  have hp := p.isLt
  have hd := fun p' => dgcT_at I i p' q
  have hh := fun p' => haloT_at I i p' q
  simp only [hh]
  unfold Inputs.dgcT at hd
  unfold Inputs.haloT at hh
  simp only [hd, hh, Scalar.select]
  unfold Inputs.ext
  by_cases h : p.val < 496
  · rw [dif_pos h, dif_pos (by omega)]
    exact congrArg (fun n => I.dgc n _) (Fin.ext (by show (p.val + 512 - 510) % 512 = p.val + 2; omega))
  · rw [dif_neg h]
    by_cases h' : p.val - 496 = 15
    · rw [if_pos ((cmp_row _ 15 (by omega) (by omega)).mpr h'), dif_neg (by omega)]
      exact congrArg (fun n => I.halo n _) (Fin.ext (by show 1 = (p.val + 2 - 512) % 16; omega))
    · rw [if_neg (fun e => h' ((cmp_row _ 15 (by omega) (by omega)).mp e))]
      by_cases h'' : p.val - 496 = 14
      · rw [if_pos ((cmp_row _ 14 (by omega) (by omega)).mpr h''), dif_neg (by omega)]
        exact (hh 0).trans (congrArg (fun n => I.halo n _) (Fin.ext (by show 0 = (p.val + 2 - 512) % 16; omega)))
      · rw [if_neg (fun e => h'' ((cmp_row _ 14 (by omega) (by omega)).mp e)), dif_pos (by omega)]
        exact congrArg (fun n => I.dgc n _) (Fin.ext (by show (496 + (p.val - 496) + 512 - 510) % 512 = p.val + 2; omega))

/-- The gates' gradient: the transposed causal convolution of the convolved gates' one. -/
def Inputs.gate (p : Fin 512) (j : Fin 2816) : EReal :=
  I.w (ix2 2 j) * I.dgc p j + I.w (ix2 1 j) * I.ext (p.val + 1) j + I.w (ix2 0 j) * I.ext (p.val + 2) j

theorem gateT_at (p : Fin 512) (q : Fin 256) : I.gateT i (ix2 p q) = I.gate p (col i q) := by
  unfold Inputs.gateT
  pointwise [k0_pay19]
  rw [up2T_at, up1T_at, dgcT_at, wAt_at, wAt_at, wAt_at, Inputs.gate]

/-- The values' gradient. -/
def Inputs.val (p : Fin 512) (j : Fin 2816) : EReal := I.dab p j * (I.gc (ix2 p j) * sg (I.gc (ix2 p j)))

/-- The first output's block. -/
def Inputs.dup (y : S512x5632.Idx) : EReal :=
  if h : (y 1).val < 2816 then I.gate (y 0) ⟨(y 1).val, h⟩
  else I.val (y 0) ⟨(y 1).val - 2816, by have h1 : (y 1).val < 5632 := (y 1).isLt; omega⟩

theorem dup_lo (a : Fin 512) (j : Fin 2816) : I.dup (ix2 a (lo j)) = I.gate a j := by
  unfold Inputs.dup
  exact dif_pos (show (lo j).val < 2816 from j.isLt)

theorem dup_hi (a : Fin 512) (j : Fin 2816) : I.dup (ix2 a (hi j)) = I.val a j := by
  unfold Inputs.dup
  refine (dif_neg (show ¬(hi j).val < 2816 by show ¬2816 + j.val < 2816; omega)).trans (congrArg (I.val a) (Fin.ext ?_))
  show 2816 + j.val - 2816 = j.val
  omega

theorem mem_chunks (i : Fin 11) : i ∈ chunksDown := by revert i; decide

theorem mem_gate (i : Fin 11) (y : S512x5632.Idx) (h : (y 1).val / 256 = i.val) : y ∈ (gateRect i).set := by
  have h0 : (y 0).val < 512 := (y 0).isLt
  refine Rect.mem_set_unit.mpr (Fin.forall_fin_two.mpr ?_)
  show (0 ≤ (y 0).val ∧ (y 0).val < 0 + 512) ∧ (256 * i.val ≤ (y 1).val ∧ (y 1).val < 256 * i.val + 256)
  omega

theorem mem_val (i : Fin 11) (y : S512x5632.Idx) (h2 : 2816 ≤ (y 1).val) (h : ((y 1).val - 2816) / 256 = i.val) :
    y ∈ (valRect i).set := by
  have h0 : (y 0).val < 512 := (y 0).isLt
  refine Rect.mem_set_unit.mpr (Fin.forall_fin_two.mpr ?_)
  show (0 ≤ (y 0).val ∧ (y 0).val < 0 + 512) ∧ (2816 + 256 * i.val ≤ (y 1).val ∧ (y 1).val < 2816 + 256 * i.val + 256)
  omega

theorem canon_dup (y : S512x5632.Idx) : View.canon I.dupPieces y = I.dup y := by
  refine View.canon_apply_of_pieces (Val := Elt Ideal) (e := .bf16) I.dup _ ?_ y ?_
  · intro p hp
    obtain ⟨i, -, hp⟩ := List.mem_flatMap.mp hp
    rcases List.mem_pair.mp hp with rfl | rfl
    · intro x
      obtain ⟨a, b, rfl⟩ : ∃ (a : Fin 512) (b : Fin 256), x = ix2 a b := ⟨x 0, x 1, eq_ix2 x⟩
      have e : (gateRect i).emb (ix2 a b) = ix2 a (lo (col i b)) :=
        Sums.ext2 (by show 0 + 1 * a.val = a.val; omega) (by show 256 * i.val + 1 * b.val = 256 * i.val + b.val; omega)
      show I.gateT i (ix2 a b) = I.dup ((gateRect i).emb (ix2 a b))
      rw [e, gateT_at]
      exact (dup_lo I a (col i b)).symm
    · intro x
      obtain ⟨a, b, rfl⟩ : ∃ (a : Fin 512) (b : Fin 256), x = ix2 a b := ⟨x 0, x 1, eq_ix2 x⟩
      have e : (valRect i).emb (ix2 a b) = ix2 a (hi (col i b)) :=
        Sums.ext2 (by show 0 + 1 * a.val = a.val; omega)
          (by show 2816 + 256 * i.val + 1 * b.val = 2816 + (256 * i.val + b.val); omega)
      show I.valT i (ix2 a b) = I.dup ((valRect i).emb (ix2 a b))
      rw [e, valT_at]
      exact (dup_hi I a (col i b)).symm
  · have h0 : (y 0).val < 512 := (y 0).isLt
    have h1 : (y 1).val < 5632 := (y 1).isLt
    by_cases h : (y 1).val < 2816
    · exact ⟨⟨gateRect ⟨(y 1).val / 256, by omega⟩, I.gateT _⟩, List.mem_flatMap.mpr ⟨_, mem_chunks _, List.mem_cons_self⟩,
        mem_gate _ y rfl⟩
    · exact ⟨⟨valRect ⟨((y 1).val - 2816) / 256, by omega⟩, I.valT _⟩, List.mem_flatMap.mpr ⟨_, mem_chunks _,
        List.mem_cons_of_mem _ List.mem_cons_self⟩, mem_val _ y (by omega) rfl⟩

/-- What row `p` of the block adds to each of the four sums. -/
def Inputs.part (k : Fin 4) (p : Fin 512) (j : Fin 2816) : EReal :=
  match k with
  | 0 => I.up (ix2 p (lo j)) * I.ext (p.val + 2) j
  | 1 => I.up (ix2 p (lo j)) * I.ext (p.val + 1) j
  | 2 => I.up (ix2 p (lo j)) * I.dgc p j
  | 3 => I.dgc p j

/-- Rows folded in halves twice, then added, are all the rows added. -/
theorem folded (f : Fin 512 → EReal) (h0 : ∀ x : Fin 128, x.val < 512) (h1 : ∀ x : Fin 128, 256 + x.val < 512)
    (h2 : ∀ x : Fin 128, 128 + x.val < 512) (h3 : ∀ x : Fin 128, 256 + (128 + x.val) < 512) :
    ∑ x : Fin 128, (f ⟨x.val, h0 x⟩ + f ⟨256 + x.val, h1 x⟩ + (f ⟨128 + x.val, h2 x⟩ + f ⟨256 + (128 + x.val), h3 x⟩)) = ∑ p, f p := by
  refine Eq.trans ?_ (Fin.sum_mul_add_fin 4 128 f)
  rw [Fin.sum_univ_four, Finset.sum_add_distrib, Finset.sum_add_distrib, Finset.sum_add_distrib]
  have e : ∀ (a b : Fin 128 → Fin 512), (∀ x, (a x).val = (b x).val) → ∑ x, f (a x) = ∑ x, f (b x) := fun a b h =>
    Finset.sum_congr rfl fun x _ => congrArg f (Fin.ext (h x))
  rw [e _ (fun x : Fin 128 => (⟨(0 : Fin 4).val * 128 + x.val, by show 0 * 128 + x.val < 512; omega⟩ : Fin 512)) (fun x => by show x.val = 0 * 128 + x.val; omega),
    e (fun x => ⟨256 + x.val, h1 x⟩) (fun x : Fin 128 => (⟨(2 : Fin 4).val * 128 + x.val, by show 2 * 128 + x.val < 512; omega⟩ : Fin 512)) (fun x => by show 256 + x.val = 2 * 128 + x.val; omega),
    e (fun x => ⟨128 + x.val, h2 x⟩) (fun x : Fin 128 => (⟨(1 : Fin 4).val * 128 + x.val, by show 1 * 128 + x.val < 512; omega⟩ : Fin 512)) (fun x => by show 128 + x.val = 1 * 128 + x.val; omega),
    e (fun x => ⟨256 + (128 + x.val), h3 x⟩) (fun x : Fin 128 => (⟨(3 : Fin 4).val * 128 + x.val, by show 3 * 128 + x.val < 512; omega⟩ : Fin 512)) (fun x => by show 256 + (128 + x.val) = 3 * 128 + x.val; omega)]
  exact add_add_add_comm _ _ _ _ |>.trans (by rw [← add_assoc])

theorem rowT_at (k : Fin 4) (prev : Vec Ideal S1x256 .f32) (q : Fin 256) :
    I.rowT i k prev (ix2 0 q) = prev (ix2 0 q) + ∑ p : Fin 512, I.part k p (col i q) := by
  match k with
  | 0 =>
    show k0_pay20 (I.gateAt i) (I.haloT i) (I.rotT i) (I.edgeT i) k0_pay17 prev (ix2 0 q) = _
    pointwise [k0_pay20]
    simp only [up2T_at, gateAt_at]
    exact congrArg _ (folded (fun p => I.part 0 p (col i q)) _ _ _ _)
  | 1 =>
    show k0_pay23 (k0_pay21 prev) (k0_pay22 (I.gateAt i) (I.up1T i)) (ix2 0 q) = _
    pointwise [k0_pay23, k0_pay21, k0_pay22]
    simp only [up1T_at, gateAt_at]
    exact congrArg _ (folded (fun p => I.part 1 p (col i q)) _ _ _ _)
  | 2 =>
    show k0_pay24 (I.gateAt i) (I.dgcT i) prev (ix2 0 q) = _
    pointwise [k0_pay24]
    simp only [dgcT_at, gateAt_at]
    exact congrArg _ (folded (fun p => I.part 2 p (col i q)) _ _ _ _)
  | 3 =>
    show k0_pay25 (I.dgcT i) prev (ix2 0 q) = _
    pointwise [k0_pay25]
    simp only [dgcT_at]
    exact congrArg _ (folded (fun p => I.part 3 p (col i q)) _ _ _ _)

/-- What the block adds to the small output at an index of its four rows. -/
def Inputs.rows (b : ℕ) (y : S40x2816.Idx) : EReal := ∑ p : Fin 512, I.part ⟨((y 0).val - b) % 4, by omega⟩ p (y 1)

variable (b : ℕ) [hb : Fact (b + 4 ≤ 40)]

theorem rowT_emb (a : Fin 11 × Fin 4) (prev : Vec Ideal S1x256 .f32) (x : (rowRect a.1 b a.2).shape.Idx) :
    I.rowT a.1 a.2 prev x = prev x + I.rows b ((rowRect a.1 b a.2).emb x) := by
  obtain ⟨i, k⟩ := a
  obtain ⟨z, q, rfl⟩ : ∃ (z : Fin 1) (q : Fin 256), x = ix2 z q := ⟨x 0, x 1, eq_ix2 x⟩
  obtain rfl : z = 0 := Subsingleton.elim _ _
  refine (rowT_at I i k prev q).trans (congrArg _ (Finset.sum_congr rfl fun p _ => ?_))
  refine congrArg₂ (fun k' j => I.part k' p j) (Fin.ext ?_) (Fin.ext ?_)
  · show k.val = (b + k.val + 1 * 0 - b) % 4
    omega
  · show 256 * i.val + q.val = 256 * i.val + 1 * q.val
    omega

theorem mem_row (a : Fin 11 × Fin 4) (y : S40x2816.Idx) :
    y ∈ (rowRect a.1 b a.2).set ↔ (y 0).val = b + a.2.val ∧ (y 1).val / 256 = a.1.val := by
  refine Rect.mem_set_unit.trans (Fin.forall_fin_two.trans ?_)
  show (b + a.2.val ≤ (y 0).val ∧ (y 0).val < b + a.2.val + 1) ∧ (256 * a.1.val ≤ (y 1).val ∧ (y 1).val < 256 * a.1.val + 256) ↔ _
  omega

theorem mem_rows (a : Fin 11 × Fin 4) : a ∈ rowsDown := by revert a; decide

/-- An index in two row parts: they are the same. -/
theorem row_unique (a d : Fin 11 × Fin 4) (y : S40x2816.Idx) (ha : y ∈ (rowRect a.1 b a.2).set) (hd : y ∈ (rowRect d.1 b d.2).set) : a = d := by
  have ha := (mem_row b a y).mp ha
  have hd := (mem_row b d y).mp hd
  exact Prod.ext (Fin.ext (by omega)) (Fin.ext (by omega))

theorem fill_cons {sig' : RefSig} {κ : Kind} {sp : Space} (v : View sig' κ sp S40x2816 .f32) (L0 : List (View.Piece (Elt Ideal) S40x2816 .f32))
    (a : Fin 11 × Fin 4) (l : List (Fin 11 × Fin 4)) :
    I.fill b v L0 (a :: l) = (⟨rowRect a.1 b a.2, I.rowT a.1 a.2 (v.readCov (I.fill b v L0 l) (rowRect a.1 b a.2).toLoadRect)⟩ :
      View.Piece (Elt Ideal) S40x2816 .f32) :: I.fill b v L0 l := by
  rw [Inputs.fill]

theorem fill_out {sig' : RefSig} {κ : Kind} {sp : Space} (v : View sig' κ sp S40x2816 .f32) (L0 : List (View.Piece (Elt Ideal) S40x2816 .f32))
    (y : S40x2816.Idx) (l : List (Fin 11 × Fin 4)) (h : ∀ a ∈ l, y ∉ (rowRect a.1 b a.2).set) :
    View.canon (I.fill b v L0 l) y = View.canon L0 y := by
  induction l with
  | nil => rfl
  | cons d l ih =>
    rw [fill_cons I b]
    refine Eq.trans (View.canon_cons_of_not_mem _ _ ?_) ?_
    · exact h d List.mem_cons_self
    · exact ih fun a ha => h a (List.mem_cons_of_mem _ ha)

theorem fill_in {sig' : RefSig} {κ : Kind} {sp : Space} (v : View sig' κ sp S40x2816 .f32) (L0 : List (View.Piece (Elt Ideal) S40x2816 .f32))
    (y : S40x2816.Idx) (l : List (Fin 11 × Fin 4)) (hl : l.Nodup) (a : Fin 11 × Fin 4) (ha : a ∈ l) (hy : y ∈ (rowRect a.1 b a.2).set) :
    View.canon (I.fill b v L0 l) y = (View.canon L0 y : EReal) + I.rows b y := by
  induction l with
  | nil => exact absurd ha List.not_mem_nil
  | cons d l ih =>
    rw [fill_cons I b]
    by_cases hd : y ∈ (rowRect d.1 b d.2).set
    · obtain ⟨x, rfl⟩ : ∃ x, (rowRect d.1 b d.2).emb x = y := (rowRect d.1 b d.2).exists_idx_of_mem hd
      refine (View.canon_cons_emb _ _ _ x).trans ?_
      rw [rowT_emb I b d, View.readCov_eq_canon']
      refine congrArg (· + _) (fill_out I b v L0 _ l fun a' ha' hm => ?_)
      exact (List.nodup_cons.mp hl).1 (row_unique b a' d _ hm hd ▸ ha')
    · refine Eq.trans (View.canon_cons_of_not_mem _ _ ?_) (ih (List.nodup_cons.mp hl).2 ?_)
      · exact hd
      rcases List.mem_cons.mp ha with rfl | h
      · exact absurd hy hd
      · exact h

theorem row_in (y : S40x2816.Idx) (h : b ≤ (y 0).val ∧ (y 0).val < b + 4) :
    ∃ a ∈ rowsDown, y ∈ (rowRect a.1 b a.2).set := by
  have h1 : (y 1).val < 2816 := (y 1).isLt
  exact ⟨(⟨(y 1).val / 256, by omega⟩, ⟨(y 0).val - b, by omega⟩), mem_rows _, (mem_row b _ y).mpr ⟨by show (y 0).val = b + ((y 0).val - b); omega, rfl⟩⟩

theorem row_out (y : S40x2816.Idx) (h : ¬(b ≤ (y 0).val ∧ (y 0).val < b + 4)) (a : Fin 11 × Fin 4) : y ∉ (rowRect a.1 b a.2).set := by
  intro hm
  have := ((mem_row b a y).mp hm).1
  have := a.2.isLt
  omega

/-- The small output at the first grid point: what came in, its four rows cleared and added to. -/
theorem fill_at {sig' : RefSig} {κ : Kind} {sp : Space} (v : View sig' κ sp S40x2816 .f32) (s : Vec Ideal S40x2816 .f32) (y : S40x2816.Idx) :
    View.canon (I.fill b v (base b s) rowsDown) y = if b ≤ (y 0).val ∧ (y 0).val < b + 4 then (0 : EReal) + I.rows b y else s y := by
  split_ifs with hy
  · obtain ⟨a, ha, hm⟩ := row_in b y hy
    refine (fill_in I b v _ y rowsDown (by decide) a ha hm).trans ?_
    suffices h0 : View.canon (base b s) y = (0 : EReal) by rw [h0]
    unfold base
    refine (Pieces.canon_in _ _ _ y (ix2 ⟨(y 0).val - b, by omega⟩ (y 1)) (Fin.forall_fin_two.mpr ⟨by show (y 0).val = b + ((y 0).val - b); omega, by show (y 1).val = 0 + (y 1).val; omega⟩)).trans ?_
    pointwise [k0_pay2]
  · refine (fill_out I b v _ y rowsDown fun a _ => row_out b y hy a).trans ?_
    refine (Pieces.canon_out _ _ _ y 0 (by show (y 0).val < b ∨ b + 4 ≤ (y 0).val; omega)).trans ?_
    exact Pieces.canon_in _ _ _ y y (Fin.forall_fin_two.mpr ⟨by show (y 0).val = 0 + (y 0).val; omega, by show (y 1).val = 0 + (y 1).val; omega⟩)

/-- The small output at a later one, over what the one before left. -/
theorem rowPieces_at {sig' : RefSig} {κ : Kind} {sp : Space} (v : View sig' κ sp S40x2816 .f32) (f : v.ref.ty.Contents (Elt Ideal))
    (prev : Vec Ideal S40x2816 .f32) (hf : v.read (Elt Ideal) f = prev) (y : S40x2816.Idx) :
    v.read (Elt Ideal) (v.writes (Elt Ideal) f (I.rowPieces b prev)) y
      = if b ≤ (y 0).val ∧ (y 0).val < b + 4 then (prev y : EReal) + I.rows b y else prev y := by
  split_ifs with hy
  · obtain ⟨a, ha, hm⟩ := row_in b y hy
    refine View.read_writes_apply_of_pieces _ _ (fun y => (prev y : EReal) + I.rows b y) _ ?_ y ⟨_, List.mem_map.mpr ⟨a, ha, rfl⟩, hm⟩
    intro p hp
    obtain ⟨d, -, rfl⟩ := List.mem_map.mp hp
    intro x
    exact rowT_emb I b d _ x
  · refine (View.read_writes_apply_of_forall_not_mem _ _ y _ ?_).trans (congrFun hf y)
    intro p hp
    obtain ⟨d, -, rfl⟩ := List.mem_map.mp hp
    exact row_out b y hy d

variable (m : (ℓ : Loc nD τ sig) → Buf (Elt Ideal) ℓ) (c : Dev nD)

theorem dup_at (t : Fin cfg0.N) (y : S512x5632.Idx) : (outsAt0 m c t.val t.isLt).1 y = (inputs m c t).dup y :=
  (congrFun (dup_pieces m c t) y).trans (canon_dup _ y)

theorem small_first (t : Fin cfg0.N) (h : t.val % 16 = 0) (y : S40x2816.Idx) :
    (outsAt0 m c t.val t.isLt).2 y =
      if 24 ≤ (y 0).val ∧ (y 0).val < 24 + 4 then (0 : EReal) + (inputs m c t).rows 24 y else iblk m c 8 t y := by
  rw [row_pieces_A m c t h]
  exact fill_at _ 24 _ _ y

theorem small_step (t : Fin cfg0.N) (h : ¬t.val % 16 = 0) (y : S40x2816.Idx) :
    (outsAt0 m c t.val t.isLt).2 y =
      if 24 ≤ (y 0).val ∧ (y 0).val < 24 + 4 then ((outsAt0 m c (t.val - 1) (by omega)).2 y : EReal) + (inputs m c t).rows 24 y
      else (outsAt0 m c (t.val - 1) (by omega)).2 y := by
  rw [row_pieces_B m c t h]
  exact rowPieces_at _ 24 _ _ _ ((hs0_10 t).read_unread _) y

end Cert.Kernel2Ideal.Body

end
-- ==== Proof.FfnArray.lean ====
/- What the convolutional feed-forward's gradient leaves in its two result arrays, as functions of its arguments. -/
module

public import proofs.«01_k».proof.Proof.FfnBlock
public import proofs.«01_k».proof.Proof.Gen.Reference2Ideal.Read

@[expose] public section

set_option maxRecDepth 16384

noncomputable section

namespace Cert.Kernel2Ideal.Body

open Cert.Kernel2Ideal Cert.Kernel2Ideal.Gen Idealize.ShloMosaic Idealize.ShloMosaic.TcCoe Idealize.SL.Sem
open Idealize.ShloMosaic.Pipeline (Dat)

/-- The arguments: the incoming gradient, the forward values, the taps, their bias, the downward weight, the small array. -/
structure Args where
  x : S8192x1024.Idx → EReal
  up : S8192x5632.Idx → EReal
  w : S3x2816.Idx → EReal
  b : S2816.Idx → EReal
  wd : S2816x1024.Idx → EReal
  small : S40x2816.Idx → EReal

variable (A : Args)

/-- The gates after their causal convolution: three rows' gates against three taps, and the bias. -/
def Args.gc (r : Fin 8192) (j : Fin 2816) : EReal :=
  ((A.w (ix2 0 j) * if h : r.val < 2 then 0 else A.up (ix2 ⟨r.val - 2, by omega⟩ (lo j))) +
        A.w (ix2 1 j) * if h : 1 + r.val < 2 then 0 else A.up (ix2 ⟨1 + r.val - 2, by omega⟩ (lo j))) +
      A.w (ix2 2 j) * A.up (ix2 r (lo j)) + A.b (ix1 j)

theorem gc_eq (r : Fin 8192) (j : Fin 2816) :
    Cert.Reference2Ideal.Read.val_main_v22 (F := Ideal) A.up A.w A.b (ix2 r j) = A.gc r j := by
  open Cert.Reference2Ideal.Read in
  pointwise [val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4,
    val_main_v3, val_main_v2, val_main_v1, val_main_v0, val_main_cst, val_main_cst_0, Args.gc]

/-- The gated values' gradient and the convolved gates' one, the latter also past the last row, where it is zero. -/
def Args.dab (r : Fin 8192) (j : Fin 2816) : EReal := ∑ k : Fin 1024, A.x (ix2 r k) * A.wd (ix2 j k)
def Args.dgc (r : Fin 8192) (j : Fin 2816) : EReal := through (A.dab r j) (A.up (ix2 r (hi j))) (A.gc r j)
def Args.ext (n : ℕ) (j : Fin 2816) : EReal := if h : n < 8192 then A.dgc ⟨n, h⟩ j else 0

theorem ext_of_lt (n : ℕ) (j : Fin 2816) (h : n < 8192) : A.ext n j = A.dgc ⟨n, h⟩ j := by
  unfold Args.ext
  exact dif_pos h

/-- The first result's two halves. -/
def Args.gate (r : Fin 8192) (j : Fin 2816) : EReal :=
  A.w (ix2 2 j) * A.dgc r j + A.w (ix2 1 j) * A.ext (r.val + 1) j + A.w (ix2 0 j) * A.ext (r.val + 2) j
def Args.val (r : Fin 8192) (j : Fin 2816) : EReal := A.dab r j * (A.gc r j * sg (A.gc r j))

/-- What row `r` adds to each of the four sums. -/
def Args.part (k : Fin 4) (r : Fin 8192) (j : Fin 2816) : EReal :=
  match k with
  | 0 => A.up (ix2 r (lo j)) * A.ext (r.val + 2) j
  | 1 => A.up (ix2 r (lo j)) * A.ext (r.val + 1) j
  | 2 => A.up (ix2 r (lo j)) * A.dgc r j
  | 3 => A.dgc r j

variable (m : (ℓ : Loc nD τ sig) → Buf (Elt Ideal) ℓ) (c : Dev nD)

/-- Core `c`'s arguments in the memory. -/
def args : Args where
  x := m ((c.tc : Thread nD τ).loc main_arg0)
  up := m ((c.tc : Thread nD τ).loc main_arg1)
  w := m ((c.tc : Thread nD τ).loc main_arg2)
  b := m ((c.tc : Thread nD τ).loc main_arg3)
  wd := m ((c.tc : Thread nD τ).loc main_arg4)
  small := m ((c.tc : Thread nD τ).loc main_arg5)

/-- The convolved gates are computed before the kernel, by the forward lines. -/
theorem gc_array : V m c (Pipeline.arrRef spec0 4) = Cert.Reference2Ideal.Read.val_main_v22 (F := Ideal)
    (m ((c.tc : Thread nD τ).loc main_arg1)) (m ((c.tc : Thread nD τ).loc main_arg2)) (m ((c.tc : Thread nD τ).loc main_arg3)) := by
  sl_kernel_rfl
theorem gcn_array : V m c (Pipeline.arrRef spec0 5) = Cert.Reference2Ideal.Read.val_main_v22 (F := Ideal)
    (m ((c.tc : Thread nD τ).loc main_arg1)) (m ((c.tc : Thread nD τ).loc main_arg2)) (m ((c.tc : Thread nD τ).loc main_arg3)) := by
  sl_kernel_rfl

/-- The block of every window at every point. -/
theorem idx0 : ∀ t : Fin cfg0.N, win0_0.index t = ![t.val, 0] := (by decide +kernel : ∀ t : Fin grid0.N, win0_0.index t = ![t.val, 0])
theorem idx1 : ∀ t : Fin cfg0.N, win0_1.index t = ![min (32 * (t.val + 1)) 511, 0] :=
  (by decide +kernel : ∀ t : Fin grid0.N, win0_1.index t = ![min (32 * (t.val + 1)) 511, 0])
theorem idx2 : ∀ t : Fin cfg0.N, win0_2.index t = ![t.val, 0] := (by decide +kernel : ∀ t : Fin grid0.N, win0_2.index t = ![t.val, 0])
theorem idx3 : ∀ t : Fin cfg0.N, win0_3.index t = ![min (32 * (t.val + 1)) 511, 0] :=
  (by decide +kernel : ∀ t : Fin grid0.N, win0_3.index t = ![min (32 * (t.val + 1)) 511, 0])
theorem idx4 : ∀ t : Fin cfg0.N, win0_4.index t = ![t.val, 0] := (by decide +kernel : ∀ t : Fin grid0.N, win0_4.index t = ![t.val, 0])
theorem idx5 : ∀ t : Fin cfg0.N, win0_5.index t = ![min (32 * (t.val + 1)) 511, 0] :=
  (by decide +kernel : ∀ t : Fin grid0.N, win0_5.index t = ![min (32 * (t.val + 1)) 511, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])

theorem last_iff : ∀ t : Fin cfg0.N, (inputs m c t).last = (1 : BitVec 1) ↔ t.val = 15 :=
  (by decide +kernel : ∀ t : Fin grid0.N, Scalar.cmpi CmpIPredicate.eq (BitVec.ofNat 32 ↑(grid0.coords t 0)) 15#32 = (1 : BitVec 1) ↔ t.val = 15)

variable (t : Fin cfg0.N)

theorem row_lt (p : Fin 512) : t.val * 512 + p.val < 8192 := by
  have h : t.val < 16 := t.isLt
  omega
/-- The rows of the block, and the rows after it. -/
abbrev rowOf (p : Fin 512) : Fin 8192 := ⟨t.val * 512 + p.val, row_lt t p⟩
theorem next_lt (p : Fin 16) : min (32 * (t.val + 1)) 511 * 16 + p.val < 8192 := by omega
abbrev nextOf (p : Fin 16) : Fin 8192 := ⟨min (32 * (t.val + 1)) 511 * 16 + p.val, next_lt t p⟩

theorem x_at (p : Fin 512) (k : Fin 1024) : (inputs m c t).x (ix2 p k) = (args m c).x (ix2 (rowOf t p) k) := by
  show iblk m c 0 t (ix2 p k) = m ((c.tc : Thread nD τ).loc main_arg0) (ix2 (rowOf t p) k)
  blk_point [iblk, V, idx0 t]
theorem xn_at (p : Fin 16) (k : Fin 1024) : (inputs m c t).xn (ix2 p k) = (args m c).x (ix2 (nextOf t p) k) := by
  show iblk m c 1 t (ix2 p k) = m ((c.tc : Thread nD τ).loc main_arg0) (ix2 (nextOf t p) k)
  blk_point [iblk, V, idx1 t]
theorem up_at (p : Fin 512) (k : Fin 5632) : (inputs m c t).up (ix2 p k) = (args m c).up (ix2 (rowOf t p) k) := by
  show iblk m c 2 t (ix2 p k) = m ((c.tc : Thread nD τ).loc main_arg1) (ix2 (rowOf t p) k)
  blk_point [iblk, V, idx2 t]
theorem upn_at (p : Fin 16) (k : Fin 5632) : (inputs m c t).upn (ix2 p k) = (args m c).up (ix2 (nextOf t p) k) := by
  show iblk m c 3 t (ix2 p k) = m ((c.tc : Thread nD τ).loc main_arg1) (ix2 (nextOf t p) k)
  blk_point [iblk, V, idx3 t]
theorem gc_at (p : Fin 512) (k : Fin 2816) : (inputs m c t).gc (ix2 p k) = (args m c).gc (rowOf t p) k := by
  refine Eq.trans ?_ ((congrFun (gc_array m c) (ix2 (rowOf t p) k)).trans (gc_eq (args m c) (rowOf t p) k))
  show iblk m c 4 t (ix2 p k) = _
  blk_point [iblk, idx4 t]
theorem gcn_at (p : Fin 16) (k : Fin 2816) : (inputs m c t).gcn (ix2 p k) = (args m c).gc (nextOf t p) k := by
  refine Eq.trans ?_ ((congrFun (gcn_array m c) (ix2 (nextOf t p) k)).trans (gc_eq (args m c) (nextOf t p) k))
  show iblk m c 5 t (ix2 p k) = _
  blk_point [iblk, idx5 t]
theorem w_at (p : Fin 3) (k : Fin 2816) : (inputs m c t).w (ix2 p k) = (args m c).w (ix2 p k) := by
  show iblk m c 6 t (ix2 p k) = m ((c.tc : Thread nD τ).loc main_arg2) (ix2 p k)
  blk_point [iblk, V, idx6 t]
theorem wd_at (p : Fin 2816) (k : Fin 1024) : (inputs m c t).wd (ix2 p k) = (args m c).wd (ix2 p k) := by
  show iblk m c 7 t (ix2 p k) = m ((c.tc : Thread nD τ).loc main_arg4) (ix2 p k)
  blk_point [iblk, V, idx7 t]
theorem small_at (y : S40x2816.Idx) : iblk m c 8 t y = (args m c).small y := by
  show iblk m c 8 t y = m ((c.tc : Thread nD τ).loc main_arg5) y
  rw [eq_ix2 y]
  blk_point [iblk, V, idx8 t]

theorem dab_at (p : Fin 512) (j : Fin 2816) : (inputs m c t).dab p j = (args m c).dab (rowOf t p) j := by
  simp only [Inputs.dab, Args.dab, x_at, wd_at]
theorem dgc_at (p : Fin 512) (j : Fin 2816) : (inputs m c t).dgc p j = (args m c).dgc (rowOf t p) j := by
  simp only [Inputs.dgc, Args.dgc, dab_at, up_at, gc_at]
theorem val_at (p : Fin 512) (j : Fin 2816) : (inputs m c t).val p j = (args m c).val (rowOf t p) j := by
  simp only [Inputs.val, Args.val, dab_at, gc_at]

theorem halo_at (p : Fin 16) (j : Fin 2816) : (inputs m c t).halo p j = (args m c).ext (t.val * 512 + (512 + p.val)) j := by
  have ht : t.val < 16 := t.isLt
  unfold Inputs.halo Args.ext
  by_cases h : t.val = 15
  · rw [if_pos ((last_iff m c t).mpr h), dif_neg (by omega)]
  · rw [if_neg (fun e => h ((last_iff m c t).mp e)), dif_pos (by omega)]
    simp only [xn_at, wd_at, upn_at, gcn_at]
    exact congrArg (fun r => (args m c).dgc r j) (Fin.ext (by show min (32 * (t.val + 1)) 511 * 16 + p.val = t.val * 512 + (512 + p.val); omega))

theorem ext_at (n : ℕ) (hn : n < 528) (j : Fin 2816) : (inputs m c t).ext n j = (args m c).ext (t.val * 512 + n) j := by
  unfold Inputs.ext
  by_cases h : n < 512
  · rw [dif_pos h, dgc_at, ext_of_lt _ _ _ (row_lt t ⟨n, h⟩)]
  · rw [dif_neg h, halo_at]
    exact congrArg (fun k => (args m c).ext k j) (by show t.val * 512 + (512 + (n - 512) % 16) = _; omega)

theorem gate_at (p : Fin 512) (j : Fin 2816) : (inputs m c t).gate p j = (args m c).gate (rowOf t p) j := by
  simp only [Inputs.gate, Args.gate, w_at, dgc_at, ext_at m c t _ (show p.val + 1 < 528 by omega) j, ext_at m c t _ (show p.val + 2 < 528 by omega) j]
  rfl

theorem part_at (k : Fin 4) (p : Fin 512) (j : Fin 2816) : (inputs m c t).part k p j = (args m c).part k (rowOf t p) j := by
  match k with
  | 0 => exact congrArg₂ (fun a b : EReal => a * b) (up_at m c t p (lo j)) (ext_at m c t _ (by omega) j)
  | 1 => exact congrArg₂ (fun a b : EReal => a * b) (up_at m c t p (lo j)) (ext_at m c t _ (by omega) j)
  | 2 => exact congrArg₂ (fun a b : EReal => a * b) (up_at m c t p (lo j)) (dgc_at m c t p j)
  | 3 => exact dgc_at m c t p j

/-- The first result. -/
def Args.dup (i : S8192x5632.Idx) : EReal :=
  if h : (i 1).val < 2816 then A.gate (i 0) ⟨(i 1).val, h⟩
  else A.val (i 0) ⟨(i 1).val - 2816, by have h1 : (i 1).val < 5632 := (i 1).isLt; omega⟩

theorem args_dup_lo (r : Fin 8192) (j : Fin 2816) : A.dup (ix2 r (lo j)) = A.gate r j := by
  unfold Args.dup
  exact dif_pos (show (lo j).val < 2816 from j.isLt)

theorem args_dup_hi (r : Fin 8192) (j : Fin 2816) : A.dup (ix2 r (hi j)) = A.val r j := by
  unfold Args.dup
  refine (dif_neg (show ¬(hi j).val < 2816 by show ¬2816 + j.val < 2816; omega)).trans (congrArg (A.val r) (Fin.ext ?_))
  show 2816 + j.val - 2816 = j.val
  omega

/-- A column is in one of the two halves. -/
theorem halves (k : Fin 5632) : (∃ j, k = lo j) ∨ ∃ j, k = hi j := by
  by_cases h : k.val < 2816
  · exact .inl ⟨⟨k.val, h⟩, rfl⟩
  · exact .inr ⟨⟨k.val - 2816, by omega⟩, Fin.ext (by show k.val = 2816 + (k.val - 2816); omega)⟩

theorem dup_block (p : Fin 512) (k : Fin 5632) : (inputs m c t).dup (ix2 p k) = (args m c).dup (ix2 (rowOf t p) k) := by
  rcases halves k with ⟨j, rfl⟩ | ⟨j, rfl⟩
  · rw [dup_lo, args_dup_lo, gate_at]
  · rw [dup_hi, args_dup_hi, val_at]

/-- Where the first result's block at `t` lies. -/
theorem dup_emb (p : Fin 512) (k : Fin 5632) : ix2 (rowOf t p) k = ((View.whole main_v23_0).slice (win0_9.rect t)).emb (ix2 p k) := by
  blk_ext [idx9 t]

theorem dup_array : (dats m 0 c).arrAt 9 cfg0.N = (args m c).dup := by
  refine (dats m 0 c).arrAt_eq_of_covers 9 _ (by decide +kernel) fun t hf y => ?_
  blk_simp
  rw [after0_9, dup_at]
  obtain ⟨p, k, rfl⟩ : ∃ (p : Fin 512) (k : Fin 5632), y = ix2 p k := ⟨y 0, y 1, eq_ix2 y⟩
  refine (dup_block m c t p k).trans (congrArg (args m c).dup ?_)
  blk_ext [idx9 t]

/-- The last grid point, the only one whose small block is written back. -/
def last : Fin cfg0.N := ⟨15, by decide⟩

/-- The small output's start, and what the block at `t` adds to it, at an index. -/
def start (b : ℕ) (y : S40x2816.Idx) : EReal := if b ≤ (y 0).val ∧ (y 0).val < b + 4 then 0 else (args m c).small y
def addend (b : ℕ) (y : S40x2816.Idx) : EReal := if b ≤ (y 0).val ∧ (y 0).val < b + 4 then (inputs m c t).rows b y else 0

theorem start_add (b : ℕ) (y : S40x2816.Idx) :
    (if b ≤ (y 0).val ∧ (y 0).val < b + 4 then (0 : EReal) + (inputs m c t).rows b y else iblk m c 8 t y) = start m c b y + addend m c t b y := by
  unfold start addend
  by_cases hy : b ≤ (y 0).val ∧ (y 0).val < b + 4
  · rw [if_pos hy, if_pos hy, if_pos hy]
  · rw [if_neg hy, if_neg hy, if_neg hy, add_zero]
    exact small_at m c t y

theorem step_add (b : ℕ) (y : S40x2816.Idx) (prev : EReal) :
    (if b ≤ (y 0).val ∧ (y 0).val < b + 4 then prev + (inputs m c t).rows b y else prev) = prev + addend m c t b y := by
  unfold addend
  by_cases hy : b ≤ (y 0).val ∧ (y 0).val < b + 4
  · rw [if_pos hy, if_pos hy]
  · rw [if_neg hy, if_neg hy, add_zero]

/-- The second result. -/
def Args.smallOut (b : ℕ) (i : S40x2816.Idx) : EReal :=
  if b ≤ (i 0).val ∧ (i 0).val < b + 4 then ∑ r : Fin 8192, A.part ⟨((i 0).val - b) % 4, by omega⟩ r (i 1) else A.small i

theorem small_sum (b : ℕ) (y : S40x2816.Idx) : start m c b y + ∑ t : Fin cfg0.N, addend m c t b y = (args m c).smallOut b y := by
  unfold start addend Args.smallOut
  by_cases hy : b ≤ (y 0).val ∧ (y 0).val < b + 4
  · simp only [if_pos hy]
    rw [zero_add]
    refine (Finset.sum_congr rfl fun t _ => Finset.sum_congr rfl fun p _ => part_at m c t _ p (y 1)).trans ?_
    exact Fin.sum_mul_add_fin 16 512 (fun r : Fin 8192 => (args m c).part ⟨((y 0).val - b) % 4, by omega⟩ r (y 1))
  · simp only [if_neg hy, Finset.sum_const_zero, add_zero]

theorem small_array : (dats m 0 c).arrAt 10 cfg0.N = (args m c).smallOut 24 := by
  refine (dats m 0 c).arrAt_eq_of_after_last 10 last (by decide +kernel) _ fun j => ?_
  blk_simp
  refine (congrFun (after0_10 m c last) j).trans ?_
  exact (Pipeline.eq_sum_fin_of_reset_step_apply_last (M := EReal) (fun n h y => (outsAt0 m c n h).2 y) 16 (start m c 24)
    (fun t y => addend m c t 24 y) (fun t h y => (small_first m c t h y).trans (start_add m c t 24 y))
    (fun t h y => (small_step m c t h y).trans (step_add m c t 24 y _)) (by decide) last rfl j).trans (small_sum m c 24 j)

end Cert.Kernel2Ideal.Body

end
-- ==== Proof.FfnReference.lean ====
/- What the reference leaves for the convolutional feed-forward: the derivative of the forward lines, and why it is the gradient
   written by hand when the arguments are finite. -/
module

public import proofs.«01_k».proof.Proof.FfnArray
public import proofs.«01_k».proof.Proof.Finite
public import proofs.«01_k».proof.Pre_finite_ffn

@[expose] public section

set_option maxRecDepth 16384

noncomputable section

namespace Cert.Reference2Ideal.Body

open Cert.Reference2Ideal Cert.Reference2Ideal.Gen Cert.Reference2Ideal.Read Idealize.ShloMosaic Idealize.ShloMosaic.TcCoe Idealize.SL.Sem
open Cert.Kernel2Ideal.Body (Args lo hi sg through gc_eq args_dup_lo args_dup_hi halves ext_of_lt)
open Cert.Finite

/-- The logistic function of a real number. -/
theorem sg_coe (v : ℝ) : sg (v : EReal) = ((1 / (1 + Real.exp (-v)) : ℝ) : EReal) := by
  have e : Ideal.exp (0 - (v : EReal)) = ((Real.exp (-v) : ℝ) : EReal) := by
    rw [show (0 : EReal) - (v : EReal) = ((-v : ℝ) : EReal) by rw [← EReal.coe_zero, ← EReal.coe_sub, zero_sub]]
    exact Ideal.exp_coe _
  unfold sg
  rw [e, ← EReal.coe_one, ← EReal.coe_add]
  exact div_coe _ (by positivity)

theorem sg_neg (v : ℝ) : Ideal.div 1 (1 + Ideal.exp (-(v : EReal))) = sg (v : EReal) := by
  have h : (0 : EReal) - (v : EReal) = -(v : EReal) := by rw [← EReal.coe_zero, ← EReal.coe_sub, zero_sub, EReal.coe_neg]
  unfold sg
  rw [h]

/-- The two ways to write the derivative of `v ↦ v * sg v`. -/
theorem silu (d u v : ℝ) : (d * u : EReal) * sg (v : EReal) + (v * (d * u : EReal)) * (sg (v : EReal) * (1 - sg (v : EReal)))
    = through (d : EReal) (u : EReal) (v : EReal) := by
  unfold through
  rw [sg_coe]
  simp only [← EReal.coe_one, ← EReal.coe_mul, ← EReal.coe_add, ← EReal.coe_sub]
  congr 1
  ring

variable (A : Args)

/-- Every argument but the small array is an array of real numbers. -/
structure Real : Prop where
  x : ∃ r : S8192x1024.Idx → ℝ, ∀ i, A.x i = r i
  up : ∃ r : S8192x5632.Idx → ℝ, ∀ i, A.up i = r i
  w : ∃ r : S3x2816.Idx → ℝ, ∀ i, A.w i = r i
  b : ∃ r : S2816.Idx → ℝ, ∀ i, A.b i = r i
  wd : ∃ r : S2816x1024.Idx → ℝ, ∀ i, A.wd i = r i

variable {A} (hA : Real A) (r : Fin 8192) (j : Fin 2816)
include hA

theorem gc_real : ∃ v : ℝ, A.gc r j = (v : EReal) := by
  obtain ⟨-, ⟨up, hup⟩, ⟨w, hw⟩, ⟨b, hb⟩, -⟩ := hA
  have hd : ∀ (p : Prop) [Decidable p] (f : ¬p → ℝ), (if h : p then (0 : EReal) else (f h : EReal)) = ((if h : p then 0 else f h : ℝ) : EReal) := by
    intro p _ f
    split_ifs <;> simp
  unfold Args.gc
  simp only [hup, hw, hb, hd, ← EReal.coe_mul, ← EReal.coe_add]
  exact ⟨_, rfl⟩

theorem dab_real : ∃ v : ℝ, A.dab r j = (v : EReal) := by
  obtain ⟨⟨x, hx⟩, -, -, -, ⟨wd, hwd⟩⟩ := hA
  unfold Args.dab
  simp only [hx, hwd, ← EReal.coe_mul, ← coe_sum]
  exact ⟨_, rfl⟩

theorem dgc_ref : val_main_v29 (F := Ideal) A.x A.up A.w A.b A.wd (ix2 r j) = A.dgc r j := by
  obtain ⟨v, hv⟩ := gc_real hA r j
  obtain ⟨d, hd⟩ := dab_real hA r j
  obtain ⟨u, hu⟩ := hA.up
  pointwise [val_main_v29, val_main_call1_v2, val_main_call1_v1, val_main_call1_v0, val_main_v28, val_main_v26, val_main_v23_1,
    val_main_v23_2, val_main_call0_v7, val_main_call0_v6, val_main_call0_cst_1, val_main_call0_v4, val_main_call0_cst_0,
    val_main_call0_v3, val_main_call0_v2, val_main_call0_cst, val_main_call0_v1, val_main_call0_v0, val_main_v2, val_main_v0, gc_eq]
  unfold Args.dgc
  have hd' : ∑ k : Fin 1024, A.x (ix2 r k) * A.wd (ix2 j k) = (d : EReal) := hd
  rw [hd, hv, hd', show A.up (ix2 r (hi j)) = u (ix2 r (hi j)) from hu _]
  refine Eq.trans ?_ (silu d (u (ix2 r (hi j))) v)
  rw [sg_neg]

theorem val_ref : val_main_v27 (F := Ideal) A.x A.up A.w A.b A.wd (ix2 r j) = A.val r j := by
  obtain ⟨v, hv⟩ := gc_real hA r j
  pointwise [val_main_v27, val_main_v23_0, val_main_v26, val_main_v23_2, val_main_call0_v4, val_main_call0_cst_0,
    val_main_call0_v3, val_main_call0_v2, val_main_call0_cst, val_main_call0_v1, val_main_call0_v0, gc_eq]
  rw [hv, sg_neg, ← hv]
  exact mul_comm (G := EReal) _ _

omit hA in
/-- The first result, where the reference has it by halves. -/
theorem halves_eq (k : Fin 5632) (p0 : ∀ _ : 2816 ≤ k.val ∧ k.val - 2816 < 2816, k.val - 2816 < 2816)
    (p1 : ∀ (_ : k.val < 2816) (_ : (1 ≤ 2 + r.val ∧ 2 + r.val - 1 < 8192) ∧ k.val < 2816), 2 + r.val - 1 < 8192)
    (p2 : ∀ (_ : k.val < 2816) (_ : 2 + r.val < 8192 ∧ k.val < 2816), 2 + r.val < 8192) :
    ((if h : 2816 ≤ k.val ∧ k.val - 2816 < 2816 then A.val r ⟨k.val - 2816, p0 h⟩ else 0) +
      if h : k.val < 2816 then
        ((if _ : k.val < 2816 then A.w (ix2 2 ⟨k.val, h⟩) * A.dgc r ⟨k.val, h⟩ else 0) +
            if h_1 : (1 ≤ 2 + r.val ∧ 2 + r.val - 1 < 8192) ∧ k.val < 2816 then
              A.w (ix2 1 ⟨k.val, h⟩) * A.dgc ⟨2 + r.val - 1, p1 h h_1⟩ ⟨k.val, h⟩
            else 0) +
          if h_1 : 2 + r.val < 8192 ∧ k.val < 2816 then A.w (ix2 0 ⟨k.val, h⟩) * A.dgc ⟨2 + r.val, p2 h h_1⟩ ⟨k.val, h⟩ else 0
      else 0) =
    A.dup (ix2 r k) := by
  rcases lt_or_ge k.val 2816 with h | h
  · refine Eq.trans ?_ (args_dup_lo A r ⟨k.val, h⟩).symm
    rw [dif_neg (by omega), dif_pos h, dif_pos h, zero_add]
    unfold Args.gate Args.ext
    refine congrArg₂ _ (congrArg₂ _ rfl ?_) ?_
    · by_cases hr : r.val + 1 < 8192
      · rw [dif_pos ⟨⟨by omega, by omega⟩, h⟩, dif_pos hr]
        exact congrArg (fun n => A.w (ix2 1 ⟨k.val, h⟩) * A.dgc n ⟨k.val, h⟩) (Fin.ext (by show 2 + r.val - 1 = r.val + 1; omega))
      · rw [dif_neg (by omega), dif_neg hr, mul_zero]
    · by_cases hr : r.val + 2 < 8192
      · rw [dif_pos ⟨by omega, h⟩, dif_pos hr]
        exact congrArg (fun n => A.w (ix2 0 ⟨k.val, h⟩) * A.dgc n ⟨k.val, h⟩) (Fin.ext (by show 2 + r.val = r.val + 2; omega))
      · rw [dif_neg (by omega), dif_neg hr, mul_zero]
  · have hk : k.val - 2816 < 2816 := by have := k.isLt; omega
    have e : k = hi ⟨k.val - 2816, hk⟩ := Fin.ext (by show k.val = 2816 + (k.val - 2816); omega)
    refine Eq.trans ?_ (congrArg (fun k => A.dup (ix2 r k)) e.symm)
    refine Eq.trans ?_ (args_dup_hi A r ⟨k.val - 2816, hk⟩).symm
    rw [dif_pos ⟨h, hk⟩, dif_neg (by omega), add_zero]

/-- The first result. -/
theorem dup_ref (i : S8192x5632.Idx) : val_main_v63 (F := Ideal) A.x A.up A.w A.b A.wd i = A.dup i := by
  obtain ⟨r, k, rfl⟩ : ∃ (r : Fin 8192) (k : Fin 5632), i = ix2 r k := ⟨i 0, i 1, eq_ix2 i⟩
  pointwise [val_main_v63, val_main_v62, val_main_v61, val_main_v60, val_main_v59, val_main_v55, val_main_v54, val_main_v46, val_main_v45,
    val_main_v38, val_main_v34, val_main_v41, val_main_v50, val_main_v33, val_main_v40, val_main_v49, val_main_v6, val_main_v10,
    val_main_v15, val_main_cst_13, val_main_cst_12, val_main_cst_10, val_main_cst_7, val_main_cst_4]
  simp only [dgc_ref hA, val_ref hA]
  exact halves_eq _ _ _ _ _

omit hA in
/-- A sum against the rows one earlier is a sum of the rows one later. -/
theorem shift_one (f u : Fin 8192 → EReal) (v : ℕ → EReal) (hv : ∀ n (h : n < 8192), v n = f ⟨n, h⟩) (h0 : v 8192 = 0)
    (hx : ∀ x : Fin 8192, ¬1 + x.val < 2 → 1 + x.val - 2 < 8192) :
    ∑ x : Fin 8192, (f x * if h : 1 + x.val < 2 then 0 else u ⟨1 + x.val - 2, hx x h⟩) = ∑ r : Fin 8192, u r * v (r.val + 1) := by
  refine (Fin.sum_univ_succ (n := 8191) _).trans (Eq.trans ?_ (Fin.sum_univ_castSucc (n := 8191) _).symm)
  rw [dif_pos (by show 1 + 0 < 2; omega), mul_zero, zero_add, show v ((Fin.last 8191).val + 1) = 0 from h0, mul_zero, add_zero]
  refine Finset.sum_congr rfl fun x _ => ?_
  rw [dif_neg (by show ¬1 + (x.val + 1) < 2; omega), mul_comm (G := EReal), hv _ (show x.castSucc.val + 1 < 8192 by show x.val + 1 < 8192; omega)]
  exact congrArg₂ (fun a b => u a * f b) (Fin.ext (by show 1 + (x.val + 1) - 2 = x.val; omega)) (Fin.ext rfl)

omit hA in
/-- The same two rows apart. -/
theorem shift_two (f u : Fin 8192 → EReal) (v : ℕ → EReal) (hv : ∀ n (h : n < 8192), v n = f ⟨n, h⟩) (h0 : ∀ n, 8192 ≤ n → v n = 0)
    (g : Fin 2 → Fin 8192) (h2 : ∀ x : Fin 8190, 2 + x.val < 8192) (h3 : ∀ x : Fin 8190, x.val < 8192) :
    ∑ x : Fin 2, f (g x) * 0 + ∑ x : Fin 8190, f ⟨2 + x.val, h2 x⟩ * u ⟨x.val, h3 x⟩ = ∑ r : Fin 8192, u r * v (r.val + 2) := by
  refine Eq.trans ?_ (Fin.sum_univ_add (a := 8190) (b := 2) (fun r : Fin (8190 + 2) => u (show Fin 8192 from r) * v (r.val + 2))).symm
  rw [add_comm]
  refine congrArg₂ _ (Finset.sum_congr rfl fun x _ => ?_) (Finset.sum_congr rfl fun x _ => ?_)
  · rw [mul_comm (G := EReal), hv _ (show (Fin.castAdd 2 x).val + 2 < 8192 by show x.val + 2 < 8192; omega)]
    exact congrArg₂ (fun a b => u a * f b) (Fin.ext rfl) (Fin.ext (by show 2 + x.val = x.val + 2; omega))
  · rw [h0 _ (by show 8192 ≤ 8190 + x.val + 2; omega), mul_zero, mul_zero]

omit hA in
theorem ext_of_ge (n : ℕ) (h : 8192 ≤ n) : A.ext n j = 0 := by
  unfold Args.ext
  exact dif_neg (by omega)

/-- The taps' gradient: the sums of the block's first three kinds. -/
theorem taps_ref (k : Fin 3) : val_main_v57 (F := Ideal) A.x A.up A.w A.b A.wd (ix2 k j) = ∑ r, A.part k.castSucc r j := by
  pointwise [val_main_v57, val_main_v56, val_main_v53, val_main_v48, val_main_v47,
    val_main_v39, val_main_v37, val_main_v44, val_main_v36, val_main_v43, val_main_v52,
    val_main_v35, val_main_v42, val_main_v51, val_main_v16, val_main_v11, val_main_v7, val_main_v4, val_main_v3, val_main_cst,
    val_main_v1, val_main_v0, val_main_cst_11, val_main_cst_8, val_main_cst_5, val_main_cst_9, val_main_cst_6, val_main_cst_3]
  simp only [dgc_ref hA]
  rcases (by omega : k.val = 0 ∨ k.val = 1 ∨ k.val = 2) with h | h | h
  · obtain rfl : k = 0 := Fin.ext h
    rw [dif_neg (by decide), dif_neg (by decide), dif_pos (by decide), zero_add, zero_add]
    exact shift_two (fun r => A.dgc r j) (fun r => A.up (ix2 r (lo j))) (fun n => A.ext n j) (fun n h => ext_of_lt A n j h)
      (fun n h => ext_of_ge j n h) _ _ _
  · obtain rfl : k = 1 := Fin.ext h
    rw [dif_neg (by decide), dif_pos (by decide), dif_neg (by decide), zero_add, add_zero]
    exact shift_one (fun r => A.dgc r j) (fun r => A.up (ix2 r (lo j))) (fun n => A.ext n j) (fun n h => ext_of_lt A n j h)
      (ext_of_ge j _ le_rfl) _
  · obtain rfl : k = 2 := Fin.ext h
    rw [dif_pos (by decide), dif_neg (by decide), dif_neg (by decide), add_zero, add_zero]
    exact Finset.sum_congr rfl fun x _ => mul_comm (G := EReal) _ _

/-- The bias's gradient: the sum of the fourth. -/
theorem bias_ref (z : Fin 1) : val_main_v65 (F := Ideal) A.x A.up A.w A.b A.wd (ix2 z j) = ∑ r, A.part 3 r j := by
  pointwise [val_main_v65, val_main_v32, val_main_v31, val_main_v30, val_main_cst_2, val_main_cst_1]
  simp only [dgc_ref hA]
  exact Fin.sum_univ_one _

omit hA in
/-- The second result by rows: the small array, the taps' gradient, the bias's, the small array. -/
theorem smallOut_rows (b : ℕ) (hb : b + 4 ≤ 40) (n : Fin 40) (j : Fin 2816) :
    A.smallOut b (ix2 n j) =
      if _ : n.val < b then A.small (ix2 n j)
      else if h : n.val - b < 3 then ∑ r, A.part (⟨n.val - b, h⟩ : Fin 3).castSucc r j
      else if _ : n.val - b - 3 < 1 then ∑ r, A.part 3 r j
      else A.small (ix2 ⟨b + 4 + (n.val - b - 3 - 1), by have := n.isLt; omega⟩ j) := by
  unfold Args.smallOut
  have hn : n.val < 40 := n.isLt
  have inside : ∀ k : Fin 4, n.val = b + k.val → (if b ≤ n.val ∧ n.val < b + 4 then ∑ r, A.part ⟨(n.val - b) % 4, Nat.mod_lt _ (by decide)⟩ r j
      else A.small (ix2 n j)) = ∑ r, A.part k r j := by
    intro k hk
    rw [if_pos (by omega)]
    exact congrArg (fun k => ∑ r, A.part k r j) (Fin.ext (by show (n.val - b) % 4 = k.val; omega))
  by_cases h0 : n.val < b
  · rw [dif_pos h0]
    exact if_neg (by show ¬(b ≤ n.val ∧ n.val < b + 4); omega)
  by_cases h1 : n.val - b < 3
  · rw [dif_neg h0, dif_pos h1]
    exact inside _ (by show n.val = b + (n.val - b); omega)
  by_cases h2 : n.val - b - 3 < 1
  · rw [dif_neg h0, dif_neg h1, dif_pos h2]
    exact inside 3 (by show n.val = b + 3; omega)
  rw [dif_neg h0, dif_neg h1, dif_neg h2]
  refine (if_neg (by show ¬(b ≤ n.val ∧ n.val < b + 4); omega)).trans ?_
  exact congrArg (fun n => A.small (ix2 n j)) (Fin.ext (by show n.val = b + 4 + (n.val - b - 3 - 1); omega))

/-- The second result. -/
theorem small_ref (i : S40x2816.Idx) : val_main_v67 (F := Ideal) A.x A.up A.w A.b A.wd A.small i = A.smallOut 24 i := by
  obtain ⟨n, j, rfl⟩ : ∃ (n : Fin 40) (j : Fin 2816), i = ix2 n j := ⟨i 0, i 1, eq_ix2 i⟩
  pointwise [val_main_v67, val_main_v66, val_main_v64]
  simp only [taps_ref hA, bias_ref hA]
  exact (smallOut_rows 24 (by decide) n j).symm

end Cert.Reference2Ideal.Body

end
-- ==== Proof.FfnEquation.lean ====
/- Finite arguments of the convolutional feed-forward are arrays of real numbers. -/
module

public import proofs.«01_k».proof.Proof.Gen.Pre_finite_ffn
public import proofs.«01_k».proof.Proof.FfnReference

@[expose] public section

set_option maxRecDepth 16384

noncomputable section

namespace Cert.Reference2Ideal.Body

open Idealize.ShloMosaic Idealize.SL.Sem Cert.Finite Cert.Pre_finite_ffn
open Cert.Kernel2Ideal.Body (Args)

theorem rank_zero : S_.rank = 0 := rfl

instance : Fact (S_.rank = 0) := ⟨rank_zero⟩

/-- Where the precondition holds, the five arguments it names are real numbers. -/
theorem reals (A : Args) (h : Cert.Pre_finite_ffn.fn (F := Ideal) A.x A.up A.w A.b A.wd A.small = fun _ => 1#1) : Real A := by
  have e := congrFun h fun k => absurd k.isLt (by simp)
  obtain ⟨e, e4⟩ := both e
  obtain ⟨e, e3⟩ := both e
  obtain ⟨e, e2⟩ := both e
  obtain ⟨e0, e1⟩ := both e
  exact ⟨real_of_test _ _ _ _ _ e0, real_of_test _ _ _ _ _ e1, real_of_test _ _ _ _ _ e2, real_of_test _ _ _ _ _ e3, real_of_test _ _ _ _ _ e4⟩

end Cert.Reference2Ideal.Body

end
-- ==== Proof.In1Run.lean ====
/- One grid point of the backward product that adds its gain gradient to the sheet: what the body stores, at
   the first point and at the later ones. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Body

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers a grid point works on. -/
structure Bufs where
  dz : Memref sig .tc .vmem S512x4608 .bf16
  hdz : dz.IsWhole
  w : Memref sig .tc .vmem S4608x1024 .bf16
  hw : w.IsWhole
  x : Memref sig .tc .vmem S512x1024 .f32
  hx : x.IsWhole
  g : Memref sig .tc .vmem S1x1024 .f32
  hg : g.IsWhole
  dres : Memref sig .tc .vmem S512x1024 .f32
  hdres : dres.IsWhole
  sheet : Memref sig .tc .vmem S40x2816 .f32
  hsheet : sheet.IsWhole
  dx : Memref sig .tc .vmem S512x1024 .f32
  hdx : dx.IsWhole
  out : Memref sig .tc .vmem S40x2816 .f32
  hout : out.IsWhole

/-- The blocks a grid point reads. -/
structure Ins (F : FTy → Type) where
  dz : Vec F S512x4608 .bf16
  w : Vec F S4608x1024 .bf16
  x : Vec F S512x1024 .f32
  g : Vec F S1x1024 .f32
  dres : Vec F S512x1024 .f32
  sheet : Vec F S40x2816 .f32

/-- The body over its buffers. -/
def Bufs.body (B : Bufs) (i : grid0.Coords) : Prog (TpuEff nD τ sig (Elt F) Λ₀ .tc) PUnit :=
  cc0_bwd_in_1 i B.dz B.hdz B.w B.hw B.x B.hx B.g B.hg B.dres B.hdres B.sheet B.hsheet B.dx B.hdx B.out B.hout

/-- The read buffers hold the blocks. -/
def held (c : Dev nD) (B : Bufs) (I : Ins F) : sProp 𝕄 :=
  iprop(owns (c : Thread nD τ) B.dz fullShare I.dz ∗ owns (c : Thread nD τ) B.w fullShare I.w
    ∗ owns (c : Thread nD τ) B.x fullShare I.x ∗ owns (c : Thread nD τ) B.g fullShare I.g
    ∗ owns (c : Thread nD τ) B.dres fullShare I.dres ∗ owns (c : Thread nD τ) B.sheet fullShare I.sheet)

/-- The condition of the body's branch: the first grid point. -/
abbrev first (i : grid0.Coords) : Prop :=
  Scalar.cmpi .ne (Scalar.extui (Scalar.cmpi .eq (BitVec.ofNat 32 (i 0).val) 0#32)) 0#32 = 1#1

theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

set_option maxHeartbeats 1000000 in
/-- The first point: the stores into the two results, found by running the body. -/
def runFirst (c : Dev nD) (i : grid0.Coords) (B : Bufs) (hc : first i) (I : Ins F) :
    Σ' (P : List (View.Piece (Elt F) S512x1024 .f32)), { Q : List (View.Piece (Elt F) S40x2816 .f32) //
      ∀ (E : Set ℕ) (K : PUnit → sProp 𝕄),
        iprop(held c B I ∗ (∃ d, owns (c : Thread nD τ) B.dx fullShare d) ∗ (∃ d, owns (c : Thread nD τ) B.out fullShare d)
            ∗ (iprop(held c B I
                ∗ (∃ f, B.dx.view.loc (c : Thread nD τ) ↦[B.dx.view.set]{fullShare} B.dx.view.writes (Elt F) f P)
                ∗ (∃ f, B.out.view.loc (c : Thread nD τ) ↦[B.out.view.set]{fullShare} B.out.view.writes (Elt F) f Q)) -∗ K ⟨⟩))
          ⊢ wp frame (wpE (defs₀ (F := F)) Variants.none c none) E (B.body i) K } := by
  refine ⟨?_, ?_, fun E K => ?run⟩
  case run =>
    unfold Bufs.body held
    simp only [cc0_bwd_in_1_eq_skeleton]; unfold cc0_bwd_in_1_skel
    simp only [k0_part1_eq_skeleton, k0_part2_eq_skeleton]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩⟩, ⟨%d6, %f6, -, H6⟩, ⟨%d7, %f7, -, H7⟩, Hk⟩
    obtain rfl := B.hdz.eq_unread h0; obtain rfl := B.hw.eq_unread h1; obtain rfl := B.hx.eq_unread h2
    obtain rfl := B.hg.eq_unread h3; obtain rfl := B.hdres.eq_unread h4; obtain rfl := B.hsheet.eq_unread h5
    sl_exec (disch := first | sl_exact hc)
    sl_step
    iapply Hk
    isplitl [H0 H1 H2 H3 H4 H5]
    · isplitl [H0]; · iexists _; isplitr; · ipureintro; exact B.hdz.read_unread _
                      iexact H0
      isplitl [H1]; · iexists _; isplitr; · ipureintro; exact B.hw.read_unread _
                      iexact H1
      isplitl [H2]; · iexists _; isplitr; · ipureintro; exact B.hx.read_unread _
                      iexact H2
      isplitl [H3]; · iexists _; isplitr; · ipureintro; exact B.hg.read_unread _
                      iexact H3
      isplitl [H4]; · iexists _; isplitr; · ipureintro; exact B.hdres.read_unread _
                      iexact H4
      iexists _; isplitr; · ipureintro; exact B.hsheet.read_unread _
      iexact H5
    isplitl [H6]; · iexists _; iexact H6
    iexists _; iexact H7

set_option maxHeartbeats 1000000 in
/-- A later point: the stores into the two results, the sheet as the point before left it. -/
def runNext (c : Dev nD) (i : grid0.Coords) (B : Bufs) (hc : ¬first i) (I : Ins F) (o : Vec F S40x2816 .f32) :
    Σ' (P : List (View.Piece (Elt F) S512x1024 .f32)), { Q : List (View.Piece (Elt F) S40x2816 .f32) //
      ∀ (E : Set ℕ) (K : PUnit → sProp 𝕄),
        iprop(held c B I ∗ (∃ d, owns (c : Thread nD τ) B.dx fullShare d) ∗ owns (c : Thread nD τ) B.out fullShare o
            ∗ (iprop(held c B I
                ∗ (∃ f, B.dx.view.loc (c : Thread nD τ) ↦[B.dx.view.set]{fullShare} B.dx.view.writes (Elt F) f P)
                ∗ (B.out.view.loc (c : Thread nD τ) ↦[B.out.view.set]{fullShare} B.out.view.writes (Elt F) (B.hout.unread o) Q)) -∗ K ⟨⟩))
          ⊢ wp frame (wpE (defs₀ (F := F)) Variants.none c none) E (B.body i) K } := by
  refine ⟨?_, ?_, fun E K => ?run⟩
  case run =>
    unfold Bufs.body held
    simp only [cc0_bwd_in_1_eq_skeleton]; unfold cc0_bwd_in_1_skel
    simp only [k0_part1_eq_skeleton, k0_part2_eq_skeleton]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩⟩, ⟨%d6, %f6, -, H6⟩, ⟨%f7, %h7, H7⟩, Hk⟩
    obtain rfl := B.hdz.eq_unread h0; obtain rfl := B.hw.eq_unread h1; obtain rfl := B.hx.eq_unread h2
    obtain rfl := B.hg.eq_unread h3; obtain rfl := B.hdres.eq_unread h4; obtain rfl := B.hsheet.eq_unread h5
    obtain rfl := B.hout.eq_unread h7
    sl_exec (disch := first | sl_exact hc)
    sl_step
    iapply Hk
    isplitl [H0 H1 H2 H3 H4 H5]
    · isplitl [H0]; · iexists _; isplitr; · ipureintro; exact B.hdz.read_unread _
                      iexact H0
      isplitl [H1]; · iexists _; isplitr; · ipureintro; exact B.hw.read_unread _
                      iexact H1
      isplitl [H2]; · iexists _; isplitr; · ipureintro; exact B.hx.read_unread _
                      iexact H2
      isplitl [H3]; · iexists _; isplitr; · ipureintro; exact B.hg.read_unread _
                      iexact H3
      isplitl [H4]; · iexists _; isplitr; · ipureintro; exact B.hdres.read_unread _
                      iexact H4
      iexists _; isplitr; · ipureintro; exact B.hsheet.read_unread _
      iexact H5
    isplitl [H6]; · iexists _; iexact H6
    iexact H7

end Cert.Kernel3Ideal.Body

end
-- ==== Proof.Patch.lean ====
/- A rank-two buffer after stores of rectangles: each store replaces the values under its rectangle. -/
module

public import proofs.«01_k».proof.Proof.Pieces
public import proofs.«01_k».proof.Proof.Sums

@[expose] public section

noncomputable section

namespace Cert.Patch

open Idealize.ShloMosaic

variable {α : Type} {A B n0 n1 : ℕ}

/-- `f` with the rectangle of `w` at `(o0, o1)` replaced. -/
def put (o0 o1 : ℕ) (w : (⟨2, ![n0, n1]⟩ : Shape).Idx → α) (f : (⟨2, ![A, B]⟩ : Shape).Idx → α) (y : (⟨2, ![A, B]⟩ : Shape).Idx) : α :=
  if h : ((y 0).val - o0 < n0 ∧ o0 ≤ (y 0).val) ∧ (y 1).val - o1 < n1 ∧ o1 ≤ (y 1).val then
    w (ix2 ⟨(y 0).val - o0, h.1.1⟩ ⟨(y 1).val - o1, h.2.1⟩)
  else f y

theorem put_in {o0 o1 : ℕ} (w : (⟨2, ![n0, n1]⟩ : Shape).Idx → α) (f : (⟨2, ![A, B]⟩ : Shape).Idx → α) (y : (⟨2, ![A, B]⟩ : Shape).Idx)
    (p : Fin n0) (q : Fin n1) (h0 : (y 0).val = o0 + p.val) (h1 : (y 1).val = o1 + q.val) : put o0 o1 w f y = w (ix2 p q) := by
  have e0 : (y 0).val - o0 = p.val := by omega
  have e1 : (y 1).val - o1 = q.val := by omega
  unfold put
  rw [dif_pos ⟨⟨e0 ▸ p.isLt, by omega⟩, e1 ▸ q.isLt, by omega⟩]
  exact congrArg w (congrArg₂ ix2 (Fin.ext e0) (Fin.ext e1))

theorem put_out {o0 o1 : ℕ} (w : (⟨2, ![n0, n1]⟩ : Shape).Idx → α) (f : (⟨2, ![A, B]⟩ : Shape).Idx → α) (y : (⟨2, ![A, B]⟩ : Shape).Idx)
    (h : ((y 0).val < o0 ∨ o0 + n0 ≤ (y 0).val) ∨ (y 1).val < o1 ∨ o1 + n1 ≤ (y 1).val) : put o0 o1 w f y = f y := by
  unfold put
  exact dif_neg (by omega)

variable {Val : EltTy → Type} {e : EltTy}

/-- The newest store over the earlier ones. -/
theorem canon_put [∀ e, Nonempty (Val e)] {o0 o1 : ℕ} (inb : ∀ a, (![o0, o1] : Fin 2 → ℕ) a + (![n0, n1] : Fin 2 → ℕ) a ≤ (⟨2, ![A, B]⟩ : Shape).size a)
    (w : (⟨2, ![n0, n1]⟩ : Shape).Idx → Val e) (L : List (View.Piece Val ⟨2, ![A, B]⟩ e)) :
    View.canon ((⟨Rect.unit ![o0, o1] ![n0, n1] inb, w⟩ : View.Piece Val ⟨2, ![A, B]⟩ e) :: L) = put o0 o1 w (View.canon L) := by
  funext y
  by_cases h : ((y 0).val - o0 < n0 ∧ o0 ≤ (y 0).val) ∧ (y 1).val - o1 < n1 ∧ o1 ≤ (y 1).val
  · obtain ⟨⟨a, a'⟩, b, b'⟩ := h
    have h0 : (y 0).val = o0 + ((y 0).val - o0) := by omega
    have h1 : (y 1).val = o1 + ((y 1).val - o1) := by omega
    exact (Pieces.canon_in inb w L y (ix2 ⟨_, a⟩ ⟨_, b⟩) (Fin.forall_fin_two.mpr ⟨h0, h1⟩)).trans (put_in w _ y ⟨_, a⟩ ⟨_, b⟩ h0 h1).symm
  · have h' : ((y 0).val < o0 ∨ o0 + n0 ≤ (y 0).val) ∨ (y 1).val < o1 ∨ o1 + n1 ≤ (y 1).val := by omega
    exact (h'.elim (fun k => Pieces.canon_out inb w L y 0 k) fun k => Pieces.canon_out inb w L y 1 k).trans (put_out w _ y h').symm

/-- The same over a buffer's contents before the stores. -/
theorem writes_put {sig : RefSig} {κ : Kind} {sp : Space} (v : View sig κ sp ⟨2, ![A, B]⟩ e) (f) {o0 o1 : ℕ}
    (inb : ∀ a, (![o0, o1] : Fin 2 → ℕ) a + (![n0, n1] : Fin 2 → ℕ) a ≤ (⟨2, ![A, B]⟩ : Shape).size a)
    (w : (⟨2, ![n0, n1]⟩ : Shape).Idx → Val e) (L : List (View.Piece Val ⟨2, ![A, B]⟩ e)) :
    v.read Val (v.writes Val f ((⟨Rect.unit ![o0, o1] ![n0, n1] inb, w⟩ : View.Piece Val ⟨2, ![A, B]⟩ e) :: L))
      = put o0 o1 w (v.read Val (v.writes Val f L)) := by
  funext y
  by_cases h : ((y 0).val - o0 < n0 ∧ o0 ≤ (y 0).val) ∧ (y 1).val - o1 < n1 ∧ o1 ≤ (y 1).val
  · obtain ⟨⟨a, a'⟩, b, b'⟩ := h
    have h0 : (y 0).val = o0 + ((y 0).val - o0) := by omega
    have h1 : (y 1).val = o1 + ((y 1).val - o1) := by omega
    exact (View.read_writes_cons_unit_of_mem v f inb w L y (ix2 ⟨_, a⟩ ⟨_, b⟩) rfl (Fin.forall_fin_two.mpr ⟨h0, h1⟩)).trans
      (put_in w _ y ⟨_, a⟩ ⟨_, b⟩ h0 h1).symm
  · have h' : ((y 0).val < o0 ∨ o0 + n0 ≤ (y 0).val) ∨ (y 1).val < o1 ∨ o1 + n1 ≤ (y 1).val := by omega
    exact (h'.elim (fun k => View.read_writes_cons_unit_of_not_mem v f inb w L y rfl 0 k)
      fun k => View.read_writes_cons_unit_of_not_mem v f inb w L y rfl 1 k).trans (put_out w _ y h').symm

/-- A store of the whole buffer leaves its payload. -/
theorem put_whole (w f : (⟨2, ![A, B]⟩ : Shape).Idx → α) : put 0 0 w f = w := by
  funext y
  exact (put_in w f y (y 0) (y 1) (Nat.zero_add _).symm (Nat.zero_add _).symm).trans (congrArg w (eq_ix2 y).symm)

/-- The rectangle of a buffer at `(o0, o1)`. -/
def cut (o0 o1 n0 n1 : ℕ) (f : (⟨2, ![A, B]⟩ : Shape).Idx → α) (h0 : o0 + n0 ≤ A) (h1 : o1 + n1 ≤ B) (x : (⟨2, ![n0, n1]⟩ : Shape).Idx) : α :=
  f (ix2 ⟨o0 + (x 0).val, Nat.lt_of_lt_of_le (Nat.add_lt_add_left (x 0).isLt o0) h0⟩
    ⟨o1 + (x 1).val, Nat.lt_of_lt_of_le (Nat.add_lt_add_left (x 1).isLt o1) h1⟩)

/-- Reading a rectangle of what stores left. -/
theorem readCov_cut [∀ e, Nonempty (Val e)] {sig : RefSig} {κ : Kind} {sp : Space} (v : View sig κ sp ⟨2, ![A, B]⟩ e)
    (L : List (View.Piece Val ⟨2, ![A, B]⟩ e)) {o0 o1 : ℕ}
    (inb : ∀ a, (![o0, o1] : Fin 2 → ℕ) a + (![n0, n1] : Fin 2 → ℕ) a ≤ (⟨2, ![A, B]⟩ : Shape).size a) :
    v.readCov L (Rect.unit (s := ⟨2, ![A, B]⟩) ![o0, o1] ![n0, n1] inb).toLoadRect
      = cut o0 o1 n0 n1 (View.canon L) (inb 0) (inb 1) := by
  rw [View.readCov_eq_canon']
  funext x
  refine congrArg (View.canon L) (Sums.ext2 ?_ ?_)
  · show o0 + 1 * (x 0).val = o0 + (x 0).val
    rw [Nat.one_mul]
  · show o1 + 1 * (x 1).val = o1 + (x 1).val
    rw [Nat.one_mul]

/-- A load of a rectangle of a block. -/
theorem ld_cut (f : (⟨2, ![A, B]⟩ : Shape).Idx → Val e) {o0 o1 : ℕ}
    (inb : ∀ a, (![o0, o1] : Fin 2 → ℕ) a + (![n0, n1] : Fin 2 → ℕ) a ≤ (⟨2, ![A, B]⟩ : Shape).size a) :
    View.ld f (Rect.unit (s := ⟨2, ![A, B]⟩) ![o0, o1] ![n0, n1] inb) = cut o0 o1 n0 n1 f (inb 0) (inb 1) := by
  funext x
  refine congrArg f (Sums.ext2 ?_ ?_)
  · show o0 + 1 * (x 0).val = o0 + (x 0).val
    rw [Nat.one_mul]
  · show o1 + 1 * (x 1).val = o1 + (x 1).val
    rw [Nat.one_mul]

end Cert.Patch

end
-- ==== Proof.In1Array.lean ====
/- What the two result arrays of the sheet-writing product hold after its run, as functions of its arguments. -/
module

public import proofs.«01_k».proof.Proof.In1Frame
public import proofs.«01_k».proof.Proof.Array
public import proofs.«01_k».proof.Proof.Patch

@[expose] public section

set_option maxRecDepth 16384

noncomputable section

namespace Cert.Kernel3Ideal.Body

open Cert.Kernel3Ideal Cert.Kernel3Ideal.Gen Idealize.ShloMosaic Idealize.ShloMosaic.TcCoe Idealize.SL.Sem
open Cert.KernelIdeal.Body (dh row gainPart dhRow gainRow row_lt)
open Idealize.ShloMosaic.Pipeline (Dat)

theorem pay5_same : @k0_pay5 Ideal _ = @Cert.KernelIdeal.Gen.k0_pay5 Ideal _ := rfl
theorem pay4_same : @k0_pay4 Ideal _ = @Cert.KernelIdeal.Gen.k0_pay4 Ideal _ := rfl
theorem pay2_same : @k0_pay2 Ideal _ = @Cert.KernelIdeal.Gen.k0_pay2 Ideal _ := rfl
theorem pay9_same : @k0_pay9 Ideal _ = @Cert.KernelIdeal.Gen.k0_pay9 Ideal _ := rfl

variable (m : (ℓ : Loc nD τ sig) → Buf (Elt Ideal) ℓ) (c : Dev nD)

/-- The product of the block at point `t`. -/
def dhAt (t : Fin cfg0.N) : S512x1024.Idx → EReal := fun y => dh (iblk m c 0 t) (iblk m c 1 t) (y 0) (y 1)

/-- The rows' gradient that point `t` leaves. -/
theorem dx_at (t : Fin cfg0.N) : (outs m c t.val t.isLt).1
    = fun y => Norm.backward (row (iblk m c 2 t) (y 0)) (row (dhAt m c t) (y 0)) (fun k => iblk m c 3 t (ix2 0 k)) (iblk m c 4 t y) (y 1) := by
  by_cases h : t.val = 0
  · rw [outs_first m c t h]
    unfold afterFirst
    frame_out
    rw [pay5_same, pay4_same, Cert.KernelIdeal.Body.chunks]
    exact Cert.KernelIdeal.Body.pay2_eq _ _ _ _
  · rw [outs_next m c t h]
    unfold afterNext
    frame_out
    rw [pay5_same, pay4_same, Cert.KernelIdeal.Body.chunks]
    exact Cert.KernelIdeal.Body.pay2_eq _ _ _ _

/-- Point `t`'s part of the gain's gradient, in the sheet: row 16, the first 1024 columns. -/
def part (t : Fin cfg0.N) (y : S40x2816.Idx) : EReal :=
  if h : (y 0).val = 16 ∧ (y 1).val < 1024 then gainPart (dhAt m c t) (iblk m c 2 t) ⟨(y 1).val, h.2⟩ else 0

/-- The sheet with row 16 cleared. -/
def cleared (s : S40x2816.Idx → EReal) (y : S40x2816.Idx) : EReal := if (y 0).val = 16 then 0 else s y

theorem part_in (t : Fin cfg0.N) (y : S40x2816.Idx) (h : (y 0).val = 16 ∧ (y 1).val < 1024) :
    part m c t y = gainPart (dhAt m c t) (iblk m c 2 t) ⟨(y 1).val, h.2⟩ := by
  unfold part; exact dif_pos h

theorem part_out (t : Fin cfg0.N) (y : S40x2816.Idx) (h : ¬((y 0).val = 16 ∧ (y 1).val < 1024)) : part m c t y = 0 := by
  unfold part; exact dif_neg h

/-- The first point clears row 16 and adds its part. -/
theorem out_first (t : Fin cfg0.N) (h : t.val % 16 = 0) (y : S40x2816.Idx) : (outs m c t.val t.isLt).2 y
    = cleared (iblk m c 5 t) y + part m c t y := by
  have ht : t.val < 16 := t.isLt
  rw [outs_first m c t (by omega)]
  unfold afterFirst
  frame_out
  rw [pay9_same, pay4_same, Cert.KernelIdeal.Body.pay9_eq, Cert.KernelIdeal.Body.chunks, Patch.readCov_cut, Patch.canon_put,
    Patch.canon_put, Patch.canon_put, Patch.put_whole]
  unfold cleared
  by_cases h0 : (y 0).val = 16
  · by_cases h1 : (y 1).val < 1024
    · rw [Patch.put_in _ _ y 0 ⟨(y 1).val, h1⟩ h0 (by simp), if_pos h0, part_in m c t y ⟨h0, h1⟩]
      pointwise [k0_pay1, k0_pay8, k0_pay3, Patch.cut, Patch.put]
      rfl
    · rw [Patch.put_out _ _ y (.inr (.inr (by omega))), Patch.put_in (o0 := 16) (o1 := 0) _ _ y (0 : Fin 1) (⟨(y 1).val, (y 1).isLt⟩ : Fin 2816) h0 (by simp),
        if_pos h0, part_out m c t y fun e => h1 e.2]
      pointwise [k0_pay3]
  · rw [Patch.put_out _ _ y (.inl (by omega)), Patch.put_out _ _ y (.inl (by omega)), if_neg h0, part_out m c t y fun e => h0 e.1]
    exact (add_zero _).symm

/-- A later point adds its part. -/
theorem out_next (t : Fin cfg0.N) (h : ¬t.val % 16 = 0) (y : S40x2816.Idx) : (outs m c t.val t.isLt).2 y
    = (outs m c (t.val - 1) (pred_lt t)).2 y + part m c t y := by
  rw [outs_next m c t fun e => h (by rw [e])]
  unfold afterNext
  frame_out
  rw [pay9_same, pay4_same, Cert.KernelIdeal.Body.pay9_eq, Cert.KernelIdeal.Body.chunks, Patch.writes_put, View.writes_nil,
    (bufs t).hout.read_unread]
  by_cases h0 : (y 0).val = 16
  · by_cases h1 : (y 1).val < 1024
    · rw [Patch.put_in _ _ y 0 ⟨(y 1).val, h1⟩ h0 (by simp), part_in m c t y ⟨h0, h1⟩]
      pointwise [k0_pay1, k0_pay8]
      exact congrArg₂ (· + ·) (congrArg _ (Sums.ext2 (by simpa using h0.symm) (by simp))) rfl
    · rw [Patch.put_out _ _ y (.inr (.inr (by omega))), part_out m c t y fun e => h1 e.2, add_zero]
  · rw [Patch.put_out _ _ y (.inl (by omega)), part_out m c t y fun e => h0 e.1, add_zero]

/-- The block of every window at every point. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])

theorem dx_array : (dats m 0 c).arrAt 6 cfg0.N = fun i : S8192x1024.Idx =>
    Norm.backward (fun k => m ((c.tc : Thread nD τ).loc main_arg2) (ix2 (i 0) k))
      (dhRow (m ((c.tc : Thread nD τ).loc main_arg0)) (m ((c.tc : Thread nD τ).loc main_arg1)) (i 0))
      (fun k => m ((c.tc : Thread nD τ).loc main_arg3) (ix1 k)) (m ((c.tc : Thread nD τ).loc main_arg4) i) (i 1) := by
  refine (dats m 0 c).arrAt_eq_of_covers 6 _ (by decide +kernel) fun t hf y => ?_
  blk_simp
  rw [after_dx, dx_at]
  pointwise [Norm.backward, Norm.scale, Norm.meanSq, row, dhAt, dh, dhRow]
  blk_point [iblk, V, idx0 t, idx1 t, idx2 t, idx3 t, idx4 t, idx6 t]

theorem gainPart_at (t : Fin cfg0.N) (j : Fin 1024) : gainPart (dhAt m c t) (iblk m c 2 t) j
    = ∑ p : Fin 512, gainRow (m ((c.tc : Thread nD τ).loc main_arg2)) (m ((c.tc : Thread nD τ).loc main_arg0))
        (m ((c.tc : Thread nD τ).loc main_arg1)) ⟨t.val * 512 + p.val, row_lt t p⟩ j := by
  pointwise [gainPart, gainRow, dhAt, dh, dhRow, Norm.scale, Norm.meanSq, row]
  blk_point [iblk, V, idx0 t, idx1 t, idx2 t]

theorem sheet_at (t : Fin cfg0.N) (y : S40x2816.Idx) : iblk m c 5 t y = m ((c.tc : Thread nD τ).loc main_arg5) y := by
  blk_point [iblk, V, idx5 t]

/-- The sheet with row 16 holding `g` in its first 1024 columns, zeros behind. -/
def withRow (s : S40x2816.Idx → EReal) (g : Fin 1024 → EReal) (y : S40x2816.Idx) : EReal :=
  if (y 0).val = 16 then if h : (y 1).val < 1024 then g ⟨(y 1).val, h⟩ else 0 else s y

/-- The last grid point, the only one whose sheet is written back. -/
def last : Fin cfg0.N := ⟨15, by decide⟩

theorem out_array : (dats m 0 c).arrAt 7 cfg0.N = withRow (m ((c.tc : Thread nD τ).loc main_arg5)) fun j =>
    ∑ r : Fin 8192, gainRow (m ((c.tc : Thread nD τ).loc main_arg2)) (m ((c.tc : Thread nD τ).loc main_arg0))
      (m ((c.tc : Thread nD τ).loc main_arg1)) r j := by
  refine (dats m 0 c).arrAt_eq_of_after_last 7 last (by decide +kernel) _ fun j => ?_
  blk_simp
  refine (congrFun (after_out m c last) j).trans ?_
  refine (Pipeline.eq_sum_fin_of_reset_step_apply_last (fun n h y => (outs m c n h).2 y) 16
    (cleared (m ((c.tc : Thread nD τ).loc main_arg5))) _ (fun t h y => (out_first m c t h y).trans (congrArg (· + _) (by
      unfold cleared; exact if_congr Iff.rfl rfl (sheet_at m c t y)))) (out_next m c) (by decide) last rfl j).trans ?_
  unfold cleared withRow
  by_cases h0 : (j 0).val = 16
  · by_cases h1 : (j 1).val < 1024
    · rw [if_pos h0, zero_add, if_pos h0, dif_pos h1]
      refine (Finset.sum_congr rfl fun t _ => (part_in m c t j ⟨h0, h1⟩).trans (gainPart_at m c t _)).trans ?_
      exact Fin.sum_mul_add_fin 16 512 (fun r : Fin 8192 => gainRow (m ((c.tc : Thread nD τ).loc main_arg2))
        (m ((c.tc : Thread nD τ).loc main_arg0)) (m ((c.tc : Thread nD τ).loc main_arg1)) r ⟨(j 1).val, h1⟩)
    · rw [if_pos h0, zero_add, if_pos h0, dif_neg h1]
      exact Finset.sum_eq_zero fun t _ => part_out m c t j fun e => h1 e.2
  · rw [if_neg h0, if_neg h0, Finset.sum_eq_zero fun t _ => part_out m c t j fun e => h0 e.1, add_zero]

end Cert.Kernel3Ideal.Body

end
-- ==== Proof.In1Reference.lean ====
/- What the reference with the sheet leaves: the same gradients, the gain's in row 16 of the sheet. -/
module

public import proofs.«01_k».proof.Defs
public import proofs.«01_k».proof.Proof.Gen.Reference3Ideal.Read
public import proofs.«01_k».proof.Proof.Gen.Pre_finite_in1
public import proofs.«01_k».proof.Proof.In1Array
public import proofs.«01_k».proof.Proof.Equation

@[expose] public section

set_option maxRecDepth 16384

noncomputable section

namespace Cert.Reference3Ideal.Body

open Cert.Reference3Ideal Cert.Reference3Ideal.Gen Cert.Reference3Ideal.Read Idealize.ShloMosaic Idealize.ShloMosaic.TcCoe Idealize.SL.Sem
open Cert.KernelIdeal.Body (dhRow gainRow)
open Cert.Kernel3Ideal.Body (withRow)

variable (dz : S8192x4608.Idx → EReal) (w : S1024x4608.Idx → EReal) (x : S8192x1024.Idx → EReal) (g : S1024.Idx → EReal)
  (d : S8192x1024.Idx → EReal) (s : S40x2816.Idx → EReal)

theorem same_dx : val_main_v39 (F := Ideal) = Cert.ReferenceIdeal.Read.val_main_v39 (F := Ideal) := rfl

theorem same_gain : val_main_v24 (F := Ideal) = Cert.ReferenceIdeal.Read.val_main_v24 (F := Ideal) := rfl

theorem same_pre : Cert.Pre_finite_in1.fn (F := Ideal) dz w x g d s = Cert.Pre_finite.fn (F := Ideal) dz w x g d := rfl

theorem sheet_eq : val_main_v45 (F := Ideal) dz w x s = withRow s fun j => ∑ r : Fin 8192, gainRow x dz w r j := by
  funext i
  pointwise [val_main_v45, val_main_v44, val_main_v43, val_main_v42, val_main_v41, val_main_v40, val_main_cst_8, withRow,
    same_gain, Cert.ReferenceIdeal.Body.gain_eq]
  by_cases h : (i 0).val < 16
  · rw [dif_pos h, if_neg (by omega)]
  · rw [dif_neg h]
    by_cases h' : (i 0).val = 16
    · rw [dif_pos (by omega), if_pos h']
    · rw [dif_neg (by omega), if_neg h']
      exact congrArg s ((congrArg (ix2 · (i 1)) (Fin.ext (by show 17 + ((i 0).val - 16 - 1) = (i 0).val; omega))).trans (eq_ix2 i).symm)

end Cert.Reference3Ideal.Body

end
-- ==== Proof.Ffn0Claims.lean ====
/- The first layer's feed-forward gradient without its exchange: the second layer's over rows 8 to 11 of the
   small array. -/
module

public import proofs.«01_k».proof.Defs
public import proofs.«01_k».proof.Proof.FfnReference
public import proofs.«01_k».proof.Proof.FfnEquation
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Adequacy

@[expose] public section

set_option maxRecDepth 65536

noncomputable section

namespace Cert.Kernel9Ideal.Body

open Cert.Kernel9Ideal Cert.Kernel9Ideal.Gen
open Idealize.ShloMosaic Idealize.ShloMosaic.TcCoe Idealize.ShloMosaic.Tactic Idealize.ShloMosaic.Rounds Idealize.SL.Sem
open Cert.Kernel2Ideal.Body (inputs args Inputs.dup Inputs.dupPieces Inputs.fill Inputs.rowPieces Inputs.rows base rowsDown canon_dup
  fill_at rowPieces_at start addend start_add step_add small_sum Args Args.dup Args.smallOut last dup_block dup_emb)

variable (m : (ℓ : Loc nD τ sig) → Buf (Elt Ideal) ℓ) (c : Dev nD)

theorem dup_pieces (t : Fin cfg0.N) : (outsAt0 m c t.val t.isLt).1 = View.canon (inputs m c t).dupPieces := by
  by_cases h : t.val % 16 = 0
  · rw [outsAt0_A m c t h]
    frame_out
    sl_kernel_rfl
  · rw [outsAt0_B m c t h]
    frame_out
    sl_kernel_rfl

set_option maxHeartbeats 1000000 in
theorem row_pieces_A (t : Fin cfg0.N) (h : t.val % 16 = 0) :
    (outsAt0 m c t.val t.isLt).2 = View.canon ((inputs m c t).fill 8 (ms0_10 t).view (base 8 (iblk m c 8 t)) rowsDown) := by
  rw [outsAt0_A m c t h]
  frame_out
  sl_kernel_rfl

theorem row_pieces_B (t : Fin cfg0.N) (h : ¬t.val % 16 = 0) :
    (outsAt0 m c t.val t.isLt).2 =
      (ms0_10 t).view.read (Elt Ideal) ((ms0_10 t).view.writes (Elt Ideal) ((hs0_10 t).unread (outsAt0 m c (t.val - 1) (by omega)).2)
        ((inputs m c t).rowPieces 8 (outsAt0 m c (t.val - 1) (by omega)).2)) := by
  rw [outsAt0_B m c t h]
  frame_out
  sl_kernel_rfl

theorem dup_at (t : Fin cfg0.N) (y : S512x5632.Idx) : (outsAt0 m c t.val t.isLt).1 y = (inputs m c t).dup y :=
  (congrFun (dup_pieces m c t) y).trans (canon_dup _ y)

theorem dup_array : (dats m 0 c).arrAt 9 cfg0.N = (args m c).dup := by
  refine (dats m 0 c).arrAt_eq_of_covers 9 _ (by decide +kernel) fun t hf y => ?_
  blk_simp
  rw [after0_9, dup_at]
  obtain ⟨p, k, rfl⟩ : ∃ (p : Fin 512) (k : Fin 5632), y = ix2 p k := ⟨y 0, y 1, eq_ix2 y⟩
  refine (dup_block m c t p k).trans (congrArg (args m c).dup (dup_emb t p k))

theorem small_first (t : Fin cfg0.N) (h : t.val % 16 = 0) (y : S40x2816.Idx) :
    (outsAt0 m c t.val t.isLt).2 y = start m c 8 y + addend m c t 8 y := by
  rw [row_pieces_A m c t h]
  exact (fill_at _ 8 _ _ y).trans (start_add m c t 8 y)

theorem small_step (t : Fin cfg0.N) (h : ¬t.val % 16 = 0) (y : S40x2816.Idx) :
    (outsAt0 m c t.val t.isLt).2 y = ((outsAt0 m c (t.val - 1) (by omega)).2 y : EReal) + addend m c t 8 y := by
  rw [row_pieces_B m c t h]
  exact (rowPieces_at _ 8 _ _ _ ((hs0_10 t).read_unread _) y).trans (step_add m c t 8 y _)

theorem small_array : (dats m 0 c).arrAt 10 cfg0.N = (args m c).smallOut 8 := by
  refine (dats m 0 c).arrAt_eq_of_after_last 10 last (by decide +kernel) _ fun j => ?_
  blk_simp
  refine (congrFun (after0_10 m c last) j).trans ?_
  exact (Pipeline.eq_sum_fin_of_reset_step_apply_last (M := EReal) (fun n h y => (outsAt0 m c n h).2 y) 16 (start m c 8)
    (fun t y => addend m c t 8 y) (small_first m c) (small_step m c) (by decide) last rfl j).trans (small_sum m c 8 j)

end Cert.Kernel9Ideal.Body

namespace Cert.Reference9Ideal.Body

open Cert.Reference9Ideal Cert.Reference9Ideal.Gen Cert.Reference9Ideal.Read Idealize.ShloMosaic Idealize.ShloMosaic.TcCoe
open Idealize.ShloMosaic.Tactic
open Cert.Kernel2Ideal.Body (Args Args.dup Args.smallOut)
open Cert.Reference2Ideal.Body (Real smallOut_rows)

/-- The stages before the small array are the second layer's. -/
theorem same_dup : val_main_v63 (F := Ideal) = Cert.Reference2Ideal.Read.val_main_v63 (F := Ideal) := rfl
theorem same_taps : val_main_v57 (F := Ideal) = Cert.Reference2Ideal.Read.val_main_v57 (F := Ideal) := rfl
theorem same_bias : val_main_v65 (F := Ideal) = Cert.Reference2Ideal.Read.val_main_v65 (F := Ideal) := rfl

variable {A : Args} (hA : Real A)
include hA

theorem small_ref (i : S40x2816.Idx) : val_main_v67 (F := Ideal) A.x A.up A.w A.b A.wd A.small i = A.smallOut 8 i := by
  obtain ⟨n, j, rfl⟩ : ∃ (n : Fin 40) (j : Fin 2816), i = ix2 n j := ⟨i 0, i 1, eq_ix2 i⟩
  pointwise [val_main_v67, val_main_v66, val_main_v64]
  simp only [same_taps, same_bias, Cert.Reference2Ideal.Body.taps_ref hA, Cert.Reference2Ideal.Body.bias_ref hA]
  exact (smallOut_rows 8 (by decide) n j).symm

end Cert.Reference9Ideal.Body

namespace Cert.Proof

open Idealize.ShloMosaic Idealize.ShloMosaic.TcCoe Idealize.ShloMosaic.Tactic Idealize.SL.Sem

theorem frame_ideal9 : Cert.quiescent_Kernel9Ideal := fun m ρ _ => Cert.Kernel9Ideal.Gen.frame m ρ

/-- The two programs have the same text, so the run over machine numbers is the other's. -/
theorem frame_kernel9 : Cert.quiescent_Kernel9 := fun m ρ _ =>
  (by sl_kernel_rfl : (θ_run (Cert.Kernel9Ideal.defs (F := Bits)) (onTc (τ := Cert.Kernel9Ideal.τ) Cert.Kernel9Ideal.main) ⟨m, fun _ => 0, ρ⟩)
    = θ_run (Cert.Kernel9.defs (F := Bits)) (onTc (τ := Cert.Kernel9.τ) Cert.Kernel9.main) ⟨m, fun _ => 0, ρ⟩) ▸
    Cert.Kernel9Ideal.Gen.frame (F := Bits) m ρ

theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- Both results, where the five arguments of the precondition are finite. -/
theorem algebraic9 : Cert.algebraic_Kernel9Ideal_Reference9Ideal_pre_finite_ffn := fun m ρ m' ρ' hpre hagree =>
  ⟨_, _,
    (θ_run Cert.Kernel9Ideal.defs _ _).mono (fun _ h c =>
      ⟨(h c).1.trans (Kernel9Ideal.Body.dup_array m c), (h c).2.1.trans (Kernel9Ideal.Body.small_array m c), (h c).2.2⟩)
      (Cert.Kernel9Ideal.Value.run_blocks (F := Ideal) m ρ),
    (θ_run Cert.Reference9Ideal.defs _ _).mono (fun _ h c => by
      obtain ⟨e0, e1, e2, e3, e4, e5⟩ := hagree c
      have hA := Reference2Ideal.Body.reals (Kernel2Ideal.Body.args m c) (hpre c)
      refine ⟨(h c).1.trans ((Cert.Reference9Ideal.Read.val_main_v63_eq m' c).trans ?_),
        (h c).2.1.trans ((Cert.Reference9Ideal.Read.val_main_v67_eq m' c).trans ?_), (h c).2.2⟩
      · rw [e0, e1, e2, e3, e4, Reference9Ideal.Body.same_dup]
        exact funext fun i => Reference2Ideal.Body.dup_ref hA i
      · rw [e0, e1, e2, e3, e4, e5]
        exact funext fun i => Reference9Ideal.Body.small_ref hA i)
      (Cert.Reference9Ideal.Value.run (F := Ideal) m' ρ')⟩

end Cert.Proof

end
-- ==== Proof.FwdRun.lean ====
/- One grid point of the mixer's forward pass: what the body stores. -/
module

public import proofs.«01_k».proof.Proof.Gen.Kernel6Ideal.Launch
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers a grid point works on. -/
structure Bufs where
  z : Memref sig .tc .vmem S512x4608 .bf16
  hz : z.IsWhole
  zp : Memref sig .tc .vmem S16x4608 .bf16
  hzp : zp.IsWhole
  x : Memref sig .tc .vmem S512x1024 .f32
  hx : x.IsWhole
  bg : Memref sig .tc .vmem S1x2048 .f32
  hbg : bg.IsWhole
  lng : Memref sig .tc .vmem S1x512 .f32
  hlng : lng.IsWhole
  lnb : Memref sig .tc .vmem S1x512 .f32
  hlnb : lnb.IsWhole
  ws : Memref sig .tc .vmem S4x128x128 .f32
  hws : ws.IsWhole
  bs : Memref sig .tc .vmem S4x128x1 .f32
  hbs : bs.IsWhole
  wsc : Memref sig .tc .vmem S3x512 .f32
  hwsc : wsc.IsWhole
  wb : Memref sig .tc .vmem S2x512x1024 .bf16
  hwb : wb.IsWhole
  wo : Memref sig .tc .vmem S1024x1024 .bf16
  hwo : wo.IsWhole
  ya : Memref sig .tc .vmem S512x512 .bf16
  hya : ya.IsWhole
  yb : Memref sig .tc .vmem S512x512 .bf16
  hyb : yb.IsWhole
  cv : Memref sig .tc .vmem S512x512 .bf16
  hcv : cv.IsWhole
  pa : Memref sig .tc .vmem S512x1024 .bf16
  hpa : pa.IsWhole
  pb : Memref sig .tc .vmem S512x1024 .bf16
  hpb : pb.IsWhole
  mg : Memref sig .tc .vmem S512x1024 .bf16
  hmg : mg.IsWhole
  x1 : Memref sig .tc .vmem S512x1024 .f32
  hx1 : x1.IsWhole

/-- The blocks a grid point reads. -/
structure Ins (F : FTy → Type) where
  z : Vec F S512x4608 .bf16
  zp : Vec F S16x4608 .bf16
  x : Vec F S512x1024 .f32
  bg : Vec F S1x2048 .f32
  lng : Vec F S1x512 .f32
  lnb : Vec F S1x512 .f32
  ws : Vec F S4x128x128 .f32
  bs : Vec F S4x128x1 .f32
  wsc : Vec F S3x512 .f32
  wb : Vec F S2x512x1024 .bf16
  wo : Vec F S1024x1024 .bf16

/-- The body over its buffers. -/
def Bufs.body (B : Bufs) (i : grid0.Coords) : Prog (TpuEff nD τ sig (Elt F) Λ₀ .tc) PUnit :=
  cc0_fwd_mix_1 i B.z B.hz B.zp B.hzp B.x B.hx B.bg B.hbg B.lng B.hlng B.lnb B.hlnb B.ws B.hws B.bs B.hbs B.wsc B.hwsc B.wb B.hwb B.wo B.hwo B.ya B.hya B.yb B.hyb B.cv B.hcv B.pa B.hpa B.pb B.hpb B.mg B.hmg B.x1 B.hx1
    (Memref.whole cc0_scratch0) (Memref.isWhole_whole _)

/-- The read buffers hold the blocks. -/
def held (c : Dev nD) (B : Bufs) (I : Ins F) : sProp 𝕄 :=
  iprop(owns (c : Thread nD τ) B.z fullShare I.z
    ∗ owns (c : Thread nD τ) B.zp fullShare I.zp
    ∗ owns (c : Thread nD τ) B.x fullShare I.x
    ∗ owns (c : Thread nD τ) B.bg fullShare I.bg
    ∗ owns (c : Thread nD τ) B.lng fullShare I.lng
    ∗ owns (c : Thread nD τ) B.lnb fullShare I.lnb
    ∗ owns (c : Thread nD τ) B.ws fullShare I.ws
    ∗ owns (c : Thread nD τ) B.bs fullShare I.bs
    ∗ owns (c : Thread nD τ) B.wsc fullShare I.wsc
    ∗ owns (c : Thread nD τ) B.wb fullShare I.wb
    ∗ owns (c : Thread nD τ) B.wo fullShare I.wo)

/-- The buffer a point uses for itself, at anything. -/
def spare (c : Dev nD) : sProp 𝕄 := iprop(∃ d, owns (c : Thread nD τ) (Memref.whole cc0_scratch0) fullShare d)

set_option maxHeartbeats 20000000 in
/-- The stores of a point into the seven results, found by running the body. -/
def runPoint (c : Dev nD) (i : grid0.Coords) (B : Bufs) (I : Ins F) :
    Σ' (P1 : List (View.Piece (Elt F) S512x512 .bf16))
      (P2 : List (View.Piece (Elt F) S512x512 .bf16))
      (P3 : List (View.Piece (Elt F) S512x512 .bf16))
      (P4 : List (View.Piece (Elt F) S512x1024 .bf16))
      (P5 : List (View.Piece (Elt F) S512x1024 .bf16))
      (P6 : List (View.Piece (Elt F) S512x1024 .bf16)),
      { P7 : List (View.Piece (Elt F) S512x1024 .f32) // ∀ (E : Set ℕ) (K : PUnit → sProp 𝕄),
        iprop(held c B I
            ∗ (∃ d, owns (c : Thread nD τ) B.ya fullShare d)
            ∗ (∃ d, owns (c : Thread nD τ) B.yb fullShare d)
            ∗ (∃ d, owns (c : Thread nD τ) B.cv fullShare d)
            ∗ (∃ d, owns (c : Thread nD τ) B.pa fullShare d)
            ∗ (∃ d, owns (c : Thread nD τ) B.pb fullShare d)
            ∗ (∃ d, owns (c : Thread nD τ) B.mg fullShare d)
            ∗ (∃ d, owns (c : Thread nD τ) B.x1 fullShare d)
            ∗ spare c
            ∗ (iprop(held c B I
                ∗ (∃ f, B.ya.view.loc (c : Thread nD τ) ↦[B.ya.view.set]{fullShare} B.ya.view.writes (Elt F) f P1)
                ∗ (∃ f, B.yb.view.loc (c : Thread nD τ) ↦[B.yb.view.set]{fullShare} B.yb.view.writes (Elt F) f P2)
                ∗ (∃ f, B.cv.view.loc (c : Thread nD τ) ↦[B.cv.view.set]{fullShare} B.cv.view.writes (Elt F) f P3)
                ∗ (∃ f, B.pa.view.loc (c : Thread nD τ) ↦[B.pa.view.set]{fullShare} B.pa.view.writes (Elt F) f P4)
                ∗ (∃ f, B.pb.view.loc (c : Thread nD τ) ↦[B.pb.view.set]{fullShare} B.pb.view.writes (Elt F) f P5)
                ∗ (∃ f, B.mg.view.loc (c : Thread nD τ) ↦[B.mg.view.set]{fullShare} B.mg.view.writes (Elt F) f P6)
                ∗ (∃ f, B.x1.view.loc (c : Thread nD τ) ↦[B.x1.view.set]{fullShare} B.x1.view.writes (Elt F) f P7)
                ∗ spare c) -∗ K ⟨⟩))
          ⊢ wp frame (wpE (defs₀ (F := F)) Variants.none c none) E (B.body i) K } := by
  refine ⟨?_, ?_, ?_, ?_, ?_, ?_, ?_, fun E K => ?run⟩
  case run =>
    unfold Bufs.body held spare
    simp only [cc0_fwd_mix_1_eq_skeleton]; unfold cc0_fwd_mix_1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := B.hz.eq_unread h0
    obtain rfl := B.hzp.eq_unread h1
    obtain rfl := B.hx.eq_unread h2
    obtain rfl := B.hbg.eq_unread h3
    obtain rfl := B.hlng.eq_unread h4
    obtain rfl := B.hlnb.eq_unread h5
    obtain rfl := B.hws.eq_unread h6
    obtain rfl := B.hbs.eq_unread h7
    obtain rfl := B.hwsc.eq_unread h8
    obtain rfl := B.hwb.eq_unread h9
    obtain rfl := B.hwo.eq_unread h10
    sl_exec
    sl_step
    iapply Hk
    isplitl [H0 H1 H2 H3 H4 H5 H6 H7 H8 H9 H10]
    · isplitl [H0]
      · iexists _; isplitr; · ipureintro; exact B.hz.read_unread _
        iexact H0
      isplitl [H1]
      · iexists _; isplitr; · ipureintro; exact B.hzp.read_unread _
        iexact H1
      isplitl [H2]
      · iexists _; isplitr; · ipureintro; exact B.hx.read_unread _
        iexact H2
      isplitl [H3]
      · iexists _; isplitr; · ipureintro; exact B.hbg.read_unread _
        iexact H3
      isplitl [H4]
      · iexists _; isplitr; · ipureintro; exact B.hlng.read_unread _
        iexact H4
      isplitl [H5]
      · iexists _; isplitr; · ipureintro; exact B.hlnb.read_unread _
        iexact H5
      isplitl [H6]
      · iexists _; isplitr; · ipureintro; exact B.hws.read_unread _
        iexact H6
      isplitl [H7]
      · iexists _; isplitr; · ipureintro; exact B.hbs.read_unread _
        iexact H7
      isplitl [H8]
      · iexists _; isplitr; · ipureintro; exact B.hwsc.read_unread _
        iexact H8
      isplitl [H9]
      · iexists _; isplitr; · ipureintro; exact B.hwb.read_unread _
        iexact H9
      iexists _; isplitr; · ipureintro; exact B.hwo.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexists _; isplitr; swap; · iexact H18
    ipureintro; rfl

end Cert.Kernel6Ideal.Body

end
-- ==== Proof.MixRun.lean ====
/- One grid point of the mixer's backward pass: what the body stores, at the first point and at the later ones. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers a grid point works on. -/
structure Bufs where
  dx : Memref sig .tc .vmem S512x1024 .f32
  hdx : dx.IsWhole
  dxn : Memref sig .tc .vmem S16x1024 .f32
  hdxn : dxn.IsWhole
  z : Memref sig .tc .vmem S512x4608 .bf16
  hz : z.IsWhole
  zn : Memref sig .tc .vmem S16x4608 .bf16
  hzn : zn.IsWhole
  cv : Memref sig .tc .vmem S512x512 .bf16
  hcv : cv.IsWhole
  pa : Memref sig .tc .vmem S512x1024 .bf16
  hpa : pa.IsWhole
  pb : Memref sig .tc .vmem S512x1024 .bf16
  hpb : pb.IsWhole
  bg : Memref sig .tc .vmem S1x2048 .f32
  hbg : bg.IsWhole
  lng : Memref sig .tc .vmem S1x512 .f32
  hlng : lng.IsWhole
  lnb : Memref sig .tc .vmem S1x512 .f32
  hlnb : lnb.IsWhole
  ws : Memref sig .tc .vmem S4x128x128 .f32
  hws : ws.IsWhole
  wst : Memref sig .tc .vmem S4x128x128 .f32
  hwst : wst.IsWhole
  bs : Memref sig .tc .vmem S4x128x1 .f32
  hbs : bs.IsWhole
  wsc : Memref sig .tc .vmem S3x512 .f32
  hwsc : wsc.IsWhole
  wo : Memref sig .tc .vmem S1024x1024 .bf16
  hwo : wo.IsWhole
  wb : Memref sig .tc .vmem S2x512x1024 .bf16
  hwb : wb.IsWhole
  sheet : Memref sig .tc .vmem S40x2816 .f32
  hsheet : sheet.IsWhole
  dz : Memref sig .tc .vmem S512x4608 .bf16
  hdz : dz.IsWhole
  dpa : Memref sig .tc .vmem S512x1024 .bf16
  hdpa : dpa.IsWhole
  dpb : Memref sig .tc .vmem S512x1024 .bf16
  hdpb : dpb.IsWhole
  dws : Memref sig .tc .vmem S4x128x128 .f32
  hdws : dws.IsWhole
  dbs : Memref sig .tc .vmem S4x128x1 .f32
  hdbs : dbs.IsWhole
  out : Memref sig .tc .vmem S40x2816 .f32
  hout : out.IsWhole

/-- The blocks a grid point reads. -/
structure Ins (F : FTy → Type) where
  dx : Vec F S512x1024 .f32
  dxn : Vec F S16x1024 .f32
  z : Vec F S512x4608 .bf16
  zn : Vec F S16x4608 .bf16
  cv : Vec F S512x512 .bf16
  pa : Vec F S512x1024 .bf16
  pb : Vec F S512x1024 .bf16
  bg : Vec F S1x2048 .f32
  lng : Vec F S1x512 .f32
  lnb : Vec F S1x512 .f32
  ws : Vec F S4x128x128 .f32
  wst : Vec F S4x128x128 .f32
  bs : Vec F S4x128x1 .f32
  wsc : Vec F S3x512 .f32
  wo : Vec F S1024x1024 .bf16
  wb : Vec F S2x512x1024 .bf16
  sheet : Vec F S40x2816 .f32

/-- Which of the two layers' calls: they differ in the rows of the sheet they add to, and in their names. -/
class Layer where
  second : Bool

/-- The second layer's, where none is named. -/
instance (priority := low) secondLayer : Layer := ⟨true⟩

theorem same_sig : Cert.Kernel10Ideal.sig = sig := rfl

variable [layer : Layer]

/-- The body over its buffers. -/
def Bufs.body (B : Bufs) (i : grid0.Coords) : Prog (TpuEff nD τ sig (Elt F) Λ₀ .tc) PUnit :=
  (match Layer.second with | true => cc0_bwd_mix_1 (F := F) | false => Cert.Kernel10Ideal.cc0_bwd_mix_0 (F := F))
    i B.dx B.hdx B.dxn B.hdxn B.z B.hz B.zn B.hzn B.cv B.hcv B.pa B.hpa B.pb B.hpb B.bg B.hbg B.lng B.hlng B.lnb B.hlnb B.ws B.hws B.wst B.hwst B.bs B.hbs B.wsc B.hwsc B.wo B.hwo B.wb B.hwb B.sheet B.hsheet B.dz B.hdz B.dpa B.hdpa B.dpb B.hdpb B.dws B.hdws B.dbs B.hdbs B.out B.hout
    (Memref.whole cc0_scratch0) (Memref.isWhole_whole _) (Memref.whole cc0_scratch1) (Memref.isWhole_whole _)

/-- The call's row of the table of bodies. -/
def bodies : Defs nD τ sig (Elt F) Λ₀ := match Layer.second with | true => defs₀ | false => Cert.Kernel10Ideal.defs₀

/-- The read buffers hold the blocks. -/
def held (c : Dev nD) (B : Bufs) (I : Ins F) : sProp 𝕄 :=
  iprop(owns (c : Thread nD τ) B.dx fullShare I.dx
    ∗ owns (c : Thread nD τ) B.dxn fullShare I.dxn
    ∗ owns (c : Thread nD τ) B.z fullShare I.z
    ∗ owns (c : Thread nD τ) B.zn fullShare I.zn
    ∗ owns (c : Thread nD τ) B.cv fullShare I.cv
    ∗ owns (c : Thread nD τ) B.pa fullShare I.pa
    ∗ owns (c : Thread nD τ) B.pb fullShare I.pb
    ∗ owns (c : Thread nD τ) B.bg fullShare I.bg
    ∗ owns (c : Thread nD τ) B.lng fullShare I.lng
    ∗ owns (c : Thread nD τ) B.lnb fullShare I.lnb
    ∗ owns (c : Thread nD τ) B.ws fullShare I.ws
    ∗ owns (c : Thread nD τ) B.wst fullShare I.wst
    ∗ owns (c : Thread nD τ) B.bs fullShare I.bs
    ∗ owns (c : Thread nD τ) B.wsc fullShare I.wsc
    ∗ owns (c : Thread nD τ) B.wo fullShare I.wo
    ∗ owns (c : Thread nD τ) B.wb fullShare I.wb
    ∗ owns (c : Thread nD τ) B.sheet fullShare I.sheet)

/-- The two buffers a point uses for itself, at anything. -/
def spare (c : Dev nD) : sProp 𝕄 :=
  iprop((∃ d, owns (c : Thread nD τ) (Memref.whole cc0_scratch0) fullShare d)
    ∗ ∃ d, owns (c : Thread nD τ) (Memref.whole cc0_scratch1) fullShare d)

/-- The condition of the body's branches: the first grid point. -/
abbrev first (i : grid0.Coords) : Prop :=
  Scalar.cmpi .ne (Scalar.extui (Scalar.cmpi .eq (BitVec.ofNat 32 (i 0).val) 0#32)) 0#32 = 1#1

theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

set_option maxHeartbeats 20000000 in
/-- The first point: the stores into the six results, found by running the body. -/
def runFirst (c : Dev nD) (i : grid0.Coords) (B : Bufs) (hc : first i) (I : Ins F) :
    Σ' (P1 : List (View.Piece (Elt F) S512x4608 .bf16)) (P2 : List (View.Piece (Elt F) S512x1024 .bf16)) (P3 : List (View.Piece (Elt F) S512x1024 .bf16)) (P4 : List (View.Piece (Elt F) S4x128x128 .f32)) (P5 : List (View.Piece (Elt F) S4x128x1 .f32)),
      { P6 : List (View.Piece (Elt F) S40x2816 .f32) // ∀ (E : Set ℕ) (K : PUnit → sProp 𝕄),
        iprop(held c B I ∗ (∃ d, owns (c : Thread nD τ) B.dz fullShare d)
            ∗ (∃ d, owns (c : Thread nD τ) B.dpa fullShare d)
            ∗ (∃ d, owns (c : Thread nD τ) B.dpb fullShare d)
            ∗ (∃ d, owns (c : Thread nD τ) B.dws fullShare d)
            ∗ (∃ d, owns (c : Thread nD τ) B.dbs fullShare d)
            ∗ (∃ d, owns (c : Thread nD τ) B.out fullShare d)
            ∗ spare c
            ∗ (iprop(held c B I ∗ (∃ f, B.dz.view.loc (c : Thread nD τ) ↦[B.dz.view.set]{fullShare} B.dz.view.writes (Elt F) f P1)
                ∗ (∃ f, B.dpa.view.loc (c : Thread nD τ) ↦[B.dpa.view.set]{fullShare} B.dpa.view.writes (Elt F) f P2)
                ∗ (∃ f, B.dpb.view.loc (c : Thread nD τ) ↦[B.dpb.view.set]{fullShare} B.dpb.view.writes (Elt F) f P3)
                ∗ (∃ f, B.dws.view.loc (c : Thread nD τ) ↦[B.dws.view.set]{fullShare} B.dws.view.writes (Elt F) f P4)
                ∗ (∃ f, B.dbs.view.loc (c : Thread nD τ) ↦[B.dbs.view.set]{fullShare} B.dbs.view.writes (Elt F) f P5)
                ∗ (∃ f, B.out.view.loc (c : Thread nD τ) ↦[B.out.view.set]{fullShare} B.out.view.writes (Elt F) f P6)
                ∗ spare c) -∗ K ⟨⟩))
          ⊢ wp frame (wpE (bodies (F := F)) Variants.none c none) E (B.body i) K } := by
  rcases layer with ⟨_ | _⟩
  case' false => refine ⟨?_, ?_, ?_, ?_, ?_, ?_, fun E K => ?run0⟩
  case' true => refine ⟨?_, ?_, ?_, ?_, ?_, ?_, fun E K => ?run1⟩
  case' run0 =>
    unfold Bufs.body
    simp only [Cert.Kernel10Ideal.Gen.cc0_bwd_mix_0_eq_skeleton]; unfold Cert.Kernel10Ideal.Gen.cc0_bwd_mix_0_skel
    simp only [Cert.Kernel10Ideal.Gen.k0_part1_eq_skeleton, Cert.Kernel10Ideal.Gen.k0_part2_eq_skeleton, Cert.Kernel10Ideal.Gen.k0_part3_eq_skeleton, Cert.Kernel10Ideal.Gen.k0_part4_eq_skeleton, Cert.Kernel10Ideal.Gen.k0_part5_eq_skeleton, Cert.Kernel10Ideal.Gen.k0_part6_eq_skeleton, Cert.Kernel10Ideal.Gen.k0_part7_eq_skeleton, Cert.Kernel10Ideal.Gen.k0_part8_eq_skeleton, Cert.Kernel10Ideal.Gen.k0_part9_eq_skeleton, Cert.Kernel10Ideal.Gen.k0_part10_eq_skeleton, Cert.Kernel10Ideal.Gen.k0_part11_eq_skeleton, Cert.Kernel10Ideal.Gen.k0_part12_eq_skeleton, Cert.Kernel10Ideal.Gen.k0_part13_eq_skeleton, Cert.Kernel10Ideal.Gen.k0_part14_eq_skeleton, Cert.Kernel10Ideal.Gen.k0_part15_eq_skeleton, Cert.Kernel10Ideal.Gen.k0_part16_eq_skeleton, Cert.Kernel10Ideal.Gen.k0_part17_eq_skeleton, Cert.Kernel10Ideal.Gen.k0_part18_eq_skeleton, Cert.Kernel10Ideal.Gen.k0_part19_eq_skeleton, Cert.Kernel10Ideal.Gen.k0_part20_eq_skeleton, Cert.Kernel10Ideal.Gen.k0_part21_eq_skeleton, Cert.Kernel10Ideal.Gen.k0_part22_eq_skeleton, Cert.Kernel10Ideal.Gen.k0_part23_eq_skeleton, Cert.Kernel10Ideal.Gen.k0_part24_eq_skeleton, Cert.Kernel10Ideal.Gen.k0_part25_eq_skeleton, Cert.Kernel10Ideal.Gen.k0_part26_eq_skeleton, Cert.Kernel10Ideal.Gen.k0_part27_eq_skeleton, Cert.Kernel10Ideal.Gen.k0_part28_eq_skeleton, Cert.Kernel10Ideal.Gen.k0_part29_eq_skeleton, Cert.Kernel10Ideal.Gen.k0_part30_eq_skeleton]
    dsimp only [same_sig]
  case' run1 =>
    unfold Bufs.body
    simp only [cc0_bwd_mix_1_eq_skeleton]; unfold cc0_bwd_mix_1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  case run0 | run1 =>
    unfold held spare owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨⟨%d23, %f23, -, H23⟩, ⟨%d24, %f24, -, H24⟩⟩, Hk⟩
    obtain rfl := B.hdx.eq_unread h0
    obtain rfl := B.hdxn.eq_unread h1
    obtain rfl := B.hz.eq_unread h2
    obtain rfl := B.hzn.eq_unread h3
    obtain rfl := B.hcv.eq_unread h4
    obtain rfl := B.hpa.eq_unread h5
    obtain rfl := B.hpb.eq_unread h6
    obtain rfl := B.hbg.eq_unread h7
    obtain rfl := B.hlng.eq_unread h8
    obtain rfl := B.hlnb.eq_unread h9
    obtain rfl := B.hws.eq_unread h10
    obtain rfl := B.hwst.eq_unread h11
    obtain rfl := B.hbs.eq_unread h12
    obtain rfl := B.hwsc.eq_unread h13
    obtain rfl := B.hwo.eq_unread h14
    obtain rfl := B.hwb.eq_unread h15
    obtain rfl := B.hsheet.eq_unread h16
    sl_exec (disch := first | sl_exact hc)
    sl_step
    iapply Hk
    isplitl [H0 H1 H2 H3 H4 H5 H6 H7 H8 H9 H10 H11 H12 H13 H14 H15 H16]
    · isplitl [H0]
      · iexists _; isplitr; · ipureintro; exact B.hdx.read_unread _
        iexact H0
      isplitl [H1]
      · iexists _; isplitr; · ipureintro; exact B.hdxn.read_unread _
        iexact H1
      isplitl [H2]
      · iexists _; isplitr; · ipureintro; exact B.hz.read_unread _
        iexact H2
      isplitl [H3]
      · iexists _; isplitr; · ipureintro; exact B.hzn.read_unread _
        iexact H3
      isplitl [H4]
      · iexists _; isplitr; · ipureintro; exact B.hcv.read_unread _
        iexact H4
      isplitl [H5]
      · iexists _; isplitr; · ipureintro; exact B.hpa.read_unread _
        iexact H5
      isplitl [H6]
      · iexists _; isplitr; · ipureintro; exact B.hpb.read_unread _
        iexact H6
      isplitl [H7]
      · iexists _; isplitr; · ipureintro; exact B.hbg.read_unread _
        iexact H7
      isplitl [H8]
      · iexists _; isplitr; · ipureintro; exact B.hlng.read_unread _
        iexact H8
      isplitl [H9]
      · iexists _; isplitr; · ipureintro; exact B.hlnb.read_unread _
        iexact H9
      isplitl [H10]
      · iexists _; isplitr; · ipureintro; exact B.hws.read_unread _
        iexact H10
      isplitl [H11]
      · iexists _; isplitr; · ipureintro; exact B.hwst.read_unread _
        iexact H11
      isplitl [H12]
      · iexists _; isplitr; · ipureintro; exact B.hbs.read_unread _
        iexact H12
      isplitl [H13]
      · iexists _; isplitr; · ipureintro; exact B.hwsc.read_unread _
        iexact H13
      isplitl [H14]
      · iexists _; isplitr; · ipureintro; exact B.hwo.read_unread _
        iexact H14
      isplitl [H15]
      · iexists _; isplitr; · ipureintro; exact B.hwb.read_unread _
        iexact H15
      iexists _; isplitr; · ipureintro; exact B.hsheet.read_unread _
      iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]
    · iexists _; iexists _; isplitr; swap; · iexact H23
      ipureintro; rfl
    iexists _; iexists _; isplitr; swap; · iexact H24
    ipureintro; rfl

set_option maxHeartbeats 20000000 in
/-- A later point: the stores into the six results, three of them as the point before left them. -/
def runNext (c : Dev nD) (i : grid0.Coords) (B : Bufs) (hc : ¬first i) (I : Ins F) (W : Vec F S4x128x128 .f32) (S : Vec F S4x128x1 .f32) (O : Vec F S40x2816 .f32) :
    Σ' (P1 : List (View.Piece (Elt F) S512x4608 .bf16)) (P2 : List (View.Piece (Elt F) S512x1024 .bf16)) (P3 : List (View.Piece (Elt F) S512x1024 .bf16)) (P4 : List (View.Piece (Elt F) S4x128x128 .f32)) (P5 : List (View.Piece (Elt F) S4x128x1 .f32)),
      { P6 : List (View.Piece (Elt F) S40x2816 .f32) // ∀ (E : Set ℕ) (K : PUnit → sProp 𝕄),
        iprop(held c B I ∗ (∃ d, owns (c : Thread nD τ) B.dz fullShare d)
            ∗ (∃ d, owns (c : Thread nD τ) B.dpa fullShare d)
            ∗ (∃ d, owns (c : Thread nD τ) B.dpb fullShare d)
            ∗ owns (c : Thread nD τ) B.dws fullShare W
            ∗ owns (c : Thread nD τ) B.dbs fullShare S
            ∗ owns (c : Thread nD τ) B.out fullShare O
            ∗ spare c
            ∗ (iprop(held c B I ∗ (∃ f, B.dz.view.loc (c : Thread nD τ) ↦[B.dz.view.set]{fullShare} B.dz.view.writes (Elt F) f P1)
                ∗ (∃ f, B.dpa.view.loc (c : Thread nD τ) ↦[B.dpa.view.set]{fullShare} B.dpa.view.writes (Elt F) f P2)
                ∗ (∃ f, B.dpb.view.loc (c : Thread nD τ) ↦[B.dpb.view.set]{fullShare} B.dpb.view.writes (Elt F) f P3)
                ∗ (B.dws.view.loc (c : Thread nD τ) ↦[B.dws.view.set]{fullShare} B.dws.view.writes (Elt F) (B.hdws.unread W) P4)
                ∗ (B.dbs.view.loc (c : Thread nD τ) ↦[B.dbs.view.set]{fullShare} B.dbs.view.writes (Elt F) (B.hdbs.unread S) P5)
                ∗ (B.out.view.loc (c : Thread nD τ) ↦[B.out.view.set]{fullShare} B.out.view.writes (Elt F) (B.hout.unread O) P6)
                ∗ spare c) -∗ K ⟨⟩))
          ⊢ wp frame (wpE (bodies (F := F)) Variants.none c none) E (B.body i) K } := by
  rcases layer with ⟨_ | _⟩
  case' false => refine ⟨?_, ?_, ?_, ?_, ?_, ?_, fun E K => ?run0⟩
  case' true => refine ⟨?_, ?_, ?_, ?_, ?_, ?_, fun E K => ?run1⟩
  case' run0 =>
    unfold Bufs.body
    simp only [Cert.Kernel10Ideal.Gen.cc0_bwd_mix_0_eq_skeleton]; unfold Cert.Kernel10Ideal.Gen.cc0_bwd_mix_0_skel
    simp only [Cert.Kernel10Ideal.Gen.k0_part1_eq_skeleton, Cert.Kernel10Ideal.Gen.k0_part2_eq_skeleton, Cert.Kernel10Ideal.Gen.k0_part3_eq_skeleton, Cert.Kernel10Ideal.Gen.k0_part4_eq_skeleton, Cert.Kernel10Ideal.Gen.k0_part5_eq_skeleton, Cert.Kernel10Ideal.Gen.k0_part6_eq_skeleton, Cert.Kernel10Ideal.Gen.k0_part7_eq_skeleton, Cert.Kernel10Ideal.Gen.k0_part8_eq_skeleton, Cert.Kernel10Ideal.Gen.k0_part9_eq_skeleton, Cert.Kernel10Ideal.Gen.k0_part10_eq_skeleton, Cert.Kernel10Ideal.Gen.k0_part11_eq_skeleton, Cert.Kernel10Ideal.Gen.k0_part12_eq_skeleton, Cert.Kernel10Ideal.Gen.k0_part13_eq_skeleton, Cert.Kernel10Ideal.Gen.k0_part14_eq_skeleton, Cert.Kernel10Ideal.Gen.k0_part15_eq_skeleton, Cert.Kernel10Ideal.Gen.k0_part16_eq_skeleton, Cert.Kernel10Ideal.Gen.k0_part17_eq_skeleton, Cert.Kernel10Ideal.Gen.k0_part18_eq_skeleton, Cert.Kernel10Ideal.Gen.k0_part19_eq_skeleton, Cert.Kernel10Ideal.Gen.k0_part20_eq_skeleton, Cert.Kernel10Ideal.Gen.k0_part21_eq_skeleton, Cert.Kernel10Ideal.Gen.k0_part22_eq_skeleton, Cert.Kernel10Ideal.Gen.k0_part23_eq_skeleton, Cert.Kernel10Ideal.Gen.k0_part24_eq_skeleton, Cert.Kernel10Ideal.Gen.k0_part25_eq_skeleton, Cert.Kernel10Ideal.Gen.k0_part26_eq_skeleton, Cert.Kernel10Ideal.Gen.k0_part27_eq_skeleton, Cert.Kernel10Ideal.Gen.k0_part28_eq_skeleton, Cert.Kernel10Ideal.Gen.k0_part29_eq_skeleton, Cert.Kernel10Ideal.Gen.k0_part30_eq_skeleton]
    dsimp only [same_sig]
  case' run1 =>
    unfold Bufs.body
    simp only [cc0_bwd_mix_1_eq_skeleton]; unfold cc0_bwd_mix_1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  case run0 | run1 =>
    unfold held spare owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩⟩, ⟨%d17, %f17, -, H17⟩, ⟨%d18, %f18, -, H18⟩, ⟨%d19, %f19, -, H19⟩, ⟨%f20, %h20, H20⟩, ⟨%f21, %h21, H21⟩, ⟨%f22, %h22, H22⟩, ⟨⟨%d23, %f23, -, H23⟩, ⟨%d24, %f24, -, H24⟩⟩, Hk⟩
    obtain rfl := B.hdx.eq_unread h0
    obtain rfl := B.hdxn.eq_unread h1
    obtain rfl := B.hz.eq_unread h2
    obtain rfl := B.hzn.eq_unread h3
    obtain rfl := B.hcv.eq_unread h4
    obtain rfl := B.hpa.eq_unread h5
    obtain rfl := B.hpb.eq_unread h6
    obtain rfl := B.hbg.eq_unread h7
    obtain rfl := B.hlng.eq_unread h8
    obtain rfl := B.hlnb.eq_unread h9
    obtain rfl := B.hws.eq_unread h10
    obtain rfl := B.hwst.eq_unread h11
    obtain rfl := B.hbs.eq_unread h12
    obtain rfl := B.hwsc.eq_unread h13
    obtain rfl := B.hwo.eq_unread h14
    obtain rfl := B.hwb.eq_unread h15
    obtain rfl := B.hsheet.eq_unread h16
    obtain rfl := B.hdws.eq_unread h20
    obtain rfl := B.hdbs.eq_unread h21
    obtain rfl := B.hout.eq_unread h22
    sl_exec (disch := first | sl_exact hc)
    sl_step
    iapply Hk
    isplitl [H0 H1 H2 H3 H4 H5 H6 H7 H8 H9 H10 H11 H12 H13 H14 H15 H16]
    · isplitl [H0]
      · iexists _; isplitr; · ipureintro; exact B.hdx.read_unread _
        iexact H0
      isplitl [H1]
      · iexists _; isplitr; · ipureintro; exact B.hdxn.read_unread _
        iexact H1
      isplitl [H2]
      · iexists _; isplitr; · ipureintro; exact B.hz.read_unread _
        iexact H2
      isplitl [H3]
      · iexists _; isplitr; · ipureintro; exact B.hzn.read_unread _
        iexact H3
      isplitl [H4]
      · iexists _; isplitr; · ipureintro; exact B.hcv.read_unread _
        iexact H4
      isplitl [H5]
      · iexists _; isplitr; · ipureintro; exact B.hpa.read_unread _
        iexact H5
      isplitl [H6]
      · iexists _; isplitr; · ipureintro; exact B.hpb.read_unread _
        iexact H6
      isplitl [H7]
      · iexists _; isplitr; · ipureintro; exact B.hbg.read_unread _
        iexact H7
      isplitl [H8]
      · iexists _; isplitr; · ipureintro; exact B.hlng.read_unread _
        iexact H8
      isplitl [H9]
      · iexists _; isplitr; · ipureintro; exact B.hlnb.read_unread _
        iexact H9
      isplitl [H10]
      · iexists _; isplitr; · ipureintro; exact B.hws.read_unread _
        iexact H10
      isplitl [H11]
      · iexists _; isplitr; · ipureintro; exact B.hwst.read_unread _
        iexact H11
      isplitl [H12]
      · iexists _; isplitr; · ipureintro; exact B.hbs.read_unread _
        iexact H12
      isplitl [H13]
      · iexists _; isplitr; · ipureintro; exact B.hwsc.read_unread _
        iexact H13
      isplitl [H14]
      · iexists _; isplitr; · ipureintro; exact B.hwo.read_unread _
        iexact H14
      isplitl [H15]
      · iexists _; isplitr; · ipureintro; exact B.hwb.read_unread _
        iexact H15
      iexists _; isplitr; · ipureintro; exact B.hsheet.read_unread _
      iexact H16
    isplitl [H17]; · iexists _; iexact H17
    isplitl [H18]; · iexists _; iexact H18
    isplitl [H19]; · iexists _; iexact H19
    isplitl [H20]; · iexact H20
    isplitl [H21]; · iexact H21
    isplitl [H22]; · iexact H22
    isplitl [H23]
    · iexists _; iexists _; isplitr; swap; · iexact H23
      ipureintro; rfl
    iexists _; iexists _; isplitr; swap; · iexact H24
    ipureintro; rfl

end Cert.Kernel4Ideal.Body

end
-- ==== Proof.Fill.lean ====
/- A buffer that stores add to piece by piece, each reading back what the earlier ones left under its rectangle. -/
module

public import proofs.«01_k».proof.Proof.Pieces
public import Idealize.ShloMosaic.PureOps.Ideal

@[expose] public section

noncomputable section

namespace Cert.Fill

open Idealize.ShloMosaic

variable {s : Shape} {A K : Type}

/-- The sum of the addends of the stores under key `k`. -/
def total [DecidableEq K] (key : A → K) (part : A → EReal) (base : EReal) (k : Option K) : List A → EReal
  | [] => base
  | a :: l => if k = some (key a) then total key part base k l + part a else total key part base k l

section Lists

variable {Val : EltTy → Type} {e : EltTy} {sig : RefSig} {κ : Kind} {sp : Space} (v : View sig κ sp s e)
  (R : A → Rect s) (T : (a : A) → ((R a).shape.Idx → Val e) → (R a).shape.Idx → Val e)

/-- The stores over stores that cover the buffer, newest first. -/
def fill [∀ e, Nonempty (Val e)] (L : List (View.Piece Val s e)) : List A → List (View.Piece Val s e)
  | [] => L
  | a :: l => ⟨R a, T a (v.readCov (fill L l) (R a).toLoadRect)⟩ :: fill L l

/-- What store `a` reads: the contents before the stores, or what the earlier stores left. -/
def prev [∀ e, Nonempty (Val e)] (base : v.ty.Contents Val) (L : List (View.Piece Val s e)) (a : A) : Bool → (R a).shape.Idx → Val e
  | true => v.readAt Val (R a).toLoadRect base
  | false => v.readCov L (R a).toLoadRect

/-- The stores over contents that a store reads where no earlier store reached, newest first. -/
def fillOn [∀ e, Nonempty (Val e)] (base : v.ty.Contents Val) (fresh : A → Bool) : List A → List (View.Piece Val s e)
  | [] => []
  | a :: l => ⟨R a, T a (prev v R base (fillOn base fresh l) a (fresh a))⟩ :: fillOn base fresh l

end Lists

variable [DecidableEq K] {sig : RefSig} {κ : Kind} {sp : Space} (v : View sig κ sp s .f32)
  (R : A → Rect s) (T : (a : A) → ((R a).shape.Idx → Elt Ideal .f32) → (R a).shape.Idx → Elt Ideal .f32)
  (key : A → K) (keyOf : s.Idx → Option K) (part : A → s.Idx → EReal)

theorem canon_fill (hk : ∀ a y, y ∈ (R a).set ↔ keyOf y = some (key a))
    (hT : ∀ a p x, (T a p x : EReal) = (p x : EReal) + part a ((R a).emb x)) (L : List (View.Piece (Elt Ideal) s .f32)) :
    ∀ (l : List A) (y : s.Idx), (View.canon (fill v R T L l) y : EReal) = total key (fun a => part a y) (View.canon L y) (keyOf y) l
  | [], y => rfl
  | a :: l, y => by
    rw [fill, total]
    by_cases h : y ∈ (R a).set
    · rw [if_pos ((hk a y).mp h)]
      rw [← Rect.map_emb_univ] at h
      obtain ⟨x, -, rfl⟩ := Finset.mem_map.mp h
      refine (View.canon_cons_emb (Val := Elt Ideal) _ _ _ x).trans ((hT a _ x).trans ?_)
      rw [View.readCov_eq_canon']
      exact congrArg (· + part a ((R a).emb x)) (canon_fill hk hT L l ((R a).emb x))
    · rw [if_neg fun k => h ((hk a y).mpr k)]
      exact (View.canon_cons_of_not_mem (Val := Elt Ideal) _ _ h).trans (canon_fill hk hT L l y)

/-- Fresh keys are new, others were stored under before. -/
def Ok (key : A → K) (fresh : A → Bool) : List A → Prop
  | [] => True
  | a :: l => (if fresh a then key a ∉ l.map key else key a ∈ l.map key) ∧ Ok key fresh l

instance (key : A → K) (fresh : A → Bool) : (l : List A) → Decidable (Ok key fresh l)
  | [] => .isTrue trivial
  | a :: l => @instDecidableAnd _ _ (by infer_instance) (instDecidableOk key fresh l)

theorem mem_fillOn (base : v.ty.Contents (Elt Ideal)) (fresh : A → Bool) (r : Rect s) : ∀ l : List A,
    (∃ p ∈ fillOn v R T base fresh l, p.1 = r) ↔ ∃ a ∈ l, R a = r
  | [] => by simp [fillOn]
  | a :: l => by simp [fillOn, mem_fillOn base fresh r l]

theorem read_fillOn (hk : ∀ a y, y ∈ (R a).set ↔ keyOf y = some (key a))
    (hT : ∀ a p x, (T a p x : EReal) = (p x : EReal) + part a ((R a).emb x)) (base : v.ty.Contents (Elt Ideal)) (fresh : A → Bool) :
    ∀ (l : List A) (_ : Ok key fresh l) (y : s.Idx), (v.read (Elt Ideal) (v.writes (Elt Ideal) base (fillOn v R T base fresh l)) y : EReal)
      = total key (fun a => part a y) (v.read (Elt Ideal) base y) (keyOf y) l
  | [], _, y => rfl
  | a :: l, hl, y => by
    rw [fillOn, total]
    have ih := read_fillOn hk hT base fresh l hl.2
    by_cases h : y ∈ (R a).set
    · have hy := (hk a y).mp h
      rw [if_pos hy]
      rw [← Rect.map_emb_univ] at h
      obtain ⟨x, -, rfl⟩ := Finset.mem_map.mp h
      refine (View.read_writes_cons_emb (Val := Elt Ideal) v base _ _ _ x).trans ((hT a _ x).trans ?_)
      refine congrArg (· + part a ((R a).emb x)) (Eq.trans ?_ (ih ((R a).emb x)))
      cases hf : fresh a with
      | true =>
        have hn : key a ∉ l.map key := by have := hl.1; rwa [if_pos hf] at this
        refine (View.read_writes_apply_of_forall_not_mem v base _ _ fun p hp hm => hn ?_).symm
        obtain ⟨a', ha', e⟩ := (mem_fillOn v R T base fresh p.1 l).mp ⟨p, hp, rfl⟩
        have := (hk a' _).mp (e ▸ hm : (R a).emb x ∈ (R a').set)
        rw [hy] at this
        exact List.mem_map.mpr ⟨a', ha', (Option.some.inj this).symm⟩
      | false =>
        have hn : key a ∈ l.map key := by have := hl.1; rwa [if_neg (by rw [hf]; exact Bool.false_ne_true)] at this
        obtain ⟨a', ha', e⟩ := List.mem_map.mp hn
        obtain ⟨p, hp, ep⟩ := (mem_fillOn v R T base fresh (R a') l).mpr ⟨a', ha', rfl⟩
        refine View.read_writes_apply_eq v v.junk v base _ _ ⟨p, hp, ?_⟩
        rw [ep]
        exact (hk a' _).mpr (hy.trans (congrArg some e.symm))
    · rw [if_neg fun k => h ((hk a y).mpr k), View.writes_cons, View.read_slice_write_of_not_mem _ _ _ _ (by rwa [Rect.map_emb_univ])]
      exact ih y

end Cert.Fill

end
-- ==== Proof.MixTiles.lean ====
/- The mixer's backward pass at one point: what each store holds, as a function of the loaded values, and the run's stores. -/
module

public import proofs.«01_k».proof.Proof.MixRun
public import proofs.«01_k».proof.Proof.Fill

@[expose] public section

set_option maxRecDepth 65536

noncomputable section

namespace Cert.Kernel4Ideal.Body

open Cert.Kernel4Ideal Cert.Kernel4Ideal.Gen
open Idealize.ShloMosaic Idealize.ShloMosaic.TcCoe Idealize.ShloMosaic.Tactic

variable {F : FTy → Type} [FloatOps F] [Named F]

/-- What a point loads. -/
structure Loads (F : FTy → Type) where
  last : BitVec 1
  dx : Vec F S512x1024 .f32
  dxn : Vec F S16x1024 .f32
  wo : Vec F S1024x1024 .bf16
  pa : Vec F S512x1024 .bf16
  pb : Vec F S512x1024 .bf16
  bg : Vec F S1x2048 .f32
  u : Vec F S512x512 .bf16
  v : Vec F S512x512 .bf16
  zb : Vec F S512x512 .bf16
  zc : Vec F S512x512 .bf16
  zh : Vec F S512x512 .bf16
  za : Vec F S512x1024 .bf16
  zg : Vec F S512x1024 .bf16
  znb : Vec F S16x512 .bf16
  zng : Vec F S16x1024 .bf16
  cv : Vec F S512x512 .bf16
  lng : Vec F S1x512 .f32
  lnb : Vec F S1x512 .f32
  ws : Fin 4 → Vec F S1x128x128 .f32
  wst : Fin 4 → Vec F S1x128x128 .f32
  bs : Fin 4 → Vec F S1x128x1 .f32
  wsc : Vec F S3x512 .f32
  wba : Vec F S1x512x1024 .bf16
  wbb : Vec F S1x512x1024 .bf16
  sheet : Vec F S40x2816 .f32

/-- The rectangle of head `h`. -/
abbrev headRect (A B : ℕ) (h : Fin 4) : Rect ⟨3, ![4, A, B]⟩ :=
  Rect.unit (s := ⟨3, ![4, A, B]⟩) ![h.val, 0, 0] ![1, A, B] (fun a => by
    match a with
    | ⟨0, _⟩ => exact h.isLt
    | ⟨1, _⟩ => exact (Nat.zero_add A).le
    | ⟨2, _⟩ => exact (Nat.zero_add B).le)

/-- The rectangle of block `b` of rows and head `h` of columns. -/
abbrev blockRect (a : Fin 4 × Fin 4) : Rect S512x512 :=
  Rect.unit (s := S512x512) ![128 * a.1.val, 128 * a.2.val] S128x128.size
    (Fin.forall_fin_two.mpr ⟨show 128 * a.1.val + 128 ≤ 512 by omega, show 128 * a.2.val + 128 ≤ 512 by omega⟩)

theorem slices_block (a : Fin 4 × Fin 4) : S512x512.Slices ![128 * a.1.val, 128 * a.2.val] S128x128 :=
  ⟨rfl, Fin.forall_fin_two.mpr ⟨show 128 * a.1.val + 128 ≤ 512 by omega, show 128 * a.2.val + 128 ≤ 512 by omega⟩⟩

/-- The blocks, the last stored first. -/
def blocks : List (Fin 4 × Fin 4) :=
  [(3, 3), (3, 2), (3, 1), (3, 0), (2, 3), (2, 2), (2, 1), (2, 0), (1, 3), (1, 2), (1, 1), (1, 0), (0, 3), (0, 2), (0, 1), (0, 0)]

/-- The loads of a point. -/
def loads (i : grid0.Coords) (B : Bufs) (I : Ins F) : Loads F where
  last := Scalar.cmpi .eq (BitVec.ofNat 32 (i 0).val) 15#32
  dx := View.readAt (Elt F) B.dx.view (Rect.unit (s := S512x1024) ![0, 0] S512x1024.size (by decide)).toLoadRect (B.hdx.unread I.dx)
  dxn := View.readAt (Elt F) B.dxn.view (Rect.unit (s := S16x1024) ![0, 0] S16x1024.size (by decide)).toLoadRect (B.hdxn.unread I.dxn)
  wo := View.readAt (Elt F) B.wo.view (Rect.unit (s := S1024x1024) ![0, 0] S1024x1024.size (by decide)).toLoadRect (B.hwo.unread I.wo)
  pa := View.readAt (Elt F) B.pa.view (Rect.unit (s := S512x1024) ![0, 0] S512x1024.size (by decide)).toLoadRect (B.hpa.unread I.pa)
  pb := View.readAt (Elt F) B.pb.view (Rect.unit (s := S512x1024) ![0, 0] S512x1024.size (by decide)).toLoadRect (B.hpb.unread I.pb)
  bg := View.readAt (Elt F) B.bg.view (Rect.unit (s := S1x2048) ![0, 0] S1x2048.size (by decide)).toLoadRect (B.hbg.unread I.bg)
  u := View.readAt (Elt F) B.z.view (Rect.unit (s := S512x4608) ![0, 0] S512x512.size (by decide)).toLoadRect (B.hz.unread I.z)
  v := View.readAt (Elt F) B.z.view (Rect.unit (s := S512x4608) ![0, 512] S512x512.size (by decide)).toLoadRect (B.hz.unread I.z)
  zb := View.readAt (Elt F) B.z.view (Rect.unit (s := S512x4608) ![0, 1024] S512x512.size (by decide)).toLoadRect (B.hz.unread I.z)
  zc := View.readAt (Elt F) B.z.view (Rect.unit (s := S512x4608) ![0, 1536] S512x512.size (by decide)).toLoadRect (B.hz.unread I.z)
  zh := View.readAt (Elt F) B.z.view (Rect.unit (s := S512x4608) ![0, 2048] S512x512.size (by decide)).toLoadRect (B.hz.unread I.z)
  za := View.readAt (Elt F) B.z.view (Rect.unit (s := S512x4608) ![0, 2560] S512x1024.size (by decide)).toLoadRect (B.hz.unread I.z)
  zg := View.readAt (Elt F) B.z.view (Rect.unit (s := S512x4608) ![0, 3584] S512x1024.size (by decide)).toLoadRect (B.hz.unread I.z)
  znb := View.readAt (Elt F) B.zn.view (Rect.unit (s := S16x4608) ![0, 1024] S16x512.size (by decide)).toLoadRect (B.hzn.unread I.zn)
  zng := View.readAt (Elt F) B.zn.view (Rect.unit (s := S16x4608) ![0, 3584] S16x1024.size (by decide)).toLoadRect (B.hzn.unread I.zn)
  cv := View.readAt (Elt F) B.cv.view (Rect.unit (s := S512x512) ![0, 0] S512x512.size (by decide)).toLoadRect (B.hcv.unread I.cv)
  lng := View.readAt (Elt F) B.lng.view (Rect.unit (s := S1x512) ![0, 0] S1x512.size (by decide)).toLoadRect (B.hlng.unread I.lng)
  lnb := View.readAt (Elt F) B.lnb.view (Rect.unit (s := S1x512) ![0, 0] S1x512.size (by decide)).toLoadRect (B.hlnb.unread I.lnb)
  ws h := View.readAt (Elt F) B.ws.view (headRect 128 128 h).toLoadRect (B.hws.unread I.ws)
  wst h := View.readAt (Elt F) B.wst.view (headRect 128 128 h).toLoadRect (B.hwst.unread I.wst)
  bs h := View.readAt (Elt F) B.bs.view (headRect 128 1 h).toLoadRect (B.hbs.unread I.bs)
  wsc := View.readAt (Elt F) B.wsc.view (Rect.unit (s := S3x512) ![0, 0] S3x512.size (by decide)).toLoadRect (B.hwsc.unread I.wsc)
  wba := View.readAt (Elt F) B.wb.view (Rect.unit (s := S2x512x1024) ![0, 0, 0] S1x512x1024.size (by decide)).toLoadRect (B.hwb.unread I.wb)
  wbb := View.readAt (Elt F) B.wb.view (Rect.unit (s := S2x512x1024) ![1, 0, 0] S1x512x1024.size (by decide)).toLoadRect (B.hwb.unread I.wb)
  sheet := View.readAt (Elt F) B.sheet.view (Rect.unit (s := S40x2816) ![0, 0] S40x2816.size (by decide)).toLoadRect (B.hsheet.unread I.sheet)

namespace Loads

variable (L : Loads F)

/-! ## The tiles -/

/-- The gradient into the two branches, on the block's rows and on the rows after it. -/
def dmg : FVec F S512x1024 .bf16 := k0_pay6 L.dx L.dxn L.wo
def dmgn : FVec F S16x1024 .bf16 := k0_pay7 L.dx L.dxn L.wo
def bgT : FVec F S1x2048 .bf16 := k0_pay10 L.bg
/-- `1 + exp` of the negative of the first gate's input. -/
def den : FVec F S512x1024 .bf16 := k0_pay11 L.bg L.za
def one : F .bf16 := Scalar.ofBits .bf16 0x3F80#16
def c1 : F .f32 := Named.named κ "gelu_c1" 0x3D372713#32
def dpa : FVec F S512x1024 .bf16 := k0_pay14 L.dmg L.den one
def dpb : FVec F S512x1024 .bf16 := k0_pay15 L.dmg L.bgT L.zg
def dga : FVec F S512x1024 .bf16 := k0_pay16 L.dmg (k0_pay8 L.pa) L.den one
def dgb : FVec F S512x1024 .bf16 := k0_pay17 L.dmg (k0_pay9 L.pb) L.bgT L.zg
def dya : FVec F S512x512 .bf16 := k0_pay22 L.dpa L.wba
def vf : FVec F S512x512 .f32 := k0_pay23 L.v
def tu : FVec F S512x512 .bf16 := k0_pay26 L.u
def tv : FVec F S512x512 .f32 := k0_pay27 L.vf c1
def gu : FVec F S512x512 .bf16 := k0_pay28 L.u L.tu
def rstd : FVec F S512x1 .f32 := k0_pay30 L.vf c1
def xh : FVec F S512x512 .f32 := k0_pay31 L.vf c1
def vn : FVec F S512x512 .bf16 := k0_pay32 L.vf (k0_pay24 L.lng) (k0_pay25 L.lnb) c1
def mask : IVec S128x128 1 := k0_pay36 (iota .tc S128x128 32 [0] iota_S128x128_d0_w32) 64#32 k0_pay33 k0_pay34 k0_pay35
def mask2 : IVec S128x128 1 := k0_pay67 (iota .tc S128x128 32 [0] iota_S128x128_d0_w32) 64#32 k0_pay65 k0_pay66
def maskT : IVec S128x128 1 := k0_pay70 (iota .tc S128x128 32 [0] iota_S128x128_d0_w32) 64#32 k0_pay68 k0_pay69
  (Scalar.extui (Scalar.cmpi .sgt 64#32 0#32)) 0#32
def wm (h : Fin 4) : FVec F S128x128 .bf16 := k0_pay39 mask (L.ws h)
def wmt (h : Fin 4) : FVec F S128x128 .bf16 := k0_pay72 maskT (L.wst h)

/-- Block `b` of rows and head `h` of columns. -/
def cut {φ : FTy} (x : FVec F S512x512 φ) (a : Fin 4 × Fin 4) : FVec F S128x128 φ :=
  extractStridedSlice S128x128 ![128 * a.1.val, 128 * a.2.val] x (slices_block a)

def fT (a : Fin 4 × Fin 4) : FVec F S128x128 .bf16 :=
  shapeCast S128x128 (truncf .bf16 (addf
    (matmul dot_S128x128_S128x128_S128x128_1_0_0_1_n_n none (L.wm a.2) (cut L.vn a) (constant S128x128 .f32 0x00000000#32))
    (broadcastTo S128x128 (shapeCast S128x1 (L.bs a.2) shapeCasts_S1x128x1_S128x1) broadcasts_S128x1_S128x128)) bitsLt_bf16_f32)
    shapeCasts_S128x128_S128x128
def f : FVec F S512x512 .bf16 :=
  View.readCov (Val := Elt F) (Memref.whole cc0_scratch0 : Memref sig .tc .vmem S512x512 .bf16).view (blocks.map fun a => ⟨blockRect a, L.fT a⟩)
    (Rect.unit (s := S512x512) ![0, 0] S512x512.size (by decide)).toLoadRect
def df : FVec F S512x512 .bf16 := k0_pay63 L.dya L.gu
def dvnT (a : Fin 4 × Fin 4) : FVec F S128x128 .f32 :=
  shapeCast S128x128 (matmul dot_S128x128_S128x128_S128x128_1_0_0_1_n_n none (L.wmt a.2) (cut L.df a) (constant S128x128 .f32 0x00000000#32))
    shapeCasts_S128x128_S128x128
def dvn : FVec F S512x512 .f32 :=
  View.readCov (Val := Elt F) (Memref.whole cc0_scratch1 : Memref sig .tc .vmem S512x512 .f32).view (blocks.map fun a => ⟨blockRect a, L.dvnT a⟩)
    (Rect.unit (s := S512x512) ![0, 0] S512x512.size (by decide)).toLoadRect
def dwsT (a : Fin 4 × Fin 4) (p : FVec F S1x128x128 .f32) : FVec F S1x128x128 .f32 :=
  shapeCast S1x128x128 (addf (shapeCast S128x128 p shapeCasts_S1x128x128_S128x128)
    (select mask2 (matmul dot_S128x128_S128x128_S128x128_1_1_0_0_n_n none (cut L.df a) (cut L.vn a) (constant S128x128 .f32 0x00000000#32))
      (broadcast S128x128 (Scalar.ofBits .f32 0x00000000#32)))) shapeCasts_S128x128_S1x128x128
def dbsT (a : Fin 4 × Fin 4) (p : FVec F S1x128x1 .f32) : FVec F S1x128x1 .f32 := k0_pay94 (cut L.df a) p
def dzu : FVec F S512x512 .bf16 := k0_pay64 L.dya L.u L.tu L.f
def dzv : FVec F S512x512 .bf16 :=
  k0_pay159 L.vf L.tv L.rstd L.xh (k0_pay157 (k0_pay24 L.lng) L.dvn) (k0_pay158 (k0_pay24 L.lng) L.dvn)
def denn : FVec F S16x1024 .bf16 := k0_pay160 L.bgT L.zng
def dzb : FVec F S512x512 .bf16 := k0_pay164 L.dmgn L.dpb L.denn one L.wbb L.cv
def dconv : FVec F S512x512 .bf16 := k0_pay165 L.dmgn L.dpb L.denn one L.wbb L.zb
def halo : FVec F S16x512 .bf16 := k0_pay166 L.last L.dmgn L.dpb L.denn one L.wbb L.znb
def up1 : FVec F S512x512 .bf16 := k0_pay167 L.last L.dmgn L.dpb L.denn one L.wbb L.zb L.znb
def rot2 : FVec F S512x512 .bf16 := k0_pay168 L.dmgn L.dpb L.denn one L.wbb L.zb
def rot2l : FVec F S16x512 .bf16 := k0_pay169 L.dmgn L.dpb L.denn one L.wbb L.zb
def up2 : FVec F S512x512 .bf16 := k0_pay170 L.halo L.rot2 L.rot2l (iota .tc S16x512 32 [0] iota_S16x512_d0_w32) 14#32
def q : FVec F S512x512 .bf16 := k0_pay163 L.zc L.zh
def dq : FVec F S512x512 .bf16 := k0_pay176 L.dconv L.up1 L.up2 L.wsc
def dzc : FVec F S512x512 .bf16 := k0_pay177 L.zh L.dconv L.up1 L.up2 L.wsc
def dzh : FVec F S512x512 .bf16 := k0_pay1 L.zc L.dq

end Loads

/-! ## The stores -/

/-- The rows the sheet's stores add to. -/
inductive Row
  | ga | gb | lng | lnb | c0 | c1 | c2
  deriving DecidableEq

/-- The rows, the last stored first. -/
def rows : List Row := [.c2, .c1, .c0, .lnb, .lng, .gb, .ga]

variable [layer : Layer]

/-- The first of the layer's rows. -/
def firstRow : ℕ := match Layer.second with | true => 17 | false => 1

theorem firstRow_le : firstRow + 6 ≤ 40 := by rcases layer with ⟨_ | _⟩ <;> decide

theorem row_fits {k n w : ℕ} (hk : k < 6) (hn : n + w ≤ 2816) :
    ∀ a, (![firstRow + k, n] : Fin 2 → ℕ) a + (![1, w] : Fin 2 → ℕ) a ≤ S40x2816.size a :=
  Fin.forall_fin_two.mpr ⟨by have := firstRow_le; show firstRow + k + 1 ≤ 40; omega, hn⟩

/-- The rectangle of a row. -/
abbrev rowRect : Row → Rect S40x2816
  | .ga => Rect.unit (s := S40x2816) ![firstRow + 0, 0] S1x1024.size (row_fits (by decide) (by decide))
  | .gb => Rect.unit (s := S40x2816) ![firstRow + 0, 1024] S1x1024.size (row_fits (by decide) (by decide))
  | .lng => Rect.unit (s := S40x2816) ![firstRow + 1, 0] S1x512.size (row_fits (by decide) (by decide))
  | .lnb => Rect.unit (s := S40x2816) ![firstRow + 2, 0] S1x512.size (row_fits (by decide) (by decide))
  | .c0 => Rect.unit (s := S40x2816) ![firstRow + 3, 0] S1x512.size (row_fits (by decide) (by decide))
  | .c1 => Rect.unit (s := S40x2816) ![firstRow + 4, 0] S1x512.size (row_fits (by decide) (by decide))
  | .c2 => Rect.unit (s := S40x2816) ![firstRow + 5, 0] S1x512.size (row_fits (by decide) (by decide))

variable (L : Loads F)

/-- A row after a point that found it at `p`. -/
def rowT : (a : Row) → ((rowRect a).shape.Idx → Elt F .f32) → (rowRect a).shape.Idx → Elt F .f32
  | .ga => fun p => k0_pay20 (k0_pay18 p) (k0_pay19 L.dmg (k0_pay8 L.pa) L.den Loads.one)
  | .gb => fun p => k0_pay21 L.dgb p
  | .lng => fun p => k0_pay155 L.xh L.dvn p
  | .lnb => fun p => k0_pay156 L.dvn p
  | .c0 => fun p => k0_pay171 L.q L.halo L.rot2 L.rot2l (iota .tc S16x512 32 [0] iota_S16x512_d0_w32) 14#32 p
  | .c1 => fun p => k0_pay172 L.q L.up1 p
  | .c2 => fun p => k0_pay175 (k0_pay173 p) (k0_pay174 L.q L.dconv)

/-- The stores into the first three results. -/
def dzPieces : List (View.Piece (Elt F) S512x4608 .bf16) :=
  [⟨Rect.unit (s := S512x4608) ![0, 2048] S512x512.size (by decide), L.dzh⟩,
   ⟨Rect.unit (s := S512x4608) ![0, 1536] S512x512.size (by decide), L.dzc⟩,
   ⟨Rect.unit (s := S512x4608) ![0, 1024] S512x512.size (by decide), L.dzb⟩,
   ⟨Rect.unit (s := S512x4608) ![0, 512] S512x512.size (by decide), L.dzv⟩,
   ⟨Rect.unit (s := S512x4608) ![0, 0] S512x512.size (by decide), L.dzu⟩,
   ⟨Rect.unit (s := S512x4608) ![0, 3584] S512x1024.size (by decide), L.dgb⟩,
   ⟨Rect.unit (s := S512x4608) ![0, 2560] S512x1024.size (by decide), L.dga⟩]
def dpaPieces : List (View.Piece (Elt F) S512x1024 .bf16) := [⟨Rect.unit (s := S512x1024) ![0, 0] S512x1024.size (by decide), L.dpa⟩]
def dpbPieces : List (View.Piece (Elt F) S512x1024 .bf16) := [⟨Rect.unit (s := S512x1024) ![0, 0] S512x1024.size (by decide), L.dpb⟩]

/-- The zeros the first point starts the sums from. -/
def dwsZero : List (View.Piece (Elt F) S4x128x128 .f32) := [⟨Rect.unit (s := S4x128x128) ![0, 0, 0] S4x128x128.size (by decide), k0_pay3⟩]
def dbsZero : List (View.Piece (Elt F) S4x128x1 .f32) := [⟨Rect.unit (s := S4x128x1) ![0, 0, 0] S4x128x1.size (by decide), k0_pay4⟩]
/-- The sheet with its six rows cleared. -/
def outZero : List (View.Piece (Elt F) S40x2816 .f32) :=
  [⟨Rect.unit (s := S40x2816) ![firstRow, 0] S6x2816.size (Fin.forall_fin_two.mpr ⟨firstRow_le, le_refl 2816⟩), k0_pay2⟩,
   ⟨Rect.unit (s := S40x2816) ![0, 0] S40x2816.size (by decide), L.sheet⟩]

/-- The heads' rectangles by block. -/
abbrev wsRect (a : Fin 4 × Fin 4) : Rect S4x128x128 := headRect 128 128 a.2
abbrev bsRect (a : Fin 4 × Fin 4) : Rect S4x128x1 := headRect 128 1 a.2

/-- A block reads the contents before the point where it is its head's first. -/
def fresh (a : Fin 4 × Fin 4) : Bool := a.1 == 0

variable (c : Dev nD) (i : grid0.Coords) (B : Bufs) (I : Ins F)

theorem first_dz (hc : first i) : (runFirst c i B hc I).1 = dzPieces (loads i B I) := by
  rcases layer with ⟨_ | _⟩ <;> sl_kernel_rfl
theorem first_dpa (hc : first i) : (runFirst c i B hc I).2.1 = dpaPieces (loads i B I) := by
  rcases layer with ⟨_ | _⟩ <;> sl_kernel_rfl
theorem first_dpb (hc : first i) : (runFirst c i B hc I).2.2.1 = dpbPieces (loads i B I) := by
  rcases layer with ⟨_ | _⟩ <;> sl_kernel_rfl
theorem first_dws (hc : first i) :
    (runFirst c i B hc I).2.2.2.1 = Fill.fill B.dws.view wsRect (loads i B I).dwsT dwsZero blocks := by
  rcases layer with ⟨_ | _⟩ <;> sl_kernel_rfl
theorem first_dbs (hc : first i) :
    (runFirst c i B hc I).2.2.2.2.1 = Fill.fill B.dbs.view bsRect (loads i B I).dbsT dbsZero blocks := by
  rcases layer with ⟨_ | _⟩ <;> sl_kernel_rfl
theorem first_out (hc : first i) :
    (runFirst c i B hc I).2.2.2.2.2.1 = Fill.fill B.out.view rowRect (rowT (loads i B I)) (outZero (loads i B I)) rows := by
  rcases layer with ⟨_ | _⟩ <;> sl_kernel_rfl

variable (hc : ¬first i) (W : Vec F S4x128x128 .f32) (S : Vec F S4x128x1 .f32) (O : Vec F S40x2816 .f32)

theorem next_dz : (runNext c i B hc I W S O).1 = dzPieces (loads i B I) := by
  rcases layer with ⟨_ | _⟩ <;> sl_kernel_rfl
theorem next_dpa : (runNext c i B hc I W S O).2.1 = dpaPieces (loads i B I) := by
  rcases layer with ⟨_ | _⟩ <;> sl_kernel_rfl
theorem next_dpb : (runNext c i B hc I W S O).2.2.1 = dpbPieces (loads i B I) := by
  rcases layer with ⟨_ | _⟩ <;> sl_kernel_rfl
theorem next_dws :
    (runNext c i B hc I W S O).2.2.2.1 = Fill.fillOn B.dws.view wsRect (loads i B I).dwsT (B.hdws.unread W) fresh blocks := by
  rcases layer with ⟨_ | _⟩ <;> sl_kernel_rfl
theorem next_dbs :
    (runNext c i B hc I W S O).2.2.2.2.1 = Fill.fillOn B.dbs.view bsRect (loads i B I).dbsT (B.hdbs.unread S) fresh blocks := by
  rcases layer with ⟨_ | _⟩ <;> sl_kernel_rfl
theorem next_out :
    (runNext c i B hc I W S O).2.2.2.2.2.1 = Fill.fillOn B.out.view rowRect (rowT (loads i B I)) (B.hout.unread O) (fun _ => true) rows := by
  rcases layer with ⟨_ | _⟩ <;> sl_kernel_rfl

end Cert.Kernel4Ideal.Body

end
-- ==== Proof.FwdTiles.lean ====
/- The mixer's forward pass at one point: what each store holds, as a function of the loaded values, and the run's stores. -/
module

public import proofs.«01_k».proof.Proof.FwdRun
public import proofs.«01_k».proof.Proof.MixTiles

@[expose] public section

set_option maxRecDepth 65536

noncomputable section

namespace Cert.Kernel6Ideal.Body

open Cert.Kernel6Ideal Cert.Kernel6Ideal.Gen
open Idealize.ShloMosaic Idealize.ShloMosaic.TcCoe Idealize.ShloMosaic.Tactic
open Cert.Kernel4Ideal.Body (headRect blockRect blocks)
open Cert.Kernel4Ideal.Body.Loads (cut)

variable {F : FTy → Type} [FloatOps F] [Named F]

/-- What a point loads. -/
structure Loads (F : FTy → Type) where
  num : BitVec 32
  u : Vec F S512x512 .bf16
  v : Vec F S512x512 .bf16
  zb : Vec F S512x512 .bf16
  zc : Vec F S512x512 .bf16
  zh : Vec F S512x512 .bf16
  za : Vec F S512x1024 .bf16
  zg : Vec F S512x1024 .bf16
  zpc : Vec F S16x512 .bf16
  zph : Vec F S16x512 .bf16
  x : Vec F S512x1024 .f32
  bg : Vec F S1x2048 .f32
  lng : Vec F S1x512 .f32
  lnb : Vec F S1x512 .f32
  ws : Fin 4 → Vec F S1x128x128 .f32
  bs : Fin 4 → Vec F S1x128x1 .f32
  wsc : Vec F S3x512 .f32
  wba : Vec F S1x512x1024 .bf16
  wbb : Vec F S1x512x1024 .bf16
  wo : Vec F S1024x1024 .bf16

/-- The loads of a point. -/
def loads (i : grid0.Coords) (B : Bufs) (I : Ins F) : Loads F where
  num := BitVec.ofNat 32 (i 0).val
  u := View.readAt (Elt F) B.z.view (Rect.unit (s := S512x4608) ![0, 0] S512x512.size (by decide)).toLoadRect (B.hz.unread I.z)
  v := View.readAt (Elt F) B.z.view (Rect.unit (s := S512x4608) ![0, 512] S512x512.size (by decide)).toLoadRect (B.hz.unread I.z)
  zb := View.readAt (Elt F) B.z.view (Rect.unit (s := S512x4608) ![0, 1024] S512x512.size (by decide)).toLoadRect (B.hz.unread I.z)
  zc := View.readAt (Elt F) B.z.view (Rect.unit (s := S512x4608) ![0, 1536] S512x512.size (by decide)).toLoadRect (B.hz.unread I.z)
  zh := View.readAt (Elt F) B.z.view (Rect.unit (s := S512x4608) ![0, 2048] S512x512.size (by decide)).toLoadRect (B.hz.unread I.z)
  za := View.readAt (Elt F) B.z.view (Rect.unit (s := S512x4608) ![0, 2560] S512x1024.size (by decide)).toLoadRect (B.hz.unread I.z)
  zg := View.readAt (Elt F) B.z.view (Rect.unit (s := S512x4608) ![0, 3584] S512x1024.size (by decide)).toLoadRect (B.hz.unread I.z)
  zpc := View.readAt (Elt F) B.zp.view (Rect.unit (s := S16x4608) ![0, 1536] S16x512.size (by decide)).toLoadRect (B.hzp.unread I.zp)
  zph := View.readAt (Elt F) B.zp.view (Rect.unit (s := S16x4608) ![0, 2048] S16x512.size (by decide)).toLoadRect (B.hzp.unread I.zp)
  x := View.readAt (Elt F) B.x.view (Rect.unit (s := S512x1024) ![0, 0] S512x1024.size (by decide)).toLoadRect (B.hx.unread I.x)
  bg := View.readAt (Elt F) B.bg.view (Rect.unit (s := S1x2048) ![0, 0] S1x2048.size (by decide)).toLoadRect (B.hbg.unread I.bg)
  lng := View.readAt (Elt F) B.lng.view (Rect.unit (s := S1x512) ![0, 0] S1x512.size (by decide)).toLoadRect (B.hlng.unread I.lng)
  lnb := View.readAt (Elt F) B.lnb.view (Rect.unit (s := S1x512) ![0, 0] S1x512.size (by decide)).toLoadRect (B.hlnb.unread I.lnb)
  ws h := View.readAt (Elt F) B.ws.view (headRect 128 128 h).toLoadRect (B.hws.unread I.ws)
  bs h := View.readAt (Elt F) B.bs.view (headRect 128 1 h).toLoadRect (B.hbs.unread I.bs)
  wsc := View.readAt (Elt F) B.wsc.view (Rect.unit (s := S3x512) ![0, 0] S3x512.size (by decide)).toLoadRect (B.hwsc.unread I.wsc)
  wba := View.readAt (Elt F) B.wb.view (Rect.unit (s := S2x512x1024) ![0, 0, 0] S1x512x1024.size (by decide)).toLoadRect (B.hwb.unread I.wb)
  wbb := View.readAt (Elt F) B.wb.view (Rect.unit (s := S2x512x1024) ![1, 0, 0] S1x512x1024.size (by decide)).toLoadRect (B.hwb.unread I.wb)
  wo := View.readAt (Elt F) B.wo.view (Rect.unit (s := S1024x1024) ![0, 0] S1024x1024.size (by decide)).toLoadRect (B.hwo.unread I.wo)

namespace Loads

variable (L : Loads F)

/-! ## The tiles -/

def gu : FVec F S512x512 .bf16 := k0_pay4 L.u
def vn : FVec F S512x512 .bf16 := k0_pay7 (k0_pay2 L.lng) (k0_pay3 L.lnb) (k0_pay5 L.v) (k0_pay6 L.v)
def mask : IVec S128x128 1 := k0_pay12 k0_pay8 (iota .tc S128x128 32 [1] iota_S128x128_d1_w32) 64#32 k0_pay9 k0_pay10 k0_pay11
def wm (h : Fin 4) : FVec F S128x128 .bf16 :=
  k0_pay13 k0_pay8 (iota .tc S128x128 32 [1] iota_S128x128_d1_w32) 64#32 k0_pay9 k0_pay10 k0_pay11 (L.ws h)
/-- The mixed rows, block `a.1` of rows and head `a.2` of columns, and together. -/
def fT (a : Fin 4 × Fin 4) : FVec F S128x128 .bf16 :=
  shapeCast S128x128 (truncf .bf16 (addf
    (matmul dot_S128x128_S128x128_S128x128_1_0_0_1_n_n none (L.wm a.2) (cut L.vn a) (constant S128x128 .f32 0x00000000#32))
    (broadcastTo S128x128 (shapeCast S128x1 (L.bs a.2) shapeCasts_S1x128x1_S128x1) broadcasts_S128x1_S128x128)) bitsLt_bf16_f32)
    shapeCasts_S128x128_S128x128
def f : FVec F S512x512 .bf16 :=
  View.readCov (Val := Elt F) (Memref.whole cc0_scratch0 : Memref sig .tc .vmem S512x512 .bf16).view (blocks.map fun a => ⟨blockRect a, L.fT a⟩)
    (Rect.unit (s := S512x512) ![0, 0] S512x512.size (by decide)).toLoadRect
def ya : FVec F S512x512 .bf16 := k0_pay38 L.gu L.f
def q : FVec F S512x512 .bf16 := k0_pay39 L.zc L.zh
def qp : FVec F S16x512 .bf16 := k0_pay40 L.num L.zpc L.zph
def taps : FVec F S3x512 .bf16 := k0_pay41 L.wsc
def cv : FVec F S512x512 .bf16 := k0_pay42 L.q L.qp L.taps
def yb : FVec F S512x512 .bf16 := k0_pay43 L.q L.qp L.taps L.zb
def pa : FVec F S512x1024 .bf16 := k0_pay44 L.ya L.wba
def pb : FVec F S512x1024 .bf16 := k0_pay45 L.yb L.wbb
def mg : FVec F S512x1024 .bf16 := k0_pay46 L.ya L.yb L.wba L.wbb L.bg L.za L.zg
def x1 : FVec F S512x1024 .f32 := k0_pay1 L.mg L.x L.wo

end Loads

/-! ## The stores -/

/-- One store of a whole block. -/
abbrev whole {a b : ℕ} {e : EltTy} (w : (⟨2, ![a, b]⟩ : Shape).Idx → Elt F e) : List (View.Piece (Elt F) ⟨2, ![a, b]⟩ e) :=
  [⟨Rect.unit (s := ⟨2, ![a, b]⟩) ![0, 0] ![a, b] (Fin.forall_fin_two.mpr ⟨(Nat.zero_add a).le, (Nat.zero_add b).le⟩), w⟩]

variable (c : Dev nD) (i : grid0.Coords) (B : Bufs) (I : Ins F)

theorem point_ya : (runPoint c i B I).1 = whole (loads i B I).ya := by sl_kernel_rfl
theorem point_yb : (runPoint c i B I).2.1 = whole (loads i B I).yb := by sl_kernel_rfl
theorem point_cv : (runPoint c i B I).2.2.1 = whole (loads i B I).cv := by sl_kernel_rfl
theorem point_pa : (runPoint c i B I).2.2.2.1 = whole (loads i B I).pa := by sl_kernel_rfl
theorem point_pb : (runPoint c i B I).2.2.2.2.1 = whole (loads i B I).pb := by sl_kernel_rfl
theorem point_mg : (runPoint c i B I).2.2.2.2.2.1 = whole (loads i B I).mg := by sl_kernel_rfl
theorem point_x1 : (runPoint c i B I).2.2.2.2.2.2.1 = whole (loads i B I).x1 := by sl_kernel_rfl

end Cert.Kernel6Ideal.Body

end
-- ==== Proof.MixFormula.lean ====
/- The mixer's backward pass as formulas over whole arrays, row by row. -/
module

public import proofs.«01_k».proof.Kernel4Ideal
public import proofs.«01_k».proof.Proof.Sums
public import proofs.«01_k».proof.Proof.Finite

@[expose] public section

noncomputable section

namespace Cert.Mix

open Cert.Kernel4Ideal Idealize.ShloMosaic

/-! ## Functions of one number and of one row -/

def c0 : EReal := ((6693141 / 8388608 : ℝ) : EReal)
def c1 : EReal := ((8943 / 200000 : ℝ) : EReal)
def c3 : EReal := ((26829 / 200000 : ℝ) : EReal)
def half : EReal := ((1 / 2 : ℝ) : EReal)
def eps : EReal := Ideal.ofBits .f32 0x3727C5AC#32
def width : EReal := Ideal.ofBits .f32 0x44000000#32

/-- The hyperbolic tangent inside the smooth gate, the gate, and the gate's derivative. -/
def bend (x : EReal) : EReal := Ideal.tanh (c0 * (x + c1 * x * x * x))
def gelu (x : EReal) : EReal := half * x * (1 + bend x)
def slope (x : EReal) : EReal := half * (1 + bend x) + half * x * (1 - bend x * bend x) * c0 * (1 + c3 * x * x)

/-- The logistic function. -/
def sg (x : EReal) : EReal := Ideal.div 1 (1 + Ideal.exp (0 - x))

def mean (f : Fin 512 → EReal) : EReal := Ideal.div (∑ k, f k) width
def centred (f : Fin 512 → EReal) (j : Fin 512) : EReal := f j - mean f
def rstd (f : Fin 512 → EReal) : EReal := Ideal.rsqrt (mean (fun k => centred f k * centred f k) + eps)
def norm (f : Fin 512 → EReal) (j : Fin 512) : EReal := centred f j * rstd f
/-- The gradient of a normalised row, `d` being the gradient of the row after the norm. -/
def back (f d : Fin 512 → EReal) (j : Fin 512) : EReal :=
  rstd f * (d j - mean d - norm f j * mean (fun k => d k * norm f k))

/-! ## Indices -/

/-- Where the weights of a block are kept: below the diagonal of its halves. -/
abbrev keep (i k : Fin 128) : Prop := k.val / 64 ≤ i.val / 64
abbrev head (j : Fin 512) : Fin 4 := ⟨j.val / 128, by omega⟩
abbrev place (n : Fin 8192) : Fin 128 := ⟨n.val % 128, by omega⟩
/-- Row `k` of the block `n` is in. -/
abbrev mate (n : Fin 8192) (k : Fin 128) : Fin 8192 := ⟨128 * (n.val / 128) + k.val, by omega⟩
abbrev blockRow (b : Fin 64) (k : Fin 128) : Fin 8192 := ⟨128 * b.val + k.val, by omega⟩
abbrev headCol (h : Fin 4) (d : Fin 128) : Fin 512 := ⟨128 * h.val + d.val, by omega⟩

/-! ## The arrays -/

/-- The arguments, and the three saved values. -/
structure Args where
  dx : S8192x1024.Idx → EReal
  z : S8192x4608.Idx → EReal
  bg : S2048.Idx → EReal
  lng : S512.Idx → EReal
  lnb : S512.Idx → EReal
  ws : S4x128x128.Idx → EReal
  bs : S4x128.Idx → EReal
  wsc : S3x512.Idx → EReal
  wb : S2x512x1024.Idx → EReal
  wo : S1024x1024.Idx → EReal
  sheet : S40x2816.Idx → EReal
  cv : S8192x512.Idx → EReal
  pa : S8192x1024.Idx → EReal
  pb : S8192x1024.Idx → EReal

namespace Args

variable (A : Args) (n : Fin 8192)

/-- The seven parts of `z`. -/
def u (j : Fin 512) : EReal := A.z (ix2 n ⟨j.val, by omega⟩)
def v (j : Fin 512) : EReal := A.z (ix2 n ⟨512 + j.val, by omega⟩)
def zb (j : Fin 512) : EReal := A.z (ix2 n ⟨1024 + j.val, by omega⟩)
def zc (j : Fin 512) : EReal := A.z (ix2 n ⟨1536 + j.val, by omega⟩)
def zh (j : Fin 512) : EReal := A.z (ix2 n ⟨2048 + j.val, by omega⟩)
def za (j : Fin 1024) : EReal := A.z (ix2 n ⟨2560 + j.val, by omega⟩)
def zg (j : Fin 1024) : EReal := A.z (ix2 n ⟨3584 + j.val, by omega⟩)

/-- The two gates. -/
def sa (j : Fin 1024) : EReal := sg (A.za n j + A.bg (ix1 ⟨j.val, by omega⟩))
def sb (j : Fin 1024) : EReal := sg (A.zg n j + A.bg (ix1 ⟨1024 + j.val, by omega⟩))
def dmg (j : Fin 1024) : EReal := ∑ k : Fin 1024, A.dx (ix2 n k) * A.wo (ix2 j k)
def dpa (j : Fin 1024) : EReal := A.dmg n j * A.sa n j
def dpb (j : Fin 1024) : EReal := A.dmg n j * A.sb n j
def dga (j : Fin 1024) : EReal := A.dmg n j * A.pa (ix2 n j) * A.sa n j * (1 - A.sa n j)
def dgb (j : Fin 1024) : EReal := A.dmg n j * A.pb (ix2 n j) * A.sb n j * (1 - A.sb n j)
def dya (j : Fin 512) : EReal := ∑ k : Fin 1024, A.dpa n k * A.wb (ix3 0 j k)
def dyb (j : Fin 512) : EReal := ∑ k : Fin 1024, A.dpb n k * A.wb (ix3 1 j k)

/-- The gated row before its norm, and after it. -/
def gv (j : Fin 512) : EReal := gelu (A.v n j)
def vn (j : Fin 512) : EReal := norm (A.gv n) j * A.lng (ix1 j) + A.lnb (ix1 j)
def wm (h : Fin 4) (i k : Fin 128) : EReal := if keep i k then A.ws (ix3 h i k) else 0
/-- The mixed rows. -/
def f (j : Fin 512) : EReal := ∑ k : Fin 128, A.wm (head j) (place n) k * A.vn (mate n k) j + A.bs (ix2 (head j) (place n))
def df (j : Fin 512) : EReal := A.dya n j * gelu (A.u n j)
def dvn (j : Fin 512) : EReal := ∑ k : Fin 128, A.wm (head j) k (place n) * A.df (mate n k) j
def dzu (j : Fin 512) : EReal := A.dya n j * A.f n j * slope (A.u n j)
def dzv (j : Fin 512) : EReal := back (A.gv n) (fun k => A.dvn n k * A.lng (ix1 k)) j * slope (A.v n j)
def dzb (j : Fin 512) : EReal := A.dyb n j * A.cv (ix2 n j)
def dconv (j : Fin 512) : EReal := A.dyb n j * A.zb n j
/-- The convolution's gradient, zero after the last row. -/
def ext (n : ℕ) (j : Fin 512) : EReal := if h : n < 8192 then A.dconv ⟨n, h⟩ j else 0
def q (j : Fin 512) : EReal := A.zc n j * A.zh n j
def dq (j : Fin 512) : EReal :=
  A.wsc (ix2 2 j) * A.dconv n j + A.wsc (ix2 1 j) * A.ext (n.val + 1) j + A.wsc (ix2 0 j) * A.ext (n.val + 2) j

/-- The first result. -/
def dz (i : S8192x4608.Idx) : EReal :=
  if h : (i 1).val < 512 then A.dzu (i 0) ⟨(i 1).val, h⟩
  else if h1 : (i 1).val < 1024 then A.dzv (i 0) ⟨(i 1).val - 512, by omega⟩
  else if h2 : (i 1).val < 1536 then A.dzb (i 0) ⟨(i 1).val - 1024, by omega⟩
  else if h3 : (i 1).val < 2048 then A.dq (i 0) ⟨(i 1).val - 1536, by omega⟩ * A.zh (i 0) ⟨(i 1).val - 1536, by omega⟩
  else if h4 : (i 1).val < 2560 then A.dq (i 0) ⟨(i 1).val - 2048, by omega⟩ * A.zc (i 0) ⟨(i 1).val - 2048, by omega⟩
  else if h5 : (i 1).val < 3584 then A.dga (i 0) ⟨(i 1).val - 2560, by omega⟩
  else A.dgb (i 0) ⟨(i 1).val - 3584, by have h6 : (i 1).val < 4608 := (i 1).isLt; omega⟩

/-- What block `b` adds to the weights' and the biases' gradients. -/
def dwsPart (b : Fin 64) (h : Fin 4) (i k : Fin 128) : EReal :=
  if keep i k then ∑ d : Fin 128, A.df (blockRow b i) (headCol h d) * A.vn (blockRow b k) (headCol h d) else 0
def dbsPart (b : Fin 64) (h : Fin 4) (i : Fin 128) : EReal := ∑ d : Fin 128, A.df (blockRow b i) (headCol h d)
def dws (i : S4x128x128.Idx) : EReal := ∑ b, A.dwsPart b (i 0) (i 1) (i 2)
def dbs (i : S4x128x1.Idx) : EReal := ∑ b, A.dbsPart b (i 0) (i 1)

/-- What row `n` adds to the `r`-th of the layer's rows of the sheet. -/
def part (r : ℕ) (j : Fin 2816) : EReal :=
  match r with
  | 0 => if h : j.val < 1024 then A.dga n ⟨j.val, h⟩ else if h1 : j.val < 2048 then A.dgb n ⟨j.val - 1024, by omega⟩ else 0
  | 1 => if h : j.val < 512 then A.dvn n ⟨j.val, h⟩ * norm (A.gv n) ⟨j.val, h⟩ else 0
  | 2 => if h : j.val < 512 then A.dvn n ⟨j.val, h⟩ else 0
  | 3 => if h : j.val < 512 then A.q n ⟨j.val, h⟩ * A.ext (n.val + 2) ⟨j.val, h⟩ else 0
  | 4 => if h : j.val < 512 then A.q n ⟨j.val, h⟩ * A.ext (n.val + 1) ⟨j.val, h⟩ else 0
  | 5 => if h : j.val < 512 then A.q n ⟨j.val, h⟩ * A.dconv n ⟨j.val, h⟩ else 0
  | _ => 0

/-- The last result, the layer's rows from row `b` on. -/
def sheetOut (b : ℕ) (i : S40x2816.Idx) : EReal :=
  if b ≤ (i 0).val ∧ (i 0).val < b + 6 then ∑ n, A.part n ((i 0).val - b) (i 1) else A.sheet i

end Args

end Cert.Mix

end
-- ==== Proof.MixBlock.lean ====
/- One point of the mixer's backward pass at an index: each tile is the formula's row. -/
module

public import proofs.«01_k».proof.Proof.MixTiles
public import proofs.«01_k».proof.Proof.MixFormula
public import proofs.«01_k».proof.Proof.FfnBlock
public import Idealize.ShloMosaic.Lib.Pointwise

@[expose] public section

set_option maxRecDepth 16384

noncomputable section

namespace Cert.Kernel4Ideal.Body

open Cert.Kernel4Ideal Cert.Kernel4Ideal.Gen Cert.Mix
open Idealize.ShloMosaic Idealize.ShloMosaic.TcCoe Idealize.SL.Sem

/-! ## The constants -/

theorem half_f32 : Ideal.ofBits .f32 0x3F000000#32 = half := by
  have h : (1 / 2 : ℝ) = 8388608 * (2 ^ 24)⁻¹ := by norm_num
  rw [half, h, EReal.coe_mul]
  simp [Ideal.ofBits, Ideal.ieee]
theorem half_bf16 : Ideal.ofBits .bf16 0x3F00#16 = half := by
  have h : (1 / 2 : ℝ) = 128 * (2 ^ 8)⁻¹ := by norm_num
  rw [half, h, EReal.coe_mul]
  simp [Ideal.ofBits, Ideal.ieee]

theorem named_c0 : (Named.named κ "gelu_c0" 0x3F4C422A#32 : Ideal .f32) = c0 := IdealRules.named_const.ideal_named_scalar _ _ _ _ rfl
theorem named_c0' : (Named.named κ "gelu_c0" 0x3F4C#16 : Ideal .bf16) = c0 := IdealRules.named_const.ideal_named_scalar _ _ _ _ rfl
theorem named_c1 : (Named.named κ "gelu_c1" 0x3D372713#32 : Ideal .f32) = c1 := IdealRules.named_const.ideal_named_scalar _ _ _ _ rfl
theorem named_c1' : (Named.named κ "gelu_c1" 0x3D37#16 : Ideal .bf16) = c1 := IdealRules.named_const.ideal_named_scalar _ _ _ _ rfl
theorem named_c3 : (Named.named κ "gelu_c3" 0x3E095D4F#32 : Ideal .f32) = c3 := IdealRules.named_const.ideal_named_scalar _ _ _ _ rfl
theorem named_c3' : (Named.named κ "gelu_c3" 0x3E09#16 : Ideal .bf16) = c3 := IdealRules.named_const.ideal_named_scalar _ _ _ _ rfl

/-! ## The masks -/

/-- Division by 64 rounding down, as the kernel writes it. -/
def half64 (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem half64_at : ∀ i : Fin 128, half64 (BitVec.ofNat 32 i.val) = BitVec.ofNat 32 (i.val / 64) := by decide +kernel
theorem sle_at : ∀ a b : Fin 2, (IntOp.cmpi .sle (BitVec.ofNat 32 a.val) (BitVec.ofNat 32 b.val) = (1 : BitVec 1)) ↔ a.val ≤ b.val := by
  decide +kernel

theorem below_at (i k : Fin 128) :
    (IntOp.cmpi .sle (half64 (BitVec.ofNat 32 k.val)) (half64 (BitVec.ofNat 32 i.val)) = (1 : BitVec 1)) ↔ keep i k := by
  rw [half64_at, half64_at]
  exact sle_at ⟨k.val / 64, by omega⟩ ⟨i.val / 64, by omega⟩

theorem mask_at (i k : Fin 128) : (Loads.mask (ix2 i k) = (1 : BitVec 1)) ↔ keep i k := by
  pointwise [Loads.mask, k0_pay36, k0_pay33, k0_pay34, k0_pay35]
  exact below_at i k
theorem mask2_at (i k : Fin 128) : (Loads.mask2 (ix2 i k) = (1 : BitVec 1)) ↔ keep i k := by
  pointwise [Loads.mask2, k0_pay67, k0_pay65, k0_pay66]
  exact below_at i k
theorem maskT_at (i k : Fin 128) : (Loads.maskT (ix2 i k) = (1 : BitVec 1)) ↔ keep k i := by
  pointwise [Loads.maskT, k0_pay70, k0_pay68, k0_pay69]
  exact below_at k i

/-! ## The rows -/

/-- Row `p` of block `t`, and of the rows after it. -/
abbrev row (t : Fin 16) (p : Fin 512) : Fin 8192 := ⟨512 * t.val + p.val, by omega⟩
abbrev nxt (t : Fin 16) (p : Fin 16) : Fin 8192 := ⟨16 * min ((t.val + 1) * 32) 511 + p.val, by omega⟩

/-- The loads are the arrays' rows. -/
structure At (L : Loads Ideal) (A : Args) (t : Fin 16) : Prop where
  last : L.last = (1 : BitVec 1) ↔ t.val = 15
  dx : ∀ p k, L.dx (ix2 p k) = A.dx (ix2 (row t p) k)
  dxn : ∀ p k, L.dxn (ix2 p k) = A.dx (ix2 (nxt t p) k)
  wo : ∀ j k, L.wo (ix2 j k) = A.wo (ix2 j k)
  pa : ∀ p k, L.pa (ix2 p k) = A.pa (ix2 (row t p) k)
  pb : ∀ p k, L.pb (ix2 p k) = A.pb (ix2 (row t p) k)
  bg : ∀ k, L.bg (ix2 0 k) = A.bg (ix1 k)
  u : ∀ p j, L.u (ix2 p j) = A.u (row t p) j
  v : ∀ p j, L.v (ix2 p j) = A.v (row t p) j
  zb : ∀ p j, L.zb (ix2 p j) = A.zb (row t p) j
  zc : ∀ p j, L.zc (ix2 p j) = A.zc (row t p) j
  zh : ∀ p j, L.zh (ix2 p j) = A.zh (row t p) j
  za : ∀ p j, L.za (ix2 p j) = A.za (row t p) j
  zg : ∀ p j, L.zg (ix2 p j) = A.zg (row t p) j
  znb : ∀ p j, L.znb (ix2 p j) = A.zb (nxt t p) j
  zng : ∀ p j, L.zng (ix2 p j) = A.zg (nxt t p) j
  cv : ∀ p j, L.cv (ix2 p j) = A.cv (ix2 (row t p) j)
  lng : ∀ j, L.lng (ix2 0 j) = A.lng (ix1 j)
  lnb : ∀ j, L.lnb (ix2 0 j) = A.lnb (ix1 j)
  ws : ∀ h i k, L.ws h (ix3 0 i k) = A.ws (ix3 h i k)
  wst : ∀ h i k, L.wst h (ix3 0 i k) = A.ws (ix3 h k i)
  bs : ∀ h i, L.bs h (ix3 0 i 0) = A.bs (ix2 h i)
  wsc : ∀ r j, L.wsc (ix2 r j) = A.wsc (ix2 r j)
  wba : ∀ j k, L.wba (ix3 0 j k) = A.wb (ix3 0 j k)
  wbb : ∀ j k, L.wbb (ix3 0 j k) = A.wb (ix3 1 j k)
  sheet : ∀ i, L.sheet i = A.sheet i

variable {L : Loads Ideal} {A : Args} {t : Fin 16} (h : At L A t)
include h

/-! ## The two branches -/

theorem dmg_at (p : Fin 512) (j : Fin 1024) : L.dmg (ix2 p j) = A.dmg (row t p) j := by
  pointwise [Loads.dmg, k0_pay6, k0_pay5]
  simp only [h.dx, h.wo, Args.dmg]
theorem dmgn_at (p : Fin 16) (j : Fin 1024) : L.dmgn (ix2 p j) = A.dmg (nxt t p) j := by
  pointwise [Loads.dmgn, k0_pay7, k0_pay5]
  simp only [h.dxn, h.wo, Args.dmg]
theorem dpa_at (p : Fin 512) (j : Fin 1024) : L.dpa (ix2 p j) = A.dpa (row t p) j := by
  pointwise [Loads.dpa, k0_pay14, k0_pay12, Loads.den, k0_pay11, k0_pay10, Loads.one]
  simp only [dmg_at h, h.za, h.bg, Args.dpa, Args.sa, sg]
theorem dpb_at (p : Fin 512) (j : Fin 1024) : L.dpb (ix2 p j) = A.dpb (row t p) j := by
  pointwise [Loads.dpb, k0_pay15, k0_pay13, Loads.bgT, k0_pay10]
  simp only [dmg_at h, h.zg, h.bg, Args.dpb, Args.sb, sg]
theorem dga_at (p : Fin 512) (j : Fin 1024) : L.dga (ix2 p j) = A.dga (row t p) j := by
  pointwise [Loads.dga, k0_pay16, k0_pay8, k0_pay12, Loads.den, k0_pay11, k0_pay10, Loads.one]
  simp only [dmg_at h, h.za, h.bg, h.pa, Args.dga, Args.sa, sg]
theorem dgb_at (p : Fin 512) (j : Fin 1024) : L.dgb (ix2 p j) = A.dgb (row t p) j := by
  pointwise [Loads.dgb, k0_pay17, k0_pay9, k0_pay13, Loads.bgT, k0_pay10]
  simp only [dmg_at h, h.zg, h.bg, h.pb, Args.dgb, Args.sb, sg]
theorem dya_at (p : Fin 512) (j : Fin 512) : L.dya (ix2 p j) = A.dya (row t p) j := by
  pointwise [Loads.dya, k0_pay22]
  simp only [dpa_at h, h.wba, Args.dya]

/-! ## The gated row and its norm -/

theorem gu_at (p : Fin 512) (j : Fin 512) : L.gu (ix2 p j) = gelu (A.u (row t p) j) := by
  pointwise [Loads.gu, k0_pay28, Loads.tu, k0_pay26]
  rw [half_bf16, named_c0', named_c1', h.u]
  rfl
theorem rstd_at (p : Fin 512) : L.rstd (ix2 p 0) = rstd (A.gv (row t p)) := by
  pointwise [Loads.rstd, k0_pay30, k0_pay29, k0_pay27, Loads.vf, k0_pay23, Loads.c1]
  simp only [half_f32, named_c0, named_c1, h.v]
  rfl
theorem xh_at (p : Fin 512) (j : Fin 512) : L.xh (ix2 p j) = norm (A.gv (row t p)) j := by
  pointwise [Loads.xh, k0_pay31, k0_pay30, k0_pay29, k0_pay27, Loads.vf, k0_pay23, Loads.c1]
  simp only [half_f32, named_c0, named_c1, h.v]
  rfl
theorem vn_at (p : Fin 512) (j : Fin 512) : L.vn (ix2 p j) = A.vn (row t p) j := by
  have e : L.vn (ix2 p j) = (L.xh (ix2 p j) * L.lng (ix2 0 j) + L.lnb (ix2 0 j) : EReal) := by
    pointwise [Loads.vn, k0_pay32, k0_pay24, k0_pay25]
    rfl
  rw [e, xh_at h, h.lng, h.lnb]
  rfl
theorem df_at (p : Fin 512) (j : Fin 512) : L.df (ix2 p j) = A.df (row t p) j := by
  pointwise [Loads.df, k0_pay63]
  simp only [dya_at h, gu_at h, Args.df]

/-! ## The mix -/

theorem wm_at (a : Fin 4) (i k : Fin 128) : L.wm a (ix2 i k) = A.wm a i k := by
  pointwise [Loads.wm, k0_pay39]
  simp only [h.ws, Args.wm, Scalar.select, mask_at]
theorem wmt_at (a : Fin 4) (i k : Fin 128) : L.wmt a (ix2 i k) = A.wm a k i := by
  pointwise [Loads.wmt, k0_pay72]
  simp only [h.wst, Args.wm, Scalar.select, maskT_at]

/-- Row `i` of block `b` of a point's rows, and column `k` of head `a`. -/
abbrev inRow (b : Fin 4) (i : Fin 128) : Fin 512 := ⟨128 * b.val + i.val, by omega⟩
abbrev block (t : Fin 16) (b : Fin 4) : Fin 64 := ⟨t.val * 4 + b.val, by omega⟩

omit h in
theorem row_in (b : Fin 4) (i : Fin 128) : row t (inRow b i) = blockRow (block t b) i :=
  Fin.ext (by show 512 * t.val + (128 * b.val + i.val) = 128 * (t.val * 4 + b.val) + i.val; omega)
omit h in
theorem head_in (a : Fin 4) (k : Fin 128) : head (headCol a k) = a := Fin.ext (by show (128 * a.val + k.val) / 128 = a.val; omega)
omit h in
theorem place_in (b : Fin 64) (i : Fin 128) : place (blockRow b i) = i := Fin.ext (by show (128 * b.val + i.val) % 128 = i.val; omega)
omit h in
theorem mate_in (b : Fin 64) (i k : Fin 128) : mate (blockRow b i) k = blockRow b k :=
  Fin.ext (by show 128 * ((128 * b.val + i.val) / 128) + k.val = 128 * b.val + k.val; omega)

omit h in
theorem cut_at {φ : FTy} (x : FVec Ideal S512x512 φ) (a : Fin 4 × Fin 4) (i k : Fin 128) :
    Loads.cut x a (ix2 i k) = x (ix2 (inRow a.1 i) (headCol a.2 k)) := by
  pointwise [Loads.cut]

theorem fT_at (a : Fin 4 × Fin 4) (i k : Fin 128) : L.fT a (ix2 i k) = A.f (row t (inRow a.1 i)) (headCol a.2 k) := by
  pointwise [Loads.fT]
  simp only [cut_at, wm_at h, vn_at h, h.bs, row_in, Args.f, head_in, place_in, mate_in]
theorem dvnT_at (a : Fin 4 × Fin 4) (i k : Fin 128) : L.dvnT a (ix2 i k) = A.dvn (row t (inRow a.1 i)) (headCol a.2 k) := by
  pointwise [Loads.dvnT]
  simp only [cut_at, wmt_at h, df_at h, row_in, Args.dvn, head_in, place_in, mate_in]
theorem dwsT_at (a : Fin 4 × Fin 4) (prev : FVec Ideal S1x128x128 .f32) (i k : Fin 128) :
    L.dwsT a prev (ix3 0 i k) = (prev (ix3 0 i k) + A.dwsPart (block t a.1) a.2 i k : EReal) := by
  pointwise [Loads.dwsT]
  simp only [cut_at, df_at h, vn_at h, row_in, Scalar.select, mask2_at, Args.dwsPart]
theorem dbsT_at (a : Fin 4 × Fin 4) (prev : FVec Ideal S1x128x1 .f32) (i : Fin 128) :
    L.dbsT a prev (ix3 0 i 0) = (prev (ix3 0 i 0) + A.dbsPart (block t a.1) a.2 i : EReal) := by
  pointwise [Loads.dbsT, k0_pay94]
  simp only [cut_at, df_at h, row_in, Args.dbsPart]

end Cert.Kernel4Ideal.Body

end
-- ==== Proof.MixStores.lean ====
/- What one point of the mixer's backward pass leaves: the blocks it writes, and what it adds to the three sums. -/
module

public import proofs.«01_k».proof.Proof.MixBlock

@[expose] public section

set_option maxRecDepth 16384

noncomputable section

namespace Cert.Kernel4Ideal.Body

open Cert.Kernel4Ideal Cert.Kernel4Ideal.Gen Cert.Mix
open Idealize.ShloMosaic Idealize.ShloMosaic.TcCoe Idealize.SL.Sem
open Cert.Kernel2Ideal.Body (cmp_row folded)

variable {L : Loads Ideal} {A : Args} {t : Fin 16} (h : At L A t)

theorem mem_blocks : ∀ a : Fin 4 × Fin 4, a ∈ blocks := by decide

theorem block_emb (a : Fin 4 × Fin 4) (i k : Fin 128) : (blockRect a).emb (ix2 i k) = ix2 (inRow a.1 i) (headCol a.2 k) :=
  Sums.ext2 (by show 128 * a.1.val + 1 * i.val = 128 * a.1.val + i.val; omega)
    (by show 128 * a.2.val + 1 * k.val = 128 * a.2.val + k.val; omega)

theorem mem_block (y : S512x512.Idx) (h0 : (y 0).val / 128 < 4) (h1 : (y 1).val / 128 < 4) :
    y ∈ (blockRect (⟨(y 0).val / 128, h0⟩, ⟨(y 1).val / 128, h1⟩)).set := by
  refine Rect.mem_set_unit.mpr (Fin.forall_fin_two.mpr ?_)
  show (128 * ((y 0).val / 128) ≤ (y 0).val ∧ (y 0).val < 128 * ((y 0).val / 128) + 128)
    ∧ (128 * ((y 1).val / 128) ≤ (y 1).val ∧ (y 1).val < 128 * ((y 1).val / 128) + 128)
  omega

/-- A buffer of blocks, each a formula's block, holds the formula. -/
theorem canon_blocks {e : EltTy} (T : Fin 4 × Fin 4 → S128x128.Idx → Elt Ideal e) (g : Fin 512 → Fin 512 → Elt Ideal e)
    (hT : ∀ a i k, T a (ix2 i k) = g (inRow a.1 i) (headCol a.2 k)) (y : S512x512.Idx) :
    (View.canon (Val := Elt Ideal) (e := e) (blocks.map fun a => ⟨blockRect a, T a⟩) y) = g (y 0) (y 1) := by
  refine View.canon_apply_of_pieces (Val := Elt Ideal) (e := e) (fun y => g (y 0) (y 1)) _ ?_ y ?_
  · intro p hp
    obtain ⟨a, -, rfl⟩ := List.mem_map.mp hp
    intro x
    obtain ⟨i, k, rfl⟩ : ∃ (i : Fin 128) (k : Fin 128), x = ix2 i k := ⟨x 0, x 1, eq_ix2 x⟩
    rw [block_emb]
    exact hT a i k
  · have h0 : (y 0).val < 512 := (y 0).isLt
    have h1 : (y 1).val < 512 := (y 1).isLt
    exact ⟨_, List.mem_map.mpr ⟨_, mem_blocks _, rfl⟩, mem_block y (by omega) (by omega)⟩

include h

theorem f_at (p j : Fin 512) : L.f (ix2 p j) = A.f (row t p) j := by
  unfold Loads.f
  rw [View.readCov_eq_canon']
  refine (canon_blocks (e := .bf16) L.fT (fun p j => A.f (row t p) j) (fT_at h) _).trans ?_
  exact congrArg₂ (fun p j => A.f (row t p) j) (Fin.ext (by show 0 + 1 * p.val = p.val; omega)) (Fin.ext (by show 0 + 1 * j.val = j.val; omega))
theorem dvn_at (p j : Fin 512) : L.dvn (ix2 p j) = A.dvn (row t p) j := by
  unfold Loads.dvn
  rw [View.readCov_eq_canon']
  refine (canon_blocks (e := .f32) L.dvnT (fun p j => A.dvn (row t p) j) (dvnT_at h) _).trans ?_
  exact congrArg₂ (fun p j => A.dvn (row t p) j) (Fin.ext (by show 0 + 1 * p.val = p.val; omega)) (Fin.ext (by show 0 + 1 * j.val = j.val; omega))

theorem dzu_at (p j : Fin 512) : L.dzu (ix2 p j) = A.dzu (row t p) j := by
  pointwise [Loads.dzu, k0_pay64, Loads.tu, k0_pay26]
  rw [half_bf16, named_c0', named_c1', named_c3', h.u, dya_at h, f_at h]
  rfl
theorem dzv_at (p j : Fin 512) : L.dzv (ix2 p j) = A.dzv (row t p) j := by
  pointwise [Loads.dzv, k0_pay159, k0_pay158, k0_pay157, k0_pay24, Loads.tv, k0_pay27, Loads.vf, k0_pay23, Loads.c1]
  simp only [half_f32, named_c0, named_c1, named_c3, h.v, h.lng, dvn_at h, xh_at h, rstd_at h]
  rfl

/-! ## The convolution's gradient -/

theorem dyb_at (p j : Fin 512) : k0_pay162 L.dmgn L.dpb L.denn Loads.one L.wbb (ix2 p j) = A.dyb (row t p) j := by
  pointwise [k0_pay162, k0_pay161]
  simp only [dpb_at h, h.wbb, Args.dyb]
theorem dzb_at (p j : Fin 512) : L.dzb (ix2 p j) = A.dzb (row t p) j := by
  pointwise [Loads.dzb, k0_pay164]
  simp only [dyb_at h, h.cv, Args.dzb]
theorem dconv_at (p j : Fin 512) : L.dconv (ix2 p j) = A.dconv (row t p) j := by
  pointwise [Loads.dconv, k0_pay165]
  simp only [dyb_at h, h.zb, Args.dconv]
theorem q_at (p j : Fin 512) : L.q (ix2 p j) = A.q (row t p) j := by
  pointwise [Loads.q, k0_pay163]
  simp only [h.zc, h.zh, Args.q]

theorem halo_at (p : Fin 16) (j : Fin 512) : L.halo (ix2 p j) = A.ext (512 * t.val + 512 + p.val) j := by
  have ht := t.isLt
  have hp := p.isLt
  pointwise [Loads.halo, k0_pay166, k0_pay161, Loads.denn, k0_pay160, Loads.bgT, k0_pay10, Loads.one]
  simp only [dmgn_at h, h.wbb, h.zng, h.znb, h.bg, Scalar.select, h.last]
  by_cases hl : t.val = 15
  · rw [if_pos hl]
    exact (show A.ext (512 * t.val + 512 + p.val) j = 0 from dif_neg (show ¬512 * t.val + 512 + p.val < 8192 by omega)).symm
  · rw [if_neg hl]
    refine Eq.trans ?_ (dif_pos (show 512 * t.val + 512 + p.val < 8192 by omega)).symm
    refine Eq.trans ?_ (congrArg (fun n => A.dconv n j) (show nxt t p = ⟨512 * t.val + 512 + p.val, by omega⟩ from Fin.ext (by
      show 16 * min ((t.val + 1) * 32) 511 + p.val = 512 * t.val + 512 + p.val; omega)))
    rfl

omit h in
theorem ext_in (n : ℕ) (hn : n < 8192) (j : Fin 512) : A.ext n j = A.dconv ⟨n, hn⟩ j := dif_pos hn

theorem up1_at (p j : Fin 512) : L.up1 (ix2 p j) = A.ext ((row t p).val + 1) j := by
  have hp := p.isLt
  have ht := t.isLt
  pointwise [Loads.up1, k0_pay167]
  have hd := fun p' => dconv_at h p' j
  have hh := fun p' => halo_at h p' j
  unfold Loads.dconv at hd
  unfold Loads.halo at hh
  simp only [hd, hh, Scalar.select]
  by_cases h1 : p.val < 496
  · rw [dif_pos h1, ext_in _ (by omega)]
    exact congrArg (fun n => A.dconv n _) (Fin.ext (by show 512 * t.val + (p.val + 512 - 511) % 512 = 512 * t.val + p.val + 1; omega))
  · rw [dif_neg h1]
    by_cases h2 : p.val - 496 = 15
    · rw [if_pos ((cmp_row _ 15 (by omega) (by omega)).mpr h2)]
      exact congrArg (fun n => A.ext n _) (by show 512 * t.val + 512 + 0 = 512 * t.val + p.val + 1; omega)
    · rw [if_neg (fun e => h2 ((cmp_row _ 15 (by omega) (by omega)).mp e)), ext_in _ (by omega)]
      exact congrArg (fun n => A.dconv n _) (Fin.ext (by show 512 * t.val + (496 + (p.val - 496) + 512 - 511) % 512 = 512 * t.val + p.val + 1; omega))

theorem up2_at (p j : Fin 512) :
    k0_pay170 L.halo L.rot2 L.rot2l (iota .tc S16x512 32 [0] iota_S16x512_d0_w32) 14#32 (ix2 p j) = A.ext ((row t p).val + 2) j := by
  have hp := p.isLt
  have ht := t.isLt
  pointwise [k0_pay170, Loads.rot2, Loads.rot2l, k0_pay168, k0_pay169]
  have hd := fun p' => dconv_at h p' j
  have hh := fun p' => halo_at h p' j
  simp only [hh]
  unfold Loads.dconv at hd
  simp only [hd, hh, Scalar.select]
  by_cases h1 : p.val < 496
  · rw [dif_pos h1, ext_in _ (by omega)]
    exact congrArg (fun n => A.dconv n _) (Fin.ext (by show 512 * t.val + (p.val + 512 - 510) % 512 = 512 * t.val + p.val + 2; omega))
  · rw [dif_neg h1]
    by_cases h2 : p.val - 496 = 15
    · rw [if_pos ((cmp_row _ 15 (by omega) (by omega)).mpr h2)]
      exact congrArg (fun n => A.ext n _) (by show 512 * t.val + 512 + 1 = 512 * t.val + p.val + 2; omega)
    · rw [if_neg (fun e => h2 ((cmp_row _ 15 (by omega) (by omega)).mp e))]
      by_cases h3 : p.val - 496 = 14
      · rw [if_pos ((cmp_row _ 14 (by omega) (by omega)).mpr h3)]
        exact congrArg (fun n => A.ext n _) (by show 512 * t.val + 512 + 0 = 512 * t.val + p.val + 2; omega)
      · rw [if_neg (fun e => h3 ((cmp_row _ 14 (by omega) (by omega)).mp e)), ext_in _ (by omega)]
        exact congrArg (fun n => A.dconv n _) (Fin.ext (by show 512 * t.val + (496 + (p.val - 496) + 512 - 510) % 512 = 512 * t.val + p.val + 2; omega))

theorem dq_at (p j : Fin 512) : L.dq (ix2 p j) = A.dq (row t p) j := by
  pointwise [Loads.dq, k0_pay176, Loads.up2]
  simp only [up2_at h, up1_at h, dconv_at h, h.wsc]
  rfl
theorem dzc_at (p j : Fin 512) : L.dzc (ix2 p j) = A.dq (row t p) j * A.zh (row t p) j := by
  have hq := dq_at h p j
  unfold Loads.dq at hq
  pointwise [Loads.dzc, k0_pay177]
  rw [hq, h.zh]
theorem dzh_at (p j : Fin 512) : L.dzh (ix2 p j) = A.dq (row t p) j * A.zc (row t p) j := by
  pointwise [Loads.dzh, k0_pay1]
  rw [dq_at h, h.zc]

/-! ## The blocks written -/

omit h in
theorem dz_u (n : Fin 8192) (j : Fin 512) (hj : j.val < 4608) : A.dz (ix2 n ⟨j.val, hj⟩) = A.dzu n j := dif_pos j.isLt
omit h in
theorem dz_v (n : Fin 8192) (j : Fin 512) (hj : 512 + j.val < 4608) : A.dz (ix2 n ⟨512 + j.val, hj⟩) = A.dzv n j :=
  (dif_neg (show ¬512 + j.val < 512 by omega)).trans ((dif_pos (show 512 + j.val < 1024 by omega)).trans
    (congrArg (A.dzv n) (Fin.ext (by show 512 + j.val - 512 = j.val; omega))))
omit h in
theorem dz_b (n : Fin 8192) (j : Fin 512) (hj : 1024 + j.val < 4608) : A.dz (ix2 n ⟨1024 + j.val, hj⟩) = A.dzb n j :=
  (dif_neg (show ¬1024 + j.val < 512 by omega)).trans ((dif_neg (show ¬1024 + j.val < 1024 by omega)).trans
    ((dif_pos (show 1024 + j.val < 1536 by omega)).trans (congrArg (A.dzb n) (Fin.ext (by show 1024 + j.val - 1024 = j.val; omega)))))
omit h in
theorem dz_c (n : Fin 8192) (j : Fin 512) (hj : 1536 + j.val < 4608) : A.dz (ix2 n ⟨1536 + j.val, hj⟩) = A.dq n j * A.zh n j :=
  (dif_neg (show ¬1536 + j.val < 512 by omega)).trans ((dif_neg (show ¬1536 + j.val < 1024 by omega)).trans
    ((dif_neg (show ¬1536 + j.val < 1536 by omega)).trans ((dif_pos (show 1536 + j.val < 2048 by omega)).trans
      (congrArg (fun j => A.dq n j * A.zh n j) (Fin.ext (by show 1536 + j.val - 1536 = j.val; omega))))))
omit h in
theorem dz_h (n : Fin 8192) (j : Fin 512) (hj : 2048 + j.val < 4608) : A.dz (ix2 n ⟨2048 + j.val, hj⟩) = A.dq n j * A.zc n j :=
  (dif_neg (show ¬2048 + j.val < 512 by omega)).trans ((dif_neg (show ¬2048 + j.val < 1024 by omega)).trans
    ((dif_neg (show ¬2048 + j.val < 1536 by omega)).trans ((dif_neg (show ¬2048 + j.val < 2048 by omega)).trans
      ((dif_pos (show 2048 + j.val < 2560 by omega)).trans
        (congrArg (fun j => A.dq n j * A.zc n j) (Fin.ext (by show 2048 + j.val - 2048 = j.val; omega)))))))
omit h in
theorem dz_ga (n : Fin 8192) (j : Fin 1024) (hj : 2560 + j.val < 4608) : A.dz (ix2 n ⟨2560 + j.val, hj⟩) = A.dga n j :=
  (dif_neg (show ¬2560 + j.val < 512 by omega)).trans ((dif_neg (show ¬2560 + j.val < 1024 by omega)).trans
    ((dif_neg (show ¬2560 + j.val < 1536 by omega)).trans ((dif_neg (show ¬2560 + j.val < 2048 by omega)).trans
      ((dif_neg (show ¬2560 + j.val < 2560 by omega)).trans ((dif_pos (show 2560 + j.val < 3584 by omega)).trans
        (congrArg (A.dga n) (Fin.ext (by show 2560 + j.val - 2560 = j.val; omega))))))))
omit h in
theorem dz_gb (n : Fin 8192) (j : Fin 1024) (hj : 3584 + j.val < 4608) : A.dz (ix2 n ⟨3584 + j.val, hj⟩) = A.dgb n j :=
  (dif_neg (show ¬3584 + j.val < 512 by omega)).trans ((dif_neg (show ¬3584 + j.val < 1024 by omega)).trans
    ((dif_neg (show ¬3584 + j.val < 1536 by omega)).trans ((dif_neg (show ¬3584 + j.val < 2048 by omega)).trans
      ((dif_neg (show ¬3584 + j.val < 2560 by omega)).trans ((dif_neg (show ¬3584 + j.val < 3584 by omega)).trans
        (congrArg (A.dgb n) (Fin.ext (by show 3584 + j.val - 3584 = j.val; omega))))))))

omit h in
/-- A piece of the first result's block, its columns starting at `o`. -/
theorem dz_piece (o w : ℕ) (inb : ∀ a, (![0, o] : Fin 2 → ℕ) a + (![512, w] : Fin 2 → ℕ) a ≤ S512x4608.size a)
    (g : Fin 8192 → Fin w → EReal) (T : (⟨2, ![512, w]⟩ : Shape).Idx → EReal) (hT : ∀ p j, T (ix2 p j) = g (row t p) j)
    (hg : ∀ n j (hj : o + j.val < 4608), A.dz (ix2 n ⟨o + j.val, hj⟩) = g n j) (x : (⟨2, ![512, w]⟩ : Shape).Idx) :
    T x = A.dz (ix2 (row t ((Rect.unit (s := S512x4608) ![0, o] ![512, w] inb).emb x 0)) ((Rect.unit (s := S512x4608) ![0, o] ![512, w] inb).emb x 1)) := by
  obtain ⟨p, j, rfl⟩ : ∃ (p : Fin 512) (j : Fin w), x = ix2 p j := ⟨x 0, x 1, eq_ix2 x⟩
  have hw : o + w ≤ 4608 := inb 1
  have hj := j.isLt
  refine (hT p j).trans ((hg _ j (by omega)).symm.trans (congrArg A.dz (Sums.ext2 ?_ ?_)))
  · show 512 * t.val + p.val = 512 * t.val + (0 + 1 * p.val)
    omega
  · show o + j.val = o + 1 * j.val
    omega

/-- The first result's block. -/
theorem dz_block (y : S512x4608.Idx) : (View.canon (Val := Elt Ideal) (dzPieces L) y : EReal) = A.dz (ix2 (row t (y 0)) (y 1)) := by
  refine View.canon_apply_of_pieces (Val := Elt Ideal) (e := .bf16) (fun y => A.dz (ix2 (row t (y 0)) (y 1))) _ ?_ y ?_
  · unfold dzPieces
    simp only [List.forall_mem_cons, List.not_mem_nil, false_imp_iff, implies_true, and_true]
    refine ⟨?_, ?_, ?_, ?_, ?_, ?_, ?_⟩
    · exact dz_piece 2048 512 _ _ _ (dzh_at h) dz_h
    · exact dz_piece 1536 512 _ _ _ (dzc_at h) dz_c
    · exact dz_piece 1024 512 _ _ _ (dzb_at h) dz_b
    · exact dz_piece 512 512 _ _ _ (dzv_at h) dz_v
    · exact dz_piece 0 512 _ A.dzu _ (dzu_at h) fun n j hj => (congrArg A.dz (show ix2 n ⟨0 + j.val, hj⟩ = ix2 n ⟨j.val, by omega⟩ from Sums.ext2 rfl (Nat.zero_add _))).trans (dz_u n j (by omega))
    · exact dz_piece 3584 1024 _ _ _ (dgb_at h) dz_gb
    · exact dz_piece 2560 1024 _ _ _ (dga_at h) dz_ga
  · obtain ⟨p, k, rfl⟩ : ∃ (p : Fin 512) (k : Fin 4608), y = ix2 p k := ⟨y 0, y 1, eq_ix2 y⟩
    have hp := p.isLt
    have hk := k.isLt
    have hin : ∀ o w inb, o ≤ k.val → k.val < o + w → ix2 p k ∈ (Rect.unit (s := S512x4608) ![0, o] ![512, w] inb).set :=
      fun o w inb h0 h1 => Rect.mem_set_unit.mpr (Fin.forall_fin_two.mpr ⟨⟨Nat.zero_le _, by show p.val < 0 + 512; omega⟩, h0, h1⟩)
    unfold dzPieces
    simp only [List.mem_cons, List.not_mem_nil, or_false, exists_eq_or_imp, exists_eq_left]
    by_cases h1 : k.val < 512
    · exact .inr (.inr (.inr (.inr (.inl (hin 0 512 _ (by omega) (by omega))))))
    by_cases h2 : k.val < 1024
    · exact .inr (.inr (.inr (.inl (hin 512 512 _ (by omega) (by omega)))))
    by_cases h3 : k.val < 1536
    · exact .inr (.inr (.inl (hin 1024 512 _ (by omega) (by omega))))
    by_cases h4 : k.val < 2048
    · exact .inr (.inl (hin 1536 512 _ (by omega) (by omega)))
    by_cases h5 : k.val < 2560
    · exact .inl (hin 2048 512 _ (by omega) (by omega))
    by_cases h6 : k.val < 3584
    · exact .inr (.inr (.inr (.inr (.inr (.inr (hin 2560 1024 _ (by omega) (by omega)))))))
    · exact .inr (.inr (.inr (.inr (.inr (.inl (hin 3584 1024 _ (by omega) (by omega)))))))

theorem dpa_block (y : S512x1024.Idx) : (View.canon (Val := Elt Ideal) (dpaPieces L) y : EReal) = A.dpa (row t (y 0)) (y 1) :=
  (Pieces.canon_in _ _ _ y (ix2 (y 0) (y 1)) (Fin.forall_fin_two.mpr
    ⟨by show (y 0).val = 0 + (y 0).val; omega, by show (y 1).val = 0 + (y 1).val; omega⟩)).trans (dpa_at h _ _)
theorem dpb_block (y : S512x1024.Idx) : (View.canon (Val := Elt Ideal) (dpbPieces L) y : EReal) = A.dpb (row t (y 0)) (y 1) :=
  (Pieces.canon_in _ _ _ y (ix2 (y 0) (y 1)) (Fin.forall_fin_two.mpr
    ⟨by show (y 0).val = 0 + (y 0).val; omega, by show (y 1).val = 0 + (y 1).val; omega⟩)).trans (dpb_at h _ _)

/-! ## The sums -/

omit h in
theorem mem_head {X Y : ℕ} (b : Fin 4) (y : (⟨3, ![4, X, Y]⟩ : Shape).Idx) : y ∈ (headRect X Y b).set ↔ some (y 0) = some b := by
  refine Rect.mem_set_unit.trans ⟨fun hy => ?_, fun hy => ?_⟩
  · have h0 : b.val ≤ (y 0).val ∧ (y 0).val < b.val + 1 := hy 0
    exact congrArg some (Fin.ext (by omega))
  · have h0 := congrArg Fin.val (Option.some.inj hy)
    intro a
    match a with
    | ⟨0, _⟩ => exact ⟨h0.ge, by show (y 0).val < b.val + 1; omega⟩
    | ⟨1, _⟩ => exact ⟨Nat.zero_le _, by show (y 1).val < 0 + X; have h1 : (y 1).val < X := (y 1).isLt; omega⟩
    | ⟨2, _⟩ => exact ⟨Nat.zero_le _, by show (y 2).val < 0 + Y; have h1 : (y 2).val < Y := (y 2).isLt; omega⟩

omit h in
/-- What the four blocks add under a head. -/
theorem total_blocks (part : Fin 4 × Fin 4 → EReal) (base : EReal) (b : Fin 4) :
    Fill.total (fun a : Fin 4 × Fin 4 => a.2) part base (some b) blocks = base + ∑ a : Fin 4, part (a, b) := by
  rw [Fin.sum_univ_four, ← add_assoc, ← add_assoc, ← add_assoc]
  match b with
  | 0 => rfl
  | 1 => rfl
  | 2 => rfl
  | 3 => rfl

/-- What block `a` of point `t` adds at an index. -/
abbrev wsPart (A : Args) (t : Fin 16) (a : Fin 4 × Fin 4) (y : S4x128x128.Idx) : EReal := A.dwsPart (block t a.1) (y 0) (y 1) (y 2)
abbrev bsPart (A : Args) (t : Fin 16) (a : Fin 4 × Fin 4) (y : S4x128x1.Idx) : EReal := A.dbsPart (block t a.1) (y 0) (y 1)

theorem dwsT_emb (a : Fin 4 × Fin 4) (prev : (wsRect a).shape.Idx → Elt Ideal .f32) (x : (wsRect a).shape.Idx) :
    (L.dwsT a prev x : EReal) = prev x + wsPart A t a ((wsRect a).emb x) := by
  obtain ⟨z, i, k, rfl⟩ : ∃ (z : Fin 1) (i k : Fin 128), x = ix3 z i k := ⟨x 0, x 1, x 2, eq_ix3 x⟩
  obtain rfl : z = 0 := Subsingleton.elim _ _
  refine (dwsT_at h a prev i k).trans (congrArg (prev (ix3 0 i k) + ·) ?_)
  show A.dwsPart _ a.2 i k = A.dwsPart _ _ _ _
  congr 1
  · exact Fin.ext (by show i.val = 0 + 1 * i.val; omega)
  · exact Fin.ext (by show k.val = 0 + 1 * k.val; omega)
theorem dbsT_emb (a : Fin 4 × Fin 4) (prev : (bsRect a).shape.Idx → Elt Ideal .f32) (x : (bsRect a).shape.Idx) :
    (L.dbsT a prev x : EReal) = prev x + bsPart A t a ((bsRect a).emb x) := by
  obtain ⟨z, i, k, rfl⟩ : ∃ (z : Fin 1) (i : Fin 128) (k : Fin 1), x = ix3 z i k := ⟨x 0, x 1, x 2, eq_ix3 x⟩
  obtain rfl : z = 0 := Subsingleton.elim _ _
  obtain rfl : k = 0 := Subsingleton.elim _ _
  refine (dbsT_at h a prev i).trans (congrArg (prev (ix3 0 i 0) + ·) ?_)
  show A.dbsPart _ a.2 i = A.dbsPart _ _ _
  congr 1
  · exact Fin.ext (by show i.val = 0 + 1 * i.val; omega)

theorem dws_first (B : Memref sig .tc .vmem S4x128x128 .f32) (y : S4x128x128.Idx) :
    (View.canon (Val := Elt Ideal) (Fill.fill B.view wsRect L.dwsT dwsZero blocks) y : EReal)
      = 0 + ∑ a : Fin 4, A.dwsPart (block t a) (y 0) (y 1) (y 2) := by
  refine (Fill.canon_fill B.view wsRect L.dwsT (fun a => a.2) (fun y => some (y 0)) (wsPart A t) (fun a y => mem_head a.2 y) (dwsT_emb h) dwsZero blocks y).trans ?_
  refine (total_blocks _ _ (y 0)).trans (congrArg (· + _) ?_)
  refine (Pieces.canon_in _ _ _ y (ix3 (y 0) (y 1) (y 2)) (fun a => ?_)).trans ?_
  · match a with
    | ⟨0, _⟩ => exact (Nat.zero_add _).symm
    | ⟨1, _⟩ => exact (Nat.zero_add _).symm
    | ⟨2, _⟩ => exact (Nat.zero_add _).symm
  · pointwise [k0_pay3]
theorem dbs_first (B : Memref sig .tc .vmem S4x128x1 .f32) (y : S4x128x1.Idx) :
    (View.canon (Val := Elt Ideal) (Fill.fill B.view bsRect L.dbsT dbsZero blocks) y : EReal)
      = 0 + ∑ a : Fin 4, A.dbsPart (block t a) (y 0) (y 1) := by
  refine (Fill.canon_fill B.view bsRect L.dbsT (fun a => a.2) (fun y => some (y 0)) (bsPart A t) (fun a y => mem_head a.2 y) (dbsT_emb h) dbsZero blocks y).trans ?_
  refine (total_blocks _ _ (y 0)).trans (congrArg (· + _) ?_)
  refine (Pieces.canon_in _ _ _ y (ix3 (y 0) (y 1) (y 2)) (fun a => ?_)).trans ?_
  · match a with
    | ⟨0, _⟩ => exact (Nat.zero_add _).symm
    | ⟨1, _⟩ => exact (Nat.zero_add _).symm
    | ⟨2, _⟩ => exact (Nat.zero_add _).symm
  · pointwise [k0_pay4]

theorem dws_next (B : Memref sig .tc .vmem S4x128x128 .f32) (hB : B.IsWhole) (W : Vec Ideal S4x128x128 .f32) (y : S4x128x128.Idx) :
    (B.view.read (Elt Ideal) (B.view.writes (Elt Ideal) (hB.unread W) (Fill.fillOn B.view wsRect L.dwsT (hB.unread W) fresh blocks)) y : EReal)
      = W y + ∑ a : Fin 4, A.dwsPart (block t a) (y 0) (y 1) (y 2) := by
  refine (Fill.read_fillOn B.view wsRect L.dwsT (fun a => a.2) (fun y => some (y 0)) (wsPart A t) (fun a y => mem_head a.2 y) (dwsT_emb h) _ fresh blocks (by decide) y).trans ?_
  rw [hB.read_unread]
  exact total_blocks _ _ (y 0)
theorem dbs_next (B : Memref sig .tc .vmem S4x128x1 .f32) (hB : B.IsWhole) (W : Vec Ideal S4x128x1 .f32) (y : S4x128x1.Idx) :
    (B.view.read (Elt Ideal) (B.view.writes (Elt Ideal) (hB.unread W) (Fill.fillOn B.view bsRect L.dbsT (hB.unread W) fresh blocks)) y : EReal)
      = W y + ∑ a : Fin 4, A.dbsPart (block t a) (y 0) (y 1) := by
  refine (Fill.read_fillOn B.view bsRect L.dbsT (fun a => a.2) (fun y => some (y 0)) (bsPart A t) (fun a y => mem_head a.2 y) (dbsT_emb h) _ fresh blocks (by decide) y).trans ?_
  rw [hB.read_unread]
  exact total_blocks _ _ (y 0)

/-! ## The sheet's rows -/

def Row.no : Row → ℕ
  | .ga | .gb => 0
  | .lng => 1
  | .lnb => 2
  | .c0 => 3
  | .c1 => 4
  | .c2 => 5

variable [layer : Layer]

/-- The row's store an index lies under. -/
def rowOf (y : S40x2816.Idx) : Option Row :=
  if (y 0).val = firstRow then if (y 1).val < 1024 then some .ga else if (y 1).val < 2048 then some .gb else none
  else if 512 ≤ (y 1).val then none
  else if (y 0).val = firstRow + 1 then some .lng
  else if (y 0).val = firstRow + 2 then some .lnb
  else if (y 0).val = firstRow + 3 then some .c0
  else if (y 0).val = firstRow + 4 then some .c1
  else if (y 0).val = firstRow + 5 then some .c2
  else none

/-- What point `t` adds to a row of the sheet. -/
abbrev sheetPart (A : Args) (t : Fin 16) (a : Row) (y : S40x2816.Idx) : EReal := ∑ p : Fin 512, A.part (row t p) a.no (y 1)

omit h in
theorem part_lo (n : Fin 8192) (r : ℕ) (g : Fin 512 → EReal)
    (hr : ∀ i : Fin 2816, A.part n r i = if hi : i.val < 512 then g ⟨i.val, hi⟩ else 0) (j : Fin 512) (i : Fin 2816) (e : i.val = j.val) :
    A.part n r i = g j :=
  (hr i).trans ((dif_pos (by omega)).trans (congrArg g (Fin.ext e)))

theorem rowT_emb (a : Row) (prev : (rowRect a).shape.Idx → Elt Ideal .f32) (x : (rowRect a).shape.Idx) :
    (rowT L a prev x : EReal) = prev x + sheetPart A t a ((rowRect a).emb x) := by
  cases a with
  | ga =>
    obtain ⟨z, j, rfl⟩ : ∃ (z : Fin 1) (j : Fin 1024), x = ix2 z j := ⟨x 0, x 1, eq_ix2 x⟩
    obtain rfl : z = 0 := Subsingleton.elim _ _
    show k0_pay20 (k0_pay18 prev) (k0_pay19 L.dmg (k0_pay8 L.pa) L.den Loads.one) (ix2 0 j) = _
    have hd := fun p' => dga_at h p' j
    unfold Loads.dga at hd
    pointwise [k0_pay20, k0_pay18, k0_pay19]
    simp only [hd]
    exact congrArg (prev (ix2 0 j) + ·) ((folded (fun p => A.dga (row t p) j) _ _ _ _).trans (Finset.sum_congr rfl fun p _ =>
      ((dif_pos (show 0 + 1 * j.val < 1024 by omega)).trans (congrArg (A.dga (row t p)) (Fin.ext (by show 0 + 1 * j.val = j.val; omega)))).symm))
  | gb =>
    obtain ⟨z, j, rfl⟩ : ∃ (z : Fin 1) (j : Fin 1024), x = ix2 z j := ⟨x 0, x 1, eq_ix2 x⟩
    obtain rfl : z = 0 := Subsingleton.elim _ _
    show k0_pay21 L.dgb prev (ix2 0 j) = _
    pointwise [k0_pay21]
    simp only [dgb_at h]
    exact congrArg (prev (ix2 0 j) + ·) ((folded (fun p => A.dgb (row t p) j) _ _ _ _).trans (Finset.sum_congr rfl fun p _ =>
      ((dif_neg (show ¬1024 + 1 * j.val < 1024 by omega)).trans ((dif_pos (show 1024 + 1 * j.val < 2048 by omega)).trans
        (congrArg (A.dgb (row t p)) (Fin.ext (by show 1024 + 1 * j.val - 1024 = j.val; omega))))).symm))
  | lng =>
    obtain ⟨z, j, rfl⟩ : ∃ (z : Fin 1) (j : Fin 512), x = ix2 z j := ⟨x 0, x 1, eq_ix2 x⟩
    obtain rfl : z = 0 := Subsingleton.elim _ _
    show k0_pay155 L.xh L.dvn prev (ix2 0 j) = _
    pointwise [k0_pay155]
    simp only [xh_at h, dvn_at h]
    exact congrArg (prev (ix2 0 j) + ·) (Finset.sum_congr rfl fun p _ =>
      (part_lo (row t p) 1 (fun j => A.dvn (row t p) j * norm (A.gv (row t p)) j) (fun _ => rfl) j _ (by show 0 + 1 * j.val = j.val; omega)).symm)
  | lnb =>
    obtain ⟨z, j, rfl⟩ : ∃ (z : Fin 1) (j : Fin 512), x = ix2 z j := ⟨x 0, x 1, eq_ix2 x⟩
    obtain rfl : z = 0 := Subsingleton.elim _ _
    show k0_pay156 L.dvn prev (ix2 0 j) = _
    pointwise [k0_pay156]
    simp only [dvn_at h]
    exact congrArg (prev (ix2 0 j) + ·) (Finset.sum_congr rfl fun p _ =>
      (part_lo (row t p) 2 (fun j => A.dvn (row t p) j) (fun _ => rfl) j _ (by show 0 + 1 * j.val = j.val; omega)).symm)
  | c0 =>
    obtain ⟨z, j, rfl⟩ : ∃ (z : Fin 1) (j : Fin 512), x = ix2 z j := ⟨x 0, x 1, eq_ix2 x⟩
    obtain rfl : z = 0 := Subsingleton.elim _ _
    show k0_pay171 L.q L.halo L.rot2 L.rot2l (iota .tc S16x512 32 [0] iota_S16x512_d0_w32) 14#32 prev (ix2 0 j) = _
    pointwise [k0_pay171]
    simp only [up2_at h, q_at h]
    exact congrArg (prev (ix2 0 j) + ·) ((folded (fun p => A.q (row t p) j * A.ext ((row t p).val + 2) j) _ _ _ _).trans (Finset.sum_congr rfl fun p _ =>
      (part_lo (row t p) 3 (fun j => A.q (row t p) j * A.ext ((row t p).val + 2) j) (fun _ => rfl) j _ (by show 0 + 1 * j.val = j.val; omega)).symm))
  | c1 =>
    obtain ⟨z, j, rfl⟩ : ∃ (z : Fin 1) (j : Fin 512), x = ix2 z j := ⟨x 0, x 1, eq_ix2 x⟩
    obtain rfl : z = 0 := Subsingleton.elim _ _
    show k0_pay172 L.q L.up1 prev (ix2 0 j) = _
    pointwise [k0_pay172]
    simp only [up1_at h, q_at h]
    exact congrArg (prev (ix2 0 j) + ·) ((folded (fun p => A.q (row t p) j * A.ext ((row t p).val + 1) j) _ _ _ _).trans (Finset.sum_congr rfl fun p _ =>
      (part_lo (row t p) 4 (fun j => A.q (row t p) j * A.ext ((row t p).val + 1) j) (fun _ => rfl) j _ (by show 0 + 1 * j.val = j.val; omega)).symm))
  | c2 =>
    obtain ⟨z, j, rfl⟩ : ∃ (z : Fin 1) (j : Fin 512), x = ix2 z j := ⟨x 0, x 1, eq_ix2 x⟩
    obtain rfl : z = 0 := Subsingleton.elim _ _
    show k0_pay175 (k0_pay173 prev) (k0_pay174 L.q L.dconv) (ix2 0 j) = _
    pointwise [k0_pay175, k0_pay173, k0_pay174]
    simp only [dconv_at h, q_at h]
    exact congrArg (prev (ix2 0 j) + ·) ((folded (fun p => A.q (row t p) j * A.dconv (row t p) j) _ _ _ _).trans (Finset.sum_congr rfl fun p _ =>
      (part_lo (row t p) 5 (fun j => A.q (row t p) j * A.dconv (row t p) j) (fun _ => rfl) j _ (by show 0 + 1 * j.val = j.val; omega)).symm))

omit h in
theorem mem_row (a : Row) (y : S40x2816.Idx) : y ∈ (rowRect a).set ↔ rowOf y = some a := by
  have h0 : (y 0).val < 40 := (y 0).isLt
  have h1 : (y 1).val < 2816 := (y 1).isLt
  unfold rowOf
  cases a <;> refine Rect.mem_set_unit.trans (Fin.forall_fin_two.trans ?_)
  · show (firstRow + 0 ≤ (y 0).val ∧ (y 0).val < firstRow + 0 + 1) ∧ (0 ≤ (y 1).val ∧ (y 1).val < 0 + 1024) ↔ _
    split_ifs <;> simp <;> omega
  · show (firstRow + 0 ≤ (y 0).val ∧ (y 0).val < firstRow + 0 + 1) ∧ (1024 ≤ (y 1).val ∧ (y 1).val < 1024 + 1024) ↔ _
    split_ifs <;> simp <;> omega
  · show (firstRow + 1 ≤ (y 0).val ∧ (y 0).val < firstRow + 1 + 1) ∧ (0 ≤ (y 1).val ∧ (y 1).val < 0 + 512) ↔ _
    split_ifs <;> simp <;> omega
  · show (firstRow + 2 ≤ (y 0).val ∧ (y 0).val < firstRow + 2 + 1) ∧ (0 ≤ (y 1).val ∧ (y 1).val < 0 + 512) ↔ _
    split_ifs <;> simp <;> omega
  · show (firstRow + 3 ≤ (y 0).val ∧ (y 0).val < firstRow + 3 + 1) ∧ (0 ≤ (y 1).val ∧ (y 1).val < 0 + 512) ↔ _
    split_ifs <;> simp <;> omega
  · show (firstRow + 4 ≤ (y 0).val ∧ (y 0).val < firstRow + 4 + 1) ∧ (0 ≤ (y 1).val ∧ (y 1).val < 0 + 512) ↔ _
    split_ifs <;> simp <;> omega
  · show (firstRow + 5 ≤ (y 0).val ∧ (y 0).val < firstRow + 5 + 1) ∧ (0 ≤ (y 1).val ∧ (y 1).val < 0 + 512) ↔ _
    split_ifs <;> simp <;> omega

omit h in
theorem total_rows (part : Row → EReal) (base : EReal) (k : Option Row) :
    Fill.total id part base k rows = base + (match k with | some a => part a | none => 0) := by
  rcases k with - | a
  · exact (add_zero base).symm
  · cases a <;> rfl

omit h in
theorem rowOf_part (y : S40x2816.Idx) (hy : firstRow ≤ (y 0).val ∧ (y 0).val < firstRow + 6) :
    (match rowOf y with | some a => sheetPart A t a y | none => 0) = ∑ p : Fin 512, A.part (row t p) ((y 0).val - firstRow) (y 1) := by
  have same : ∀ a : Row, (y 0).val - firstRow = a.no → sheetPart A t a y = ∑ p : Fin 512, A.part (row t p) ((y 0).val - firstRow) (y 1) :=
    fun a e => by rw [e]
  unfold rowOf
  split_ifs with c d e f g0 g1 g2 g3 g4
  · exact same .ga (by rw [c]; exact Nat.sub_self _)
  · exact same .gb (by rw [c]; exact Nat.sub_self _)
  · rw [c, Nat.sub_self]
    exact (Finset.sum_eq_zero fun p _ => (dif_neg d).trans (dif_neg e)).symm
  · refine (Finset.sum_eq_zero fun p _ => ?_).symm
    have hr : (y 0).val - firstRow = 1 ∨ (y 0).val - firstRow = 2 ∨ (y 0).val - firstRow = 3 ∨ (y 0).val - firstRow = 4
      ∨ (y 0).val - firstRow = 5 := by omega
    rcases hr with hr | hr | hr | hr | hr <;> rw [hr] <;> exact dif_neg (by omega)
  · exact same .lng (by rw [g0]; exact Nat.add_sub_cancel_left ..)
  · exact same .lnb (by rw [g1]; exact Nat.add_sub_cancel_left ..)
  · exact same .c0 (by rw [g2]; exact Nat.add_sub_cancel_left ..)
  · exact same .c1 (by rw [g3]; exact Nat.add_sub_cancel_left ..)
  · exact same .c2 (by rw [g4]; exact Nat.add_sub_cancel_left ..)
  · omega

omit h in
theorem rowOf_out (y : S40x2816.Idx) (hy : ¬(firstRow ≤ (y 0).val ∧ (y 0).val < firstRow + 6)) : rowOf y = none := by
  unfold rowOf
  split_ifs <;> first | rfl | omega

theorem sheet_first (B : Memref sig .tc .vmem S40x2816 .f32) (y : S40x2816.Idx) :
    (View.canon (Val := Elt Ideal) (Fill.fill B.view rowRect (rowT L) (outZero L) rows) y : EReal)
      = if firstRow ≤ (y 0).val ∧ (y 0).val < firstRow + 6 then 0 + ∑ p : Fin 512, A.part (row t p) ((y 0).val - firstRow) (y 1) else A.sheet y := by
  refine (Fill.canon_fill B.view rowRect (rowT L) id rowOf (sheetPart A t) mem_row (rowT_emb h) (outZero L) rows y).trans ?_
  refine (total_rows _ _ _).trans ?_
  split_ifs with hy
  · rw [rowOf_part y hy]
    suffices h0 : View.canon (Val := Elt Ideal) (outZero L) y = (0 : EReal) by rw [h0]
    unfold outZero
    refine (Pieces.canon_in _ _ _ y (ix2 ⟨(y 0).val - firstRow, by omega⟩ (y 1)) (Fin.forall_fin_two.mpr
      ⟨by show (y 0).val = firstRow + ((y 0).val - firstRow); omega, by show (y 1).val = 0 + (y 1).val; omega⟩)).trans ?_
    pointwise [k0_pay2]
  · rw [rowOf_out y hy]
    refine (add_zero _).trans ?_
    unfold outZero
    refine (Pieces.canon_out _ _ _ y 0 (by show (y 0).val < firstRow ∨ firstRow + 6 ≤ (y 0).val; omega)).trans ?_
    exact (Pieces.canon_in _ _ _ y y (Fin.forall_fin_two.mpr
      ⟨by show (y 0).val = 0 + (y 0).val; omega, by show (y 1).val = 0 + (y 1).val; omega⟩)).trans (h.sheet y)

theorem sheet_next (B : Memref sig .tc .vmem S40x2816 .f32) (hB : B.IsWhole) (W : Vec Ideal S40x2816 .f32) (y : S40x2816.Idx) :
    (B.view.read (Elt Ideal) (B.view.writes (Elt Ideal) (hB.unread W) (Fill.fillOn B.view rowRect (rowT L) (hB.unread W) (fun _ => true) rows)) y : EReal)
      = if firstRow ≤ (y 0).val ∧ (y 0).val < firstRow + 6 then W y + ∑ p : Fin 512, A.part (row t p) ((y 0).val - firstRow) (y 1) else W y := by
  refine (Fill.read_fillOn B.view rowRect (rowT L) id rowOf (sheetPart A t) mem_row (rowT_emb h) _ (fun _ => true) rows (by decide) y).trans ?_
  refine (total_rows _ _ _).trans ?_
  rw [hB.read_unread]
  split_ifs with hy
  · rw [rowOf_part y hy]
  · rw [rowOf_out y hy]
    exact add_zero _

end Cert.Kernel4Ideal.Body

end
-- ==== Proof.FwdBlock.lean ====
/- One point of the mixer's forward pass at an index: each tile is the formula's row. -/
module

public import proofs.«01_k».proof.Proof.FwdTiles
public import proofs.«01_k».proof.Proof.MixStores

@[expose] public section

set_option maxRecDepth 16384

noncomputable section

namespace Cert.Mix.Args

open Idealize.ShloMosaic Cert.Kernel4Ideal

/-! ## The forward pass -/

variable (A : Args) (n : Fin 8192)

/-- The product of the two columns `k` rows earlier, zero before the first row. -/
def lag (k : ℕ) (j : Fin 512) : EReal := if h : k ≤ n.val then A.q ⟨n.val - k, by omega⟩ j else 0
/-- The convolution, and the two branches before and after their products. -/
def conv (j : Fin 512) : EReal := A.wsc (ix2 0 j) * A.lag n 2 j + A.wsc (ix2 1 j) * A.lag n 1 j + A.wsc (ix2 2 j) * A.q n j
def ya (j : Fin 512) : EReal := gelu (A.u n j) * A.f n j
def yb (j : Fin 512) : EReal := A.zb n j * A.conv n j
def ea (k : Fin 1024) : EReal := ∑ j : Fin 512, A.ya n j * A.wb (ix3 0 j k)
def eb (k : Fin 1024) : EReal := ∑ j : Fin 512, A.yb n j * A.wb (ix3 1 j k)
/-- The gated sum of the branches, and the row it is added to. -/
def mg (k : Fin 1024) : EReal := A.sa n k * A.ea n k + A.sb n k * A.eb n k
def x1 (x : S8192x1024.Idx → EReal) (k : Fin 1024) : EReal := x (ix2 n k) + ∑ j : Fin 1024, A.mg n j * A.wo (ix2 j k)

end Cert.Mix.Args

namespace Cert.Kernel6Ideal.Body

open Cert.Kernel6Ideal Cert.Kernel6Ideal.Gen Cert.Mix
open Idealize.ShloMosaic Idealize.ShloMosaic.TcCoe Idealize.SL.Sem
open Cert.Kernel4Ideal.Body (half_f32 half_bf16 below_at row inRow row_in head_in place_in mate_in cut_at canon_blocks)
open Cert.Kernel2Ideal.Body (cmp_row)

/-! ## The constants and the mask -/

theorem named_c0 : (Named.named κ "gelu_c0" 0x3F4C422A#32 : Ideal .f32) = c0 := IdealRules.named_const.ideal_named_scalar _ _ _ _ rfl
theorem named_c0' : (Named.named κ "gelu_c0" 0x3F4C#16 : Ideal .bf16) = c0 := IdealRules.named_const.ideal_named_scalar _ _ _ _ rfl
theorem named_c1 : (Named.named κ "gelu_c1" 0x3D372713#32 : Ideal .f32) = c1 := IdealRules.named_const.ideal_named_scalar _ _ _ _ rfl
theorem named_c1' : (Named.named κ "gelu_c1" 0x3D37#16 : Ideal .bf16) = c1 := IdealRules.named_const.ideal_named_scalar _ _ _ _ rfl

theorem mask_at (i k : Fin 128) : (Loads.mask (ix2 i k) = (1 : BitVec 1)) ↔ keep i k := by
  pointwise [Loads.mask, k0_pay12, k0_pay8, k0_pay9, k0_pay10, k0_pay11]
  exact below_at i k

/-! ## The loads -/

/-- Row `p` of the rows before block `t`. -/
abbrev prev (t : Fin 16) (p : Fin 16) : Fin 8192 := ⟨16 * (32 * t.val - 1) + p.val, by omega⟩

/-- The loads are the arrays' rows. -/
structure At (L : Loads Ideal) (A : Args) (x : S8192x1024.Idx → EReal) (t : Fin 16) : Prop where
  num : Scalar.cmpi .sgt L.num 0#32 = (1 : BitVec 1) ↔ ¬t.val = 0
  u : ∀ p j, L.u (ix2 p j) = A.u (row t p) j
  v : ∀ p j, L.v (ix2 p j) = A.v (row t p) j
  zb : ∀ p j, L.zb (ix2 p j) = A.zb (row t p) j
  zc : ∀ p j, L.zc (ix2 p j) = A.zc (row t p) j
  zh : ∀ p j, L.zh (ix2 p j) = A.zh (row t p) j
  za : ∀ p j, L.za (ix2 p j) = A.za (row t p) j
  zg : ∀ p j, L.zg (ix2 p j) = A.zg (row t p) j
  zpc : ∀ p j, L.zpc (ix2 p j) = A.zc (prev t p) j
  zph : ∀ p j, L.zph (ix2 p j) = A.zh (prev t p) j
  x : ∀ p k, L.x (ix2 p k) = x (ix2 (row t p) k)
  bg : ∀ k, L.bg (ix2 0 k) = A.bg (ix1 k)
  lng : ∀ j, L.lng (ix2 0 j) = A.lng (ix1 j)
  lnb : ∀ j, L.lnb (ix2 0 j) = A.lnb (ix1 j)
  ws : ∀ h i k, L.ws h (ix3 0 i k) = A.ws (ix3 h i k)
  bs : ∀ h i, L.bs h (ix3 0 i 0) = A.bs (ix2 h i)
  wsc : ∀ r j, L.wsc (ix2 r j) = A.wsc (ix2 r j)
  wba : ∀ j k, L.wba (ix3 0 j k) = A.wb (ix3 0 j k)
  wbb : ∀ j k, L.wbb (ix3 0 j k) = A.wb (ix3 1 j k)
  wo : ∀ j k, L.wo (ix2 j k) = A.wo (ix2 j k)

variable {L : Loads Ideal} {A : Args} {x : S8192x1024.Idx → EReal} {t : Fin 16} (h : At L A x t)
include h

/-! ## The mixing branch -/

theorem gu_at (p : Fin 512) (j : Fin 512) : L.gu (ix2 p j) = gelu (A.u (row t p) j) := by
  pointwise [Loads.gu, k0_pay4]
  rw [half_bf16, named_c0', named_c1', h.u]
  rfl
theorem centred_at (p : Fin 512) (j : Fin 512) : k0_pay5 L.v (ix2 p j) = centred (A.gv (row t p)) j := by
  pointwise [k0_pay5]
  simp only [half_f32, named_c0, named_c1, h.v]
  rfl
theorem vn_at (p : Fin 512) (j : Fin 512) : L.vn (ix2 p j) = A.vn (row t p) j := by
  pointwise [Loads.vn, k0_pay7, k0_pay6, k0_pay2, k0_pay3]
  simp only [centred_at h, h.lng, h.lnb]
  rfl
theorem wm_at (a : Fin 4) (i k : Fin 128) : L.wm a (ix2 i k) = A.wm a i k := by
  have e := mask_at i k
  unfold Loads.mask at e
  pointwise [Loads.wm, k0_pay13]
  simp only [h.ws, Args.wm, Scalar.select, e]
theorem fT_at (a : Fin 4 × Fin 4) (i k : Fin 128) : L.fT a (ix2 i k) = A.f (row t (inRow a.1 i)) (headCol a.2 k) := by
  pointwise [Loads.fT]
  simp only [cut_at, wm_at h, vn_at h, h.bs, row_in, Args.f, head_in, place_in, mate_in]
theorem f_at (p j : Fin 512) : L.f (ix2 p j) = A.f (row t p) j := by
  unfold Loads.f
  rw [View.readCov_eq_canon']
  refine (canon_blocks (e := .bf16) L.fT (fun p j => A.f (row t p) j) (fT_at h) _).trans ?_
  exact congrArg₂ (fun p j => A.f (row t p) j) (Fin.ext (by show 0 + 1 * p.val = p.val; omega)) (Fin.ext (by show 0 + 1 * j.val = j.val; omega))
theorem ya_at (p j : Fin 512) : L.ya (ix2 p j) = A.ya (row t p) j := by
  pointwise [Loads.ya, k0_pay38]
  simp only [gu_at h, f_at h, Args.ya]
theorem ea_at (p : Fin 512) (k : Fin 1024) : L.pa (ix2 p k) = A.ea (row t p) k := by
  pointwise [Loads.pa, k0_pay44]
  simp only [ya_at h, h.wba, Args.ea]

/-! ## The convolution's branch -/

theorem q_at (p j : Fin 512) : L.q (ix2 p j) = A.q (row t p) j := by
  pointwise [Loads.q, k0_pay39]
  simp only [h.zc, h.zh, Args.q]
theorem qp_at (p : Fin 16) (j : Fin 512) : L.qp (ix2 p j) = if t.val = 0 then 0 else A.q (prev t p) j := by
  pointwise [Loads.qp, k0_pay40]
  simp only [h.zpc, h.zph, Args.q, Scalar.select, h.num, ite_not]
omit h in
/-- The lagged product where the earlier row is in the block. -/
theorem lag_turn (t : Fin 16) (p : Fin 512) (k : ℕ) (e : Fin 512) (hk : k ≤ p.val) (he : e.val + k = p.val) (j : Fin 512) :
    A.q (row t e) j = A.lag (row t p) k j := by
  unfold Args.lag
  rw [dif_pos (show k ≤ 512 * t.val + p.val by omega)]
  refine congrArg (fun r => A.q r j) (Fin.ext ?_)
  show 512 * t.val + e.val = 512 * t.val + p.val - k
  omega
omit h in
/-- The lagged product where the earlier row is before the block. -/
theorem lag_before (t : Fin 16) (p : Fin 512) (k : ℕ) (e : Fin 16) (hk : p.val < k) (he : e.val + k = 16 + p.val) (j : Fin 512) :
    (if t.val = 0 then 0 else A.q (prev t e) j) = A.lag (row t p) k j := by
  unfold Args.lag
  by_cases h0 : t.val = 0
  · rw [if_pos h0, dif_neg (show ¬k ≤ 512 * t.val + p.val by omega)]
  · rw [if_neg h0, dif_pos (show k ≤ 512 * t.val + p.val by omega)]
    refine congrArg (fun r => A.q r j) (Fin.ext ?_)
    show 16 * (32 * t.val - 1) + e.val = 512 * t.val + p.val - k
    omega

theorem cv_at (p j : Fin 512) : L.cv (ix2 p j) = A.conv (row t p) j := by
  have hp := p.isLt
  have ht := t.isLt
  pointwise [Loads.cv, k0_pay42, Loads.taps, k0_pay41]
  simp only [q_at h, qp_at h, h.wsc, Scalar.select]
  unfold Args.conv
  refine congrArg₂ (· + ·) (congrArg₂ (· + ·) (congrArg₂ (· * ·) rfl ?_) (congrArg₂ (· * ·) rfl ?_)) rfl
  · by_cases h16 : p.val < 16
    · rw [dif_pos h16]
      by_cases h1 : p.val = 1
      · rw [if_pos ((cmp_row _ 1 h16 (by omega)).mpr h1)]
        exact lag_before t p 2 15 (by omega) (by show 15 + 2 = 16 + p.val; omega) j
      rw [if_neg fun e => h1 ((cmp_row _ 1 h16 (by omega)).mp e)]
      by_cases h0 : p.val = 0
      · rw [if_pos ((cmp_row _ 0 h16 (by omega)).mpr h0)]
        exact lag_before t p 2 14 (by omega) (by show 14 + 2 = 16 + p.val; omega) j
      rw [if_neg fun e => h0 ((cmp_row _ 0 h16 (by omega)).mp e)]
      exact lag_turn t p 2 _ (by omega) (by show (p.val + 512 - 2) % 512 + 2 = p.val; omega) j
    · rw [dif_neg h16]
      exact lag_turn t p 2 _ (by omega) (by show (16 + (p.val - 16) + 512 - 2) % 512 + 2 = p.val; omega) j
  · by_cases h16 : p.val < 16
    · rw [dif_pos h16]
      by_cases h0 : p.val = 0
      · rw [if_pos ((cmp_row _ 0 h16 (by omega)).mpr h0)]
        exact lag_before t p 1 15 (by omega) (by show 15 + 1 = 16 + p.val; omega) j
      rw [if_neg fun e => h0 ((cmp_row _ 0 h16 (by omega)).mp e)]
      exact lag_turn t p 1 _ (by omega) (by show (p.val + 512 - 1) % 512 + 1 = p.val; omega) j
    · rw [dif_neg h16]
      exact lag_turn t p 1 _ (by omega) (by show (16 + (p.val - 16) + 512 - 1) % 512 + 1 = p.val; omega) j
theorem yb_at (p j : Fin 512) : L.yb (ix2 p j) = A.yb (row t p) j := by
  have e := cv_at h p j
  unfold Loads.cv at e
  pointwise [Loads.yb, k0_pay43]
  rw [e, h.zb]
  rfl
theorem eb_at (p : Fin 512) (k : Fin 1024) : L.pb (ix2 p k) = A.eb (row t p) k := by
  pointwise [Loads.pb, k0_pay45]
  simp only [yb_at h, h.wbb, Args.eb]

/-! ## The gated sum -/

theorem mg_at (p : Fin 512) (k : Fin 1024) : L.mg (ix2 p k) = A.mg (row t p) k := by
  have ea := ea_at h p k
  have eb := eb_at h p k
  unfold Loads.pa at ea
  unfold Loads.pb at eb
  pointwise [Loads.mg, k0_pay46]
  simp only [ea, eb, h.za, h.zg, h.bg, Args.mg, Args.sa, Args.sb, sg]
theorem x1_at (p : Fin 512) (k : Fin 1024) : L.x1 (ix2 p k) = A.x1 (row t p) x k := by
  pointwise [Loads.x1, k0_pay1]
  simp only [mg_at h, h.x, h.wo, Args.x1]

end Cert.Kernel6Ideal.Body

end
-- ==== Proof.FwdFrame.lean ====
/- The whole run of the mixer's forward pass: what each point leaves, the launch, and the arguments left as
   they were. -/
module

public import proofs.«01_k».proof.Proof.FwdRun

@[expose] public section

set_option maxRecDepth 16384

noncomputable section

namespace Cert.Kernel6Ideal.Body

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Before the launch -/

/-- The buffers as the launch finds them: the host's six operations done. -/
abbrev V (c : Dev nD) (b : Ref sig .tc) : Buf (Elt F) ((c : Thread nD τ).loc b) := StableHlo.after hostOps0 (fun b => m (c, b)) b

theorem hostOps_fresh : (hostOps0 : List (HloOp τ sig (Elt F))).Forall fun op => op.fresh = ∅ := by
  simp only [List.Forall]; repeat' constructor

set_option maxHeartbeats 4000000 in
theorem toLaunch (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps_fresh main_chain

/-- The argument buffers. -/
abbrev IsArg (b : Ref sig .tc) : Prop := b ∈ [main_arg0, main_arg1, main_arg2, main_arg3, main_arg4, main_arg5, main_arg6, main_arg7, main_arg8, main_arg9]

/-- A buffer that is no argument is none of them. -/
theorem not_arg {b r : Ref sig .tc} (hb : IsArg b) (hr : ¬IsArg r) : Proc.devRef (τ := τ) .tc b ≠ Proc.devRef .tc r :=
  StableHlo.devRef_ne_of_ne fun e => hr (e ▸ hb)

/-- An argument is as at the start. -/
theorem V_kept (c : Dev nD) (b : Ref sig .tc) (hb : IsArg b) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨not_arg hb (by decide), not_arg hb (by decide), not_arg hb (by decide), not_arg hb (by decide), not_arg hb (by decide), not_arg hb (by decide)⟩))

/-! ## Each point -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks read at point `t`. -/
def ins (c : Dev nD) (t : Fin cfg0.N) : Ins F where
  z := iblk m c 0 t
  zp := iblk m c 1 t
  x := iblk m c 2 t
  bg := iblk m c 3 t
  lng := iblk m c 4 t
  lnb := iblk m c 5 t
  ws := iblk m c 6 t
  bs := iblk m c 7 t
  wsc := iblk m c 8 t
  wb := iblk m c 9 t
  wo := iblk m c 10 t

/-- The buffers in use at point `t`. -/
def bufs (t : Fin cfg0.N) : Bufs where
  z := win0_0.stage (cfg0.slots t 0)
  hz := hstage0_0 ((cfg0.slots t 0).cast nbuf0_0)
  zp := win0_1.stage (cfg0.slots t 1)
  hzp := hstage0_1 ((cfg0.slots t 1).cast nbuf0_1)
  x := win0_2.stage (cfg0.slots t 2)
  hx := hstage0_2 ((cfg0.slots t 2).cast nbuf0_2)
  bg := win0_3.stage (cfg0.slots t 3)
  hbg := hstage0_3 ((cfg0.slots t 3).cast nbuf0_3)
  lng := win0_4.stage (cfg0.slots t 4)
  hlng := hstage0_4 ((cfg0.slots t 4).cast nbuf0_4)
  lnb := win0_5.stage (cfg0.slots t 5)
  hlnb := hstage0_5 ((cfg0.slots t 5).cast nbuf0_5)
  ws := win0_6.stage (cfg0.slots t 6)
  hws := hstage0_6 ((cfg0.slots t 6).cast nbuf0_6)
  bs := win0_7.stage (cfg0.slots t 7)
  hbs := hstage0_7 ((cfg0.slots t 7).cast nbuf0_7)
  wsc := win0_8.stage (cfg0.slots t 8)
  hwsc := hstage0_8 ((cfg0.slots t 8).cast nbuf0_8)
  wb := win0_9.stage (cfg0.slots t 9)
  hwb := hstage0_9 ((cfg0.slots t 9).cast nbuf0_9)
  wo := win0_10.stage (cfg0.slots t 10)
  hwo := hstage0_10 ((cfg0.slots t 10).cast nbuf0_10)
  ya := win0_11.stage (cfg0.slots t 11)
  hya := hstage0_11 ((cfg0.slots t 11).cast nbuf0_11)
  yb := win0_12.stage (cfg0.slots t 12)
  hyb := hstage0_12 ((cfg0.slots t 12).cast nbuf0_12)
  cv := win0_13.stage (cfg0.slots t 13)
  hcv := hstage0_13 ((cfg0.slots t 13).cast nbuf0_13)
  pa := win0_14.stage (cfg0.slots t 14)
  hpa := hstage0_14 ((cfg0.slots t 14).cast nbuf0_14)
  pb := win0_15.stage (cfg0.slots t 15)
  hpb := hstage0_15 ((cfg0.slots t 15).cast nbuf0_15)
  mg := win0_16.stage (cfg0.slots t 16)
  hmg := hstage0_16 ((cfg0.slots t 16).cast nbuf0_16)
  x1 := win0_17.stage (cfg0.slots t 17)
  hx1 := hstage0_17 ((cfg0.slots t 17).cast nbuf0_17)

/-- What the seven results hold. -/
structure Outs (F : FTy → Type) where
  ya : Vec F S512x512 .bf16
  yb : Vec F S512x512 .bf16
  cv : Vec F S512x512 .bf16
  pa : Vec F S512x1024 .bf16
  pb : Vec F S512x1024 .bf16
  mg : Vec F S512x1024 .bf16
  x1 : Vec F S512x1024 .f32

/-- The blocks a point covers, read back. -/
abbrev yaView : View sig .tc .vmem S512x512 .bf16 := (Memref.whole cc0_stg11_0 : Memref sig .tc .vmem S512x512 .bf16).view
abbrev ybView : View sig .tc .vmem S512x512 .bf16 := (Memref.whole cc0_stg12_0 : Memref sig .tc .vmem S512x512 .bf16).view
abbrev cvView : View sig .tc .vmem S512x512 .bf16 := (Memref.whole cc0_stg13_0 : Memref sig .tc .vmem S512x512 .bf16).view
abbrev paView : View sig .tc .vmem S512x1024 .bf16 := (Memref.whole cc0_stg14_0 : Memref sig .tc .vmem S512x1024 .bf16).view
abbrev pbView : View sig .tc .vmem S512x1024 .bf16 := (Memref.whole cc0_stg15_0 : Memref sig .tc .vmem S512x1024 .bf16).view
abbrev mgView : View sig .tc .vmem S512x1024 .bf16 := (Memref.whole cc0_stg16_0 : Memref sig .tc .vmem S512x1024 .bf16).view
abbrev x1View : View sig .tc .vmem S512x1024 .f32 := (Memref.whole cc0_stg17_0 : Memref sig .tc .vmem S512x1024 .f32).view

section Covers

variable (c : Dev nD) (i : grid0.Coords) (B : Bufs) (I : Ins F)

theorem ya_covered (y : S512x512.Idx) : ∃ pc ∈ (runPoint c i B I).1, y ∈ pc.1.set :=
  View.cover_of_tiledL _ S512x512.size (by sl_kernel_rfl) y
theorem yb_covered (y : S512x512.Idx) : ∃ pc ∈ (runPoint c i B I).2.1, y ∈ pc.1.set :=
  View.cover_of_tiledL _ S512x512.size (by sl_kernel_rfl) y
theorem cv_covered (y : S512x512.Idx) : ∃ pc ∈ (runPoint c i B I).2.2.1, y ∈ pc.1.set :=
  View.cover_of_tiledL _ S512x512.size (by sl_kernel_rfl) y
theorem pa_covered (y : S512x1024.Idx) : ∃ pc ∈ (runPoint c i B I).2.2.2.1, y ∈ pc.1.set :=
  View.cover_of_tiledL _ S512x1024.size (by sl_kernel_rfl) y
theorem pb_covered (y : S512x1024.Idx) : ∃ pc ∈ (runPoint c i B I).2.2.2.2.1, y ∈ pc.1.set :=
  View.cover_of_tiledL _ S512x1024.size (by sl_kernel_rfl) y
theorem mg_covered (y : S512x1024.Idx) : ∃ pc ∈ (runPoint c i B I).2.2.2.2.2.1, y ∈ pc.1.set :=
  View.cover_of_tiledL _ S512x1024.size (by sl_kernel_rfl) y
theorem x1_covered (y : S512x1024.Idx) : ∃ pc ∈ (runPoint c i B I).2.2.2.2.2.2.1, y ∈ pc.1.set :=
  View.cover_of_tiledL _ S512x1024.size (by sl_kernel_rfl) y

end Covers

/-- What the results hold after a point. -/
def outs (c : Dev nD) (t : Fin cfg0.N) : Outs F where
  ya := yaView.read (Elt F) (yaView.writes (Elt F) yaView.junk (runPoint c (grid0.coords t) (bufs t) (ins m c t)).1)
  yb := ybView.read (Elt F) (ybView.writes (Elt F) ybView.junk (runPoint c (grid0.coords t) (bufs t) (ins m c t)).2.1)
  cv := cvView.read (Elt F) (cvView.writes (Elt F) cvView.junk (runPoint c (grid0.coords t) (bufs t) (ins m c t)).2.2.1)
  pa := paView.read (Elt F) (paView.writes (Elt F) paView.junk (runPoint c (grid0.coords t) (bufs t) (ins m c t)).2.2.2.1)
  pb := pbView.read (Elt F) (pbView.writes (Elt F) pbView.junk (runPoint c (grid0.coords t) (bufs t) (ins m c t)).2.2.2.2.1)
  mg := mgView.read (Elt F) (mgView.writes (Elt F) mgView.junk (runPoint c (grid0.coords t) (bufs t) (ins m c t)).2.2.2.2.2.1)
  x1 := x1View.read (Elt F) (x1View.writes (Elt F) x1View.junk (runPoint c (grid0.coords t) (bufs t) (ins m c t)).2.2.2.2.2.2.1)

/-! ## The launch -/

/-- The blocks stay, the results are as the points leave them; an array two windows read is shared between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outs m c t).ya
    | ⟨12, _⟩ => (outs m c t).yb
    | ⟨13, _⟩ => (outs m c t).cv
    | ⟨14, _⟩ => (outs m c t).pa
    | ⟨15, _⟩ => (outs m c t).pb
    | ⟨16, _⟩ => (outs m c t).mg
    | ⟨17, _⟩ => (outs m c t).x1
    | ⟨n + 18, h⟩ => absurd h (Nat.not_lt.mpr (Nat.le_add_left 18 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_ya (c : Dev nD) (t : Fin cfg0.N) : (dats m 0 c).after 11 t = (outs m c t).ya := by dsimp only [dats]
theorem after_yb (c : Dev nD) (t : Fin cfg0.N) : (dats m 0 c).after 12 t = (outs m c t).yb := by dsimp only [dats]
theorem after_cv (c : Dev nD) (t : Fin cfg0.N) : (dats m 0 c).after 13 t = (outs m c t).cv := by dsimp only [dats]
theorem after_pa (c : Dev nD) (t : Fin cfg0.N) : (dats m 0 c).after 14 t = (outs m c t).pa := by dsimp only [dats]
theorem after_pb (c : Dev nD) (t : Fin cfg0.N) : (dats m 0 c).after 15 t = (outs m c t).pb := by dsimp only [dats]
theorem after_mg (c : Dev nD) (t : Fin cfg0.N) : (dats m 0 c).after 16 t = (outs m c t).mg := by dsimp only [dats]
theorem after_x1 (c : Dev nD) (t : Fin cfg0.N) : (dats m 0 c).after 17 t = (outs m c t).x1 := by dsimp only [dats]

set_option maxHeartbeats 4000000 in
/-- Every read window holds its block at every point. -/
theorem found (c : Dev nD) (t : Fin cfg0.N) :
    (∀ d, (dats m 0 c).before 0 t d = (ins m c t).z)
      ∧ (∀ d, (dats m 0 c).before 1 t d = (ins m c t).zp)
      ∧ (∀ d, (dats m 0 c).before 2 t d = (ins m c t).x)
      ∧ (∀ d, (dats m 0 c).before 3 t d = (ins m c t).bg)
      ∧ (∀ d, (dats m 0 c).before 4 t d = (ins m c t).lng)
      ∧ (∀ d, (dats m 0 c).before 5 t d = (ins m c t).lnb)
      ∧ (∀ d, (dats m 0 c).before 6 t d = (ins m c t).ws)
      ∧ (∀ d, (dats m 0 c).before 7 t d = (ins m c t).bs)
      ∧ (∀ d, (dats m 0 c).before 8 t d = (ins m c t).wsc)
      ∧ (∀ d, (dats m 0 c).before 9 t d = (ins m c t).wb)
      ∧ (∀ d, (dats m 0 c).before 10 t d = (ins m c t).wo) := by
  refine ⟨fun d => ?_, fun d => ?_, fun d => ?_, fun d => ?_, fun d => ?_, fun d => ?_, fun d => ?_, fun d => ?_, fun d => ?_, fun d => ?_, fun d => ?_⟩ <;>
    exact (Dat.before_in_eq_fetched _ _ rfl (fun _ => rfl) (fun _ _ _ => rfl)
      (fun t => by unfold Dat.blockOf; rw [A_eq]; rfl) t d).trans
        (by unfold Dat.fetched Dat.blockOf; rw [A_eq]; rfl)

/-- What point `t` starts from. -/
def starts (c : Dev nD) (t : Fin cfg0.N) : sProp 𝕄 :=
  iprop((dats m 0 c).Φ t.castSucc ∗ (dats m 0 c).owesAt () t.castSucc
    ∗ (∃ d, owns (c : Thread nD τ) (bufs t).z fullShare ((dats m 0 c).before 0 t d))
    ∗ (∃ d, owns (c : Thread nD τ) (bufs t).zp fullShare ((dats m 0 c).before 1 t d))
    ∗ (∃ d, owns (c : Thread nD τ) (bufs t).x fullShare ((dats m 0 c).before 2 t d))
    ∗ (∃ d, owns (c : Thread nD τ) (bufs t).bg fullShare ((dats m 0 c).before 3 t d))
    ∗ (∃ d, owns (c : Thread nD τ) (bufs t).lng fullShare ((dats m 0 c).before 4 t d))
    ∗ (∃ d, owns (c : Thread nD τ) (bufs t).lnb fullShare ((dats m 0 c).before 5 t d))
    ∗ (∃ d, owns (c : Thread nD τ) (bufs t).ws fullShare ((dats m 0 c).before 6 t d))
    ∗ (∃ d, owns (c : Thread nD τ) (bufs t).bs fullShare ((dats m 0 c).before 7 t d))
    ∗ (∃ d, owns (c : Thread nD τ) (bufs t).wsc fullShare ((dats m 0 c).before 8 t d))
    ∗ (∃ d, owns (c : Thread nD τ) (bufs t).wb fullShare ((dats m 0 c).before 9 t d))
    ∗ (∃ d, owns (c : Thread nD τ) (bufs t).wo fullShare ((dats m 0 c).before 10 t d))
    ∗ (∃ d, owns (c : Thread nD τ) (bufs t).ya fullShare ((dats m 0 c).before 11 t d))
    ∗ (∃ d, owns (c : Thread nD τ) (bufs t).yb fullShare ((dats m 0 c).before 12 t d))
    ∗ (∃ d, owns (c : Thread nD τ) (bufs t).cv fullShare ((dats m 0 c).before 13 t d))
    ∗ (∃ d, owns (c : Thread nD τ) (bufs t).pa fullShare ((dats m 0 c).before 14 t d))
    ∗ (∃ d, owns (c : Thread nD τ) (bufs t).pb fullShare ((dats m 0 c).before 15 t d))
    ∗ (∃ d, owns (c : Thread nD τ) (bufs t).mg fullShare ((dats m 0 c).before 16 t d))
    ∗ (∃ d, owns (c : Thread nD τ) (bufs t).x1 fullShare ((dats m 0 c).before 17 t d)))

/-- What it ends with, the blocks together and the results at `r`. -/
def ends (c : Dev nD) (t : Fin cfg0.N) (r : Outs F) : sProp 𝕄 :=
  iprop((dats m 0 c).Φ t.succ ∗ (dats m 0 c).owesAt () t.succ ∗ held c (bufs t) (ins m c t)
    ∗ owns (c : Thread nD τ) (bufs t).ya fullShare r.ya
    ∗ owns (c : Thread nD τ) (bufs t).yb fullShare r.yb
    ∗ owns (c : Thread nD τ) (bufs t).cv fullShare r.cv
    ∗ owns (c : Thread nD τ) (bufs t).pa fullShare r.pa
    ∗ owns (c : Thread nD τ) (bufs t).pb fullShare r.pb
    ∗ owns (c : Thread nD τ) (bufs t).mg fullShare r.mg
    ∗ owns (c : Thread nD τ) (bufs t).x1 fullShare r.x1)

/-- The launch's invariant is the spare buffer and the generator's register. -/
theorem inv_eq (c : Dev nD) (n : Fin (cfg0.N + 1)) : (dats (F := F) m 0 c).Φ n = iprop(spare c ∗ ∃ r, prngReg c r) := by
  show Pipeline.ΦA spec0 c = _
  unfold Pipeline.ΦA spare
  rw [scopedRest0_eq]
  simp only [owns_whole]

set_option maxHeartbeats 4000000 in
theorem point (c : Dev nD) (t : Fin cfg0.N) : starts m c t
    ⊢ wp frame (wpE (defs₀ (F := F)) Variants.none c none) Set.univ ((bufs t).body (grid0.coords t)) fun _ => ends m c t (outs m c t) := by
  obtain ⟨e0, e1, e2, e3, e4, e5, e6, e7, e8, e9, e10⟩ := found m c t
  unfold starts ends
  simp only [e0, e1, e2, e3, e4, e5, e6, e7, e8, e9, e10, inv_eq]
  rw [show (dats m 0 c).owesAt () t.succ = (dats m 0 c).owesAt () t.castSucc from rfl]
  unfold outs
  dsimp only
  iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runPoint c (grid0.coords t) (bufs t) (ins m c t)).2.2.2.2.2.2.2 Set.univ _)
  isplitl [H0 H1 H2 H3 H4 H5 H6 H7 H8 H9 H10]
  · unfold held
    iframe
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [HΦ]; · iexact HΦ
  iintro ⟨Hh, ⟨%f11, H11⟩, ⟨%f12, H12⟩, ⟨%f13, H13⟩, ⟨%f14, H14⟩, ⟨%f15, H15⟩, ⟨%f16, H16⟩, ⟨%f17, H17⟩, HΦ⟩
  isplitl [HΦ Hr]
  · isplitl [HΦ]; · iexact HΦ
    iexact Hr
  isplitl [Ho]; · iexact Ho
  isplitl [Hh]; · iexact Hh
  isplitl [H11]
  · unfold owns; iexists _; isplitr
    swap; · iexact H11
    ipureintro; exact View.read_writes_of_cover _ _ _ _ _ (ya_covered c _ _ _)
  isplitl [H12]
  · unfold owns; iexists _; isplitr
    swap; · iexact H12
    ipureintro; exact View.read_writes_of_cover _ _ _ _ _ (yb_covered c _ _ _)
  isplitl [H13]
  · unfold owns; iexists _; isplitr
    swap; · iexact H13
    ipureintro; exact View.read_writes_of_cover _ _ _ _ _ (cv_covered c _ _ _)
  isplitl [H14]
  · unfold owns; iexists _; isplitr
    swap; · iexact H14
    ipureintro; exact View.read_writes_of_cover _ _ _ _ _ (pa_covered c _ _ _)
  isplitl [H15]
  · unfold owns; iexists _; isplitr
    swap; · iexact H15
    ipureintro; exact View.read_writes_of_cover _ _ _ _ _ (pb_covered c _ _ _)
  isplitl [H16]
  · unfold owns; iexists _; isplitr
    swap; · iexact H16
    ipureintro; exact View.read_writes_of_cover _ _ _ _ _ (mg_covered c _ _ _)
  unfold owns; iexists _; isplitr
  swap; · iexact H17
  ipureintro; exact View.read_writes_of_cover _ _ _ _ _ (x1_covered c _ _ _)

theorem row_eq (t : Fin cfg0.N) : defs₀ (F := F) .tc cfg0.body (cfg0.bodyArgs t (cfg0.slots t)) = (bufs t).body (grid0.coords t) := by
  unfold defs₀; rw [Defs.onTc_tc]; rfl

attribute [local irreducible] outs in
theorem obligation (c : Dev nD) : BodyObligation (dats (F := F) m 0 c) (defs₀ (F := F)) Variants.none () Set.univ := fun t => by
  rw [bigSep_W0, bigSep_W0, row_eq]
  refine triple_restated (point m c t) rfl .rfl fun _ => ?_
  unfold ends held
  iintro ⟨HΦ, Ho, ⟨H0, H1, H2, H3, H4, H5, H6, H7, H8, H9, H10⟩, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

set_option backward.isDefEq.respectTransparency.types false in
/-- The launch runs to its end and leaves what the points leave. -/
theorem run : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := toLaunch m Variants.none) (hA := A_eq m) (hΦ := fun _ _ => rfl)

/-- An argument the launch only reads ends as it was. -/
theorem read_kept {r : _} (h : Pipeline.FramePost cfgs (dats m) 0 (V m) r) (c : Dev nD) (w : Fin cfg0.W) (hw : (cfg0.win w).isOut = false)
    (ha : IsArg (Pipeline.arrRef spec0 w)) :
    r.2.mem ((c.tc : Thread nD τ).loc (Pipeline.arrRef spec0 w)) = m ((c.tc : Thread nD τ).loc (Pipeline.arrRef spec0 w)) :=
  ((h c).1 w).trans (((dats m 0 c).arrAt_in w hw _).trans ((A_eq m c w).trans (V_kept m c _ ha)))

/-- An argument the launch does not touch ends as it was. -/
theorem rest_kept {r : _} (h : Pipeline.FramePost cfgs (dats m) 0 (V m) r) (c : Dev nD) (b : Ref sig .tc)
    (hb : b ∈ Pipeline.restRefs sig spec0) (ha : IsArg b) :
    r.2.mem ((c.tc : Thread nD τ).loc b) = m ((c.tc : Thread nD τ).loc b) :=
  ((h c).2 b hb).trans (V_kept m c b ha)

/-- The ten arguments end as they were. -/
def Kept (e : (ℓ : Loc nD τ sig) → Buf (Elt F) ℓ) : Prop := ∀ c : Dev nD,
    e ((c.tc : Thread nD τ).loc main_arg0) = m ((c.tc : Thread nD τ).loc main_arg0)
      ∧ e ((c.tc : Thread nD τ).loc main_arg1) = m ((c.tc : Thread nD τ).loc main_arg1)
      ∧ e ((c.tc : Thread nD τ).loc main_arg2) = m ((c.tc : Thread nD τ).loc main_arg2)
      ∧ e ((c.tc : Thread nD τ).loc main_arg3) = m ((c.tc : Thread nD τ).loc main_arg3)
      ∧ e ((c.tc : Thread nD τ).loc main_arg4) = m ((c.tc : Thread nD τ).loc main_arg4)
      ∧ e ((c.tc : Thread nD τ).loc main_arg5) = m ((c.tc : Thread nD τ).loc main_arg5)
      ∧ e ((c.tc : Thread nD τ).loc main_arg6) = m ((c.tc : Thread nD τ).loc main_arg6)
      ∧ e ((c.tc : Thread nD τ).loc main_arg7) = m ((c.tc : Thread nD τ).loc main_arg7)
      ∧ e ((c.tc : Thread nD τ).loc main_arg8) = m ((c.tc : Thread nD τ).loc main_arg8)
      ∧ e ((c.tc : Thread nD τ).loc main_arg9) = m ((c.tc : Thread nD τ).loc main_arg9)

theorem run_kept : θ_run defs (onTc (τ := τ) (main (F := F))) ⟨m, fun _ => 0, ρ⟩
    (fun r => (Pipeline.FramePost cfgs (dats m) 0 (V m) r ∧ r.2.sem = fun _ => 0) ∧ Kept m r.2.mem) :=
  (θ_run defs _ _).mono (fun _ h => ⟨h, fun c =>
    ⟨read_kept m h.1 c 0 rfl (by decide),
      read_kept m h.1 c 2 rfl (by decide),
      rest_kept m h.1 c main_arg2 (Pipeline.mem_restRefs_of main_arg2 (by decide) (by decide)) (by decide),
      rest_kept m h.1 c main_arg3 (Pipeline.mem_restRefs_of main_arg3 (by decide) (by decide)) (by decide),
      rest_kept m h.1 c main_arg4 (Pipeline.mem_restRefs_of main_arg4 (by decide) (by decide)) (by decide),
      read_kept m h.1 c 6 rfl (by decide),
      rest_kept m h.1 c main_arg6 (Pipeline.mem_restRefs_of main_arg6 (by decide) (by decide)) (by decide),
      read_kept m h.1 c 8 rfl (by decide),
      rest_kept m h.1 c main_arg8 (Pipeline.mem_restRefs_of main_arg8 (by decide) (by decide)) (by decide),
      rest_kept m h.1 c main_arg9 (Pipeline.mem_restRefs_of main_arg9 (by decide) (by decide)) (by decide)⟩⟩) (run m ρ)

/-- The launch leaves its ten arguments and every counter as they were. -/
theorem frame : θ_run defs (onTc (τ := τ) (main (F := F))) ⟨m, fun _ => 0, ρ⟩ (fun r => Kept m r.2.mem ∧ r.2.sem = fun _ => 0) :=
  (θ_run defs _ _).mono (fun _ h => ⟨h.2, h.1.2⟩) (run_kept m ρ)

end Cert.Kernel6Ideal.Body

end
-- ==== Proof.MixFrame.lean ====
/- The whole run of the mixer's backward pass: what each point leaves, the launch, and the arguments left as they were. -/
module

public import proofs.«01_k».proof.Proof.MixRun

@[expose] public section

set_option maxRecDepth 16384

noncomputable section

namespace Cert.Kernel4Ideal.Body

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Before the launch -/

/-- The host's operations, in five stretches: the forward lines that compute the saved values, then the reshapes and casts. -/
abbrev hostOps : List (List (HloOp τ sig (Elt F))) := [hostOps0, hostOps0_1, hostOps0_2, hostOps0_3, hostOps0_4]

/-- The buffers as the launch finds them: the host's operations done. -/
abbrev V (c : Dev nD) (b : Ref sig .tc) : Buf (Elt F) ((c : Thread nD τ).loc b) := StableHlo.after hostOps.flatten (fun b => m (c, b)) b

theorem hostOps_sub : (hostOps (F := F)).Forall fun ops => ops.Forall fun op => op.bufs ⊆ StableHlo.tcRefs τ sig :=
  ⟨hostOps0_sub, hostOps0_1_sub, hostOps0_2_sub, hostOps0_3_sub, hostOps0_4_sub⟩

set_option maxHeartbeats 4000000 in
theorem hostOps_fresh : (hostOps (F := F)).Forall fun ops => ops.Forall fun op => op.fresh = ∅ := by
  simp only [List.Forall]; repeat' constructor

set_option maxHeartbeats 4000000 in
theorem toLaunch [Layer] (𝒱₀ : Variants) : Pipeline.HMain (Ix := Unit) (Name := ℕ) (U := UR sig nD τ) (Lvl := ℕ) cfgs 0 bodies 𝒱₀ m (main (F := F)) (V m) :=
  Pipeline.hmain_prefixes cfgs 0 bodies 𝒱₀ m main hostOps hostOps_sub hostOps_fresh main_chain

/-- The argument buffers. -/
abbrev IsArg (b : Ref sig .tc) : Prop :=
  b ∈ [main_arg0, main_arg1, main_arg2, main_arg3, main_arg4, main_arg5, main_arg6, main_arg7, main_arg8, main_arg9, main_arg10]

/-- A buffer that is no argument is none of them. -/
theorem not_arg {b r : Ref sig .tc} (hb : IsArg b) (hr : ¬IsArg r) : Proc.devRef (τ := τ) .tc b ≠ Proc.devRef .tc r :=
  StableHlo.devRef_ne_of_ne fun e => hr (e ▸ hb)

set_option maxHeartbeats 4000000 in
/-- An argument is as at the start. -/
theorem V_kept (c : Dev nD) (b : Ref sig .tc) (hb : IsArg b) : V m c b = m ((c : Thread nD τ).loc b) :=
  StableHlo.after_of_forall_not_mem (b := Proc.devRef .tc b) _ _ (List.forall_iff_forall_mem.mp (by
    simp only [hostOps, hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact not_arg hb (by decide)))

/-! ## Each point -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks read at point `t`. -/
def ins (c : Dev nD) (t : Fin cfg0.N) : Ins F where
  dx := iblk m c 0 t
  dxn := iblk m c 1 t
  z := iblk m c 2 t
  zn := iblk m c 3 t
  cv := iblk m c 4 t
  pa := iblk m c 5 t
  pb := iblk m c 6 t
  bg := iblk m c 7 t
  lng := iblk m c 8 t
  lnb := iblk m c 9 t
  ws := iblk m c 10 t
  wst := iblk m c 11 t
  bs := iblk m c 12 t
  wsc := iblk m c 13 t
  wo := iblk m c 14 t
  wb := iblk m c 15 t
  sheet := iblk m c 16 t

/-- The buffers in use at point `t`. -/
def bufs (t : Fin cfg0.N) : Bufs where
  dx := win0_0.stage (cfg0.slots t 0)
  hdx := hstage0_0 ((cfg0.slots t 0).cast nbuf0_0)
  dxn := win0_1.stage (cfg0.slots t 1)
  hdxn := hstage0_1 ((cfg0.slots t 1).cast nbuf0_1)
  z := win0_2.stage (cfg0.slots t 2)
  hz := hstage0_2 ((cfg0.slots t 2).cast nbuf0_2)
  zn := win0_3.stage (cfg0.slots t 3)
  hzn := hstage0_3 ((cfg0.slots t 3).cast nbuf0_3)
  cv := win0_4.stage (cfg0.slots t 4)
  hcv := hstage0_4 ((cfg0.slots t 4).cast nbuf0_4)
  pa := win0_5.stage (cfg0.slots t 5)
  hpa := hstage0_5 ((cfg0.slots t 5).cast nbuf0_5)
  pb := win0_6.stage (cfg0.slots t 6)
  hpb := hstage0_6 ((cfg0.slots t 6).cast nbuf0_6)
  bg := win0_7.stage (cfg0.slots t 7)
  hbg := hstage0_7 ((cfg0.slots t 7).cast nbuf0_7)
  lng := win0_8.stage (cfg0.slots t 8)
  hlng := hstage0_8 ((cfg0.slots t 8).cast nbuf0_8)
  lnb := win0_9.stage (cfg0.slots t 9)
  hlnb := hstage0_9 ((cfg0.slots t 9).cast nbuf0_9)
  ws := win0_10.stage (cfg0.slots t 10)
  hws := hstage0_10 ((cfg0.slots t 10).cast nbuf0_10)
  wst := win0_11.stage (cfg0.slots t 11)
  hwst := hstage0_11 ((cfg0.slots t 11).cast nbuf0_11)
  bs := win0_12.stage (cfg0.slots t 12)
  hbs := hstage0_12 ((cfg0.slots t 12).cast nbuf0_12)
  wsc := win0_13.stage (cfg0.slots t 13)
  hwsc := hstage0_13 ((cfg0.slots t 13).cast nbuf0_13)
  wo := win0_14.stage (cfg0.slots t 14)
  hwo := hstage0_14 ((cfg0.slots t 14).cast nbuf0_14)
  wb := win0_15.stage (cfg0.slots t 15)
  hwb := hstage0_15 ((cfg0.slots t 15).cast nbuf0_15)
  sheet := win0_16.stage (cfg0.slots t 16)
  hsheet := hstage0_16 ((cfg0.slots t 16).cast nbuf0_16)
  dz := win0_17.stage (cfg0.slots t 17)
  hdz := hstage0_17 ((cfg0.slots t 17).cast nbuf0_17)
  dpa := win0_18.stage (cfg0.slots t 18)
  hdpa := hstage0_18 ((cfg0.slots t 18).cast nbuf0_18)
  dpb := win0_19.stage (cfg0.slots t 19)
  hdpb := hstage0_19 ((cfg0.slots t 19).cast nbuf0_19)
  dws := win0_20.stage (cfg0.slots t 20)
  hdws := hstage0_20 ((cfg0.slots t 20).cast nbuf0_20)
  dbs := win0_21.stage (cfg0.slots t 21)
  hdbs := hstage0_21 ((cfg0.slots t 21).cast nbuf0_21)
  out := win0_22.stage (cfg0.slots t 22)
  hout := hstage0_22 ((cfg0.slots t 22).cast nbuf0_22)

/-- What the six results hold. -/
structure Outs (F : FTy → Type) where
  dz : Vec F S512x4608 .bf16
  dpa : Vec F S512x1024 .bf16
  dpb : Vec F S512x1024 .bf16
  dws : Vec F S4x128x128 .f32
  dbs : Vec F S4x128x1 .f32
  out : Vec F S40x2816 .f32

/-- The blocks a point covers, read back. -/
abbrev dzView : View sig .tc .vmem S512x4608 .bf16 := (Memref.whole cc0_stg17_0 : Memref sig .tc .vmem S512x4608 .bf16).view
abbrev dpaView : View sig .tc .vmem S512x1024 .bf16 := (Memref.whole cc0_stg18_0 : Memref sig .tc .vmem S512x1024 .bf16).view
abbrev dpbView : View sig .tc .vmem S512x1024 .bf16 := (Memref.whole cc0_stg19_0 : Memref sig .tc .vmem S512x1024 .bf16).view
abbrev dwsView : View sig .tc .vmem S4x128x128 .f32 := (Memref.whole cc0_stg20_0 : Memref sig .tc .vmem S4x128x128 .f32).view
abbrev dbsView : View sig .tc .vmem S4x128x1 .f32 := (Memref.whole cc0_stg21_0 : Memref sig .tc .vmem S4x128x1 .f32).view
abbrev outView : View sig .tc .vmem S40x2816 .f32 := (Memref.whole cc0_stg22_0 : Memref sig .tc .vmem S40x2816 .f32).view

variable [layer : Layer]

section Covers

variable (c : Dev nD) (i : grid0.Coords) (B : Bufs) (I : Ins F)

theorem dz_covered_first (hc : first i) (y : S512x4608.Idx) : ∃ pc ∈ (runFirst c i B hc I).1, y ∈ pc.1.set := by
  rcases layer with ⟨_ | _⟩ <;> exact View.cover_of_tiledBy _ ![512, 512] (by sl_kernel_rfl) y
theorem dpa_covered_first (hc : first i) (y : S512x1024.Idx) : ∃ pc ∈ (runFirst c i B hc I).2.1, y ∈ pc.1.set := by
  rcases layer with ⟨_ | _⟩ <;> exact View.cover_of_tiledL _ S512x1024.size (by sl_kernel_rfl) y
theorem dpb_covered_first (hc : first i) (y : S512x1024.Idx) : ∃ pc ∈ (runFirst c i B hc I).2.2.1, y ∈ pc.1.set := by
  rcases layer with ⟨_ | _⟩ <;> exact View.cover_of_tiledL _ S512x1024.size (by sl_kernel_rfl) y
theorem dws_covered_first (hc : first i) (y : S4x128x128.Idx) : ∃ pc ∈ (runFirst c i B hc I).2.2.2.1, y ∈ pc.1.set := by
  rcases layer with ⟨_ | _⟩ <;> exact View.cover_of_tiledBy _ ![1, 128, 128] (by sl_kernel_rfl) y
theorem dbs_covered_first (hc : first i) (y : S4x128x1.Idx) : ∃ pc ∈ (runFirst c i B hc I).2.2.2.2.1, y ∈ pc.1.set := by
  rcases layer with ⟨_ | _⟩ <;> exact View.cover_of_tiledBy _ ![1, 128, 1] (by sl_kernel_rfl) y
theorem out_covered_first (hc : first i) (y : S40x2816.Idx) : ∃ pc ∈ (runFirst c i B hc I).2.2.2.2.2.1, y ∈ pc.1.set := by
  rcases layer with ⟨_ | _⟩ <;> exact View.cover_of_tiledBy _ ![1, 256] (by sl_kernel_rfl) y
theorem dz_covered_next (hc : ¬first i) (W : Vec F S4x128x128 .f32) (S : Vec F S4x128x1 .f32) (O : Vec F S40x2816 .f32) (y : S512x4608.Idx) :
    ∃ pc ∈ (runNext c i B hc I W S O).1, y ∈ pc.1.set := by
  rcases layer with ⟨_ | _⟩ <;> exact View.cover_of_tiledBy _ ![512, 512] (by sl_kernel_rfl) y
theorem dpa_covered_next (hc : ¬first i) (W : Vec F S4x128x128 .f32) (S : Vec F S4x128x1 .f32) (O : Vec F S40x2816 .f32) (y : S512x1024.Idx) :
    ∃ pc ∈ (runNext c i B hc I W S O).2.1, y ∈ pc.1.set := by
  rcases layer with ⟨_ | _⟩ <;> exact View.cover_of_tiledL _ S512x1024.size (by sl_kernel_rfl) y
theorem dpb_covered_next (hc : ¬first i) (W : Vec F S4x128x128 .f32) (S : Vec F S4x128x1 .f32) (O : Vec F S40x2816 .f32) (y : S512x1024.Idx) :
    ∃ pc ∈ (runNext c i B hc I W S O).2.2.1, y ∈ pc.1.set := by
  rcases layer with ⟨_ | _⟩ <;> exact View.cover_of_tiledL _ S512x1024.size (by sl_kernel_rfl) y

end Covers

/-- What the results hold after the first point. -/
def afterFirst (c : Dev nD) (t : Fin cfg0.N) (h : first (grid0.coords t)) : Outs F where
  dz := dzView.read (Elt F) (dzView.writes (Elt F) dzView.junk (runFirst c (grid0.coords t) (bufs t) h (ins m c t)).1)
  dpa := dpaView.read (Elt F) (dpaView.writes (Elt F) dpaView.junk (runFirst c (grid0.coords t) (bufs t) h (ins m c t)).2.1)
  dpb := dpbView.read (Elt F) (dpbView.writes (Elt F) dpbView.junk (runFirst c (grid0.coords t) (bufs t) h (ins m c t)).2.2.1)
  dws := dwsView.read (Elt F) (dwsView.writes (Elt F) dwsView.junk (runFirst c (grid0.coords t) (bufs t) h (ins m c t)).2.2.2.1)
  dbs := dbsView.read (Elt F) (dbsView.writes (Elt F) dbsView.junk (runFirst c (grid0.coords t) (bufs t) h (ins m c t)).2.2.2.2.1)
  out := outView.read (Elt F) (outView.writes (Elt F) outView.junk (runFirst c (grid0.coords t) (bufs t) h (ins m c t)).2.2.2.2.2.1)

/-- What they hold after a later point that found them at `o`. -/
def afterNext (c : Dev nD) (t : Fin cfg0.N) (h : ¬first (grid0.coords t)) (o : Outs F) : Outs F where
  dz := dzView.read (Elt F) (dzView.writes (Elt F) dzView.junk (runNext c (grid0.coords t) (bufs t) h (ins m c t) o.dws o.dbs o.out).1)
  dpa := dpaView.read (Elt F) (dpaView.writes (Elt F) dpaView.junk (runNext c (grid0.coords t) (bufs t) h (ins m c t) o.dws o.dbs o.out).2.1)
  dpb := dpbView.read (Elt F) (dpbView.writes (Elt F) dpbView.junk (runNext c (grid0.coords t) (bufs t) h (ins m c t) o.dws o.dbs o.out).2.2.1)
  dws := (bufs t).dws.view.read (Elt F) ((bufs t).dws.view.writes (Elt F) ((bufs t).hdws.unread o.dws)
    (runNext c (grid0.coords t) (bufs t) h (ins m c t) o.dws o.dbs o.out).2.2.2.1)
  dbs := (bufs t).dbs.view.read (Elt F) ((bufs t).dbs.view.writes (Elt F) ((bufs t).hdbs.unread o.dbs)
    (runNext c (grid0.coords t) (bufs t) h (ins m c t) o.dws o.dbs o.out).2.2.2.2.1)
  out := (bufs t).out.view.read (Elt F) ((bufs t).out.view.writes (Elt F) ((bufs t).hout.unread o.out)
    (runNext c (grid0.coords t) (bufs t) h (ins m c t) o.dws o.dbs o.out).2.2.2.2.2.1)

/-- What the results hold after the `n`-th point. -/
def outs (c : Dev nD) : (n : ℕ) → n < cfg0.N → Outs F
  | 0, h => afterFirst m c ⟨0, h⟩ ((first_iff ⟨0, h⟩).mpr rfl)
  | n + 1, h => afterNext m c ⟨n + 1, h⟩ (fun e => Nat.succ_ne_zero n ((first_iff ⟨n + 1, h⟩).mp e)) (outs c n (Nat.lt_of_succ_lt h))

theorem pred_lt (t : Fin cfg0.N) : t.val - 1 < cfg0.N := Nat.lt_of_le_of_lt (Nat.sub_le _ _) t.isLt

theorem outs_first (c : Dev nD) (t : Fin cfg0.N) (h : t.val = 0) :
    outs m c t.val t.isLt = afterFirst m c t ((first_iff t).mpr h) := by
  obtain ⟨n, hn⟩ := t
  obtain rfl : n = 0 := h
  rw [outs]

theorem outs_next (c : Dev nD) (t : Fin cfg0.N) (h : ¬t.val = 0) :
    outs m c t.val t.isLt = afterNext m c t (fun e => h ((first_iff t).mp e)) (outs m c (t.val - 1) (pred_lt t)) := by
  obtain ⟨n, hn⟩ := t
  cases n with
  | zero => exact absurd rfl h
  | succ n => rw [outs]; rfl

/-! ## The launch -/

/-- The blocks stay, the results are as the points leave them; an array two windows read is shared between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outs m c t.val t.isLt).dz
    | ⟨18, _⟩ => (outs m c t.val t.isLt).dpa
    | ⟨19, _⟩ => (outs m c t.val t.isLt).dpb
    | ⟨20, _⟩ => (outs m c t.val t.isLt).dws
    | ⟨21, _⟩ => (outs m c t.val t.isLt).dbs
    | ⟨22, _⟩ => (outs m c t.val t.isLt).out
    | ⟨n + 23, h⟩ => absurd h (Nat.not_lt.mpr (Nat.le_add_left 23 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_dz (c : Dev nD) (t : Fin cfg0.N) : (dats m 0 c).after 17 t = (outs m c t.val t.isLt).dz := by dsimp only [dats]
theorem after_dpa (c : Dev nD) (t : Fin cfg0.N) : (dats m 0 c).after 18 t = (outs m c t.val t.isLt).dpa := by dsimp only [dats]
theorem after_dpb (c : Dev nD) (t : Fin cfg0.N) : (dats m 0 c).after 19 t = (outs m c t.val t.isLt).dpb := by dsimp only [dats]
theorem after_dws (c : Dev nD) (t : Fin cfg0.N) : (dats m 0 c).after 20 t = (outs m c t.val t.isLt).dws := by dsimp only [dats]
theorem after_dbs (c : Dev nD) (t : Fin cfg0.N) : (dats m 0 c).after 21 t = (outs m c t.val t.isLt).dbs := by dsimp only [dats]
theorem after_out (c : Dev nD) (t : Fin cfg0.N) : (dats m 0 c).after 22 t = (outs m c t.val t.isLt).out := by dsimp only [dats]

set_option maxHeartbeats 4000000 in
/-- Every read window holds its block at every point. -/
theorem found (c : Dev nD) (t : Fin cfg0.N) :
    (∀ d, (dats m 0 c).before 0 t d = (ins m c t).dx)
      ∧ (∀ d, (dats m 0 c).before 1 t d = (ins m c t).dxn)
      ∧ (∀ d, (dats m 0 c).before 2 t d = (ins m c t).z)
      ∧ (∀ d, (dats m 0 c).before 3 t d = (ins m c t).zn)
      ∧ (∀ d, (dats m 0 c).before 4 t d = (ins m c t).cv)
      ∧ (∀ d, (dats m 0 c).before 5 t d = (ins m c t).pa)
      ∧ (∀ d, (dats m 0 c).before 6 t d = (ins m c t).pb)
      ∧ (∀ d, (dats m 0 c).before 7 t d = (ins m c t).bg)
      ∧ (∀ d, (dats m 0 c).before 8 t d = (ins m c t).lng)
      ∧ (∀ d, (dats m 0 c).before 9 t d = (ins m c t).lnb)
      ∧ (∀ d, (dats m 0 c).before 10 t d = (ins m c t).ws)
      ∧ (∀ d, (dats m 0 c).before 11 t d = (ins m c t).wst)
      ∧ (∀ d, (dats m 0 c).before 12 t d = (ins m c t).bs)
      ∧ (∀ d, (dats m 0 c).before 13 t d = (ins m c t).wsc)
      ∧ (∀ d, (dats m 0 c).before 14 t d = (ins m c t).wo)
      ∧ (∀ d, (dats m 0 c).before 15 t d = (ins m c t).wb)
      ∧ (∀ d, (dats m 0 c).before 16 t d = (ins m c t).sheet) := by
  refine ⟨fun d => ?_, fun d => ?_, fun d => ?_, fun d => ?_, fun d => ?_, fun d => ?_, fun d => ?_, fun d => ?_, fun d => ?_, fun d => ?_, fun d => ?_, fun d => ?_, fun d => ?_, fun d => ?_, fun d => ?_, fun d => ?_, fun d => ?_⟩ <;>
    exact (Dat.before_in_eq_fetched _ _ rfl (fun _ => rfl) (fun _ _ _ => rfl)
      (fun t => by unfold Dat.blockOf; rw [A_eq]; rfl) t d).trans
        (by unfold Dat.fetched Dat.blockOf; rw [A_eq]; rfl)

/-- At a later point the carried results are what the point before left. -/
theorem found_out (c : Dev nD) (t : Fin cfg0.N) (h : ¬t.val = 0) :
    (∀ d, (dats m 0 c).before 20 t d = (outs m c (t.val - 1) (pred_lt t)).dws)
      ∧ (∀ d, (dats m 0 c).before 21 t d = (outs m c (t.val - 1) (pred_lt t)).dbs)
      ∧ ∀ d, (dats m 0 c).before 22 t d = (outs m c (t.val - 1) (pred_lt t)).out := by
  have ht : t.val < 16 := lt_of_lt_of_eq t.isLt N_0
  refine ⟨fun d => ?_, fun d => ?_, fun d => ?_⟩
  · rw [Dat.before_out_kept _ 20 rfl t (by omega)
      (Bool.eq_false_iff.mpr fun e => by have := (flush0_20 _).mp e; dsimp only at this; omega) (fun _ => rfl) (fun _ _ => rfl)]
    dsimp only [dats]
  · rw [Dat.before_out_kept _ 21 rfl t (by omega)
      (Bool.eq_false_iff.mpr fun e => by have := (flush0_21 _).mp e; dsimp only at this; omega) (fun _ => rfl) (fun _ _ => rfl)]
    dsimp only [dats]
  · rw [Dat.before_out_kept _ 22 rfl t (by omega)
      (Bool.eq_false_iff.mpr fun e => by have := (flush0_22 _).mp e; dsimp only at this; omega) (fun _ => rfl) (fun _ _ => rfl)]
    dsimp only [dats]

/-- What point `t` starts from. -/
def starts (c : Dev nD) (t : Fin cfg0.N) : sProp 𝕄 :=
  iprop((dats m 0 c).Φ t.castSucc ∗ (dats m 0 c).owesAt () t.castSucc
    ∗ (∃ d, owns (c : Thread nD τ) (bufs t).dx fullShare ((dats m 0 c).before 0 t d))
    ∗ (∃ d, owns (c : Thread nD τ) (bufs t).dxn fullShare ((dats m 0 c).before 1 t d))
    ∗ (∃ d, owns (c : Thread nD τ) (bufs t).z fullShare ((dats m 0 c).before 2 t d))
    ∗ (∃ d, owns (c : Thread nD τ) (bufs t).zn fullShare ((dats m 0 c).before 3 t d))
    ∗ (∃ d, owns (c : Thread nD τ) (bufs t).cv fullShare ((dats m 0 c).before 4 t d))
    ∗ (∃ d, owns (c : Thread nD τ) (bufs t).pa fullShare ((dats m 0 c).before 5 t d))
    ∗ (∃ d, owns (c : Thread nD τ) (bufs t).pb fullShare ((dats m 0 c).before 6 t d))
    ∗ (∃ d, owns (c : Thread nD τ) (bufs t).bg fullShare ((dats m 0 c).before 7 t d))
    ∗ (∃ d, owns (c : Thread nD τ) (bufs t).lng fullShare ((dats m 0 c).before 8 t d))
    ∗ (∃ d, owns (c : Thread nD τ) (bufs t).lnb fullShare ((dats m 0 c).before 9 t d))
    ∗ (∃ d, owns (c : Thread nD τ) (bufs t).ws fullShare ((dats m 0 c).before 10 t d))
    ∗ (∃ d, owns (c : Thread nD τ) (bufs t).wst fullShare ((dats m 0 c).before 11 t d))
    ∗ (∃ d, owns (c : Thread nD τ) (bufs t).bs fullShare ((dats m 0 c).before 12 t d))
    ∗ (∃ d, owns (c : Thread nD τ) (bufs t).wsc fullShare ((dats m 0 c).before 13 t d))
    ∗ (∃ d, owns (c : Thread nD τ) (bufs t).wo fullShare ((dats m 0 c).before 14 t d))
    ∗ (∃ d, owns (c : Thread nD τ) (bufs t).wb fullShare ((dats m 0 c).before 15 t d))
    ∗ (∃ d, owns (c : Thread nD τ) (bufs t).sheet fullShare ((dats m 0 c).before 16 t d))
    ∗ (∃ d, owns (c : Thread nD τ) (bufs t).dz fullShare ((dats m 0 c).before 17 t d))
    ∗ (∃ d, owns (c : Thread nD τ) (bufs t).dpa fullShare ((dats m 0 c).before 18 t d))
    ∗ (∃ d, owns (c : Thread nD τ) (bufs t).dpb fullShare ((dats m 0 c).before 19 t d))
    ∗ (∃ d, owns (c : Thread nD τ) (bufs t).dws fullShare ((dats m 0 c).before 20 t d))
    ∗ (∃ d, owns (c : Thread nD τ) (bufs t).dbs fullShare ((dats m 0 c).before 21 t d))
    ∗ (∃ d, owns (c : Thread nD τ) (bufs t).out fullShare ((dats m 0 c).before 22 t d)))

/-- What it ends with, the blocks together and the results at `r`. -/
def ends (c : Dev nD) (t : Fin cfg0.N) (r : Outs F) : sProp 𝕄 :=
  iprop((dats m 0 c).Φ t.succ ∗ (dats m 0 c).owesAt () t.succ ∗ held c (bufs t) (ins m c t)
    ∗ owns (c : Thread nD τ) (bufs t).dz fullShare r.dz
    ∗ owns (c : Thread nD τ) (bufs t).dpa fullShare r.dpa
    ∗ owns (c : Thread nD τ) (bufs t).dpb fullShare r.dpb
    ∗ owns (c : Thread nD τ) (bufs t).dws fullShare r.dws
    ∗ owns (c : Thread nD τ) (bufs t).dbs fullShare r.dbs
    ∗ owns (c : Thread nD τ) (bufs t).out fullShare r.out)

/-- The launch's invariant is the two spare buffers and the generator's register. -/
theorem inv_eq (c : Dev nD) (n : Fin (cfg0.N + 1)) : (dats (F := F) m 0 c).Φ n = iprop(spare c ∗ ∃ r, prngReg c r) := by
  show Pipeline.ΦA spec0 c = _
  unfold Pipeline.ΦA spare
  rw [scopedRest0_eq]
  simp only [owns_whole]

set_option maxHeartbeats 4000000 in
theorem point (c : Dev nD) (t : Fin cfg0.N) : starts m c t
    ⊢ wp frame (wpE (bodies (F := F)) Variants.none c none) Set.univ ((bufs t).body (grid0.coords t)) fun _ => ends m c t (outs m c t.val t.isLt) := by
  obtain ⟨e0, e1, e2, e3, e4, e5, e6, e7, e8, e9, e10, e11, e12, e13, e14, e15, e16⟩ := found m c t
  unfold starts ends
  simp only [e0, e1, e2, e3, e4, e5, e6, e7, e8, e9, e10, e11, e12, e13, e14, e15, e16, inv_eq]
  rw [show (dats m 0 c).owesAt () t.succ = (dats m 0 c).owesAt () t.castSucc from rfl]
  by_cases h : t.val = 0
  · rw [outs_first m c t h]
    unfold afterFirst
    dsimp only
    iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runFirst c (grid0.coords t) (bufs t) ((first_iff t).mpr h) (ins m c t)).2.2.2.2.2.2 Set.univ _)
    isplitl [H0 H1 H2 H3 H4 H5 H6 H7 H8 H9 H10 H11 H12 H13 H14 H15 H16]
    · unfold held
      iframe
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HΦ]; · iexact HΦ
    iintro ⟨Hh, ⟨%f17, H17⟩, ⟨%f18, H18⟩, ⟨%f19, H19⟩, ⟨%f20, H20⟩, ⟨%f21, H21⟩, ⟨%f22, H22⟩, HΦ⟩
    isplitl [HΦ Hr]
    · isplitl [HΦ]; · iexact HΦ
      iexact Hr
    isplitl [Ho]; · iexact Ho
    isplitl [Hh]; · iexact Hh
    isplitl [H17]
    · unfold owns; iexists _; isplitr
      swap; · iexact H17
      ipureintro; exact View.read_writes_of_cover _ _ _ _ _ (dz_covered_first c _ _ _ _)
    isplitl [H18]
    · unfold owns; iexists _; isplitr
      swap; · iexact H18
      ipureintro; exact View.read_writes_of_cover _ _ _ _ _ (dpa_covered_first c _ _ _ _)
    isplitl [H19]
    · unfold owns; iexists _; isplitr
      swap; · iexact H19
      ipureintro; exact View.read_writes_of_cover _ _ _ _ _ (dpb_covered_first c _ _ _ _)
    isplitl [H20]
    · unfold owns; iexists _; isplitr
      swap; · iexact H20
      ipureintro; exact View.read_writes_of_cover _ _ _ _ _ (dws_covered_first c _ _ _ _)
    isplitl [H21]
    · unfold owns; iexists _; isplitr
      swap; · iexact H21
      ipureintro; exact View.read_writes_of_cover _ _ _ _ _ (dbs_covered_first c _ _ _ _)
    unfold owns; iexists _; isplitr
    swap; · iexact H22
    ipureintro; exact View.read_writes_of_cover _ _ _ _ _ (out_covered_first c _ _ _ _)
  · rw [outs_next m c t h]
    obtain ⟨e20, e21, e22⟩ := found_out m c t h
    simp only [e20, e21, e22]
    unfold afterNext
    dsimp only
    iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((runNext c (grid0.coords t) (bufs t) (fun e => h ((first_iff t).mp e)) (ins m c t) _ _ _).2.2.2.2.2.2 Set.univ _)
    isplitl [H0 H1 H2 H3 H4 H5 H6 H7 H8 H9 H10 H11 H12 H13 H14 H15 H16]
    · unfold held
      iframe
    isplitl [H17]; · iexists _; iexact H17
    isplitl [H18]; · iexists _; iexact H18
    isplitl [H19]; · iexists _; iexact H19
    isplitl [H20]; · iexact H20
    isplitl [H21]; · iexact H21
    isplitl [H22]; · iexact H22
    isplitl [HΦ]; · iexact HΦ
    iintro ⟨Hh, ⟨%f17, H17⟩, ⟨%f18, H18⟩, ⟨%f19, H19⟩, H20, H21, H22, HΦ⟩
    isplitl [HΦ Hr]
    · isplitl [HΦ]; · iexact HΦ
      iexact Hr
    isplitl [Ho]; · iexact Ho
    isplitl [Hh]; · iexact Hh
    isplitl [H17]
    · unfold owns; iexists _; isplitr
      swap; · iexact H17
      ipureintro; exact View.read_writes_of_cover _ _ _ _ _ (dz_covered_next c _ _ _ _ _ _ _)
    isplitl [H18]
    · unfold owns; iexists _; isplitr
      swap; · iexact H18
      ipureintro; exact View.read_writes_of_cover _ _ _ _ _ (dpa_covered_next c _ _ _ _ _ _ _)
    isplitl [H19]
    · unfold owns; iexists _; isplitr
      swap; · iexact H19
      ipureintro; exact View.read_writes_of_cover _ _ _ _ _ (dpb_covered_next c _ _ _ _ _ _ _)
    isplitl [H20]
    · unfold owns; iexists _; isplitr
      swap; · iexact H20
      ipureintro; rfl
    isplitl [H21]
    · unfold owns; iexists _; isplitr
      swap; · iexact H21
      ipureintro; rfl
    unfold owns; iexists _; isplitr
    swap; · iexact H22
    ipureintro; rfl

theorem row_eq (t : Fin cfg0.N) : bodies (F := F) .tc cfg0.body (cfg0.bodyArgs t (cfg0.slots t)) = (bufs t).body (grid0.coords t) := by
  rcases layer with ⟨_ | _⟩
  · show Cert.Kernel10Ideal.defs₀ (F := F) .tc cfg0.body (cfg0.bodyArgs t (cfg0.slots t)) = _
    unfold Cert.Kernel10Ideal.defs₀; sl_kernel_rfl
  · show defs₀ (F := F) .tc cfg0.body (cfg0.bodyArgs t (cfg0.slots t)) = _
    unfold defs₀; rw [Defs.onTc_tc]; rfl

theorem obligation (c : Dev nD) : BodyObligation (dats (F := F) m 0 c) (bodies (F := F)) Variants.none () Set.univ := fun t => by
  rw [bigSep_W0, bigSep_W0, row_eq]
  refine triple_restated (point m c t) rfl .rfl fun _ => ?_
  unfold ends held
  iintro ⟨HΦ, Ho, ⟨H0, H1, H2, H3, H4, H5, H6, H7, H8, H9, H10, H11, H12, H13, H14, H15, H16⟩, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The launch's table of bodies. -/
abbrev allDefs : Defs nD τ sig (Elt F) (Pipeline.Sig Λ₀ (Fin 1) fun p => (pcfgs (F := F) p).Adm) := Pipeline.defs pcfgs bodies

set_option backward.isDefEq.respectTransparency.types false in
/-- The launch runs to its end and leaves what the points leave. -/
theorem run : θ_run allDefs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 bodies Variants.none m ρ main
    (hbody := fun c => (obligation m c).loose) (hq := fun _ _ _ => rfl)
    (howed := fun _ _ => rfl) (V := V m) (hmain := toLaunch m Variants.none) (hA := A_eq m) (hΦ := fun _ _ => rfl)

/-- An argument the launch only reads ends as it was. -/
theorem read_kept {r : _} (h : Pipeline.FramePost cfgs (dats m) 0 (V m) r) (c : Dev nD) (w : Fin cfg0.W) (hw : (cfg0.win w).isOut = false)
    (ha : IsArg (Pipeline.arrRef spec0 w)) :
    r.2.mem ((c.tc : Thread nD τ).loc (Pipeline.arrRef spec0 w)) = m ((c.tc : Thread nD τ).loc (Pipeline.arrRef spec0 w)) :=
  ((h c).1 w).trans (((dats m 0 c).arrAt_in w hw _).trans ((A_eq m c w).trans (V_kept m c _ ha)))

/-- An argument the launch does not touch ends as it was. -/
theorem rest_kept {r : _} (h : Pipeline.FramePost cfgs (dats m) 0 (V m) r) (c : Dev nD) (b : Ref sig .tc)
    (hb : b ∈ Pipeline.restRefs sig spec0) (ha : IsArg b) :
    r.2.mem ((c.tc : Thread nD τ).loc b) = m ((c.tc : Thread nD τ).loc b) :=
  ((h c).2 b hb).trans (V_kept m c b ha)

/-- The eleven arguments end as they were. -/
def Kept (e : (ℓ : Loc nD τ sig) → Buf (Elt F) ℓ) : Prop := ∀ c : Dev nD,
    e ((c.tc : Thread nD τ).loc main_arg0) = m ((c.tc : Thread nD τ).loc main_arg0)
      ∧ e ((c.tc : Thread nD τ).loc main_arg1) = m ((c.tc : Thread nD τ).loc main_arg1)
      ∧ e ((c.tc : Thread nD τ).loc main_arg2) = m ((c.tc : Thread nD τ).loc main_arg2)
      ∧ e ((c.tc : Thread nD τ).loc main_arg3) = m ((c.tc : Thread nD τ).loc main_arg3)
      ∧ e ((c.tc : Thread nD τ).loc main_arg4) = m ((c.tc : Thread nD τ).loc main_arg4)
      ∧ e ((c.tc : Thread nD τ).loc main_arg5) = m ((c.tc : Thread nD τ).loc main_arg5)
      ∧ e ((c.tc : Thread nD τ).loc main_arg6) = m ((c.tc : Thread nD τ).loc main_arg6)
      ∧ e ((c.tc : Thread nD τ).loc main_arg7) = m ((c.tc : Thread nD τ).loc main_arg7)
      ∧ e ((c.tc : Thread nD τ).loc main_arg8) = m ((c.tc : Thread nD τ).loc main_arg8)
      ∧ e ((c.tc : Thread nD τ).loc main_arg9) = m ((c.tc : Thread nD τ).loc main_arg9)
      ∧ e ((c.tc : Thread nD τ).loc main_arg10) = m ((c.tc : Thread nD τ).loc main_arg10)

theorem run_kept : θ_run allDefs (onTc (τ := τ) (main (F := F))) ⟨m, fun _ => 0, ρ⟩
    (fun r => (Pipeline.FramePost cfgs (dats m) 0 (V m) r ∧ r.2.sem = fun _ => 0) ∧ Kept m r.2.mem) :=
  (θ_run allDefs _ _).mono (fun _ h => ⟨h, fun c =>
    ⟨read_kept m h.1 c 0 rfl (by decide),
      read_kept m h.1 c 2 rfl (by decide),
      rest_kept m h.1 c main_arg2 (Pipeline.mem_restRefs_of main_arg2 (by decide) (by decide)) (by decide),
      rest_kept m h.1 c main_arg3 (Pipeline.mem_restRefs_of main_arg3 (by decide) (by decide)) (by decide),
      rest_kept m h.1 c main_arg4 (Pipeline.mem_restRefs_of main_arg4 (by decide) (by decide)) (by decide),
      read_kept m h.1 c 10 rfl (by decide),
      rest_kept m h.1 c main_arg6 (Pipeline.mem_restRefs_of main_arg6 (by decide) (by decide)) (by decide),
      read_kept m h.1 c 13 rfl (by decide),
      rest_kept m h.1 c main_arg8 (Pipeline.mem_restRefs_of main_arg8 (by decide) (by decide)) (by decide),
      rest_kept m h.1 c main_arg9 (Pipeline.mem_restRefs_of main_arg9 (by decide) (by decide)) (by decide),
      read_kept m h.1 c 16 rfl (by decide)⟩⟩) (run m ρ)

/-- The launch leaves its eleven arguments and every counter as they were. -/
theorem frame : θ_run allDefs (onTc (τ := τ) (main (F := F))) ⟨m, fun _ => 0, ρ⟩ (fun r => Kept m r.2.mem ∧ r.2.sem = fun _ => 0) :=
  (θ_run allDefs _ _).mono (fun _ h => ⟨h.2, h.1.2⟩) (run_kept m ρ)

end Cert.Kernel4Ideal.Body

end
-- ==== Proof.MixArray.lean ====
/- What the mixer's backward pass leaves in its six result arrays, as functions of its arguments and of the saved values. -/
module

public import proofs.«01_k».proof.Proof.MixStores
public import proofs.«01_k».proof.Proof.MixFrame
public import Idealize.ShloMosaic.Lib.WholeRead

@[expose] public section

set_option maxRecDepth 16384

noncomputable section

namespace Cert.Kernel4Ideal.Body

open Cert.Kernel4Ideal Cert.Kernel4Ideal.Gen Cert.Mix
open Idealize.ShloMosaic Idealize.ShloMosaic.TcCoe Idealize.SL.Sem
open Idealize.ShloMosaic.Pipeline (Dat)

/-! ## Loads from whole buffers -/

theorem read_cols {σ : RefSig} {a b w o : ℕ} {e : EltTy} (M : Memref σ .tc .vmem ⟨2, ![a, b]⟩ e) (h : M.IsWhole)
    (X : (⟨2, ![a, b]⟩ : Shape).Idx → Elt Ideal e) (inb : ∀ i, (![0, o] : Fin 2 → ℕ) i + (![a, w] : Fin 2 → ℕ) i ≤ (⟨2, ![a, b]⟩ : Shape).size i)
    (p : Fin a) (j : Fin w) (k : Fin b) (hk : k.val = o + j.val) :
    View.readAt (Elt Ideal) M.view (Rect.unit (s := ⟨2, ![a, b]⟩) ![0, o] ![a, w] inb).toLoadRect (h.unread X) (ix2 p j) = X (ix2 p k) :=
  (Memref.IsWhole.readAt_unread h X _ _).trans (congrArg X (Sums.ext2 (by show 0 + 1 * p.val = p.val; omega) (by show o + 1 * j.val = k.val; omega)))

theorem read_head {σ : RefSig} {o A B n : ℕ} {e : EltTy} (M : Memref σ .tc .vmem ⟨3, ![n, A, B]⟩ e) (h : M.IsWhole)
    (X : (⟨3, ![n, A, B]⟩ : Shape).Idx → Elt Ideal e)
    (inb : ∀ i, (![o, 0, 0] : Fin 3 → ℕ) i + (![1, A, B] : Fin 3 → ℕ) i ≤ (⟨3, ![n, A, B]⟩ : Shape).size i)
    (i : Fin A) (k : Fin B) (b : Fin n) (hb : b.val = o) :
    View.readAt (Elt Ideal) M.view (Rect.unit (s := ⟨3, ![n, A, B]⟩) ![o, 0, 0] ![1, A, B] inb).toLoadRect (h.unread X) (ix3 0 i k) = X (ix3 b i k) :=
  (Memref.IsWhole.readAt_unread h X _ _).trans (congrArg X (funext fun a => Fin.ext (match a with
    | ⟨0, _⟩ => by show o + 1 * 0 = b.val; omega
    | ⟨1, _⟩ => by show 0 + 1 * i.val = i.val; omega
    | ⟨2, _⟩ => by show 0 + 1 * k.val = k.val; omega)))

/-! ## One point, from its blocks -/

/-- The blocks read at point `t` are the arrays' rows. -/
structure InAt (I : Ins Ideal) (A : Args) (t : Fin 16) : Prop where
  dx : ∀ p k, I.dx (ix2 p k) = A.dx (ix2 (row t p) k)
  dxn : ∀ p k, I.dxn (ix2 p k) = A.dx (ix2 (nxt t p) k)
  z : ∀ p k, I.z (ix2 p k) = A.z (ix2 (row t p) k)
  zn : ∀ p k, I.zn (ix2 p k) = A.z (ix2 (nxt t p) k)
  cv : ∀ p k, I.cv (ix2 p k) = A.cv (ix2 (row t p) k)
  pa : ∀ p k, I.pa (ix2 p k) = A.pa (ix2 (row t p) k)
  pb : ∀ p k, I.pb (ix2 p k) = A.pb (ix2 (row t p) k)
  bg : ∀ k, I.bg (ix2 0 k) = A.bg (ix1 k)
  lng : ∀ k, I.lng (ix2 0 k) = A.lng (ix1 k)
  lnb : ∀ k, I.lnb (ix2 0 k) = A.lnb (ix1 k)
  ws : ∀ b i k, I.ws (ix3 b i k) = A.ws (ix3 b i k)
  wst : ∀ b i k, I.wst (ix3 b i k) = A.ws (ix3 b k i)
  bs : ∀ b i, I.bs (ix3 b i 0) = A.bs (ix2 b i)
  wsc : ∀ r j, I.wsc (ix2 r j) = A.wsc (ix2 r j)
  wo : ∀ j k, I.wo (ix2 j k) = A.wo (ix2 j k)
  wb : ∀ b j k, I.wb (ix3 b j k) = A.wb (ix3 b j k)
  sheet : ∀ i j, I.sheet (ix2 i j) = A.sheet (ix2 i j)

section Point

variable {i : grid0.Coords} {B : Bufs} {I : Ins Ideal} {A : Args} {t : Fin 16} (h : InAt I A t)
  (last : Scalar.cmpi CmpIPredicate.eq (BitVec.ofNat 32 ↑(i 0)) 15#32 = (1 : BitVec 1) ↔ t.val = 15)
include h last

set_option maxHeartbeats 2000000 in
theorem at_of : At (loads i B I) A t where
  last := last
  dx p k := (read_cols _ _ _ _ p k k (by omega)).trans (h.dx p k)
  dxn p k := (read_cols _ _ _ _ p k k (by omega)).trans (h.dxn p k)
  wo j k := (read_cols _ _ _ _ j k k (by omega)).trans (h.wo j k)
  pa p k := (read_cols _ _ _ _ p k k (by omega)).trans (h.pa p k)
  pb p k := (read_cols _ _ _ _ p k k (by omega)).trans (h.pb p k)
  bg k := (read_cols _ _ _ _ 0 k k (by omega)).trans (h.bg k)
  u p j := (read_cols _ _ _ _ p j ⟨j.val, by omega⟩ (by show j.val = 0 + j.val; omega)).trans (h.z p _)
  v p j := (read_cols _ _ _ _ p j ⟨512 + j.val, by omega⟩ rfl).trans (h.z p _)
  zb p j := (read_cols _ _ _ _ p j ⟨1024 + j.val, by omega⟩ rfl).trans (h.z p _)
  zc p j := (read_cols _ _ _ _ p j ⟨1536 + j.val, by omega⟩ rfl).trans (h.z p _)
  zh p j := (read_cols _ _ _ _ p j ⟨2048 + j.val, by omega⟩ rfl).trans (h.z p _)
  za p j := (read_cols _ _ _ _ p j ⟨2560 + j.val, by omega⟩ rfl).trans (h.z p _)
  zg p j := (read_cols _ _ _ _ p j ⟨3584 + j.val, by omega⟩ rfl).trans (h.z p _)
  znb p j := (read_cols _ _ _ _ p j ⟨1024 + j.val, by omega⟩ rfl).trans (h.zn p _)
  zng p j := (read_cols _ _ _ _ p j ⟨3584 + j.val, by omega⟩ rfl).trans (h.zn p _)
  cv p j := (read_cols _ _ _ _ p j j (by omega)).trans (h.cv p j)
  lng j := (read_cols _ _ _ _ 0 j j (by omega)).trans (h.lng j)
  lnb j := (read_cols _ _ _ _ 0 j j (by omega)).trans (h.lnb j)
  ws b i k := (read_head _ _ _ _ i k b rfl).trans (h.ws b i k)
  wst b i k := (read_head _ _ _ _ i k b rfl).trans (h.wst b i k)
  bs b i := (read_head _ _ _ _ i 0 b rfl).trans (h.bs b i)
  wsc r j := (read_cols _ _ _ _ r j j (by omega)).trans (h.wsc r j)
  wba j k := (read_head _ _ _ _ j k 0 rfl).trans (h.wb 0 j k)
  wbb j k := (read_head _ _ _ _ j k 1 rfl).trans (h.wb 1 j k)
  sheet i := by
    obtain ⟨p, k, rfl⟩ : ∃ (p : Fin 40) (k : Fin 2816), i = ix2 p k := ⟨i 0, i 1, eq_ix2 i⟩
    exact (read_cols _ _ _ _ p k k (by omega)).trans (h.sheet p k)

variable (c : Dev nD) [layer : Layer]

theorem dz_of_first (hc : first i) (y : S512x4608.Idx) :
    (dzView.read (Elt Ideal) (dzView.writes (Elt Ideal) dzView.junk (runFirst c i B hc I).1) y : EReal) = A.dz (ix2 (row t (y 0)) (y 1)) := by
  rw [first_dz]
  exact (View.read_writes_junk_apply_eq_canon _ _ _).trans (dz_block (at_of h last) y)
theorem dz_of_next (hc : ¬first i) (W : Vec Ideal S4x128x128 .f32) (S : Vec Ideal S4x128x1 .f32) (O : Vec Ideal S40x2816 .f32) (y : S512x4608.Idx) :
    (dzView.read (Elt Ideal) (dzView.writes (Elt Ideal) dzView.junk (runNext c i B hc I W S O).1) y : EReal) = A.dz (ix2 (row t (y 0)) (y 1)) := by
  rw [next_dz]
  exact (View.read_writes_junk_apply_eq_canon _ _ _).trans (dz_block (at_of h last) y)
theorem dpa_of_first (hc : first i) (y : S512x1024.Idx) :
    (dpaView.read (Elt Ideal) (dpaView.writes (Elt Ideal) dpaView.junk (runFirst c i B hc I).2.1) y : EReal) = A.dpa (row t (y 0)) (y 1) := by
  rw [first_dpa]
  exact (View.read_writes_junk_apply_eq_canon _ _ _).trans (dpa_block (at_of h last) y)
theorem dpa_of_next (hc : ¬first i) (W : Vec Ideal S4x128x128 .f32) (S : Vec Ideal S4x128x1 .f32) (O : Vec Ideal S40x2816 .f32) (y : S512x1024.Idx) :
    (dpaView.read (Elt Ideal) (dpaView.writes (Elt Ideal) dpaView.junk (runNext c i B hc I W S O).2.1) y : EReal) = A.dpa (row t (y 0)) (y 1) := by
  rw [next_dpa]
  exact (View.read_writes_junk_apply_eq_canon _ _ _).trans (dpa_block (at_of h last) y)
theorem dpb_of_first (hc : first i) (y : S512x1024.Idx) :
    (dpbView.read (Elt Ideal) (dpbView.writes (Elt Ideal) dpbView.junk (runFirst c i B hc I).2.2.1) y : EReal) = A.dpb (row t (y 0)) (y 1) := by
  rw [first_dpb]
  exact (View.read_writes_junk_apply_eq_canon _ _ _).trans (dpb_block (at_of h last) y)
theorem dpb_of_next (hc : ¬first i) (W : Vec Ideal S4x128x128 .f32) (S : Vec Ideal S4x128x1 .f32) (O : Vec Ideal S40x2816 .f32) (y : S512x1024.Idx) :
    (dpbView.read (Elt Ideal) (dpbView.writes (Elt Ideal) dpbView.junk (runNext c i B hc I W S O).2.2.1) y : EReal) = A.dpb (row t (y 0)) (y 1) := by
  rw [next_dpb]
  exact (View.read_writes_junk_apply_eq_canon _ _ _).trans (dpb_block (at_of h last) y)

/-- What point `t` adds to the three sums. -/
def dwsAdd (A : Args) (t : Fin 16) (y : S4x128x128.Idx) : EReal := ∑ a : Fin 4, A.dwsPart (block t a) (y 0) (y 1) (y 2)
def dbsAdd (A : Args) (t : Fin 16) (y : S4x128x1.Idx) : EReal := ∑ a : Fin 4, A.dbsPart (block t a) (y 0) (y 1)
def outStart (A : Args) (y : S40x2816.Idx) : EReal := if firstRow ≤ (y 0).val ∧ (y 0).val < firstRow + 6 then 0 else A.sheet y
def outAdd (A : Args) (t : Fin 16) (y : S40x2816.Idx) : EReal :=
  if firstRow ≤ (y 0).val ∧ (y 0).val < firstRow + 6 then ∑ p : Fin 512, A.part (row t p) ((y 0).val - firstRow) (y 1) else 0

theorem dws_of_first (hc : first i) (y : S4x128x128.Idx) :
    (dwsView.read (Elt Ideal) (dwsView.writes (Elt Ideal) dwsView.junk (runFirst c i B hc I).2.2.2.1) y : EReal) = 0 + dwsAdd A t y := by
  rw [first_dws]
  exact (View.read_writes_junk_apply_eq_canon _ _ _).trans (dws_first (at_of h last) _ y)
theorem dbs_of_first (hc : first i) (y : S4x128x1.Idx) :
    (dbsView.read (Elt Ideal) (dbsView.writes (Elt Ideal) dbsView.junk (runFirst c i B hc I).2.2.2.2.1) y : EReal) = 0 + dbsAdd A t y := by
  rw [first_dbs]
  exact (View.read_writes_junk_apply_eq_canon _ _ _).trans (dbs_first (at_of h last) _ y)
theorem out_of_first (hc : first i) (y : S40x2816.Idx) :
    (outView.read (Elt Ideal) (outView.writes (Elt Ideal) outView.junk (runFirst c i B hc I).2.2.2.2.2.1) y : EReal) = outStart A y + outAdd A t y := by
  rw [first_out]
  refine (View.read_writes_junk_apply_eq_canon _ _ _).trans ((sheet_first (at_of h last) _ y).trans ?_)
  unfold outStart outAdd
  split_ifs
  · rfl
  · exact (add_zero _).symm

variable (hc : ¬first i) (W : Vec Ideal S4x128x128 .f32) (S : Vec Ideal S4x128x1 .f32) (O : Vec Ideal S40x2816 .f32)

theorem dws_of_next (y : S4x128x128.Idx) :
    (B.dws.view.read (Elt Ideal) (B.dws.view.writes (Elt Ideal) (B.hdws.unread W) (runNext c i B hc I W S O).2.2.2.1) y : EReal)
      = W y + dwsAdd A t y := by
  rw [next_dws]
  exact dws_next (at_of h last) _ _ _ y
theorem dbs_of_next (y : S4x128x1.Idx) :
    (B.dbs.view.read (Elt Ideal) (B.dbs.view.writes (Elt Ideal) (B.hdbs.unread S) (runNext c i B hc I W S O).2.2.2.2.1) y : EReal)
      = S y + dbsAdd A t y := by
  rw [next_dbs]
  exact dbs_next (at_of h last) _ _ _ y
theorem out_of_next (y : S40x2816.Idx) :
    (B.out.view.read (Elt Ideal) (B.out.view.writes (Elt Ideal) (B.hout.unread O) (runNext c i B hc I W S O).2.2.2.2.2.1) y : EReal)
      = O y + outAdd A t y := by
  rw [next_out]
  refine (sheet_next (at_of h last) _ _ _ y).trans ?_
  unfold outAdd
  split_ifs
  · rfl
  · exact (add_zero _).symm

end Point

variable (m : (ℓ : Loc nD τ sig) → Buf (Elt Ideal) ℓ) (c : Dev nD)

/-- Core `c`'s arguments in the memory, and the values the forward lines leave for the launch. -/
def args : Args where
  dx := m ((c.tc : Thread nD τ).loc main_arg0)
  z := m ((c.tc : Thread nD τ).loc main_arg1)
  bg := m ((c.tc : Thread nD τ).loc main_arg2)
  lng := m ((c.tc : Thread nD τ).loc main_arg3)
  lnb := m ((c.tc : Thread nD τ).loc main_arg4)
  ws := m ((c.tc : Thread nD τ).loc main_arg5)
  bs := m ((c.tc : Thread nD τ).loc main_arg6)
  wsc := m ((c.tc : Thread nD τ).loc main_arg7)
  wb := m ((c.tc : Thread nD τ).loc main_arg8)
  wo := m ((c.tc : Thread nD τ).loc main_arg9)
  sheet := m ((c.tc : Thread nD τ).loc main_arg10)
  cv := V m c main_v102
  pa := V m c main_v103
  pb := V m c main_v104

/-! ## The arrays the launch reads -/

theorem V_wst : V m c main_v105 = transpose S4x128x128 [0, 2, 1] (m ((c.tc : Thread nD τ).loc main_arg5)) transposes_S4x128x128_S4x128x128_0_2_1 := by
  sl_kernel_rfl
theorem V_wo : V m c main_v106 = (args m c).wo := by sl_kernel_rfl
theorem V_wb : V m c main_v107 = (args m c).wb := by sl_kernel_rfl
theorem V_bg : V m c main_v108 = shapeCast S1x2048 (m ((c.tc : Thread nD τ).loc main_arg2)) shapeCasts_S2048_S1x2048 := by sl_kernel_rfl
theorem V_lng : V m c main_v109 = shapeCast S1x512 (m ((c.tc : Thread nD τ).loc main_arg3)) shapeCasts_S512_S1x512 := by sl_kernel_rfl
theorem V_lnb : V m c main_v110 = shapeCast S1x512 (m ((c.tc : Thread nD τ).loc main_arg4)) shapeCasts_S512_S1x512 := by sl_kernel_rfl
theorem V_bs : V m c main_v111 = shapeCast S4x128x1 (m ((c.tc : Thread nD τ).loc main_arg6)) shapeCasts_S4x128_S4x128x1 := by sl_kernel_rfl

/-! ## The blocks of the windows -/

theorem idx0 : ∀ t : Fin cfg0.N, win0_0.index t = ![t.val, 0] := (by decide +kernel : ∀ t : Fin grid0.N, win0_0.index t = ![t.val, 0])
theorem idx1 : ∀ t : Fin cfg0.N, win0_1.index t = ![min ((t.val + 1) * 32) 511, 0] :=
  (by decide +kernel : ∀ t : Fin grid0.N, win0_1.index t = ![min ((t.val + 1) * 32) 511, 0])
theorem idx2 : ∀ t : Fin cfg0.N, win0_2.index t = ![t.val, 0] := (by decide +kernel : ∀ t : Fin grid0.N, win0_2.index t = ![t.val, 0])
theorem idx3 : ∀ t : Fin cfg0.N, win0_3.index t = ![min ((t.val + 1) * 32) 511, 0] :=
  (by decide +kernel : ∀ t : Fin grid0.N, win0_3.index t = ![min ((t.val + 1) * 32) 511, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0, 0] := (by decide +kernel : ∀ t : Fin grid0.N, win0_10.index t = ![0, 0, 0])
theorem idx11 : ∀ t : Fin cfg0.N, win0_11.index t = ![0, 0, 0] := (by decide +kernel : ∀ t : Fin grid0.N, win0_11.index t = ![0, 0, 0])
theorem idx12 : ∀ t : Fin cfg0.N, win0_12.index t = ![0, 0, 0] := (by decide +kernel : ∀ t : Fin grid0.N, win0_12.index t = ![0, 0, 0])
theorem idx13 : ∀ t : Fin cfg0.N, win0_13.index t = ![0, 0] := (by decide +kernel : ∀ t : Fin grid0.N, win0_13.index t = ![0, 0])
theorem idx14 : ∀ t : Fin cfg0.N, win0_14.index t = ![0, 0] := (by decide +kernel : ∀ t : Fin grid0.N, win0_14.index t = ![0, 0])
theorem idx15 : ∀ t : Fin cfg0.N, win0_15.index t = ![0, 0, 0] := (by decide +kernel : ∀ t : Fin grid0.N, win0_15.index t = ![0, 0, 0])
theorem idx16 : ∀ t : Fin cfg0.N, win0_16.index t = ![0, 0] := (by decide +kernel : ∀ t : Fin grid0.N, win0_16.index t = ![0, 0])
theorem idx17 : ∀ t : Fin cfg0.N, win0_17.index t = ![t.val, 0] := (by decide +kernel : ∀ t : Fin grid0.N, win0_17.index t = ![t.val, 0])
theorem idx18 : ∀ t : Fin cfg0.N, win0_18.index t = ![t.val, 0] := (by decide +kernel : ∀ t : Fin grid0.N, win0_18.index t = ![t.val, 0])
theorem idx19 : ∀ t : Fin cfg0.N, win0_19.index t = ![t.val, 0] := (by decide +kernel : ∀ t : Fin grid0.N, win0_19.index t = ![t.val, 0])

theorem last_iff : ∀ t : Fin cfg0.N, Scalar.cmpi CmpIPredicate.eq (BitVec.ofNat 32 ↑(grid0.coords t 0)) 15#32 = (1 : BitVec 1) ↔ t.val = 15 :=
  (by decide +kernel : ∀ t : Fin grid0.N, Scalar.cmpi CmpIPredicate.eq (BitVec.ofNat 32 ↑(grid0.coords t 0)) 15#32 = (1 : BitVec 1) ↔ t.val = 15)

variable (t : Fin cfg0.N)

theorem dx_in (p : Fin 512) (k : Fin 1024) : iblk m c 0 t (ix2 p k) = (args m c).dx (ix2 (row t p) k) := by
  refine Eq.trans ?_ (congrFun (V_kept m c main_arg0 (by decide)) (ix2 (row t p) k))
  blk_point [iblk, idx0 t]
theorem dxn_in (p : Fin 16) (k : Fin 1024) : iblk m c 1 t (ix2 p k) = (args m c).dx (ix2 (nxt t p) k) := by
  refine Eq.trans ?_ (congrFun (V_kept m c main_arg0 (by decide)) (ix2 (nxt t p) k))
  blk_point [iblk, idx1 t]
theorem z_in (p : Fin 512) (k : Fin 4608) : iblk m c 2 t (ix2 p k) = (args m c).z (ix2 (row t p) k) := by
  refine Eq.trans ?_ (congrFun (V_kept m c main_arg1 (by decide)) (ix2 (row t p) k))
  blk_point [iblk, idx2 t]
theorem zn_in (p : Fin 16) (k : Fin 4608) : iblk m c 3 t (ix2 p k) = (args m c).z (ix2 (nxt t p) k) := by
  refine Eq.trans ?_ (congrFun (V_kept m c main_arg1 (by decide)) (ix2 (nxt t p) k))
  blk_point [iblk, idx3 t]
theorem cv_in (p : Fin 512) (k : Fin 512) : iblk m c 4 t (ix2 p k) = (args m c).cv (ix2 (row t p) k) := by
  refine Eq.trans ?_ (Eq.refl (V m c main_v102 (ix2 (row t p) k)))
  blk_point [iblk, idx4 t]
theorem pa_in (p : Fin 512) (k : Fin 1024) : iblk m c 5 t (ix2 p k) = (args m c).pa (ix2 (row t p) k) := by
  refine Eq.trans ?_ (Eq.refl (V m c main_v103 (ix2 (row t p) k)))
  blk_point [iblk, idx5 t]
theorem pb_in (p : Fin 512) (k : Fin 1024) : iblk m c 6 t (ix2 p k) = (args m c).pb (ix2 (row t p) k) := by
  refine Eq.trans ?_ (Eq.refl (V m c main_v104 (ix2 (row t p) k)))
  blk_point [iblk, idx6 t]
theorem bg_in (k : Fin 2048) : iblk m c 7 t (ix2 0 k) = (args m c).bg (ix1 k) := by
  refine Eq.trans (b := V m c main_v108 (ix2 0 k)) ?_ ((congrFun (V_bg m c) (ix2 0 k)).trans ?_)
  · blk_point [iblk, idx7 t]
  · pointwise [args]
theorem lng_in (k : Fin 512) : iblk m c 8 t (ix2 0 k) = (args m c).lng (ix1 k) := by
  refine Eq.trans (b := V m c main_v109 (ix2 0 k)) ?_ ((congrFun (V_lng m c) (ix2 0 k)).trans ?_)
  · blk_point [iblk, idx8 t]
  · pointwise [args]
theorem lnb_in (k : Fin 512) : iblk m c 9 t (ix2 0 k) = (args m c).lnb (ix1 k) := by
  refine Eq.trans (b := V m c main_v110 (ix2 0 k)) ?_ ((congrFun (V_lnb m c) (ix2 0 k)).trans ?_)
  · blk_point [iblk, idx9 t]
  · pointwise [args]
theorem ws_in (b : Fin 4) (i k : Fin 128) : iblk m c 10 t (ix3 b i k) = (args m c).ws (ix3 b i k) := by
  refine Eq.trans ?_ (congrFun (V_kept m c main_arg5 (by decide)) (ix3 b i k))
  blk_point [iblk, idx10 t]
theorem wst_in (b : Fin 4) (i k : Fin 128) : iblk m c 11 t (ix3 b i k) = (args m c).ws (ix3 b k i) := by
  refine Eq.trans (b := V m c main_v105 (ix3 b i k)) ?_ ((congrFun (V_wst m c) (ix3 b i k)).trans ?_)
  · blk_point [iblk, idx11 t]
  · pointwise [args]
theorem bs_in (b : Fin 4) (i : Fin 128) : iblk m c 12 t (ix3 b i 0) = (args m c).bs (ix2 b i) := by
  refine Eq.trans (b := V m c main_v111 (ix3 b i 0)) ?_ ((congrFun (V_bs m c) (ix3 b i 0)).trans ?_)
  · blk_point [iblk, idx12 t]
  · pointwise [args]
theorem wsc_in (r : Fin 3) (j : Fin 512) : iblk m c 13 t (ix2 r j) = (args m c).wsc (ix2 r j) := by
  refine Eq.trans ?_ (congrFun (V_kept m c main_arg7 (by decide)) (ix2 r j))
  blk_point [iblk, idx13 t]
theorem wo_in (j k : Fin 1024) : iblk m c 14 t (ix2 j k) = (args m c).wo (ix2 j k) := by
  refine Eq.trans ?_ (congrFun (V_wo m c) (ix2 j k))
  blk_point [iblk, idx14 t]
theorem wb_in (b : Fin 2) (j : Fin 512) (k : Fin 1024) : iblk m c 15 t (ix3 b j k) = (args m c).wb (ix3 b j k) := by
  refine Eq.trans ?_ (congrFun (V_wb m c) (ix3 b j k))
  blk_point [iblk, idx15 t]
theorem sheet_in (i : Fin 40) (j : Fin 2816) : iblk m c 16 t (ix2 i j) = (args m c).sheet (ix2 i j) := by
  refine Eq.trans ?_ (congrFun (V_kept m c main_arg10 (by decide)) (ix2 i j))
  blk_point [iblk, idx16 t]

set_option maxHeartbeats 2000000 in
theorem in_at : InAt (ins m c t) (args m c) t where
  dx := dx_in m c t
  dxn := dxn_in m c t
  z := z_in m c t
  zn := zn_in m c t
  cv := cv_in m c t
  pa := pa_in m c t
  pb := pb_in m c t
  bg := bg_in m c t
  lng := lng_in m c t
  lnb := lnb_in m c t
  ws := ws_in m c t
  wst := wst_in m c t
  bs := bs_in m c t
  wsc := wsc_in m c t
  wo := wo_in m c t
  wb := wb_in m c t
  sheet := sheet_in m c t

/-! ## The results after a point -/

theorem mod_zero : t.val % 16 = 0 ↔ t.val = 0 := by
  have h : t.val < 16 := t.isLt
  omega

variable [layer : Layer]

set_option maxHeartbeats 2000000 in
theorem outs_dz (y : S512x4608.Idx) : ((outs m c t.val t.isLt).dz y : EReal) = (args m c).dz (ix2 (row t (y 0)) (y 1)) := by
  by_cases h : t.val = 0
  · rw [outs_first m c t h]
    unfold afterFirst
    dsimp only
    exact dz_of_first (i := grid0.coords t) (B := bufs t) (I := ins m c t) (A := args m c) (t := t) (in_at m c t) (last_iff t) c ((first_iff t).mpr h) y
  · rw [outs_next m c t h]
    unfold afterNext
    dsimp only
    exact dz_of_next (i := grid0.coords t) (B := bufs t) (I := ins m c t) (A := args m c) (t := t) (in_at m c t) (last_iff t) c _ _ _ _ y
set_option maxHeartbeats 2000000 in
theorem outs_dpa (y : S512x1024.Idx) : ((outs m c t.val t.isLt).dpa y : EReal) = (args m c).dpa (row t (y 0)) (y 1) := by
  by_cases h : t.val = 0
  · rw [outs_first m c t h]
    unfold afterFirst
    dsimp only
    exact dpa_of_first (i := grid0.coords t) (B := bufs t) (I := ins m c t) (A := args m c) (t := t) (in_at m c t) (last_iff t) c ((first_iff t).mpr h) y
  · rw [outs_next m c t h]
    unfold afterNext
    dsimp only
    exact dpa_of_next (i := grid0.coords t) (B := bufs t) (I := ins m c t) (A := args m c) (t := t) (in_at m c t) (last_iff t) c _ _ _ _ y
set_option maxHeartbeats 2000000 in
theorem outs_dpb (y : S512x1024.Idx) : ((outs m c t.val t.isLt).dpb y : EReal) = (args m c).dpb (row t (y 0)) (y 1) := by
  by_cases h : t.val = 0
  · rw [outs_first m c t h]
    unfold afterFirst
    dsimp only
    exact dpb_of_first (i := grid0.coords t) (B := bufs t) (I := ins m c t) (A := args m c) (t := t) (in_at m c t) (last_iff t) c ((first_iff t).mpr h) y
  · rw [outs_next m c t h]
    unfold afterNext
    dsimp only
    exact dpb_of_next (i := grid0.coords t) (B := bufs t) (I := ins m c t) (A := args m c) (t := t) (in_at m c t) (last_iff t) c _ _ _ _ y
theorem outs_dws_first (h : t.val % 16 = 0) (y : S4x128x128.Idx) : ((outs m c t.val t.isLt).dws y : EReal) = 0 + dwsAdd (args m c) t y := by
  rw [outs_first m c t ((mod_zero t).mp h)]
  unfold afterFirst
  dsimp only
  exact dws_of_first (i := grid0.coords t) (B := bufs t) (I := ins m c t) (A := args m c) (t := t) (in_at m c t) (last_iff t) c ((first_iff t).mpr ((mod_zero t).mp h)) y
theorem outs_dws_next (h : ¬t.val % 16 = 0) (y : S4x128x128.Idx) :
    ((outs m c t.val t.isLt).dws y : EReal) = (outs m c (t.val - 1) (pred_lt t)).dws y + dwsAdd (args m c) t y := by
  rw [outs_next m c t (fun e => h ((mod_zero t).mpr e))]
  unfold afterNext
  dsimp only
  exact dws_of_next (i := grid0.coords t) (B := bufs t) (I := ins m c t) (A := args m c) (t := t) (in_at m c t) (last_iff t) c _ _ _ _ y
theorem outs_dbs_first (h : t.val % 16 = 0) (y : S4x128x1.Idx) : ((outs m c t.val t.isLt).dbs y : EReal) = 0 + dbsAdd (args m c) t y := by
  rw [outs_first m c t ((mod_zero t).mp h)]
  unfold afterFirst
  dsimp only
  exact dbs_of_first (i := grid0.coords t) (B := bufs t) (I := ins m c t) (A := args m c) (t := t) (in_at m c t) (last_iff t) c ((first_iff t).mpr ((mod_zero t).mp h)) y
theorem outs_dbs_next (h : ¬t.val % 16 = 0) (y : S4x128x1.Idx) :
    ((outs m c t.val t.isLt).dbs y : EReal) = (outs m c (t.val - 1) (pred_lt t)).dbs y + dbsAdd (args m c) t y := by
  rw [outs_next m c t (fun e => h ((mod_zero t).mpr e))]
  unfold afterNext
  dsimp only
  exact dbs_of_next (i := grid0.coords t) (B := bufs t) (I := ins m c t) (A := args m c) (t := t) (in_at m c t) (last_iff t) c _ _ _ _ y
set_option maxHeartbeats 2000000 in
theorem outs_out_first (h : t.val % 16 = 0) (y : S40x2816.Idx) : ((outs m c t.val t.isLt).out y : EReal) = outStart (args m c) y + outAdd (args m c) t y := by
  rw [outs_first m c t ((mod_zero t).mp h)]
  unfold afterFirst
  dsimp only
  exact out_of_first (i := grid0.coords t) (B := bufs t) (I := ins m c t) (A := args m c) (t := t) (in_at m c t) (last_iff t) c ((first_iff t).mpr ((mod_zero t).mp h)) y
theorem outs_out_next (h : ¬t.val % 16 = 0) (y : S40x2816.Idx) :
    ((outs m c t.val t.isLt).out y : EReal) = (outs m c (t.val - 1) (pred_lt t)).out y + outAdd (args m c) t y := by
  rw [outs_next m c t (fun e => h ((mod_zero t).mpr e))]
  unfold afterNext
  dsimp only
  exact out_of_next (i := grid0.coords t) (B := bufs t) (I := ins m c t) (A := args m c) (t := t) (in_at m c t) (last_iff t) c _ _ _ _ y

/-! ## The arrays -/

theorem dz_array : (dats m 0 c).arrAt 17 cfg0.N = (args m c).dz := by
  refine (dats m 0 c).arrAt_eq_of_covers 17 _ (by decide +kernel) fun t hf y => ?_
  blk_simp
  rw [after_dz]
  refine (outs_dz m c t y).trans (congrArg (args m c).dz ?_)
  blk_ext [idx17 t]
theorem dpa_array : (dats m 0 c).arrAt 18 cfg0.N = fun i : S8192x1024.Idx => (args m c).dpa (i 0) (i 1) := by
  refine (dats m 0 c).arrAt_eq_of_covers 18 _ (by decide +kernel) fun t hf y => ?_
  blk_simp
  rw [after_dpa]
  refine (outs_dpa m c t y).trans (congrArg (fun i : S8192x1024.Idx => (args m c).dpa (i 0) (i 1)) (a₁ := ix2 (row t (y 0)) (y 1)) ?_)
  blk_ext [idx18 t]
theorem dpb_array : (dats m 0 c).arrAt 19 cfg0.N = fun i : S8192x1024.Idx => (args m c).dpb (i 0) (i 1) := by
  refine (dats m 0 c).arrAt_eq_of_covers 19 _ (by decide +kernel) fun t hf y => ?_
  blk_simp
  rw [after_dpb]
  refine (outs_dpb m c t y).trans (congrArg (fun i : S8192x1024.Idx => (args m c).dpb (i 0) (i 1)) (a₁ := ix2 (row t (y 0)) (y 1)) ?_)
  blk_ext [idx19 t]

/-- The last grid point, the only one whose sums are written back. -/
def last : Fin cfg0.N := ⟨15, by decide⟩

theorem dws_array : (dats m 0 c).arrAt 20 cfg0.N = (args m c).dws := by
  refine (dats m 0 c).arrAt_eq_of_after_last 20 last (by decide +kernel) _ fun j => ?_
  blk_simp
  refine (congrFun (after_dws m c last) j).trans ?_
  refine (Pipeline.eq_sum_fin_of_reset_step_apply_last (M := EReal) (fun n h y => (outs m c n h).dws y) 16 (fun _ => 0) (dwsAdd (args m c))
    (fun t => outs_dws_first m c t) (fun t => outs_dws_next m c t) (by decide) last rfl j).trans ?_
  rw [zero_add]
  exact Fin.sum_mul_add_fin 16 4 (fun b : Fin 64 => (args m c).dwsPart b (j 0) (j 1) (j 2))
theorem dbs_array : (dats m 0 c).arrAt 21 cfg0.N = (args m c).dbs := by
  refine (dats m 0 c).arrAt_eq_of_after_last 21 last (by decide +kernel) _ fun j => ?_
  blk_simp
  refine (congrFun (after_dbs m c last) j).trans ?_
  refine (Pipeline.eq_sum_fin_of_reset_step_apply_last (M := EReal) (fun n h y => (outs m c n h).dbs y) 16 (fun _ => 0) (dbsAdd (args m c))
    (fun t => outs_dbs_first m c t) (fun t => outs_dbs_next m c t) (by decide) last rfl j).trans ?_
  rw [zero_add]
  exact Fin.sum_mul_add_fin 16 4 (fun b : Fin 64 => (args m c).dbsPart b (j 0) (j 1))

theorem out_sum (y : S40x2816.Idx) : outStart (args m c) y + ∑ t : Fin 16, outAdd (args m c) t y = (args m c).sheetOut firstRow y := by
  unfold outStart outAdd Args.sheetOut
  by_cases hy : firstRow ≤ (y 0).val ∧ (y 0).val < firstRow + 6
  · simp only [if_pos hy]
    rw [zero_add]
    refine Eq.trans (Finset.sum_congr rfl fun t _ => Finset.sum_congr rfl fun p _ => ?_)
      (Fin.sum_mul_add_fin 16 512 (fun r : Fin 8192 => (args m c).part r ((y 0).val - firstRow) (y 1)))
    exact congrArg (fun r => (args m c).part r ((y 0).val - firstRow) (y 1)) (Fin.ext (by show 512 * t.val + p.val = t.val * 512 + p.val; omega))
  · simp only [if_neg hy, Finset.sum_const_zero, add_zero]

theorem out_array : (dats m 0 c).arrAt 22 cfg0.N = (args m c).sheetOut firstRow := by
  refine (dats m 0 c).arrAt_eq_of_after_last 22 last (by decide +kernel) _ fun j => ?_
  blk_simp
  refine (congrFun (after_out m c last) j).trans ?_
  exact (Pipeline.eq_sum_fin_of_reset_step_apply_last (M := EReal) (fun n h y => (outs m c n h).out y) 16 (outStart (args m c)) (outAdd (args m c))
    (fun t => outs_out_first m c t) (fun t => outs_out_next m c t) (by decide) last rfl j).trans (out_sum m c j)

end Cert.Kernel4Ideal.Body

end
-- ==== Proof.FwdArray.lean ====
/- What the mixer's forward pass leaves in its seven result arrays, as functions of its arguments. -/
module

public import proofs.«01_k».proof.Proof.FwdBlock
public import proofs.«01_k».proof.Proof.FwdFrame
public import proofs.«01_k».proof.Proof.MixArray

@[expose] public section

set_option maxRecDepth 16384

noncomputable section

namespace Cert.Kernel6Ideal.Body

open Cert.Kernel6Ideal Cert.Kernel6Ideal.Gen Cert.Mix
open Idealize.ShloMosaic Idealize.ShloMosaic.TcCoe Idealize.SL.Sem
open Idealize.ShloMosaic.Pipeline (Dat)
open Cert.Kernel4Ideal.Body (row read_cols read_head)

/-! ## One point, from its blocks -/

/-- The blocks read at point `t` are the arrays' rows. -/
structure InAt (I : Ins Ideal) (A : Args) (x : S8192x1024.Idx → EReal) (t : Fin 16) : Prop where
  z : ∀ p k, I.z (ix2 p k) = A.z (ix2 (row t p) k)
  zp : ∀ p k, I.zp (ix2 p k) = A.z (ix2 (prev t p) k)
  x : ∀ p k, I.x (ix2 p k) = x (ix2 (row t p) k)
  bg : ∀ k, I.bg (ix2 0 k) = A.bg (ix1 k)
  lng : ∀ k, I.lng (ix2 0 k) = A.lng (ix1 k)
  lnb : ∀ k, I.lnb (ix2 0 k) = A.lnb (ix1 k)
  ws : ∀ b i k, I.ws (ix3 b i k) = A.ws (ix3 b i k)
  bs : ∀ b i, I.bs (ix3 b i 0) = A.bs (ix2 b i)
  wsc : ∀ r j, I.wsc (ix2 r j) = A.wsc (ix2 r j)
  wb : ∀ b j k, I.wb (ix3 b j k) = A.wb (ix3 b j k)
  wo : ∀ j k, I.wo (ix2 j k) = A.wo (ix2 j k)

section Point

variable {i : grid0.Coords} {B : Bufs} {I : Ins Ideal} {A : Args} {x : S8192x1024.Idx → EReal} {t : Fin 16} (h : InAt I A x t)
  (num : Scalar.cmpi CmpIPredicate.sgt (BitVec.ofNat 32 ↑(i 0)) 0#32 = (1 : BitVec 1) ↔ ¬t.val = 0)
include h num

set_option maxHeartbeats 2000000 in
theorem at_of : At (loads i B I) A x t where
  num := num
  u p j := (read_cols _ _ _ _ p j ⟨j.val, by omega⟩ (by show j.val = 0 + j.val; omega)).trans (h.z p _)
  v p j := (read_cols _ _ _ _ p j ⟨512 + j.val, by omega⟩ rfl).trans (h.z p _)
  zb p j := (read_cols _ _ _ _ p j ⟨1024 + j.val, by omega⟩ rfl).trans (h.z p _)
  zc p j := (read_cols _ _ _ _ p j ⟨1536 + j.val, by omega⟩ rfl).trans (h.z p _)
  zh p j := (read_cols _ _ _ _ p j ⟨2048 + j.val, by omega⟩ rfl).trans (h.z p _)
  za p j := (read_cols _ _ _ _ p j ⟨2560 + j.val, by omega⟩ rfl).trans (h.z p _)
  zg p j := (read_cols _ _ _ _ p j ⟨3584 + j.val, by omega⟩ rfl).trans (h.z p _)
  zpc p j := (read_cols _ _ _ _ p j ⟨1536 + j.val, by omega⟩ rfl).trans (h.zp p _)
  zph p j := (read_cols _ _ _ _ p j ⟨2048 + j.val, by omega⟩ rfl).trans (h.zp p _)
  x p k := (read_cols _ _ _ _ p k k (by omega)).trans (h.x p k)
  bg k := (read_cols _ _ _ _ 0 k k (by omega)).trans (h.bg k)
  lng j := (read_cols _ _ _ _ 0 j j (by omega)).trans (h.lng j)
  lnb j := (read_cols _ _ _ _ 0 j j (by omega)).trans (h.lnb j)
  ws b i k := (read_head _ _ _ _ i k b rfl).trans (h.ws b i k)
  bs b i := (read_head _ _ _ _ i 0 b rfl).trans (h.bs b i)
  wsc r j := (read_cols _ _ _ _ r j j (by omega)).trans (h.wsc r j)
  wba j k := (read_head _ _ _ _ j k 0 rfl).trans (h.wb 0 j k)
  wbb j k := (read_head _ _ _ _ j k 1 rfl).trans (h.wb 1 j k)
  wo j k := (read_cols _ _ _ _ j k k (by omega)).trans (h.wo j k)

omit h num in
/-- A whole block stored once, a formula's rows, holds the formula. -/
theorem whole_at {a b : ℕ} {e : EltTy} (v : View sig .tc .vmem ⟨2, ![a, b]⟩ e) (w : (⟨2, ![a, b]⟩ : Shape).Idx → Elt Ideal e)
    (L : List (View.Piece (Elt Ideal) ⟨2, ![a, b]⟩ e)) (hL : L = whole w) (g : Fin a → Fin b → Elt Ideal e) (hw : ∀ p k, w (ix2 p k) = g p k)
    (y : (⟨2, ![a, b]⟩ : Shape).Idx) : v.read (Elt Ideal) (v.writes (Elt Ideal) v.junk L) y = g (y 0) (y 1) := by
  subst hL
  refine (View.read_writes_junk_apply_eq_canon _ _ _).trans ((Pieces.canon_in (Val := Elt Ideal) _ _ _ y (ix2 (y 0) (y 1)) ?_).trans (hw _ _))
  exact Fin.forall_fin_two.mpr ⟨by show (y 0).val = 0 + (y 0).val; omega, by show (y 1).val = 0 + (y 1).val; omega⟩

end Point

variable (m : (ℓ : Loc nD τ sig) → Buf (Elt Ideal) ℓ) (c : Dev nD)

/-- Core `c`'s arguments in the memory. The gradient, the sheet and the saved values are the backward pass's, and are not read here. -/
def args : Args where
  dx _ := 0
  z := m ((c.tc : Thread nD τ).loc main_arg0)
  bg := m ((c.tc : Thread nD τ).loc main_arg2)
  lng := m ((c.tc : Thread nD τ).loc main_arg3)
  lnb := m ((c.tc : Thread nD τ).loc main_arg4)
  ws := m ((c.tc : Thread nD τ).loc main_arg5)
  bs := m ((c.tc : Thread nD τ).loc main_arg6)
  wsc := m ((c.tc : Thread nD τ).loc main_arg7)
  wb := m ((c.tc : Thread nD τ).loc main_arg8)
  wo := m ((c.tc : Thread nD τ).loc main_arg9)
  sheet _ := 0
  cv _ := 0
  pa _ := 0
  pb _ := 0

/-- The rows the pass adds to. -/
def xs : S8192x1024.Idx → EReal := m ((c.tc : Thread nD τ).loc main_arg1)

/-! ## The arrays the launch reads -/

theorem V_wb : V m c main_v0 = (args m c).wb := by sl_kernel_rfl
theorem V_wo : V m c main_v1 = (args m c).wo := by sl_kernel_rfl
theorem V_bg : V m c main_v2 = shapeCast S1x2048 (m ((c.tc : Thread nD τ).loc main_arg2)) shapeCasts_S2048_S1x2048 := by sl_kernel_rfl
theorem V_lng : V m c main_v3 = shapeCast S1x512 (m ((c.tc : Thread nD τ).loc main_arg3)) shapeCasts_S512_S1x512 := by sl_kernel_rfl
theorem V_lnb : V m c main_v4 = shapeCast S1x512 (m ((c.tc : Thread nD τ).loc main_arg4)) shapeCasts_S512_S1x512 := by sl_kernel_rfl
theorem V_bs : V m c main_v5 = shapeCast S4x128x1 (m ((c.tc : Thread nD τ).loc main_arg6)) shapeCasts_S4x128_S4x128x1 := by sl_kernel_rfl

/-! ## The blocks of the windows -/

theorem idx0 : ∀ t : Fin cfg0.N, win0_0.index t = ![t.val, 0] := (by decide +kernel : ∀ t : Fin grid0.N, win0_0.index t = ![t.val, 0])
theorem idx1 : ∀ t : Fin cfg0.N, win0_1.index t = ![32 * t.val - 1, 0] := (by decide +kernel : ∀ t : Fin grid0.N, win0_1.index t = ![32 * t.val - 1, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0] := (by decide +kernel : ∀ t : Fin grid0.N, win0_8.index t = ![0, 0])
theorem idx9 : ∀ t : Fin cfg0.N, win0_9.index t = ![0, 0, 0] := (by decide +kernel : ∀ t : Fin grid0.N, win0_9.index t = ![0, 0, 0])
theorem idx10 : ∀ t : Fin cfg0.N, win0_10.index t = ![0, 0] := (by decide +kernel : ∀ t : Fin grid0.N, win0_10.index t = ![0, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![t.val, 0] := (by decide +kernel : ∀ t : Fin grid0.N, win0_15.index t = ![t.val, 0])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0] := (by decide +kernel : ∀ t : Fin grid0.N, win0_17.index t = ![t.val, 0])

theorem later_iff : ∀ t : Fin cfg0.N, Scalar.cmpi CmpIPredicate.sgt (BitVec.ofNat 32 ↑(grid0.coords t 0)) 0#32 = (1 : BitVec 1) ↔ ¬t.val = 0 :=
  (by decide +kernel : ∀ t : Fin grid0.N, Scalar.cmpi CmpIPredicate.sgt (BitVec.ofNat 32 ↑(grid0.coords t 0)) 0#32 = (1 : BitVec 1) ↔ ¬t.val = 0)

variable (t : Fin cfg0.N)

theorem z_in (p : Fin 512) (k : Fin 4608) : iblk m c 0 t (ix2 p k) = (args m c).z (ix2 (row t p) k) := by
  refine Eq.trans ?_ (congrFun (V_kept m c main_arg0 (by decide)) (ix2 (row t p) k))
  blk_point [iblk, idx0 t]
theorem zp_in (p : Fin 16) (k : Fin 4608) : iblk m c 1 t (ix2 p k) = (args m c).z (ix2 (prev t p) k) := by
  refine Eq.trans ?_ (congrFun (V_kept m c main_arg0 (by decide)) (ix2 (prev t p) k))
  blk_point [iblk, idx1 t]
theorem x_in (p : Fin 512) (k : Fin 1024) : iblk m c 2 t (ix2 p k) = xs m c (ix2 (row t p) k) := by
  refine Eq.trans ?_ (congrFun (V_kept m c main_arg1 (by decide)) (ix2 (row t p) k))
  blk_point [iblk, idx2 t]
theorem ws_in (b : Fin 4) (i k : Fin 128) : iblk m c 6 t (ix3 b i k) = (args m c).ws (ix3 b i k) := by
  refine Eq.trans ?_ (congrFun (V_kept m c main_arg5 (by decide)) (ix3 b i k))
  blk_point [iblk, idx6 t]
theorem wsc_in (r : Fin 3) (j : Fin 512) : iblk m c 8 t (ix2 r j) = (args m c).wsc (ix2 r j) := by
  refine Eq.trans ?_ (congrFun (V_kept m c main_arg7 (by decide)) (ix2 r j))
  blk_point [iblk, idx8 t]
theorem wb_in (b : Fin 2) (j : Fin 512) (k : Fin 1024) : iblk m c 9 t (ix3 b j k) = (args m c).wb (ix3 b j k) := by
  refine Eq.trans ?_ (congrFun (V_wb m c) (ix3 b j k))
  blk_point [iblk, idx9 t]
theorem wo_in (j k : Fin 1024) : iblk m c 10 t (ix2 j k) = (args m c).wo (ix2 j k) := by
  refine Eq.trans ?_ (congrFun (V_wo m c) (ix2 j k))
  blk_point [iblk, idx10 t]
theorem bg_in (k : Fin 2048) : iblk m c 3 t (ix2 0 k) = (args m c).bg (ix1 k) := by
  refine Eq.trans (b := V m c main_v2 (ix2 0 k)) ?_ ((congrFun (V_bg m c) (ix2 0 k)).trans ?_)
  · blk_point [iblk, idx3 t]
  · pointwise [args]
theorem lng_in (k : Fin 512) : iblk m c 4 t (ix2 0 k) = (args m c).lng (ix1 k) := by
  refine Eq.trans (b := V m c main_v3 (ix2 0 k)) ?_ ((congrFun (V_lng m c) (ix2 0 k)).trans ?_)
  · blk_point [iblk, idx4 t]
  · pointwise [args]
theorem lnb_in (k : Fin 512) : iblk m c 5 t (ix2 0 k) = (args m c).lnb (ix1 k) := by
  refine Eq.trans (b := V m c main_v4 (ix2 0 k)) ?_ ((congrFun (V_lnb m c) (ix2 0 k)).trans ?_)
  · blk_point [iblk, idx5 t]
  · pointwise [args]
theorem bs_in (b : Fin 4) (i : Fin 128) : iblk m c 7 t (ix3 b i 0) = (args m c).bs (ix2 b i) := by
  refine Eq.trans (b := V m c main_v5 (ix3 b i 0)) ?_ ((congrFun (V_bs m c) (ix3 b i 0)).trans ?_)
  · blk_point [iblk, idx7 t]
  · pointwise [args]

set_option maxHeartbeats 2000000 in
theorem in_at : InAt (ins m c t) (args m c) (xs m c) t where
  z := z_in m c t
  zp := zp_in m c t
  x := x_in m c t
  bg := bg_in m c t
  lng := lng_in m c t
  lnb := lnb_in m c t
  ws := ws_in m c t
  bs := bs_in m c t
  wsc := wsc_in m c t
  wb := wb_in m c t
  wo := wo_in m c t

/-- The loads of point `t` are the arrays' rows. -/
theorem at_point : At (loads (grid0.coords t) (bufs t) (ins m c t)) (args m c) (xs m c) t :=
  at_of (i := grid0.coords t) (B := bufs t) (I := ins m c t) (A := args m c) (t := t) (in_at m c t) (later_iff t)

/-! ## The results after a point -/

theorem outs_ya (y : S512x512.Idx) : ((outs m c t).ya y : EReal) = (args m c).ya (row t (y 0)) (y 1) := by
  unfold outs
  dsimp only
  exact whole_at _ _ _ (point_ya c _ _ _) (fun p k => (args m c).ya (row t p) k) (ya_at (at_point m c t)) y
theorem outs_yb (y : S512x512.Idx) : ((outs m c t).yb y : EReal) = (args m c).yb (row t (y 0)) (y 1) := by
  unfold outs
  dsimp only
  exact whole_at _ _ _ (point_yb c _ _ _) (fun p k => (args m c).yb (row t p) k) (yb_at (at_point m c t)) y
theorem outs_cv (y : S512x512.Idx) : ((outs m c t).cv y : EReal) = (args m c).conv (row t (y 0)) (y 1) := by
  unfold outs
  dsimp only
  exact whole_at _ _ _ (point_cv c _ _ _) (fun p k => (args m c).conv (row t p) k) (cv_at (at_point m c t)) y
theorem outs_pa (y : S512x1024.Idx) : ((outs m c t).pa y : EReal) = (args m c).ea (row t (y 0)) (y 1) := by
  unfold outs
  dsimp only
  exact whole_at _ _ _ (point_pa c _ _ _) (fun p k => (args m c).ea (row t p) k) (ea_at (at_point m c t)) y
theorem outs_pb (y : S512x1024.Idx) : ((outs m c t).pb y : EReal) = (args m c).eb (row t (y 0)) (y 1) := by
  unfold outs
  dsimp only
  exact whole_at _ _ _ (point_pb c _ _ _) (fun p k => (args m c).eb (row t p) k) (eb_at (at_point m c t)) y
theorem outs_mg (y : S512x1024.Idx) : ((outs m c t).mg y : EReal) = (args m c).mg (row t (y 0)) (y 1) := by
  unfold outs
  dsimp only
  exact whole_at _ _ _ (point_mg c _ _ _) (fun p k => (args m c).mg (row t p) k) (mg_at (at_point m c t)) y
theorem outs_x1 (y : S512x1024.Idx) : ((outs m c t).x1 y : EReal) = (args m c).x1 (row t (y 0)) (xs m c) (y 1) := by
  unfold outs
  dsimp only
  exact whole_at _ _ _ (point_x1 c _ _ _) (fun p k => (args m c).x1 (row t p) (xs m c) k) (x1_at (at_point m c t)) y

/-! ## The arrays -/

theorem ya_array : (dats m 0 c).arrAt 11 cfg0.N = fun i : S8192x512.Idx => (args m c).ya (i 0) (i 1) := by
  refine (dats m 0 c).arrAt_eq_of_covers 11 _ (by decide +kernel) fun t hf y => ?_
  blk_simp
  rw [after_ya]
  refine (outs_ya m c t y).trans (congrArg (fun i : S8192x512.Idx => (args m c).ya (i 0) (i 1)) (a₁ := ix2 (row t (y 0)) (y 1)) ?_)
  blk_ext [idx11 t]
theorem yb_array : (dats m 0 c).arrAt 12 cfg0.N = fun i : S8192x512.Idx => (args m c).yb (i 0) (i 1) := by
  refine (dats m 0 c).arrAt_eq_of_covers 12 _ (by decide +kernel) fun t hf y => ?_
  blk_simp
  rw [after_yb]
  refine (outs_yb m c t y).trans (congrArg (fun i : S8192x512.Idx => (args m c).yb (i 0) (i 1)) (a₁ := ix2 (row t (y 0)) (y 1)) ?_)
  blk_ext [idx12 t]
theorem cv_array : (dats m 0 c).arrAt 13 cfg0.N = fun i : S8192x512.Idx => (args m c).conv (i 0) (i 1) := by
  refine (dats m 0 c).arrAt_eq_of_covers 13 _ (by decide +kernel) fun t hf y => ?_
  blk_simp
  rw [after_cv]
  refine (outs_cv m c t y).trans (congrArg (fun i : S8192x512.Idx => (args m c).conv (i 0) (i 1)) (a₁ := ix2 (row t (y 0)) (y 1)) ?_)
  blk_ext [idx13 t]
theorem pa_array : (dats m 0 c).arrAt 14 cfg0.N = fun i : S8192x1024.Idx => (args m c).ea (i 0) (i 1) := by
  refine (dats m 0 c).arrAt_eq_of_covers 14 _ (by decide +kernel) fun t hf y => ?_
  blk_simp
  rw [after_pa]
  refine (outs_pa m c t y).trans (congrArg (fun i : S8192x1024.Idx => (args m c).ea (i 0) (i 1)) (a₁ := ix2 (row t (y 0)) (y 1)) ?_)
  blk_ext [idx14 t]
theorem pb_array : (dats m 0 c).arrAt 15 cfg0.N = fun i : S8192x1024.Idx => (args m c).eb (i 0) (i 1) := by
  refine (dats m 0 c).arrAt_eq_of_covers 15 _ (by decide +kernel) fun t hf y => ?_
  blk_simp
  rw [after_pb]
  refine (outs_pb m c t y).trans (congrArg (fun i : S8192x1024.Idx => (args m c).eb (i 0) (i 1)) (a₁ := ix2 (row t (y 0)) (y 1)) ?_)
  blk_ext [idx15 t]
theorem mg_array : (dats m 0 c).arrAt 16 cfg0.N = fun i : S8192x1024.Idx => (args m c).mg (i 0) (i 1) := by
  refine (dats m 0 c).arrAt_eq_of_covers 16 _ (by decide +kernel) fun t hf y => ?_
  blk_simp
  rw [after_mg]
  refine (outs_mg m c t y).trans (congrArg (fun i : S8192x1024.Idx => (args m c).mg (i 0) (i 1)) (a₁ := ix2 (row t (y 0)) (y 1)) ?_)
  blk_ext [idx16 t]
theorem x1_array : (dats m 0 c).arrAt 17 cfg0.N = fun i : S8192x1024.Idx => (args m c).x1 (i 0) (xs m c) (i 1) := by
  refine (dats m 0 c).arrAt_eq_of_covers 17 _ (by decide +kernel) fun t hf y => ?_
  blk_simp
  rw [after_x1]
  refine (outs_x1 m c t y).trans (congrArg (fun i : S8192x1024.Idx => (args m c).x1 (i 0) (xs m c) (i 1)) (a₁ := ix2 (row t (y 0)) (y 1)) ?_)
  blk_ext [idx17 t]

end Cert.Kernel6Ideal.Body

end
-- ==== Proof.MixReal.lean ====
/- The functions of the mixer's formulas over real numbers, and why the derivative of the forward lines is what the formulas say. -/
module

public import proofs.«01_k».proof.Proof.MixFormula

@[expose] public section

noncomputable section

namespace Cert.Mix

open Idealize.ShloMosaic Cert.Finite

/-! ## The constants -/

theorem width_eq : width = ((512 : ℝ) : EReal) := by
  have h : (512 : ℝ) = 8388608 * (2 ^ 14)⁻¹ := by norm_num
  rw [h, EReal.coe_mul]
  simp [width, Ideal.ofBits, Ideal.ieee]

theorem eps_eq : ∃ e : ℝ, 0 < e ∧ eps = (e : EReal) := by
  refine ⟨10995116 * (2 ^ 40)⁻¹, by positivity, ?_⟩
  rw [EReal.coe_mul]
  simp [eps, Ideal.ofBits, Ideal.ieee]

theorem half_bits : Ideal.ofBits .f32 0x3F000000#32 = half := by
  have h : (1 / 2 : ℝ) = 8388608 * (2 ^ 24)⁻¹ := by norm_num
  unfold half
  rw [h, EReal.coe_mul]
  simp [Ideal.ofBits, Ideal.ieee]

theorem two_bits : Ideal.ofBits .f32 0x40000000#32 = ((2 : ℝ) : EReal) := by
  have h : (2 : ℝ) = 8388608 * (2 ^ 22)⁻¹ := by norm_num
  rw [h, EReal.coe_mul]
  simp [Ideal.ofBits, Ideal.ieee]

theorem three_bits : Ideal.ofBits .f32 0x40400000#32 = ((3 : ℝ) : EReal) := by
  have h : (3 : ℝ) = 12582912 * (2 ^ 22)⁻¹ := by norm_num
  rw [h, EReal.coe_mul]
  simp [Ideal.ofBits, Ideal.ieee]

theorem c0_bits : Ideal.ofBits .f32 0x3F4C422A#32 = c0 := by
  have h : (6693141 / 8388608 : ℝ) = 13386282 * (2 ^ 24)⁻¹ := by norm_num
  unfold c0
  rw [h, EReal.coe_mul]
  simp [Ideal.ofBits, Ideal.ieee]

theorem c1_bits : Ideal.div (Ideal.ofBits .f32 0x472EAB00#32) (Ideal.ofBits .f32 0x49742400#32) = c1 := by
  have hn : Ideal.ofBits .f32 0x472EAB00#32 = ((11447040 * (2 ^ 8)⁻¹ : ℝ) : EReal) := by
    rw [EReal.coe_mul]
    simp [Ideal.ofBits, Ideal.ieee]
  have hd : Ideal.ofBits .f32 0x49742400#32 = ((16000000 * (2 ^ 4)⁻¹ : ℝ) : EReal) := by
    rw [EReal.coe_mul]
    simp [Ideal.ofBits, Ideal.ieee]
  rw [hn, hd, div_coe _ (by positivity)]
  unfold c1
  norm_num

/-! ## Real numbers among the extended reals -/

abbrev IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem isReal_zero : IsReal 0 := ⟨0, EReal.coe_zero.symm⟩
theorem isReal_one : IsReal 1 := ⟨1, EReal.coe_one.symm⟩
theorem isReal_sum {ι : Type*} [Fintype ι] {f : ι → EReal} (h : ∀ i, IsReal (f i)) : IsReal (∑ i, f i) := by
  choose g hg using h
  exact ⟨∑ i, g i, by rw [coe_sum]; exact Finset.sum_congr rfl fun i _ => hg i⟩
theorem IsReal.ite {p : Prop} [Decidable p] {x y : EReal} (hx : IsReal x) (hy : IsReal y) : IsReal (if p then x else y) := by
  split_ifs <;> assumption

theorem isReal_sg {x : EReal} : IsReal x → IsReal (sg x) := by
  rintro ⟨v, rfl⟩
  have e : Ideal.exp (0 - (v : EReal)) = ((Real.exp (-v) : ℝ) : EReal) := by
    rw [show (0 : EReal) - (v : EReal) = ((-v : ℝ) : EReal) by rw [← EReal.coe_zero, ← EReal.coe_sub, zero_sub]]
    exact Ideal.exp_coe _
  refine ⟨1 / (1 + Real.exp (-v)), ?_⟩
  unfold sg
  rw [e, ← EReal.coe_one, ← EReal.coe_add]
  exact div_coe _ (by positivity)

theorem isReal_bend {x : EReal} (h : IsReal x) : IsReal (bend x) := by
  obtain ⟨a, ha⟩ := (show IsReal c0 from ⟨_, rfl⟩).mul (h.add ((((show IsReal c1 from ⟨_, rfl⟩).mul h).mul h).mul h))
  exact ⟨Real.tanh a, by unfold bend; rw [ha]; exact Ideal.tanh_coe a⟩

theorem isReal_gelu {x : EReal} (h : IsReal x) : IsReal (gelu x) :=
  ((show IsReal half from ⟨_, rfl⟩).mul h).mul (isReal_one.add (isReal_bend h))

/-! ## The smooth gate -/

/-- The gate as the forward lines write it. -/
theorem gelu_forward (x : EReal) : x * (half * (1 + Ideal.tanh (c0 * (x + c1 * (x * x * x))))) = gelu x := by
  unfold gelu bend
  rw [mul_assoc c1 x x, mul_assoc c1 (x * x) x, ← mul_assoc, mul_comm x half]

/-- The derivative of the forward lines, `t` being the hyperbolic tangent. -/
theorem slope_forward {x d : EReal} (hx : IsReal x) (hd : IsReal d) :
    d * (half * (1 + bend x)) + c0 * ((half * (x * d)) * ((1 + bend x) * (1 - bend x)))
      + (c1 * (c0 * ((half * (x * d)) * ((1 + bend x) * (1 - bend x))))) * (((3 : ℝ) : EReal) * (x * x)) = d * slope x := by
  obtain ⟨t, ht⟩ := isReal_bend hx
  unfold slope
  rw [ht]
  obtain ⟨x, rfl⟩ := hx
  obtain ⟨d, rfl⟩ := hd
  unfold half c0 c1 c3
  simp only [← EReal.coe_one, ← EReal.coe_mul, ← EReal.coe_add, ← EReal.coe_sub]
  congr 1
  ring

/-! ## The norm -/

theorem isReal_mean {f : Fin 512 → EReal} (h : ∀ k, IsReal (f k)) : IsReal (mean f) := by
  obtain ⟨a, ha⟩ := isReal_sum h
  exact ⟨a / 512, by unfold mean; rw [ha, width_eq]; exact div_coe _ (by norm_num)⟩

/-- The mean square of a centred row of real numbers. -/
def spread (g : Fin 512 → ℝ) : ℝ := (∑ k, (g k - (∑ i, g i) / 512) * (g k - (∑ i, g i) / 512)) / 512

theorem mean_coe (g : Fin 512 → ℝ) : mean (fun k => (g k : EReal)) = (((∑ k, g k) / 512 : ℝ) : EReal) := by
  unfold mean
  rw [width_eq, ← coe_sum]
  exact div_coe _ (by norm_num)

theorem centred_coe (g : Fin 512 → ℝ) (j : Fin 512) : centred (fun k => (g k : EReal)) j = ((g j - (∑ k, g k) / 512 : ℝ) : EReal) := by
  unfold centred
  rw [mean_coe, ← EReal.coe_sub]

/-- What is under the root, and the root's inverse. -/
theorem rstd_coe (g : Fin 512 → ℝ) : ∃ v : ℝ, 0 < v ∧
    mean (fun k => centred (fun k => (g k : EReal)) k * centred (fun k => (g k : EReal)) k) + eps = (v : EReal) ∧
    rstd (fun k => (g k : EReal)) = (((Real.sqrt v)⁻¹ : ℝ) : EReal) := by
  obtain ⟨e, he, hb⟩ := eps_eq
  have hv : 0 < spread g + e := add_pos_of_nonneg_of_pos (div_nonneg (Finset.sum_nonneg fun k _ => mul_self_nonneg _) (by norm_num)) he
  have hm : mean (fun k => centred (fun k => (g k : EReal)) k * centred (fun k => (g k : EReal)) k) + eps = ((spread g + e : ℝ) : EReal) := by
    simp only [centred_coe, ← EReal.coe_mul]
    rw [mean_coe, hb, ← EReal.coe_add]
    rfl
  exact ⟨_, hv, hm, by unfold rstd; rw [hm, rsqrt_coe hv]⟩

theorem isReal_norm {f : Fin 512 → EReal} (h : ∀ k, IsReal (f k)) (j : Fin 512) : IsReal (norm f j) := by
  choose g hg using h
  obtain rfl : f = fun k => (g k : EReal) := funext hg
  obtain ⟨v, -, -, hr⟩ := rstd_coe g
  unfold norm
  rw [hr, centred_coe]
  exact ⟨_, (EReal.coe_mul _ _).symm⟩

theorem isReal_back {f d : Fin 512 → EReal} (h : ∀ k, IsReal (f k)) (hd : ∀ k, IsReal (d k)) (j : Fin 512) : IsReal (back f d j) := by
  have hn := isReal_norm h
  have hm := isReal_mean fun k => (hd k).mul (hn k)
  choose g hg using h
  obtain rfl : f = fun k => (g k : EReal) := funext hg
  obtain ⟨v, -, -, hr⟩ := rstd_coe g
  unfold back
  exact (show IsReal _ from ⟨_, hr⟩).mul (((hd j).sub (isReal_mean hd)).sub ((hn j).mul hm))

/-- What reaches a row through its spread, in the derivative of the forward lines. -/
def throughSpread (f d : Fin 512 → EReal) : EReal :=
  Ideal.div ((∑ k, centred f k * d k) * (Ideal.ofBits .f32 0xBF000000#32
    * Ideal.div (rstd f) (mean (fun k => centred f k * centred f k) + eps))) width

/-- The gradient of a row as the derivative of the forward lines. -/
def vjp (f d : Fin 512 → EReal) (j : Fin 512) : EReal :=
  d j * rstd f + throughSpread f d * (((2 : ℝ) : EReal) * centred f j)
    + Ideal.div (∑ k, -(d k * rstd f) + ∑ k, -(throughSpread f d * (((2 : ℝ) : EReal) * centred f k))) width

/-- On rows of real numbers it is the gradient written by hand. -/
theorem vjp_eq_back {f d : Fin 512 → EReal} (h : ∀ k, IsReal (f k)) (hd : ∀ k, IsReal (d k)) (j : Fin 512) : vjp f d j = back f d j := by
  choose g hg using h
  obtain rfl : f = fun k => (g k : EReal) := funext hg
  choose e he using hd
  obtain rfl : d = fun k => (e k : EReal) := funext he
  obtain ⟨v, hv, hm, hs⟩ := rstd_coe g
  have hr : (Real.sqrt v)⁻¹ * (Real.sqrt v)⁻¹ = v⁻¹ := by rw [← mul_inv, Real.mul_self_sqrt hv.le]
  have h512 : (512 : ℝ) ≠ 0 := by norm_num
  unfold vjp back norm throughSpread
  simp only [hs, hm]
  simp only [centred_coe, ofBits_neg_half, width_eq, ← EReal.coe_mul, ← coe_sum, div_coe _ h512, div_coe _ hv.ne', mean_coe,
    ← EReal.coe_neg, ← EReal.coe_sub, ← EReal.coe_add]
  congr 1
  generalize (Real.sqrt v)⁻¹ = r at hr
  have hc : ∑ k, (g k - (∑ i, g i) / 512) = 0 := by
    rw [Finset.sum_sub_distrib, Finset.sum_const, Finset.card_univ, Fintype.card_fin, nsmul_eq_mul]
    push_cast
    ring
  generalize (∑ i, g i) / 512 = μ at hc
  have e1 : ∑ k, e k * ((g k - μ) * r) = (∑ k, (g k - μ) * e k) * r := by
    rw [Finset.sum_mul]; exact Finset.sum_congr rfl fun k _ => by ring
  have e2 : ∑ k, -(e k * r) = -((∑ k, e k) * r) := by rw [Finset.sum_mul, Finset.sum_neg_distrib]
  generalize ∑ k, (g k - μ) * e k = S at e1
  rw [e1, e2]
  have e3 : ∀ w : ℝ, ∑ k, -(w * (2 * (g k - μ))) = 0 := fun w => by
    rw [Finset.sum_neg_distrib, ← Finset.mul_sum, ← Finset.mul_sum, hc, mul_zero, mul_zero, neg_zero]
  rw [e3, div_eq_mul_inv r v, ← hr]
  ring

end Cert.Mix

end
-- ==== Proof.MixReference.lean ====
/- What the mixer's reference leaves: the derivative of the forward lines, read as the formulas. -/
module

public import proofs.«01_k».proof.Proof.MixReal
public import proofs.«01_k».proof.Proof.Gen.Reference4Ideal.Read

@[expose] public section

set_option maxRecDepth 16384

noncomputable section

namespace Cert.Reference4Ideal.Body

open Cert.Reference4Ideal Cert.Reference4Ideal.Gen Cert.Reference4Ideal.Read Idealize.ShloMosaic Idealize.ShloMosaic.TcCoe Idealize.SL.Sem
open Cert.Mix

variable (A : Args)

/-- The saved values are the forward lines' own. -/
structure Saved : Prop where
  cv : ∀ i, val_main_v119 (F := Ideal) A.z A.wsc i = A.cv i
  pa : ∀ i, val_main_v122 (F := Ideal) A.z A.lng A.lnb A.ws A.bs A.wb i = A.pa i
  pb : ∀ i, val_main_v126 (F := Ideal) A.z A.wsc A.wb i = A.pb i

variable (n : Fin 8192)

/-! ## The gates -/

theorem u_ref (j : Fin 512) : val_main_v2 (F := Ideal) A.z (ix2 n j) = A.u n j := by
  pointwise [val_main_v2, val_main_v1]
  rfl
theorem v_ref (j : Fin 512) : val_main_v3 (F := Ideal) A.z (ix2 n j) = A.v n j := by
  pointwise [val_main_v3, val_main_v1]
  rfl
theorem zb_ref (j : Fin 512) : val_main_v4 (F := Ideal) A.z (ix2 n j) = A.zb n j := by
  pointwise [val_main_v4, val_main_v1]
  rfl
theorem zc_ref (j : Fin 512) : val_main_v5 (F := Ideal) A.z (ix2 n j) = A.zc n j := by
  pointwise [val_main_v5, val_main_v1]
  rfl
theorem zh_ref (j : Fin 512) : val_main_v6 (F := Ideal) A.z (ix2 n j) = A.zh n j := by
  pointwise [val_main_v6, val_main_v1]
  rfl
theorem dmg_ref (j : Fin 1024) : val_main_v157 (F := Ideal) A.dx A.wo (ix2 n j) = A.dmg n j := by
  pointwise [val_main_v157]
  rfl
theorem sa_ref (j : Fin 1024) : val_main_v135 (F := Ideal) A.z A.bg (ix2 n j) = A.sa n j := by
  pointwise [val_main_v135, val_main_v134, val_main_v133, val_main_v132, val_main_v131, val_main_v130, val_main_v129, val_main_v128,
    val_main_v127, val_main_v9, val_main_v7, val_main_v1, val_main_cst_26, val_main_cst_27]
  unfold Args.sa sg
  rw [zero_sub]
  rfl
theorem sb_ref (j : Fin 1024) : val_main_v147 (F := Ideal) A.z A.bg (ix2 n j) = A.sb n j := by
  pointwise [val_main_v147, val_main_v146, val_main_v145, val_main_v144, val_main_v143, val_main_v142, val_main_v141, val_main_v140,
    val_main_v139, val_main_v10, val_main_v8, val_main_v1, val_main_cst_29, val_main_cst_30]
  unfold Args.sb sg
  rw [zero_sub]
  rfl
theorem dpa_ref (j : Fin 1024) : val_main_v160 (F := Ideal) A.dx A.z A.bg A.wo (ix2 n j) = A.dpa n j := by
  pointwise [val_main_v160, sa_ref, dmg_ref]
  exact mul_comm (G := EReal) _ _
theorem dpb_ref (j : Fin 1024) : val_main_v158 (F := Ideal) A.dx A.z A.bg A.wo (ix2 n j) = A.dpb n j := by
  pointwise [val_main_v158, sb_ref, dmg_ref]
  exact mul_comm (G := EReal) _ _
theorem dya_ref (j : Fin 512) : val_main_v173 (F := Ideal) A.dx A.z A.bg A.wb A.wo (ix2 n j) = A.dya n j := by
  pointwise [val_main_v173, val_main_v121, val_main_v120]
  simp only [dpa_ref]
  rfl
theorem dyb_ref (j : Fin 512) : val_main_v170 (F := Ideal) A.dx A.z A.bg A.wb A.wo (ix2 n j) = A.dyb n j := by
  pointwise [val_main_v170, val_main_v125, val_main_v124]
  simp only [dpb_ref]
  rfl

variable {A} in
theorem dga_ref (hs : Saved A) (j : Fin 1024) :
    val_main_v166 (F := Ideal) A.dx A.z A.bg A.lng A.lnb A.ws A.bs A.wb A.wo (ix2 n j) = A.dga n j := by
  pointwise [val_main_v166, val_main_v161, val_main_v151, val_main_v0, val_main_cst, val_main_v138, val_main_v137, val_main_v136,
    val_main_cst_28, dmg_ref, sa_ref, hs.pa]
  unfold Args.dga
  rw [← mul_assoc]
variable {A} in
theorem dgb_ref (hs : Saved A) (j : Fin 1024) :
    val_main_v162 (F := Ideal) A.dx A.z A.bg A.wsc A.wb A.wo (ix2 n j) = A.dgb n j := by
  pointwise [val_main_v162, val_main_v159, val_main_v153, val_main_v0, val_main_cst, val_main_v150, val_main_v149, val_main_v148,
    val_main_cst_31, dmg_ref, sb_ref, hs.pb]
  unfold Args.dgb
  rw [← mul_assoc]

/-! ## The smooth gate and the norm -/

theorem bend_u (j : Fin 512) : val_main_v25 (F := Ideal) A.z (ix2 n j) = bend (A.u n j) := by
  pointwise [val_main_v25, val_main_v24, val_main_v23, val_main_v22, val_main_v21, val_main_v20, val_main_v16, val_main_v15, val_main_v14,
    val_main_cst_0, val_main_cst_1, val_main_cst_3, u_ref, c0_bits, c1_bits]
  unfold bend
  rw [mul_assoc c1, mul_assoc c1]
theorem bend_v (j : Fin 512) : val_main_v47 (F := Ideal) A.z (ix2 n j) = bend (A.v n j) := by
  pointwise [val_main_v47, val_main_v46, val_main_v45, val_main_v44, val_main_v43, val_main_v42, val_main_v38, val_main_v37, val_main_v36,
    val_main_cst_8, val_main_cst_9, val_main_cst_11, v_ref, c0_bits, c1_bits]
  unfold bend
  rw [mul_assoc c1, mul_assoc c1]
theorem gu_ref (j : Fin 512) : val_main_v35 (F := Ideal) A.z (ix2 n j) = gelu (A.u n j) := by
  pointwise [val_main_v35, val_main_v34, val_main_v33, val_main_v32, val_main_v31, val_main_cst_6, val_main_cst_7, bend_u, u_ref, half_bits]
  unfold gelu
  rw [← mul_assoc, mul_comm _ half]
theorem gv_ref (j : Fin 512) : val_main_v57 (F := Ideal) A.z (ix2 n j) = A.gv n j := by
  pointwise [val_main_v57, val_main_v56, val_main_v55, val_main_v54, val_main_v53, val_main_cst_14, val_main_cst_15, bend_v, v_ref, half_bits]
  unfold Args.gv gelu
  rw [← mul_assoc, mul_comm _ half]
theorem mean_ref : val_main_v61 (F := Ideal) A.z (ix2 n 0) = mean (A.gv n) := by
  pointwise [val_main_v61, val_main_v60, val_main_v59, val_main_v58, val_main_cst_16, val_main_cst_17]
  simp only [gv_ref]
  rfl
theorem centred_ref (j : Fin 512) : val_main_v63 (F := Ideal) A.z (ix2 n j) = centred (A.gv n) j := by
  pointwise [val_main_v63, val_main_v62, gv_ref, mean_ref]
  rfl
theorem centred_ref' (j : Fin 512) : val_main_v72 (F := Ideal) A.z (ix2 n j) = centred (A.gv n) j := by
  pointwise [val_main_v72, val_main_v71, gv_ref, mean_ref]
  rfl
theorem spread_ref : val_main_v74 (F := Ideal) A.z (ix2 n 0) = mean (fun k => centred (A.gv n) k * centred (A.gv n) k) + eps := by
  pointwise [val_main_v74, val_main_v73, val_main_v70, val_main_v69, val_main_v68, val_main_v67, val_main_v64, val_main_cst_19,
    val_main_cst_20, val_main_cst_21]
  simp only [centred_ref]
  rfl
theorem rstd_ref : val_main_v75 (F := Ideal) A.z (ix2 n 0) = rstd (A.gv n) := by
  pointwise [val_main_v75, spread_ref]
  rfl
theorem norm_ref (j : Fin 512) : val_main_v80 (F := Ideal) A.z (ix2 n j) = norm (A.gv n) j := by
  pointwise [val_main_v80, val_main_v79, centred_ref', rstd_ref]
  rfl
theorem vn_ref (j : Fin 512) : val_main_v86 (F := Ideal) A.z A.lng A.lnb (ix2 n j) = A.vn n j := by
  pointwise [val_main_v86, val_main_v85, val_main_v84, val_main_v83, val_main_v82, val_main_v81, norm_ref]
  rfl
theorem df_ref (j : Fin 512) : val_main_v198 (F := Ideal) A.dx A.z A.bg A.wb A.wo (ix2 n j) = A.df n j := by
  pointwise [val_main_v198, gu_ref, dya_ref]
  exact mul_comm (G := EReal) _ _

/-! ## The blocks' products -/

theorem half_of (i : Fin 128) : val_main_v89 (F := Ideal) (ix1 i) = BitVec.ofNat 32 (i.val / 64) := by
  revert i
  decide +kernel

theorem half_le (i k : Fin 128) : IntOp.cmpi .sle (BitVec.ofNat 32 (k.val / 64)) (BitVec.ofNat 32 (i.val / 64)) = (1 : BitVec 1) ↔ keep i k := by
  have hi : i.val / 64 = 0 ∨ i.val / 64 = 1 := by omega
  have hk : k.val / 64 = 0 ∨ k.val / 64 = 1 := by omega
  rcases hi with hi | hi <;> rcases hk with hk | hk <;> simp only [keep, hi, hk] <;> decide

theorem pick {c : BitVec 1} {p : Prop} [Decidable p] (h : c = (1 : BitVec 1) ↔ p) (a b : EReal) : Scalar.select c a b = if p then a else b := by
  unfold Scalar.select
  exact if_congr h rfl rfl

/-- A sum over the first and the last of four axes. -/
theorem sum_outer {a b c d : ℕ} (h : (⟨4, ![a, b, c, d]⟩ : Shape).ReducesTo [0, 3] ⟨2, ![b, c]⟩)
    (x : (⟨4, ![a, b, c, d]⟩ : Shape).Idx → EReal) (init : EReal) (j : Fin b) (k : Fin c) :
    Ideal.hostReduceAdd h x init (ix2 j k) = init + ∑ p : Fin a, ∑ q : Fin d, x (ix4 p j k q) := by
  have hd : ∀ i, h.drop i = ix2 (i 1) (i 2) := fun i => funext fun e => match e with | ⟨0, _⟩ => rfl | ⟨1, _⟩ => rfl
  unfold Ideal.hostReduceAdd
  refine congrArg (init + ·) ?_
  rw [← Fintype.sum_prod_type' (f := fun p q => x (ix4 p j k q))]
  refine Finset.sum_nbij' (fun i => (i 0, i 3)) (fun p => ix4 p.1 j k p.2) (fun _ _ => Finset.mem_univ _)
    (fun p _ => Finset.mem_filter.mpr ⟨Finset.mem_univ _, hd _⟩) ?_ (fun _ _ => rfl) ?_
  · intro i hi
    have e := (hd i).symm.trans (Finset.mem_filter.mp hi).2
    obtain rfl : i 1 = j := congrFun e 0
    obtain rfl : i 2 = k := congrFun e 1
    exact (eq_ix4 i).symm
  · intro i hi
    have e := (hd i).symm.trans (Finset.mem_filter.mp hi).2
    obtain rfl : i 1 = j := congrFun e 0
    obtain rfl : i 2 = k := congrFun e 1
    exact congrArg x (eq_ix4 i)

theorem wm_ref (h : Fin 4) (i k : Fin 128) : val_main_v96_0 (F := Ideal) A.ws (ix3 h i k) = A.wm h i k := by
  pointwise [val_main_v96_0, val_main_v96_1, val_main_v95, val_main_v94, val_main_v93, val_main_v92, val_main_v91, val_main_v90,
    val_main_call1_v1, val_main_cst_23, half_of]
  exact pick (half_le i k) _ _
theorem f_ref (j : Fin 512) : val_main_v103 (F := Ideal) A.z A.lng A.lnb A.ws A.bs (ix2 n j) = A.f n j := by
  pointwise [val_main_v103, val_main_v102, val_main_v101, val_main_v100, val_main_v99, val_main_v98, val_main_v97, val_main_v87]
  simp only [wm_ref, vn_ref]
  unfold Args.f
  refine congrArg (· + _) (Finset.sum_congr rfl fun k _ => (mul_comm (G := EReal) _ _).trans ?_)
  exact congrArg (fun r => A.wm (head j) (place n) k * A.vn r j) (Fin.ext (by show n.val / 128 * 128 + k.val = 128 * (n.val / 128) + k.val; omega))
theorem dvn_ref (j : Fin 512) : val_main_v210 (F := Ideal) A.dx A.z A.bg A.ws A.wb A.wo (ix2 n j) = A.dvn n j := by
  pointwise [val_main_v210, val_main_v208, val_main_v207, val_main_v205, val_main_v200]
  simp only [wm_ref, df_ref]
  unfold Args.dvn
  refine Finset.sum_congr rfl fun k _ => (mul_comm (G := EReal) _ _).trans ?_
  exact congrArg (fun r => A.wm (head j) k (place n) * A.df r j) (Fin.ext (by show n.val / 128 * 128 + k.val = 128 * (n.val / 128) + k.val; omega))
theorem row_eq (b : Fin 64) (i : Fin 128) (h : b.val * 128 + i.val < 8192) : (⟨b.val * 128 + i.val, h⟩ : Fin 8192) = blockRow b i :=
  Fin.ext (by show b.val * 128 + i.val = 128 * b.val + i.val; omega)
theorem col_eq (b : Fin 4) (i : Fin 128) (h : b.val * 128 + i.val < 512) : (⟨b.val * 128 + i.val, h⟩ : Fin 512) = headCol b i :=
  Fin.ext (by show b.val * 128 + i.val = 128 * b.val + i.val; omega)
theorem dws_ref (h : Fin 4) (i k : Fin 128) :
    val_main_v209 (F := Ideal) A.dx A.z A.bg A.lng A.lnb A.wb A.wo (ix3 h i k) = A.dws (ix3 h i k) := by
  pointwise [val_main_v209, val_main_v96_1, val_main_v95, val_main_v94, val_main_v93, val_main_v92, val_main_v91, val_main_v90,
    val_main_call2_v0, val_main_call2_cst, half_of, val_main_v206, val_main_v205, val_main_v200, val_main_v87]
  simp only [df_ref, vn_ref, row_eq, col_eq]
  refine (pick (half_le i k) _ _).trans (Eq.trans ?_ (show _ = ∑ b, A.dwsPart b h i k from rfl))
  unfold Args.dwsPart
  by_cases hk : keep i k
  · rw [if_pos hk]
    exact Finset.sum_congr rfl fun b _ => (if_pos hk).symm
  · rw [if_neg hk]
    exact (Finset.sum_eq_zero fun b _ => if_neg hk).symm
theorem dbs_block (i : Fin 128) (h : Fin 4) : val_main_v201 (F := Ideal) A.dx A.z A.bg A.wb A.wo (ix2 i h) = A.dbs (ix3 h i 0) := by
  unfold val_main_v201
  refine (sum_outer _ _ _ i h).trans ?_
  pointwise [val_main_v200, val_main_cst_42]
  simp only [df_ref, row_eq, col_eq]
  rfl
theorem dbs_once (i : Fin 128) (h : Fin 4) : val_main_v203 (F := Ideal) A.dx A.z A.bg A.wb A.wo (ix2 i h) = A.dbs (ix3 h i 0) := by
  unfold val_main_v203
  refine (sum_outer _ _ _ i h).trans ?_
  pointwise [val_main_v202, val_main_cst_43]
  simp only [Fin.sum_univ_one]
  exact dbs_block A i h
theorem dbs_ref (h : Fin 4) (i : Fin 128) :
    val_main_v291 (F := Ideal) A.dx A.z A.bg A.wb A.wo (ix3 h i 0) = A.dbs (ix3 h i 0) := by
  pointwise [val_main_v291, val_main_v204]
  exact dbs_once A i h

/-! ## The convolution -/

theorem dconv_ref (j : Fin 512) : val_main_v171 (F := Ideal) A.dx A.z A.bg A.wb A.wo (ix2 n j) = A.dconv n j := by
  pointwise [val_main_v171, zb_ref, dyb_ref]
  exact mul_comm (G := EReal) _ _
variable {A} in
theorem dzb_ref (hs : Saved A) (j : Fin 512) : val_main_v172 (F := Ideal) A.dx A.z A.bg A.wsc A.wb A.wo (ix2 n j) = A.dzb n j := by
  pointwise [val_main_v172, dyb_ref, hs.cv]
  rfl
theorem taps (j : Fin 512) (p1 : ∀ _ : 1 ≤ 2 + n.val ∧ 2 + n.val - 1 < 8192, 2 + n.val - 1 < 8192) (p2 : ∀ _ : 2 + n.val < 8192, 2 + n.val < 8192) :
    ((A.wsc (ix2 2 j) * A.dconv n j +
        if h : 1 ≤ 2 + n.val ∧ 2 + n.val - 1 < 8192 then A.wsc (ix2 1 j) * A.dconv ⟨2 + n.val - 1, p1 h⟩ j else 0) +
      if h : 2 + n.val < 8192 then A.wsc (ix2 0 j) * A.dconv ⟨2 + n.val, p2 h⟩ j else 0) = A.dq n j := by
  unfold Args.dq Args.ext
  refine congrArg₂ _ (congrArg₂ _ rfl ?_) ?_
  · by_cases hn : n.val + 1 < 8192
    · rw [dif_pos ⟨by omega, by omega⟩, dif_pos hn]
      exact congrArg (fun r => A.wsc (ix2 1 j) * A.dconv r j) (Fin.ext (by show 2 + n.val - 1 = n.val + 1; omega))
    · rw [dif_neg (by omega), dif_neg hn, mul_zero]
  · by_cases hn : n.val + 2 < 8192
    · rw [dif_pos (by omega), dif_pos hn]
      exact congrArg (fun r => A.wsc (ix2 0 j) * A.dconv r j) (Fin.ext (by show 2 + n.val = n.val + 2; omega))
    · rw [dif_neg (by omega), dif_neg hn, mul_zero]

theorem dq_ref (j : Fin 512) : val_main_v195 (F := Ideal) A.dx A.z A.bg A.wsc A.wb A.wo (ix2 n j) = A.dq n j := by
  pointwise [val_main_v195, val_main_v193, val_main_v192, val_main_v188, val_main_v187, val_main_v186, val_main_v185, val_main_v181,
    val_main_v180, val_main_v179, val_main_v175, val_main_v174, val_main_v11, val_main_v12, val_main_v13, val_main_cst_36, val_main_cst_39,
    val_main_cst_41]
  simp only [dconv_ref]
  exact taps A n j _ _
/-- The product of the two columns, two rows down. -/
theorem q_ref (n : Fin 8194) (j : Fin 512) :
    val_main_v107 (F := Ideal) A.z (ix2 n j) = if h : n.val < 2 then 0 else A.q ⟨n.val - 2, by omega⟩ j := by
  pointwise [val_main_v107, val_main_v106, val_main_cst_24, val_main_v105]
  simp only [zc_ref, zh_ref]
  rfl

/-- A sum against the rows `k` earlier is a sum of the rows `k` later. -/
theorem lag (k : ℕ) (f u w : Fin 8192 → EReal) (v : ℕ → EReal) (hw0 : ∀ x : Fin 8192, x.val < k → w x = 0)
    (hw1 : ∀ x : Fin 8192, k ≤ x.val → w x = u ⟨x.val - k, by omega⟩) (hv : ∀ n (h : n < 8192), v n = f ⟨n, h⟩) (h0 : ∀ n, 8192 ≤ n → v n = 0) :
    ∑ x, f x * w x = ∑ r, u r * v (r.val + k) := by
  have e1 : ∑ x with k ≤ x.val, f x * w x = ∑ x, f x * w x := Finset.sum_filter_of_ne fun x _ h => by
    by_contra hx
    exact h (by rw [hw0 x (by omega), mul_zero])
  have e2 : ∑ r with r.val + k < 8192, u r * v (r.val + k) = ∑ r, u r * v (r.val + k) := Finset.sum_filter_of_ne fun x _ h => by
    by_contra hx
    exact h (by rw [h0 _ (by omega), mul_zero])
  rw [← e1, ← e2]
  refine Finset.sum_bij' (fun x _ => ⟨x.val - k, by omega⟩) (fun r hr => ⟨r.val + k, (Finset.mem_filter.mp hr).2⟩) ?_ ?_ ?_ ?_ ?_
  · intro x hx
    have := (Finset.mem_filter.mp hx).2
    exact Finset.mem_filter.mpr ⟨Finset.mem_univ _, by show x.val - k + k < 8192; omega⟩
  · intro r hr
    exact Finset.mem_filter.mpr ⟨Finset.mem_univ _, by show k ≤ r.val + k; omega⟩
  · intro x hx
    have := (Finset.mem_filter.mp hx).2
    exact Fin.ext (by show x.val - k + k = x.val; omega)
  · intro r hr
    exact Fin.ext (by show r.val + k - k = r.val; omega)
  · intro x hx
    have hk := (Finset.mem_filter.mp hx).2
    rw [hw1 x hk, mul_comm, hv (x.val - k + k) (by omega)]
    exact congrArg (fun r => u ⟨x.val - k, by omega⟩ * f r) (Fin.ext (by show x.val = x.val - k + k; omega))

theorem ext_of_lt (m : ℕ) (h : m < 8192) (j : Fin 512) : A.ext m j = A.dconv ⟨m, h⟩ j := by
  unfold Args.ext
  exact dif_pos h
theorem ext_of_ge (m : ℕ) (h : 8192 ≤ m) (j : Fin 512) : A.ext m j = 0 := by
  unfold Args.ext
  exact dif_neg (by omega)

theorem tap_two (i : Fin 1) (j : Fin 512) : val_main_v178 (F := Ideal) A.dx A.z A.bg A.wb A.wo (ix2 i j) = ∑ r, A.q r j * A.dconv r j := by
  obtain rfl : i = 0 := Subsingleton.elim _ _
  pointwise [val_main_v178, val_main_v177, val_main_v176, val_main_v116, val_main_cst_36, val_main_cst_37]
  simp only [dconv_ref, q_ref]
  refine Finset.sum_congr rfl fun r _ => ?_
  rw [dif_neg (by show ¬2 + r.val < 2; omega), mul_comm]
  exact congrArg (fun m => A.q m j * A.dconv r j) (Fin.ext (by show 2 + r.val - 2 = r.val; omega))
theorem tap_one (i : Fin 1) (j : Fin 512) : val_main_v184 (F := Ideal) A.dx A.z A.bg A.wb A.wo (ix2 i j) = ∑ r, A.q r j * A.ext (r.val + 1) j := by
  obtain rfl : i = 0 := Subsingleton.elim _ _
  pointwise [val_main_v184, val_main_v183, val_main_v182, val_main_v112, val_main_cst_38]
  simp only [dconv_ref, q_ref]
  refine lag 1 (fun r => A.dconv r j) (fun r => A.q r j) _ (fun m => A.ext m j) (fun x hx => ?_) (fun x hx => ?_) (fun m h => ext_of_lt A m h j)
    (fun m h => ext_of_ge A m h j)
  · exact dif_pos (by show 1 + x.val < 2; omega)
  · refine (dif_neg (by show ¬1 + x.val < 2; omega)).trans ?_
    exact congrArg (fun m => A.q m j) (Fin.ext (by show 1 + x.val - 2 = x.val - 1; omega))
theorem tap_zero (i : Fin 1) (j : Fin 512) : val_main_v191 (F := Ideal) A.dx A.z A.bg A.wb A.wo (ix2 i j) = ∑ r, A.q r j * A.ext (r.val + 2) j := by
  obtain rfl : i = 0 := Subsingleton.elim _ _
  pointwise [val_main_v191, val_main_v190, val_main_v189, val_main_v109, val_main_cst_40]
  simp only [dconv_ref, q_ref]
  refine lag 2 (fun r => A.dconv r j) (fun r => A.q r j) _ (fun m => A.ext m j) (fun x hx => ?_) (fun x hx => ?_) (fun m h => ext_of_lt A m h j)
    (fun m h => ext_of_ge A m h j)
  · exact dif_pos hx
  · exact dif_neg (by show ¬x.val < 2; omega)

/-! ## The sums over the rows -/

variable {A} in
theorem ga_sum (hs : Saved A) (j : Fin 1024) :
    val_main_v169 (F := Ideal) A.dx A.z A.bg A.lng A.lnb A.ws A.bs A.wb A.wo (ix1 j) = ∑ r, A.dga r j := by
  pointwise [val_main_v169, val_main_v168, val_main_v167, val_main_cst_34, val_main_cst_35]
  simp only [dga_ref _ hs, Fin.sum_univ_one]
variable {A} in
theorem gb_sum (hs : Saved A) (j : Fin 1024) :
    val_main_v165 (F := Ideal) A.dx A.z A.bg A.wsc A.wb A.wo (ix1 j) = ∑ r, A.dgb r j := by
  pointwise [val_main_v165, val_main_v164, val_main_v163, val_main_cst_32, val_main_cst_33]
  simp only [dgb_ref _ hs, Fin.sum_univ_one]
theorem bias_sum (j : Fin 512) : val_main_v213 (F := Ideal) A.dx A.z A.bg A.ws A.wb A.wo (ix1 j) = ∑ r, A.dvn r j := by
  pointwise [val_main_v213, val_main_v212, val_main_v211, val_main_cst_44, val_main_cst_45]
  simp only [dvn_ref, Fin.sum_univ_one]
theorem gain_sum (j : Fin 512) : val_main_v219 (F := Ideal) A.dx A.z A.bg A.ws A.wb A.wo (ix1 j) = ∑ r, A.dvn r j * norm (A.gv r) j := by
  pointwise [val_main_v219, val_main_v216, val_main_v215, val_main_v214, val_main_cst_46, val_main_cst_47]
  simp only [dvn_ref, norm_ref, Fin.sum_univ_one]
  exact Finset.sum_congr rfl fun r _ => mul_comm (G := EReal) _ _

omit n in
theorem sum_dite {p : Prop} [Decidable p] (f : p → Fin 8192 → EReal) : ∑ r, (if h : p then f h r else 0) = if h : p then ∑ r, f h r else 0 := by
  split_ifs
  · rfl
  · exact Finset.sum_const_zero

theorem gate_row (j : Fin 2816) : A.part n 0 j
    = if h : j.val < 1024 then A.dga n ⟨j.val, h⟩ else if h1 : j.val < 2048 then A.dgb n ⟨j.val - 1024, by omega⟩ else 0 := rfl
theorem sheet_row (b : ℕ) {i : Fin 40} (k : ℕ) (hk : k < 6) (e : i.val = b + k) (j : Fin 2816) :
    A.sheetOut b (ix2 i j) = ∑ r, A.part r k j := by
  unfold Args.sheetOut
  refine (if_pos (show b ≤ i.val ∧ i.val < b + 6 by omega)).trans ?_
  exact congrArg (fun k => ∑ r, A.part r k j) (by show i.val - b = k; omega)
theorem sheet_else (b : ℕ) {i : Fin 40} (e : i.val < b ∨ b + 6 ≤ i.val) (j : Fin 2816) : A.sheetOut b (ix2 i j) = A.sheet (ix2 i j) := by
  unfold Args.sheetOut
  exact if_neg (show ¬(b ≤ i.val ∧ i.val < b + 6) by omega)

/-! ## The layer's rows -/

section Rows

variable (i : Fin 1) (j : Fin 2816)

variable {A} in
theorem gate_part (hs : Saved A) : val_main_v273 (F := Ideal) A.dx A.z A.bg A.lng A.lnb A.ws A.bs A.wsc A.wb A.wo (ix2 i j) = ∑ r, A.part r 0 j := by
  pointwise [val_main_v273, val_main_v272, val_main_v271, val_main_v270, val_main_cst_59]
  simp only [ga_sum hs, gb_sum hs, gate_row]
  by_cases h1 : j.val < 1024
  · rw [dif_pos (by omega), dif_pos h1]
    exact Finset.sum_congr rfl fun r _ => by rw [dif_pos h1]
  · by_cases h2 : j.val < 2048
    · rw [dif_pos h2, dif_neg h1]
      exact Finset.sum_congr rfl fun r _ => by rw [dif_neg h1, dif_pos h2]
    · rw [dif_neg h2]
      exact (Finset.sum_eq_zero fun r _ => (dif_neg h1).trans (dif_neg h2)).symm
theorem gain_part : val_main_v276 (F := Ideal) A.dx A.z A.bg A.ws A.wb A.wo (ix2 i j) = ∑ r, A.part r 1 j := by
  pointwise [val_main_v276, val_main_v275, val_main_v274, val_main_cst_60]
  simp only [gain_sum]
  exact (sum_dite fun h r => A.dvn r ⟨j.val, h⟩ * Mix.norm (A.gv r) ⟨j.val, h⟩).symm
theorem bias_part : val_main_v279 (F := Ideal) A.dx A.z A.bg A.ws A.wb A.wo (ix2 i j) = ∑ r, A.part r 2 j := by
  pointwise [val_main_v279, val_main_v278, val_main_v277, val_main_cst_61]
  simp only [bias_sum]
  exact (sum_dite fun h r => A.dvn r ⟨j.val, h⟩).symm
theorem tap_zero_part : val_main_v281 (F := Ideal) A.dx A.z A.bg A.wb A.wo (ix2 i j) = ∑ r, A.part r 3 j := by
  pointwise [val_main_v281, val_main_v280, val_main_cst_62]
  simp only [tap_zero]
  exact (sum_dite fun h r => A.q r ⟨j.val, h⟩ * A.ext (r.val + 2) ⟨j.val, h⟩).symm
theorem tap_one_part : val_main_v283 (F := Ideal) A.dx A.z A.bg A.wb A.wo (ix2 i j) = ∑ r, A.part r 4 j := by
  pointwise [val_main_v283, val_main_v282, val_main_cst_63]
  simp only [tap_one]
  exact (sum_dite fun h r => A.q r ⟨j.val, h⟩ * A.ext (r.val + 1) ⟨j.val, h⟩).symm
theorem tap_two_part : val_main_v285 (F := Ideal) A.dx A.z A.bg A.wb A.wo (ix2 i j) = ∑ r, A.part r 5 j := by
  pointwise [val_main_v285, val_main_v284, val_main_cst_64]
  simp only [tap_two]
  exact (sum_dite fun h r => A.q r ⟨j.val, h⟩ * A.dconv r ⟨j.val, h⟩).symm

end Rows

variable {A} in
set_option maxHeartbeats 2000000 in
/-- The last result. -/
theorem sheet_ref (hs : Saved A) (i : S40x2816.Idx) :
    val_main_v287 (F := Ideal) A.dx A.z A.bg A.lng A.lnb A.ws A.bs A.wsc A.wb A.wo A.sheet i = A.sheetOut 17 i := by
  obtain ⟨n, j, rfl⟩ : ∃ (n : Fin 40) (j : Fin 2816), i = ix2 n j := ⟨i 0, i 1, eq_ix2 i⟩
  pointwise [val_main_v287, val_main_v286, val_main_v269]
  simp only [gate_part _ _ hs, gain_part, bias_part, tap_zero_part, tap_one_part, tap_two_part]
  have hn : n.val < 40 := n.isLt
  split_ifs
  · exact (sheet_else A 17 (by omega) j).symm
  · exact (sheet_row A 17 0 (by omega) (by omega) j).symm
  · exact (sheet_row A 17 1 (by omega) (by omega) j).symm
  · exact (sheet_row A 17 2 (by omega) (by omega) j).symm
  · exact (sheet_row A 17 3 (by omega) (by omega) j).symm
  · exact (sheet_row A 17 4 (by omega) (by omega) j).symm
  · exact (sheet_row A 17 5 (by omega) (by omega) j).symm
  · rw [sheet_else A 17 (by omega)]
    exact congrArg (fun i => A.sheet (ix2 i j)) (Fin.ext (by show 23 + (n.val - 17 - 1 - 1 - 1 - 1 - 1 - 1) = n.val; omega))
  · exact absurd rfl (by assumption)

theorem dz_split (j : Fin 4608) : A.dz (ix2 n j)
    = if h : j.val < 512 then A.dzu n ⟨j.val, h⟩
      else if h1 : j.val < 1024 then A.dzv n ⟨j.val - 512, by omega⟩
      else if h2 : j.val < 1536 then A.dzb n ⟨j.val - 1024, by omega⟩
      else if h3 : j.val < 2048 then A.dq n ⟨j.val - 1536, by omega⟩ * A.zh n ⟨j.val - 1536, by omega⟩
      else if h4 : j.val < 2560 then A.dq n ⟨j.val - 2048, by omega⟩ * A.zc n ⟨j.val - 2048, by omega⟩
      else if h5 : j.val < 3584 then A.dga n ⟨j.val - 2560, by omega⟩
      else A.dgb n ⟨j.val - 3584, by have := j.isLt; omega⟩ := rfl

/-! ## The gradients of `z` -/

/-- The arguments but the sheet are arrays of real numbers. -/
structure Real : Prop where
  dx : ∀ i, IsReal (A.dx i)
  z : ∀ i, IsReal (A.z i)
  bg : ∀ i, IsReal (A.bg i)
  lng : ∀ i, IsReal (A.lng i)
  lnb : ∀ i, IsReal (A.lnb i)
  ws : ∀ i, IsReal (A.ws i)
  bs : ∀ i, IsReal (A.bs i)
  wb : ∀ i, IsReal (A.wb i)
  wo : ∀ i, IsReal (A.wo i)

section Reals

variable {A} (hA : Real A)
include hA

theorem real_sa (j : Fin 1024) : IsReal (A.sa n j) := isReal_sg ((hA.z _).add (hA.bg _))
theorem real_sb (j : Fin 1024) : IsReal (A.sb n j) := isReal_sg ((hA.z _).add (hA.bg _))
theorem real_dmg (j : Fin 1024) : IsReal (A.dmg n j) := isReal_sum fun _ => (hA.dx _).mul (hA.wo _)
theorem real_dya (j : Fin 512) : IsReal (A.dya n j) := isReal_sum fun k => ((real_dmg n hA k).mul (real_sa n hA k)).mul (hA.wb _)
theorem real_gv (j : Fin 512) : IsReal (A.gv n j) := isReal_gelu (hA.z _)
theorem real_vn (j : Fin 512) : IsReal (A.vn n j) := ((isReal_norm (real_gv n hA) j).mul (hA.lng _)).add (hA.lnb _)
theorem real_wm (h : Fin 4) (i k : Fin 128) : IsReal (A.wm h i k) := (hA.ws _).ite isReal_zero
theorem real_f (j : Fin 512) : IsReal (A.f n j) := (isReal_sum fun k => (real_wm hA _ _ k).mul (real_vn _ hA j)).add (hA.bs _)
theorem real_df (j : Fin 512) : IsReal (A.df n j) := (real_dya n hA j).mul (isReal_gelu (hA.z _))
theorem real_dvn (j : Fin 512) : IsReal (A.dvn n j) := isReal_sum fun k => (real_wm hA _ k _).mul (real_df _ hA j)

theorem dzu_ref (j : Fin 512) : val_main_v267 (F := Ideal) A.dx A.z A.bg A.lng A.lnb A.ws A.bs A.wb A.wo (ix2 n j) = A.dzu n j := by
  refine Eq.trans ?_ (slope_forward (hA.z _) ((real_dya n hA j).mul (real_f n hA j)))
  pointwise [val_main_v267, val_main_v266, val_main_v265, val_main_v264, val_main_v263, val_main_v262, val_main_v261, val_main_v260,
    val_main_v259, val_main_v258, val_main_v257, val_main_v256, val_main_v199, val_main_v34, val_main_v33, val_main_v32, val_main_v31,
    val_main_v30, val_main_v29, val_main_v28, val_main_v27, val_main_v26, val_main_v19, val_main_v18, val_main_v17, val_main_v14,
    val_main_cst_0, val_main_cst_1, val_main_cst_2, val_main_cst_4, val_main_cst_5, val_main_cst_6, val_main_cst_7, val_main_cst_57,
    val_main_cst_58, bend_u, u_ref, dya_ref, f_ref, half_bits, three_bits, c0_bits, c1_bits]
theorem through_ref : val_main_v230 (F := Ideal) A.dx A.z A.bg A.lng A.ws A.wb A.wo (ix2 n 0)
    = throughSpread (A.gv n) (fun k => A.dvn n k * A.lng (ix1 k)) := by
  pointwise [val_main_v230, val_main_v229, val_main_v225, val_main_v222, val_main_v221, val_main_v220, val_main_v218, val_main_v217,
    val_main_v81, val_main_v78, val_main_v77, val_main_v76, val_main_cst_22, val_main_cst_48, val_main_cst_50, spread_ref, rstd_ref]
  simp only [centred_ref', dvn_ref]
  rfl
theorem dgv_ref (j : Fin 512) : val_main_v243 (F := Ideal) A.dx A.z A.bg A.lng A.ws A.wb A.wo (ix2 n j)
    = back (A.gv n) (fun k => A.dvn n k * A.lng (ix1 k)) j := by
  refine Eq.trans ?_ (vjp_eq_back (real_gv n hA) (fun k => (real_dvn n hA k).mul (hA.lng _)) j)
  pointwise [val_main_v243, val_main_v242, val_main_v241, val_main_v240, val_main_v239, val_main_v238, val_main_v237, val_main_v236,
    val_main_v235, val_main_v234, val_main_v233, val_main_v232, val_main_v231, val_main_v228, val_main_v227, val_main_v226, val_main_v224,
    val_main_v223, val_main_v218, val_main_v217, val_main_v81, val_main_v66, val_main_v65, val_main_cst_18, val_main_cst_49, val_main_cst_51,
    val_main_cst_52, val_main_cst_53, val_main_cst_54, rstd_ref, two_bits]
  simp only [Fin.sum_univ_one, centred_ref, dvn_ref, through_ref n hA]
  rfl
theorem dzv_ref (j : Fin 512) : val_main_v255 (F := Ideal) A.dx A.z A.bg A.lng A.ws A.wb A.wo (ix2 n j) = A.dzv n j := by
  refine Eq.trans ?_ (slope_forward (hA.z _) (isReal_back (real_gv n hA) (fun k => (real_dvn n hA k).mul (hA.lng _)) j))
  pointwise [val_main_v255, val_main_v254, val_main_v253, val_main_v252, val_main_v251, val_main_v250, val_main_v249, val_main_v248,
    val_main_v247, val_main_v246, val_main_v245, val_main_v244, val_main_v56, val_main_v55, val_main_v54, val_main_v53,
    val_main_v52, val_main_v51, val_main_v50, val_main_v49, val_main_v48, val_main_v41, val_main_v40, val_main_v39, val_main_v36,
    val_main_cst_8, val_main_cst_9, val_main_cst_10, val_main_cst_12, val_main_cst_13, val_main_cst_14, val_main_cst_15, val_main_cst_55,
    val_main_cst_56, bend_v, v_ref, half_bits, three_bits, c0_bits, c1_bits]
  simp only [dgv_ref n hA]

/-- The first result. -/
theorem dz_ref (hs : Saved A) (i : S8192x4608.Idx) :
    val_main_v288 (F := Ideal) A.dx A.z A.bg A.lng A.lnb A.ws A.bs A.wsc A.wb A.wo i = A.dz i := by
  obtain ⟨n, j, rfl⟩ : ∃ (n : Fin 8192) (j : Fin 4608), i = ix2 n j := ⟨i 0, i 1, eq_ix2 i⟩
  pointwise [val_main_v288, val_main_v268, val_main_v197, val_main_v196]
  simp only [dzu_ref _ hA, dzv_ref _ hA, dzb_ref _ hs, dq_ref, zc_ref, zh_ref, dga_ref _ hs, dgb_ref _ hs]
  have hj : j.val < 4608 := j.isLt
  by_cases h0 : j.val < 512
  · rw [dif_pos h0]
    rw [dz_split, dif_pos h0]
  rw [dif_neg h0]
  by_cases h1 : j.val < 1024
  · rw [dif_pos (by omega)]
    rw [dz_split, dif_neg h0, dif_pos h1]
  rw [dif_neg (by omega)]
  by_cases h2 : j.val < 1536
  · rw [dif_pos (by omega)]
    rw [dz_split, dif_neg h0, dif_neg h1, dif_pos h2]
    exact congrArg (A.dzb n) (Fin.ext (by show j.val - 512 - 512 = j.val - 1024; omega))
  rw [dif_neg (by omega)]
  by_cases h3 : j.val < 2048
  · rw [dif_pos (by omega)]
    rw [dz_split, dif_neg h0, dif_neg h1, dif_neg h2, dif_pos h3]
    exact congrArg (fun k => A.dq n k * A.zh n k) (Fin.ext (by show j.val - 512 - 512 - 512 = j.val - 1536; omega))
  rw [dif_neg (by omega)]
  by_cases h4 : j.val < 2560
  · rw [dif_pos (by omega)]
    rw [dz_split, dif_neg h0, dif_neg h1, dif_neg h2, dif_neg h3, dif_pos h4]
    refine (mul_comm (G := EReal) _ _).trans ?_
    exact congrArg (fun k => A.dq n k * A.zc n k) (Fin.ext (by show j.val - 512 - 512 - 512 - 512 = j.val - 2048; omega))
  rw [dif_neg (by omega)]
  by_cases h5 : j.val < 3584
  · rw [dif_pos (by omega)]
    rw [dz_split, dif_neg h0, dif_neg h1, dif_neg h2, dif_neg h3, dif_neg h4, dif_pos h5]
    exact congrArg (A.dga n) (Fin.ext (by show j.val - 512 - 512 - 512 - 512 - 512 = j.val - 2560; omega))
  · rw [dif_neg (by omega)]
    rw [dz_split, dif_neg h0, dif_neg h1, dif_neg h2, dif_neg h3, dif_neg h4, dif_neg h5]
    exact congrArg (A.dgb n) (Fin.ext (by show j.val - 512 - 512 - 512 - 512 - 512 - 1024 = j.val - 3584; omega))

end Reals

end Cert.Reference4Ideal.Body

end
-- ==== Proof.FwdReference.lean ====
/- What the mixer's forward reference leaves: its lines, read as the formulas. -/
module

public import proofs.«01_k».proof.Proof.FwdBlock
public import proofs.«01_k».proof.Proof.MixReference
public import proofs.«01_k».proof.Proof.Gen.Reference6Ideal.Read

@[expose] public section

set_option maxRecDepth 16384

noncomputable section

namespace Cert.Reference6Ideal.Body

open Cert.Reference6Ideal Cert.Reference6Ideal.Gen Cert.Reference6Ideal.Read Idealize.ShloMosaic Idealize.ShloMosaic.TcCoe Idealize.SL.Sem
open Cert.Mix
open Cert.Reference4Ideal.Body (half_le pick)

variable (A : Args) (n : Fin 8192)

/-! ## The mixing branch -/

theorem u_ref (j : Fin 512) : val_main_v1 (F := Ideal) A.z (ix2 n j) = A.u n j := by
  pointwise [val_main_v1, val_main_v0]
  rfl
theorem v_ref (j : Fin 512) : val_main_v2 (F := Ideal) A.z (ix2 n j) = A.v n j := by
  pointwise [val_main_v2, val_main_v0]
  rfl
theorem zb_ref (j : Fin 512) : val_main_v3 (F := Ideal) A.z (ix2 n j) = A.zb n j := by
  pointwise [val_main_v3, val_main_v0]
  rfl
theorem zc_ref (j : Fin 512) : val_main_v4 (F := Ideal) A.z (ix2 n j) = A.zc n j := by
  pointwise [val_main_v4, val_main_v0]
  rfl
theorem zh_ref (j : Fin 512) : val_main_v5 (F := Ideal) A.z (ix2 n j) = A.zh n j := by
  pointwise [val_main_v5, val_main_v0]
  rfl
theorem gu_ref (j : Fin 512) : val_main_v21 (F := Ideal) A.z (ix2 n j) = gelu (A.u n j) := by
  pointwise [val_main_v21, val_main_v20, val_main_v19, val_main_v18, val_main_v17, val_main_v16, val_main_v15, val_main_v14,
    val_main_v13, val_main_v12, val_main_v11, val_main_v10, val_main_v9, val_main_v8, val_main_cst, val_main_cst_0, val_main_cst_1,
    val_main_cst_2, val_main_cst_3, u_ref, half_bits, c0_bits, c1_bits]
  exact gelu_forward _
theorem gv_ref (j : Fin 512) : val_main_v35 (F := Ideal) A.z (ix2 n j) = A.gv n j := by
  pointwise [val_main_v35, val_main_v34, val_main_v33, val_main_v32, val_main_v31, val_main_v30, val_main_v29, val_main_v28,
    val_main_v27, val_main_v26, val_main_v25, val_main_v24, val_main_v23, val_main_v22, val_main_cst_4, val_main_cst_5,
    val_main_cst_6, val_main_cst_7, val_main_cst_8, v_ref, half_bits, c0_bits, c1_bits]
  exact gelu_forward _
theorem mean_ref  : val_main_v39 (F := Ideal) A.z (ix2 n 0) = mean (A.gv n) := by
  pointwise [val_main_v39, val_main_v38, val_main_v37, val_main_v36, val_main_cst_9, val_main_cst_10]
  simp only [gv_ref]
  rfl
theorem centred_ref (j : Fin 512) : val_main_v41 (F := Ideal) A.z (ix2 n j) = centred (A.gv n) j := by
  pointwise [val_main_v41, val_main_v40, gv_ref, mean_ref]
  rfl
theorem centred_ref' (j : Fin 512) : val_main_v48 (F := Ideal) A.z (ix2 n j) = centred (A.gv n) j := by
  pointwise [val_main_v48, val_main_v47, gv_ref, mean_ref]
  rfl
theorem rstd_ref  : val_main_v51 (F := Ideal) A.z (ix2 n 0) = rstd (A.gv n) := by
  pointwise [val_main_v51, val_main_v50, val_main_v49, val_main_v46, val_main_v45, val_main_v44, val_main_v43, val_main_v42,
    val_main_cst_11, val_main_cst_12, val_main_cst_13]
  simp only [centred_ref]
  rfl
theorem vn_ref (j : Fin 512) : val_main_v59 (F := Ideal) A.z A.lng A.lnb (ix2 n j) = A.vn n j := by
  pointwise [val_main_v59, val_main_v58, val_main_v57, val_main_v56, val_main_v55, val_main_v54, val_main_v53, val_main_v52,
    centred_ref', rstd_ref]
  rfl
theorem half_of (i : Fin 128) : val_main_v62 (F := Ideal) (ix1 i) = BitVec.ofNat 32 (i.val / 64) := by
  revert i
  decide +kernel
theorem wm_ref (h : Fin 4) (i k : Fin 128) : val_main_v69 (F := Ideal) A.ws (ix3 h i k) = A.wm h i k := by
  pointwise [val_main_v69, val_main_v68, val_main_v67, val_main_v66, val_main_v65, val_main_v64, val_main_v63, val_main_call1_v0,
    val_main_call1_v1, val_main_cst_14, half_of]
  exact pick (half_le i k) _ _
theorem f_ref (j : Fin 512) : val_main_v76 (F := Ideal) A.z A.lng A.lnb A.ws A.bs (ix2 n j) = A.f n j := by
  pointwise [val_main_v76, val_main_v75, val_main_v74, val_main_v73, val_main_v72, val_main_v71, val_main_v70, val_main_v60]
  simp only [wm_ref, vn_ref]
  unfold Args.f
  refine congrArg (· + _) (Finset.sum_congr rfl fun k _ => (mul_comm (G := EReal) _ _).trans ?_)
  exact congrArg (fun r => A.wm (head j) (place n) k * A.vn r j) (Fin.ext (by show n.val / 128 * 128 + k.val = 128 * (n.val / 128) + k.val; omega))
theorem ya_ref (j : Fin 512) : val_main_v77 (F := Ideal) A.z A.lng A.lnb A.ws A.bs (ix2 n j) = A.ya n j := by
  pointwise [val_main_v77, gu_ref, f_ref]
  rfl

/-! ## The convolution -/

/-- The product of the two columns, two rows down. -/
theorem q_ref (n : Fin 8194) (j : Fin 512) : val_main_v83 (F := Ideal) A.z (ix2 n j) = if h : n.val < 2 then 0 else A.q ⟨n.val - 2, by omega⟩ j := by
  pointwise [val_main_v83, val_main_v82, val_main_v78, val_main_cst_15]
  simp only [zc_ref, zh_ref]
  rfl
theorem lag_eq (k s : ℕ) (hk : k + s = 2) (j : Fin 512) (h : ∀ _ : ¬s + n.val < 2, s + n.val - 2 < 8192) :
    (if h' : s + n.val < 2 then 0 else A.q ⟨s + n.val - 2, h h'⟩ j) = A.lag n k j := by
  unfold Args.lag
  by_cases hn : k ≤ n.val
  · rw [dif_neg (by omega), dif_pos hn]
    exact congrArg (fun r => A.q r j) (Fin.ext (by show s + n.val - 2 = n.val - k; omega))
  · rw [dif_pos (by omega), dif_neg hn]
theorem conv_ref (j : Fin 512) : val_main_v94 (F := Ideal) A.z A.wsc (ix2 n j) = A.conv n j := by
  pointwise [val_main_v94, val_main_v93, val_main_v92, val_main_v91, val_main_v90, val_main_v89, val_main_v88, val_main_v87,
    val_main_v86, val_main_v85, val_main_v84, val_main_v81, val_main_v80, val_main_v79]
  simp only [q_ref]
  have e0 := lag_eq A n 2 0 rfl j fun _ => by omega
  have e1 := lag_eq A n 1 1 rfl j fun _ => by omega
  simp only [Nat.zero_add] at e0
  unfold Args.conv
  rw [← e0, ← e1]
  refine congrArg (_ + A.wsc (ix2 2 j) * ·) ((dif_neg (by omega)).trans ?_)
  exact congrArg (fun r => A.q r j) (Fin.ext (by show 2 + n.val - 2 = n.val; omega))
theorem yb_ref (j : Fin 512) : val_main_v95 (F := Ideal) A.z A.wsc (ix2 n j) = A.yb n j := by
  pointwise [val_main_v95, zb_ref, conv_ref]
  rfl

/-! ## The products and the gates -/

theorem ea_ref (k : Fin 1024) : val_main_v98 (F := Ideal) A.z A.lng A.lnb A.ws A.bs A.wb (ix2 n k) = A.ea n k := by
  pointwise [val_main_v98, val_main_v97, val_main_v96]
  simp only [ya_ref]
  rfl
theorem eb_ref (k : Fin 1024) : val_main_v101 (F := Ideal) A.z A.wsc A.wb (ix2 n k) = A.eb n k := by
  pointwise [val_main_v101, val_main_v100, val_main_v99]
  simp only [yb_ref]
  rfl
theorem sa_ref (k : Fin 1024) : val_main_v111 (F := Ideal) A.z A.bg (ix2 n k) = A.sa n k := by
  pointwise [val_main_v111, val_main_v110, val_main_v109, val_main_v108, val_main_v107, val_main_v106, val_main_v105,
    val_main_v104, val_main_v103, val_main_v102, val_main_v6, val_main_v0, val_main_cst_16, val_main_cst_17]
  unfold Args.sa sg
  rw [zero_sub]
  rfl
theorem sb_ref (k : Fin 1024) : val_main_v122 (F := Ideal) A.z A.bg (ix2 n k) = A.sb n k := by
  pointwise [val_main_v122, val_main_v121, val_main_v120, val_main_v119, val_main_v118, val_main_v117, val_main_v116,
    val_main_v115, val_main_v114, val_main_v113, val_main_v7, val_main_v0, val_main_cst_18, val_main_cst_19]
  unfold Args.sb sg
  rw [zero_sub]
  rfl
theorem mg_ref (k : Fin 1024) : val_main_v124 (F := Ideal) A.z A.bg A.lng A.lnb A.ws A.bs A.wsc A.wb (ix2 n k) = A.mg n k := by
  pointwise [val_main_v124, val_main_v123, val_main_v112, sa_ref, sb_ref, ea_ref, eb_ref]
  rfl

/-! ## The results -/

theorem ya_all : val_main_v125 (F := Ideal) A.z A.lng A.lnb A.ws A.bs = fun i => A.ya (i 0) (i 1) := by
  funext i
  obtain ⟨n, j, rfl⟩ : ∃ (n : Fin 8192) (j : Fin 512), i = ix2 n j := ⟨i 0, i 1, eq_ix2 i⟩
  pointwise [val_main_v125, ya_ref]
theorem yb_all : val_main_v126 (F := Ideal) A.z A.wsc = fun i => A.yb (i 0) (i 1) := by
  funext i
  obtain ⟨n, j, rfl⟩ : ∃ (n : Fin 8192) (j : Fin 512), i = ix2 n j := ⟨i 0, i 1, eq_ix2 i⟩
  pointwise [val_main_v126, yb_ref]
theorem cv_all : val_main_v127 (F := Ideal) A.z A.wsc = fun i => A.conv (i 0) (i 1) := by
  funext i
  obtain ⟨n, j, rfl⟩ : ∃ (n : Fin 8192) (j : Fin 512), i = ix2 n j := ⟨i 0, i 1, eq_ix2 i⟩
  pointwise [val_main_v127, conv_ref]
theorem pa_all : val_main_v128 (F := Ideal) A.z A.lng A.lnb A.ws A.bs A.wb = fun i => A.ea (i 0) (i 1) := by
  funext i
  obtain ⟨n, j, rfl⟩ : ∃ (n : Fin 8192) (j : Fin 1024), i = ix2 n j := ⟨i 0, i 1, eq_ix2 i⟩
  pointwise [val_main_v128, ea_ref]
theorem pb_all : val_main_v129 (F := Ideal) A.z A.wsc A.wb = fun i => A.eb (i 0) (i 1) := by
  funext i
  obtain ⟨n, j, rfl⟩ : ∃ (n : Fin 8192) (j : Fin 1024), i = ix2 n j := ⟨i 0, i 1, eq_ix2 i⟩
  pointwise [val_main_v129, eb_ref]
theorem mg_all : val_main_v130 (F := Ideal) A.z A.bg A.lng A.lnb A.ws A.bs A.wsc A.wb = fun i => A.mg (i 0) (i 1) := by
  funext i
  obtain ⟨n, j, rfl⟩ : ∃ (n : Fin 8192) (j : Fin 1024), i = ix2 n j := ⟨i 0, i 1, eq_ix2 i⟩
  pointwise [val_main_v130, mg_ref]
theorem x1_all (x : S8192x1024.Idx → EReal) :
    val_main_v132 (F := Ideal) A.z x A.bg A.lng A.lnb A.ws A.bs A.wsc A.wb A.wo = fun i => A.x1 (i 0) x (i 1) := by
  funext i
  obtain ⟨n, k, rfl⟩ : ∃ (n : Fin 8192) (k : Fin 1024), i = ix2 n k := ⟨i 0, i 1, eq_ix2 i⟩
  pointwise [val_main_v132, val_main_v131]
  simp only [mg_ref]
  rfl

end Cert.Reference6Ideal.Body

end
-- ==== Proof.FwdClaims.lean ====
/- The mixer's forward pass: the frames of the three programs, the named constants and the equality of the results. -/
module

public import proofs.«01_k».proof.Defs
public import proofs.«01_k».proof.Proof.Gen.Kernel6
public import proofs.«01_k».proof.Proof.Gen.Reference6Ideal
public import proofs.«01_k».proof.Proof.Gen.Reference6Ideal.Run
public import proofs.«01_k».proof.Proof.FwdArray
public import proofs.«01_k».proof.Proof.FwdReference
public import Idealize.ShloMosaic.Adequacy

@[expose] public section

set_option maxRecDepth 16384

noncomputable section

namespace Cert.Proof

open Idealize.ShloMosaic Idealize.ShloMosaic.TcCoe Idealize.ShloMosaic.Tactic Idealize.SL.Sem

/-- Over machine numbers a named constant is what its pattern denotes. -/
local instance bitsNamed6 : Named Bits where
  named _ _ {_} w := FloatOps.ofBits _ w

theorem frame_ideal6 : Cert.quiescent_Kernel6Ideal := fun m ρ _ => Cert.Kernel6Ideal.Body.frame m ρ

/-- The two programs have the same text where a named constant is its pattern, so the run over machine numbers is the other's. -/
theorem frame_kernel6 : Cert.quiescent_Kernel6 := fun m ρ _ =>
  (by sl_kernel_rfl : (θ_run (Cert.Kernel6Ideal.defs (F := Bits)) (onTc (τ := Cert.Kernel6Ideal.τ) Cert.Kernel6Ideal.main) ⟨m, fun _ => 0, ρ⟩)
    = θ_run (Cert.Kernel6.defs (F := Bits)) (onTc (τ := Cert.Kernel6.τ) Cert.Kernel6.main) ⟨m, fun _ => 0, ρ⟩) ▸
    Cert.Kernel6Ideal.Body.frame (F := Bits) m ρ

theorem frame_reference6 : Cert.quiescent_Reference6Ideal := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

theorem preserves6 : Cert.preserves_Kernel6_Kernel6Ideal :=
  ⟨IdealRules.named_const.statement Cert.Kernel6Ideal.κ "gelu_c1" .bf16 0x3D37#16 ((8943 / 200000 : ℝ) : EReal) rfl,
   IdealRules.named_const.statement Cert.Kernel6Ideal.κ "gelu_c0" .bf16 0x3F4C#16 ((6693141 / 8388608 : ℝ) : EReal) rfl,
   IdealRules.named_const.statement Cert.Kernel6Ideal.κ "gelu_c1" .f32 0x3D372713#32 ((8943 / 200000 : ℝ) : EReal) rfl,
   IdealRules.named_const.statement Cert.Kernel6Ideal.κ "gelu_c0" .f32 0x3F4C422A#32 ((6693141 / 8388608 : ℝ) : EReal) rfl⟩

/-- All seven results of the mixer's forward pass, of any arguments. -/
theorem algebraic6 : Cert.algebraic_Kernel6Ideal_Reference6Ideal := fun m ρ m' ρ' _ hagree =>
  ⟨_, _, _, _, _, _, _,
    (θ_run Cert.Kernel6Ideal.defs _ _).mono (fun _ h c =>
      ⟨(h.1.1 c).1 11 |>.trans (Kernel6Ideal.Body.ya_array m c), (h.1.1 c).1 12 |>.trans (Kernel6Ideal.Body.yb_array m c),
        (h.1.1 c).1 13 |>.trans (Kernel6Ideal.Body.cv_array m c), (h.1.1 c).1 14 |>.trans (Kernel6Ideal.Body.pa_array m c),
        (h.1.1 c).1 15 |>.trans (Kernel6Ideal.Body.pb_array m c), (h.1.1 c).1 16 |>.trans (Kernel6Ideal.Body.mg_array m c),
        (h.1.1 c).1 17 |>.trans (Kernel6Ideal.Body.x1_array m c), h.2 c⟩)
      (Kernel6Ideal.Body.run_kept (F := Ideal) m ρ),
    (θ_run Cert.Reference6Ideal.defs _ _).mono (fun _ h c => by
      obtain ⟨e0, e1, e2, e3, e4, e5, e6, e7, e8, e9⟩ := hagree c
      obtain ⟨h0, h1, h2, h3, h4, h5, h6, hk⟩ := h c
      refine ⟨h0.trans ((Cert.Reference6Ideal.Read.val_main_v125_eq _ _).trans ?_), h1.trans ((Cert.Reference6Ideal.Read.val_main_v126_eq _ _).trans ?_),
        h2.trans ((Cert.Reference6Ideal.Read.val_main_v127_eq _ _).trans ?_), h3.trans ((Cert.Reference6Ideal.Read.val_main_v128_eq _ _).trans ?_),
        h4.trans ((Cert.Reference6Ideal.Read.val_main_v129_eq _ _ _).trans ?_), h5.trans ((Cert.Reference6Ideal.Read.val_main_v130_eq _ _).trans ?_),
        h6.trans ((Cert.Reference6Ideal.Read.val_main_v132_eq _ _).trans ?_), hk⟩
      · rw [e0, e3, e4, e5, e6]
        exact Reference6Ideal.Body.ya_all (Kernel6Ideal.Body.args m c)
      · rw [e0, e7]
        exact Reference6Ideal.Body.yb_all (Kernel6Ideal.Body.args m c)
      · rw [e0, e7]
        exact Reference6Ideal.Body.cv_all (Kernel6Ideal.Body.args m c)
      · rw [e0, e3, e4, e5, e6, e8]
        exact Reference6Ideal.Body.pa_all (Kernel6Ideal.Body.args m c)
      · rw [e0, e7, e8]
        exact Reference6Ideal.Body.pb_all (Kernel6Ideal.Body.args m c)
      · rw [e0, e2, e3, e4, e5, e6, e7, e8]
        exact Reference6Ideal.Body.mg_all (Kernel6Ideal.Body.args m c)
      · rw [e0, e1, e2, e3, e4, e5, e6, e7, e8, e9]
        exact Reference6Ideal.Body.x1_all (Kernel6Ideal.Body.args m c) (Kernel6Ideal.Body.xs m c))
      (Cert.Reference6Ideal.Value.run (F := Ideal) m' ρ')⟩

end Cert.Proof

end
-- ==== Proof.Fwd0Claims.lean ====
/- The first layer's mixer's forward pass has the same text as the second's, over the first layer's arrays. -/
module

public import proofs.«01_k».proof.Proof.FwdClaims
public import proofs.«01_k».proof.Proof.Gen.Kernel12
public import proofs.«01_k».proof.Proof.Gen.Kernel12Ideal

@[expose] public section

set_option maxRecDepth 16384

noncomputable section

namespace Cert.Proof

open Idealize.ShloMosaic Idealize.ShloMosaic.TcCoe Idealize.ShloMosaic.Tactic Idealize.SL.Sem

/-- Over machine numbers a named constant is what its pattern denotes. -/
local instance bitsNamed12 : Named Bits where
  named _ _ {_} w := FloatOps.ofBits _ w

/-- The first layer's run. -/
theorem same_forward (m : (ℓ : Loc Cert.Kernel12Ideal.nD Cert.Kernel12Ideal.τ Cert.Kernel12Ideal.sig) → Buf (Elt Ideal) ℓ) (ρ : Dev Cert.Kernel12Ideal.nD → PrngReg) :
    (θ_run (Cert.Kernel6Ideal.defs (F := Ideal)) (onTc (τ := Cert.Kernel6Ideal.τ) Cert.Kernel6Ideal.main) ⟨m, fun _ => 0, ρ⟩)
      = θ_run (Cert.Kernel12Ideal.defs (F := Ideal)) (onTc (τ := Cert.Kernel12Ideal.τ) Cert.Kernel12Ideal.main) ⟨m, fun _ => 0, ρ⟩ := by
  sl_kernel_rfl

theorem frame_ideal12 : Cert.quiescent_Kernel12Ideal := fun m ρ _ => same_forward m ρ ▸ Cert.Kernel6Ideal.Body.frame m ρ

theorem frame_kernel12 : Cert.quiescent_Kernel12 := fun m ρ _ =>
  (by sl_kernel_rfl : (θ_run (Cert.Kernel6Ideal.defs (F := Bits)) (onTc (τ := Cert.Kernel6Ideal.τ) Cert.Kernel6Ideal.main) ⟨m, fun _ => 0, ρ⟩)
    = θ_run (Cert.Kernel12.defs (F := Bits)) (onTc (τ := Cert.Kernel12.τ) Cert.Kernel12.main) ⟨m, fun _ => 0, ρ⟩) ▸
    Cert.Kernel6Ideal.Body.frame (F := Bits) m ρ

theorem preserves12 : Cert.preserves_Kernel12_Kernel12Ideal := preserves6

/-- All seven results of the first layer's mixer's forward pass, of any arguments. -/
theorem algebraic12 : Cert.algebraic_Kernel12Ideal_Reference6Ideal := fun m ρ m' ρ' h hagree => by
  obtain ⟨v0, v1, v2, v3, v4, v5, v6, hk, hr⟩ := algebraic6 m ρ m' ρ' h hagree
  exact ⟨v0, v1, v2, v3, v4, v5, v6, same_forward m ρ ▸ hk, hr⟩

end Cert.Proof

end
-- ==== Proof.UpRun.lean ====
/- One grid point of the wider backward product that adds its gain gradient to the sheet: what the body stores, at
   the first point and at the later ones. -/
module

public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Kernel13Ideal.Launch
public import proofs.«01_k».proof.Proof.Gen.Kernel13Ideal.Skeleton
public import proofs.«01_k».proof.Proof.Gen.Kernel13Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel11Ideal.Body

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers a grid point works on. -/
structure Bufs where
  dz : Memref sig .tc .vmem S512x5632 .bf16
  hdz : dz.IsWhole
  w : Memref sig .tc .vmem S5632x1024 .bf16
  hw : w.IsWhole
  x : Memref sig .tc .vmem S512x1024 .f32
  hx : x.IsWhole
  g : Memref sig .tc .vmem S1x1024 .f32
  hg : g.IsWhole
  dres : Memref sig .tc .vmem S512x1024 .f32
  hdres : dres.IsWhole
  sheet : Memref sig .tc .vmem S40x2816 .f32
  hsheet : sheet.IsWhole
  dx : Memref sig .tc .vmem S512x1024 .f32
  hdx : dx.IsWhole
  out : Memref sig .tc .vmem S40x2816 .f32
  hout : out.IsWhole

/-- The blocks a grid point reads. -/
structure Ins (F : FTy → Type) where
  dz : Vec F S512x5632 .bf16
  w : Vec F S5632x1024 .bf16
  x : Vec F S512x1024 .f32
  g : Vec F S1x1024 .f32
  dres : Vec F S512x1024 .f32
  sheet : Vec F S40x2816 .f32

/-- Which of the two layers' calls: they differ in the row of the sheet they add to, and in their names. -/
class Layer where
  second : Bool

/-- The second layer's, where none is named. -/
instance (priority := low) secondLayer : Layer := ⟨true⟩

theorem same_sig : Cert.Kernel13Ideal.sig = sig := rfl

variable [layer : Layer]

/-- The body over its buffers. -/
def Bufs.body (B : Bufs) (i : grid0.Coords) : Prog (TpuEff nD τ sig (Elt F) Λ₀ .tc) PUnit :=
  (match Layer.second with | true => cc0_bwd_up_1 (F := F) | false => Cert.Kernel13Ideal.cc0_bwd_up_0 (F := F))
    i B.dz B.hdz B.w B.hw B.x B.hx B.g B.hg B.dres B.hdres B.sheet B.hsheet B.dx B.hdx B.out B.hout

/-- The call's row of the table of bodies. -/
def bodies : Defs nD τ sig (Elt F) Λ₀ := match Layer.second with | true => defs₀ | false => Cert.Kernel13Ideal.defs₀

/-- The read buffers hold the blocks. -/
def held (c : Dev nD) (B : Bufs) (I : Ins F) : sProp 𝕄 :=
  iprop(owns (c : Thread nD τ) B.dz fullShare I.dz ∗ owns (c : Thread nD τ) B.w fullShare I.w
    ∗ owns (c : Thread nD τ) B.x fullShare I.x ∗ owns (c : Thread nD τ) B.g fullShare I.g
    ∗ owns (c : Thread nD τ) B.dres fullShare I.dres ∗ owns (c : Thread nD τ) B.sheet fullShare I.sheet)

/-- The condition of the body's branch: the first grid point. -/
abbrev first (i : grid0.Coords) : Prop :=
  Scalar.cmpi .ne (Scalar.extui (Scalar.cmpi .eq (BitVec.ofNat 32 (i 0).val) 0#32)) 0#32 = 1#1

theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

set_option maxHeartbeats 1000000 in
/-- The first point: the stores into the two results, found by running the body. -/
def runFirst (c : Dev nD) (i : grid0.Coords) (B : Bufs) (hc : first i) (I : Ins F) :
    Σ' (P : List (View.Piece (Elt F) S512x1024 .f32)), { Q : List (View.Piece (Elt F) S40x2816 .f32) //
      ∀ (E : Set ℕ) (K : PUnit → sProp 𝕄),
        iprop(held c B I ∗ (∃ d, owns (c : Thread nD τ) B.dx fullShare d) ∗ (∃ d, owns (c : Thread nD τ) B.out fullShare d)
            ∗ (iprop(held c B I
                ∗ (∃ f, B.dx.view.loc (c : Thread nD τ) ↦[B.dx.view.set]{fullShare} B.dx.view.writes (Elt F) f P)
                ∗ (∃ f, B.out.view.loc (c : Thread nD τ) ↦[B.out.view.set]{fullShare} B.out.view.writes (Elt F) f Q)) -∗ K ⟨⟩))
          ⊢ wp frame (wpE (bodies (F := F)) Variants.none c none) E (B.body i) K } := by
  rcases layer with ⟨_ | _⟩
  case' false => refine ⟨?_, ?_, fun E K => ?run0⟩
  case' true => refine ⟨?_, ?_, fun E K => ?run1⟩
  case' run0 =>
    unfold Bufs.body
    simp only [Cert.Kernel13Ideal.Gen.cc0_bwd_up_0_eq_skeleton]; unfold Cert.Kernel13Ideal.Gen.cc0_bwd_up_0_skel
    simp only [Cert.Kernel13Ideal.Gen.k0_part1_eq_skeleton, Cert.Kernel13Ideal.Gen.k0_part2_eq_skeleton]
    dsimp only [same_sig]
  case' run1 =>
    unfold Bufs.body
    simp only [cc0_bwd_up_1_eq_skeleton]; unfold cc0_bwd_up_1_skel
    simp only [k0_part1_eq_skeleton, k0_part2_eq_skeleton]
  case run0 | run1 =>
    unfold held owns
    iintro ⟨⟨⟨%f0, %h0, H0⟩, ⟨%f1, %h1, H1⟩, ⟨%f2, %h2, H2⟩, ⟨%f3, %h3, H3⟩, ⟨%f4, %h4, H4⟩, ⟨%f5, %h5, H5⟩⟩, ⟨%d6, %f6, -, H6⟩, ⟨%d7, %f7, -, H7⟩, Hk⟩
    obtain rfl := B.hdz.eq_unread h0; obtain rfl := B.hw.eq_unread h1; obtain rfl := B.hx.eq_unread h2
    obtain rfl := B.hg.eq_unread h3; obtain rfl := B.hdres.eq_unread h4; obtain rfl := B.hsheet.eq_unread h5
    sl_exec (disch := first | sl_exact hc)
    sl_step
    iapply Hk
    isplitl [H0 H1 H2 H3 H4 H5]
    · isplitl [H0]; · iexists _; isplitr; · ipureintro; exact B.hdz.read_unread _
                      iexact H0
      isplitl [H1]; · iexists _; isplitr; · ipureintro; exact B.hw.read_unread _
                      iexact H1
      isplitl [H2]; · iexists _; isplitr; · ipureintro; exact B.hx.read_unread _
                      iexact H2
      isplitl [H3]; · iexists _; isplitr; · ipureintro; exact B.hg.read_unread _
                      iexact H3
      isplitl [H4]; · iexists _; isplitr; · ipureintro; exact B.hdres.read_unread _
                      iexact H4
      iexists _; isplitr; · ipureintro; exact B.hsheet.read_unread _
      iexact H5
    isplitl [H6]; · iexists _; iexact H6
    iexists _; iexact H7

set_option maxHeartbeats 1000000 in
/-- A later point: the stores into the two results, the sheet as the point before left it. -/
def runNext (c : Dev nD) (i : grid0.Coords) (B : Bufs) (hc : ¬first i) (I : Ins F) (o : Vec F S40x2816 .f32) :
    Σ' (P : List (View.Piece (Elt F) S512x1024 .f32)), { Q : List (View.Piece (Elt F) S40x2816 .f32) //
      ∀ (E : Set ℕ) (K : PUnit → sProp 𝕄),
        iprop(held c B I ∗ (∃ d, owns (c : Thread nD τ) B.dx fullShare d) ∗ owns (c : Thread nD τ) B.out fullShare o
            ∗ (iprop(held c B I
                ∗ (∃ f, B.dx.view.loc (c : Thread nD τ) ↦[B.dx.view.set]{fullShare} B.dx.view.writes (Elt F) f P)
                ∗ (B.out.view.loc (c : Thread nD τ) ↦[B.out.view.set]{fullShare} B.out.view.writes (Elt F) (B.hout.unread o) Q)) -∗ K ⟨⟩))
          ⊢ wp frame (wpE (bodies (F := F)) Variants.none c none) E (B.body i) K } := by
  rcases layer with ⟨_ | _⟩
  case' false => refine ⟨?_, ?_, fun E K => ?run0⟩
  case' true => refine ⟨?_, ?_, fun E K => ?run1⟩
  case' run0 =>
    unfold Bufs.body
    simp only [Cert.Kernel13Ideal.Gen.cc0_bwd_up_0_eq_skeleton]; unfold Cert.Kernel13Ideal.Gen.cc0_bwd_up_0_skel
    simp only [Cert.Kernel13Ideal.Gen.k0_part1_eq_skeleton, Cert.Kernel13Ideal.Gen.k0_part2_eq_skeleton]
    dsimp only [same_sig]
  case' run1 =>
    unfold Bufs.body
    simp only [cc0_bwd_up_1_eq_skeleton]; unfold cc0_bwd_up_1_skel
    simp only [k0_part1_eq_skeleton, k0_part2_eq_skeleton]
  case run0 | run1 =>
    unfold held owns
    iintro ⟨⟨⟨%f0, %h0, H0⟩, ⟨%f1, %h1, H1⟩, ⟨%f2, %h2, H2⟩, ⟨%f3, %h3, H3⟩, ⟨%f4, %h4, H4⟩, ⟨%f5, %h5, H5⟩⟩, ⟨%d6, %f6, -, H6⟩, ⟨%f7, %h7, H7⟩, Hk⟩
    obtain rfl := B.hdz.eq_unread h0; obtain rfl := B.hw.eq_unread h1; obtain rfl := B.hx.eq_unread h2
    obtain rfl := B.hg.eq_unread h3; obtain rfl := B.hdres.eq_unread h4; obtain rfl := B.hsheet.eq_unread h5
    obtain rfl := B.hout.eq_unread h7
    sl_exec (disch := first | sl_exact hc)
    sl_step
    iapply Hk
    isplitl [H0 H1 H2 H3 H4 H5]
    · isplitl [H0]; · iexists _; isplitr; · ipureintro; exact B.hdz.read_unread _
                      iexact H0
      isplitl [H1]; · iexists _; isplitr; · ipureintro; exact B.hw.read_unread _
                      iexact H1
      isplitl [H2]; · iexists _; isplitr; · ipureintro; exact B.hx.read_unread _
                      iexact H2
      isplitl [H3]; · iexists _; isplitr; · ipureintro; exact B.hg.read_unread _
                      iexact H3
      isplitl [H4]; · iexists _; isplitr; · ipureintro; exact B.hdres.read_unread _
                      iexact H4
      iexists _; isplitr; · ipureintro; exact B.hsheet.read_unread _
      iexact H5
    isplitl [H6]; · iexists _; iexact H6
    iexact H7

end Cert.Kernel11Ideal.Body

end
-- ==== Proof.UpFrame.lean ====
/- The whole run of the wider backward product that adds its gain gradient to the sheet: what each point leaves, the
   launch, and the arguments left as they were. -/
module

public import proofs.«01_k».proof.Proof.UpRun

@[expose] public section

set_option maxRecDepth 16384

noncomputable section

namespace Cert.Kernel11Ideal.Body

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the launch -/

/-- The buffers as the launch finds them: the host's three operations done. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 800000 in
theorem toLaunch [Layer] (𝒱₀ : Variants) : Pipeline.HMain (Ix := Unit) (Name := ℕ) (U := UR sig nD τ) (Lvl := ℕ) cfgs 0 bodies 𝒱₀ m (main (F := F)) (V m) :=
  Pipeline.hmain_prefix cfgs 0 bodies 𝒱₀ m main hostOps0 hostOps0_sub fresh main_chain

/-- A buffer that is none of the host's three results is as at the start. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2⟩))

/-! ## Each point -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks read at point `t`. -/
def ins (c : Dev nD) (t : Fin cfg0.N) : Ins F :=
  ⟨iblk m c 0 t, iblk m c 1 t, iblk m c 2 t, iblk m c 3 t, iblk m c 4 t, iblk m c 5 t⟩

/-- The buffers in use at point `t`. -/
def bufs (t : Fin cfg0.N) : Bufs where
  dz := win0_0.stage (cfg0.slots t 0)
  hdz := hstage0_0 ((cfg0.slots t 0).cast nbuf0_0)
  w := win0_1.stage (cfg0.slots t 1)
  hw := hstage0_1 ((cfg0.slots t 1).cast nbuf0_1)
  x := win0_2.stage (cfg0.slots t 2)
  hx := hstage0_2 ((cfg0.slots t 2).cast nbuf0_2)
  g := win0_3.stage (cfg0.slots t 3)
  hg := hstage0_3 ((cfg0.slots t 3).cast nbuf0_3)
  dres := win0_4.stage (cfg0.slots t 4)
  hdres := hstage0_4 ((cfg0.slots t 4).cast nbuf0_4)
  sheet := win0_5.stage (cfg0.slots t 5)
  hsheet := hstage0_5 ((cfg0.slots t 5).cast nbuf0_5)
  dx := win0_6.stage (cfg0.slots t 6)
  hdx := hstage0_6 ((cfg0.slots t 6).cast nbuf0_6)
  out := win0_7.stage (cfg0.slots t 7)
  hout := hstage0_7 ((cfg0.slots t 7).cast nbuf0_7)

/-- A covered block of rows, read back. -/
abbrev dxView : View sig .tc .vmem S512x1024 .f32 := (Memref.whole cc0_stg6_0 : Memref sig .tc .vmem S512x1024 .f32).view
/-- A covered sheet, read back. -/
abbrev outView : View sig .tc .vmem S40x2816 .f32 := (Memref.whole cc0_stg7_0 : Memref sig .tc .vmem S40x2816 .f32).view

variable [layer : Layer]

section Covers

variable (c : Dev nD) (i : grid0.Coords) (B : Bufs) (I : Ins F)

theorem dx_covered_first (hc : first i) (y : S512x1024.Idx) : ∃ pc ∈ (runFirst c i B hc I).1, y ∈ pc.1.set :=
  by rcases layer with ⟨_ | _⟩ <;> exact View.cover_of_tiledL _ S512x1024.size (by sl_kernel_rfl) y

theorem dx_covered_next (hc : ¬first i) (o : Vec F S40x2816 .f32) (y : S512x1024.Idx) :
    ∃ pc ∈ (runNext c i B hc I o).1, y ∈ pc.1.set :=
  by rcases layer with ⟨_ | _⟩ <;> exact View.cover_of_tiledL _ S512x1024.size (by sl_kernel_rfl) y

theorem out_covered_first (hc : first i) (y : S40x2816.Idx) : ∃ pc ∈ (runFirst c i B hc I).2.1, y ∈ pc.1.set :=
  by rcases layer with ⟨_ | _⟩ <;> exact View.cover_of_tiledBy _ ![1, 256] (by sl_kernel_rfl) y

end Covers

/-- What the results hold after the first point. -/
def afterFirst (c : Dev nD) (t : Fin cfg0.N) (h : first (grid0.coords t)) : Vec F S512x1024 .f32 × Vec F S40x2816 .f32 :=
  ⟨dxView.read (Elt F) (dxView.writes (Elt F) dxView.junk (runFirst c (grid0.coords t) (bufs t) h (ins m c t)).1),
    outView.read (Elt F) (outView.writes (Elt F) outView.junk (runFirst c (grid0.coords t) (bufs t) h (ins m c t)).2.1)⟩

/-- What they hold after a later point that found the sheet at `o`. -/
def afterNext (c : Dev nD) (t : Fin cfg0.N) (h : ¬first (grid0.coords t)) (o : Vec F S40x2816 .f32) :
    Vec F S512x1024 .f32 × Vec F S40x2816 .f32 :=
  ⟨dxView.read (Elt F) (dxView.writes (Elt F) dxView.junk (runNext c (grid0.coords t) (bufs t) h (ins m c t) o).1),
    (bufs t).out.view.read (Elt F) ((bufs t).out.view.writes (Elt F) ((bufs t).hout.unread o)
      (runNext c (grid0.coords t) (bufs t) h (ins m c t) o).2.1)⟩

/-- What the results hold after the `n`-th point. -/
def outs (c : Dev nD) : (n : ℕ) → n < cfg0.N → Vec F S512x1024 .f32 × Vec F S40x2816 .f32
  | 0, h => afterFirst m c ⟨0, h⟩ ((first_iff ⟨0, h⟩).mpr rfl)
  | n + 1, h => afterNext m c ⟨n + 1, h⟩ (fun e => Nat.succ_ne_zero n ((first_iff ⟨n + 1, h⟩).mp e)) (outs c n (Nat.lt_of_succ_lt h)).2

theorem pred_lt (t : Fin cfg0.N) : t.val - 1 < cfg0.N := Nat.lt_of_le_of_lt (Nat.sub_le _ _) t.isLt

theorem outs_first (c : Dev nD) (t : Fin cfg0.N) (h : t.val = 0) :
    outs m c t.val t.isLt = afterFirst m c t ((first_iff t).mpr h) := by
  obtain ⟨n, hn⟩ := t
  obtain rfl : n = 0 := h
  rfl

theorem outs_next (c : Dev nD) (t : Fin cfg0.N) (h : ¬t.val = 0) :
    outs m c t.val t.isLt = afterNext m c t (fun e => h ((first_iff t).mp e)) (outs m c (t.val - 1) (pred_lt t)).2 := by
  obtain ⟨n, hn⟩ := t
  cases n with
  | zero => exact absurd rfl h
  | succ n => rfl

/-! ## The launch -/

/-- The blocks stay, the results are as the points leave them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_dx (c : Dev nD) (t : Fin cfg0.N) : (dats m 0 c).after 6 t = (outs m c t.val t.isLt).1 := by dsimp only [dats]
theorem after_out (c : Dev nD) (t : Fin cfg0.N) : (dats m 0 c).after 7 t = (outs m c t.val t.isLt).2 := by dsimp only [dats]

/-- Every read window holds its block at every point. -/
theorem found (c : Dev nD) (t : Fin cfg0.N) :
    (∀ d, (dats m 0 c).before 0 t d = (ins m c t).dz) ∧ (∀ d, (dats m 0 c).before 1 t d = (ins m c t).w)
      ∧ (∀ d, (dats m 0 c).before 2 t d = (ins m c t).x) ∧ (∀ d, (dats m 0 c).before 3 t d = (ins m c t).g)
      ∧ (∀ d, (dats m 0 c).before 4 t d = (ins m c t).dres) ∧ ∀ d, (dats m 0 c).before 5 t d = (ins m c t).sheet := by
  refine ⟨fun d => ?_, fun d => ?_, fun d => ?_, fun d => ?_, fun d => ?_, fun d => ?_⟩ <;>
    exact (Dat.before_in_eq_fetched _ _ rfl (fun _ => rfl) (fun _ _ _ => rfl)
      (fun t => by unfold Dat.blockOf; rw [A_eq]; rfl) t d).trans
        (by unfold Dat.fetched Dat.blockOf; rw [A_eq]; rfl)

/-- At a later point the sheet is what the point before left. -/
theorem found_out (c : Dev nD) (t : Fin cfg0.N) (h : ¬t.val = 0) (d) :
    (dats m 0 c).before 7 t d = (outs m c (t.val - 1) (pred_lt t)).2 := by
  have ht : t.val < 16 := lt_of_lt_of_eq t.isLt N_0
  rw [Dat.before_out_kept _ 7 rfl t (by omega)
    (Bool.eq_false_iff.mpr fun e => by have := (flush0_7 _).mp e; dsimp only at this; omega) (fun _ => rfl) (fun _ _ => rfl)]
  dsimp only [dats]

/-- What point `t` starts from. -/
def starts (c : Dev nD) (t : Fin cfg0.N) : sProp 𝕄 :=
  iprop((dats m 0 c).Φ t.castSucc ∗ (dats m 0 c).owesAt () t.castSucc
    ∗ (∃ d, owns (c : Thread nD τ) (bufs t).dz fullShare ((dats m 0 c).before 0 t d))
    ∗ (∃ d, owns (c : Thread nD τ) (bufs t).w fullShare ((dats m 0 c).before 1 t d))
    ∗ (∃ d, owns (c : Thread nD τ) (bufs t).x fullShare ((dats m 0 c).before 2 t d))
    ∗ (∃ d, owns (c : Thread nD τ) (bufs t).g fullShare ((dats m 0 c).before 3 t d))
    ∗ (∃ d, owns (c : Thread nD τ) (bufs t).dres fullShare ((dats m 0 c).before 4 t d))
    ∗ (∃ d, owns (c : Thread nD τ) (bufs t).sheet fullShare ((dats m 0 c).before 5 t d))
    ∗ (∃ d, owns (c : Thread nD τ) (bufs t).dx fullShare ((dats m 0 c).before 6 t d))
    ∗ (∃ d, owns (c : Thread nD τ) (bufs t).out fullShare ((dats m 0 c).before 7 t d)))

/-- What it ends with, the blocks together and the results at `r`. -/
def ends (c : Dev nD) (t : Fin cfg0.N) (r : Vec F S512x1024 .f32 × Vec F S40x2816 .f32) : sProp 𝕄 :=
  iprop((dats m 0 c).Φ t.succ ∗ (dats m 0 c).owesAt () t.succ ∗ held c (bufs t) (ins m c t)
    ∗ owns (c : Thread nD τ) (bufs t).dx fullShare r.1 ∗ owns (c : Thread nD τ) (bufs t).out fullShare r.2)

set_option maxHeartbeats 800000 in
theorem point (c : Dev nD) (t : Fin cfg0.N) : starts m c t
    ⊢ wp frame (wpE (bodies (F := F)) Variants.none c none) Set.univ ((bufs t).body (grid0.coords t)) fun _ => ends m c t (outs m c t.val t.isLt) := by
  obtain ⟨e0, e1, e2, e3, e4, e5⟩ := found m c t
  unfold starts ends
  simp only [e0, e1, e2, e3, e4, e5]
  rw [show (dats m 0 c).Φ t.succ = (dats m 0 c).Φ t.castSucc from rfl,
    show (dats m 0 c).owesAt () t.succ = (dats m 0 c).owesAt () t.castSucc from rfl]
  by_cases h : t.val = 0
  · rw [outs_first m c t h]
    unfold afterFirst
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) (bufs t) ((first_iff t).mpr h) (ins m c t)).2.2 Set.univ _)
    isplitl [H0 H1 H2 H3 H4 H5]
    · unfold held
      iframe
    isplitl [H6]; · iexists _; iexact H6
    isplitl [H7]; · iexists _; iexact H7
    iintro ⟨Hh, ⟨%f6, H6⟩, ⟨%f7, H7⟩⟩
    isplitl [HΦ]; · iexact HΦ
    isplitl [Ho]; · iexact Ho
    isplitl [Hh]; · iexact Hh
    isplitl [H6]
    · unfold owns; iexists _; isplitr
      swap; · iexact H6
      ipureintro; exact View.read_writes_of_cover _ _ _ _ _ (dx_covered_first c _ _ _ _)
    unfold owns; iexists _; isplitr
    swap; · iexact H7
    ipureintro; exact View.read_writes_of_cover _ _ _ _ _ (out_covered_first c _ _ _ _)
  · rw [outs_next m c t h]
    simp only [found_out m c t h]
    unfold afterNext
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runNext c (grid0.coords t) (bufs t) (fun e => h ((first_iff t).mp e)) (ins m c t) _).2.2 Set.univ _)
    isplitl [H0 H1 H2 H3 H4 H5]
    · unfold held
      iframe
    isplitl [H6]; · iexists _; iexact H6
    isplitl [H7]; · iexact H7
    iintro ⟨Hh, ⟨%f6, H6⟩, H7⟩
    isplitl [HΦ]; · iexact HΦ
    isplitl [Ho]; · iexact Ho
    isplitl [Hh]; · iexact Hh
    isplitl [H6]
    · unfold owns; iexists _; isplitr
      swap; · iexact H6
      ipureintro; exact View.read_writes_of_cover _ _ _ _ _ (dx_covered_next c _ _ _ _ _)
    unfold owns; iexists _; isplitr
    swap; · iexact H7
    ipureintro; rfl

theorem row_eq (t : Fin cfg0.N) : bodies (F := F) .tc cfg0.body (cfg0.bodyArgs t (cfg0.slots t)) = (bufs t).body (grid0.coords t) := by
  rcases layer with ⟨_ | _⟩
  · show Cert.Kernel13Ideal.defs₀ (F := F) .tc cfg0.body (cfg0.bodyArgs t (cfg0.slots t)) = _
    unfold Cert.Kernel13Ideal.defs₀; sl_kernel_rfl
  · show defs₀ (F := F) .tc cfg0.body (cfg0.bodyArgs t (cfg0.slots t)) = _
    unfold defs₀; rw [Defs.onTc_tc]; rfl

theorem obligation (c : Dev nD) : BodyObligation (dats (F := F) m 0 c) (bodies (F := F)) Variants.none () Set.univ := fun t => by
  rw [bigSep_W0, bigSep_W0, row_eq]
  refine triple_restated (point m c t) rfl .rfl fun _ => ?_
  unfold ends held
  iintro ⟨HΦ, Ho, ⟨H0, H1, H2, H3, H4, H5⟩, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's table of bodies. -/
abbrev allDefs : Defs nD τ sig (Elt F) (Pipeline.Sig Λ₀ (Fin 1) fun p => (pcfgs (F := F) p).Adm) := Pipeline.defs pcfgs bodies

set_option backward.isDefEq.respectTransparency.types false in
/-- The launch runs to its end and leaves what the points leave. -/
theorem run : θ_run allDefs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 bodies Variants.none m ρ main
    (hbody := fun c => (obligation m c).loose) (hshare := fun c => (dats m 0 c).share_full fun _ => rfl)
    (howed := fun _ _ => rfl) (V := V m) (hmain := toLaunch m Variants.none) (hA := A_eq m) (hΦ := fun _ _ => rfl)

/-- A buffer the launch only reads, and the host does not write, ends as it was. -/
theorem read_kept {r : _} (h : Pipeline.FramePost cfgs (dats m) 0 (V m) r) (c : Dev nD) (w : Fin cfg0.W) (hw : (cfg0.win w).isOut = false)
    (h0 : Pipeline.arrRef spec0 w ≠ main_v0) (h1 : Pipeline.arrRef spec0 w ≠ main_v1) (h2 : Pipeline.arrRef spec0 w ≠ main_v2) :
    r.2.mem ((c.tc : Thread nD τ).loc (Pipeline.arrRef spec0 w)) = m ((c.tc : Thread nD τ).loc (Pipeline.arrRef spec0 w)) :=
  ((h c).1 w).trans (((dats m 0 c).arrAt_in w hw _).trans ((A_eq m c w).trans (V_kept m c _ h0 h1 h2)))

/-- A buffer the launch does not touch, and the host does not write, ends as it was. -/
theorem rest_kept {r : _} (h : Pipeline.FramePost cfgs (dats m) 0 (V m) r) (c : Dev nD) (b : Ref sig .tc)
    (hb : b ∈ Pipeline.restRefs sig spec0) (h0 : b ≠ main_v0) (h1 : b ≠ main_v1) (h2 : b ≠ main_v2) :
    r.2.mem ((c.tc : Thread nD τ).loc b) = m ((c.tc : Thread nD τ).loc b) :=
  ((h c).2 b hb).trans (V_kept m c b h0 h1 h2)

/-- The six arguments end as they were. -/
def Kept (e : (ℓ : Loc nD τ sig) → Buf (Elt F) ℓ) : Prop := ∀ c : Dev nD,
      e ((c.tc : Thread nD τ).loc main_arg0) = m ((c.tc : Thread nD τ).loc main_arg0)
      ∧ e ((c.tc : Thread nD τ).loc main_arg1) = m ((c.tc : Thread nD τ).loc main_arg1)
      ∧ e ((c.tc : Thread nD τ).loc main_arg2) = m ((c.tc : Thread nD τ).loc main_arg2)
      ∧ e ((c.tc : Thread nD τ).loc main_arg3) = m ((c.tc : Thread nD τ).loc main_arg3)
      ∧ e ((c.tc : Thread nD τ).loc main_arg4) = m ((c.tc : Thread nD τ).loc main_arg4)
      ∧ e ((c.tc : Thread nD τ).loc main_arg5) = m ((c.tc : Thread nD τ).loc main_arg5)

theorem run_kept : θ_run allDefs (onTc (τ := τ) (main (F := F))) ⟨m, fun _ => 0, ρ⟩
    (fun r => (Pipeline.FramePost cfgs (dats m) 0 (V m) r ∧ r.2.sem = fun _ => 0) ∧ Kept m r.2.mem) :=
  (θ_run allDefs _ _).mono (fun _ h => ⟨h, fun c =>
    ⟨read_kept m h.1 c 0 rfl (by decide) (by decide) (by decide),
      rest_kept m h.1 c main_arg1 (Pipeline.mem_restRefs_of main_arg1 (by decide) (by decide)) (by decide) (by decide) (by decide),
      read_kept m h.1 c 2 rfl (by decide) (by decide) (by decide),
      rest_kept m h.1 c main_arg3 (Pipeline.mem_restRefs_of main_arg3 (by decide) (by decide)) (by decide) (by decide) (by decide),
      read_kept m h.1 c 4 rfl (by decide) (by decide) (by decide),
      read_kept m h.1 c 5 rfl (by decide) (by decide) (by decide)⟩⟩) (run m ρ)

/-- The launch leaves its six arguments and every counter as they were. -/
theorem frame : θ_run allDefs (onTc (τ := τ) (main (F := F))) ⟨m, fun _ => 0, ρ⟩ (fun r => Kept m r.2.mem ∧ r.2.sem = fun _ => 0) :=
  (θ_run allDefs _ _).mono (fun _ h => ⟨h.2, h.1.2⟩) (run_kept m ρ)

end Cert.Kernel11Ideal.Body

end
-- ==== Proof.UpArray.lean ====
/- What the two result arrays of the wider sheet-writing product hold after its run, as functions of its arguments. -/
module

public import proofs.«01_k».proof.Proof.UpFrame
public import proofs.«01_k».proof.Proof.Array
public import proofs.«01_k».proof.Proof.Patch

@[expose] public section

set_option maxRecDepth 16384

noncomputable section

namespace Cert.Kernel11Ideal.Body

open Cert.Kernel11Ideal Cert.Kernel11Ideal.Gen Idealize.ShloMosaic Idealize.ShloMosaic.TcCoe Idealize.SL.Sem
open Cert.KernelIdeal.Body (row gainPart row_lt)
open Idealize.ShloMosaic.Pipeline (Dat)

theorem sum_eleven {M : Type*} [AddCommMonoid M] (F : Fin 11 → M) :
    ∑ s, F s = F 0 + F 1 + F 2 + F 3 + F 4 + F 5 + F 6 + F 7 + F 8 + F 9 + F 10 := by
  simp only [Fin.sum_univ_castSucc, Finset.univ_eq_empty, Finset.sum_empty, zero_add]; rfl

/-- The gradient of the scaled rows: the incoming gradient against the transposed weight. -/
def dh (z : S512x5632.Idx → EReal) (w : S5632x1024.Idx → EReal) (p : Fin 512) (j : Fin 1024) : EReal :=
  ∑ k : Fin 5632, z (ix2 p k) * w (ix2 k j)

/-- Columns `[o, o + 512)` of the gradient block. -/
abbrev zc (z : Vec Ideal S512x5632 .bf16) (o : ℕ) (h : ∀ a, (![0, o] : Fin 2 → ℕ) a + (![512, 512] : Fin 2 → ℕ) a ≤ S512x5632.size a) :
    Vec Ideal S512x512 .bf16 := View.ld z (Rect.unit ![0, o] ![512, 512] h)

/-- Rows `[o, o + 512)` of the transposed weight. -/
abbrev wc (w : Vec Ideal S5632x1024 .bf16) (o : ℕ) (h : ∀ a, (![o, 0] : Fin 2 → ℕ) a + (![512, 1024] : Fin 2 → ℕ) a ≤ S5632x1024.size a) :
    Vec Ideal S512x1024 .bf16 := View.ld w (Rect.unit ![o, 0] ![512, 1024] h)

/-- The eleven chunk products added up are the whole product. -/
theorem chunks (z : Vec Ideal S512x5632 .bf16) (w : Vec Ideal S5632x1024 .bf16)
    (h0 h0' h1 h1' h2 h2' h3 h3' h4 h4' h5 h5' h6 h6' h7 h7' h8 h8' h9 h9' h10 h10') :
    k0_pay7 (F := Ideal) (k0_pay6 (zc z 0 h0) (wc w 0 h0') (zc z 512 h1) (wc w 512 h1') (zc z 1024 h2) (wc w 1024 h2')
        (zc z 1536 h3) (wc w 1536 h3') (zc z 2048 h4) (wc w 2048 h4')) (zc z 2560 h5) (wc w 2560 h5') (zc z 3072 h6) (wc w 3072 h6')
        (zc z 3584 h7) (wc w 3584 h7') (zc z 4096 h8) (wc w 4096 h8') (zc z 4608 h9) (wc w 4608 h9') (zc z 5120 h10) (wc w 5120 h10')
      = fun y => dh z w (y 0) (y 1) := by
  funext y
  pointwise [k0_pay7, k0_pay6]
  refine Eq.trans ?_ (Fin.sum_mul_add_fin 11 512 (fun k : Fin 5632 => (z (ix2 (y 0) k) : EReal) * w (ix2 k (y 1))))
  rw [sum_eleven]
  refine congrArg₂ _ (congrArg₂ _ (congrArg₂ _ (congrArg₂ _ (congrArg₂ _ (congrArg₂ _ (congrArg₂ _ (congrArg₂ _ (congrArg₂ _ (congrArg₂ _
    ?_ ?_) ?_) ?_) ?_) ?_) ?_) ?_) ?_) ?_) ?_ <;>
    exact Finset.sum_congr rfl fun k _ => Sums.chunk_dot z w _ _ (y 0) (y 1) k _

/-- The rows' gradient of a block, from the block's product. -/
theorem pay4_eq (a : FVec Ideal S512x1024 .f32) (x : Vec Ideal S512x1024 .f32) (g : Vec Ideal S1x1024 .f32) (d : Vec Ideal S512x1024 .f32) :
    k0_pay4 (F := Ideal) a x (k0_pay8 x) g d
      = fun y => Norm.backward (row x (y 0)) (row a (y 0)) (fun k => g (ix2 0 k)) (d y) (y 1) := by
  funext y
  rw [eq_ix2 y]
  pointwise [k0_pay4, k0_pay2, k0_pay1, k0_pay8, Norm.backward, Norm.scale, Norm.meanSq, row]

/-- The row of the sheet with the block's part of the gain's gradient added. -/
theorem pay3_eq (a : FVec Ideal S512x1024 .f32) (x : Vec Ideal S512x1024 .f32) (s : Vec Ideal S1x1024 .f32) :
    k0_pay3 (F := Ideal) a x (k0_pay8 x) s = fun y => s y + gainPart a x (y 1) := by
  funext y
  pointwise [k0_pay3, k0_pay2, k0_pay1, k0_pay8, gainPart, Norm.scale, Norm.meanSq, row]

/-! The first layer's products, of the same tiles. -/

theorem same_dh : @Cert.Kernel13Ideal.Gen.k0_pay7 Ideal _ = @k0_pay7 Ideal _ := rfl
theorem same_first : @Cert.Kernel13Ideal.Gen.k0_pay6 Ideal _ = @k0_pay6 Ideal _ := rfl
theorem same_square : @Cert.Kernel13Ideal.Gen.k0_pay8 Ideal _ = @k0_pay8 Ideal _ := rfl
theorem same_sheet : @Cert.Kernel13Ideal.Gen.k0_pay3 Ideal _ = @k0_pay3 Ideal _ := rfl
theorem same_rows : @Cert.Kernel13Ideal.Gen.k0_pay4 Ideal _ = @k0_pay4 Ideal _ := rfl
theorem same_zero : @Cert.Kernel13Ideal.Gen.k0_pay5 Ideal _ = @k0_pay5 Ideal _ := rfl

/-- The sheet with row `r` cleared. -/
def cleared (r : ℕ) (s : S40x2816.Idx → EReal) (y : S40x2816.Idx) : EReal := if (y 0).val = r then 0 else s y

/-- A row's first 1024 columns, in the sheet. -/
def place (r : ℕ) (q : Fin 1024 → EReal) (y : S40x2816.Idx) : EReal :=
  if h : (y 0).val = r ∧ (y 1).val < 1024 then q ⟨(y 1).val, h.2⟩ else 0

theorem place_in {r : ℕ} (q : Fin 1024 → EReal) (y : S40x2816.Idx) (h : (y 0).val = r ∧ (y 1).val < 1024) : place r q y = q ⟨(y 1).val, h.2⟩ := by
  unfold place; exact dif_pos h

theorem place_out {r : ℕ} (q : Fin 1024 → EReal) (y : S40x2816.Idx) (h : ¬((y 0).val = r ∧ (y 1).val < 1024)) : place r q y = 0 := by
  unfold place; exact dif_neg h

/-- Clearing row `r`, then adding to its first columns. -/
theorem clear_add (r : ℕ) (h0' h1') (s : S40x2816.Idx → EReal) (q : Fin 1024 → EReal) (y : S40x2816.Idx) :
    Patch.put r 0 (fun x : S1x1024.Idx => Patch.cut r 0 1 1024 (Patch.put r 0 (k0_pay5 (F := Ideal)) s) h0' h1' x + q (x 1))
      (Patch.put r 0 (k0_pay5 (F := Ideal)) s) y = cleared r s y + place r q y := by
  unfold cleared
  by_cases h0 : (y 0).val = r
  · by_cases h1 : (y 1).val < 1024
    · rw [Patch.put_in (o0 := r) (o1 := 0) _ _ y (0 : Fin 1) (⟨(y 1).val, h1⟩ : Fin 1024) h0 (by simp), if_pos h0, place_in q y ⟨h0, h1⟩]
      pointwise [k0_pay5, Patch.cut, Patch.put]
      rw [dif_pos (by omega)]
      exact zero_add _
    · rw [Patch.put_out _ _ y (.inr (.inr (by omega))), Patch.put_in (o0 := r) (o1 := 0) _ _ y (0 : Fin 1) (⟨(y 1).val, (y 1).isLt⟩ : Fin 2816) h0 (by simp),
        if_pos h0, place_out q y fun e => h1 e.2]
      pointwise [k0_pay5]
  · rw [Patch.put_out _ _ y (.inl (by omega)), Patch.put_out _ _ y (.inl (by omega)), if_neg h0, place_out q y fun e => h0 e.1]
    exact (add_zero _).symm

/-- Adding to row `r`'s first columns. -/
theorem keep_add (r : ℕ) (h0' h1') (s : S40x2816.Idx → EReal) (q : Fin 1024 → EReal) (y : S40x2816.Idx) :
    Patch.put r 0 (fun x : S1x1024.Idx => Patch.cut r 0 1 1024 s h0' h1' x + q (x 1)) s y = s y + place r q y := by
  by_cases h0 : (y 0).val = r
  · by_cases h1 : (y 1).val < 1024
    · rw [Patch.put_in (o0 := r) (o1 := 0) _ _ y (0 : Fin 1) (⟨(y 1).val, h1⟩ : Fin 1024) h0 (by simp), place_in q y ⟨h0, h1⟩]
      exact congrArg₂ (· + ·) (congrArg s (Sums.ext2 (by simpa using h0.symm) (by simp))) rfl
    · rw [Patch.put_out _ _ y (.inr (.inr (by omega))), place_out q y fun e => h1 e.2, add_zero]
  · rw [Patch.put_out _ _ y (.inl (by omega)), place_out q y fun e => h0 e.1, add_zero]

variable (m : (ℓ : Loc nD τ sig) → Buf (Elt Ideal) ℓ) (c : Dev nD)

/-- The product of the block at point `t`. -/
def dhAt (t : Fin cfg0.N) : S512x1024.Idx → EReal := fun y => dh (iblk m c 0 t) (iblk m c 1 t) (y 0) (y 1)

section Points

variable [layer : Layer]

/-- The layer's row of the sheet. -/
abbrev sheetRow : ℕ := match Layer.second with | true => 23 | false => 7

/-- The rows' gradient that point `t` leaves. -/
theorem dx_at (t : Fin cfg0.N) : (outs m c t.val t.isLt).1
    = fun y => Norm.backward (row (iblk m c 2 t) (y 0)) (row (dhAt m c t) (y 0)) (fun k => iblk m c 3 t (ix2 0 k)) (iblk m c 4 t y) (y 1) := by
  by_cases h : t.val = 0
  · rw [outs_first m c t h]
    unfold afterFirst runFirst
    rcases layer with ⟨_ | _⟩
    · dsimp only
      frame_out
      rw [same_rows, same_dh, same_first, same_square, chunks]
      exact pay4_eq _ _ _ _
    · dsimp only
      frame_out
      rw [chunks]
      exact pay4_eq _ _ _ _
  · rw [outs_next m c t h]
    unfold afterNext runNext
    rcases layer with ⟨_ | _⟩
    · dsimp only
      frame_out
      rw [same_rows, same_dh, same_first, same_square, chunks]
      exact pay4_eq _ _ _ _
    · dsimp only
      frame_out
      rw [chunks]
      exact pay4_eq _ _ _ _

/-- Point `t`'s part of the gain's gradient, in the sheet. -/
abbrev part (t : Fin cfg0.N) : S40x2816.Idx → EReal := place (sheetRow (layer := layer)) (gainPart (dhAt m c t) (iblk m c 2 t))

/-- The first point clears the layer's row and adds its part. -/
theorem out_first (t : Fin cfg0.N) (h : t.val % 16 = 0) (y : S40x2816.Idx) : (outs m c t.val t.isLt).2 y
    = cleared sheetRow (iblk m c 5 t) y + part m c t y := by
  have ht : t.val < 16 := t.isLt
  rw [outs_first m c t (by omega)]
  unfold afterFirst runFirst
  rcases layer with ⟨_ | _⟩
  · dsimp only
    frame_out
    rw [same_sheet, same_dh, same_first, same_square, same_zero, chunks, pay3_eq, Patch.readCov_cut, Patch.canon_put, Patch.canon_put,
      Patch.canon_put, Patch.put_whole]
    exact clear_add 7 _ _ _ _ y
  · dsimp only
    frame_out
    rw [chunks, pay3_eq, Patch.readCov_cut, Patch.canon_put, Patch.canon_put, Patch.canon_put, Patch.put_whole]
    exact clear_add 23 _ _ _ _ y

/-- A later point adds its part. -/
theorem out_next (t : Fin cfg0.N) (h : ¬t.val % 16 = 0) (y : S40x2816.Idx) : (outs m c t.val t.isLt).2 y
    = (outs m c (t.val - 1) (pred_lt t)).2 y + part m c t y := by
  rw [outs_next m c t fun e => h (by rw [e])]
  unfold afterNext runNext
  rcases layer with ⟨_ | _⟩
  · dsimp only
    frame_out
    rw [same_sheet, same_dh, same_first, same_square, chunks, pay3_eq, Patch.writes_put, View.writes_nil, (bufs t).hout.read_unread, Patch.ld_cut]
    exact keep_add 7 _ _ _ _ y
  · dsimp only
    frame_out
    rw [chunks, pay3_eq, Patch.writes_put, View.writes_nil, (bufs t).hout.read_unread, Patch.ld_cut]
    exact keep_add 23 _ _ _ _ y

end Points

/-- The block of every window at every point. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])

/-- Row `r` of the gradient of the scaled rows, from the arguments. -/
def dhRow (dz : S8192x5632.Idx → EReal) (w : S1024x5632.Idx → EReal) (r : Fin 8192) (j : Fin 1024) : EReal :=
  ∑ k : Fin 5632, dz (ix2 r k) * w (ix2 j k)

/-- A row's part of the gain's gradient, from the arguments. -/
def gainRow (x : S8192x1024.Idx → EReal) (dz : S8192x5632.Idx → EReal) (w : S1024x5632.Idx → EReal) (r : Fin 8192) (j : Fin 1024) : EReal :=
  dhRow dz w r j * (x (ix2 r j) * Norm.scale fun k => x (ix2 r k))

theorem dx_array [layer : Layer] : (dats m 0 c).arrAt 6 cfg0.N = fun i : S8192x1024.Idx =>
    Norm.backward (fun k => m ((c.tc : Thread nD τ).loc main_arg2) (ix2 (i 0) k))
      (dhRow (m ((c.tc : Thread nD τ).loc main_arg0)) (m ((c.tc : Thread nD τ).loc main_arg1)) (i 0))
      (fun k => m ((c.tc : Thread nD τ).loc main_arg3) (ix1 k)) (m ((c.tc : Thread nD τ).loc main_arg4) i) (i 1) := by
  refine (dats m 0 c).arrAt_eq_of_covers 6 _ (by decide +kernel) fun t hf y => ?_
  blk_simp
  rw [after_dx, dx_at]
  pointwise [Norm.backward, Norm.scale, Norm.meanSq, row, dhAt, dh, dhRow]
  blk_point [iblk, V, idx0 t, idx1 t, idx2 t, idx3 t, idx4 t, idx6 t]

theorem gainPart_at (t : Fin cfg0.N) (j : Fin 1024) : gainPart (dhAt m c t) (iblk m c 2 t) j
    = ∑ p : Fin 512, gainRow (m ((c.tc : Thread nD τ).loc main_arg2)) (m ((c.tc : Thread nD τ).loc main_arg0))
        (m ((c.tc : Thread nD τ).loc main_arg1)) ⟨t.val * 512 + p.val, row_lt t p⟩ j := by
  pointwise [gainPart, gainRow, dhAt, dh, dhRow, Norm.scale, Norm.meanSq, row]
  blk_point [iblk, V, idx0 t, idx1 t, idx2 t]

theorem sheet_at (t : Fin cfg0.N) (y : S40x2816.Idx) : iblk m c 5 t y = m ((c.tc : Thread nD τ).loc main_arg5) y := by
  blk_point [iblk, V, idx5 t]

/-- The sheet with row `n` holding `g` in its first 1024 columns, zeros behind. -/
def withRow (n : ℕ) (s : S40x2816.Idx → EReal) (g : Fin 1024 → EReal) (y : S40x2816.Idx) : EReal :=
  if (y 0).val = n then if h : (y 1).val < 1024 then g ⟨(y 1).val, h⟩ else 0 else s y

/-- The last grid point, the only one whose sheet is written back. -/
def last : Fin cfg0.N := ⟨15, by decide⟩

theorem out_array [layer : Layer] : (dats m 0 c).arrAt 7 cfg0.N = withRow sheetRow (m ((c.tc : Thread nD τ).loc main_arg5)) fun j =>
    ∑ r : Fin 8192, gainRow (m ((c.tc : Thread nD τ).loc main_arg2)) (m ((c.tc : Thread nD τ).loc main_arg0))
      (m ((c.tc : Thread nD τ).loc main_arg1)) r j := by
  refine (dats m 0 c).arrAt_eq_of_after_last 7 last (by decide +kernel) _ fun j => ?_
  blk_simp
  refine (congrFun (after_out m c last) j).trans ?_
  refine (Pipeline.eq_sum_fin_of_reset_step_apply_last (fun n h y => (outs m c n h).2 y) 16
    (cleared sheetRow (m ((c.tc : Thread nD τ).loc main_arg5))) _ (fun t h y => (out_first m c t h y).trans (congrArg (· + _) (by
      unfold cleared; exact if_congr Iff.rfl rfl (sheet_at m c t y)))) (out_next m c) (by decide) last rfl j).trans ?_
  unfold part
  generalize sheetRow (layer := layer) = n
  unfold cleared withRow
  by_cases h0 : (j 0).val = n
  · by_cases h1 : (j 1).val < 1024
    · rw [if_pos h0, zero_add, if_pos h0, dif_pos h1]
      refine (Finset.sum_congr rfl fun t _ => (place_in _ j ⟨h0, h1⟩).trans (gainPart_at m c t _)).trans ?_
      exact Fin.sum_mul_add_fin 16 512 (fun r : Fin 8192 => gainRow (m ((c.tc : Thread nD τ).loc main_arg2))
        (m ((c.tc : Thread nD τ).loc main_arg0)) (m ((c.tc : Thread nD τ).loc main_arg1)) r ⟨(j 1).val, h1⟩)
    · rw [if_pos h0, zero_add, if_pos h0, dif_neg h1]
      exact Finset.sum_eq_zero fun t _ => place_out _ j fun e => h1 e.2
  · rw [if_neg h0, if_neg h0, Finset.sum_eq_zero fun t _ => place_out _ j fun e => h0 e.1, add_zero]

end Cert.Kernel11Ideal.Body

end
-- ==== Proof.UpReference.lean ====
/- What the wider reference leaves: the derivative of the forward lines row by row, the gain's in row 23 of the sheet. -/
module

public import proofs.«01_k».proof.Defs
public import proofs.«01_k».proof.Proof.Gen.Reference11Ideal.Run
public import proofs.«01_k».proof.Proof.Gen.Reference11Ideal.Read
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite_up
public import proofs.«01_k».proof.Proof.UpArray

@[expose] public section

set_option maxRecDepth 16384

noncomputable section

namespace Cert.Reference11Ideal.Body

open Cert.Reference11Ideal Cert.Reference11Ideal.Gen Cert.Reference11Ideal.Read Idealize.ShloMosaic Idealize.ShloMosaic.TcCoe Idealize.SL.Sem
open Cert.Kernel11Ideal.Body (dhRow gainRow withRow)
open Cert.Finite

variable (dz : S8192x5632.Idx → EReal) (w : S1024x5632.Idx → EReal) (x : S8192x1024.Idx → EReal) (g : S1024.Idx → EReal)
  (d : S8192x1024.Idx → EReal) (s : S40x2816.Idx → EReal)

theorem dh_eq : val_main_v18 (F := Ideal) dz w = fun i => dhRow dz w (i 0) (i 1) := by
  funext i
  pointwise [val_main_v18, val_main_v17, dhRow]

/-- The rows' gradient. -/
theorem dx_eq : val_main_v39 (F := Ideal) dz w x g d
    = fun i => Norm.vjp (fun k => x (ix2 (i 0) k)) (dhRow dz w (i 0)) (fun k => g (ix1 k)) (d i) (i 1) := by
  funext i
  rw [eq_ix2 i]
  pointwise [val_main_v39, val_main_v38, val_main_v37, val_main_v36, val_main_v35, val_main_v34, val_main_v33, val_main_v32,
    val_main_v31, val_main_v30, val_main_v29, val_main_v28, val_main_v27, val_main_v26, val_main_v25, val_main_v23, val_main_v22,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2, val_main_cst_5, val_main_cst_6, val_main_cst_7, dh_eq, Norm.vjp, Norm.through, Norm.scale, Norm.meanSq]
  simp only [Fin.sum_univ_one]

/-- The gain's gradient: each column's sum over all rows. -/
theorem gain_eq (j : S1024.Idx) : val_main_v24 (F := Ideal) dz w x j = ∑ r : Fin 8192, gainRow x dz w r (j 0) := by
  pointwise [val_main_v24, val_main_v21, val_main_v20, val_main_v19, val_main_v12, val_main_v11, val_main_v7, val_main_v6,
    val_main_v5, val_main_v4, val_main_v3, val_main_v2, val_main_v1, val_main_v0, val_main_cst, val_main_cst_0, val_main_cst_1,
    val_main_cst_3, val_main_cst_4, dh_eq, gainRow, Norm.scale, Norm.meanSq]
  rw [Fin.sum_univ_one]
  exact Finset.sum_congr rfl fun r _ => mul_comm (G := EReal) _ _

theorem sheet_eq : val_main_v45 (F := Ideal) dz w x s = withRow 23 s fun j => ∑ r : Fin 8192, gainRow x dz w r j := by
  funext i
  pointwise [val_main_v45, val_main_v44, val_main_v43, val_main_v42, val_main_v41, val_main_v40, val_main_cst_8, withRow, gain_eq]
  by_cases h : (i 0).val < 23
  · rw [dif_pos h, if_neg (by omega)]
  · rw [dif_neg h]
    by_cases h' : (i 0).val = 23
    · rw [dif_pos (by omega), if_pos h']
    · rw [dif_neg (by omega), if_neg h']
      exact congrArg s ((congrArg (ix2 · (i 1)) (Fin.ext (by show 24 + ((i 0).val - 23 - 1) = (i 0).val; omega))).trans (eq_ix2 i).symm)

theorem rank_zero : Cert.Pre_finite_up.S_.rank = 0 := rfl

instance : Fact (Cert.Pre_finite_up.S_.rank = 0) := ⟨rank_zero⟩

variable {dz w x g d s}

/-- Where the precondition holds, the four arguments it names are real numbers. -/
theorem reals (h : Cert.Pre_finite_up.fn (F := Ideal) dz w x g d s = fun _ => 1#1) :
    (∃ r : S8192x5632.Idx → ℝ, ∀ i, dz i = r i) ∧ (∃ r : S1024x5632.Idx → ℝ, ∀ i, w i = r i)
      ∧ (∃ r : S8192x1024.Idx → ℝ, ∀ i, x i = r i) ∧ ∃ r : S1024.Idx → ℝ, ∀ i, g i = r i := by
  have e := congrFun h fun k => absurd k.isLt (by simp)
  obtain ⟨e, e3⟩ := both e
  obtain ⟨e, e2⟩ := both e
  obtain ⟨e0, e1⟩ := both e
  exact ⟨real_of_test _ _ _ _ _ e0, real_of_test _ _ _ _ _ e1, real_of_test _ _ _ _ _ e2, real_of_test _ _ _ _ _ e3⟩

/-- On finite arguments the rows' gradient as written by hand is the derivative. -/
theorem dx_same (h : Cert.Pre_finite_up.fn (F := Ideal) dz w x g d s = fun _ => 1#1) (i : S8192x1024.Idx) :
    Norm.backward (fun k => x (ix2 (i 0) k)) (dhRow dz w (i 0)) (fun k => g (ix1 k)) (d i) (i 1)
      = Norm.vjp (fun k => x (ix2 (i 0) k)) (dhRow dz w (i 0)) (fun k => g (ix1 k)) (d i) (i 1) := by
  obtain ⟨⟨dz', hdz⟩, ⟨w', hw⟩, ⟨x', hx⟩, ⟨g', hg⟩⟩ := reals h
  have hd : dhRow dz w (i 0) = fun j => ((∑ k : Fin 5632, dz' (ix2 (i 0) k) * w' (ix2 j k) : ℝ) : EReal) := by
    funext j
    simp only [dhRow, hdz, hw, ← EReal.coe_mul, ← coe_sum]
  simp only [hx, hg, hd]
  exact Norm.backward_eq_vjp _ _ _ _ _

end Cert.Reference11Ideal.Body

/-! ## The first layer's sheet -/

namespace Cert.Reference13Ideal.Body

open Cert.Reference13Ideal Cert.Reference13Ideal.Gen Cert.Reference13Ideal.Read Idealize.ShloMosaic Idealize.ShloMosaic.TcCoe Idealize.SL.Sem
open Cert.Kernel11Ideal.Body (withRow gainRow)

variable (dz : S8192x5632.Idx → EReal) (w : S1024x5632.Idx → EReal) (x : S8192x1024.Idx → EReal) (s : S40x2816.Idx → EReal)

theorem same_dx : @val_main_v39 Ideal _ = @Cert.Reference11Ideal.Read.val_main_v39 Ideal _ := by sl_kernel_rfl
theorem same_gain : @val_main_v24 Ideal _ = @Cert.Reference11Ideal.Read.val_main_v24 Ideal _ := by sl_kernel_rfl

theorem sheet_eq : val_main_v45 (F := Ideal) dz w x s = withRow 7 s fun j => ∑ r : Fin 8192, gainRow x dz w r j := by
  funext i
  pointwise [val_main_v45, val_main_v44, val_main_v43, val_main_v42, val_main_v41, val_main_v40, val_main_cst_8, withRow, same_gain,
    Cert.Reference11Ideal.Body.gain_eq]
  by_cases h : (i 0).val < 7
  · rw [dif_pos h, if_neg (by omega)]
  · rw [dif_neg h]
    by_cases h' : (i 0).val = 7
    · rw [dif_pos (by omega), if_pos h']
    · rw [dif_neg (by omega), if_neg h']
      exact congrArg s ((congrArg (ix2 · (i 1)) (Fin.ext (by show 8 + ((i 0).val - 7 - 1) = (i 0).val; omega))).trans (eq_ix2 i).symm)

end Cert.Reference13Ideal.Body

end
-- ==== Proof.UpClaims.lean ====
/- The wider backward product of both layers: the frames and the equations with the references. -/
module

public import proofs.«01_k».proof.Proof.Gen.Kernel11
public import proofs.«01_k».proof.Proof.Gen.Kernel11Ideal
public import proofs.«01_k».proof.Proof.Gen.Kernel13
public import proofs.«01_k».proof.Proof.Gen.Kernel13Ideal
public import proofs.«01_k».proof.Proof.UpReference

@[expose] public section

set_option maxRecDepth 16384

noncomputable section

namespace Cert.Proof

open Idealize.ShloMosaic Idealize.ShloMosaic.TcCoe Idealize.ShloMosaic.Tactic Idealize.SL.Sem

theorem frame_ideal11 : Cert.quiescent_Kernel11Ideal := fun m ρ _ => Cert.Kernel11Ideal.Body.frame m ρ

/-- The kernel's text is its ideal's, so its runs are the same ones over machine numbers. -/
theorem frame_kernel11 : Cert.quiescent_Kernel11 := fun m ρ _ =>
  (by sl_kernel_rfl : (θ_run (Cert.Kernel11Ideal.defs (F := Bits)) (onTc (τ := Cert.Kernel11Ideal.τ) Cert.Kernel11Ideal.main) ⟨m, fun _ => 0, ρ⟩)
    = θ_run (Cert.Kernel11.defs (F := Bits)) (onTc (τ := Cert.Kernel11.τ) Cert.Kernel11.main) ⟨m, fun _ => 0, ρ⟩) ▸
    Cert.Kernel11Ideal.Body.frame (F := Bits) m ρ

theorem frame_reference11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- Both results, where the arguments the precondition names are finite. -/
theorem algebraic11 : Cert.algebraic_Kernel11Ideal_Reference11Ideal_pre_finite_up := fun m ρ m' ρ' hpre hagree =>
  ⟨_, _,
    (θ_run Cert.Kernel11Ideal.defs _ _).mono (fun _ h c =>
      ⟨(h.1.1 c).1 6 |>.trans (Kernel11Ideal.Body.dx_array m c), (h.1.1 c).1 7 |>.trans (Kernel11Ideal.Body.out_array m c), h.2 c⟩)
      (Kernel11Ideal.Body.run_kept (F := Ideal) m ρ),
    (θ_run Cert.Reference11Ideal.defs _ _).mono (fun _ h c => by
      obtain ⟨e0, e1, e2, e3, e4, e5⟩ := hagree c
      refine ⟨(h c).1.trans ((Cert.Reference11Ideal.Read.val_main_v39_eq m' c).trans ?_),
        (h c).2.1.trans ((Cert.Reference11Ideal.Read.val_main_v45_eq _ _ _ _).trans ?_), (h c).2.2⟩
      · rw [e0, e1, e2, e3, e4, Reference11Ideal.Body.dx_eq]
        exact funext fun i => (Reference11Ideal.Body.dx_same (hpre c) i).symm
      · rw [e0, e1, e2, e5, Reference11Ideal.Body.sheet_eq]
        rfl)
      (Cert.Reference11Ideal.Value.run (F := Ideal) m' ρ')⟩

/-! ## The first layer -/

/-- The layer whose row of the sheet is 7. -/
abbrev firstUp : Cert.Kernel11Ideal.Body.Layer := ⟨false⟩

/-- The first layer's run. -/
theorem same_up (m : (ℓ : Loc Cert.Kernel13Ideal.nD Cert.Kernel13Ideal.τ Cert.Kernel13Ideal.sig) → Buf (Elt Ideal) ℓ) (ρ : Dev Cert.Kernel13Ideal.nD → PrngReg) :
    (θ_run (Cert.Kernel11Ideal.Body.allDefs (layer := firstUp) (F := Ideal)) (onTc (τ := Cert.Kernel11Ideal.τ) Cert.Kernel11Ideal.main) ⟨m, fun _ => 0, ρ⟩)
      = θ_run (Cert.Kernel13Ideal.defs (F := Ideal)) (onTc (τ := Cert.Kernel13Ideal.τ) Cert.Kernel13Ideal.main) ⟨m, fun _ => 0, ρ⟩ := by
  sl_kernel_rfl

theorem frame_ideal13 : Cert.quiescent_Kernel13Ideal := fun m ρ _ =>
  same_up m ρ ▸ Cert.Kernel11Ideal.Body.frame (layer := firstUp) m ρ

theorem frame_kernel13 : Cert.quiescent_Kernel13 := fun m ρ _ =>
  (by sl_kernel_rfl : (θ_run (Cert.Kernel11Ideal.Body.allDefs (layer := firstUp) (F := Bits)) (onTc (τ := Cert.Kernel11Ideal.τ) Cert.Kernel11Ideal.main) ⟨m, fun _ => 0, ρ⟩)
    = θ_run (Cert.Kernel13.defs (F := Bits)) (onTc (τ := Cert.Kernel13.τ) Cert.Kernel13.main) ⟨m, fun _ => 0, ρ⟩) ▸
    Cert.Kernel11Ideal.Body.frame (layer := firstUp) (F := Bits) m ρ

theorem frame_reference13 : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

set_option maxHeartbeats 4000000 in
/-- Both results, where the arguments the precondition names are finite. -/
theorem algebraic13 : Cert.algebraic_Kernel13Ideal_Reference13Ideal_pre_finite_up := fun m ρ m' ρ' hpre hagree =>
  ⟨fun c => (Kernel11Ideal.Body.dats (layer := firstUp) m 0 c).arrAt 6 Kernel11Ideal.cfg0.N,
    fun c => (Kernel11Ideal.Body.dats (layer := firstUp) m 0 c).arrAt 7 Kernel11Ideal.cfg0.N,
    same_up m ρ ▸ (θ_run (Cert.Kernel11Ideal.Body.allDefs (layer := firstUp)) _ _).mono (fun _ h c =>
      ⟨(h.1.1 c).1 6, (h.1.1 c).1 7, h.2 c⟩)
      (Kernel11Ideal.Body.run_kept (layer := firstUp) (F := Ideal) m ρ),
    (θ_run Cert.Reference13Ideal.defs _ _).mono (fun _ h c => by
      obtain ⟨e0, e1, e2, e3, e4, e5⟩ := hagree c
      refine ⟨(h c).1.trans ((Cert.Reference13Ideal.Read.val_main_v39_eq m' c).trans ?_),
        (h c).2.1.trans ((Cert.Reference13Ideal.Read.val_main_v45_eq _ _ _ _).trans ?_), (h c).2.2⟩
      · refine Eq.trans ?_ (Kernel11Ideal.Body.dx_array (layer := firstUp) m c).symm
        rw [e0, e1, e2, e3, e4, Reference13Ideal.Body.same_dx, Reference11Ideal.Body.dx_eq]
        exact funext fun i => (Reference11Ideal.Body.dx_same (hpre c) i).symm
      · refine Eq.trans ?_ (Kernel11Ideal.Body.out_array (layer := firstUp) m c).symm
        rw [e0, e1, e2, e5, Reference13Ideal.Body.sheet_eq]
        rfl)
      (Cert.Reference13Ideal.Value.run (F := Ideal) m' ρ')⟩

end Cert.Proof

end
-- ==== Proof.ProjArray.lean ====
/- What the norm and the product after it leave: the scaled rows, and their product with the weight, nine chunks of 512
   columns at each grid point. -/
module

public import proofs.«01_k».proof.Proof.Gen.Kernel7Ideal.Value
public import proofs.«01_k».proof.Proof.Norm
public import proofs.«01_k».proof.Proof.Sums
public import proofs.«01_k».proof.Proof.Pieces

@[expose] public section

set_option maxRecDepth 16384

noncomputable section

namespace Cert.Kernel7Ideal.Body

open Cert.Kernel7Ideal Cert.Kernel7Ideal.Gen Idealize.ShloMosaic Idealize.ShloMosaic.TcCoe Idealize.SL.Sem
open Idealize.ShloMosaic.Pipeline (Dat)

/-- A row scaled by the inverse root of its mean square, then by the gains. -/
def scaled (x g : Fin 1024 → EReal) (k : Fin 1024) : EReal := x k * Norm.scale x * g k

/-- The scaled rows of a block. -/
def rows (x : S1024x1024.Idx → EReal) (g : S1x1024.Idx → EReal) (y : S1024x1024.Idx) : EReal :=
  scaled (fun k => x (ix2 (y 0) k)) (fun k => g (ix2 0 k)) (y 1)

theorem pay2_eq (x : Vec Ideal S1024x1024 .f32) (g : Vec Ideal S1x1024 .f32) : k0_pay2 (F := Ideal) x g = rows x g := by
  funext y
  rw [eq_ix2 y]
  pointwise [k0_pay2, rows, scaled, Norm.scale, Norm.meanSq]

/-- The rows' block that a point leaves. -/
theorem rows_out (x : Vec Ideal S1024x1024 .f32) (g : Vec Ideal S1x1024 .f32) (w : Vec Ideal S4608x1024 .bf16) :
    out0_3 x g w = rows x g := by
  frame_out
  exact pay2_eq x g

/-- Chunk `i` of the transposed weight, the product with it, and where its block lies. -/
abbrev wAt (w : Vec Ideal S4608x1024 .bf16) (i : Fin 9) : Vec Ideal S512x1024 .bf16 :=
  View.ld w (Rect.unit ![512 * i.val, 0] ![512, 1024] (Fin.forall_fin_two.mpr ⟨show 512 * i.val + 512 ≤ 4608 by omega, show 0 + 1024 ≤ 1024 by omega⟩))
def chunk (h : FVec Ideal S1024x1024 .bf16) (w : Vec Ideal S4608x1024 .bf16) (i : Fin 9) : FVec Ideal S1024x512 .bf16 := k0_pay6 h (wAt w i)
abbrev chunkRect (i : Fin 9) : Rect S1024x4608 :=
  Rect.unit ![0, 512 * i.val] ![1024, 512] (Fin.forall_fin_two.mpr ⟨show 0 + 1024 ≤ 1024 by omega, show 512 * i.val + 512 ≤ 4608 by omega⟩)

/-- The chunks, the newest first. -/
abbrev chunksDown : List (Fin 9) := [8, 7, 6, 5, 4, 3, 2, 1, 0]

/-- The product's pieces. -/
def pieces (h : FVec Ideal S1024x1024 .bf16) (w : Vec Ideal S4608x1024 .bf16) : List (View.Piece (Elt Ideal) S1024x4608 .bf16) :=
  chunksDown.map fun i => ⟨chunkRect i, chunk h w i⟩

/-- Every chunk's product is the same function of the scaled rows and of the chunk. -/
theorem chunk_same (h : FVec Ideal S1024x1024 .bf16) (v : Vec Ideal S512x1024 .bf16) :
    k0_pay1 h (k0_pay11 v) = k0_pay6 h v ∧ k0_pay10 h v = k0_pay6 h v ∧ k0_pay9 h v = k0_pay6 h v ∧ k0_pay8 h v = k0_pay6 h v
      ∧ k0_pay7 h v = k0_pay6 h v := ⟨rfl, rfl, rfl, rfl, rfl⟩
theorem chunk_scaled (x : Vec Ideal S1024x1024 .f32) (g : Vec Ideal S1x1024 .f32) (v : Vec Ideal S512x1024 .bf16) :
    k0_pay5 x g v = k0_pay6 (k0_pay2 x g) v ∧ k0_pay4 x g v = k0_pay6 (k0_pay2 x g) v ∧ k0_pay3 x g v = k0_pay6 (k0_pay2 x g) v :=
  ⟨rfl, rfl, rfl⟩

theorem product_pieces (x : Vec Ideal S1024x1024 .f32) (g : Vec Ideal S1x1024 .f32) (w : Vec Ideal S4608x1024 .bf16) :
    out0_4 x g w = View.canon (pieces (k0_pay2 x g) w) := by
  have e : k0_pay12 x g w = k0_pay2 x g := by
    unfold k0_pay12
    frame_out
  frame_out
  simp only [e, chunk_same, chunk_scaled]
  generalize k0_pay2 x g = h
  rfl

/-- The product of a block's rows with the transposed weight. -/
def product (h : S1024x1024.Idx → EReal) (w : S4608x1024.Idx → EReal) (y : S1024x4608.Idx) : EReal :=
  ∑ k : Fin 1024, h (ix2 (y 0) k) * w (ix2 (y 1) k)

theorem chunk_eq (h : FVec Ideal S1024x1024 .bf16) (w : Vec Ideal S4608x1024 .bf16) (i : Fin 9) (x : S1024x512.Idx) :
    chunk h w i x = product h w ((chunkRect i).idx x) := by
  unfold chunk
  pointwise [k0_pay6, product]
  exact Finset.sum_congr rfl fun k _ => congrArg (h (ix2 (x 0) k) * ·)
    (congrArg w (Sums.ext2 (by simp [Rect.idx_unit_val]) (by simp [Rect.idx_unit_val])))

theorem mem_chunks : ∀ i : Fin 9, i ∈ chunksDown := by decide

theorem mem_chunk (i : Fin 9) (y : S1024x4608.Idx) (h : (y 1).val / 512 = i.val) : y ∈ (chunkRect i).set := by
  have h0 : (y 0).val < 1024 := (y 0).isLt
  refine Rect.mem_set_unit.mpr (Fin.forall_fin_two.mpr ?_)
  show (0 ≤ (y 0).val ∧ (y 0).val < 0 + 1024) ∧ (512 * i.val ≤ (y 1).val ∧ (y 1).val < 512 * i.val + 512)
  omega

theorem product_out (x : Vec Ideal S1024x1024 .f32) (g : Vec Ideal S1x1024 .f32) (w : Vec Ideal S4608x1024 .bf16) :
    out0_4 x g w = product (rows x g) w := by
  rw [product_pieces, pay2_eq]
  funext y
  refine View.canon_apply_of_pieces (Val := Elt Ideal) (e := .bf16) (product (rows x g) w) _ ?_ y ?_
  · intro pc hpc
    obtain ⟨i, _, rfl⟩ := List.mem_map.mp hpc
    exact fun x => chunk_eq _ w i x
  · have h1 : (y 1).val < 4608 := (y 1).isLt
    exact ⟨⟨chunkRect ⟨(y 1).val / 512, by omega⟩, chunk _ w _⟩, List.mem_map.mpr ⟨_, mem_chunks _, rfl⟩, mem_chunk _ y rfl⟩

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])

/-- The two results of the rows `x`, the gains `g` and the weight `w`. -/
def hRow (x : S8192x1024.Idx → EReal) (g : S1024.Idx → EReal) (r : Fin 8192) : Fin 1024 → EReal :=
  scaled (fun k => x (ix2 r k)) fun k => g (ix1 k)
def zRow (x : S8192x1024.Idx → EReal) (g : S1024.Idx → EReal) (w : S1024x4608.Idx → EReal) (r : Fin 8192) (j : Fin 4608) : EReal :=
  ∑ k : Fin 1024, hRow x g r k * w (ix2 k j)

theorem h_array : (dats m 0 c).arrAt 3 cfg0.N = fun i : S8192x1024.Idx =>
    hRow (m ((c.tc : Thread nD τ).loc main_arg0)) (m ((c.tc : Thread nD τ).loc main_arg1)) (i 0) (i 1) := by
  refine (dats m 0 c).arrAt_eq_of_covers 3 _ (by decide +kernel) fun t hf y => ?_
  blk_simp
  rw [after0_3, rows_out]
  pointwise [rows, hRow, scaled, Norm.scale, Norm.meanSq]
  blk_point [iblk, V, idx0 t, idx1 t, idx3 t]

theorem z_array : (dats m 0 c).arrAt 4 cfg0.N = fun i : S8192x4608.Idx =>
    zRow (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t hf y => ?_
  blk_simp
  rw [after0_4, product_out]
  pointwise [product, rows, zRow, hRow, scaled, Norm.scale, Norm.meanSq]
  blk_point [iblk, V, idx0 t, idx1 t, idx2 t, idx4 t]

end Cert.Kernel7Ideal.Body

end
-- ==== Proof.ProjClaims.lean ====
/- The norm and the product after it: the reference's two results, the frames of the three programs and the equality of the
   results. -/
module

public import proofs.«01_k».proof.Defs
public import proofs.«01_k».proof.Proof.Gen.Kernel7
public import proofs.«01_k».proof.Proof.Gen.Reference7Ideal
public import proofs.«01_k».proof.Proof.Gen.Reference7Ideal.Run
public import proofs.«01_k».proof.Proof.Gen.Reference7Ideal.Read
public import proofs.«01_k».proof.Proof.ProjArray
public import Idealize.ShloMosaic.Adequacy

@[expose] public section

set_option maxRecDepth 16384

noncomputable section

namespace Cert.Reference7Ideal.Body

open Cert.Reference7Ideal Cert.Reference7Ideal.Gen Cert.Reference7Ideal.Read Idealize.ShloMosaic Idealize.ShloMosaic.TcCoe Idealize.SL.Sem
open Cert.Kernel7Ideal.Body (scaled hRow zRow)

variable (x : S8192x1024.Idx → EReal) (g : S1024.Idx → EReal) (w : S1024x4608.Idx → EReal)

theorem rows_eq : val_main_v12 (F := Ideal) x g = fun i => hRow x g (i 0) (i 1) := by
  funext i
  rw [eq_ix2 i]
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    hRow, scaled, Norm.scale, Norm.meanSq]

theorem h_all : val_main_v13 (F := Ideal) x g = fun i => hRow x g (i 0) (i 1) := rows_eq x g

theorem z_all : val_main_v15 (F := Ideal) x g w = fun i => zRow x g w (i 0) (i 1) := by
  funext i
  pointwise [val_main_v15, val_main_v14, rows_eq, zRow]

end Cert.Reference7Ideal.Body

namespace Cert.Proof

open Idealize.ShloMosaic Idealize.ShloMosaic.TcCoe Idealize.ShloMosaic.Tactic Idealize.SL.Sem

theorem frame_ideal7 : Cert.quiescent_Kernel7Ideal := fun m ρ _ => Cert.Kernel7Ideal.Gen.frame m ρ

/-- The two programs have the same text, so the run over machine numbers is the other's. -/
theorem frame_kernel7 : Cert.quiescent_Kernel7 := fun m ρ _ =>
  (by sl_kernel_rfl : (θ_run (Cert.Kernel7Ideal.defs (F := Bits)) (onTc (τ := Cert.Kernel7Ideal.τ) Cert.Kernel7Ideal.main) ⟨m, fun _ => 0, ρ⟩)
    = θ_run (Cert.Kernel7.defs (F := Bits)) (onTc (τ := Cert.Kernel7.τ) Cert.Kernel7.main) ⟨m, fun _ => 0, ρ⟩) ▸
    Cert.Kernel7Ideal.Gen.frame (F := Bits) m ρ

theorem frame_reference7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Both results, of any arguments. -/
theorem algebraic7 : Cert.algebraic_Kernel7Ideal_Reference7Ideal := fun m ρ m' ρ' _ hagree =>
  ⟨_, _,
    (θ_run Cert.Kernel7Ideal.defs _ _).mono (fun _ h c =>
      ⟨(h c).1.trans (Kernel7Ideal.Body.h_array m c), (h c).2.1.trans (Kernel7Ideal.Body.z_array m c), (h c).2.2⟩)
      (Cert.Kernel7Ideal.Value.run_blocks (F := Ideal) m ρ),
    (θ_run Cert.Reference7Ideal.defs _ _).mono (fun _ h c => by
      obtain ⟨e0, e1, e2⟩ := hagree c
      refine ⟨(h c).1.trans ((Cert.Reference7Ideal.Read.val_main_v13_eq _ _).trans ?_),
        (h c).2.1.trans ((Cert.Reference7Ideal.Read.val_main_v15_eq _ _ _).trans ?_), (h c).2.2⟩
      · rw [e0, e1]
        exact Reference7Ideal.Body.h_all _ _
      · rw [e0, e1, e2]
        exact Reference7Ideal.Body.z_all _ _ _)
      (Cert.Reference7Ideal.Value.run (F := Ideal) m' ρ')⟩

end Cert.Proof

end
-- ==== Proof.UpProjArray.lean ====
/- What the second norm and the product after it leave: the scaled rows, and their product with the weight, eleven chunks
   of 512 columns at each grid point. -/
module

public import proofs.«01_k».proof.Proof.Gen.Kernel15Ideal.Value
public import proofs.«01_k».proof.Proof.ProjArray

@[expose] public section

set_option maxRecDepth 16384

noncomputable section

namespace Cert.Kernel15Ideal.Body

open Cert.Kernel15Ideal Cert.Kernel15Ideal.Gen Idealize.ShloMosaic Idealize.ShloMosaic.TcCoe Idealize.SL.Sem
open Cert.Kernel7Ideal.Body (scaled hRow)
open Idealize.ShloMosaic.Pipeline (Dat)

/-- The scaled rows of a block. -/
def rows (x : S512x1024.Idx → EReal) (g : S1x1024.Idx → EReal) (y : S512x1024.Idx) : EReal :=
  scaled (fun k => x (ix2 (y 0) k)) (fun k => g (ix2 0 k)) (y 1)

theorem pay4_eq (x : Vec Ideal S512x1024 .f32) (g : Vec Ideal S1x1024 .f32) : k0_pay4 (F := Ideal) x g = rows x g := by
  funext y
  rw [eq_ix2 y]
  pointwise [k0_pay4, rows, scaled, Norm.scale, Norm.meanSq]

/-- The rows' block that a point leaves. -/
theorem rows_out (x : Vec Ideal S512x1024 .f32) (g : Vec Ideal S1x1024 .f32) (w : Vec Ideal S5632x1024 .bf16) :
    out0_3 x g w = rows x g := by
  frame_out
  exact pay4_eq x g

/-- Chunk `i` of the transposed weight, the product with it, and where its block lies. -/
abbrev wAt (w : Vec Ideal S5632x1024 .bf16) (i : Fin 11) : Vec Ideal S512x1024 .bf16 :=
  View.ld w (Rect.unit ![512 * i.val, 0] ![512, 1024] (Fin.forall_fin_two.mpr ⟨show 512 * i.val + 512 ≤ 5632 by omega, show 0 + 1024 ≤ 1024 by omega⟩))
def chunk (h : FVec Ideal S512x1024 .bf16) (w : Vec Ideal S5632x1024 .bf16) (i : Fin 11) : FVec Ideal S512x512 .bf16 := k0_pay2 h (wAt w i)
abbrev chunkRect (i : Fin 11) : Rect S512x5632 :=
  Rect.unit ![0, 512 * i.val] ![512, 512] (Fin.forall_fin_two.mpr ⟨show 0 + 512 ≤ 512 by omega, show 512 * i.val + 512 ≤ 5632 by omega⟩)

/-- The product's pieces, the newest chunk first. -/
def pieces (h : FVec Ideal S512x1024 .bf16) (w : Vec Ideal S5632x1024 .bf16) : List (View.Piece (Elt Ideal) S512x5632 .bf16) :=
  ([10, 9, 8, 7, 6, 5, 4, 3, 2, 1, 0] : List (Fin 11)).map fun i => ⟨chunkRect i, chunk h w i⟩

/-- Every chunk's product is the same function of the scaled rows and of the chunk. -/
theorem chunk_same (h : FVec Ideal S512x1024 .bf16) (v : Vec Ideal S512x1024 .bf16) :
    k0_pay1 h (k0_pay13 v) = k0_pay2 h v ∧ k0_pay3 h v = k0_pay2 h v ∧ k0_pay8 h v = k0_pay2 h v ∧ k0_pay9 h v = k0_pay2 h v
      ∧ k0_pay10 h v = k0_pay2 h v ∧ k0_pay11 h v = k0_pay2 h v ∧ k0_pay12 h v = k0_pay2 h v := ⟨rfl, rfl, rfl, rfl, rfl, rfl, rfl⟩
theorem chunk_scaled (x : Vec Ideal S512x1024 .f32) (g : Vec Ideal S1x1024 .f32) (v : Vec Ideal S512x1024 .bf16) :
    k0_pay5 x g v = k0_pay2 (k0_pay4 x g) v ∧ k0_pay6 x g v = k0_pay2 (k0_pay4 x g) v ∧ k0_pay7 x g v = k0_pay2 (k0_pay4 x g) v :=
  ⟨rfl, rfl, rfl⟩

theorem product_pieces (x : Vec Ideal S512x1024 .f32) (g : Vec Ideal S1x1024 .f32) (w : Vec Ideal S5632x1024 .bf16) :
    out0_4 x g w = View.canon (pieces (k0_pay4 x g) w) := by
  have e : k0_pay14 x g w = k0_pay4 x g := by
    unfold k0_pay14
    frame_out
  frame_out
  simp only [e, chunk_same, chunk_scaled]
  generalize k0_pay4 x g = h
  rfl

/-- The product of a block's rows with the transposed weight. -/
def product (h : S512x1024.Idx → EReal) (w : S5632x1024.Idx → EReal) (y : S512x5632.Idx) : EReal :=
  ∑ k : Fin 1024, h (ix2 (y 0) k) * w (ix2 (y 1) k)

theorem chunk_eq (h : FVec Ideal S512x1024 .bf16) (w : Vec Ideal S5632x1024 .bf16) (i : Fin 11) (x : S512x512.Idx) :
    chunk h w i x = product h w ((chunkRect i).idx x) := by
  unfold chunk
  pointwise [k0_pay2, product]
  exact Finset.sum_congr rfl fun k _ => congrArg₂ (· * ·) (congrArg h (Sums.ext2 (by simp [Rect.idx_unit_val]) (by simp [Rect.idx_unit_val])))
    (congrArg w (Sums.ext2 (by simp [Rect.idx_unit_val]) (by simp [Rect.idx_unit_val])))

theorem mem_chunk (i : Fin 11) (y : S512x5632.Idx) (h : (y 1).val / 512 = i.val) : y ∈ (chunkRect i).set := by
  have h0 : (y 0).val < 512 := (y 0).isLt
  refine Rect.mem_set_unit.mpr (Fin.forall_fin_two.mpr ?_)
  show (0 ≤ (y 0).val ∧ (y 0).val < 0 + 512) ∧ (512 * i.val ≤ (y 1).val ∧ (y 1).val < 512 * i.val + 512)
  omega

theorem product_out (x : Vec Ideal S512x1024 .f32) (g : Vec Ideal S1x1024 .f32) (w : Vec Ideal S5632x1024 .bf16) :
    out0_4 x g w = product (rows x g) w := by
  rw [product_pieces, pay4_eq]
  funext y
  refine View.canon_apply_of_pieces (Val := Elt Ideal) (e := .bf16) (product (rows x g) w) _ ?_ y ?_
  · intro pc hpc
    obtain ⟨i, _, rfl⟩ := List.mem_map.mp hpc
    exact fun x => chunk_eq _ w i x
  · have h1 : (y 1).val < 5632 := (y 1).isLt
    exact ⟨⟨chunkRect ⟨(y 1).val / 512, by omega⟩, chunk _ w _⟩,
      List.mem_map.mpr ⟨_, (by decide : ∀ i : Fin 11, i ∈ ([10, 9, 8, 7, 6, 5, 4, 3, 2, 1, 0] : List (Fin 11))) _, rfl⟩, mem_chunk _ y rfl⟩

variable (m : (ℓ : Loc nD τ sig) → Buf (Elt Ideal) ℓ) (c : Dev nD)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])

/-- The product of the scaled rows with the weight. -/
def zRow (x : S8192x1024.Idx → EReal) (g : S1024.Idx → EReal) (w : S1024x5632.Idx → EReal) (r : Fin 8192) (j : Fin 5632) : EReal :=
  ∑ k : Fin 1024, hRow x g r k * w (ix2 k j)

theorem h_array : (dats m 0 c).arrAt 3 cfg0.N = fun i : S8192x1024.Idx =>
    hRow (m ((c.tc : Thread nD τ).loc main_arg0)) (m ((c.tc : Thread nD τ).loc main_arg1)) (i 0) (i 1) := by
  refine (dats m 0 c).arrAt_eq_of_covers 3 _ (by decide +kernel) fun t hf y => ?_
  blk_simp
  rw [after0_3, rows_out]
  pointwise [rows, hRow, scaled, Norm.scale, Norm.meanSq]
  blk_point [iblk, V, idx0 t, idx1 t, idx3 t]

theorem z_array : (dats m 0 c).arrAt 4 cfg0.N = fun i : S8192x5632.Idx =>
    zRow (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t hf y => ?_
  blk_simp
  rw [after0_4, product_out]
  pointwise [product, rows, zRow, hRow, scaled, Norm.scale, Norm.meanSq]
  blk_point [iblk, V, idx0 t, idx1 t, idx2 t, idx4 t]

end Cert.Kernel15Ideal.Body

end
-- ==== Proof.UpProjClaims.lean ====
/- The norms and the products after them: the first layer's first norm has the second's text, and the second norms' two
   calls, which have one text, are read with the wider reference. -/
module

public import proofs.«01_k».proof.Proof.Gen.Kernel14
public import proofs.«01_k».proof.Proof.Gen.Kernel14Ideal
public import proofs.«01_k».proof.Proof.Gen.Kernel15
public import proofs.«01_k».proof.Proof.Gen.Kernel16
public import proofs.«01_k».proof.Proof.Gen.Kernel16Ideal
public import proofs.«01_k».proof.Proof.Gen.Reference15Ideal
public import proofs.«01_k».proof.Proof.Gen.Reference15Ideal.Run
public import proofs.«01_k».proof.Proof.Gen.Reference15Ideal.Read
public import proofs.«01_k».proof.Proof.ProjClaims
public import proofs.«01_k».proof.Proof.UpProjArray

@[expose] public section

set_option maxRecDepth 16384

noncomputable section

namespace Cert.Reference15Ideal.Body

open Cert.Reference15Ideal Cert.Reference15Ideal.Gen Cert.Reference15Ideal.Read Idealize.ShloMosaic Idealize.ShloMosaic.TcCoe Idealize.SL.Sem
open Cert.Kernel7Ideal.Body (hRow)
open Cert.Kernel15Ideal.Body (zRow)

variable (x : S8192x1024.Idx → EReal) (g : S1024.Idx → EReal) (w : S1024x5632.Idx → EReal)

theorem rows_eq : val_main_v12 (F := Ideal) x g = fun i => hRow x g (i 0) (i 1) := Cert.Reference7Ideal.Body.rows_eq x g

theorem h_all : val_main_v13 (F := Ideal) x g = fun i => hRow x g (i 0) (i 1) := rows_eq x g

theorem z_all : val_main_v15 (F := Ideal) x g w = fun i => zRow x g w (i 0) (i 1) := by
  funext i
  pointwise [val_main_v15, val_main_v14, rows_eq, zRow]

end Cert.Reference15Ideal.Body

namespace Cert.Proof

open Idealize.ShloMosaic Idealize.ShloMosaic.TcCoe Idealize.ShloMosaic.Tactic Idealize.SL.Sem

/-! ## The first layer's first norm -/

theorem same_first_norm (m : (ℓ : Loc Cert.Kernel14Ideal.nD Cert.Kernel14Ideal.τ Cert.Kernel14Ideal.sig) → Buf (Elt Ideal) ℓ) (ρ : Dev Cert.Kernel14Ideal.nD → PrngReg) :
    (θ_run (Cert.Kernel7Ideal.defs (F := Ideal)) (onTc (τ := Cert.Kernel7Ideal.τ) Cert.Kernel7Ideal.main) ⟨m, fun _ => 0, ρ⟩)
      = θ_run (Cert.Kernel14Ideal.defs (F := Ideal)) (onTc (τ := Cert.Kernel14Ideal.τ) Cert.Kernel14Ideal.main) ⟨m, fun _ => 0, ρ⟩ := by
  sl_kernel_rfl

theorem frame_ideal14 : Cert.quiescent_Kernel14Ideal := fun m ρ _ => same_first_norm m ρ ▸ Cert.Kernel7Ideal.Gen.frame m ρ

theorem frame_kernel14 : Cert.quiescent_Kernel14 := fun m ρ _ =>
  (by sl_kernel_rfl : (θ_run (Cert.Kernel7Ideal.defs (F := Bits)) (onTc (τ := Cert.Kernel7Ideal.τ) Cert.Kernel7Ideal.main) ⟨m, fun _ => 0, ρ⟩)
    = θ_run (Cert.Kernel14.defs (F := Bits)) (onTc (τ := Cert.Kernel14.τ) Cert.Kernel14.main) ⟨m, fun _ => 0, ρ⟩) ▸
    Cert.Kernel7Ideal.Gen.frame (F := Bits) m ρ

theorem algebraic14 : Cert.algebraic_Kernel14Ideal_Reference7Ideal := fun m ρ m' ρ' h hagree => by
  obtain ⟨v0, v1, hk, hr⟩ := algebraic7 m ρ m' ρ' h hagree
  exact ⟨v0, v1, same_first_norm m ρ ▸ hk, hr⟩

/-! ## The second norms -/

theorem frame_ideal15 : Cert.quiescent_Kernel15Ideal := fun m ρ _ => Cert.Kernel15Ideal.Gen.frame m ρ

theorem frame_kernel15 : Cert.quiescent_Kernel15 := fun m ρ _ =>
  (by sl_kernel_rfl : (θ_run (Cert.Kernel15Ideal.defs (F := Bits)) (onTc (τ := Cert.Kernel15Ideal.τ) Cert.Kernel15Ideal.main) ⟨m, fun _ => 0, ρ⟩)
    = θ_run (Cert.Kernel15.defs (F := Bits)) (onTc (τ := Cert.Kernel15.τ) Cert.Kernel15.main) ⟨m, fun _ => 0, ρ⟩) ▸
    Cert.Kernel15Ideal.Gen.frame (F := Bits) m ρ

theorem frame_reference15 : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

/-- Both results, of any arguments. -/
theorem algebraic15 : Cert.algebraic_Kernel15Ideal_Reference15Ideal := fun m ρ m' ρ' _ hagree =>
  ⟨_, _,
    (θ_run Cert.Kernel15Ideal.defs _ _).mono (fun _ h c =>
      ⟨(h c).1.trans (Kernel15Ideal.Body.h_array m c), (h c).2.1.trans (Kernel15Ideal.Body.z_array m c), (h c).2.2⟩)
      (Cert.Kernel15Ideal.Value.run_blocks (F := Ideal) m ρ),
    (θ_run Cert.Reference15Ideal.defs _ _).mono (fun _ h c => by
      obtain ⟨e0, e1, e2⟩ := hagree c
      refine ⟨(h c).1.trans ((Cert.Reference15Ideal.Read.val_main_v13_eq _ _).trans ?_),
        (h c).2.1.trans ((Cert.Reference15Ideal.Read.val_main_v15_eq _ _ _).trans ?_), (h c).2.2⟩
      · rw [e0, e1]
        exact Reference15Ideal.Body.h_all _ _
      · rw [e0, e1, e2]
        exact Reference15Ideal.Body.z_all _ _ _)
      (Cert.Reference15Ideal.Value.run (F := Ideal) m' ρ')⟩

theorem same_second_norm (m : (ℓ : Loc Cert.Kernel16Ideal.nD Cert.Kernel16Ideal.τ Cert.Kernel16Ideal.sig) → Buf (Elt Ideal) ℓ) (ρ : Dev Cert.Kernel16Ideal.nD → PrngReg) :
    (θ_run (Cert.Kernel15Ideal.defs (F := Ideal)) (onTc (τ := Cert.Kernel15Ideal.τ) Cert.Kernel15Ideal.main) ⟨m, fun _ => 0, ρ⟩)
      = θ_run (Cert.Kernel16Ideal.defs (F := Ideal)) (onTc (τ := Cert.Kernel16Ideal.τ) Cert.Kernel16Ideal.main) ⟨m, fun _ => 0, ρ⟩ := by
  sl_kernel_rfl

theorem frame_ideal16 : Cert.quiescent_Kernel16Ideal := fun m ρ _ => same_second_norm m ρ ▸ Cert.Kernel15Ideal.Gen.frame m ρ

theorem frame_kernel16 : Cert.quiescent_Kernel16 := fun m ρ _ =>
  (by sl_kernel_rfl : (θ_run (Cert.Kernel15Ideal.defs (F := Bits)) (onTc (τ := Cert.Kernel15Ideal.τ) Cert.Kernel15Ideal.main) ⟨m, fun _ => 0, ρ⟩)
    = θ_run (Cert.Kernel16.defs (F := Bits)) (onTc (τ := Cert.Kernel16.τ) Cert.Kernel16.main) ⟨m, fun _ => 0, ρ⟩) ▸
    Cert.Kernel15Ideal.Gen.frame (F := Bits) m ρ

theorem algebraic16 : Cert.algebraic_Kernel16Ideal_Reference15Ideal := fun m ρ m' ρ' h hagree => by
  obtain ⟨v0, v1, hk, hr⟩ := algebraic15 m ρ m' ρ' h hagree
  exact ⟨v0, v1, same_second_norm m ρ ▸ hk, hr⟩

end Cert.Proof

end
-- ==== Proof.HeadRun.lean ====
/- One grid point of the feed-forward that ends in the loss: what the body stores, at the first point and at the
   later ones. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers a grid point works on. -/
structure Bufs where
  up : Memref sig .tc .vmem S512x5632 .bf16
  hup : up.IsWhole
  upp : Memref sig .tc .vmem S16x2816 .bf16
  hupp : upp.IsWhole
  x : Memref sig .tc .vmem S512x1024 .f32
  hx : x.IsWhole
  w : Memref sig .tc .vmem S3x2816 .f32
  hw : w.IsWhole
  b : Memref sig .tc .vmem S1x2816 .f32
  hb : b.IsWhole
  wd : Memref sig .tc .vmem S2816x1024 .bf16
  hwd : wd.IsWhole
  g : Memref sig .tc .vmem S1x1024 .f32
  hg : g.IsWhole
  target : Memref sig .tc .vmem S512x1024 .f32
  htarget : target.IsWhole
  gc : Memref sig .tc .vmem S512x2816 .bf16
  hgc : gc.IsWhole
  a : Memref sig .tc .vmem S512x2816 .bf16
  ha : a.IsWhole
  dx : Memref sig .tc .vmem S512x1024 .f32
  hdx : dx.IsWhole
  sheet : Memref sig .tc .vmem S40x2816 .f32
  hsheet : sheet.IsWhole

/-- The blocks a grid point reads. -/
structure Ins (F : FTy → Type) where
  up : Vec F S512x5632 .bf16
  upp : Vec F S16x2816 .bf16
  x : Vec F S512x1024 .f32
  w : Vec F S3x2816 .f32
  b : Vec F S1x2816 .f32
  wd : Vec F S2816x1024 .bf16
  g : Vec F S1x1024 .f32
  target : Vec F S512x1024 .f32

/-- The body over its buffers. -/
def Bufs.body (B : Bufs) (i : grid0.Coords) : Prog (TpuEff nD τ sig (Elt F) Λ₀ .tc) PUnit :=
  cc0_fwd_ffn_1 i B.up B.hup B.upp B.hupp B.x B.hx B.w B.hw B.b B.hb B.wd B.hwd B.g B.hg B.target B.htarget B.gc B.hgc B.a B.ha B.dx B.hdx B.sheet B.hsheet
    (Memref.whole cc0_scratch0) (Memref.isWhole_whole _)

/-- The read buffers hold the blocks. -/
def held (c : Dev nD) (B : Bufs) (I : Ins F) : sProp 𝕄 :=
  iprop(owns (c : Thread nD τ) B.up fullShare I.up
    ∗ owns (c : Thread nD τ) B.upp fullShare I.upp
    ∗ owns (c : Thread nD τ) B.x fullShare I.x
    ∗ owns (c : Thread nD τ) B.w fullShare I.w
    ∗ owns (c : Thread nD τ) B.b fullShare I.b
    ∗ owns (c : Thread nD τ) B.wd fullShare I.wd
    ∗ owns (c : Thread nD τ) B.g fullShare I.g
    ∗ owns (c : Thread nD τ) B.target fullShare I.target)

/-- The buffer a point uses for itself, at anything. -/
def spare (c : Dev nD) : sProp 𝕄 := iprop(∃ d, owns (c : Thread nD τ) (Memref.whole cc0_scratch0) fullShare d)

/-- The condition of the body's branch: the first grid point. -/
abbrev first (i : grid0.Coords) : Prop :=
  Scalar.cmpi .ne (Scalar.extui (Scalar.cmpi .eq (BitVec.ofNat 32 (i 0).val) 0#32)) 0#32 = 1#1

theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

set_option maxHeartbeats 20000000 in
/-- The first point: the stores into the four results, found by running the body. -/
def runFirst (c : Dev nD) (i : grid0.Coords) (B : Bufs) (hc : first i) (I : Ins F) :
    Σ' (P1 : List (View.Piece (Elt F) S512x2816 .bf16)) (P2 : List (View.Piece (Elt F) S512x2816 .bf16)) (P3 : List (View.Piece (Elt F) S512x1024 .f32)),
      { P4 : List (View.Piece (Elt F) S40x2816 .f32) // ∀ (E : Set ℕ) (K : PUnit → sProp 𝕄),
        iprop(held c B I ∗ (∃ d, owns (c : Thread nD τ) B.gc fullShare d)
            ∗ (∃ d, owns (c : Thread nD τ) B.a fullShare d)
            ∗ (∃ d, owns (c : Thread nD τ) B.dx fullShare d)
            ∗ (∃ d, owns (c : Thread nD τ) B.sheet fullShare d)
            ∗ spare c
            ∗ (iprop(held c B I ∗ (∃ f, B.gc.view.loc (c : Thread nD τ) ↦[B.gc.view.set]{fullShare} B.gc.view.writes (Elt F) f P1)
                ∗ (∃ f, B.a.view.loc (c : Thread nD τ) ↦[B.a.view.set]{fullShare} B.a.view.writes (Elt F) f P2)
                ∗ (∃ f, B.dx.view.loc (c : Thread nD τ) ↦[B.dx.view.set]{fullShare} B.dx.view.writes (Elt F) f P3)
                ∗ (∃ f, B.sheet.view.loc (c : Thread nD τ) ↦[B.sheet.view.set]{fullShare} B.sheet.view.writes (Elt F) f P4)
                ∗ spare c) -∗ K ⟨⟩))
          ⊢ wp frame (wpE (defs₀ (F := F)) Variants.none c none) E (B.body i) K } := by
  refine ⟨?_, ?_, ?_, ?_, fun E K => ?run⟩
  case run =>
    unfold Bufs.body held spare
    simp only [cc0_fwd_ffn_1_eq_skeleton]; unfold cc0_fwd_ffn_1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, ⟨%d8, %f8, -, H8⟩, ⟨%d9, %f9, -, H9⟩, ⟨%d10, %f10, -, H10⟩, ⟨%d11, %f11, -, H11⟩, ⟨%d12, %f12, -, H12⟩, Hk⟩
    obtain rfl := B.hup.eq_unread h0
    obtain rfl := B.hupp.eq_unread h1
    obtain rfl := B.hx.eq_unread h2
    obtain rfl := B.hw.eq_unread h3
    obtain rfl := B.hb.eq_unread h4
    obtain rfl := B.hwd.eq_unread h5
    obtain rfl := B.hg.eq_unread h6
    obtain rfl := B.htarget.eq_unread h7
    sl_exec (disch := first | sl_exact hc)
    sl_step
    iapply Hk
    isplitl [H0 H1 H2 H3 H4 H5 H6 H7]
    · isplitl [H0]
      · iexists _; isplitr; · ipureintro; exact B.hup.read_unread _
        iexact H0
      isplitl [H1]
      · iexists _; isplitr; · ipureintro; exact B.hupp.read_unread _
        iexact H1
      isplitl [H2]
      · iexists _; isplitr; · ipureintro; exact B.hx.read_unread _
        iexact H2
      isplitl [H3]
      · iexists _; isplitr; · ipureintro; exact B.hw.read_unread _
        iexact H3
      isplitl [H4]
      · iexists _; isplitr; · ipureintro; exact B.hb.read_unread _
        iexact H4
      isplitl [H5]
      · iexists _; isplitr; · ipureintro; exact B.hwd.read_unread _
        iexact H5
      isplitl [H6]
      · iexists _; isplitr; · ipureintro; exact B.hg.read_unread _
        iexact H6
      iexists _; isplitr; · ipureintro; exact B.htarget.read_unread _
      iexact H7
    isplitl [H8]; · iexists _; iexact H8
    isplitl [H9]; · iexists _; iexact H9
    isplitl [H10]; · iexists _; iexact H10
    isplitl [H11]; · iexists _; iexact H11
    iexists _; iexists _; isplitr; swap; · iexact H12
    ipureintro; rfl

set_option maxHeartbeats 20000000 in
/-- A later point: the stores into the four results, the sheet as the point before left it. -/
def runNext (c : Dev nD) (i : grid0.Coords) (B : Bufs) (hc : ¬first i) (I : Ins F) (o : Vec F S40x2816 .f32) :
    Σ' (P1 : List (View.Piece (Elt F) S512x2816 .bf16)) (P2 : List (View.Piece (Elt F) S512x2816 .bf16)) (P3 : List (View.Piece (Elt F) S512x1024 .f32)),
      { P4 : List (View.Piece (Elt F) S40x2816 .f32) // ∀ (E : Set ℕ) (K : PUnit → sProp 𝕄),
        iprop(held c B I ∗ (∃ d, owns (c : Thread nD τ) B.gc fullShare d)
            ∗ (∃ d, owns (c : Thread nD τ) B.a fullShare d)
            ∗ (∃ d, owns (c : Thread nD τ) B.dx fullShare d)
            ∗ owns (c : Thread nD τ) B.sheet fullShare o
            ∗ spare c
            ∗ (iprop(held c B I ∗ (∃ f, B.gc.view.loc (c : Thread nD τ) ↦[B.gc.view.set]{fullShare} B.gc.view.writes (Elt F) f P1)
                ∗ (∃ f, B.a.view.loc (c : Thread nD τ) ↦[B.a.view.set]{fullShare} B.a.view.writes (Elt F) f P2)
                ∗ (∃ f, B.dx.view.loc (c : Thread nD τ) ↦[B.dx.view.set]{fullShare} B.dx.view.writes (Elt F) f P3)
                ∗ (B.sheet.view.loc (c : Thread nD τ) ↦[B.sheet.view.set]{fullShare} B.sheet.view.writes (Elt F) (B.hsheet.unread o) P4)
                ∗ spare c) -∗ K ⟨⟩))
          ⊢ wp frame (wpE (defs₀ (F := F)) Variants.none c none) E (B.body i) K } := by
  refine ⟨?_, ?_, ?_, ?_, fun E K => ?run⟩
  case run =>
    unfold Bufs.body held spare
    simp only [cc0_fwd_ffn_1_eq_skeleton]; unfold cc0_fwd_ffn_1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, ⟨%d8, %f8, -, H8⟩, ⟨%d9, %f9, -, H9⟩, ⟨%d10, %f10, -, H10⟩, ⟨%f11, %h11, H11⟩, ⟨%d12, %f12, -, H12⟩, Hk⟩
    obtain rfl := B.hup.eq_unread h0
    obtain rfl := B.hupp.eq_unread h1
    obtain rfl := B.hx.eq_unread h2
    obtain rfl := B.hw.eq_unread h3
    obtain rfl := B.hb.eq_unread h4
    obtain rfl := B.hwd.eq_unread h5
    obtain rfl := B.hg.eq_unread h6
    obtain rfl := B.htarget.eq_unread h7
    obtain rfl := B.hsheet.eq_unread h11
    sl_exec (disch := first | sl_exact hc)
    sl_step
    iapply Hk
    isplitl [H0 H1 H2 H3 H4 H5 H6 H7]
    · isplitl [H0]
      · iexists _; isplitr; · ipureintro; exact B.hup.read_unread _
        iexact H0
      isplitl [H1]
      · iexists _; isplitr; · ipureintro; exact B.hupp.read_unread _
        iexact H1
      isplitl [H2]
      · iexists _; isplitr; · ipureintro; exact B.hx.read_unread _
        iexact H2
      isplitl [H3]
      · iexists _; isplitr; · ipureintro; exact B.hw.read_unread _
        iexact H3
      isplitl [H4]
      · iexists _; isplitr; · ipureintro; exact B.hb.read_unread _
        iexact H4
      isplitl [H5]
      · iexists _; isplitr; · ipureintro; exact B.hwd.read_unread _
        iexact H5
      isplitl [H6]
      · iexists _; isplitr; · ipureintro; exact B.hg.read_unread _
        iexact H6
      iexists _; isplitr; · ipureintro; exact B.htarget.read_unread _
      iexact H7
    isplitl [H8]; · iexists _; iexact H8
    isplitl [H9]; · iexists _; iexact H9
    isplitl [H10]; · iexists _; iexact H10
    isplitl [H11]; · iexact H11
    iexists _; iexists _; isplitr; swap; · iexact H12
    ipureintro; rfl

end Cert.Kernel5Ideal.Body

end
-- ==== Proof.HeadFrame.lean ====
/- The whole run of the feed-forward that ends in the loss: what each point leaves, the launch, and the arguments left as
   they were. -/
module

public import proofs.«01_k».proof.Proof.HeadRun

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the launch -/

/-- The buffers as the launch finds them: the host's three operations done. -/
abbrev V (c : Dev nD) (b : Ref sig .tc) : Buf (Elt F) ((c : Thread nD τ).loc b) := StableHlo.after hostOps0 (fun b => m (c, b)) b

theorem hostOps_fresh : (hostOps0 : List (HloOp τ sig (Elt F))).Forall fun op => op.fresh = ∅ := by
  simp only [List.Forall]; repeat' constructor

set_option maxHeartbeats 4000000 in
theorem toLaunch (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps_fresh main_chain

/-- The argument buffers. -/
abbrev IsArg (b : Ref sig .tc) : Prop := b ∈ [main_arg0, main_arg1, main_arg2, main_arg3, main_arg4, main_arg5, main_arg6]

/-- A buffer that is no argument is none of them. -/
theorem not_arg {b r : Ref sig .tc} (hb : IsArg b) (hr : ¬IsArg r) : Proc.devRef (τ := τ) .tc b ≠ Proc.devRef .tc r :=
  StableHlo.devRef_ne_of_ne fun e => hr (e ▸ hb)

/-- An argument is as at the start. -/
theorem V_kept (c : Dev nD) (b : Ref sig .tc) (hb : IsArg b) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨not_arg hb (by decide), not_arg hb (by decide), not_arg hb (by decide)⟩))

/-! ## Each point -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The blocks read at point `t`. -/
def ins (c : Dev nD) (t : Fin cfg0.N) : Ins F where
  up := iblk m c 0 t
  upp := iblk m c 1 t
  x := iblk m c 2 t
  w := iblk m c 3 t
  b := iblk m c 4 t
  wd := iblk m c 5 t
  g := iblk m c 6 t
  target := iblk m c 7 t

/-- The buffers in use at point `t`. -/
def bufs (t : Fin cfg0.N) : Bufs where
  up := win0_0.stage (cfg0.slots t 0)
  hup := hstage0_0 ((cfg0.slots t 0).cast nbuf0_0)
  upp := win0_1.stage (cfg0.slots t 1)
  hupp := hstage0_1 ((cfg0.slots t 1).cast nbuf0_1)
  x := win0_2.stage (cfg0.slots t 2)
  hx := hstage0_2 ((cfg0.slots t 2).cast nbuf0_2)
  w := win0_3.stage (cfg0.slots t 3)
  hw := hstage0_3 ((cfg0.slots t 3).cast nbuf0_3)
  b := win0_4.stage (cfg0.slots t 4)
  hb := hstage0_4 ((cfg0.slots t 4).cast nbuf0_4)
  wd := win0_5.stage (cfg0.slots t 5)
  hwd := hstage0_5 ((cfg0.slots t 5).cast nbuf0_5)
  g := win0_6.stage (cfg0.slots t 6)
  hg := hstage0_6 ((cfg0.slots t 6).cast nbuf0_6)
  target := win0_7.stage (cfg0.slots t 7)
  htarget := hstage0_7 ((cfg0.slots t 7).cast nbuf0_7)
  gc := win0_8.stage (cfg0.slots t 8)
  hgc := hstage0_8 ((cfg0.slots t 8).cast nbuf0_8)
  a := win0_9.stage (cfg0.slots t 9)
  ha := hstage0_9 ((cfg0.slots t 9).cast nbuf0_9)
  dx := win0_10.stage (cfg0.slots t 10)
  hdx := hstage0_10 ((cfg0.slots t 10).cast nbuf0_10)
  sheet := win0_11.stage (cfg0.slots t 11)
  hsheet := hstage0_11 ((cfg0.slots t 11).cast nbuf0_11)

/-- What the four results hold. -/
structure Outs (F : FTy → Type) where
  gc : Vec F S512x2816 .bf16
  a : Vec F S512x2816 .bf16
  dx : Vec F S512x1024 .f32
  sheet : Vec F S40x2816 .f32

/-- The blocks a point covers, read back. -/
abbrev gcView : View sig .tc .vmem S512x2816 .bf16 := (Memref.whole cc0_stg8_0 : Memref sig .tc .vmem S512x2816 .bf16).view
abbrev aView : View sig .tc .vmem S512x2816 .bf16 := (Memref.whole cc0_stg9_0 : Memref sig .tc .vmem S512x2816 .bf16).view
abbrev dxView : View sig .tc .vmem S512x1024 .f32 := (Memref.whole cc0_stg10_0 : Memref sig .tc .vmem S512x1024 .f32).view
abbrev sheetView : View sig .tc .vmem S40x2816 .f32 := (Memref.whole cc0_stg11_0 : Memref sig .tc .vmem S40x2816 .f32).view

section Covers

variable (c : Dev nD) (i : grid0.Coords) (B : Bufs) (I : Ins F)

theorem gc_covered_first (hc : first i) (y : S512x2816.Idx) :
    ∃ pc ∈ (runFirst c i B hc I).1, y ∈ pc.1.set :=
  View.cover_of_tiledBy _ ![512, 256] (by sl_kernel_rfl) y
theorem a_covered_first (hc : first i) (y : S512x2816.Idx) :
    ∃ pc ∈ (runFirst c i B hc I).2.1, y ∈ pc.1.set :=
  View.cover_of_tiledBy _ ![512, 256] (by sl_kernel_rfl) y
theorem dx_covered_first (hc : first i) (y : S512x1024.Idx) :
    ∃ pc ∈ (runFirst c i B hc I).2.2.1, y ∈ pc.1.set :=
  View.cover_of_tiledL _ S512x1024.size (by sl_kernel_rfl) y
theorem sheet_covered_first (hc : first i) (y : S40x2816.Idx) :
    ∃ pc ∈ (runFirst c i B hc I).2.2.2.1, y ∈ pc.1.set :=
  View.cover_of_tiledBy _ ![1, 128] (by sl_kernel_rfl) y
theorem gc_covered_next (hc : ¬first i) (o : Vec F S40x2816 .f32) (y : S512x2816.Idx) :
    ∃ pc ∈ (runNext c i B hc I o).1, y ∈ pc.1.set :=
  View.cover_of_tiledBy _ ![512, 256] (by sl_kernel_rfl) y
theorem a_covered_next (hc : ¬first i) (o : Vec F S40x2816 .f32) (y : S512x2816.Idx) :
    ∃ pc ∈ (runNext c i B hc I o).2.1, y ∈ pc.1.set :=
  View.cover_of_tiledBy _ ![512, 256] (by sl_kernel_rfl) y
theorem dx_covered_next (hc : ¬first i) (o : Vec F S40x2816 .f32) (y : S512x1024.Idx) :
    ∃ pc ∈ (runNext c i B hc I o).2.2.1, y ∈ pc.1.set :=
  View.cover_of_tiledL _ S512x1024.size (by sl_kernel_rfl) y

end Covers

/-- What the results hold after the first point. -/
def afterFirst (c : Dev nD) (t : Fin cfg0.N) (h : first (grid0.coords t)) : Outs F where
  gc := gcView.read (Elt F) (gcView.writes (Elt F) gcView.junk (runFirst c (grid0.coords t) (bufs t) h (ins m c t)).1)
  a := aView.read (Elt F) (aView.writes (Elt F) aView.junk (runFirst c (grid0.coords t) (bufs t) h (ins m c t)).2.1)
  dx := dxView.read (Elt F) (dxView.writes (Elt F) dxView.junk (runFirst c (grid0.coords t) (bufs t) h (ins m c t)).2.2.1)
  sheet := sheetView.read (Elt F) (sheetView.writes (Elt F) sheetView.junk (runFirst c (grid0.coords t) (bufs t) h (ins m c t)).2.2.2.1)

/-- What they hold after a later point that found the sheet at `o`. -/
def afterNext (c : Dev nD) (t : Fin cfg0.N) (h : ¬first (grid0.coords t)) (o : Vec F S40x2816 .f32) : Outs F where
  gc := gcView.read (Elt F) (gcView.writes (Elt F) gcView.junk (runNext c (grid0.coords t) (bufs t) h (ins m c t) o).1)
  a := aView.read (Elt F) (aView.writes (Elt F) aView.junk (runNext c (grid0.coords t) (bufs t) h (ins m c t) o).2.1)
  dx := dxView.read (Elt F) (dxView.writes (Elt F) dxView.junk (runNext c (grid0.coords t) (bufs t) h (ins m c t) o).2.2.1)
  sheet := (bufs t).sheet.view.read (Elt F) ((bufs t).sheet.view.writes (Elt F) ((bufs t).hsheet.unread o)
    (runNext c (grid0.coords t) (bufs t) h (ins m c t) o).2.2.2.1)

/-- What the results hold after the `n`-th point. -/
def outs (c : Dev nD) : (n : ℕ) → n < cfg0.N → Outs F
  | 0, h => afterFirst m c ⟨0, h⟩ ((first_iff ⟨0, h⟩).mpr rfl)
  | n + 1, h => afterNext m c ⟨n + 1, h⟩ (fun e => Nat.succ_ne_zero n ((first_iff ⟨n + 1, h⟩).mp e)) (outs c n (Nat.lt_of_succ_lt h)).sheet

theorem pred_lt (t : Fin cfg0.N) : t.val - 1 < cfg0.N := Nat.lt_of_le_of_lt (Nat.sub_le _ _) t.isLt

theorem outs_first (c : Dev nD) (t : Fin cfg0.N) (h : t.val = 0) :
    outs m c t.val t.isLt = afterFirst m c t ((first_iff t).mpr h) := by
  obtain ⟨n, hn⟩ := t
  obtain rfl : n = 0 := h
  rw [outs]

theorem outs_next (c : Dev nD) (t : Fin cfg0.N) (h : ¬t.val = 0) :
    outs m c t.val t.isLt = afterNext m c t (fun e => h ((first_iff t).mp e)) (outs m c (t.val - 1) (pred_lt t)).sheet := by
  obtain ⟨n, hn⟩ := t
  cases n with
  | zero => exact absurd rfl h
  | succ n => rw [outs]; rfl

/-! ## The launch -/

/-- The blocks stay, the results are as the points leave them; an array two windows read is shared between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).gc
    | ⟨9, _⟩ => (outs m c t.val t.isLt).a
    | ⟨10, _⟩ => (outs m c t.val t.isLt).dx
    | ⟨11, _⟩ => (outs m c t.val t.isLt).sheet
    | ⟨n + 12, h⟩ => absurd h (Nat.not_lt.mpr (Nat.le_add_left 12 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_gc (c : Dev nD) (t : Fin cfg0.N) : (dats m 0 c).after 8 t = (outs m c t.val t.isLt).gc := by dsimp only [dats]
theorem after_a (c : Dev nD) (t : Fin cfg0.N) : (dats m 0 c).after 9 t = (outs m c t.val t.isLt).a := by dsimp only [dats]
theorem after_dx (c : Dev nD) (t : Fin cfg0.N) : (dats m 0 c).after 10 t = (outs m c t.val t.isLt).dx := by dsimp only [dats]
theorem after_sheet (c : Dev nD) (t : Fin cfg0.N) : (dats m 0 c).after 11 t = (outs m c t.val t.isLt).sheet := by dsimp only [dats]

set_option maxHeartbeats 4000000 in
/-- Every read window holds its block at every point. -/
theorem found (c : Dev nD) (t : Fin cfg0.N) :
    (∀ d, (dats m 0 c).before 0 t d = (ins m c t).up)
      ∧ (∀ d, (dats m 0 c).before 1 t d = (ins m c t).upp)
      ∧ (∀ d, (dats m 0 c).before 2 t d = (ins m c t).x)
      ∧ (∀ d, (dats m 0 c).before 3 t d = (ins m c t).w)
      ∧ (∀ d, (dats m 0 c).before 4 t d = (ins m c t).b)
      ∧ (∀ d, (dats m 0 c).before 5 t d = (ins m c t).wd)
      ∧ (∀ d, (dats m 0 c).before 6 t d = (ins m c t).g)
      ∧ (∀ d, (dats m 0 c).before 7 t d = (ins m c t).target) := by
  refine ⟨fun d => ?_, fun d => ?_, fun d => ?_, fun d => ?_, fun d => ?_, fun d => ?_, fun d => ?_, fun d => ?_⟩ <;>
    exact (Dat.before_in_eq_fetched _ _ rfl (fun _ => rfl) (fun _ _ _ => rfl)
      (fun t => by unfold Dat.blockOf; rw [A_eq]; rfl) t d).trans
        (by unfold Dat.fetched Dat.blockOf; rw [A_eq]; rfl)

/-- At a later point the sheet is what the point before left. -/
theorem found_sheet (c : Dev nD) (t : Fin cfg0.N) (h : ¬t.val = 0) (d) :
    (dats m 0 c).before 11 t d = (outs m c (t.val - 1) (pred_lt t)).sheet := by
  have ht : t.val < 16 := lt_of_lt_of_eq t.isLt N_0
  rw [Dat.before_out_kept _ 11 rfl t (by omega)
    (Bool.eq_false_iff.mpr fun e => by have := (flush0_11 _).mp e; dsimp only at this; omega) (fun _ => rfl) (fun _ _ => rfl)]
  dsimp only [dats]

/-- What point `t` starts from. -/
def starts (c : Dev nD) (t : Fin cfg0.N) : sProp 𝕄 :=
  iprop((dats m 0 c).Φ t.castSucc ∗ (dats m 0 c).owesAt () t.castSucc
    ∗ (∃ d, owns (c : Thread nD τ) (bufs t).up fullShare ((dats m 0 c).before 0 t d))
    ∗ (∃ d, owns (c : Thread nD τ) (bufs t).upp fullShare ((dats m 0 c).before 1 t d))
    ∗ (∃ d, owns (c : Thread nD τ) (bufs t).x fullShare ((dats m 0 c).before 2 t d))
    ∗ (∃ d, owns (c : Thread nD τ) (bufs t).w fullShare ((dats m 0 c).before 3 t d))
    ∗ (∃ d, owns (c : Thread nD τ) (bufs t).b fullShare ((dats m 0 c).before 4 t d))
    ∗ (∃ d, owns (c : Thread nD τ) (bufs t).wd fullShare ((dats m 0 c).before 5 t d))
    ∗ (∃ d, owns (c : Thread nD τ) (bufs t).g fullShare ((dats m 0 c).before 6 t d))
    ∗ (∃ d, owns (c : Thread nD τ) (bufs t).target fullShare ((dats m 0 c).before 7 t d))
    ∗ (∃ d, owns (c : Thread nD τ) (bufs t).gc fullShare ((dats m 0 c).before 8 t d))
    ∗ (∃ d, owns (c : Thread nD τ) (bufs t).a fullShare ((dats m 0 c).before 9 t d))
    ∗ (∃ d, owns (c : Thread nD τ) (bufs t).dx fullShare ((dats m 0 c).before 10 t d))
    ∗ (∃ d, owns (c : Thread nD τ) (bufs t).sheet fullShare ((dats m 0 c).before 11 t d)))

/-- What it ends with, the blocks together and the results at `r`. -/
def ends (c : Dev nD) (t : Fin cfg0.N) (r : Outs F) : sProp 𝕄 :=
  iprop((dats m 0 c).Φ t.succ ∗ (dats m 0 c).owesAt () t.succ ∗ held c (bufs t) (ins m c t)
    ∗ owns (c : Thread nD τ) (bufs t).gc fullShare r.gc
    ∗ owns (c : Thread nD τ) (bufs t).a fullShare r.a
    ∗ owns (c : Thread nD τ) (bufs t).dx fullShare r.dx
    ∗ owns (c : Thread nD τ) (bufs t).sheet fullShare r.sheet)

/-- The launch's invariant is the spare buffer and the generator's register. -/
theorem inv_eq (c : Dev nD) (n : Fin (cfg0.N + 1)) : (dats (F := F) m 0 c).Φ n = iprop(spare c ∗ ∃ r, prngReg c r) := by
  show Pipeline.ΦA spec0 c = _
  unfold Pipeline.ΦA spare
  rw [scopedRest0_eq]
  simp only [owns_whole]

set_option maxHeartbeats 4000000 in
theorem point (c : Dev nD) (t : Fin cfg0.N) : starts m c t
    ⊢ wp frame (wpE (defs₀ (F := F)) Variants.none c none) Set.univ ((bufs t).body (grid0.coords t)) fun _ => ends m c t (outs m c t.val t.isLt) := by
  obtain ⟨e0, e1, e2, e3, e4, e5, e6, e7⟩ := found m c t
  unfold starts ends
  simp only [e0, e1, e2, e3, e4, e5, e6, e7, inv_eq]
  rw [show (dats m 0 c).owesAt () t.succ = (dats m 0 c).owesAt () t.castSucc from rfl]
  by_cases h : t.val = 0
  · rw [outs_first m c t h]
    unfold afterFirst
    dsimp only
    iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runFirst c (grid0.coords t) (bufs t) ((first_iff t).mpr h) (ins m c t)).2.2.2.2 Set.univ _)
    isplitl [H0 H1 H2 H3 H4 H5 H6 H7]
    · unfold held
      iframe
    isplitl [H8]; · iexists _; iexact H8
    isplitl [H9]; · iexists _; iexact H9
    isplitl [H10]; · iexists _; iexact H10
    isplitl [H11]; · iexists _; iexact H11
    isplitl [HΦ]; · iexact HΦ
    iintro ⟨Hh, ⟨%f8, H8⟩, ⟨%f9, H9⟩, ⟨%f10, H10⟩, ⟨%f11, H11⟩, HΦ⟩
    isplitl [HΦ Hr]
    · isplitl [HΦ]; · iexact HΦ
      iexact Hr
    isplitl [Ho]; · iexact Ho
    isplitl [Hh]; · iexact Hh
    isplitl [H8]
    · unfold owns; iexists _; isplitr
      swap; · iexact H8
      ipureintro; exact View.read_writes_of_cover _ _ _ _ _ (gc_covered_first c _ _ _ _)
    isplitl [H9]
    · unfold owns; iexists _; isplitr
      swap; · iexact H9
      ipureintro; exact View.read_writes_of_cover _ _ _ _ _ (a_covered_first c _ _ _ _)
    isplitl [H10]
    · unfold owns; iexists _; isplitr
      swap; · iexact H10
      ipureintro; exact View.read_writes_of_cover _ _ _ _ _ (dx_covered_first c _ _ _ _)
    unfold owns; iexists _; isplitr
    swap; · iexact H11
    ipureintro; exact View.read_writes_of_cover _ _ _ _ _ (sheet_covered_first c _ _ _ _)
  · rw [outs_next m c t h]
    simp only [found_sheet m c t h]
    unfold afterNext
    dsimp only
    iintro ⟨⟨HΦ, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runNext c (grid0.coords t) (bufs t) (fun e => h ((first_iff t).mp e)) (ins m c t) _).2.2.2.2 Set.univ _)
    isplitl [H0 H1 H2 H3 H4 H5 H6 H7]
    · unfold held
      iframe
    isplitl [H8]; · iexists _; iexact H8
    isplitl [H9]; · iexists _; iexact H9
    isplitl [H10]; · iexists _; iexact H10
    isplitl [H11]; · iexact H11
    isplitl [HΦ]; · iexact HΦ
    iintro ⟨Hh, ⟨%f8, H8⟩, ⟨%f9, H9⟩, ⟨%f10, H10⟩, H11, HΦ⟩
    isplitl [HΦ Hr]
    · isplitl [HΦ]; · iexact HΦ
      iexact Hr
    isplitl [Ho]; · iexact Ho
    isplitl [Hh]; · iexact Hh
    isplitl [H8]
    · unfold owns; iexists _; isplitr
      swap; · iexact H8
      ipureintro; exact View.read_writes_of_cover _ _ _ _ _ (gc_covered_next c _ _ _ _ _)
    isplitl [H9]
    · unfold owns; iexists _; isplitr
      swap; · iexact H9
      ipureintro; exact View.read_writes_of_cover _ _ _ _ _ (a_covered_next c _ _ _ _ _)
    isplitl [H10]
    · unfold owns; iexists _; isplitr
      swap; · iexact H10
      ipureintro; exact View.read_writes_of_cover _ _ _ _ _ (dx_covered_next c _ _ _ _ _)
    unfold owns; iexists _; isplitr
    swap; · iexact H11
    ipureintro; rfl

theorem row_eq (t : Fin cfg0.N) : defs₀ (F := F) .tc cfg0.body (cfg0.bodyArgs t (cfg0.slots t)) = (bufs t).body (grid0.coords t) := by
  unfold defs₀; rw [Defs.onTc_tc]; rfl

theorem obligation (c : Dev nD) : BodyObligation (dats (F := F) m 0 c) (defs₀ (F := F)) Variants.none () Set.univ := fun t => by
  rw [bigSep_W0, bigSep_W0, row_eq]
  refine triple_restated (point m c t) rfl .rfl fun _ => ?_
  unfold ends held
  iintro ⟨HΦ, Ho, ⟨H0, H1, H2, H3, H4, H5, H6, H7⟩, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option backward.isDefEq.respectTransparency.types false in
/-- The launch runs to its end and leaves what the points leave. -/
theorem run : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := toLaunch m Variants.none) (hA := A_eq m) (hΦ := fun _ _ => rfl)

/-- An argument the launch only reads ends as it was. -/
theorem read_kept {r : _} (h : Pipeline.FramePost cfgs (dats m) 0 (V m) r) (c : Dev nD) (w : Fin cfg0.W) (hw : (cfg0.win w).isOut = false)
    (ha : IsArg (Pipeline.arrRef spec0 w)) :
    r.2.mem ((c.tc : Thread nD τ).loc (Pipeline.arrRef spec0 w)) = m ((c.tc : Thread nD τ).loc (Pipeline.arrRef spec0 w)) :=
  ((h c).1 w).trans (((dats m 0 c).arrAt_in w hw _).trans ((A_eq m c w).trans (V_kept m c _ ha)))

/-- An argument the launch does not touch ends as it was. -/
theorem rest_kept {r : _} (h : Pipeline.FramePost cfgs (dats m) 0 (V m) r) (c : Dev nD) (b : Ref sig .tc)
    (hb : b ∈ Pipeline.restRefs sig spec0) (ha : IsArg b) :
    r.2.mem ((c.tc : Thread nD τ).loc b) = m ((c.tc : Thread nD τ).loc b) :=
  ((h c).2 b hb).trans (V_kept m c b ha)

/-- The seven arguments end as they were. -/
def Kept (e : (ℓ : Loc nD τ sig) → Buf (Elt F) ℓ) : Prop := ∀ c : Dev nD,
    e ((c.tc : Thread nD τ).loc main_arg0) = m ((c.tc : Thread nD τ).loc main_arg0)
      ∧ e ((c.tc : Thread nD τ).loc main_arg1) = m ((c.tc : Thread nD τ).loc main_arg1)
      ∧ e ((c.tc : Thread nD τ).loc main_arg2) = m ((c.tc : Thread nD τ).loc main_arg2)
      ∧ e ((c.tc : Thread nD τ).loc main_arg3) = m ((c.tc : Thread nD τ).loc main_arg3)
      ∧ e ((c.tc : Thread nD τ).loc main_arg4) = m ((c.tc : Thread nD τ).loc main_arg4)
      ∧ e ((c.tc : Thread nD τ).loc main_arg5) = m ((c.tc : Thread nD τ).loc main_arg5)
      ∧ e ((c.tc : Thread nD τ).loc main_arg6) = m ((c.tc : Thread nD τ).loc main_arg6)

theorem run_kept : θ_run defs (onTc (τ := τ) (main (F := F))) ⟨m, fun _ => 0, ρ⟩
    (fun r => (Pipeline.FramePost cfgs (dats m) 0 (V m) r ∧ r.2.sem = fun _ => 0) ∧ Kept m r.2.mem) :=
  (θ_run defs _ _).mono (fun _ h => ⟨h, fun c =>
    ⟨read_kept m h.1 c 0 rfl (by decide),
      read_kept m h.1 c 2 rfl (by decide),
      read_kept m h.1 c 3 rfl (by decide),
      rest_kept m h.1 c main_arg3 (Pipeline.mem_restRefs_of main_arg3 (by decide) (by decide)) (by decide),
      rest_kept m h.1 c main_arg4 (Pipeline.mem_restRefs_of main_arg4 (by decide) (by decide)) (by decide),
      rest_kept m h.1 c main_arg5 (Pipeline.mem_restRefs_of main_arg5 (by decide) (by decide)) (by decide),
      read_kept m h.1 c 7 rfl (by decide)⟩⟩) (run m ρ)

/-- The launch leaves its seven arguments and every counter as they were. -/
theorem frame : θ_run defs (onTc (τ := τ) (main (F := F))) ⟨m, fun _ => 0, ρ⟩ (fun r => Kept m r.2.mem ∧ r.2.sem = fun _ => 0) :=
  (θ_run defs _ _).mono (fun _ h => ⟨h.2, h.1.2⟩) (run_kept m ρ)

end Cert.Kernel5Ideal.Body

end
-- ==== Proof.HeadPieces.lean ====
/- What one grid point of the feed-forward that ends in the loss stores: eleven chunks of 256 columns, and the loss over the
   sum they leave. -/
module

public import proofs.«01_k».proof.Proof.HeadFrame
public import proofs.«01_k».proof.Proof.Pieces

@[expose] public section

set_option maxRecDepth 65536

noncomputable section

namespace Cert.Kernel5Ideal.Body

open Cert.Kernel5Ideal Cert.Kernel5Ideal.Gen Idealize.ShloMosaic Idealize.ShloMosaic.TcCoe Idealize.SL.Sem

variable (n : BitVec 32) (I : Ins Ideal) (i : Fin 11)

/-- Chunk `i` of the gates, of the rows before them, of the values, of the taps, of their bias and of the downward weight. -/
abbrev Ins.gateAt : Vec Ideal S512x256 .bf16 :=
  View.ld I.up (Rect.unit ![0, 256 * i.val] ![512, 256] (Fin.forall_fin_two.mpr ⟨show 0 + 512 ≤ 512 by omega, show 256 * i.val + 256 ≤ 5632 by omega⟩))
abbrev Ins.valAt : Vec Ideal S512x256 .bf16 :=
  View.ld I.up (Rect.unit ![0, 2816 + 256 * i.val] ![512, 256] (Fin.forall_fin_two.mpr ⟨show 0 + 512 ≤ 512 by omega, show 2816 + 256 * i.val + 256 ≤ 5632 by omega⟩))
abbrev Ins.haloAt : Vec Ideal S16x256 .bf16 :=
  View.ld I.upp (Rect.unit ![0, 256 * i.val] ![16, 256] (Fin.forall_fin_two.mpr ⟨show 0 + 16 ≤ 16 by omega, show 256 * i.val + 256 ≤ 2816 by omega⟩))
abbrev Ins.wAt : Vec Ideal S3x256 .f32 :=
  View.ld I.w (Rect.unit ![0, 256 * i.val] ![3, 256] (Fin.forall_fin_two.mpr ⟨show 0 + 3 ≤ 3 by omega, show 256 * i.val + 256 ≤ 2816 by omega⟩))
abbrev Ins.bAt : Vec Ideal S1x256 .f32 :=
  View.ld I.b (Rect.unit ![0, 256 * i.val] ![1, 256] (Fin.forall_fin_two.mpr ⟨show 0 + 1 ≤ 1 by omega, show 256 * i.val + 256 ≤ 2816 by omega⟩))
abbrev Ins.wdAt : Vec Ideal S256x1024 .bf16 :=
  View.ld I.wd (Rect.unit ![256 * i.val, 0] ![256, 1024] (Fin.forall_fin_two.mpr ⟨show 256 * i.val + 256 ≤ 2816 by omega, show 0 + 1024 ≤ 1024 by omega⟩))

/-- The gates' three taps, at point `n`; the convolved gates and the gated values; the sum with the chunk's product added. -/
def Ins.tapsT : FVec Ideal S512x256 .bf16 := k0_pay14 n (I.gateAt i) (I.haloAt i) (I.wAt i)
def Ins.gcT : FVec Ideal S512x256 .bf16 := k0_pay15 (I.tapsT n i) (I.bAt i)
def Ins.aT : FVec Ideal S512x256 .bf16 := k0_pay16 (I.valAt i) (I.tapsT n i) (I.bAt i)
def Ins.sumT (prev : Vec Ideal S512x1024 .f32) : FVec Ideal S512x1024 .f32 :=
  k0_pay17 (I.valAt i) (I.tapsT n i) (I.bAt i) prev (I.wdAt i)

/-- Where chunk `i`'s blocks lie. -/
abbrev chunkRect : Rect S512x2816 :=
  Rect.unit ![0, 256 * i.val] ![512, 256] (Fin.forall_fin_two.mpr ⟨show 0 + 512 ≤ 512 by omega, show 256 * i.val + 256 ≤ 2816 by omega⟩)

/-- The chunks, the newest first. -/
abbrev chunksDown : List (Fin 11) := [10, 9, 8, 7, 6, 5, 4, 3, 2, 1, 0]

/-- The pieces of the convolved gates and of the gated values. -/
def Ins.gcPieces : List (View.Piece (Elt Ideal) S512x2816 .bf16) := chunksDown.map fun i => ⟨chunkRect i, I.gcT n i⟩
def Ins.aPieces : List (View.Piece (Elt Ideal) S512x2816 .bf16) := chunksDown.map fun i => ⟨chunkRect i, I.aT n i⟩

/-- The stores of the sum after some chunks, the newest first, each over what the ones before it left in the buffer `v`. -/
abbrev sumRect : Rect S512x1024 := Rect.unit ![0, 0] ![512, 1024] inb_S512x1024_S512x1024_0_0
abbrev sumRead {sig' : RefSig} {κ : Kind} {sp : Space} (v : View sig' κ sp S512x1024 .f32) (L : List (View.Piece (Elt Ideal) S512x1024 .f32)) :
    Vec Ideal S512x1024 .f32 := v.readCov L sumRect.toLoadRect
def Ins.sums {sig' : RefSig} {κ : Kind} {sp : Space} (v : View sig' κ sp S512x1024 .f32) : List (Fin 11) → List (View.Piece (Elt Ideal) S512x1024 .f32)
  | [] => [⟨sumRect, k0_pay2 I.x⟩]
  | i :: l => ⟨sumRect, I.sumT n i (sumRead v (Ins.sums v l))⟩ :: Ins.sums v l

/-- A load of the whole sum reads what was stored last. -/
theorem sum_read {sig' : RefSig} {κ : Kind} {sp : Space} (v : View sig' κ sp S512x1024 .f32) (w : Vec Ideal S512x1024 .f32)
    (L : List (View.Piece (Elt Ideal) S512x1024 .f32)) : sumRead v ((⟨sumRect, w⟩ : View.Piece (Elt Ideal) S512x1024 .f32) :: L) = w :=
  (View.readCov_fill _ _ w L sumRect (Fin.forall_fin_two.mpr ⟨rfl, rfl⟩)).trans
    (View.ld_unit_zero (S := S512x1024) (funext (Fin.forall_fin_two.mpr ⟨rfl, rfl⟩)) _ w)

/-- The sum of all chunks, and the loss's parts over it: the rows' gradient, the gain's gradient, the rows' losses added. -/
def Ins.total : Vec Ideal S512x1024 .f32 :=
  sumRead (Memref.whole cc0_scratch0 : Memref sig .tc .vmem S512x1024 .f32).view (I.sums n (Memref.whole cc0_scratch0 : Memref sig .tc .vmem S512x1024 .f32).view chunksDown)
def Ins.dxT : FVec Ideal S512x1024 .f32 :=
  k0_pay96 (k0_pay90 I.g) (k0_pay91 (I.total n)) (k0_pay92 (I.total n)) (k0_pay93 (I.total n) I.g I.target)
def Ins.gainT (prev : Vec Ideal S1x1024 .f32) : FVec Ideal S1x1024 .f32 :=
  k0_pay1 (k0_pay97 (k0_pay92 (I.total n)) (k0_pay93 (I.total n) I.g I.target)) prev
def Ins.lossT (prev : Vec Ideal S1x128 .f32) : FVec Ideal S1x128 .f32 := k0_pay98 (k0_pay94 (I.total n) I.g I.target) prev

variable (m : (ℓ : Loc nD τ sig) → Buf (Elt Ideal) ℓ) (c : Dev nD)

/-- The point's number. -/
abbrev num (t : Fin cfg0.N) : BitVec 32 := BitVec.ofNat 32 (grid0.coords t 0).val

theorem gc_pieces (t : Fin cfg0.N) : (outs m c t.val t.isLt).gc = View.canon ((ins m c t).gcPieces (num t)) := by
  by_cases h : t.val = 0
  · rw [outs_first m c t h]
    unfold afterFirst
    dsimp only
    frame_out
    sl_kernel_rfl
  · rw [outs_next m c t h]
    unfold afterNext
    dsimp only
    frame_out
    sl_kernel_rfl

theorem a_pieces (t : Fin cfg0.N) : (outs m c t.val t.isLt).a = View.canon ((ins m c t).aPieces (num t)) := by
  by_cases h : t.val = 0
  · rw [outs_first m c t h]
    unfold afterFirst
    dsimp only
    frame_out
    sl_kernel_rfl
  · rw [outs_next m c t h]
    unfold afterNext
    dsimp only
    frame_out
    sl_kernel_rfl

theorem dx_eq (t : Fin cfg0.N) : (outs m c t.val t.isLt).dx = (ins m c t).dxT (num t) := by
  by_cases h : t.val = 0
  · rw [outs_first m c t h]
    unfold afterFirst
    dsimp only
    frame_out
    sl_kernel_rfl
  · rw [outs_next m c t h]
    unfold afterNext
    dsimp only
    frame_out
    sl_kernel_rfl

/-- The sheet's pieces from the first point on, the newest first, over what the two rows held. -/
abbrev gainRect : Rect S40x2816 := Rect.unit ![32, 0] ![1, 1024] inb_S40x2816_S1x1024_32_0
abbrev lossRect : Rect S40x2816 := Rect.unit ![33, 0] ![1, 128] inb_S40x2816_S1x128_33_0

/-- What the first point leaves before its two rows: zeros; then the losses' row. -/
def cleared : List (View.Piece (Elt Ideal) S40x2816 .f32) :=
  [⟨Rect.unit ![0, 0] S40x2816.size inb_S40x2816_S40x2816_0_0, k0_pay89 (F := Ideal)⟩]
def withLoss (t : Fin cfg0.N) : List (View.Piece (Elt Ideal) S40x2816 .f32) :=
  ⟨lossRect, (ins m c t).lossT (num t) ((bufs t).sheet.view.readCov cleared lossRect.toLoadRect)⟩ :: cleared

theorem sheet_first (t : Fin cfg0.N) (h : t.val = 0) : (outs m c t.val t.isLt).sheet = View.canon (
    (⟨gainRect, (ins m c t).gainT (num t) ((bufs t).sheet.view.readCov (withLoss m c t) gainRect.toLoadRect)⟩
      : View.Piece (Elt Ideal) S40x2816 .f32) :: withLoss m c t) := by
  rw [outs_first m c t h]
  unfold afterFirst
  dsimp only
  frame_out
  sl_kernel_rfl

theorem sheet_next (t : Fin cfg0.N) (h : ¬t.val = 0) : (outs m c t.val t.isLt).sheet
    = (bufs t).sheet.view.read (Elt Ideal) ((bufs t).sheet.view.writes (Elt Ideal)
        ((bufs t).hsheet.unread (outs m c (t.val - 1) (pred_lt t)).sheet)
        [⟨gainRect, (ins m c t).gainT (num t) (View.ld (outs m c (t.val - 1) (pred_lt t)).sheet gainRect)⟩,
          ⟨lossRect, (ins m c t).lossT (num t) (View.ld (outs m c (t.val - 1) (pred_lt t)).sheet lossRect)⟩]) := by
  rw [outs_next m c t h]
  unfold afterNext
  dsimp only
  frame_out
  sl_kernel_rfl

end Cert.Kernel5Ideal.Body

end
-- ==== Proof.HeadBlock.lean ====
/- One grid point's blocks of the feed-forward that ends in the loss, at an index, as functions of the arguments. -/
module

public import proofs.«01_k».proof.Proof.HeadPieces
public import proofs.«01_k».proof.Proof.FfnArray
public import proofs.«01_k».proof.Proof.Norm
public import proofs.«01_k».proof.Proof.Patch

@[expose] public section

set_option maxRecDepth 16384

noncomputable section

namespace Cert.Kernel5Ideal.Body

open Cert.Kernel5Ideal Cert.Kernel5Ideal.Gen Idealize.ShloMosaic Idealize.ShloMosaic.TcCoe Idealize.SL.Sem
open Cert.Kernel2Ideal.Body (lo hi col sg cmp_row)

/-- The arguments: the projected rows, the rows before them, the taps, their bias, the downward weight, the final norm's
    gain, the targets. -/
structure Args where
  up : S8192x5632.Idx → EReal
  x : S8192x1024.Idx → EReal
  w : S3x2816.Idx → EReal
  b : S2816.Idx → EReal
  wd : S2816x1024.Idx → EReal
  g : S1024.Idx → EReal
  target : S8192x1024.Idx → EReal

namespace Args

variable (A : Args) (r : Fin 8192)

/-- The gates after their causal convolution, as the gradient's formulas have them. -/
def gc (j : Fin 2816) : EReal :=
  Cert.Kernel2Ideal.Body.Args.gc ⟨A.x, A.up, A.w, A.b, A.wd, fun _ => 0⟩ r j
/-- The gated values, and the rows with their product added. -/
def a (j : Fin 2816) : EReal := A.gc r j * sg (A.gc r j) * A.up (ix2 r (hi j))
def y (k : Fin 1024) : EReal := A.x (ix2 r k) + ∑ j : Fin 2816, A.a r j * A.wd (ix2 j k)
/-- The normalised row, its distance from the target, and the loss's gradient before the gain. -/
def xh (k : Fin 1024) : EReal := A.y r k * Norm.scale (A.y r)
def err (k : Fin 1024) : EReal := A.xh r k * A.g (ix1 k) - A.target (ix2 r k)
def dy (k : Fin 1024) : EReal := A.err r k * Ideal.ofBits .f32 0x3A800000#32
/-- The row's gradient, its part of the gain's gradient, and its loss. -/
def dx (k : Fin 1024) : EReal := Norm.backward (A.y r) (A.dy r) (fun k => A.g (ix1 k)) 0 k
def gain (k : Fin 1024) : EReal := A.dy r k * A.xh r k
def loss : EReal := (∑ k, A.err r k * A.err r k) * Ideal.ofBits .f32 0x3A000000#32

end Args

variable (m : (ℓ : Loc nD τ sig) → Buf (Elt Ideal) ℓ) (c : Dev nD)

/-- Core `c`'s arguments in the memory. -/
def args : Args where
  up := m ((c.tc : Thread nD τ).loc main_arg0)
  x := m ((c.tc : Thread nD τ).loc main_arg1)
  w := m ((c.tc : Thread nD τ).loc main_arg2)
  b := m ((c.tc : Thread nD τ).loc main_arg3)
  wd := m ((c.tc : Thread nD τ).loc main_arg4)
  g := m ((c.tc : Thread nD τ).loc main_arg5)
  target := m ((c.tc : Thread nD τ).loc main_arg6)

/-- The block of every window at every point. -/
theorem idx0 : ∀ t : Fin cfg0.N, win0_0.index t = ![t.val, 0] := (by decide +kernel : ∀ t : Fin grid0.N, win0_0.index t = ![t.val, 0])
theorem idx1 : ∀ t : Fin cfg0.N, win0_1.index t = ![32 * t.val - 1, 0] :=
  (by decide +kernel : ∀ t : Fin grid0.N, win0_1.index t = ![32 * t.val - 1, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])

theorem later_iff : ∀ t : Fin cfg0.N, Scalar.cmpi .sgt (num t) 0#32 = (1 : BitVec 1) ↔ ¬t.val = 0 :=
  (by decide +kernel : ∀ t : Fin grid0.N, Scalar.cmpi CmpIPredicate.sgt (BitVec.ofNat 32 ↑(grid0.coords t 0)) 0#32 = (1 : BitVec 1) ↔ ¬t.val = 0)

variable (t : Fin cfg0.N) (i : Fin 11)

theorem row_lt (p : Fin 512) : t.val * 512 + p.val < 8192 := by
  have h : t.val < 16 := t.isLt
  omega
/-- The rows of the block, and the rows before it. -/
abbrev rowOf (p : Fin 512) : Fin 8192 := ⟨t.val * 512 + p.val, row_lt t p⟩
theorem prev_lt (p : Fin 16) : (32 * t.val - 1) * 16 + p.val < 8192 := by
  have h : t.val < 16 := t.isLt
  omega
abbrev prevOf (p : Fin 16) : Fin 8192 := ⟨(32 * t.val - 1) * 16 + p.val, prev_lt t p⟩

theorem up_at (p : Fin 512) (k : Fin 5632) : (ins m c t).up (ix2 p k) = (args m c).up (ix2 (rowOf t p) k) := by
  show iblk m c 0 t (ix2 p k) = m ((c.tc : Thread nD τ).loc main_arg0) (ix2 (rowOf t p) k)
  blk_point [iblk, V, idx0 t]
theorem upp_at (p : Fin 16) (k : Fin 2816) : (ins m c t).upp (ix2 p k) = (args m c).up (ix2 (prevOf t p) (lo k)) := by
  show iblk m c 1 t (ix2 p k) = m ((c.tc : Thread nD τ).loc main_arg0) (ix2 (prevOf t p) (lo k))
  blk_point [iblk, V, idx1 t]
theorem x_at (p : Fin 512) (k : Fin 1024) : (ins m c t).x (ix2 p k) = (args m c).x (ix2 (rowOf t p) k) := by
  show iblk m c 2 t (ix2 p k) = m ((c.tc : Thread nD τ).loc main_arg1) (ix2 (rowOf t p) k)
  blk_point [iblk, V, idx2 t]
theorem w_at (p : Fin 3) (k : Fin 2816) : (ins m c t).w (ix2 p k) = (args m c).w (ix2 p k) := by
  show iblk m c 3 t (ix2 p k) = m ((c.tc : Thread nD τ).loc main_arg2) (ix2 p k)
  blk_point [iblk, V, idx3 t]
theorem b_at (k : Fin 2816) : (ins m c t).b (ix2 0 k) = (args m c).b (ix1 k) := by
  show iblk m c 4 t (ix2 0 k) = m ((c.tc : Thread nD τ).loc main_arg3) (ix1 k)
  blk_point [iblk, V, idx4 t]
theorem wd_at (p : Fin 2816) (k : Fin 1024) : (ins m c t).wd (ix2 p k) = (args m c).wd (ix2 p k) := by
  show iblk m c 5 t (ix2 p k) = m ((c.tc : Thread nD τ).loc main_arg4) (ix2 p k)
  blk_point [iblk, V, idx5 t]
theorem g_at (k : Fin 1024) : (ins m c t).g (ix2 0 k) = (args m c).g (ix1 k) := by
  show iblk m c 6 t (ix2 0 k) = m ((c.tc : Thread nD τ).loc main_arg5) (ix1 k)
  blk_point [iblk, V, idx6 t]
theorem target_at (p : Fin 512) (k : Fin 1024) : (ins m c t).target (ix2 p k) = (args m c).target (ix2 (rowOf t p) k) := by
  show iblk m c 7 t (ix2 p k) = m ((c.tc : Thread nD τ).loc main_arg6) (ix2 (rowOf t p) k)
  blk_point [iblk, V, idx7 t]

/-- The tiles hold the arguments' blocks at point `t`. -/
structure Reads (I : Ins Ideal) (A : Args) (t : Fin cfg0.N) : Prop where
  up : ∀ (p : Fin 512) (k : Fin 5632), I.up (ix2 p k) = A.up (ix2 (rowOf t p) k)
  upp : ∀ (p : Fin 16) (k : Fin 2816), I.upp (ix2 p k) = A.up (ix2 (prevOf t p) (lo k))
  x : ∀ (p : Fin 512) (k : Fin 1024), I.x (ix2 p k) = A.x (ix2 (rowOf t p) k)
  w : ∀ (p : Fin 3) (k : Fin 2816), I.w (ix2 p k) = A.w (ix2 p k)
  b : ∀ k : Fin 2816, I.b (ix2 0 k) = A.b (ix1 k)
  wd : ∀ (p : Fin 2816) (k : Fin 1024), I.wd (ix2 p k) = A.wd (ix2 p k)

theorem reads : Reads (ins m c t) (args m c) t := ⟨up_at m c t, upp_at m c t, x_at m c t, w_at m c t, b_at m c t, wd_at m c t⟩

/-- The same row, its number written in two ways. -/
theorem same_row (A : Args) (j : Fin 5632) {n n' : ℕ} (h : n < 8192) (h' : n' < 8192) (e : n = n') :
    A.up (ix2 ⟨n, h⟩ j) = A.up (ix2 ⟨n', h'⟩ j) := by
  subst e; rfl

section

variable {t : Fin cfg0.N} {I : Ins Ideal} {A : Args} (H : Reads I A t) (i : Fin 11)
include H

theorem gateAt_at (p : Fin 512) (q : Fin 256) : I.gateAt i (ix2 p q) = A.up (ix2 (rowOf t p) (lo (col i q))) :=
  (congrArg I.up (Sums.ext2 (by simp [Rect.idx_unit_val]) (by simp [Rect.idx_unit_val]))).trans (H.up p (lo (col i q)))
theorem valAt_at (p : Fin 512) (q : Fin 256) : I.valAt i (ix2 p q) = A.up (ix2 (rowOf t p) (hi (col i q))) :=
  (congrArg I.up (Sums.ext2 (by simp [Rect.idx_unit_val]) (by simp [Rect.idx_unit_val]; omega))).trans (H.up p (hi (col i q)))
theorem haloAt_at (p : Fin 16) (q : Fin 256) : I.haloAt i (ix2 p q) = A.up (ix2 (prevOf t p) (lo (col i q))) :=
  (congrArg I.upp (Sums.ext2 (by simp [Rect.idx_unit_val]) (by simp [Rect.idx_unit_val]))).trans (H.upp p (col i q))
theorem wAt_at (p : Fin 3) (q : Fin 256) : I.wAt i (ix2 p q) = A.w (ix2 p (col i q)) :=
  (congrArg I.w (Sums.ext2 (by simp [Rect.idx_unit_val]) (by simp [Rect.idx_unit_val]))).trans (H.w p (col i q))
theorem bAt_at (q : Fin 256) : I.bAt i (ix2 0 q) = A.b (ix1 (col i q)) :=
  (congrArg I.b (Sums.ext2 (by simp [Rect.idx_unit_val]) (by simp [Rect.idx_unit_val]))).trans (H.b (col i q))
theorem wdAt_at (q : Fin 256) (k : Fin 1024) : I.wdAt i (ix2 q k) = A.wd (ix2 (col i q) k) :=
  (congrArg I.wd (Sums.ext2 (by simp [Rect.idx_unit_val]) (by simp [Rect.idx_unit_val]))).trans (H.wd (col i q) k)

theorem gcT_at (p : Fin 512) (q : Fin 256) : I.gcT (num t) i (ix2 p q) = A.gc (rowOf t p) (col i q) := by
  have hp := p.isLt
  have ht : t.val < 16 := t.isLt
  pointwise [Ins.gcT, k0_pay15, Ins.tapsT, k0_pay14]
  simp only [gateAt_at H, haloAt_at H, wAt_at H, bAt_at H, Scalar.select, later_iff]
  unfold Args.gc Cert.Kernel2Ideal.Body.Args.gc
  dsimp only
  refine congrArg₂ (· + ·) (congrArg₂ (· + ·) (congrArg₂ (· + ·) (congrArg₂ (· * ·) rfl ?_) (congrArg₂ (· * ·) rfl ?_)) rfl) rfl
  · by_cases h : p.val < 16
    · rw [dif_pos h]
      by_cases h1 : p.val = 1
      · rw [if_pos ((cmp_row _ 1 h (by omega)).mpr h1)]
        by_cases h0 : t.val = 0
        · rw [if_neg (not_not.mpr h0), dif_pos (by omega)]
        · rw [if_pos h0, dif_neg (by omega)]
          exact same_row _ _ _ _ (by show (32 * t.val - 1) * 16 + 15 = _; omega)
      rw [if_neg fun e => h1 ((cmp_row _ 1 h (by omega)).mp e)]
      by_cases h2 : p.val = 0
      · rw [if_pos ((cmp_row _ 0 h (by omega)).mpr h2)]
        by_cases h0 : t.val = 0
        · rw [if_neg (not_not.mpr h0), dif_pos (by omega)]
        · rw [if_pos h0, dif_neg (by omega)]
          exact same_row _ _ _ _ (by show (32 * t.val - 1) * 16 + 14 = _; omega)
      rw [if_neg fun e => h2 ((cmp_row _ 0 h (by omega)).mp e), dif_neg (by omega)]
      exact same_row _ _ _ _ (by show t.val * 512 + (p.val + 512 - 2) % 512 = _; omega)
    · rw [dif_neg h, dif_neg (by omega)]
      exact same_row _ _ _ _ (by show t.val * 512 + (16 + (p.val - 16) + 512 - 2) % 512 = _; omega)
  · by_cases h : p.val < 16
    · rw [dif_pos h]
      by_cases h2 : p.val = 0
      · rw [if_pos ((cmp_row _ 0 h (by omega)).mpr h2)]
        by_cases h0 : t.val = 0
        · rw [if_neg (not_not.mpr h0), dif_pos (by omega)]
        · rw [if_pos h0, dif_neg (by omega)]
          exact same_row _ _ _ _ (by show (32 * t.val - 1) * 16 + 15 = _; omega)
      rw [if_neg fun e => h2 ((cmp_row _ 0 h (by omega)).mp e), dif_neg (by omega)]
      exact same_row _ _ _ _ (by show t.val * 512 + (p.val + 512 - 1) % 512 = _; omega)
    · rw [dif_neg h, dif_neg (by omega)]
      exact same_row _ _ _ _ (by show t.val * 512 + (16 + (p.val - 16) + 512 - 1) % 512 = _; omega)

theorem aT_at (p : Fin 512) (q : Fin 256) : I.aT (num t) i (ix2 p q) = A.a (rowOf t p) (col i q) := by
  have h := gcT_at H i p q
  unfold Ins.gcT at h
  pointwise [Ins.aT, k0_pay16]
  simp only [h, valAt_at H, Args.a, sg]

theorem sumT_at (prev : Vec Ideal S512x1024 .f32) (p : Fin 512) (k : Fin 1024) : I.sumT (num t) i prev (ix2 p k)
    = prev (ix2 p k) + ∑ q : Fin 256, A.a (rowOf t p) (col i q) * A.wd (ix2 (col i q) k) := by
  have h := fun q => aT_at H i p q
  unfold Ins.aT at h
  pointwise [Ins.sumT, k0_pay17]
  simp only [h, wdAt_at H]

/-- The stores of the sum, chunk by chunk. -/
theorem sums_at {sig' : RefSig} {κ : Kind} {sp : Space} (v : View sig' κ sp S512x1024 .f32) (p : Fin 512) (k : Fin 1024) : ∀ l : List (Fin 11), (sumRead v (I.sums (num t) v l) (ix2 p k) : EReal)
    = A.x (ix2 (rowOf t p) k)
      + (l.map fun i => ∑ q : Fin 256, A.a (rowOf t p) (col i q) * A.wd (ix2 (col i q) k)).sum
  | [] => by
    rw [Ins.sums, sum_read, List.map_nil, List.sum_nil, add_zero]
    pointwise [k0_pay2]
    exact H.x p k
  | i :: l => by
    rw [Ins.sums, sum_read, sumT_at H, sums_at v p k l, List.map_cons, List.sum_cons, add_assoc, add_comm (List.sum _)]

theorem whole_at {sig' : RefSig} {κ : Kind} {sp : Space} (v : View sig' κ sp S512x1024 .f32) (p : Fin 512) (k : Fin 1024) :
    sumRead v (I.sums (num t) v chunksDown) (ix2 p k) = A.y (rowOf t p) k := by
  unfold Args.y
  refine (sums_at H v p k chunksDown).trans (congrArg _ ?_)
  rw [← List.sum_toFinset _ (by decide : chunksDown.Nodup), show chunksDown.toFinset = Finset.univ by decide]
  refine Eq.trans ?_ (Fin.sum_mul_add_fin 11 256 fun j : Fin 2816 => A.a (rowOf t p) j * A.wd (ix2 j k))
  refine Finset.sum_congr rfl fun i _ => Finset.sum_congr rfl fun q _ => ?_
  exact congrArg (fun j => A.a (rowOf t p) j * A.wd (ix2 j k)) (Fin.ext (by show 256 * i.val + q.val = i.val * 256 + q.val; omega))

end

theorem total_at (p : Fin 512) (k : Fin 1024) : (ins m c t).total (num t) (ix2 p k) = (args m c).y (rowOf t p) k :=
  whole_at (reads m c t) _ p k

theorem dxT_at (p : Fin 512) (k : Fin 1024) : (ins m c t).dxT (num t) (ix2 p k) = (args m c).dx (rowOf t p) k := by
  pointwise [Ins.dxT, k0_pay96, k0_pay95, k0_pay93, k0_pay92, k0_pay91, k0_pay90]
  simp only [total_at, g_at, target_at, Args.dx, Norm.backward, zero_add, Args.dy, Args.err, Args.xh, Norm.scale, Norm.meanSq]

theorem gainT_at (prev : Vec Ideal S1x1024 .f32) (k : Fin 1024) : (ins m c t).gainT (num t) prev (ix2 0 k)
    = prev (ix2 0 k) + ∑ p : Fin 512, (args m c).gain (rowOf t p) k := by
  pointwise [Ins.gainT, k0_pay1, k0_pay97, k0_pay95, k0_pay93, k0_pay92, k0_pay91, k0_pay90]
  simp only [total_at, g_at, target_at, Args.gain, Args.dy, Args.err, Args.xh, Norm.scale, Norm.meanSq]

theorem lossT_at (prev : Vec Ideal S1x128 .f32) (k : Fin 128) : (ins m c t).lossT (num t) prev (ix2 0 k)
    = prev (ix2 0 k) + ∑ p : Fin 512, (args m c).loss (rowOf t p) := by
  pointwise [Ins.lossT, k0_pay98, k0_pay94, k0_pay93, k0_pay92, k0_pay91, k0_pay90]
  simp only [total_at, g_at, target_at, Args.loss, Args.dy, Args.err, Args.xh, Norm.scale, Norm.meanSq]

/-! ## The blocks written -/

theorem mem_chunks (i : Fin 11) : i ∈ chunksDown := by revert i; decide

theorem mem_chunk (i : Fin 11) (y : S512x2816.Idx) (h : (y 1).val / 256 = i.val) : y ∈ (chunkRect i).set := by
  have h0 : (y 0).val < 512 := (y 0).isLt
  refine Rect.mem_set_unit.mpr (Fin.forall_fin_two.mpr ?_)
  show (0 ≤ (y 0).val ∧ (y 0).val < 0 + 512) ∧ (256 * i.val ≤ (y 1).val ∧ (y 1).val < 256 * i.val + 256)
  omega

/-- A buffer of chunks, each a formula's columns, holds the formula. -/
theorem canon_chunks (T : Fin 11 → FVec Ideal S512x256 .bf16) (f : Fin 8192 → Fin 2816 → EReal)
    (hT : ∀ i p q, T i (ix2 p q) = f (rowOf t p) (col i q)) (y : S512x2816.Idx) :
    (View.canon (Val := Elt Ideal) (e := .bf16) (chunksDown.map fun i => ⟨chunkRect i, T i⟩) y : EReal) = f (rowOf t (y 0)) (y 1) := by
  refine View.canon_apply_of_pieces (Val := Elt Ideal) (e := .bf16) (fun y => f (rowOf t (y 0)) (y 1)) _ ?_ y ?_
  · intro pc hp
    obtain ⟨i, -, rfl⟩ := List.mem_map.mp hp
    intro x
    obtain ⟨p, q, rfl⟩ : ∃ (p : Fin 512) (q : Fin 256), x = ix2 p q := ⟨x 0, x 1, eq_ix2 x⟩
    have e : (chunkRect i).emb (ix2 p q) = ix2 p (col i q) :=
      Sums.ext2 (by show 0 + 1 * p.val = p.val; omega) (by show 256 * i.val + 1 * q.val = 256 * i.val + q.val; omega)
    rw [e]
    exact hT i p q
  · have h1 : (y 1).val < 2816 := (y 1).isLt
    exact ⟨⟨chunkRect ⟨(y 1).val / 256, by omega⟩, T _⟩, List.mem_map.mpr ⟨_, mem_chunks _, rfl⟩, mem_chunk _ y rfl⟩

theorem gc_at (y : S512x2816.Idx) : (outs m c t.val t.isLt).gc y = (args m c).gc (rowOf t (y 0)) (y 1) :=
  (congrFun (gc_pieces m c t) y).trans (canon_chunks t _ _ (gcT_at (reads m c t)) y)
theorem a_at (y : S512x2816.Idx) : (outs m c t.val t.isLt).a y = (args m c).a (rowOf t (y 0)) (y 1) :=
  (congrFun (a_pieces m c t) y).trans (canon_chunks t _ _ (aT_at (reads m c t)) y)
theorem dx_at (y : S512x1024.Idx) : (outs m c t.val t.isLt).dx y = (args m c).dx (rowOf t (y 0)) (y 1) :=
  (congrFun (dx_eq m c t) y).trans ((congrArg _ (eq_ix2 y)).trans (dxT_at m c t (y 0) (y 1)))

/-- What point `t` adds to the sheet: the gain's gradient in row 32, the loss in row 33. -/
def part (y : S40x2816.Idx) : EReal :=
  if h : (y 0).val = 32 ∧ (y 1).val < 1024 then ∑ p : Fin 512, (args m c).gain (rowOf t p) ⟨(y 1).val, h.2⟩
  else if (y 0).val = 33 ∧ (y 1).val < 128 then ∑ p : Fin 512, (args m c).loss (rowOf t p) else 0

theorem part_gain (y : S40x2816.Idx) (h : (y 0).val = 32 ∧ (y 1).val < 1024) :
    part m c t y = ∑ p : Fin 512, (args m c).gain (rowOf t p) ⟨(y 1).val, h.2⟩ := by
  unfold part; exact dif_pos h
theorem part_loss (y : S40x2816.Idx) (h : (y 0).val = 33 ∧ (y 1).val < 128) : part m c t y = ∑ p : Fin 512, (args m c).loss (rowOf t p) := by
  unfold part; exact (dif_neg (by omega)).trans (if_pos h)
theorem part_out (y : S40x2816.Idx) (h : ¬((y 0).val = 32 ∧ (y 1).val < 1024)) (h' : ¬((y 0).val = 33 ∧ (y 1).val < 128)) :
    part m c t y = 0 := by
  unfold part; exact (dif_neg h).trans (if_neg h')

/-- The two rows put over a sheet add the point's part. -/
theorem put_rows (s : S40x2816.Idx → EReal) (v : S1x1024.Idx → EReal) (w : S1x128.Idx → EReal)
    (hv : ∀ k : Fin 1024, v (ix2 0 k) = s (ix2 32 ⟨k.val, by omega⟩)) (hw : ∀ k : Fin 128, w (ix2 0 k) = s (ix2 33 ⟨k.val, by omega⟩)) (y : S40x2816.Idx) :
    Patch.put 32 0 ((ins m c t).gainT (num t) v) (Patch.put 33 0 ((ins m c t).lossT (num t) w) s) y = s y + part m c t y := by
  by_cases h : (y 0).val = 32 ∧ (y 1).val < 1024
  · rw [Patch.put_in _ _ y 0 ⟨(y 1).val, h.2⟩ h.1 (Nat.zero_add _).symm, gainT_at, hv, part_gain m c t y h]
    exact congrArg (s · + _) (Sums.ext2 h.1.symm rfl)
  rw [Patch.put_out _ _ y (by omega)]
  by_cases h' : (y 0).val = 33 ∧ (y 1).val < 128
  · rw [Patch.put_in _ _ y 0 ⟨(y 1).val, h'.2⟩ h'.1 (Nat.zero_add _).symm, lossT_at, hw, part_loss m c t y h']
    exact congrArg (s · + _) (Sums.ext2 h'.1.symm rfl)
  rw [Patch.put_out _ _ y (by omega), part_out m c t y h h', add_zero]

/-- A row of a sheet, cut out. -/
theorem cut_row {o n : ℕ} (s : S40x2816.Idx → EReal) (h0 : o + 1 ≤ 40) (h1 : 0 + n ≤ 2816) (k : Fin n) :
    Patch.cut o 0 1 n s h0 h1 (ix2 0 k) = s (ix2 ⟨o, h0⟩ ⟨k.val, by omega⟩) := by
  unfold Patch.cut
  exact congrArg s (Sums.ext2 rfl (Nat.zero_add _))

theorem sheet_start (h : t.val % 16 = 0) (y : S40x2816.Idx) : (outs m c t.val t.isLt).sheet y = 0 + part m c t y := by
  have ht : t.val < 16 := t.isLt
  rw [sheet_first m c t (by omega)]
  unfold withLoss cleared
  rw [Patch.readCov_cut, Patch.readCov_cut, Patch.canon_put, Patch.canon_put, Patch.canon_put, Patch.put_whole]
  refine (put_rows m c t (k0_pay89 (F := Ideal)) _ _ (fun k => (cut_row _ _ _ k).trans (Patch.put_out _ _ _ (.inl (.inl ?_))))
    (fun k => cut_row _ _ _ k) y).trans (congrArg (· + _) ?_)
  · show 32 < 33
    omega
  · pointwise [k0_pay89]

theorem sheet_step (h : ¬t.val % 16 = 0) (y : S40x2816.Idx) : (outs m c t.val t.isLt).sheet y
    = (outs m c (t.val - 1) (pred_lt t)).sheet y + part m c t y := by
  rw [sheet_next m c t fun e => h (by rw [e]), Patch.writes_put, Patch.writes_put, View.writes_nil, (bufs t).hsheet.read_unread,
    Patch.ld_cut, Patch.ld_cut]
  exact put_rows m c t _ _ _ (fun k => cut_row _ _ _ k) (fun k => cut_row _ _ _ k) y

end Cert.Kernel5Ideal.Body

end
-- ==== Proof.ConvArray.lean ====
/- What the first layer's feed-forward pass leaves in its three result arrays: each grid point runs the chunks of the pass that ends in the
   loss, and its last result is the rows with the sum added. -/
module

public import proofs.«01_k».proof.Proof.Gen.Kernel8Ideal.Frame
public import proofs.«01_k».proof.Proof.HeadBlock

@[expose] public section

set_option maxRecDepth 65536

noncomputable section

namespace Cert.Kernel8Ideal.Body

open Cert.Kernel8Ideal Cert.Kernel8Ideal.Gen Idealize.ShloMosaic Idealize.ShloMosaic.TcCoe Idealize.SL.Sem
open Idealize.ShloMosaic.Pipeline (Dat)
open Cert.Kernel5Ideal.Body (Ins Args Reads chunksDown sumRead sum_read rowOf prevOf canon_chunks gcT_at aT_at whole_at)
open Cert.Kernel2Ideal.Body (lo)

variable (m : (ℓ : Loc nD τ sig) → Buf (Elt Ideal) ℓ) (c : Dev nD) (t : Fin cfg0.N)

/-- The tiles at a point, and the arguments; this pass has no gain and no targets. -/
def ins : Ins Ideal where
  up := iblk m c 0 t
  upp := iblk m c 1 t
  x := iblk m c 2 t
  w := iblk m c 3 t
  b := iblk m c 4 t
  wd := iblk m c 5 t
  g := fun _ => (0 : EReal)
  target := fun _ => (0 : EReal)

def args : Args where
  up := m ((c.tc : Thread nD τ).loc main_arg0)
  x := m ((c.tc : Thread nD τ).loc main_arg1)
  w := m ((c.tc : Thread nD τ).loc main_arg2)
  b := m ((c.tc : Thread nD τ).loc main_arg3)
  wd := m ((c.tc : Thread nD τ).loc main_arg4)
  g := fun _ => 0
  target := fun _ => 0

/-- The point as a point of the other pass, and its number. -/
abbrev pt : Fin Cert.Kernel5Ideal.cfg0.N := ⟨t.val, t.isLt⟩
abbrev num : BitVec 32 := BitVec.ofNat 32 (grid0.coords t 0).val
abbrev scratch : View sig .tc .vmem S512x1024 .f32 := (Memref.whole cc0_scratch0 : Memref sig .tc .vmem S512x1024 .f32).view

theorem gc_pieces : (outsAt0 m c t).1 = View.canon ((ins m c t).gcPieces (num t)) := by
  unfold outsAt0 out0_A_6
  dsimp only
  frame_out
  sl_kernel_rfl

theorem a_pieces : (outsAt0 m c t).2.1 = View.canon ((ins m c t).aPieces (num t)) := by
  unfold outsAt0 out0_A_7
  dsimp only
  frame_out
  sl_kernel_rfl

/-- The sum after some chunks, each chunk's over the one before. -/
theorem sums_fold (n : BitVec 32) (I : Ins Ideal) (l : List (Fin 11)) :
    sumRead scratch (I.sums n scratch l) = l.foldr (fun i s => I.sumT n i s) (Cert.Kernel5Ideal.Gen.k0_pay2 I.x) := by
  induction l with
  | nil => exact sum_read _ _ _
  | cons i l h => exact (sum_read _ _ _).trans (congrArg (fun s => I.sumT n i s) h)

theorem y_eq : (outsAt0 m c t).2.2 = sumRead scratch ((ins m c t).sums (num t) scratch chunksDown) := by
  rw [sums_fold]
  unfold outsAt0 out0_A_8
  dsimp only
  frame_out
  sl_kernel_rfl

theorem idx0 : ∀ t : Fin cfg0.N, win0_0.index t = ![t.val, 0] := (by decide +kernel : ∀ t : Fin grid0.N, win0_0.index t = ![t.val, 0])
theorem idx1 : ∀ t : Fin cfg0.N, win0_1.index t = ![32 * t.val - 1, 0] :=
  (by decide +kernel : ∀ t : Fin grid0.N, win0_1.index t = ![32 * t.val - 1, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])

theorem reads : Reads (ins m c t) (args m c) (pt t) where
  up p k := by
    show iblk m c 0 t (ix2 p k) = m ((c.tc : Thread nD τ).loc main_arg0) (ix2 (rowOf (pt t) p) k)
    blk_point [iblk, V, idx0 t]
  upp p k := by
    show iblk m c 1 t (ix2 p k) = m ((c.tc : Thread nD τ).loc main_arg0) (ix2 (prevOf (pt t) p) (lo k))
    blk_point [iblk, V, idx1 t]
  x p k := by
    show iblk m c 2 t (ix2 p k) = m ((c.tc : Thread nD τ).loc main_arg1) (ix2 (rowOf (pt t) p) k)
    blk_point [iblk, V, idx2 t]
  w p k := by
    show iblk m c 3 t (ix2 p k) = m ((c.tc : Thread nD τ).loc main_arg2) (ix2 p k)
    blk_point [iblk, V, idx3 t]
  b k := by
    show iblk m c 4 t (ix2 0 k) = m ((c.tc : Thread nD τ).loc main_arg3) (ix1 k)
    blk_point [iblk, V, idx4 t]
  wd p k := by
    show iblk m c 5 t (ix2 p k) = m ((c.tc : Thread nD τ).loc main_arg4) (ix2 p k)
    blk_point [iblk, V, idx5 t]

theorem gc_at (y : S512x2816.Idx) : (outsAt0 m c t).1 y = (args m c).gc (rowOf (pt t) (y 0)) (y 1) :=
  (congrFun (gc_pieces m c t) y).trans (canon_chunks (pt t) _ _ (gcT_at (reads m c t)) y)
theorem a_at (y : S512x2816.Idx) : (outsAt0 m c t).2.1 y = (args m c).a (rowOf (pt t) (y 0)) (y 1) :=
  (congrFun (a_pieces m c t) y).trans (canon_chunks (pt t) _ _ (aT_at (reads m c t)) y)
theorem y_at (y : S512x1024.Idx) : (outsAt0 m c t).2.2 y = (args m c).y (rowOf (pt t) (y 0)) (y 1) :=
  (congrFun (y_eq m c t) y).trans ((congrArg _ (eq_ix2 y)).trans (whole_at (reads m c t) scratch (y 0) (y 1)))

theorem gc_array : (dats m 0 c).arrAt 6 cfg0.N = fun i : S8192x2816.Idx => (args m c).gc (i 0) (i 1) := by
  refine (dats m 0 c).arrAt_eq_of_covers 6 _ (by decide +kernel) fun t hf y => ?_
  blk_simp
  rw [after0_6]
  refine (gc_at m c t y).trans (congrArg (fun i : S8192x2816.Idx => (args m c).gc (i 0) (i 1)) (a₁ := ix2 (rowOf (pt t) (y 0)) (y 1)) ?_)
  blk_ext [idx6 t]
theorem a_array : (dats m 0 c).arrAt 7 cfg0.N = fun i : S8192x2816.Idx => (args m c).a (i 0) (i 1) := by
  refine (dats m 0 c).arrAt_eq_of_covers 7 _ (by decide +kernel) fun t hf y => ?_
  blk_simp
  rw [after0_7]
  refine (a_at m c t y).trans (congrArg (fun i : S8192x2816.Idx => (args m c).a (i 0) (i 1)) (a₁ := ix2 (rowOf (pt t) (y 0)) (y 1)) ?_)
  blk_ext [idx7 t]
theorem y_array : (dats m 0 c).arrAt 8 cfg0.N = fun i : S8192x1024.Idx => (args m c).y (i 0) (i 1) := by
  refine (dats m 0 c).arrAt_eq_of_covers 8 _ (by decide +kernel) fun t hf y => ?_
  blk_simp
  rw [after0_8]
  refine (y_at m c t y).trans (congrArg (fun i : S8192x1024.Idx => (args m c).y (i 0) (i 1)) (a₁ := ix2 (rowOf (pt t) (y 0)) (y 1)) ?_)
  blk_ext [idx8 t]

end Cert.Kernel8Ideal.Body

end
-- ==== Proof.HeadArray.lean ====
/- What the feed-forward pass with the loss leaves in its four result arrays, as functions of its arguments. -/
module

public import proofs.«01_k».proof.Proof.HeadBlock

@[expose] public section

set_option maxRecDepth 16384

noncomputable section

namespace Cert.Kernel5Ideal.Body

open Cert.Kernel5Ideal Cert.Kernel5Ideal.Gen Idealize.ShloMosaic Idealize.ShloMosaic.TcCoe Idealize.SL.Sem
open Idealize.ShloMosaic.Pipeline (Dat)

theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])

/-- The sheet: the gain's gradient in row 32, the loss in row 33, zeros elsewhere. -/
def Args.sheet (A : Args) (y : S40x2816.Idx) : EReal :=
  if h : (y 0).val = 32 ∧ (y 1).val < 1024 then ∑ r : Fin 8192, A.gain r ⟨(y 1).val, h.2⟩
  else if (y 0).val = 33 ∧ (y 1).val < 128 then ∑ r : Fin 8192, A.loss r else 0

variable (m : (ℓ : Loc nD τ sig) → Buf (Elt Ideal) ℓ) (c : Dev nD)

theorem gc_array : (dats m 0 c).arrAt 8 cfg0.N = fun i : S8192x2816.Idx => (args m c).gc (i 0) (i 1) := by
  refine (dats m 0 c).arrAt_eq_of_covers 8 _ (by decide +kernel) fun t hf y => ?_
  blk_simp
  rw [after_gc]
  refine (gc_at m c t y).trans (congrArg (fun i : S8192x2816.Idx => (args m c).gc (i 0) (i 1)) (a₁ := ix2 (rowOf t (y 0)) (y 1)) ?_)
  blk_ext [idx8 t]
theorem a_array : (dats m 0 c).arrAt 9 cfg0.N = fun i : S8192x2816.Idx => (args m c).a (i 0) (i 1) := by
  refine (dats m 0 c).arrAt_eq_of_covers 9 _ (by decide +kernel) fun t hf y => ?_
  blk_simp
  rw [after_a]
  refine (a_at m c t y).trans (congrArg (fun i : S8192x2816.Idx => (args m c).a (i 0) (i 1)) (a₁ := ix2 (rowOf t (y 0)) (y 1)) ?_)
  blk_ext [idx9 t]
theorem dx_array : (dats m 0 c).arrAt 10 cfg0.N = fun i : S8192x1024.Idx => (args m c).dx (i 0) (i 1) := by
  refine (dats m 0 c).arrAt_eq_of_covers 10 _ (by decide +kernel) fun t hf y => ?_
  blk_simp
  rw [after_dx]
  refine (dx_at m c t y).trans (congrArg (fun i : S8192x1024.Idx => (args m c).dx (i 0) (i 1)) (a₁ := ix2 (rowOf t (y 0)) (y 1)) ?_)
  blk_ext [idx10 t]

/-- The last grid point, the only one whose sheet is written back. -/
def last : Fin cfg0.N := ⟨15, by decide⟩

theorem sum_parts (y : S40x2816.Idx) : ∑ t : Fin 16, part m c t y = (args m c).sheet y := by
  unfold part Args.sheet
  by_cases h : (y 0).val = 32 ∧ (y 1).val < 1024
  · simp only [dif_pos h]
    exact Fin.sum_mul_add_fin 16 512 fun r : Fin 8192 => (args m c).gain r ⟨(y 1).val, h.2⟩
  by_cases h' : (y 0).val = 33 ∧ (y 1).val < 128
  · simp only [dif_neg h, if_pos h']
    exact Fin.sum_mul_add_fin 16 512 fun r : Fin 8192 => (args m c).loss r
  · simp only [dif_neg h, if_neg h', Finset.sum_const_zero]

theorem sheet_array : (dats m 0 c).arrAt 11 cfg0.N = (args m c).sheet := by
  refine (dats m 0 c).arrAt_eq_of_after_last 11 last (by decide +kernel) _ fun j => ?_
  blk_simp
  refine (congrFun (after_sheet m c last) j).trans ?_
  refine (Pipeline.eq_sum_fin_of_reset_step_apply_last (M := EReal) (fun n h y => (outs m c n h).sheet y) 16 (fun _ => 0) (part m c)
    (sheet_start m c) (sheet_step m c) (by decide) last rfl j).trans ?_
  rw [zero_add]
  exact sum_parts m c j

end Cert.Kernel5Ideal.Body

end
-- ==== Proof.HeadReference.lean ====
/- What the reference leaves for the feed-forward pass with the loss: the forward lines and the derivative of the loss, and why they
   are the hand-written gradient when the arguments are finite. -/
module

public import proofs.«01_k».proof.Defs
public import proofs.«01_k».proof.Proof.Gen.Reference5Ideal.Read
public import proofs.«01_k».proof.Proof.Gen.Pre_finite_head
public import proofs.«01_k».proof.Proof.HeadArray
public import proofs.«01_k».proof.Proof.FfnEquation
public import proofs.«01_k».proof.Proof.MixReal

@[expose] public section

set_option maxRecDepth 16384

noncomputable section

namespace Cert.Reference5Ideal.Body

open Cert.Reference5Ideal Cert.Reference5Ideal.Gen Cert.Reference5Ideal.Read Idealize.ShloMosaic Idealize.ShloMosaic.TcCoe Idealize.SL.Sem
open Cert.Kernel5Ideal.Body (Args)
open Cert.Kernel2Ideal.Body (hi sg)
open Cert.Finite
open Cert.Mix (IsReal)

variable (A : Args)

/-- The arguments the feed-forward's gradient shares. -/
def shared : Cert.Kernel2Ideal.Body.Args := ⟨A.x, A.up, A.w, A.b, A.wd, fun _ => 0⟩

/-- Every argument is an array of real numbers. -/
structure Real : Prop where
  shared : Cert.Reference2Ideal.Body.Real (shared A)
  g : ∃ r : S1024.Idx → ℝ, ∀ i, A.g i = r i
  target : ∃ r : S8192x1024.Idx → ℝ, ∀ i, A.target i = r i

theorem reals (h : Cert.Pre_finite_head.fn (F := Ideal) A.up A.x A.w A.b A.wd A.g A.target = fun _ => 1#1) : Real A := by
  have e := congrFun h fun k => absurd k.isLt (by simp)
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨⟨real_of_test _ _ _ _ _ e1, real_of_test _ _ _ _ _ e0, real_of_test _ _ _ _ _ e2, real_of_test _ _ _ _ _ e3, real_of_test _ _ _ _ _ e4⟩,
    real_of_test _ _ _ _ _ e5, real_of_test _ _ _ _ _ e6⟩

/-- The constants: the square's factor over the row's length, with and without the derivative's two. -/
theorem slope_bits : Ideal.ofBits .f32 0x3A800000#32 = ((1 / 1024 : ℝ) : EReal) := by
  have h : (1 / 1024 : ℝ) = 8388608 * (2 ^ 33)⁻¹ := by norm_num
  rw [h, EReal.coe_mul]
  simp [Ideal.ofBits, Ideal.ieee]

theorem share_bits : Ideal.ofBits .f32 0x3A000000#32 = ((1 / 2048 : ℝ) : EReal) := by
  have h : (1 / 2048 : ℝ) = 8388608 * (2 ^ 34)⁻¹ := by norm_num
  rw [h, EReal.coe_mul]
  simp [Ideal.ofBits, Ideal.ieee]

theorem same_gc : val_main_v22 (F := Ideal) = Cert.Reference2Ideal.Read.val_main_v22 (F := Ideal) := rfl

theorem gc_ref (r : Fin 8192) (j : Fin 2816) : val_main_v22 (F := Ideal) A.up A.w A.b (ix2 r j) = A.gc r j := by
  rw [same_gc]
  exact Cert.Kernel2Ideal.Body.gc_eq (shared A) r j

variable {A} (hA : Real A) (r : Fin 8192)
include hA

theorem a_ref (j : Fin 2816) : val_main_v24 (F := Ideal) A.up A.w A.b (ix2 r j) = A.a r j := by
  obtain ⟨v, hv⟩ : ∃ v : ℝ, A.gc r j = (v : EReal) := Cert.Reference2Ideal.Body.gc_real hA.shared r j
  pointwise [val_main_v24, val_main_v23, val_main_call0_v5, val_main_call0_v4, val_main_call0_cst_0, val_main_call0_v3, val_main_call0_v2,
    val_main_call0_cst, val_main_call0_v1, val_main_call0_v0, val_main_v3, val_main_v2, gc_ref]
  unfold Args.a
  rw [hv, Cert.Reference2Ideal.Body.sg_neg]

theorem y_ref (k : Fin 1024) : val_main_v26 (F := Ideal) A.up A.x A.w A.b A.wd (ix2 r k) = A.y r k := by
  pointwise [val_main_v26, val_main_v25]
  simp only [a_ref hA]
  rfl

theorem xh_ref (k : Fin 1024) : val_main_v39 (F := Ideal) A.up A.x A.w A.b A.wd (ix2 r k) = A.xh r k := by
  pointwise [val_main_v39, val_main_v38, val_main_v34, val_main_v33, val_main_v32, val_main_cst_2, val_main_v31, val_main_v30, val_main_cst_1,
    val_main_v29, val_main_v28, val_main_cst_0, val_main_v27, Args.xh, Norm.scale, Norm.meanSq]
  simp only [y_ref hA]

theorem err_ref (k : Fin 1024) : val_main_v43 (F := Ideal) A.up A.x A.w A.b A.wd A.g A.target (ix2 r k) = A.err r k := by
  pointwise [val_main_v43, val_main_v42, val_main_v41, val_main_v40, Args.err]
  simp only [xh_ref hA]

/-! ## The rows are real numbers -/

theorem y_real (k : Fin 1024) : IsReal (A.y r k) := by
  obtain ⟨x, hx⟩ := hA.shared.x
  obtain ⟨wd, hwd⟩ := hA.shared.wd
  obtain ⟨up, hup⟩ := hA.shared.up
  refine IsReal.add ⟨_, hx _⟩ (Cert.Mix.isReal_sum fun j => ?_)
  refine IsReal.mul ?_ ⟨_, hwd _⟩
  obtain ⟨v, hv⟩ : ∃ v : ℝ, A.gc r j = (v : EReal) := Cert.Reference2Ideal.Body.gc_real hA.shared r j
  unfold Args.a
  rw [hv, Cert.Reference2Ideal.Body.sg_coe]
  exact IsReal.mul (IsReal.mul ⟨_, rfl⟩ ⟨_, rfl⟩) ⟨_, hup _⟩

theorem err_real (k : Fin 1024) : IsReal (A.err r k) := by
  obtain ⟨g, hg⟩ := hA.g
  obtain ⟨t, ht⟩ := hA.target
  choose y hy using y_real hA r
  obtain ⟨v, -, -, hs⟩ := Norm.scale_real y
  unfold Args.err Args.xh
  rw [show A.y r = fun k => (y k : EReal) from funext hy, hs]
  exact IsReal.sub (IsReal.mul (IsReal.mul ⟨_, rfl⟩ ⟨_, rfl⟩) ⟨_, hg _⟩) ⟨_, ht _⟩

theorem dy_real (k : Fin 1024) : IsReal (A.dy r k) := by
  unfold Args.dy
  rw [slope_bits]
  exact IsReal.mul (err_real hA r k) ⟨_, rfl⟩

theorem dy_ref (k : Fin 1024) : val_main_v57 (F := Ideal) A.up A.x A.w A.b A.wd A.g A.target (ix2 r k) = A.dy r k := by
  pointwise [val_main_v57, val_main_v56, val_main_v55, val_main_v54, val_main_cst_11, val_main_v53, val_main_v52, val_main_cst_10,
    val_main_cst_9, val_main_v46, val_main_v45, val_main_cst_4, Args.dy]
  simp only [err_ref hA]
  obtain ⟨e, he⟩ := err_real hA r k
  simp only [he, Cert.Mix.half_bits, Cert.Mix.half, Cert.Mix.two_bits, ofBits_1024, slope_bits, ← EReal.coe_mul, div_coe _ (by norm_num : (1024 : ℝ) ≠ 0)]
  exact congrArg _ (by ring)

theorem dx_ref (k : Fin 1024) : val_main_v77 (F := Ideal) A.up A.x A.w A.b A.wd A.g A.target (ix2 r k) = A.dx r k := by
  choose y hy using y_real hA r
  choose d hd using dy_real hA r
  obtain ⟨g, hg⟩ := hA.g
  refine Eq.trans (b := Norm.vjp (A.y r) (A.dy r) (fun k => A.g (ix1 k)) 0 k) ?_ ?_
  · pointwise [val_main_v77, val_main_v76, val_main_v75, val_main_v74, val_main_v73, val_main_v72, val_main_cst_16, val_main_v71, val_main_v70,
      val_main_cst_15, val_main_v69, val_main_v68, val_main_v67, val_main_v66, val_main_v65, val_main_cst_14, val_main_v64, val_main_v62,
      val_main_v61, val_main_v40, val_main_v37, val_main_v36, val_main_cst_3, val_main_v35, val_main_v34, val_main_v33, val_main_v32,
      val_main_cst_2, val_main_v31, val_main_v30, val_main_cst_1, val_main_v29, val_main_v28, val_main_cst_0, val_main_v27,
      Norm.vjp, Norm.through, Norm.scale, Norm.meanSq]
    simp only [y_ref hA, dy_ref hA, Fin.sum_univ_one, zero_add]
  · unfold Args.dx
    rw [show A.y r = fun k => (y k : EReal) from funext hy, show A.dy r = fun k => (d k : EReal) from funext hd,
      show (fun k : Fin 1024 => A.g (ix1 k)) = fun k => ((g (ix1 k) : ℝ) : EReal) from funext fun k => hg _]
    exact (Norm.backward_eq_vjp y d _ 0 k).symm

omit r in
theorem loss_ref (i : S_.Idx) : val_main_v51 (F := Ideal) A.up A.x A.w A.b A.wd A.g A.target i = ∑ r : Fin 8192, A.loss r := by
  pointwise [val_main_v51, val_main_cst_8, val_main_v50, val_main_cst_7, val_main_v49, val_main_v48, val_main_cst_6, val_main_v47,
    val_main_cst_5, val_main_v44]
  simp only [err_ref hA]
  unfold Args.loss
  choose e he using fun r => err_real hA r
  simp only [he, Cert.Mix.half_bits, ofBits_1024, share_bits, Cert.Mix.half, ← EReal.coe_mul, ← coe_sum, div_coe _ (by norm_num : (1024 : ℝ) ≠ 0)]
  rw [Finset.mul_sum]
  exact congrArg _ (Finset.sum_congr rfl fun r _ => by ring)

omit r in
theorem gain_ref (k : Fin 1024) : val_main_v63 (F := Ideal) A.up A.x A.w A.b A.wd A.g A.target (ix1 k) = ∑ r : Fin 8192, A.gain r k := by
  pointwise [val_main_v63, val_main_cst_13, val_main_v60, val_main_v59, val_main_cst_12, val_main_v58]
  simp only [xh_ref hA, dy_ref hA, Fin.sum_univ_one]
  exact Finset.sum_congr rfl fun r _ => mul_comm (G := EReal) _ _

omit r in
theorem sheet_ref (i : S40x2816.Idx) : val_main_v86 (F := Ideal) A.up A.x A.w A.b A.wd A.g A.target i = A.sheet i := by
  obtain ⟨p, q, rfl⟩ : ∃ (p : Fin 40) (q : Fin 2816), i = ix2 p q := ⟨i 0, i 1, eq_ix2 i⟩
  have hp : p.val < 40 := p.isLt
  pointwise [val_main_v86, val_main_v85, val_main_cst_20, val_main_v84, val_main_v83, val_main_cst_19, val_main_v82, val_main_v81,
    val_main_v80, val_main_cst_18, val_main_v79, val_main_v78, val_main_cst_17]
  simp only [gain_ref hA, loss_ref hA]
  unfold Args.sheet
  have e0 : (ix2 p q : S40x2816.Idx) 0 = p := rfl
  have e1 : (ix2 p q : S40x2816.Idx) 1 = q := rfl
  simp only [e0, e1]
  rcases (by omega : p.val < 32 ∨ p.val = 32 ∨ p.val = 33 ∨ 33 < p.val) with h | h | h | h
  · rw [dif_pos h, dif_neg (by omega), if_neg (by omega)]
  · rw [dif_neg (by omega), dif_pos (by omega)]
    by_cases hq : q.val < 1024
    · rw [dif_pos hq, dif_pos ⟨h, hq⟩]
    · rw [dif_neg hq, dif_neg (by omega), if_neg (by omega)]
  · rw [dif_neg (by omega), dif_neg (by omega), dif_pos (by omega)]
    by_cases hq : q.val < 128
    · rw [dif_pos hq, dif_neg (by omega), if_pos ⟨h, hq⟩]
    · rw [dif_neg hq, dif_neg (by omega), if_neg (by omega)]
  · rw [dif_neg (by omega), dif_neg (by omega), dif_neg (by omega), dif_neg (by omega), if_neg (by omega)]

omit hA r in
theorem gc_all (A : Args) : val_main_v87 (F := Ideal) A.up A.w A.b = fun i => A.gc (i 0) (i 1) := by
  funext i
  obtain ⟨r, j, rfl⟩ : ∃ (r : Fin 8192) (j : Fin 2816), i = ix2 r j := ⟨i 0, i 1, eq_ix2 i⟩
  pointwise [val_main_v87, gc_ref]

omit r in
theorem a_all : val_main_v88 (F := Ideal) A.up A.w A.b = fun i => A.a (i 0) (i 1) := by
  funext i
  obtain ⟨r, j, rfl⟩ : ∃ (r : Fin 8192) (j : Fin 2816), i = ix2 r j := ⟨i 0, i 1, eq_ix2 i⟩
  pointwise [val_main_v88]
  exact a_ref hA r j

omit r in
theorem dx_all : val_main_v77 (F := Ideal) A.up A.x A.w A.b A.wd A.g A.target = fun i => A.dx (i 0) (i 1) := by
  funext i
  obtain ⟨r, k, rfl⟩ : ∃ (r : Fin 8192) (k : Fin 1024), i = ix2 r k := ⟨i 0, i 1, eq_ix2 i⟩
  exact dx_ref hA r k

end Cert.Reference5Ideal.Body

end
-- ==== Proof.ConvClaims.lean ====
/- The first layer's feed-forward pass: the reference's three results, the frames of the three programs and the equality of the
   results. -/
module

public import proofs.«01_k».proof.Defs
public import proofs.«01_k».proof.Proof.Gen.Kernel8
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.ConvArray
public import proofs.«01_k».proof.Proof.HeadReference
public import Idealize.ShloMosaic.Adequacy

@[expose] public section

set_option maxRecDepth 16384

noncomputable section

namespace Cert.Reference8Ideal.Body

open Cert.Reference8Ideal Cert.Reference8Ideal.Gen Cert.Reference8Ideal.Read Idealize.ShloMosaic Idealize.ShloMosaic.TcCoe Idealize.SL.Sem
open Cert.Kernel5Ideal.Body (Args)
open Cert.Kernel2Ideal.Body (hi sg)

variable (A : Args)

theorem same_gc : val_main_v22 (F := Ideal) = Cert.Reference5Ideal.Read.val_main_v22 (F := Ideal) := rfl

theorem gc_ref (r : Fin 8192) (j : Fin 2816) : val_main_v22 (F := Ideal) A.up A.w A.b (ix2 r j) = A.gc r j := by
  rw [same_gc]
  exact Cert.Reference5Ideal.Body.gc_ref A r j

/-- The logistic function of any extended real: a difference from zero is the opposite. -/
theorem sg_all (v : EReal) : Ideal.div 1 (1 + Ideal.exp (-v)) = sg v := by
  unfold sg
  rw [sub_eq_add_neg, zero_add]

theorem a_ref (r : Fin 8192) (j : Fin 2816) : val_main_v24 (F := Ideal) A.up A.w A.b (ix2 r j) = A.a r j := by
  pointwise [val_main_v24, val_main_v23, val_main_call0_v5, val_main_call0_v4, val_main_call0_cst_0, val_main_call0_v3, val_main_call0_v2,
    val_main_call0_cst, val_main_call0_v1, val_main_call0_v0, val_main_v3, val_main_v2, gc_ref]
  unfold Args.a
  rw [sg_all]

theorem gc_all : val_main_v25 (F := Ideal) A.up A.w A.b = fun i => A.gc (i 0) (i 1) := by
  funext i
  obtain ⟨r, j, rfl⟩ : ∃ (r : Fin 8192) (j : Fin 2816), i = ix2 r j := ⟨i 0, i 1, eq_ix2 i⟩
  pointwise [val_main_v25, gc_ref]

theorem a_all : val_main_v26 (F := Ideal) A.up A.w A.b = fun i => A.a (i 0) (i 1) := by
  funext i
  obtain ⟨r, j, rfl⟩ : ∃ (r : Fin 8192) (j : Fin 2816), i = ix2 r j := ⟨i 0, i 1, eq_ix2 i⟩
  pointwise [val_main_v26]
  exact a_ref A r j

theorem y_all : val_main_v28 (F := Ideal) A.up A.x A.w A.b A.wd = fun i => A.y (i 0) (i 1) := by
  funext i
  obtain ⟨r, k, rfl⟩ : ∃ (r : Fin 8192) (k : Fin 1024), i = ix2 r k := ⟨i 0, i 1, eq_ix2 i⟩
  pointwise [val_main_v28, val_main_v27]
  simp only [a_ref]
  rfl

end Cert.Reference8Ideal.Body

namespace Cert.Proof

open Idealize.ShloMosaic Idealize.ShloMosaic.TcCoe Idealize.ShloMosaic.Tactic Idealize.SL.Sem

theorem frame_ideal8 : Cert.quiescent_Kernel8Ideal := fun m ρ _ => Cert.Kernel8Ideal.Gen.frame m ρ

/-- The two programs have the same text, so the run over machine numbers is the other's. -/
theorem frame_kernel8 : Cert.quiescent_Kernel8 := fun m ρ _ =>
  (by sl_kernel_rfl : (θ_run (Cert.Kernel8Ideal.defs (F := Bits)) (onTc (τ := Cert.Kernel8Ideal.τ) Cert.Kernel8Ideal.main) ⟨m, fun _ => 0, ρ⟩)
    = θ_run (Cert.Kernel8.defs (F := Bits)) (onTc (τ := Cert.Kernel8.τ) Cert.Kernel8.main) ⟨m, fun _ => 0, ρ⟩) ▸
    Cert.Kernel8Ideal.Gen.frame (F := Bits) m ρ

theorem frame_reference8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The three results, of any arguments. -/
theorem algebraic8 : Cert.algebraic_Kernel8Ideal_Reference8Ideal := fun m ρ m' ρ' _ hagree =>
  ⟨_, _, _,
    (θ_run Cert.Kernel8Ideal.defs _ _).mono (fun _ h c =>
      ⟨(h c).1.trans (Kernel8Ideal.Body.gc_array m c), (h c).2.1.trans (Kernel8Ideal.Body.a_array m c),
        (h c).2.2.1.trans (Kernel8Ideal.Body.y_array m c), (h c).2.2.2⟩)
      (Cert.Kernel8Ideal.Value.run_blocks (F := Ideal) m ρ),
    (θ_run Cert.Reference8Ideal.defs _ _).mono (fun _ h c => by
      obtain ⟨e0, e1, e2, e3, e4⟩ := hagree c
      refine ⟨(h c).1.trans ((Cert.Reference8Ideal.Read.val_main_v25_eq _ _ _).trans ?_),
        (h c).2.1.trans ((Cert.Reference8Ideal.Read.val_main_v26_eq m' c).trans ?_),
        (h c).2.2.1.trans ((Cert.Reference8Ideal.Read.val_main_v28_eq m' c).trans ?_), (h c).2.2.2⟩
      · rw [e0, e2, e3]
        exact Reference8Ideal.Body.gc_all (Kernel8Ideal.Body.args m c)
      · rw [e0, e2, e3]
        exact Reference8Ideal.Body.a_all (Kernel8Ideal.Body.args m c)
      · rw [e0, e1, e2, e3, e4]
        exact Reference8Ideal.Body.y_all (Kernel8Ideal.Body.args m c))
      (Cert.Reference8Ideal.Value.run (F := Ideal) m' ρ')⟩

end Cert.Proof

end
-- ==== Proof.MixClaims.lean ====
/- The mixer's backward pass: the frames of the three programs and the named constants. -/
module

public import proofs.«01_k».proof.Defs
public import proofs.«01_k».proof.Proof.Gen.Kernel4
public import proofs.«01_k».proof.Proof.Gen.Reference4Ideal
public import proofs.«01_k».proof.Proof.Gen.Reference4Ideal.Run
public import proofs.«01_k».proof.Proof.Gen.Pre_finite_mix
public import proofs.«01_k».proof.Proof.MixFrame
public import Idealize.ShloMosaic.Adequacy

@[expose] public section

set_option maxRecDepth 16384

noncomputable section

namespace Cert.Proof

open Idealize.ShloMosaic Idealize.ShloMosaic.TcCoe Idealize.ShloMosaic.Tactic Idealize.SL.Sem

/-- Over machine numbers a named constant is what its pattern denotes. -/
local instance bitsNamed : Named Bits where
  named _ _ {_} w := FloatOps.ofBits _ w

theorem frame_ideal4 : Cert.quiescent_Kernel4Ideal := fun m ρ _ => Cert.Kernel4Ideal.Body.frame m ρ

/-- The two programs have the same text where a named constant is its pattern, so the run over machine numbers is the other's. -/
theorem frame_kernel4 : Cert.quiescent_Kernel4 := fun m ρ _ =>
  (by sl_kernel_rfl : (θ_run (Cert.Kernel4Ideal.defs (F := Bits)) (onTc (τ := Cert.Kernel4Ideal.τ) Cert.Kernel4Ideal.main) ⟨m, fun _ => 0, ρ⟩)
    = θ_run (Cert.Kernel4.defs (F := Bits)) (onTc (τ := Cert.Kernel4.τ) Cert.Kernel4.main) ⟨m, fun _ => 0, ρ⟩) ▸
    Cert.Kernel4Ideal.Body.frame (F := Bits) m ρ

theorem frame_reference4 : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

theorem preserves4 : Cert.preserves_Kernel4_Kernel4Ideal :=
  ⟨IdealRules.named_const.statement Cert.Kernel4Ideal.κ "gelu_c1" .bf16 0x3D37#16 ((8943 / 200000 : ℝ) : EReal) rfl,
   IdealRules.named_const.statement Cert.Kernel4Ideal.κ "gelu_c0" .bf16 0x3F4C#16 ((6693141 / 8388608 : ℝ) : EReal) rfl,
   IdealRules.named_const.statement Cert.Kernel4Ideal.κ "gelu_c1" .f32 0x3D372713#32 ((8943 / 200000 : ℝ) : EReal) rfl,
   IdealRules.named_const.statement Cert.Kernel4Ideal.κ "gelu_c0" .f32 0x3F4C422A#32 ((6693141 / 8388608 : ℝ) : EReal) rfl,
   IdealRules.named_const.statement Cert.Kernel4Ideal.κ "gelu_c3" .bf16 0x3E09#16 ((26829 / 200000 : ℝ) : EReal) rfl,
   IdealRules.named_const.statement Cert.Kernel4Ideal.κ "gelu_c3" .f32 0x3E095D4F#32 ((26829 / 200000 : ℝ) : EReal) rfl⟩

end Cert.Proof

end
-- ==== Proof.MixEquation.lean ====
/- The saved values the mixer's gradient reads are the forward lines' own, and finite arguments are arrays of real numbers. -/
module

public import proofs.«01_k».proof.Proof.Gen.Pre_finite_mix
public import proofs.«01_k».proof.Proof.MixArray
public import proofs.«01_k».proof.Proof.MixReference

@[expose] public section

set_option maxRecDepth 16384

noncomputable section

namespace Cert.Reference4Ideal.Body

open Idealize.ShloMosaic Idealize.ShloMosaic.TcCoe Idealize.SL.Sem Cert.Finite Cert.Pre_finite_mix
open Cert.Mix (Args)

theorem rank_zero : S_.rank = 0 := rfl

instance : Fact (S_.rank = 0) := ⟨rank_zero⟩

theorem each {α : Type} {x : α → EReal} (h : ∃ r : α → ℝ, ∀ i, x i = r i) (i : α) : Cert.Mix.IsReal (x i) :=
  h.elim fun r hr => ⟨r i, hr i⟩

/-- Where the precondition holds, the arguments it names are real numbers. -/
theorem reals (A : Args)
    (h : Cert.Pre_finite_mix.fn (F := Ideal) A.dx A.z A.bg A.lng A.lnb A.ws A.bs A.wsc A.wb A.wo A.sheet = fun _ => 1#1) : Real A := by
  have e := congrFun h fun k => absurd k.isLt (by simp)
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e0, e1⟩ := both e
  exact ⟨each (real_of_test _ _ _ _ _ e0), each (real_of_test _ _ _ _ _ e1), each (real_of_test _ _ _ _ _ e2), each (real_of_test _ _ _ _ _ e3), each (real_of_test _ _ _ _ _ e4),
    each (real_of_test _ _ _ _ _ e5), each (real_of_test _ _ _ _ _ e6), each (real_of_test _ _ _ _ _ e7), each (real_of_test _ _ _ _ _ e8)⟩

/-! ## The reference's arrays -/

theorem dpa_all (A : Args) : Read.val_main_v289 (F := Ideal) A.dx A.z A.bg A.wo = fun i : S8192x1024.Idx => A.dpa (i 0) (i 1) :=
  funext fun i => by
    obtain ⟨n, j, rfl⟩ : ∃ (n : Fin 8192) (j : Fin 1024), i = ix2 n j := ⟨i 0, i 1, eq_ix2 i⟩
    exact dpa_ref A n j
theorem dpb_all (A : Args) : Read.val_main_v290 (F := Ideal) A.dx A.z A.bg A.wo = fun i : S8192x1024.Idx => A.dpb (i 0) (i 1) :=
  funext fun i => by
    obtain ⟨n, j, rfl⟩ : ∃ (n : Fin 8192) (j : Fin 1024), i = ix2 n j := ⟨i 0, i 1, eq_ix2 i⟩
    exact dpb_ref A n j
theorem dws_all (A : Args) : Read.val_main_v209 (F := Ideal) A.dx A.z A.bg A.lng A.lnb A.wb A.wo = A.dws :=
  funext fun i => by
    obtain ⟨h, a, k, rfl⟩ : ∃ (h : Fin 4) (a k : Fin 128), i = ix3 h a k := ⟨i 0, i 1, i 2, eq_ix3 i⟩
    exact dws_ref A h a k
theorem dbs_all (A : Args) : Read.val_main_v291 (F := Ideal) A.dx A.z A.bg A.wb A.wo = A.dbs :=
  funext fun i => by
    obtain ⟨h, a, l, rfl⟩ : ∃ (h : Fin 4) (a : Fin 128) (l : Fin 1), i = ix3 h a l := ⟨i 0, i 1, i 2, eq_ix3 i⟩
    obtain rfl : l = 0 := Subsingleton.elim _ _
    exact dbs_ref A h a

end Cert.Reference4Ideal.Body

namespace Cert.Kernel4Ideal.Body

open Cert.Kernel4Ideal Idealize.ShloMosaic Idealize.ShloMosaic.TcCoe Idealize.SL.Sem Cert.Reference4Ideal.Body

variable (m : (ℓ : Loc nD τ sig) → Buf (Elt Ideal) ℓ) (c : Dev nD)

theorem saved_cv : V m c main_v102 = Cert.Reference4Ideal.Read.val_main_v119 (F := Ideal) (m ((c.tc : Thread nD τ).loc main_arg1))
    (m ((c.tc : Thread nD τ).loc main_arg7)) := by
  sl_kernel_rfl
theorem saved_pa : V m c main_v103 = Cert.Reference4Ideal.Read.val_main_v122 (F := Ideal) (m ((c.tc : Thread nD τ).loc main_arg1))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg8)) := by
  sl_kernel_rfl
theorem saved_pb : V m c main_v104 = Cert.Reference4Ideal.Read.val_main_v126 (F := Ideal) (m ((c.tc : Thread nD τ).loc main_arg1))
    (m ((c.tc : Thread nD τ).loc main_arg7)) (m ((c.tc : Thread nD τ).loc main_arg8)) := by
  sl_kernel_rfl

/-- What the launch is given as saved is what the reference's forward lines compute. -/
theorem saved : Saved (args m c) :=
  ⟨congrFun (saved_cv m c).symm, congrFun (saved_pa m c).symm, congrFun (saved_pb m c).symm⟩

end Cert.Kernel4Ideal.Body

end
-- ==== Proof.Mix0Claims.lean ====
/- The first layer's mixer: its programs are the second layer's with other rows of the sheet. -/
module

public import proofs.«01_k».proof.Proof.MixEquation
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Defs
public import Idealize.ShloMosaic.Adequacy

@[expose] public section

set_option maxRecDepth 16384

noncomputable section

namespace Cert.Reference10Ideal.Body

open Cert.Reference10Ideal Cert.Reference10Ideal.Gen Cert.Reference10Ideal.Read Idealize.ShloMosaic Idealize.ShloMosaic.TcCoe Idealize.SL.Sem
open Cert.Mix Cert.Reference4Ideal.Body

/-! ## What is the second layer's too -/

theorem same_dz : @val_main_v288 Ideal _ = @Cert.Reference4Ideal.Read.val_main_v288 Ideal _ := by sl_kernel_rfl
theorem same_dpa : @val_main_v289 Ideal _ = @Cert.Reference4Ideal.Read.val_main_v289 Ideal _ := by sl_kernel_rfl
theorem same_dpb : @val_main_v290 Ideal _ = @Cert.Reference4Ideal.Read.val_main_v290 Ideal _ := by sl_kernel_rfl
theorem same_dws : @val_main_v209 Ideal _ = @Cert.Reference4Ideal.Read.val_main_v209 Ideal _ := by sl_kernel_rfl
theorem same_dbs : @val_main_v291 Ideal _ = @Cert.Reference4Ideal.Read.val_main_v291 Ideal _ := by sl_kernel_rfl
theorem same_gate : @val_main_v273 Ideal _ = @Cert.Reference4Ideal.Read.val_main_v273 Ideal _ := by sl_kernel_rfl
theorem same_gain : @val_main_v276 Ideal _ = @Cert.Reference4Ideal.Read.val_main_v276 Ideal _ := by sl_kernel_rfl
theorem same_bias : @val_main_v279 Ideal _ = @Cert.Reference4Ideal.Read.val_main_v279 Ideal _ := by sl_kernel_rfl
theorem same_tap_zero : @val_main_v281 Ideal _ = @Cert.Reference4Ideal.Read.val_main_v281 Ideal _ := by sl_kernel_rfl
theorem same_tap_one : @val_main_v283 Ideal _ = @Cert.Reference4Ideal.Read.val_main_v283 Ideal _ := by sl_kernel_rfl
theorem same_tap_two : @val_main_v285 Ideal _ = @Cert.Reference4Ideal.Read.val_main_v285 Ideal _ := by sl_kernel_rfl

/-! ## The sheet -/

variable {A : Args}

set_option maxHeartbeats 2000000 in
/-- The last result. -/
theorem sheet_ref (hs : Saved A) (i : S40x2816.Idx) :
    val_main_v287 (F := Ideal) A.dx A.z A.bg A.lng A.lnb A.ws A.bs A.wsc A.wb A.wo A.sheet i = A.sheetOut 1 i := by
  obtain ⟨n, j, rfl⟩ : ∃ (n : Fin 40) (j : Fin 2816), i = ix2 n j := ⟨i 0, i 1, eq_ix2 i⟩
  pointwise [val_main_v287, val_main_v286, val_main_v269]
  rw [same_gate, same_gain, same_bias, same_tap_zero, same_tap_one, same_tap_two]
  simp only [gate_part _ _ hs, gain_part, bias_part, tap_zero_part, tap_one_part, tap_two_part]
  have hn : n.val < 40 := n.isLt
  split_ifs
  · exact (sheet_else A 1 (by omega) j).symm
  · exact (sheet_row A 1 0 (by omega) (by omega) j).symm
  · exact (sheet_row A 1 1 (by omega) (by omega) j).symm
  · exact (sheet_row A 1 2 (by omega) (by omega) j).symm
  · exact (sheet_row A 1 3 (by omega) (by omega) j).symm
  · exact (sheet_row A 1 4 (by omega) (by omega) j).symm
  · exact (sheet_row A 1 5 (by omega) (by omega) j).symm
  · rw [sheet_else A 1 (by omega)]
    exact congrArg (fun i => A.sheet (ix2 i j)) (Fin.ext (by show 7 + (n.val - 1 - 1 - 1 - 1 - 1 - 1 - 1) = n.val; omega))
  · exact absurd rfl (by assumption)

end Cert.Reference10Ideal.Body

namespace Cert.Proof

open Idealize.ShloMosaic Idealize.ShloMosaic.TcCoe Idealize.ShloMosaic.Tactic Idealize.SL.Sem
open Cert.Kernel4Ideal.Body (Layer)

/-- Over machine numbers a named constant is what its pattern denotes. -/
local instance bitsNamed10 : Named Bits where
  named _ _ {_} w := FloatOps.ofBits _ w

/-- The layer whose rows of the sheet are 1 to 6. -/
abbrev firstLayer : Layer := ⟨false⟩

/-- The first layer's run. -/
theorem same_ideal (m : (ℓ : Loc Cert.Kernel10Ideal.nD Cert.Kernel10Ideal.τ Cert.Kernel10Ideal.sig) → Buf (Elt Ideal) ℓ) (ρ : Dev Cert.Kernel10Ideal.nD → PrngReg) :
    (θ_run (Cert.Kernel4Ideal.Body.allDefs (layer := firstLayer) (F := Ideal)) (onTc (τ := Cert.Kernel4Ideal.τ) Cert.Kernel4Ideal.main) ⟨m, fun _ => 0, ρ⟩)
      = θ_run (Cert.Kernel10Ideal.defs (F := Ideal)) (onTc (τ := Cert.Kernel10Ideal.τ) Cert.Kernel10Ideal.main) ⟨m, fun _ => 0, ρ⟩ := by
  sl_kernel_rfl

theorem frame_ideal10 : Cert.quiescent_Kernel10Ideal := fun m ρ _ =>
  same_ideal m ρ ▸ Cert.Kernel4Ideal.Body.frame (layer := firstLayer) m ρ

theorem frame_kernel10 : Cert.quiescent_Kernel10 := fun m ρ _ =>
  (by sl_kernel_rfl : (θ_run (Cert.Kernel4Ideal.Body.allDefs (layer := firstLayer) (F := Bits)) (onTc (τ := Cert.Kernel4Ideal.τ) Cert.Kernel4Ideal.main) ⟨m, fun _ => 0, ρ⟩)
    = θ_run (Cert.Kernel10.defs (F := Bits)) (onTc (τ := Cert.Kernel10.τ) Cert.Kernel10.main) ⟨m, fun _ => 0, ρ⟩) ▸
    Cert.Kernel4Ideal.Body.frame (layer := firstLayer) (F := Bits) m ρ

theorem frame_reference10 : Cert.quiescent_Reference10Ideal := fun m ρ _ =>
  (θ_run Cert.Reference10Ideal.defs _ _).mono (fun r h => ⟨fun c => (h c).2.2.2.2.2.2, sem_eq_zero_of_no_sems (by decide) r.2⟩)
    (Cert.Reference10Ideal.Value.run (F := Ideal) m ρ)

theorem preserves10 : Cert.preserves_Kernel10_Kernel10Ideal :=
  ⟨IdealRules.named_const.statement Cert.Kernel10Ideal.κ "gelu_c1" .bf16 0x3D37#16 ((8943 / 200000 : ℝ) : EReal) rfl,
   IdealRules.named_const.statement Cert.Kernel10Ideal.κ "gelu_c0" .bf16 0x3F4C#16 ((6693141 / 8388608 : ℝ) : EReal) rfl,
   IdealRules.named_const.statement Cert.Kernel10Ideal.κ "gelu_c1" .f32 0x3D372713#32 ((8943 / 200000 : ℝ) : EReal) rfl,
   IdealRules.named_const.statement Cert.Kernel10Ideal.κ "gelu_c0" .f32 0x3F4C422A#32 ((6693141 / 8388608 : ℝ) : EReal) rfl,
   IdealRules.named_const.statement Cert.Kernel10Ideal.κ "gelu_c3" .bf16 0x3E09#16 ((26829 / 200000 : ℝ) : EReal) rfl,
   IdealRules.named_const.statement Cert.Kernel10Ideal.κ "gelu_c3" .f32 0x3E095D4F#32 ((26829 / 200000 : ℝ) : EReal) rfl⟩

set_option maxHeartbeats 4000000 in
/-- All six results of the first layer's mixer's gradient, where the arguments of the precondition are finite. -/
theorem algebraic10 : Cert.algebraic_Kernel10Ideal_Reference10Ideal_pre_finite_mix := fun m ρ m' ρ' hpre hagree =>
  ⟨fun c => (Kernel4Ideal.Body.args m c).dz, fun c i => (Kernel4Ideal.Body.args m c).dpa (i 0) (i 1),
    fun c i => (Kernel4Ideal.Body.args m c).dpb (i 0) (i 1), fun c => (Kernel4Ideal.Body.args m c).dws,
    fun c => (Kernel4Ideal.Body.args m c).dbs, fun c => (Kernel4Ideal.Body.args m c).sheetOut 1,
    same_ideal m ρ ▸ (θ_run (Cert.Kernel4Ideal.Body.allDefs (layer := firstLayer) (F := Ideal)) _ _).mono (fun _ h c =>
      ⟨(h.1.1 c).1 17 |>.trans (Kernel4Ideal.Body.dz_array m c (layer := firstLayer)),
        (h.1.1 c).1 18 |>.trans (Kernel4Ideal.Body.dpa_array m c (layer := firstLayer)),
        (h.1.1 c).1 19 |>.trans (Kernel4Ideal.Body.dpb_array m c (layer := firstLayer)),
        (h.1.1 c).1 20 |>.trans (Kernel4Ideal.Body.dws_array m c (layer := firstLayer)),
        (h.1.1 c).1 21 |>.trans (Kernel4Ideal.Body.dbs_array m c (layer := firstLayer)),
        (h.1.1 c).1 22 |>.trans (Kernel4Ideal.Body.out_array m c (layer := firstLayer)), h.2 c⟩)
      (Kernel4Ideal.Body.run_kept (layer := firstLayer) (F := Ideal) m ρ),
    (θ_run Cert.Reference10Ideal.defs _ _).mono (fun _ h c => by
      obtain ⟨e0, e1, e2, e3, e4, e5, e6, e7, e8, e9, e10⟩ := hagree c
      have hA := Reference4Ideal.Body.reals (Kernel4Ideal.Body.args m c) (hpre c)
      have hs := Kernel4Ideal.Body.saved m c
      obtain ⟨h0, h1, h2, h3, h4, h5, hk⟩ := h c
      refine ⟨h0.trans ((Cert.Reference10Ideal.Read.val_main_v288_eq _).trans ?_), h1.trans ((Cert.Reference10Ideal.Read.val_main_v289_eq _).trans ?_),
        h2.trans ((Cert.Reference10Ideal.Read.val_main_v290_eq _).trans ?_), h3.trans ((Cert.Reference10Ideal.Read.val_main_v209_eq _).trans ?_),
        h4.trans ((Cert.Reference10Ideal.Read.val_main_v291_eq _).trans ?_), h5.trans ((Cert.Reference10Ideal.Read.val_main_v287_eq _).trans ?_), hk⟩
      · simp only [StableHlo.launchContents]
        rw [e0, e1, e2, e3, e4, e5, e6, e7, e8, e9, Reference10Ideal.Body.same_dz]
        exact funext fun i => Reference4Ideal.Body.dz_ref hA hs i
      · simp only [StableHlo.launchContents]
        rw [e0, e1, e2, e9, Reference10Ideal.Body.same_dpa]
        exact Reference4Ideal.Body.dpa_all (Kernel4Ideal.Body.args m c)
      · simp only [StableHlo.launchContents]
        rw [e0, e1, e2, e9, Reference10Ideal.Body.same_dpb]
        exact Reference4Ideal.Body.dpb_all (Kernel4Ideal.Body.args m c)
      · simp only [StableHlo.launchContents]
        rw [e0, e1, e2, e3, e4, e8, e9, Reference10Ideal.Body.same_dws]
        exact Reference4Ideal.Body.dws_all (Kernel4Ideal.Body.args m c)
      · simp only [StableHlo.launchContents]
        rw [e0, e1, e2, e8, e9, Reference10Ideal.Body.same_dbs]
        exact Reference4Ideal.Body.dbs_all (Kernel4Ideal.Body.args m c)
      · simp only [StableHlo.launchContents]
        rw [e0, e1, e2, e3, e4, e5, e6, e7, e8, e9, e10]
        exact funext fun i => Reference10Ideal.Body.sheet_ref hs i)
      (Cert.Reference10Ideal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_ffn
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_in1
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_mix
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_head
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Reference6Ideal
public import proofs.«01_k».proof.Proof.Gen.Reference6Ideal.Run
public import proofs.«01_k».proof.Proof.Gen.Reference6Ideal.Read
public import proofs.«01_k».proof.Proof.Equation
public import proofs.«01_k».proof.Proof.FfnEquation
public import proofs.«01_k».proof.Proof.In1Reference
public import proofs.«01_k».proof.Proof.Gen.Kernel7
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Launch
public import proofs.«01_k».proof.Proof.Gen.Kernel10Ideal.Skeleton
public import proofs.«01_k».proof.Proof.Gen.Kernel10Ideal.Points
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Launch
public import proofs.«01_k».proof.Proof.Gen.Kernel11Ideal.Skeleton
public import proofs.«01_k».proof.Proof.Gen.Kernel11Ideal.Points
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite_up
public import proofs.«01_k».proof.Proof.Gen.Kernel12
public import proofs.«01_k».proof.Proof.Gen.Kernel12Ideal
public import proofs.«01_k».proof.Proof.Gen.Kernel13
public import proofs.«01_k».proof.Proof.Gen.Kernel13Ideal
public import proofs.«01_k».proof.Proof.Gen.Kernel13Ideal.Launch
public import proofs.«01_k».proof.Proof.Gen.Kernel13Ideal.Skeleton
public import proofs.«01_k».proof.Proof.Gen.Kernel13Ideal.Points
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel15
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Ffn0Claims
public import proofs.«01_k».proof.Proof.Fwd0Claims
public import proofs.«01_k».proof.Proof.UpClaims
public import proofs.«01_k».proof.Proof.UpProjClaims
public import proofs.«01_k».proof.Proof.FwdClaims
public import proofs.«01_k».proof.Proof.ProjClaims
public import proofs.«01_k».proof.Proof.ConvClaims
public import proofs.«01_k».proof.Proof.MixClaims
public import proofs.«01_k».proof.Proof.MixEquation
public import proofs.«01_k».proof.Proof.Mix0Claims
public import proofs.«01_k».proof.Proof.HeadReference
public import Idealize.ShloMosaic.Adequacy
public import Idealize.ShloMosaic.Init

@[expose] public section

noncomputable section

namespace Cert.Proof

open Idealize.ShloMosaic Idealize.SL.Sem Cert.Kernel

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both results, where the four arguments of the precondition are finite. -/
theorem algebraic : Cert.algebraic_KernelIdeal_ReferenceIdeal_pre_finite := fun m ρ m' ρ' hpre hagree =>
  ⟨_, _,
    (θ_run Cert.KernelIdeal.defs _ _).mono (fun _ h c =>
      ⟨(h c).1.trans (KernelIdeal.Body.dx_array m c), (h c).2.1.trans (KernelIdeal.Body.gain_array m c), (h c).2.2⟩)
      (Cert.KernelIdeal.Value.run_blocks (F := Ideal) m ρ),
    (θ_run Cert.ReferenceIdeal.defs _ _).mono (fun _ h c => by
      obtain ⟨e0, e1, e2, e3, e4⟩ := hagree c
      refine ⟨(h c).1.trans ((Cert.ReferenceIdeal.Read.val_main_v39_eq m' c).trans ?_),
        (h c).2.1.trans ((Cert.ReferenceIdeal.Read.val_main_v42_eq _ _ _).trans ?_), (h c).2.2⟩
      · rw [e0, e1, e2, e3, e4, ReferenceIdeal.Body.dx_eq]
        exact funext fun i => (Equation.dx_eq (hpre c) i).symm
      · rw [e0, e1, e2, ReferenceIdeal.Body.small_eq])
      (Cert.ReferenceIdeal.Value.run (F := Ideal) m' ρ')⟩

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Both results of the convolutional feed-forward's gradient, where the five arguments of the precondition are finite. -/
theorem algebraic2 : Cert.algebraic_Kernel2Ideal_Reference2Ideal_pre_finite_ffn := fun m ρ m' ρ' hpre hagree =>
  ⟨_, _,
    (θ_run Cert.Kernel2Ideal.defs _ _).mono (fun _ h c =>
      ⟨(h c).1.trans (Kernel2Ideal.Body.dup_array m c), (h c).2.1.trans (Kernel2Ideal.Body.small_array m c), (h c).2.2⟩)
      (Cert.Kernel2Ideal.Value.run_blocks (F := Ideal) m ρ),
    (θ_run Cert.Reference2Ideal.defs _ _).mono (fun _ h c => by
      obtain ⟨e0, e1, e2, e3, e4, e5⟩ := hagree c
      have hA := Reference2Ideal.Body.reals (Kernel2Ideal.Body.args m c) (hpre c)
      refine ⟨(h c).1.trans ((Cert.Reference2Ideal.Read.val_main_v63_eq m' c).trans ?_),
        (h c).2.1.trans ((Cert.Reference2Ideal.Read.val_main_v67_eq m' c).trans ?_), (h c).2.2⟩
      · rw [e0, e1, e2, e3, e4]
        exact funext fun i => Reference2Ideal.Body.dup_ref hA i
      · rw [e0, e1, e2, e3, e4, e5]
        exact funext fun i => Reference2Ideal.Body.small_ref hA i)
      (Cert.Reference2Ideal.Value.run (F := Ideal) m' ρ')⟩

theorem frame_ideal3 : Cert.quiescent_Kernel3Ideal := fun m ρ _ => Cert.Kernel3Ideal.Body.frame m ρ

/-- The two programs have the same text, so the run over machine numbers is the other's. -/
theorem frame_kernel3 : Cert.quiescent_Kernel3 := fun m ρ _ =>
  (by sl_kernel_rfl : (θ_run (Cert.Kernel3Ideal.defs (F := Bits)) (onTc (τ := Cert.Kernel3Ideal.τ) Cert.Kernel3Ideal.main) ⟨m, fun _ => 0, ρ⟩)
    = θ_run (Cert.Kernel3.defs (F := Bits)) (onTc (τ := Cert.Kernel3.τ) Cert.Kernel3.main) ⟨m, fun _ => 0, ρ⟩) ▸
    Cert.Kernel3Ideal.Body.frame (F := Bits) m ρ

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- Both results of the same call with the sheet, where the four arguments of the precondition are finite. -/
theorem algebraic3 : Cert.algebraic_Kernel3Ideal_Reference3Ideal_pre_finite_in1 := fun m ρ m' ρ' hpre hagree =>
  ⟨_, _,
    (θ_run Cert.Kernel3Ideal.defs _ _).mono (fun _ h c =>
      ⟨(h.1.1 c).1 6 |>.trans (Kernel3Ideal.Body.dx_array m c), (h.1.1 c).1 7 |>.trans (Kernel3Ideal.Body.out_array m c), h.2 c⟩)
      (Kernel3Ideal.Body.run_kept (F := Ideal) m ρ),
    (θ_run Cert.Reference3Ideal.defs _ _).mono (fun _ h c => by
      obtain ⟨e0, e1, e2, e3, e4, e5⟩ := hagree c
      refine ⟨(h c).1.trans ((Cert.Reference3Ideal.Read.val_main_v39_eq m' c).trans ?_),
        (h c).2.1.trans ((Cert.Reference3Ideal.Read.val_main_v45_eq _ _ _ _).trans ?_), (h c).2.2⟩
      · rw [e0, e1, e2, e3, e4, Reference3Ideal.Body.same_dx, ReferenceIdeal.Body.dx_eq]
        exact funext fun i => (Equation.dx_eq ((Reference3Ideal.Body.same_pre _ _ _ _ _ _).symm.trans (hpre c)) i).symm
      · rw [e0, e1, e2, e5, Reference3Ideal.Body.sheet_eq])
      (Cert.Reference3Ideal.Value.run (F := Ideal) m' ρ')⟩

/-- All six results of the mixer's gradient, where the arguments of the precondition are finite. -/
theorem algebraic4 : Cert.algebraic_Kernel4Ideal_Reference4Ideal_pre_finite_mix := fun m ρ m' ρ' hpre hagree =>
  ⟨_, _, _, _, _, _,
    (θ_run Cert.Kernel4Ideal.defs _ _).mono (fun _ h c =>
      ⟨(h.1.1 c).1 17 |>.trans (Kernel4Ideal.Body.dz_array m c), (h.1.1 c).1 18 |>.trans (Kernel4Ideal.Body.dpa_array m c),
        (h.1.1 c).1 19 |>.trans (Kernel4Ideal.Body.dpb_array m c), (h.1.1 c).1 20 |>.trans (Kernel4Ideal.Body.dws_array m c),
        (h.1.1 c).1 21 |>.trans (Kernel4Ideal.Body.dbs_array m c), (h.1.1 c).1 22 |>.trans (Kernel4Ideal.Body.out_array m c), h.2 c⟩)
      (Kernel4Ideal.Body.run_kept (F := Ideal) m ρ),
    (θ_run Cert.Reference4Ideal.defs _ _).mono (fun _ h c => by
      obtain ⟨e0, e1, e2, e3, e4, e5, e6, e7, e8, e9, e10⟩ := hagree c
      have hA := Reference4Ideal.Body.reals (Kernel4Ideal.Body.args m c) (hpre c)
      have hs := Kernel4Ideal.Body.saved m c
      obtain ⟨h0, h1, h2, h3, h4, h5, hk⟩ := h c
      refine ⟨h0.trans ((Cert.Reference4Ideal.Read.val_main_v288_eq _).trans ?_), h1.trans ((Cert.Reference4Ideal.Read.val_main_v289_eq _).trans ?_),
        h2.trans ((Cert.Reference4Ideal.Read.val_main_v290_eq _).trans ?_), h3.trans ((Cert.Reference4Ideal.Read.val_main_v209_eq _).trans ?_),
        h4.trans ((Cert.Reference4Ideal.Read.val_main_v291_eq _).trans ?_), h5.trans ((Cert.Reference4Ideal.Read.val_main_v287_eq _).trans ?_), hk⟩
      · simp only [StableHlo.launchContents]
        rw [e0, e1, e2, e3, e4, e5, e6, e7, e8, e9]
        exact funext fun i => Reference4Ideal.Body.dz_ref hA hs i
      · simp only [StableHlo.launchContents]
        rw [e0, e1, e2, e9]
        exact Reference4Ideal.Body.dpa_all (Kernel4Ideal.Body.args m c)
      · simp only [StableHlo.launchContents]
        rw [e0, e1, e2, e9]
        exact Reference4Ideal.Body.dpb_all (Kernel4Ideal.Body.args m c)
      · simp only [StableHlo.launchContents]
        rw [e0, e1, e2, e3, e4, e8, e9]
        exact Reference4Ideal.Body.dws_all (Kernel4Ideal.Body.args m c)
      · simp only [StableHlo.launchContents]
        rw [e0, e1, e2, e8, e9]
        exact Reference4Ideal.Body.dbs_all (Kernel4Ideal.Body.args m c)
      · simp only [StableHlo.launchContents]
        rw [e0, e1, e2, e3, e4, e5, e6, e7, e8, e9, e10]
        exact funext fun i => Reference4Ideal.Body.sheet_ref hs i)
      (Cert.Reference4Ideal.Value.run (F := Ideal) m' ρ')⟩

theorem frame_ideal5 : Cert.quiescent_Kernel5Ideal := fun m ρ _ => Cert.Kernel5Ideal.Body.frame m ρ

/-- The two programs have the same text, so the run over machine numbers is the other's. -/
theorem frame_kernel5 : Cert.quiescent_Kernel5 := fun m ρ _ =>
  (by sl_kernel_rfl : (θ_run (Cert.Kernel5Ideal.defs (F := Bits)) (onTc (τ := Cert.Kernel5Ideal.τ) Cert.Kernel5Ideal.main) ⟨m, fun _ => 0, ρ⟩)
    = θ_run (Cert.Kernel5.defs (F := Bits)) (onTc (τ := Cert.Kernel5.τ) Cert.Kernel5.main) ⟨m, fun _ => 0, ρ⟩) ▸
    Cert.Kernel5Ideal.Body.frame (F := Bits) m ρ

theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- All four results of the feed-forward pass with the loss, where its arguments are finite. -/
theorem algebraic5 : Cert.algebraic_Kernel5Ideal_Reference5Ideal_pre_finite_head := fun m ρ m' ρ' hpre hagree =>
  ⟨_, _, _, _,
    (θ_run Cert.Kernel5Ideal.defs _ _).mono (fun _ h c =>
      ⟨(h.1.1 c).1 8 |>.trans (Kernel5Ideal.Body.gc_array m c), (h.1.1 c).1 9 |>.trans (Kernel5Ideal.Body.a_array m c),
        (h.1.1 c).1 10 |>.trans (Kernel5Ideal.Body.dx_array m c), (h.1.1 c).1 11 |>.trans (Kernel5Ideal.Body.sheet_array m c), h.2 c⟩)
      (Kernel5Ideal.Body.run_kept (F := Ideal) m ρ),
    (θ_run Cert.Reference5Ideal.defs _ _).mono (fun _ h c => by
      obtain ⟨e0, e1, e2, e3, e4, e5, e6⟩ := hagree c
      have hA := Reference5Ideal.Body.reals (Kernel5Ideal.Body.args m c) (hpre c)
      obtain ⟨h0, h1, h2, h3, hk⟩ := h c
      refine ⟨h0.trans ((Cert.Reference5Ideal.Read.val_main_v87_eq _).trans ?_), h1.trans ((Cert.Reference5Ideal.Read.val_main_v88_eq _).trans ?_),
        h2.trans ((Cert.Reference5Ideal.Read.val_main_v77_eq _).trans ?_), h3.trans ((Cert.Reference5Ideal.Read.val_main_v86_eq _).trans ?_), hk⟩
      · simp only [StableHlo.launchContents]
        rw [e0, e2, e3]
        exact Reference5Ideal.Body.gc_all (Kernel5Ideal.Body.args m c)
      · simp only [StableHlo.launchContents]
        rw [e0, e2, e3]
        exact Reference5Ideal.Body.a_all (A := Kernel5Ideal.Body.args m c) hA
      · simp only [StableHlo.launchContents]
        rw [e0, e1, e2, e3, e4, e5, e6]
        exact Reference5Ideal.Body.dx_all (A := Kernel5Ideal.Body.args m c) hA
      · simp only [StableHlo.launchContents]
        rw [e0, e1, e2, e3, e4, e5, e6]
        exact funext fun i => Reference5Ideal.Body.sheet_ref (A := Kernel5Ideal.Body.args m c) hA i)
      (Cert.Reference5Ideal.Value.run (F := Ideal) m' ρ')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts,
  Cert.Kernel13.Gen.facts, Cert.Kernel13Ideal.Gen.facts, Cert.Reference13Ideal.Gen.facts,
  Cert.Kernel14.Gen.facts, Cert.Kernel14Ideal.Gen.facts,
  Cert.Kernel15.Gen.facts, Cert.Kernel15Ideal.Gen.facts, Cert.Reference15Ideal.Gen.facts,
  Cert.Kernel16.Gen.facts, Cert.Kernel16Ideal.Gen.facts,
  Cert.Pre_finite.Gen.facts, Cert.Pre_finite_ffn.Gen.facts, Cert.Pre_finite_in1.Gen.facts, Cert.Pre_finite_mix.Gen.facts, Cert.Pre_finite_head.Gen.facts, Cert.Pre_finite_up.Gen.facts,
  frame_kernel, frame_ideal, fun m ρ _ => frame_ideal m ρ trivial, frame_reference, fun m ρ _ => frame_reference m ρ trivial,
  frame_kernel2, frame_ideal2, fun m ρ _ => frame_ideal2 m ρ trivial, frame_reference2, fun m ρ _ => frame_reference2 m ρ trivial,
  frame_kernel3, frame_ideal3, fun m ρ _ => frame_ideal3 m ρ trivial, frame_reference3, fun m ρ _ => frame_reference3 m ρ trivial,
  frame_kernel4, frame_ideal4, fun m ρ _ => frame_ideal4 m ρ trivial, frame_reference4, fun m ρ _ => frame_reference4 m ρ trivial,
  frame_kernel5, frame_ideal5, fun m ρ _ => frame_ideal5 m ρ trivial, frame_reference5, fun m ρ _ => frame_reference5 m ρ trivial,
  frame_kernel6, frame_ideal6, frame_reference6,
  frame_kernel7, frame_ideal7, frame_reference7,
  frame_kernel8, frame_ideal8, frame_reference8,
  frame_kernel9, frame_ideal9, fun m ρ _ => frame_ideal9 m ρ trivial, frame_reference9, fun m ρ _ => frame_reference9 m ρ trivial,
  frame_kernel10, frame_ideal10, fun m ρ _ => frame_ideal10 m ρ trivial, frame_reference10, fun m ρ _ => frame_reference10 m ρ trivial,
  frame_kernel11, frame_ideal11, fun m ρ _ => frame_ideal11 m ρ trivial, frame_reference11, fun m ρ _ => frame_reference11 m ρ trivial,
  frame_kernel12, frame_ideal12,
  frame_kernel13, frame_ideal13, fun m ρ _ => frame_ideal13 m ρ trivial, frame_reference13, fun m ρ _ => frame_reference13 m ρ trivial,
  frame_kernel14, frame_ideal14, frame_kernel15, frame_ideal15, frame_reference15, frame_kernel16, frame_ideal16,
  trivial, algebraic, trivial, algebraic2, trivial, algebraic3, preserves4, algebraic4, trivial, algebraic5,
  preserves6, algebraic6, trivial, algebraic7, trivial, algebraic8, trivial, algebraic9, preserves10, algebraic10,
  trivial, algebraic11, preserves12, algebraic12, trivial, algebraic13, trivial, algebraic14,
  trivial, algebraic15, trivial, algebraic16⟩

end Cert.Proof

end
